-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxIdeal_ffn_out_dx_finite [hPre_ffn_out_dx_finite : Cert.Pre_ffn_out_dx_finite.Facts] (m : (ℓ : Loc Cert.OutDxIdeal.nD Cert.OutDxIdeal.τ Cert.OutDxIdeal.sig) → Buf (Elt Ideal) ℓ) : Prop :=
  ∀ c : Dev Cert.OutDxIdeal.nD,
    (Cert.Pre_ffn_out_dx_finite.fn (F := Ideal) (m ((c.tc : Thread Cert.OutDxIdeal.nD Cert.OutDxIdeal.τ).loc Cert.OutDxIdeal.main_arg0)) (m ((c.tc : Thread Cert.OutDxIdeal.nD Cert.OutDxIdeal.τ).loc Cert.OutDxIdeal.main_arg1)) (m ((c.tc : Thread Cert.OutDxIdeal.nD Cert.OutDxIdeal.τ).loc Cert.OutDxIdeal.main_arg2)) (m ((c.tc : Thread Cert.OutDxIdeal.nD Cert.OutDxIdeal.τ).loc Cert.OutDxIdeal.main_arg3))).1 = (fun _ => 1#1)
    ∧ (Cert.Pre_ffn_out_dx_finite.fn (F := Ideal) (m ((c.tc : Thread Cert.OutDxIdeal.nD Cert.OutDxIdeal.τ).loc Cert.OutDxIdeal.main_arg0)) (m ((c.tc : Thread Cert.OutDxIdeal.nD Cert.OutDxIdeal.τ).loc Cert.OutDxIdeal.main_arg1)) (m ((c.tc : Thread Cert.OutDxIdeal.nD Cert.OutDxIdeal.τ).loc Cert.OutDxIdeal.main_arg2)) (m ((c.tc : Thread Cert.OutDxIdeal.nD Cert.OutDxIdeal.τ).loc Cert.OutDxIdeal.main_arg3))).2.1 = (fun _ => 1#1)
    ∧ (Cert.Pre_ffn_out_dx_finite.fn (F := Ideal) (m ((c.tc : Thread Cert.OutDxIdeal.nD Cert.OutDxIdeal.τ).loc Cert.OutDxIdeal.main_arg0)) (m ((c.tc : Thread Cert.OutDxIdeal.nD Cert.OutDxIdeal.τ).loc Cert.OutDxIdeal.main_arg1)) (m ((c.tc : Thread Cert.OutDxIdeal.nD Cert.OutDxIdeal.τ).loc Cert.OutDxIdeal.main_arg2)) (m ((c.tc : Thread Cert.OutDxIdeal.nD Cert.OutDxIdeal.τ).loc Cert.OutDxIdeal.main_arg3))).2.2 = (fun _ => 1#1)

def Pre_OutDxRefIdeal (m : (ℓ : Loc Cert.OutDxRefIdeal.nD Cert.OutDxRefIdeal.τ Cert.OutDxRefIdeal.sig) → Buf (Elt Ideal) ℓ) : Prop :=
  True

def Pre_OutDxRefIdeal_ffn_out_dx_finite [hPre_ffn_out_dx_finite : Cert.Pre_ffn_out_dx_finite.Facts] (m : (ℓ : Loc Cert.OutDxRefIdeal.nD Cert.OutDxRefIdeal.τ Cert.OutDxRefIdeal.sig) → Buf (Elt Ideal) ℓ) : Prop :=
  ∀ c : Dev Cert.OutDxRefIdeal.nD,
    (Cert.Pre_ffn_out_dx_finite.fn (F := Ideal) (m ((c.tc : Thread Cert.OutDxRefIdeal.nD Cert.OutDxRefIdeal.τ).loc Cert.OutDxRefIdeal.main_arg0)) (m ((c.tc : Thread Cert.OutDxRefIdeal.nD Cert.OutDxRefIdeal.τ).loc Cert.OutDxRefIdeal.main_arg1)) (m ((c.tc : Thread Cert.OutDxRefIdeal.nD Cert.OutDxRefIdeal.τ).loc Cert.OutDxRefIdeal.main_arg2)) (m ((c.tc : Thread Cert.OutDxRefIdeal.nD Cert.OutDxRefIdeal.τ).loc Cert.OutDxRefIdeal.main_arg3))).1 = (fun _ => 1#1)
    ∧ (Cert.Pre_ffn_out_dx_finite.fn (F := Ideal) (m ((c.tc : Thread Cert.OutDxRefIdeal.nD Cert.OutDxRefIdeal.τ).loc Cert.OutDxRefIdeal.main_arg0)) (m ((c.tc : Thread Cert.OutDxRefIdeal.nD Cert.OutDxRefIdeal.τ).loc Cert.OutDxRefIdeal.main_arg1)) (m ((c.tc : Thread Cert.OutDxRefIdeal.nD Cert.OutDxRefIdeal.τ).loc Cert.OutDxRefIdeal.main_arg2)) (m ((c.tc : Thread Cert.OutDxRefIdeal.nD Cert.OutDxRefIdeal.τ).loc Cert.OutDxRefIdeal.main_arg3))).2.1 = (fun _ => 1#1)
    ∧ (Cert.Pre_ffn_out_dx_finite.fn (F := Ideal) (m ((c.tc : Thread Cert.OutDxRefIdeal.nD Cert.OutDxRefIdeal.τ).loc Cert.OutDxRefIdeal.main_arg0)) (m ((c.tc : Thread Cert.OutDxRefIdeal.nD Cert.OutDxRefIdeal.τ).loc Cert.OutDxRefIdeal.main_arg1)) (m ((c.tc : Thread Cert.OutDxRefIdeal.nD Cert.OutDxRefIdeal.τ).loc Cert.OutDxRefIdeal.main_arg2)) (m ((c.tc : Thread Cert.OutDxRefIdeal.nD Cert.OutDxRefIdeal.τ).loc Cert.OutDxRefIdeal.main_arg3))).2.2 = (fun _ => 1#1)

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InDwA (m : (ℓ : Loc Cert.InDwA.nD Cert.InDwA.τ Cert.InDwA.sig) → Buf (Elt Bits) ℓ) : Prop :=
  True

def Pre_InDwAIdeal (m : (ℓ : Loc Cert.InDwAIdeal.nD Cert.InDwAIdeal.τ Cert.InDwAIdeal.sig) → Buf (Elt Ideal) ℓ) : Prop :=
  True

def Pre_InDwARefIdeal (m : (ℓ : Loc Cert.InDwARefIdeal.nD Cert.InDwARefIdeal.τ Cert.InDwARefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_MergeDx (m : (ℓ : Loc Cert.MergeDx.nD Cert.MergeDx.τ Cert.MergeDx.sig) → Buf (Elt Bits) ℓ) : Prop :=
  True

def Pre_MergeDxIdeal (m : (ℓ : Loc Cert.MergeDxIdeal.nD Cert.MergeDxIdeal.τ Cert.MergeDxIdeal.sig) → Buf (Elt Ideal) ℓ) : Prop :=
  True

def Pre_MergeDxRefIdeal (m : (ℓ : Loc Cert.MergeDxRefIdeal.nD Cert.MergeDxRefIdeal.τ Cert.MergeDxRefIdeal.sig) → Buf (Elt Ideal) ℓ) : Prop :=
  True

def Pre_MergeDw (m : (ℓ : Loc Cert.MergeDw.nD Cert.MergeDw.τ Cert.MergeDw.sig) → Buf (Elt Bits) ℓ) : Prop :=
  True

def Pre_MergeDwIdeal (m : (ℓ : Loc Cert.MergeDwIdeal.nD Cert.MergeDwIdeal.τ Cert.MergeDwIdeal.sig) → Buf (Elt Ideal) ℓ) : Prop :=
  True

def Pre_MergeDwRefIdeal (m : (ℓ : Loc Cert.MergeDwRefIdeal.nD Cert.MergeDwRefIdeal.τ Cert.MergeDwRefIdeal.sig) → Buf (Elt Ideal) ℓ) : Prop :=
  True

def Pre_BrAttn (m : (ℓ : Loc Cert.BrAttn.nD Cert.BrAttn.τ Cert.BrAttn.sig) → Buf (Elt Bits) ℓ) : Prop :=
  True

def Pre_BrAttnIdeal (m : (ℓ : Loc Cert.BrAttnIdeal.nD Cert.BrAttnIdeal.τ Cert.BrAttnIdeal.sig) → Buf (Elt Ideal) ℓ) : Prop :=
  True

def Pre_BrAttnRefIdeal (m : (ℓ : Loc Cert.BrAttnRefIdeal.nD Cert.BrAttnRefIdeal.τ Cert.BrAttnRefIdeal.sig) → Buf (Elt Ideal) ℓ) : Prop :=
  True

def Pre_BrSgu (m : (ℓ : Loc Cert.BrSgu.nD Cert.BrSgu.τ Cert.BrSgu.sig) → Buf (Elt Bits) ℓ) : Prop :=
  True

def Pre_BrSguIdeal (m : (ℓ : Loc Cert.BrSguIdeal.nD Cert.BrSguIdeal.τ Cert.BrSguIdeal.sig) → Buf (Elt Ideal) ℓ) : Prop :=
  True

def Pre_BrSguRefIdeal (m : (ℓ : Loc Cert.BrSguRefIdeal.nD Cert.BrSguRefIdeal.τ Cert.BrSguRefIdeal.sig) → Buf (Elt Ideal) ℓ) : Prop :=
  True

def Pre_BrDx (m : (ℓ : Loc Cert.BrDx.nD Cert.BrDx.τ Cert.BrDx.sig) → Buf (Elt Bits) ℓ) : Prop :=
  True

def Pre_BrDxIdeal (m : (ℓ : Loc Cert.BrDxIdeal.nD Cert.BrDxIdeal.τ Cert.BrDxIdeal.sig) → Buf (Elt Ideal) ℓ) : Prop :=
  True

def Pre_BrDxRefIdeal (m : (ℓ : Loc Cert.BrDxRefIdeal.nD Cert.BrDxRefIdeal.τ Cert.BrDxRefIdeal.sig) → Buf (Elt Ideal) ℓ) : Prop :=
  True

def Pre_BrDw (m : (ℓ : Loc Cert.BrDw.nD Cert.BrDw.τ Cert.BrDw.sig) → Buf (Elt Bits) ℓ) : Prop :=
  True

def Pre_BrDwIdeal (m : (ℓ : Loc Cert.BrDwIdeal.nD Cert.BrDwIdeal.τ Cert.BrDwIdeal.sig) → Buf (Elt Ideal) ℓ) : Prop :=
  True

def Pre_BrDwRefIdeal (m : (ℓ : Loc Cert.BrDwRefIdeal.nD Cert.BrDwRefIdeal.τ Cert.BrDwRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Uv (m : (ℓ : Loc Cert.Uv.nD Cert.Uv.τ Cert.Uv.sig) → Buf (Elt Bits) ℓ) : Prop :=
  True

def Pre_UvIdeal (m : (ℓ : Loc Cert.UvIdeal.nD Cert.UvIdeal.τ Cert.UvIdeal.sig) → Buf (Elt Ideal) ℓ) : Prop :=
  True

def Pre_UvRefIdeal (m : (ℓ : Loc Cert.UvRefIdeal.nD Cert.UvRefIdeal.τ Cert.UvRefIdeal.sig) → Buf (Elt Ideal) ℓ) : Prop :=
  True

def Pre_GatesDw (m : (ℓ : Loc Cert.GatesDw.nD Cert.GatesDw.τ Cert.GatesDw.sig) → Buf (Elt Bits) ℓ) : Prop :=
  True

def Pre_GatesDwIdeal (m : (ℓ : Loc Cert.GatesDwIdeal.nD Cert.GatesDwIdeal.τ Cert.GatesDwIdeal.sig) → Buf (Elt Ideal) ℓ) : Prop :=
  True

def Pre_GatesDwRefIdeal (m : (ℓ : Loc Cert.GatesDwRefIdeal.nD Cert.GatesDwRefIdeal.τ Cert.GatesDwRefIdeal.sig) → Buf (Elt Ideal) ℓ) : Prop :=
  True

def Pre_UvDw (m : (ℓ : Loc Cert.UvDw.nD Cert.UvDw.τ Cert.UvDw.sig) → Buf (Elt Bits) ℓ) : Prop :=
  True

def Pre_UvDwIdeal (m : (ℓ : Loc Cert.UvDwIdeal.nD Cert.UvDwIdeal.τ Cert.UvDwIdeal.sig) → Buf (Elt Ideal) ℓ) : Prop :=
  True

def Pre_UvDwRefIdeal (m : (ℓ : Loc Cert.UvDwRefIdeal.nD Cert.UvDwRefIdeal.τ Cert.UvDwRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attn_fwd_finite [hPre_attn_fwd_finite : Cert.Pre_attn_fwd_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).1 = (fun _ => 1#1)
    ∧ (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attn_fwd_finite [hPre_attn_fwd_finite : Cert.Pre_attn_fwd_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).1 = (fun _ => 1#1)
    ∧ (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).2 = (fun _ => 1#1)

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_ProjQ (m : (ℓ : Loc Cert.ProjQ.nD Cert.ProjQ.τ Cert.ProjQ.sig) → Buf (Elt Bits) ℓ) : Prop :=
  True

def Pre_ProjQIdeal (m : (ℓ : Loc Cert.ProjQIdeal.nD Cert.ProjQIdeal.τ Cert.ProjQIdeal.sig) → Buf (Elt Ideal) ℓ) : Prop :=
  True

def Pre_ProjQRefIdeal (m : (ℓ : Loc Cert.ProjQRefIdeal.nD Cert.ProjQRefIdeal.τ Cert.ProjQRefIdeal.sig) → Buf (Elt Ideal) ℓ) : Prop :=
  True

def Pre_ProjKv (m : (ℓ : Loc Cert.ProjKv.nD Cert.ProjKv.τ Cert.ProjKv.sig) → Buf (Elt Bits) ℓ) : Prop :=
  True

def Pre_ProjKvIdeal (m : (ℓ : Loc Cert.ProjKvIdeal.nD Cert.ProjKvIdeal.τ Cert.ProjKvIdeal.sig) → Buf (Elt Ideal) ℓ) : Prop :=
  True

def Pre_ProjKvRefIdeal (m : (ℓ : Loc Cert.ProjKvRefIdeal.nD Cert.ProjKvRefIdeal.τ Cert.ProjKvRefIdeal.sig) → Buf (Elt Ideal) ℓ) : Prop :=
  True

def Pre_QUp (m : (ℓ : Loc Cert.QUp.nD Cert.QUp.τ Cert.QUp.sig) → Buf (Elt Bits) ℓ) : Prop :=
  True

def Pre_QUpIdeal (m : (ℓ : Loc Cert.QUpIdeal.nD Cert.QUpIdeal.τ Cert.QUpIdeal.sig) → Buf (Elt Ideal) ℓ) : Prop :=
  True

def Pre_QUpRefIdeal (m : (ℓ : Loc Cert.QUpRefIdeal.nD Cert.QUpRefIdeal.τ Cert.QUpRefIdeal.sig) → Buf (Elt Ideal) ℓ) : Prop :=
  True

def Pre_KvUp (m : (ℓ : Loc Cert.KvUp.nD Cert.KvUp.τ Cert.KvUp.sig) → Buf (Elt Bits) ℓ) : Prop :=
  True

def Pre_KvUpIdeal (m : (ℓ : Loc Cert.KvUpIdeal.nD Cert.KvUpIdeal.τ Cert.KvUpIdeal.sig) → Buf (Elt Ideal) ℓ) : Prop :=
  True

def Pre_KvUpRefIdeal (m : (ℓ : Loc Cert.KvUpRefIdeal.nD Cert.KvUpRefIdeal.τ Cert.KvUpRefIdeal.sig) → Buf (Elt Ideal) ℓ) : Prop :=
  True

def Pre_ProjQDw (m : (ℓ : Loc Cert.ProjQDw.nD Cert.ProjQDw.τ Cert.ProjQDw.sig) → Buf (Elt Bits) ℓ) : Prop :=
  True

def Pre_ProjQDwIdeal (m : (ℓ : Loc Cert.ProjQDwIdeal.nD Cert.ProjQDwIdeal.τ Cert.ProjQDwIdeal.sig) → Buf (Elt Ideal) ℓ) : Prop :=
  True

def Pre_ProjQDwRefIdeal (m : (ℓ : Loc Cert.ProjQDwRefIdeal.nD Cert.ProjQDwRefIdeal.τ Cert.ProjQDwRefIdeal.sig) → Buf (Elt Ideal) ℓ) : Prop :=
  True

def Pre_QUpDw (m : (ℓ : Loc Cert.QUpDw.nD Cert.QUpDw.τ Cert.QUpDw.sig) → Buf (Elt Bits) ℓ) : Prop :=
  True

def Pre_QUpDwIdeal (m : (ℓ : Loc Cert.QUpDwIdeal.nD Cert.QUpDwIdeal.τ Cert.QUpDwIdeal.sig) → Buf (Elt Ideal) ℓ) : Prop :=
  True

def Pre_QUpDwRefIdeal (m : (ℓ : Loc Cert.QUpDwRefIdeal.nD Cert.QUpDwRefIdeal.τ Cert.QUpDwRefIdeal.sig) → Buf (Elt Ideal) ℓ) : Prop :=
  True

def Pre_KvUpDw (m : (ℓ : Loc Cert.KvUpDw.nD Cert.KvUpDw.τ Cert.KvUpDw.sig) → Buf (Elt Bits) ℓ) : Prop :=
  True

def Pre_KvUpDwIdeal (m : (ℓ : Loc Cert.KvUpDwIdeal.nD Cert.KvUpDwIdeal.τ Cert.KvUpDwIdeal.sig) → Buf (Elt Ideal) ℓ) : Prop :=
  True

def Pre_KvUpDwRefIdeal (m : (ℓ : Loc Cert.KvUpDwRefIdeal.nD Cert.KvUpDwRefIdeal.τ Cert.KvUpDwRefIdeal.sig) → Buf (Elt Ideal) ℓ) : Prop :=
  True

def Pre_KvUpDx (m : (ℓ : Loc Cert.KvUpDx.nD Cert.KvUpDx.τ Cert.KvUpDx.sig) → Buf (Elt Bits) ℓ) : Prop :=
  True

def Pre_KvUpDxIdeal (m : (ℓ : Loc Cert.KvUpDxIdeal.nD Cert.KvUpDxIdeal.τ Cert.KvUpDxIdeal.sig) → Buf (Elt Ideal) ℓ) : Prop :=
  True

def Pre_KvUpDxRefIdeal (m : (ℓ : Loc Cert.KvUpDxRefIdeal.nD Cert.KvUpDxRefIdeal.τ Cert.KvUpDxRefIdeal.sig) → Buf (Elt Ideal) ℓ) : Prop :=
  True

def Pre_ProjKvCtx (m : (ℓ : Loc Cert.ProjKvCtx.nD Cert.ProjKvCtx.τ Cert.ProjKvCtx.sig) → Buf (Elt Bits) ℓ) : Prop :=
  True

def Pre_ProjKvCtxIdeal (m : (ℓ : Loc Cert.ProjKvCtxIdeal.nD Cert.ProjKvCtxIdeal.τ Cert.ProjKvCtxIdeal.sig) → Buf (Elt Ideal) ℓ) : Prop :=
  True

def Pre_ProjKvCtxRefIdeal (m : (ℓ : Loc Cert.ProjKvCtxRefIdeal.nD Cert.ProjKvCtxRefIdeal.τ Cert.ProjKvCtxRefIdeal.sig) → Buf (Elt Ideal) ℓ) : Prop :=
  True

def Pre_ProjKvCtxDx (m : (ℓ : Loc Cert.ProjKvCtxDx.nD Cert.ProjKvCtxDx.τ Cert.ProjKvCtxDx.sig) → Buf (Elt Bits) ℓ) : Prop :=
  True

def Pre_ProjKvCtxDxIdeal (m : (ℓ : Loc Cert.ProjKvCtxDxIdeal.nD Cert.ProjKvCtxDxIdeal.τ Cert.ProjKvCtxDxIdeal.sig) → Buf (Elt Ideal) ℓ) : Prop :=
  True

def Pre_ProjKvCtxDxRefIdeal (m : (ℓ : Loc Cert.ProjKvCtxDxRefIdeal.nD Cert.ProjKvCtxDxRefIdeal.τ Cert.ProjKvCtxDxRefIdeal.sig) → Buf (Elt Ideal) ℓ) : Prop :=
  True

def Pre_ProjKvDw (m : (ℓ : Loc Cert.ProjKvDw.nD Cert.ProjKvDw.τ Cert.ProjKvDw.sig) → Buf (Elt Bits) ℓ) : Prop :=
  True

def Pre_ProjKvDwIdeal (m : (ℓ : Loc Cert.ProjKvDwIdeal.nD Cert.ProjKvDwIdeal.τ Cert.ProjKvDwIdeal.sig) → Buf (Elt Ideal) ℓ) : Prop :=
  True

def Pre_ProjKvDwRefIdeal (m : (ℓ : Loc Cert.ProjKvDwRefIdeal.nD Cert.ProjKvDwRefIdeal.τ Cert.ProjKvDwRefIdeal.sig) → Buf (Elt Ideal) ℓ) : Prop :=
  True

def Pre_QUpDx (m : (ℓ : Loc Cert.QUpDx.nD Cert.QUpDx.τ Cert.QUpDx.sig) → Buf (Elt Bits) ℓ) : Prop :=
  True

def Pre_QUpDxIdeal (m : (ℓ : Loc Cert.QUpDxIdeal.nD Cert.QUpDxIdeal.τ Cert.QUpDxIdeal.sig) → Buf (Elt Ideal) ℓ) : Prop :=
  True

def Pre_QUpDxRefIdeal (m : (ℓ : Loc Cert.QUpDxRefIdeal.nD Cert.QUpDxRefIdeal.τ Cert.QUpDxRefIdeal.sig) → Buf (Elt Ideal) ℓ) : Prop :=
  True

def Pre_ModFwd (m : (ℓ : Loc Cert.ModFwd.nD Cert.ModFwd.τ Cert.ModFwd.sig) → Buf (Elt Bits) ℓ) : Prop :=
  True

def Pre_ModFwdIdeal (m : (ℓ : Loc Cert.ModFwdIdeal.nD Cert.ModFwdIdeal.τ Cert.ModFwdIdeal.sig) → Buf (Elt Ideal) ℓ) : Prop :=
  True

def Pre_ModFwdRefIdeal (m : (ℓ : Loc Cert.ModFwdRefIdeal.nD Cert.ModFwdRefIdeal.τ Cert.ModFwdRefIdeal.sig) → Buf (Elt Ideal) ℓ) : Prop :=
  True

def Pre_ModDw (m : (ℓ : Loc Cert.ModDw.nD Cert.ModDw.τ Cert.ModDw.sig) → Buf (Elt Bits) ℓ) : Prop :=
  True

def Pre_ModDwIdeal (m : (ℓ : Loc Cert.ModDwIdeal.nD Cert.ModDwIdeal.τ Cert.ModDwIdeal.sig) → Buf (Elt Ideal) ℓ) : Prop :=
  True

def Pre_ModDwRefIdeal (m : (ℓ : Loc Cert.ModDwRefIdeal.nD Cert.ModDwRefIdeal.τ Cert.ModDwRefIdeal.sig) → Buf (Elt Ideal) ℓ) : Prop :=
  True

def Pre_ModDx (m : (ℓ : Loc Cert.ModDx.nD Cert.ModDx.τ Cert.ModDx.sig) → Buf (Elt Bits) ℓ) : Prop :=
  True

def Pre_ModDxIdeal (m : (ℓ : Loc Cert.ModDxIdeal.nD Cert.ModDxIdeal.τ Cert.ModDxIdeal.sig) → Buf (Elt Ideal) ℓ) : Prop :=
  True

def Pre_ModDxRefIdeal (m : (ℓ : Loc Cert.ModDxRefIdeal.nD Cert.ModDxRefIdeal.τ Cert.ModDxRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1)
      ∧ r.2.mem ((c.tc : Thread Cert.OutDx.nD Cert.OutDx.τ).loc Cert.OutDx.main_arg2) = m ((c.tc : Thread Cert.OutDx.nD Cert.OutDx.τ).loc Cert.OutDx.main_arg2)
      ∧ r.2.mem ((c.tc : Thread Cert.OutDx.nD Cert.OutDx.τ).loc Cert.OutDx.main_arg3) = m ((c.tc : Thread Cert.OutDx.nD Cert.OutDx.τ).loc Cert.OutDx.main_arg3))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2)
      ∧ r.2.mem ((c.tc : Thread Cert.OutDxIdeal.nD Cert.OutDxIdeal.τ).loc Cert.OutDxIdeal.main_arg3) = m ((c.tc : Thread Cert.OutDxIdeal.nD Cert.OutDxIdeal.τ).loc Cert.OutDxIdeal.main_arg3))
      ∧ r.2.sem = fun _ => 0)

def quiescent_OutDxIdeal_pre_ffn_out_dx_finite [hOutDxIdeal : Cert.OutDxIdeal.Facts] [hPre_ffn_out_dx_finite : Cert.Pre_ffn_out_dx_finite.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal_ffn_out_dx_finite m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2)
      ∧ r.2.mem ((c.tc : Thread Cert.OutDxIdeal.nD Cert.OutDxIdeal.τ).loc Cert.OutDxIdeal.main_arg3) = m ((c.tc : Thread Cert.OutDxIdeal.nD Cert.OutDxIdeal.τ).loc Cert.OutDxIdeal.main_arg3))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1)
      ∧ r.2.mem ((c.tc : Thread Cert.OutDxRefIdeal.nD Cert.OutDxRefIdeal.τ).loc Cert.OutDxRefIdeal.main_arg2) = m ((c.tc : Thread Cert.OutDxRefIdeal.nD Cert.OutDxRefIdeal.τ).loc Cert.OutDxRefIdeal.main_arg2)
      ∧ r.2.mem ((c.tc : Thread Cert.OutDxRefIdeal.nD Cert.OutDxRefIdeal.τ).loc Cert.OutDxRefIdeal.main_arg3) = m ((c.tc : Thread Cert.OutDxRefIdeal.nD Cert.OutDxRefIdeal.τ).loc Cert.OutDxRefIdeal.main_arg3))
      ∧ r.2.sem = fun _ => 0)

def quiescent_OutDxRefIdeal_pre_ffn_out_dx_finite [hOutDxRefIdeal : Cert.OutDxRefIdeal.Facts] [hPre_ffn_out_dx_finite : Cert.Pre_ffn_out_dx_finite.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal_ffn_out_dx_finite m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1)
      ∧ r.2.mem ((c.tc : Thread Cert.OutDxRefIdeal.nD Cert.OutDxRefIdeal.τ).loc Cert.OutDxRefIdeal.main_arg2) = m ((c.tc : Thread Cert.OutDxRefIdeal.nD Cert.OutDxRefIdeal.τ).loc Cert.OutDxRefIdeal.main_arg2)
      ∧ r.2.mem ((c.tc : Thread Cert.OutDxRefIdeal.nD Cert.OutDxRefIdeal.τ).loc Cert.OutDxRefIdeal.main_arg3) = m ((c.tc : Thread Cert.OutDxRefIdeal.nD Cert.OutDxRefIdeal.τ).loc Cert.OutDxRefIdeal.main_arg3))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1)
      ∧ r.2.mem ((c.tc : Thread Cert.InDw.nD Cert.InDw.τ).loc Cert.InDw.main_arg2) = m ((c.tc : Thread Cert.InDw.nD Cert.InDw.τ).loc Cert.InDw.main_arg2))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
      ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1)
      ∧ r.2.mem ((c.tc : Thread Cert.InDwRefIdeal.nD Cert.InDwRefIdeal.τ).loc Cert.InDwRefIdeal.main_arg2) = m ((c.tc : Thread Cert.InDwRefIdeal.nD Cert.InDwRefIdeal.τ).loc Cert.InDwRefIdeal.main_arg2))
      ∧ r.2.sem = fun _ => 0)

def quiescent_InDwA [hInDwA : Cert.InDwA.Facts] : Prop :=
  ∀ (m : (ℓ : Loc Cert.InDwA.nD Cert.InDwA.τ Cert.InDwA.sig) → Buf (Elt Bits) ℓ) (g : Dev Cert.InDwA.nD → PrngReg), Pre_InDwA m →
    θ_run (Cert.InDwA.defs (F := Bits)) (onTc (τ := Cert.InDwA.τ) (Cert.InDwA.main (F := Bits))) ⟨m, fun _ => 0, g⟩ (fun r => (∀ c : Dev Cert.InDwA.nD,
      r.2.mem ((c.tc : Thread Cert.InDwA.nD Cert.InDwA.τ).loc Cert.InDwA.main_arg0) = m ((c.tc : Thread Cert.InDwA.nD Cert.InDwA.τ).loc Cert.InDwA.main_arg0)
      ∧ r.2.mem ((c.tc : Thread Cert.InDwA.nD Cert.InDwA.τ).loc Cert.InDwA.main_arg1) = m ((c.tc : Thread Cert.InDwA.nD Cert.InDwA.τ).loc Cert.InDwA.main_arg1)
      ∧ r.2.mem ((c.tc : Thread Cert.InDwA.nD Cert.InDwA.τ).loc Cert.InDwA.main_arg2) = m ((c.tc : Thread Cert.InDwA.nD Cert.InDwA.τ).loc Cert.InDwA.main_arg2))
      ∧ r.2.sem = fun _ => 0)

def quiescent_InDwAIdeal [hInDwAIdeal : Cert.InDwAIdeal.Facts] : Prop :=
  ∀ (m : (ℓ : Loc Cert.InDwAIdeal.nD Cert.InDwAIdeal.τ Cert.InDwAIdeal.sig) → Buf (Elt Ideal) ℓ) (g : Dev Cert.InDwAIdeal.nD → PrngReg), Pre_InDwAIdeal m →
    θ_run (Cert.InDwAIdeal.defs (F := Ideal)) (onTc (τ := Cert.InDwAIdeal.τ) (Cert.InDwAIdeal.main (F := Ideal))) ⟨m, fun _ => 0, g⟩ (fun r => (∀ c : Dev Cert.InDwAIdeal.nD,
      r.2.mem ((c.tc : Thread Cert.InDwAIdeal.nD Cert.InDwAIdeal.τ).loc Cert.InDwAIdeal.main_arg0) = m ((c.tc : Thread Cert.InDwAIdeal.nD Cert.InDwAIdeal.τ).loc Cert.InDwAIdeal.main_arg0)
      ∧ r.2.mem ((c.tc : Thread Cert.InDwAIdeal.nD Cert.InDwAIdeal.τ).loc Cert.InDwAIdeal.main_arg1) = m ((c.tc : Thread Cert.InDwAIdeal.nD Cert.InDwAIdeal.τ).loc Cert.InDwAIdeal.main_arg1)
      ∧ r.2.mem ((c.tc : Thread Cert.InDwAIdeal.nD Cert.InDwAIdeal.τ).loc Cert.InDwAIdeal.main_arg2) = m ((c.tc : Thread Cert.InDwAIdeal.nD Cert.InDwAIdeal.τ).loc Cert.InDwAIdeal.main_arg2))
      ∧ r.2.sem = fun _ => 0)

def quiescent_InDwARefIdeal [hInDwARefIdeal : Cert.InDwARefIdeal.Facts] : Prop :=
  ∀ (m : (ℓ : Loc Cert.InDwARefIdeal.nD Cert.InDwARefIdeal.τ Cert.InDwARefIdeal.sig) → Buf (Elt Ideal) ℓ) (g : Dev Cert.InDwARefIdeal.nD → PrngReg), Pre_InDwARefIdeal m →
    θ_run (Cert.InDwARefIdeal.defs (F := Ideal)) (onTc (τ := Cert.InDwARefIdeal.τ) (Cert.InDwARefIdeal.main (F := Ideal))) ⟨m, fun _ => 0, g⟩ (fun r => (∀ c : Dev Cert.InDwARefIdeal.nD,
      r.2.mem ((c.tc : Thread Cert.InDwARefIdeal.nD Cert.InDwARefIdeal.τ).loc Cert.InDwARefIdeal.main_arg0) = m ((c.tc : Thread Cert.InDwARefIdeal.nD Cert.InDwARefIdeal.τ).loc Cert.InDwARefIdeal.main_arg0)
      ∧ r.2.mem ((c.tc : Thread Cert.InDwARefIdeal.nD Cert.InDwARefIdeal.τ).loc Cert.InDwARefIdeal.main_arg1) = m ((c.tc : Thread Cert.InDwARefIdeal.nD Cert.InDwARefIdeal.τ).loc Cert.InDwARefIdeal.main_arg1)
      ∧ r.2.mem ((c.tc : Thread Cert.InDwARefIdeal.nD Cert.InDwARefIdeal.τ).loc Cert.InDwARefIdeal.main_arg2) = m ((c.tc : Thread Cert.InDwARefIdeal.nD Cert.InDwARefIdeal.τ).loc Cert.InDwARefIdeal.main_arg2))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_MergeDx [hMergeDx : Cert.MergeDx.Facts] : Prop :=
  ∀ (m : (ℓ : Loc Cert.MergeDx.nD Cert.MergeDx.τ Cert.MergeDx.sig) → Buf (Elt Bits) ℓ) (g : Dev Cert.MergeDx.nD → PrngReg), Pre_MergeDx m →
    θ_run (Cert.MergeDx.defs (F := Bits)) (onTc (τ := Cert.MergeDx.τ) (Cert.MergeDx.main (F := Bits))) ⟨m, fun _ => 0, g⟩ (fun r => (∀ c : Dev Cert.MergeDx.nD,
      r.2.mem ((c.tc : Thread Cert.MergeDx.nD Cert.MergeDx.τ).loc Cert.MergeDx.main_arg0) = m ((c.tc : Thread Cert.MergeDx.nD Cert.MergeDx.τ).loc Cert.MergeDx.main_arg0)
      ∧ r.2.mem ((c.tc : Thread Cert.MergeDx.nD Cert.MergeDx.τ).loc Cert.MergeDx.main_arg1) = m ((c.tc : Thread Cert.MergeDx.nD Cert.MergeDx.τ).loc Cert.MergeDx.main_arg1)
      ∧ r.2.mem ((c.tc : Thread Cert.MergeDx.nD Cert.MergeDx.τ).loc Cert.MergeDx.main_arg2) = m ((c.tc : Thread Cert.MergeDx.nD Cert.MergeDx.τ).loc Cert.MergeDx.main_arg2)
      ∧ r.2.mem ((c.tc : Thread Cert.MergeDx.nD Cert.MergeDx.τ).loc Cert.MergeDx.main_arg3) = m ((c.tc : Thread Cert.MergeDx.nD Cert.MergeDx.τ).loc Cert.MergeDx.main_arg3)
      ∧ r.2.mem ((c.tc : Thread Cert.MergeDx.nD Cert.MergeDx.τ).loc Cert.MergeDx.main_arg4) = m ((c.tc : Thread Cert.MergeDx.nD Cert.MergeDx.τ).loc Cert.MergeDx.main_arg4)
      ∧ r.2.mem ((c.tc : Thread Cert.MergeDx.nD Cert.MergeDx.τ).loc Cert.MergeDx.main_arg5) = m ((c.tc : Thread Cert.MergeDx.nD Cert.MergeDx.τ).loc Cert.MergeDx.main_arg5))
      ∧ r.2.sem = fun _ => 0)

def quiescent_MergeDxIdeal [hMergeDxIdeal : Cert.MergeDxIdeal.Facts] : Prop :=
  ∀ (m : (ℓ : Loc Cert.MergeDxIdeal.nD Cert.MergeDxIdeal.τ Cert.MergeDxIdeal.sig) → Buf (Elt Ideal) ℓ) (g : Dev Cert.MergeDxIdeal.nD → PrngReg), Pre_MergeDxIdeal m →
    θ_run (Cert.MergeDxIdeal.defs (F := Ideal)) (onTc (τ := Cert.MergeDxIdeal.τ) (Cert.MergeDxIdeal.main (F := Ideal))) ⟨m, fun _ => 0, g⟩ (fun r => (∀ c : Dev Cert.MergeDxIdeal.nD,
      r.2.mem ((c.tc : Thread Cert.MergeDxIdeal.nD Cert.MergeDxIdeal.τ).loc Cert.MergeDxIdeal.main_arg0) = m ((c.tc : Thread Cert.MergeDxIdeal.nD Cert.MergeDxIdeal.τ).loc Cert.MergeDxIdeal.main_arg0)
      ∧ r.2.mem ((c.tc : Thread Cert.MergeDxIdeal.nD Cert.MergeDxIdeal.τ).loc Cert.MergeDxIdeal.main_arg1) = m ((c.tc : Thread Cert.MergeDxIdeal.nD Cert.MergeDxIdeal.τ).loc Cert.MergeDxIdeal.main_arg1)
      ∧ r.2.mem ((c.tc : Thread Cert.MergeDxIdeal.nD Cert.MergeDxIdeal.τ).loc Cert.MergeDxIdeal.main_arg2) = m ((c.tc : Thread Cert.MergeDxIdeal.nD Cert.MergeDxIdeal.τ).loc Cert.MergeDxIdeal.main_arg2)
      ∧ r.2.mem ((c.tc : Thread Cert.MergeDxIdeal.nD Cert.MergeDxIdeal.τ).loc Cert.MergeDxIdeal.main_arg3) = m ((c.tc : Thread Cert.MergeDxIdeal.nD Cert.MergeDxIdeal.τ).loc Cert.MergeDxIdeal.main_arg3)
      ∧ r.2.mem ((c.tc : Thread Cert.MergeDxIdeal.nD Cert.MergeDxIdeal.τ).loc Cert.MergeDxIdeal.main_arg4) = m ((c.tc : Thread Cert.MergeDxIdeal.nD Cert.MergeDxIdeal.τ).loc Cert.MergeDxIdeal.main_arg4)
      ∧ r.2.mem ((c.tc : Thread Cert.MergeDxIdeal.nD Cert.MergeDxIdeal.τ).loc Cert.MergeDxIdeal.main_arg5) = m ((c.tc : Thread Cert.MergeDxIdeal.nD Cert.MergeDxIdeal.τ).loc Cert.MergeDxIdeal.main_arg5))
      ∧ r.2.sem = fun _ => 0)

def quiescent_MergeDxRefIdeal [hMergeDxRefIdeal : Cert.MergeDxRefIdeal.Facts] : Prop :=
  ∀ (m : (ℓ : Loc Cert.MergeDxRefIdeal.nD Cert.MergeDxRefIdeal.τ Cert.MergeDxRefIdeal.sig) → Buf (Elt Ideal) ℓ) (g : Dev Cert.MergeDxRefIdeal.nD → PrngReg), Pre_MergeDxRefIdeal m →
    θ_run (Cert.MergeDxRefIdeal.defs (F := Ideal)) (onTc (τ := Cert.MergeDxRefIdeal.τ) (Cert.MergeDxRefIdeal.main (F := Ideal))) ⟨m, fun _ => 0, g⟩ (fun r => (∀ c : Dev Cert.MergeDxRefIdeal.nD,
      r.2.mem ((c.tc : Thread Cert.MergeDxRefIdeal.nD Cert.MergeDxRefIdeal.τ).loc Cert.MergeDxRefIdeal.main_arg0) = m ((c.tc : Thread Cert.MergeDxRefIdeal.nD Cert.MergeDxRefIdeal.τ).loc Cert.MergeDxRefIdeal.main_arg0)
      ∧ r.2.mem ((c.tc : Thread Cert.MergeDxRefIdeal.nD Cert.MergeDxRefIdeal.τ).loc Cert.MergeDxRefIdeal.main_arg1) = m ((c.tc : Thread Cert.MergeDxRefIdeal.nD Cert.MergeDxRefIdeal.τ).loc Cert.MergeDxRefIdeal.main_arg1)
      ∧ r.2.mem ((c.tc : Thread Cert.MergeDxRefIdeal.nD Cert.MergeDxRefIdeal.τ).loc Cert.MergeDxRefIdeal.main_arg2) = m ((c.tc : Thread Cert.MergeDxRefIdeal.nD Cert.MergeDxRefIdeal.τ).loc Cert.MergeDxRefIdeal.main_arg2)
      ∧ r.2.mem ((c.tc : Thread Cert.MergeDxRefIdeal.nD Cert.MergeDxRefIdeal.τ).loc Cert.MergeDxRefIdeal.main_arg3) = m ((c.tc : Thread Cert.MergeDxRefIdeal.nD Cert.MergeDxRefIdeal.τ).loc Cert.MergeDxRefIdeal.main_arg3)
      ∧ r.2.mem ((c.tc : Thread Cert.MergeDxRefIdeal.nD Cert.MergeDxRefIdeal.τ).loc Cert.MergeDxRefIdeal.main_arg4) = m ((c.tc : Thread Cert.MergeDxRefIdeal.nD Cert.MergeDxRefIdeal.τ).loc Cert.MergeDxRefIdeal.main_arg4)
      ∧ r.2.mem ((c.tc : Thread Cert.MergeDxRefIdeal.nD Cert.MergeDxRefIdeal.τ).loc Cert.MergeDxRefIdeal.main_arg5) = m ((c.tc : Thread Cert.MergeDxRefIdeal.nD Cert.MergeDxRefIdeal.τ).loc Cert.MergeDxRefIdeal.main_arg5))
      ∧ r.2.sem = fun _ => 0)

def quiescent_MergeDw [hMergeDw : Cert.MergeDw.Facts] : Prop :=
  ∀ (m : (ℓ : Loc Cert.MergeDw.nD Cert.MergeDw.τ Cert.MergeDw.sig) → Buf (Elt Bits) ℓ) (g : Dev Cert.MergeDw.nD → PrngReg), Pre_MergeDw m →
    θ_run (Cert.MergeDw.defs (F := Bits)) (onTc (τ := Cert.MergeDw.τ) (Cert.MergeDw.main (F := Bits))) ⟨m, fun _ => 0, g⟩ (fun r => (∀ c : Dev Cert.MergeDw.nD,
      r.2.mem ((c.tc : Thread Cert.MergeDw.nD Cert.MergeDw.τ).loc Cert.MergeDw.main_arg0) = m ((c.tc : Thread Cert.MergeDw.nD Cert.MergeDw.τ).loc Cert.MergeDw.main_arg0)
      ∧ r.2.mem ((c.tc : Thread Cert.MergeDw.nD Cert.MergeDw.τ).loc Cert.MergeDw.main_arg1) = m ((c.tc : Thread Cert.MergeDw.nD Cert.MergeDw.τ).loc Cert.MergeDw.main_arg1))
      ∧ r.2.sem = fun _ => 0)

def quiescent_MergeDwIdeal [hMergeDwIdeal : Cert.MergeDwIdeal.Facts] : Prop :=
  ∀ (m : (ℓ : Loc Cert.MergeDwIdeal.nD Cert.MergeDwIdeal.τ Cert.MergeDwIdeal.sig) → Buf (Elt Ideal) ℓ) (g : Dev Cert.MergeDwIdeal.nD → PrngReg), Pre_MergeDwIdeal m →
    θ_run (Cert.MergeDwIdeal.defs (F := Ideal)) (onTc (τ := Cert.MergeDwIdeal.τ) (Cert.MergeDwIdeal.main (F := Ideal))) ⟨m, fun _ => 0, g⟩ (fun r => (∀ c : Dev Cert.MergeDwIdeal.nD,
      r.2.mem ((c.tc : Thread Cert.MergeDwIdeal.nD Cert.MergeDwIdeal.τ).loc Cert.MergeDwIdeal.main_arg0) = m ((c.tc : Thread Cert.MergeDwIdeal.nD Cert.MergeDwIdeal.τ).loc Cert.MergeDwIdeal.main_arg0)
      ∧ r.2.mem ((c.tc : Thread Cert.MergeDwIdeal.nD Cert.MergeDwIdeal.τ).loc Cert.MergeDwIdeal.main_arg1) = m ((c.tc : Thread Cert.MergeDwIdeal.nD Cert.MergeDwIdeal.τ).loc Cert.MergeDwIdeal.main_arg1))
      ∧ r.2.sem = fun _ => 0)

def quiescent_MergeDwRefIdeal [hMergeDwRefIdeal : Cert.MergeDwRefIdeal.Facts] : Prop :=
  ∀ (m : (ℓ : Loc Cert.MergeDwRefIdeal.nD Cert.MergeDwRefIdeal.τ Cert.MergeDwRefIdeal.sig) → Buf (Elt Ideal) ℓ) (g : Dev Cert.MergeDwRefIdeal.nD → PrngReg), Pre_MergeDwRefIdeal m →
    θ_run (Cert.MergeDwRefIdeal.defs (F := Ideal)) (onTc (τ := Cert.MergeDwRefIdeal.τ) (Cert.MergeDwRefIdeal.main (F := Ideal))) ⟨m, fun _ => 0, g⟩ (fun r => (∀ c : Dev Cert.MergeDwRefIdeal.nD,
      r.2.mem ((c.tc : Thread Cert.MergeDwRefIdeal.nD Cert.MergeDwRefIdeal.τ).loc Cert.MergeDwRefIdeal.main_arg0) = m ((c.tc : Thread Cert.MergeDwRefIdeal.nD Cert.MergeDwRefIdeal.τ).loc Cert.MergeDwRefIdeal.main_arg0)
      ∧ r.2.mem ((c.tc : Thread Cert.MergeDwRefIdeal.nD Cert.MergeDwRefIdeal.τ).loc Cert.MergeDwRefIdeal.main_arg1) = m ((c.tc : Thread Cert.MergeDwRefIdeal.nD Cert.MergeDwRefIdeal.τ).loc Cert.MergeDwRefIdeal.main_arg1))
      ∧ r.2.sem = fun _ => 0)

def quiescent_BrAttn [hBrAttn : Cert.BrAttn.Facts] : Prop :=
  ∀ (m : (ℓ : Loc Cert.BrAttn.nD Cert.BrAttn.τ Cert.BrAttn.sig) → Buf (Elt Bits) ℓ) (g : Dev Cert.BrAttn.nD → PrngReg), Pre_BrAttn m →
    θ_run (Cert.BrAttn.defs (F := Bits)) (onTc (τ := Cert.BrAttn.τ) (Cert.BrAttn.main (F := Bits))) ⟨m, fun _ => 0, g⟩ (fun r => (∀ c : Dev Cert.BrAttn.nD,
      r.2.mem ((c.tc : Thread Cert.BrAttn.nD Cert.BrAttn.τ).loc Cert.BrAttn.main_arg0) = m ((c.tc : Thread Cert.BrAttn.nD Cert.BrAttn.τ).loc Cert.BrAttn.main_arg0)
      ∧ r.2.mem ((c.tc : Thread Cert.BrAttn.nD Cert.BrAttn.τ).loc Cert.BrAttn.main_arg1) = m ((c.tc : Thread Cert.BrAttn.nD Cert.BrAttn.τ).loc Cert.BrAttn.main_arg1))
      ∧ r.2.sem = fun _ => 0)

def quiescent_BrAttnIdeal [hBrAttnIdeal : Cert.BrAttnIdeal.Facts] : Prop :=
  ∀ (m : (ℓ : Loc Cert.BrAttnIdeal.nD Cert.BrAttnIdeal.τ Cert.BrAttnIdeal.sig) → Buf (Elt Ideal) ℓ) (g : Dev Cert.BrAttnIdeal.nD → PrngReg), Pre_BrAttnIdeal m →
    θ_run (Cert.BrAttnIdeal.defs (F := Ideal)) (onTc (τ := Cert.BrAttnIdeal.τ) (Cert.BrAttnIdeal.main (F := Ideal))) ⟨m, fun _ => 0, g⟩ (fun r => (∀ c : Dev Cert.BrAttnIdeal.nD,
      r.2.mem ((c.tc : Thread Cert.BrAttnIdeal.nD Cert.BrAttnIdeal.τ).loc Cert.BrAttnIdeal.main_arg0) = m ((c.tc : Thread Cert.BrAttnIdeal.nD Cert.BrAttnIdeal.τ).loc Cert.BrAttnIdeal.main_arg0)
      ∧ r.2.mem ((c.tc : Thread Cert.BrAttnIdeal.nD Cert.BrAttnIdeal.τ).loc Cert.BrAttnIdeal.main_arg1) = m ((c.tc : Thread Cert.BrAttnIdeal.nD Cert.BrAttnIdeal.τ).loc Cert.BrAttnIdeal.main_arg1))
      ∧ r.2.sem = fun _ => 0)

def quiescent_BrAttnRefIdeal [hBrAttnRefIdeal : Cert.BrAttnRefIdeal.Facts] : Prop :=
  ∀ (m : (ℓ : Loc Cert.BrAttnRefIdeal.nD Cert.BrAttnRefIdeal.τ Cert.BrAttnRefIdeal.sig) → Buf (Elt Ideal) ℓ) (g : Dev Cert.BrAttnRefIdeal.nD → PrngReg), Pre_BrAttnRefIdeal m →
    θ_run (Cert.BrAttnRefIdeal.defs (F := Ideal)) (onTc (τ := Cert.BrAttnRefIdeal.τ) (Cert.BrAttnRefIdeal.main (F := Ideal))) ⟨m, fun _ => 0, g⟩ (fun r => (∀ c : Dev Cert.BrAttnRefIdeal.nD,
      r.2.mem ((c.tc : Thread Cert.BrAttnRefIdeal.nD Cert.BrAttnRefIdeal.τ).loc Cert.BrAttnRefIdeal.main_arg0) = m ((c.tc : Thread Cert.BrAttnRefIdeal.nD Cert.BrAttnRefIdeal.τ).loc Cert.BrAttnRefIdeal.main_arg0)
      ∧ r.2.mem ((c.tc : Thread Cert.BrAttnRefIdeal.nD Cert.BrAttnRefIdeal.τ).loc Cert.BrAttnRefIdeal.main_arg1) = m ((c.tc : Thread Cert.BrAttnRefIdeal.nD Cert.BrAttnRefIdeal.τ).loc Cert.BrAttnRefIdeal.main_arg1))
      ∧ r.2.sem = fun _ => 0)

def quiescent_BrSgu [hBrSgu : Cert.BrSgu.Facts] : Prop :=
  ∀ (m : (ℓ : Loc Cert.BrSgu.nD Cert.BrSgu.τ Cert.BrSgu.sig) → Buf (Elt Bits) ℓ) (g : Dev Cert.BrSgu.nD → PrngReg), Pre_BrSgu m →
    θ_run (Cert.BrSgu.defs (F := Bits)) (onTc (τ := Cert.BrSgu.τ) (Cert.BrSgu.main (F := Bits))) ⟨m, fun _ => 0, g⟩ (fun r => (∀ c : Dev Cert.BrSgu.nD,
      r.2.mem ((c.tc : Thread Cert.BrSgu.nD Cert.BrSgu.τ).loc Cert.BrSgu.main_arg0) = m ((c.tc : Thread Cert.BrSgu.nD Cert.BrSgu.τ).loc Cert.BrSgu.main_arg0)
      ∧ r.2.mem ((c.tc : Thread Cert.BrSgu.nD Cert.BrSgu.τ).loc Cert.BrSgu.main_arg1) = m ((c.tc : Thread Cert.BrSgu.nD Cert.BrSgu.τ).loc Cert.BrSgu.main_arg1)
      ∧ r.2.mem ((c.tc : Thread Cert.BrSgu.nD Cert.BrSgu.τ).loc Cert.BrSgu.main_arg2) = m ((c.tc : Thread Cert.BrSgu.nD Cert.BrSgu.τ).loc Cert.BrSgu.main_arg2)
      ∧ r.2.mem ((c.tc : Thread Cert.BrSgu.nD Cert.BrSgu.τ).loc Cert.BrSgu.main_arg3) = m ((c.tc : Thread Cert.BrSgu.nD Cert.BrSgu.τ).loc Cert.BrSgu.main_arg3)
      ∧ r.2.mem ((c.tc : Thread Cert.BrSgu.nD Cert.BrSgu.τ).loc Cert.BrSgu.main_arg4) = m ((c.tc : Thread Cert.BrSgu.nD Cert.BrSgu.τ).loc Cert.BrSgu.main_arg4))
      ∧ r.2.sem = fun _ => 0)

def quiescent_BrSguIdeal [hBrSguIdeal : Cert.BrSguIdeal.Facts] : Prop :=
  ∀ (m : (ℓ : Loc Cert.BrSguIdeal.nD Cert.BrSguIdeal.τ Cert.BrSguIdeal.sig) → Buf (Elt Ideal) ℓ) (g : Dev Cert.BrSguIdeal.nD → PrngReg), Pre_BrSguIdeal m →
    θ_run (Cert.BrSguIdeal.defs (F := Ideal)) (onTc (τ := Cert.BrSguIdeal.τ) (Cert.BrSguIdeal.main (F := Ideal))) ⟨m, fun _ => 0, g⟩ (fun r => (∀ c : Dev Cert.BrSguIdeal.nD,
      r.2.mem ((c.tc : Thread Cert.BrSguIdeal.nD Cert.BrSguIdeal.τ).loc Cert.BrSguIdeal.main_arg0) = m ((c.tc : Thread Cert.BrSguIdeal.nD Cert.BrSguIdeal.τ).loc Cert.BrSguIdeal.main_arg0)
      ∧ r.2.mem ((c.tc : Thread Cert.BrSguIdeal.nD Cert.BrSguIdeal.τ).loc Cert.BrSguIdeal.main_arg1) = m ((c.tc : Thread Cert.BrSguIdeal.nD Cert.BrSguIdeal.τ).loc Cert.BrSguIdeal.main_arg1)
      ∧ r.2.mem ((c.tc : Thread Cert.BrSguIdeal.nD Cert.BrSguIdeal.τ).loc Cert.BrSguIdeal.main_arg2) = m ((c.tc : Thread Cert.BrSguIdeal.nD Cert.BrSguIdeal.τ).loc Cert.BrSguIdeal.main_arg2)
      ∧ r.2.mem ((c.tc : Thread Cert.BrSguIdeal.nD Cert.BrSguIdeal.τ).loc Cert.BrSguIdeal.main_arg3) = m ((c.tc : Thread Cert.BrSguIdeal.nD Cert.BrSguIdeal.τ).loc Cert.BrSguIdeal.main_arg3)
      ∧ r.2.mem ((c.tc : Thread Cert.BrSguIdeal.nD Cert.BrSguIdeal.τ).loc Cert.BrSguIdeal.main_arg4) = m ((c.tc : Thread Cert.BrSguIdeal.nD Cert.BrSguIdeal.τ).loc Cert.BrSguIdeal.main_arg4))
      ∧ r.2.sem = fun _ => 0)

def quiescent_BrSguRefIdeal [hBrSguRefIdeal : Cert.BrSguRefIdeal.Facts] : Prop :=
  ∀ (m : (ℓ : Loc Cert.BrSguRefIdeal.nD Cert.BrSguRefIdeal.τ Cert.BrSguRefIdeal.sig) → Buf (Elt Ideal) ℓ) (g : Dev Cert.BrSguRefIdeal.nD → PrngReg), Pre_BrSguRefIdeal m →
    θ_run (Cert.BrSguRefIdeal.defs (F := Ideal)) (onTc (τ := Cert.BrSguRefIdeal.τ) (Cert.BrSguRefIdeal.main (F := Ideal))) ⟨m, fun _ => 0, g⟩ (fun r => (∀ c : Dev Cert.BrSguRefIdeal.nD,
      r.2.mem ((c.tc : Thread Cert.BrSguRefIdeal.nD Cert.BrSguRefIdeal.τ).loc Cert.BrSguRefIdeal.main_arg0) = m ((c.tc : Thread Cert.BrSguRefIdeal.nD Cert.BrSguRefIdeal.τ).loc Cert.BrSguRefIdeal.main_arg0)
      ∧ r.2.mem ((c.tc : Thread Cert.BrSguRefIdeal.nD Cert.BrSguRefIdeal.τ).loc Cert.BrSguRefIdeal.main_arg1) = m ((c.tc : Thread Cert.BrSguRefIdeal.nD Cert.BrSguRefIdeal.τ).loc Cert.BrSguRefIdeal.main_arg1)
      ∧ r.2.mem ((c.tc : Thread Cert.BrSguRefIdeal.nD Cert.BrSguRefIdeal.τ).loc Cert.BrSguRefIdeal.main_arg2) = m ((c.tc : Thread Cert.BrSguRefIdeal.nD Cert.BrSguRefIdeal.τ).loc Cert.BrSguRefIdeal.main_arg2)
      ∧ r.2.mem ((c.tc : Thread Cert.BrSguRefIdeal.nD Cert.BrSguRefIdeal.τ).loc Cert.BrSguRefIdeal.main_arg3) = m ((c.tc : Thread Cert.BrSguRefIdeal.nD Cert.BrSguRefIdeal.τ).loc Cert.BrSguRefIdeal.main_arg3)
      ∧ r.2.mem ((c.tc : Thread Cert.BrSguRefIdeal.nD Cert.BrSguRefIdeal.τ).loc Cert.BrSguRefIdeal.main_arg4) = m ((c.tc : Thread Cert.BrSguRefIdeal.nD Cert.BrSguRefIdeal.τ).loc Cert.BrSguRefIdeal.main_arg4))
      ∧ r.2.sem = fun _ => 0)

def quiescent_BrDx [hBrDx : Cert.BrDx.Facts] : Prop :=
  ∀ (m : (ℓ : Loc Cert.BrDx.nD Cert.BrDx.τ Cert.BrDx.sig) → Buf (Elt Bits) ℓ) (g : Dev Cert.BrDx.nD → PrngReg), Pre_BrDx m →
    θ_run (Cert.BrDx.defs (F := Bits)) (onTc (τ := Cert.BrDx.τ) (Cert.BrDx.main (F := Bits))) ⟨m, fun _ => 0, g⟩ (fun r => (∀ c : Dev Cert.BrDx.nD,
      r.2.mem ((c.tc : Thread Cert.BrDx.nD Cert.BrDx.τ).loc Cert.BrDx.main_arg0) = m ((c.tc : Thread Cert.BrDx.nD Cert.BrDx.τ).loc Cert.BrDx.main_arg0)
      ∧ r.2.mem ((c.tc : Thread Cert.BrDx.nD Cert.BrDx.τ).loc Cert.BrDx.main_arg1) = m ((c.tc : Thread Cert.BrDx.nD Cert.BrDx.τ).loc Cert.BrDx.main_arg1))
      ∧ r.2.sem = fun _ => 0)

def quiescent_BrDxIdeal [hBrDxIdeal : Cert.BrDxIdeal.Facts] : Prop :=
  ∀ (m : (ℓ : Loc Cert.BrDxIdeal.nD Cert.BrDxIdeal.τ Cert.BrDxIdeal.sig) → Buf (Elt Ideal) ℓ) (g : Dev Cert.BrDxIdeal.nD → PrngReg), Pre_BrDxIdeal m →
    θ_run (Cert.BrDxIdeal.defs (F := Ideal)) (onTc (τ := Cert.BrDxIdeal.τ) (Cert.BrDxIdeal.main (F := Ideal))) ⟨m, fun _ => 0, g⟩ (fun r => (∀ c : Dev Cert.BrDxIdeal.nD,
      r.2.mem ((c.tc : Thread Cert.BrDxIdeal.nD Cert.BrDxIdeal.τ).loc Cert.BrDxIdeal.main_arg0) = m ((c.tc : Thread Cert.BrDxIdeal.nD Cert.BrDxIdeal.τ).loc Cert.BrDxIdeal.main_arg0)
      ∧ r.2.mem ((c.tc : Thread Cert.BrDxIdeal.nD Cert.BrDxIdeal.τ).loc Cert.BrDxIdeal.main_arg1) = m ((c.tc : Thread Cert.BrDxIdeal.nD Cert.BrDxIdeal.τ).loc Cert.BrDxIdeal.main_arg1))
      ∧ r.2.sem = fun _ => 0)

def quiescent_BrDxRefIdeal [hBrDxRefIdeal : Cert.BrDxRefIdeal.Facts] : Prop :=
  ∀ (m : (ℓ : Loc Cert.BrDxRefIdeal.nD Cert.BrDxRefIdeal.τ Cert.BrDxRefIdeal.sig) → Buf (Elt Ideal) ℓ) (g : Dev Cert.BrDxRefIdeal.nD → PrngReg), Pre_BrDxRefIdeal m →
    θ_run (Cert.BrDxRefIdeal.defs (F := Ideal)) (onTc (τ := Cert.BrDxRefIdeal.τ) (Cert.BrDxRefIdeal.main (F := Ideal))) ⟨m, fun _ => 0, g⟩ (fun r => (∀ c : Dev Cert.BrDxRefIdeal.nD,
      r.2.mem ((c.tc : Thread Cert.BrDxRefIdeal.nD Cert.BrDxRefIdeal.τ).loc Cert.BrDxRefIdeal.main_arg0) = m ((c.tc : Thread Cert.BrDxRefIdeal.nD Cert.BrDxRefIdeal.τ).loc Cert.BrDxRefIdeal.main_arg0)
      ∧ r.2.mem ((c.tc : Thread Cert.BrDxRefIdeal.nD Cert.BrDxRefIdeal.τ).loc Cert.BrDxRefIdeal.main_arg1) = m ((c.tc : Thread Cert.BrDxRefIdeal.nD Cert.BrDxRefIdeal.τ).loc Cert.BrDxRefIdeal.main_arg1))
      ∧ r.2.sem = fun _ => 0)

def quiescent_BrDw [hBrDw : Cert.BrDw.Facts] : Prop :=
  ∀ (m : (ℓ : Loc Cert.BrDw.nD Cert.BrDw.τ Cert.BrDw.sig) → Buf (Elt Bits) ℓ) (g : Dev Cert.BrDw.nD → PrngReg), Pre_BrDw m →
    θ_run (Cert.BrDw.defs (F := Bits)) (onTc (τ := Cert.BrDw.τ) (Cert.BrDw.main (F := Bits))) ⟨m, fun _ => 0, g⟩ (fun r => (∀ c : Dev Cert.BrDw.nD,
      r.2.mem ((c.tc : Thread Cert.BrDw.nD Cert.BrDw.τ).loc Cert.BrDw.main_arg0) = m ((c.tc : Thread Cert.BrDw.nD Cert.BrDw.τ).loc Cert.BrDw.main_arg0)
      ∧ r.2.mem ((c.tc : Thread Cert.BrDw.nD Cert.BrDw.τ).loc Cert.BrDw.main_arg1) = m ((c.tc : Thread Cert.BrDw.nD Cert.BrDw.τ).loc Cert.BrDw.main_arg1))
      ∧ r.2.sem = fun _ => 0)

def quiescent_BrDwIdeal [hBrDwIdeal : Cert.BrDwIdeal.Facts] : Prop :=
  ∀ (m : (ℓ : Loc Cert.BrDwIdeal.nD Cert.BrDwIdeal.τ Cert.BrDwIdeal.sig) → Buf (Elt Ideal) ℓ) (g : Dev Cert.BrDwIdeal.nD → PrngReg), Pre_BrDwIdeal m →
    θ_run (Cert.BrDwIdeal.defs (F := Ideal)) (onTc (τ := Cert.BrDwIdeal.τ) (Cert.BrDwIdeal.main (F := Ideal))) ⟨m, fun _ => 0, g⟩ (fun r => (∀ c : Dev Cert.BrDwIdeal.nD,
      r.2.mem ((c.tc : Thread Cert.BrDwIdeal.nD Cert.BrDwIdeal.τ).loc Cert.BrDwIdeal.main_arg0) = m ((c.tc : Thread Cert.BrDwIdeal.nD Cert.BrDwIdeal.τ).loc Cert.BrDwIdeal.main_arg0)
      ∧ r.2.mem ((c.tc : Thread Cert.BrDwIdeal.nD Cert.BrDwIdeal.τ).loc Cert.BrDwIdeal.main_arg1) = m ((c.tc : Thread Cert.BrDwIdeal.nD Cert.BrDwIdeal.τ).loc Cert.BrDwIdeal.main_arg1))
      ∧ r.2.sem = fun _ => 0)

def quiescent_BrDwRefIdeal [hBrDwRefIdeal : Cert.BrDwRefIdeal.Facts] : Prop :=
  ∀ (m : (ℓ : Loc Cert.BrDwRefIdeal.nD Cert.BrDwRefIdeal.τ Cert.BrDwRefIdeal.sig) → Buf (Elt Ideal) ℓ) (g : Dev Cert.BrDwRefIdeal.nD → PrngReg), Pre_BrDwRefIdeal m →
    θ_run (Cert.BrDwRefIdeal.defs (F := Ideal)) (onTc (τ := Cert.BrDwRefIdeal.τ) (Cert.BrDwRefIdeal.main (F := Ideal))) ⟨m, fun _ => 0, g⟩ (fun r => (∀ c : Dev Cert.BrDwRefIdeal.nD,
      r.2.mem ((c.tc : Thread Cert.BrDwRefIdeal.nD Cert.BrDwRefIdeal.τ).loc Cert.BrDwRefIdeal.main_arg0) = m ((c.tc : Thread Cert.BrDwRefIdeal.nD Cert.BrDwRefIdeal.τ).loc Cert.BrDwRefIdeal.main_arg0)
      ∧ r.2.mem ((c.tc : Thread Cert.BrDwRefIdeal.nD Cert.BrDwRefIdeal.τ).loc Cert.BrDwRefIdeal.main_arg1) = m ((c.tc : Thread Cert.BrDwRefIdeal.nD Cert.BrDwRefIdeal.τ).loc Cert.BrDwRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Uv [hUv : Cert.Uv.Facts] : Prop :=
  ∀ (m : (ℓ : Loc Cert.Uv.nD Cert.Uv.τ Cert.Uv.sig) → Buf (Elt Bits) ℓ) (g : Dev Cert.Uv.nD → PrngReg), Pre_Uv m →
    θ_run (Cert.Uv.defs (F := Bits)) (onTc (τ := Cert.Uv.τ) (Cert.Uv.main (F := Bits))) ⟨m, fun _ => 0, g⟩ (fun r => (∀ c : Dev Cert.Uv.nD,
      r.2.mem ((c.tc : Thread Cert.Uv.nD Cert.Uv.τ).loc Cert.Uv.main_arg0) = m ((c.tc : Thread Cert.Uv.nD Cert.Uv.τ).loc Cert.Uv.main_arg0)
      ∧ r.2.mem ((c.tc : Thread Cert.Uv.nD Cert.Uv.τ).loc Cert.Uv.main_arg1) = m ((c.tc : Thread Cert.Uv.nD Cert.Uv.τ).loc Cert.Uv.main_arg1))
      ∧ r.2.sem = fun _ => 0)

def quiescent_UvIdeal [hUvIdeal : Cert.UvIdeal.Facts] : Prop :=
  ∀ (m : (ℓ : Loc Cert.UvIdeal.nD Cert.UvIdeal.τ Cert.UvIdeal.sig) → Buf (Elt Ideal) ℓ) (g : Dev Cert.UvIdeal.nD → PrngReg), Pre_UvIdeal m →
    θ_run (Cert.UvIdeal.defs (F := Ideal)) (onTc (τ := Cert.UvIdeal.τ) (Cert.UvIdeal.main (F := Ideal))) ⟨m, fun _ => 0, g⟩ (fun r => (∀ c : Dev Cert.UvIdeal.nD,
      r.2.mem ((c.tc : Thread Cert.UvIdeal.nD Cert.UvIdeal.τ).loc Cert.UvIdeal.main_arg0) = m ((c.tc : Thread Cert.UvIdeal.nD Cert.UvIdeal.τ).loc Cert.UvIdeal.main_arg0)
      ∧ r.2.mem ((c.tc : Thread Cert.UvIdeal.nD Cert.UvIdeal.τ).loc Cert.UvIdeal.main_arg1) = m ((c.tc : Thread Cert.UvIdeal.nD Cert.UvIdeal.τ).loc Cert.UvIdeal.main_arg1))
      ∧ r.2.sem = fun _ => 0)

def quiescent_UvRefIdeal [hUvRefIdeal : Cert.UvRefIdeal.Facts] : Prop :=
  ∀ (m : (ℓ : Loc Cert.UvRefIdeal.nD Cert.UvRefIdeal.τ Cert.UvRefIdeal.sig) → Buf (Elt Ideal) ℓ) (g : Dev Cert.UvRefIdeal.nD → PrngReg), Pre_UvRefIdeal m →
    θ_run (Cert.UvRefIdeal.defs (F := Ideal)) (onTc (τ := Cert.UvRefIdeal.τ) (Cert.UvRefIdeal.main (F := Ideal))) ⟨m, fun _ => 0, g⟩ (fun r => (∀ c : Dev Cert.UvRefIdeal.nD,
      r.2.mem ((c.tc : Thread Cert.UvRefIdeal.nD Cert.UvRefIdeal.τ).loc Cert.UvRefIdeal.main_arg0) = m ((c.tc : Thread Cert.UvRefIdeal.nD Cert.UvRefIdeal.τ).loc Cert.UvRefIdeal.main_arg0)
      ∧ r.2.mem ((c.tc : Thread Cert.UvRefIdeal.nD Cert.UvRefIdeal.τ).loc Cert.UvRefIdeal.main_arg1) = m ((c.tc : Thread Cert.UvRefIdeal.nD Cert.UvRefIdeal.τ).loc Cert.UvRefIdeal.main_arg1))
      ∧ r.2.sem = fun _ => 0)

def quiescent_GatesDw [hGatesDw : Cert.GatesDw.Facts] : Prop :=
  ∀ (m : (ℓ : Loc Cert.GatesDw.nD Cert.GatesDw.τ Cert.GatesDw.sig) → Buf (Elt Bits) ℓ) (g : Dev Cert.GatesDw.nD → PrngReg), Pre_GatesDw m →
    θ_run (Cert.GatesDw.defs (F := Bits)) (onTc (τ := Cert.GatesDw.τ) (Cert.GatesDw.main (F := Bits))) ⟨m, fun _ => 0, g⟩ (fun r => (∀ c : Dev Cert.GatesDw.nD,
      r.2.mem ((c.tc : Thread Cert.GatesDw.nD Cert.GatesDw.τ).loc Cert.GatesDw.main_arg0) = m ((c.tc : Thread Cert.GatesDw.nD Cert.GatesDw.τ).loc Cert.GatesDw.main_arg0)
      ∧ r.2.mem ((c.tc : Thread Cert.GatesDw.nD Cert.GatesDw.τ).loc Cert.GatesDw.main_arg1) = m ((c.tc : Thread Cert.GatesDw.nD Cert.GatesDw.τ).loc Cert.GatesDw.main_arg1)
      ∧ r.2.mem ((c.tc : Thread Cert.GatesDw.nD Cert.GatesDw.τ).loc Cert.GatesDw.main_arg2) = m ((c.tc : Thread Cert.GatesDw.nD Cert.GatesDw.τ).loc Cert.GatesDw.main_arg2))
      ∧ r.2.sem = fun _ => 0)

def quiescent_GatesDwIdeal [hGatesDwIdeal : Cert.GatesDwIdeal.Facts] : Prop :=
  ∀ (m : (ℓ : Loc Cert.GatesDwIdeal.nD Cert.GatesDwIdeal.τ Cert.GatesDwIdeal.sig) → Buf (Elt Ideal) ℓ) (g : Dev Cert.GatesDwIdeal.nD → PrngReg), Pre_GatesDwIdeal m →
    θ_run (Cert.GatesDwIdeal.defs (F := Ideal)) (onTc (τ := Cert.GatesDwIdeal.τ) (Cert.GatesDwIdeal.main (F := Ideal))) ⟨m, fun _ => 0, g⟩ (fun r => (∀ c : Dev Cert.GatesDwIdeal.nD,
      r.2.mem ((c.tc : Thread Cert.GatesDwIdeal.nD Cert.GatesDwIdeal.τ).loc Cert.GatesDwIdeal.main_arg0) = m ((c.tc : Thread Cert.GatesDwIdeal.nD Cert.GatesDwIdeal.τ).loc Cert.GatesDwIdeal.main_arg0)
      ∧ r.2.mem ((c.tc : Thread Cert.GatesDwIdeal.nD Cert.GatesDwIdeal.τ).loc Cert.GatesDwIdeal.main_arg1) = m ((c.tc : Thread Cert.GatesDwIdeal.nD Cert.GatesDwIdeal.τ).loc Cert.GatesDwIdeal.main_arg1)
      ∧ r.2.mem ((c.tc : Thread Cert.GatesDwIdeal.nD Cert.GatesDwIdeal.τ).loc Cert.GatesDwIdeal.main_arg2) = m ((c.tc : Thread Cert.GatesDwIdeal.nD Cert.GatesDwIdeal.τ).loc Cert.GatesDwIdeal.main_arg2))
      ∧ r.2.sem = fun _ => 0)

def quiescent_GatesDwRefIdeal [hGatesDwRefIdeal : Cert.GatesDwRefIdeal.Facts] : Prop :=
  ∀ (m : (ℓ : Loc Cert.GatesDwRefIdeal.nD Cert.GatesDwRefIdeal.τ Cert.GatesDwRefIdeal.sig) → Buf (Elt Ideal) ℓ) (g : Dev Cert.GatesDwRefIdeal.nD → PrngReg), Pre_GatesDwRefIdeal m →
    θ_run (Cert.GatesDwRefIdeal.defs (F := Ideal)) (onTc (τ := Cert.GatesDwRefIdeal.τ) (Cert.GatesDwRefIdeal.main (F := Ideal))) ⟨m, fun _ => 0, g⟩ (fun r => (∀ c : Dev Cert.GatesDwRefIdeal.nD,
      r.2.mem ((c.tc : Thread Cert.GatesDwRefIdeal.nD Cert.GatesDwRefIdeal.τ).loc Cert.GatesDwRefIdeal.main_arg0) = m ((c.tc : Thread Cert.GatesDwRefIdeal.nD Cert.GatesDwRefIdeal.τ).loc Cert.GatesDwRefIdeal.main_arg0)
      ∧ r.2.mem ((c.tc : Thread Cert.GatesDwRefIdeal.nD Cert.GatesDwRefIdeal.τ).loc Cert.GatesDwRefIdeal.main_arg1) = m ((c.tc : Thread Cert.GatesDwRefIdeal.nD Cert.GatesDwRefIdeal.τ).loc Cert.GatesDwRefIdeal.main_arg1)
      ∧ r.2.mem ((c.tc : Thread Cert.GatesDwRefIdeal.nD Cert.GatesDwRefIdeal.τ).loc Cert.GatesDwRefIdeal.main_arg2) = m ((c.tc : Thread Cert.GatesDwRefIdeal.nD Cert.GatesDwRefIdeal.τ).loc Cert.GatesDwRefIdeal.main_arg2))
      ∧ r.2.sem = fun _ => 0)

def quiescent_UvDw [hUvDw : Cert.UvDw.Facts] : Prop :=
  ∀ (m : (ℓ : Loc Cert.UvDw.nD Cert.UvDw.τ Cert.UvDw.sig) → Buf (Elt Bits) ℓ) (g : Dev Cert.UvDw.nD → PrngReg), Pre_UvDw m →
    θ_run (Cert.UvDw.defs (F := Bits)) (onTc (τ := Cert.UvDw.τ) (Cert.UvDw.main (F := Bits))) ⟨m, fun _ => 0, g⟩ (fun r => (∀ c : Dev Cert.UvDw.nD,
      r.2.mem ((c.tc : Thread Cert.UvDw.nD Cert.UvDw.τ).loc Cert.UvDw.main_arg0) = m ((c.tc : Thread Cert.UvDw.nD Cert.UvDw.τ).loc Cert.UvDw.main_arg0)
      ∧ r.2.mem ((c.tc : Thread Cert.UvDw.nD Cert.UvDw.τ).loc Cert.UvDw.main_arg1) = m ((c.tc : Thread Cert.UvDw.nD Cert.UvDw.τ).loc Cert.UvDw.main_arg1)
      ∧ r.2.mem ((c.tc : Thread Cert.UvDw.nD Cert.UvDw.τ).loc Cert.UvDw.main_arg2) = m ((c.tc : Thread Cert.UvDw.nD Cert.UvDw.τ).loc Cert.UvDw.main_arg2))
      ∧ r.2.sem = fun _ => 0)

def quiescent_UvDwIdeal [hUvDwIdeal : Cert.UvDwIdeal.Facts] : Prop :=
  ∀ (m : (ℓ : Loc Cert.UvDwIdeal.nD Cert.UvDwIdeal.τ Cert.UvDwIdeal.sig) → Buf (Elt Ideal) ℓ) (g : Dev Cert.UvDwIdeal.nD → PrngReg), Pre_UvDwIdeal m →
    θ_run (Cert.UvDwIdeal.defs (F := Ideal)) (onTc (τ := Cert.UvDwIdeal.τ) (Cert.UvDwIdeal.main (F := Ideal))) ⟨m, fun _ => 0, g⟩ (fun r => (∀ c : Dev Cert.UvDwIdeal.nD,
      r.2.mem ((c.tc : Thread Cert.UvDwIdeal.nD Cert.UvDwIdeal.τ).loc Cert.UvDwIdeal.main_arg0) = m ((c.tc : Thread Cert.UvDwIdeal.nD Cert.UvDwIdeal.τ).loc Cert.UvDwIdeal.main_arg0)
      ∧ r.2.mem ((c.tc : Thread Cert.UvDwIdeal.nD Cert.UvDwIdeal.τ).loc Cert.UvDwIdeal.main_arg1) = m ((c.tc : Thread Cert.UvDwIdeal.nD Cert.UvDwIdeal.τ).loc Cert.UvDwIdeal.main_arg1)
      ∧ r.2.mem ((c.tc : Thread Cert.UvDwIdeal.nD Cert.UvDwIdeal.τ).loc Cert.UvDwIdeal.main_arg2) = m ((c.tc : Thread Cert.UvDwIdeal.nD Cert.UvDwIdeal.τ).loc Cert.UvDwIdeal.main_arg2))
      ∧ r.2.sem = fun _ => 0)

def quiescent_UvDwRefIdeal [hUvDwRefIdeal : Cert.UvDwRefIdeal.Facts] : Prop :=
  ∀ (m : (ℓ : Loc Cert.UvDwRefIdeal.nD Cert.UvDwRefIdeal.τ Cert.UvDwRefIdeal.sig) → Buf (Elt Ideal) ℓ) (g : Dev Cert.UvDwRefIdeal.nD → PrngReg), Pre_UvDwRefIdeal m →
    θ_run (Cert.UvDwRefIdeal.defs (F := Ideal)) (onTc (τ := Cert.UvDwRefIdeal.τ) (Cert.UvDwRefIdeal.main (F := Ideal))) ⟨m, fun _ => 0, g⟩ (fun r => (∀ c : Dev Cert.UvDwRefIdeal.nD,
      r.2.mem ((c.tc : Thread Cert.UvDwRefIdeal.nD Cert.UvDwRefIdeal.τ).loc Cert.UvDwRefIdeal.main_arg0) = m ((c.tc : Thread Cert.UvDwRefIdeal.nD Cert.UvDwRefIdeal.τ).loc Cert.UvDwRefIdeal.main_arg0)
      ∧ r.2.mem ((c.tc : Thread Cert.UvDwRefIdeal.nD Cert.UvDwRefIdeal.τ).loc Cert.UvDwRefIdeal.main_arg1) = m ((c.tc : Thread Cert.UvDwRefIdeal.nD Cert.UvDwRefIdeal.τ).loc Cert.UvDwRefIdeal.main_arg1)
      ∧ r.2.mem ((c.tc : Thread Cert.UvDwRefIdeal.nD Cert.UvDwRefIdeal.τ).loc Cert.UvDwRefIdeal.main_arg2) = m ((c.tc : Thread Cert.UvDwRefIdeal.nD Cert.UvDwRefIdeal.τ).loc Cert.UvDwRefIdeal.main_arg2))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1)
      ∧ r.2.mem ((c.tc : Thread Cert.ProjDx.nD Cert.ProjDx.τ).loc Cert.ProjDx.main_arg2) = m ((c.tc : Thread Cert.ProjDx.nD Cert.ProjDx.τ).loc Cert.ProjDx.main_arg2)
      ∧ r.2.mem ((c.tc : Thread Cert.ProjDx.nD Cert.ProjDx.τ).loc Cert.ProjDx.main_arg3) = m ((c.tc : Thread Cert.ProjDx.nD Cert.ProjDx.τ).loc Cert.ProjDx.main_arg3)
      ∧ r.2.mem ((c.tc : Thread Cert.ProjDx.nD Cert.ProjDx.τ).loc Cert.ProjDx.main_arg4) = m ((c.tc : Thread Cert.ProjDx.nD Cert.ProjDx.τ).loc Cert.ProjDx.main_arg4)
      ∧ r.2.mem ((c.tc : Thread Cert.ProjDx.nD Cert.ProjDx.τ).loc Cert.ProjDx.main_arg5) = m ((c.tc : Thread Cert.ProjDx.nD Cert.ProjDx.τ).loc Cert.ProjDx.main_arg5)
      ∧ r.2.mem ((c.tc : Thread Cert.ProjDx.nD Cert.ProjDx.τ).loc Cert.ProjDx.main_arg6) = m ((c.tc : Thread Cert.ProjDx.nD Cert.ProjDx.τ).loc Cert.ProjDx.main_arg6))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
      ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2)
      ∧ r.2.mem ((c.tc : Thread Cert.ProjDxIdeal.nD Cert.ProjDxIdeal.τ).loc Cert.ProjDxIdeal.main_arg3) = m ((c.tc : Thread Cert.ProjDxIdeal.nD Cert.ProjDxIdeal.τ).loc Cert.ProjDxIdeal.main_arg3)
      ∧ r.2.mem ((c.tc : Thread Cert.ProjDxIdeal.nD Cert.ProjDxIdeal.τ).loc Cert.ProjDxIdeal.main_arg4) = m ((c.tc : Thread Cert.ProjDxIdeal.nD Cert.ProjDxIdeal.τ).loc Cert.ProjDxIdeal.main_arg4)
      ∧ r.2.mem ((c.tc : Thread Cert.ProjDxIdeal.nD Cert.ProjDxIdeal.τ).loc Cert.ProjDxIdeal.main_arg5) = m ((c.tc : Thread Cert.ProjDxIdeal.nD Cert.ProjDxIdeal.τ).loc Cert.ProjDxIdeal.main_arg5)
      ∧ r.2.mem ((c.tc : Thread Cert.ProjDxIdeal.nD Cert.ProjDxIdeal.τ).loc Cert.ProjDxIdeal.main_arg6) = m ((c.tc : Thread Cert.ProjDxIdeal.nD Cert.ProjDxIdeal.τ).loc Cert.ProjDxIdeal.main_arg6))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1)
      ∧ r.2.mem ((c.tc : Thread Cert.ProjDxRefIdeal.nD Cert.ProjDxRefIdeal.τ).loc Cert.ProjDxRefIdeal.main_arg2) = m ((c.tc : Thread Cert.ProjDxRefIdeal.nD Cert.ProjDxRefIdeal.τ).loc Cert.ProjDxRefIdeal.main_arg2)
      ∧ r.2.mem ((c.tc : Thread Cert.ProjDxRefIdeal.nD Cert.ProjDxRefIdeal.τ).loc Cert.ProjDxRefIdeal.main_arg3) = m ((c.tc : Thread Cert.ProjDxRefIdeal.nD Cert.ProjDxRefIdeal.τ).loc Cert.ProjDxRefIdeal.main_arg3)
      ∧ r.2.mem ((c.tc : Thread Cert.ProjDxRefIdeal.nD Cert.ProjDxRefIdeal.τ).loc Cert.ProjDxRefIdeal.main_arg4) = m ((c.tc : Thread Cert.ProjDxRefIdeal.nD Cert.ProjDxRefIdeal.τ).loc Cert.ProjDxRefIdeal.main_arg4)
      ∧ r.2.mem ((c.tc : Thread Cert.ProjDxRefIdeal.nD Cert.ProjDxRefIdeal.τ).loc Cert.ProjDxRefIdeal.main_arg5) = m ((c.tc : Thread Cert.ProjDxRefIdeal.nD Cert.ProjDxRefIdeal.τ).loc Cert.ProjDxRefIdeal.main_arg5)
      ∧ r.2.mem ((c.tc : Thread Cert.ProjDxRefIdeal.nD Cert.ProjDxRefIdeal.τ).loc Cert.ProjDxRefIdeal.main_arg6) = m ((c.tc : Thread Cert.ProjDxRefIdeal.nD Cert.ProjDxRefIdeal.τ).loc Cert.ProjDxRefIdeal.main_arg6))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_attn_fwd_finite [hAttnFwdIdeal : Cert.AttnFwdIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attn_fwd_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_attn_fwd_finite [hAttnFwdRefIdeal : Cert.AttnFwdRefIdeal.Facts] [hPre_attn_fwd_finite : Cert.Pre_attn_fwd_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attn_fwd_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3)
      ∧ r.2.mem ((c.tc : Thread Cert.FfnOut.nD Cert.FfnOut.τ).loc Cert.FfnOut.main_arg4) = m ((c.tc : Thread Cert.FfnOut.nD Cert.FfnOut.τ).loc Cert.FfnOut.main_arg4))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
      ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3)
      ∧ r.2.mem ((c.tc : Thread Cert.FfnOutRefIdeal.nD Cert.FfnOutRefIdeal.τ).loc Cert.FfnOutRefIdeal.main_arg4) = m ((c.tc : Thread Cert.FfnOutRefIdeal.nD Cert.FfnOutRefIdeal.τ).loc Cert.FfnOutRefIdeal.main_arg4))
      ∧ r.2.sem = fun _ => 0)

def quiescent_ProjQ [hProjQ : Cert.ProjQ.Facts] : Prop :=
  ∀ (m : (ℓ : Loc Cert.ProjQ.nD Cert.ProjQ.τ Cert.ProjQ.sig) → Buf (Elt Bits) ℓ) (g : Dev Cert.ProjQ.nD → PrngReg), Pre_ProjQ m →
    θ_run (Cert.ProjQ.defs (F := Bits)) (onTc (τ := Cert.ProjQ.τ) (Cert.ProjQ.main (F := Bits))) ⟨m, fun _ => 0, g⟩ (fun r => (∀ c : Dev Cert.ProjQ.nD,
      r.2.mem ((c.tc : Thread Cert.ProjQ.nD Cert.ProjQ.τ).loc Cert.ProjQ.main_arg0) = m ((c.tc : Thread Cert.ProjQ.nD Cert.ProjQ.τ).loc Cert.ProjQ.main_arg0)
      ∧ r.2.mem ((c.tc : Thread Cert.ProjQ.nD Cert.ProjQ.τ).loc Cert.ProjQ.main_arg1) = m ((c.tc : Thread Cert.ProjQ.nD Cert.ProjQ.τ).loc Cert.ProjQ.main_arg1)
      ∧ r.2.mem ((c.tc : Thread Cert.ProjQ.nD Cert.ProjQ.τ).loc Cert.ProjQ.main_arg2) = m ((c.tc : Thread Cert.ProjQ.nD Cert.ProjQ.τ).loc Cert.ProjQ.main_arg2))
      ∧ r.2.sem = fun _ => 0)

def quiescent_ProjQIdeal [hProjQIdeal : Cert.ProjQIdeal.Facts] : Prop :=
  ∀ (m : (ℓ : Loc Cert.ProjQIdeal.nD Cert.ProjQIdeal.τ Cert.ProjQIdeal.sig) → Buf (Elt Ideal) ℓ) (g : Dev Cert.ProjQIdeal.nD → PrngReg), Pre_ProjQIdeal m →
    θ_run (Cert.ProjQIdeal.defs (F := Ideal)) (onTc (τ := Cert.ProjQIdeal.τ) (Cert.ProjQIdeal.main (F := Ideal))) ⟨m, fun _ => 0, g⟩ (fun r => (∀ c : Dev Cert.ProjQIdeal.nD,
      r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
      ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1)
      ∧ r.2.mem ((c.tc : Thread Cert.ProjQIdeal.nD Cert.ProjQIdeal.τ).loc Cert.ProjQIdeal.main_arg2) = m ((c.tc : Thread Cert.ProjQIdeal.nD Cert.ProjQIdeal.τ).loc Cert.ProjQIdeal.main_arg2))
      ∧ r.2.sem = fun _ => 0)

def quiescent_ProjQRefIdeal [hProjQRefIdeal : Cert.ProjQRefIdeal.Facts] : Prop :=
  ∀ (m : (ℓ : Loc Cert.ProjQRefIdeal.nD Cert.ProjQRefIdeal.τ Cert.ProjQRefIdeal.sig) → Buf (Elt Ideal) ℓ) (g : Dev Cert.ProjQRefIdeal.nD → PrngReg), Pre_ProjQRefIdeal m →
    θ_run (Cert.ProjQRefIdeal.defs (F := Ideal)) (onTc (τ := Cert.ProjQRefIdeal.τ) (Cert.ProjQRefIdeal.main (F := Ideal))) ⟨m, fun _ => 0, g⟩ (fun r => (∀ c : Dev Cert.ProjQRefIdeal.nD,
      r.2.mem ((c.tc : Thread Cert.ProjQRefIdeal.nD Cert.ProjQRefIdeal.τ).loc Cert.ProjQRefIdeal.main_arg0) = m ((c.tc : Thread Cert.ProjQRefIdeal.nD Cert.ProjQRefIdeal.τ).loc Cert.ProjQRefIdeal.main_arg0)
      ∧ r.2.mem ((c.tc : Thread Cert.ProjQRefIdeal.nD Cert.ProjQRefIdeal.τ).loc Cert.ProjQRefIdeal.main_arg1) = m ((c.tc : Thread Cert.ProjQRefIdeal.nD Cert.ProjQRefIdeal.τ).loc Cert.ProjQRefIdeal.main_arg1)
      ∧ r.2.mem ((c.tc : Thread Cert.ProjQRefIdeal.nD Cert.ProjQRefIdeal.τ).loc Cert.ProjQRefIdeal.main_arg2) = m ((c.tc : Thread Cert.ProjQRefIdeal.nD Cert.ProjQRefIdeal.τ).loc Cert.ProjQRefIdeal.main_arg2))
      ∧ r.2.sem = fun _ => 0)

def quiescent_ProjKv [hProjKv : Cert.ProjKv.Facts] : Prop :=
  ∀ (m : (ℓ : Loc Cert.ProjKv.nD Cert.ProjKv.τ Cert.ProjKv.sig) → Buf (Elt Bits) ℓ) (g : Dev Cert.ProjKv.nD → PrngReg), Pre_ProjKv m →
    θ_run (Cert.ProjKv.defs (F := Bits)) (onTc (τ := Cert.ProjKv.τ) (Cert.ProjKv.main (F := Bits))) ⟨m, fun _ => 0, g⟩ (fun r => (∀ c : Dev Cert.ProjKv.nD,
      r.2.mem ((c.tc : Thread Cert.ProjKv.nD Cert.ProjKv.τ).loc Cert.ProjKv.main_arg0) = m ((c.tc : Thread Cert.ProjKv.nD Cert.ProjKv.τ).loc Cert.ProjKv.main_arg0)
      ∧ r.2.mem ((c.tc : Thread Cert.ProjKv.nD Cert.ProjKv.τ).loc Cert.ProjKv.main_arg1) = m ((c.tc : Thread Cert.ProjKv.nD Cert.ProjKv.τ).loc Cert.ProjKv.main_arg1))
      ∧ r.2.sem = fun _ => 0)

def quiescent_ProjKvIdeal [hProjKvIdeal : Cert.ProjKvIdeal.Facts] : Prop :=
  ∀ (m : (ℓ : Loc Cert.ProjKvIdeal.nD Cert.ProjKvIdeal.τ Cert.ProjKvIdeal.sig) → Buf (Elt Ideal) ℓ) (g : Dev Cert.ProjKvIdeal.nD → PrngReg), Pre_ProjKvIdeal m →
    θ_run (Cert.ProjKvIdeal.defs (F := Ideal)) (onTc (τ := Cert.ProjKvIdeal.τ) (Cert.ProjKvIdeal.main (F := Ideal))) ⟨m, fun _ => 0, g⟩ (fun r => (∀ c : Dev Cert.ProjKvIdeal.nD,
      r.2.mem ((c.tc : Thread Cert.ProjKvIdeal.nD Cert.ProjKvIdeal.τ).loc Cert.ProjKvIdeal.main_arg0) = m ((c.tc : Thread Cert.ProjKvIdeal.nD Cert.ProjKvIdeal.τ).loc Cert.ProjKvIdeal.main_arg0)
      ∧ r.2.mem ((c.tc : Thread Cert.ProjKvIdeal.nD Cert.ProjKvIdeal.τ).loc Cert.ProjKvIdeal.main_arg1) = m ((c.tc : Thread Cert.ProjKvIdeal.nD Cert.ProjKvIdeal.τ).loc Cert.ProjKvIdeal.main_arg1))
      ∧ r.2.sem = fun _ => 0)

def quiescent_ProjKvRefIdeal [hProjKvRefIdeal : Cert.ProjKvRefIdeal.Facts] : Prop :=
  ∀ (m : (ℓ : Loc Cert.ProjKvRefIdeal.nD Cert.ProjKvRefIdeal.τ Cert.ProjKvRefIdeal.sig) → Buf (Elt Ideal) ℓ) (g : Dev Cert.ProjKvRefIdeal.nD → PrngReg), Pre_ProjKvRefIdeal m →
    θ_run (Cert.ProjKvRefIdeal.defs (F := Ideal)) (onTc (τ := Cert.ProjKvRefIdeal.τ) (Cert.ProjKvRefIdeal.main (F := Ideal))) ⟨m, fun _ => 0, g⟩ (fun r => (∀ c : Dev Cert.ProjKvRefIdeal.nD,
      r.2.mem ((c.tc : Thread Cert.ProjKvRefIdeal.nD Cert.ProjKvRefIdeal.τ).loc Cert.ProjKvRefIdeal.main_arg0) = m ((c.tc : Thread Cert.ProjKvRefIdeal.nD Cert.ProjKvRefIdeal.τ).loc Cert.ProjKvRefIdeal.main_arg0)
      ∧ r.2.mem ((c.tc : Thread Cert.ProjKvRefIdeal.nD Cert.ProjKvRefIdeal.τ).loc Cert.ProjKvRefIdeal.main_arg1) = m ((c.tc : Thread Cert.ProjKvRefIdeal.nD Cert.ProjKvRefIdeal.τ).loc Cert.ProjKvRefIdeal.main_arg1))
      ∧ r.2.sem = fun _ => 0)

def quiescent_QUp [hQUp : Cert.QUp.Facts] : Prop :=
  ∀ (m : (ℓ : Loc Cert.QUp.nD Cert.QUp.τ Cert.QUp.sig) → Buf (Elt Bits) ℓ) (g : Dev Cert.QUp.nD → PrngReg), Pre_QUp m →
    θ_run (Cert.QUp.defs (F := Bits)) (onTc (τ := Cert.QUp.τ) (Cert.QUp.main (F := Bits))) ⟨m, fun _ => 0, g⟩ (fun r => (∀ c : Dev Cert.QUp.nD,
      r.2.mem ((c.tc : Thread Cert.QUp.nD Cert.QUp.τ).loc Cert.QUp.main_arg0) = m ((c.tc : Thread Cert.QUp.nD Cert.QUp.τ).loc Cert.QUp.main_arg0)
      ∧ r.2.mem ((c.tc : Thread Cert.QUp.nD Cert.QUp.τ).loc Cert.QUp.main_arg1) = m ((c.tc : Thread Cert.QUp.nD Cert.QUp.τ).loc Cert.QUp.main_arg1))
      ∧ r.2.sem = fun _ => 0)

def quiescent_QUpIdeal [hQUpIdeal : Cert.QUpIdeal.Facts] : Prop :=
  ∀ (m : (ℓ : Loc Cert.QUpIdeal.nD Cert.QUpIdeal.τ Cert.QUpIdeal.sig) → Buf (Elt Ideal) ℓ) (g : Dev Cert.QUpIdeal.nD → PrngReg), Pre_QUpIdeal m →
    θ_run (Cert.QUpIdeal.defs (F := Ideal)) (onTc (τ := Cert.QUpIdeal.τ) (Cert.QUpIdeal.main (F := Ideal))) ⟨m, fun _ => 0, g⟩ (fun r => (∀ c : Dev Cert.QUpIdeal.nD,
      r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
      ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1))
      ∧ r.2.sem = fun _ => 0)

def quiescent_QUpRefIdeal [hQUpRefIdeal : Cert.QUpRefIdeal.Facts] : Prop :=
  ∀ (m : (ℓ : Loc Cert.QUpRefIdeal.nD Cert.QUpRefIdeal.τ Cert.QUpRefIdeal.sig) → Buf (Elt Ideal) ℓ) (g : Dev Cert.QUpRefIdeal.nD → PrngReg), Pre_QUpRefIdeal m →
    θ_run (Cert.QUpRefIdeal.defs (F := Ideal)) (onTc (τ := Cert.QUpRefIdeal.τ) (Cert.QUpRefIdeal.main (F := Ideal))) ⟨m, fun _ => 0, g⟩ (fun r => (∀ c : Dev Cert.QUpRefIdeal.nD,
      r.2.mem ((c.tc : Thread Cert.QUpRefIdeal.nD Cert.QUpRefIdeal.τ).loc Cert.QUpRefIdeal.main_arg0) = m ((c.tc : Thread Cert.QUpRefIdeal.nD Cert.QUpRefIdeal.τ).loc Cert.QUpRefIdeal.main_arg0)
      ∧ r.2.mem ((c.tc : Thread Cert.QUpRefIdeal.nD Cert.QUpRefIdeal.τ).loc Cert.QUpRefIdeal.main_arg1) = m ((c.tc : Thread Cert.QUpRefIdeal.nD Cert.QUpRefIdeal.τ).loc Cert.QUpRefIdeal.main_arg1))
      ∧ r.2.sem = fun _ => 0)

def quiescent_KvUp [hKvUp : Cert.KvUp.Facts] : Prop :=
  ∀ (m : (ℓ : Loc Cert.KvUp.nD Cert.KvUp.τ Cert.KvUp.sig) → Buf (Elt Bits) ℓ) (g : Dev Cert.KvUp.nD → PrngReg), Pre_KvUp m →
    θ_run (Cert.KvUp.defs (F := Bits)) (onTc (τ := Cert.KvUp.τ) (Cert.KvUp.main (F := Bits))) ⟨m, fun _ => 0, g⟩ (fun r => (∀ c : Dev Cert.KvUp.nD,
      r.2.mem ((c.tc : Thread Cert.KvUp.nD Cert.KvUp.τ).loc Cert.KvUp.main_arg0) = m ((c.tc : Thread Cert.KvUp.nD Cert.KvUp.τ).loc Cert.KvUp.main_arg0)
      ∧ r.2.mem ((c.tc : Thread Cert.KvUp.nD Cert.KvUp.τ).loc Cert.KvUp.main_arg1) = m ((c.tc : Thread Cert.KvUp.nD Cert.KvUp.τ).loc Cert.KvUp.main_arg1))
      ∧ r.2.sem = fun _ => 0)

def quiescent_KvUpIdeal [hKvUpIdeal : Cert.KvUpIdeal.Facts] : Prop :=
  ∀ (m : (ℓ : Loc Cert.KvUpIdeal.nD Cert.KvUpIdeal.τ Cert.KvUpIdeal.sig) → Buf (Elt Ideal) ℓ) (g : Dev Cert.KvUpIdeal.nD → PrngReg), Pre_KvUpIdeal m →
    θ_run (Cert.KvUpIdeal.defs (F := Ideal)) (onTc (τ := Cert.KvUpIdeal.τ) (Cert.KvUpIdeal.main (F := Ideal))) ⟨m, fun _ => 0, g⟩ (fun r => (∀ c : Dev Cert.KvUpIdeal.nD,
      r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
      ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1))
      ∧ r.2.sem = fun _ => 0)

def quiescent_KvUpRefIdeal [hKvUpRefIdeal : Cert.KvUpRefIdeal.Facts] : Prop :=
  ∀ (m : (ℓ : Loc Cert.KvUpRefIdeal.nD Cert.KvUpRefIdeal.τ Cert.KvUpRefIdeal.sig) → Buf (Elt Ideal) ℓ) (g : Dev Cert.KvUpRefIdeal.nD → PrngReg), Pre_KvUpRefIdeal m →
    θ_run (Cert.KvUpRefIdeal.defs (F := Ideal)) (onTc (τ := Cert.KvUpRefIdeal.τ) (Cert.KvUpRefIdeal.main (F := Ideal))) ⟨m, fun _ => 0, g⟩ (fun r => (∀ c : Dev Cert.KvUpRefIdeal.nD,
      r.2.mem ((c.tc : Thread Cert.KvUpRefIdeal.nD Cert.KvUpRefIdeal.τ).loc Cert.KvUpRefIdeal.main_arg0) = m ((c.tc : Thread Cert.KvUpRefIdeal.nD Cert.KvUpRefIdeal.τ).loc Cert.KvUpRefIdeal.main_arg0)
      ∧ r.2.mem ((c.tc : Thread Cert.KvUpRefIdeal.nD Cert.KvUpRefIdeal.τ).loc Cert.KvUpRefIdeal.main_arg1) = m ((c.tc : Thread Cert.KvUpRefIdeal.nD Cert.KvUpRefIdeal.τ).loc Cert.KvUpRefIdeal.main_arg1))
      ∧ r.2.sem = fun _ => 0)

def quiescent_ProjQDw [hProjQDw : Cert.ProjQDw.Facts] : Prop :=
  ∀ (m : (ℓ : Loc Cert.ProjQDw.nD Cert.ProjQDw.τ Cert.ProjQDw.sig) → Buf (Elt Bits) ℓ) (g : Dev Cert.ProjQDw.nD → PrngReg), Pre_ProjQDw m →
    θ_run (Cert.ProjQDw.defs (F := Bits)) (onTc (τ := Cert.ProjQDw.τ) (Cert.ProjQDw.main (F := Bits))) ⟨m, fun _ => 0, g⟩ (fun r => (∀ c : Dev Cert.ProjQDw.nD,
      r.2.mem ((c.tc : Thread Cert.ProjQDw.nD Cert.ProjQDw.τ).loc Cert.ProjQDw.main_arg0) = m ((c.tc : Thread Cert.ProjQDw.nD Cert.ProjQDw.τ).loc Cert.ProjQDw.main_arg0)
      ∧ r.2.mem ((c.tc : Thread Cert.ProjQDw.nD Cert.ProjQDw.τ).loc Cert.ProjQDw.main_arg1) = m ((c.tc : Thread Cert.ProjQDw.nD Cert.ProjQDw.τ).loc Cert.ProjQDw.main_arg1))
      ∧ r.2.sem = fun _ => 0)

def quiescent_ProjQDwIdeal [hProjQDwIdeal : Cert.ProjQDwIdeal.Facts] : Prop :=
  ∀ (m : (ℓ : Loc Cert.ProjQDwIdeal.nD Cert.ProjQDwIdeal.τ Cert.ProjQDwIdeal.sig) → Buf (Elt Ideal) ℓ) (g : Dev Cert.ProjQDwIdeal.nD → PrngReg), Pre_ProjQDwIdeal m →
    θ_run (Cert.ProjQDwIdeal.defs (F := Ideal)) (onTc (τ := Cert.ProjQDwIdeal.τ) (Cert.ProjQDwIdeal.main (F := Ideal))) ⟨m, fun _ => 0, g⟩ (fun r => (∀ c : Dev Cert.ProjQDwIdeal.nD,
      r.2.mem ((c.tc : Thread Cert.ProjQDwIdeal.nD Cert.ProjQDwIdeal.τ).loc Cert.ProjQDwIdeal.main_arg0) = m ((c.tc : Thread Cert.ProjQDwIdeal.nD Cert.ProjQDwIdeal.τ).loc Cert.ProjQDwIdeal.main_arg0)
      ∧ r.2.mem ((c.tc : Thread Cert.ProjQDwIdeal.nD Cert.ProjQDwIdeal.τ).loc Cert.ProjQDwIdeal.main_arg1) = m ((c.tc : Thread Cert.ProjQDwIdeal.nD Cert.ProjQDwIdeal.τ).loc Cert.ProjQDwIdeal.main_arg1))
      ∧ r.2.sem = fun _ => 0)

def quiescent_ProjQDwRefIdeal [hProjQDwRefIdeal : Cert.ProjQDwRefIdeal.Facts] : Prop :=
  ∀ (m : (ℓ : Loc Cert.ProjQDwRefIdeal.nD Cert.ProjQDwRefIdeal.τ Cert.ProjQDwRefIdeal.sig) → Buf (Elt Ideal) ℓ) (g : Dev Cert.ProjQDwRefIdeal.nD → PrngReg), Pre_ProjQDwRefIdeal m →
    θ_run (Cert.ProjQDwRefIdeal.defs (F := Ideal)) (onTc (τ := Cert.ProjQDwRefIdeal.τ) (Cert.ProjQDwRefIdeal.main (F := Ideal))) ⟨m, fun _ => 0, g⟩ (fun r => (∀ c : Dev Cert.ProjQDwRefIdeal.nD,
      r.2.mem ((c.tc : Thread Cert.ProjQDwRefIdeal.nD Cert.ProjQDwRefIdeal.τ).loc Cert.ProjQDwRefIdeal.main_arg0) = m ((c.tc : Thread Cert.ProjQDwRefIdeal.nD Cert.ProjQDwRefIdeal.τ).loc Cert.ProjQDwRefIdeal.main_arg0)
      ∧ r.2.mem ((c.tc : Thread Cert.ProjQDwRefIdeal.nD Cert.ProjQDwRefIdeal.τ).loc Cert.ProjQDwRefIdeal.main_arg1) = m ((c.tc : Thread Cert.ProjQDwRefIdeal.nD Cert.ProjQDwRefIdeal.τ).loc Cert.ProjQDwRefIdeal.main_arg1))
      ∧ r.2.sem = fun _ => 0)

def quiescent_QUpDw [hQUpDw : Cert.QUpDw.Facts] : Prop :=
  ∀ (m : (ℓ : Loc Cert.QUpDw.nD Cert.QUpDw.τ Cert.QUpDw.sig) → Buf (Elt Bits) ℓ) (g : Dev Cert.QUpDw.nD → PrngReg), Pre_QUpDw m →
    θ_run (Cert.QUpDw.defs (F := Bits)) (onTc (τ := Cert.QUpDw.τ) (Cert.QUpDw.main (F := Bits))) ⟨m, fun _ => 0, g⟩ (fun r => (∀ c : Dev Cert.QUpDw.nD,
      r.2.mem ((c.tc : Thread Cert.QUpDw.nD Cert.QUpDw.τ).loc Cert.QUpDw.main_arg0) = m ((c.tc : Thread Cert.QUpDw.nD Cert.QUpDw.τ).loc Cert.QUpDw.main_arg0)
      ∧ r.2.mem ((c.tc : Thread Cert.QUpDw.nD Cert.QUpDw.τ).loc Cert.QUpDw.main_arg1) = m ((c.tc : Thread Cert.QUpDw.nD Cert.QUpDw.τ).loc Cert.QUpDw.main_arg1))
      ∧ r.2.sem = fun _ => 0)

def quiescent_QUpDwIdeal [hQUpDwIdeal : Cert.QUpDwIdeal.Facts] : Prop :=
  ∀ (m : (ℓ : Loc Cert.QUpDwIdeal.nD Cert.QUpDwIdeal.τ Cert.QUpDwIdeal.sig) → Buf (Elt Ideal) ℓ) (g : Dev Cert.QUpDwIdeal.nD → PrngReg), Pre_QUpDwIdeal m →
    θ_run (Cert.QUpDwIdeal.defs (F := Ideal)) (onTc (τ := Cert.QUpDwIdeal.τ) (Cert.QUpDwIdeal.main (F := Ideal))) ⟨m, fun _ => 0, g⟩ (fun r => (∀ c : Dev Cert.QUpDwIdeal.nD,
      r.2.mem ((c.tc : Thread Cert.QUpDwIdeal.nD Cert.QUpDwIdeal.τ).loc Cert.QUpDwIdeal.main_arg0) = m ((c.tc : Thread Cert.QUpDwIdeal.nD Cert.QUpDwIdeal.τ).loc Cert.QUpDwIdeal.main_arg0)
      ∧ r.2.mem ((c.tc : Thread Cert.QUpDwIdeal.nD Cert.QUpDwIdeal.τ).loc Cert.QUpDwIdeal.main_arg1) = m ((c.tc : Thread Cert.QUpDwIdeal.nD Cert.QUpDwIdeal.τ).loc Cert.QUpDwIdeal.main_arg1))
      ∧ r.2.sem = fun _ => 0)

def quiescent_QUpDwRefIdeal [hQUpDwRefIdeal : Cert.QUpDwRefIdeal.Facts] : Prop :=
  ∀ (m : (ℓ : Loc Cert.QUpDwRefIdeal.nD Cert.QUpDwRefIdeal.τ Cert.QUpDwRefIdeal.sig) → Buf (Elt Ideal) ℓ) (g : Dev Cert.QUpDwRefIdeal.nD → PrngReg), Pre_QUpDwRefIdeal m →
    θ_run (Cert.QUpDwRefIdeal.defs (F := Ideal)) (onTc (τ := Cert.QUpDwRefIdeal.τ) (Cert.QUpDwRefIdeal.main (F := Ideal))) ⟨m, fun _ => 0, g⟩ (fun r => (∀ c : Dev Cert.QUpDwRefIdeal.nD,
      r.2.mem ((c.tc : Thread Cert.QUpDwRefIdeal.nD Cert.QUpDwRefIdeal.τ).loc Cert.QUpDwRefIdeal.main_arg0) = m ((c.tc : Thread Cert.QUpDwRefIdeal.nD Cert.QUpDwRefIdeal.τ).loc Cert.QUpDwRefIdeal.main_arg0)
      ∧ r.2.mem ((c.tc : Thread Cert.QUpDwRefIdeal.nD Cert.QUpDwRefIdeal.τ).loc Cert.QUpDwRefIdeal.main_arg1) = m ((c.tc : Thread Cert.QUpDwRefIdeal.nD Cert.QUpDwRefIdeal.τ).loc Cert.QUpDwRefIdeal.main_arg1))
      ∧ r.2.sem = fun _ => 0)

def quiescent_KvUpDw [hKvUpDw : Cert.KvUpDw.Facts] : Prop :=
  ∀ (m : (ℓ : Loc Cert.KvUpDw.nD Cert.KvUpDw.τ Cert.KvUpDw.sig) → Buf (Elt Bits) ℓ) (g : Dev Cert.KvUpDw.nD → PrngReg), Pre_KvUpDw m →
    θ_run (Cert.KvUpDw.defs (F := Bits)) (onTc (τ := Cert.KvUpDw.τ) (Cert.KvUpDw.main (F := Bits))) ⟨m, fun _ => 0, g⟩ (fun r => (∀ c : Dev Cert.KvUpDw.nD,
      r.2.mem ((c.tc : Thread Cert.KvUpDw.nD Cert.KvUpDw.τ).loc Cert.KvUpDw.main_arg0) = m ((c.tc : Thread Cert.KvUpDw.nD Cert.KvUpDw.τ).loc Cert.KvUpDw.main_arg0)
      ∧ r.2.mem ((c.tc : Thread Cert.KvUpDw.nD Cert.KvUpDw.τ).loc Cert.KvUpDw.main_arg1) = m ((c.tc : Thread Cert.KvUpDw.nD Cert.KvUpDw.τ).loc Cert.KvUpDw.main_arg1))
      ∧ r.2.sem = fun _ => 0)

def quiescent_KvUpDwIdeal [hKvUpDwIdeal : Cert.KvUpDwIdeal.Facts] : Prop :=
  ∀ (m : (ℓ : Loc Cert.KvUpDwIdeal.nD Cert.KvUpDwIdeal.τ Cert.KvUpDwIdeal.sig) → Buf (Elt Ideal) ℓ) (g : Dev Cert.KvUpDwIdeal.nD → PrngReg), Pre_KvUpDwIdeal m →
    θ_run (Cert.KvUpDwIdeal.defs (F := Ideal)) (onTc (τ := Cert.KvUpDwIdeal.τ) (Cert.KvUpDwIdeal.main (F := Ideal))) ⟨m, fun _ => 0, g⟩ (fun r => (∀ c : Dev Cert.KvUpDwIdeal.nD,
      r.2.mem ((c.tc : Thread Cert.KvUpDwIdeal.nD Cert.KvUpDwIdeal.τ).loc Cert.KvUpDwIdeal.main_arg0) = m ((c.tc : Thread Cert.KvUpDwIdeal.nD Cert.KvUpDwIdeal.τ).loc Cert.KvUpDwIdeal.main_arg0)
      ∧ r.2.mem ((c.tc : Thread Cert.KvUpDwIdeal.nD Cert.KvUpDwIdeal.τ).loc Cert.KvUpDwIdeal.main_arg1) = m ((c.tc : Thread Cert.KvUpDwIdeal.nD Cert.KvUpDwIdeal.τ).loc Cert.KvUpDwIdeal.main_arg1))
      ∧ r.2.sem = fun _ => 0)

def quiescent_KvUpDwRefIdeal [hKvUpDwRefIdeal : Cert.KvUpDwRefIdeal.Facts] : Prop :=
  ∀ (m : (ℓ : Loc Cert.KvUpDwRefIdeal.nD Cert.KvUpDwRefIdeal.τ Cert.KvUpDwRefIdeal.sig) → Buf (Elt Ideal) ℓ) (g : Dev Cert.KvUpDwRefIdeal.nD → PrngReg), Pre_KvUpDwRefIdeal m →
    θ_run (Cert.KvUpDwRefIdeal.defs (F := Ideal)) (onTc (τ := Cert.KvUpDwRefIdeal.τ) (Cert.KvUpDwRefIdeal.main (F := Ideal))) ⟨m, fun _ => 0, g⟩ (fun r => (∀ c : Dev Cert.KvUpDwRefIdeal.nD,
      r.2.mem ((c.tc : Thread Cert.KvUpDwRefIdeal.nD Cert.KvUpDwRefIdeal.τ).loc Cert.KvUpDwRefIdeal.main_arg0) = m ((c.tc : Thread Cert.KvUpDwRefIdeal.nD Cert.KvUpDwRefIdeal.τ).loc Cert.KvUpDwRefIdeal.main_arg0)
      ∧ r.2.mem ((c.tc : Thread Cert.KvUpDwRefIdeal.nD Cert.KvUpDwRefIdeal.τ).loc Cert.KvUpDwRefIdeal.main_arg1) = m ((c.tc : Thread Cert.KvUpDwRefIdeal.nD Cert.KvUpDwRefIdeal.τ).loc Cert.KvUpDwRefIdeal.main_arg1))
      ∧ r.2.sem = fun _ => 0)

def quiescent_KvUpDx [hKvUpDx : Cert.KvUpDx.Facts] : Prop :=
  ∀ (m : (ℓ : Loc Cert.KvUpDx.nD Cert.KvUpDx.τ Cert.KvUpDx.sig) → Buf (Elt Bits) ℓ) (g : Dev Cert.KvUpDx.nD → PrngReg), Pre_KvUpDx m →
    θ_run (Cert.KvUpDx.defs (F := Bits)) (onTc (τ := Cert.KvUpDx.τ) (Cert.KvUpDx.main (F := Bits))) ⟨m, fun _ => 0, g⟩ (fun r => (∀ c : Dev Cert.KvUpDx.nD,
      r.2.mem ((c.tc : Thread Cert.KvUpDx.nD Cert.KvUpDx.τ).loc Cert.KvUpDx.main_arg0) = m ((c.tc : Thread Cert.KvUpDx.nD Cert.KvUpDx.τ).loc Cert.KvUpDx.main_arg0)
      ∧ r.2.mem ((c.tc : Thread Cert.KvUpDx.nD Cert.KvUpDx.τ).loc Cert.KvUpDx.main_arg1) = m ((c.tc : Thread Cert.KvUpDx.nD Cert.KvUpDx.τ).loc Cert.KvUpDx.main_arg1))
      ∧ r.2.sem = fun _ => 0)

def quiescent_KvUpDxIdeal [hKvUpDxIdeal : Cert.KvUpDxIdeal.Facts] : Prop :=
  ∀ (m : (ℓ : Loc Cert.KvUpDxIdeal.nD Cert.KvUpDxIdeal.τ Cert.KvUpDxIdeal.sig) → Buf (Elt Ideal) ℓ) (g : Dev Cert.KvUpDxIdeal.nD → PrngReg), Pre_KvUpDxIdeal m →
    θ_run (Cert.KvUpDxIdeal.defs (F := Ideal)) (onTc (τ := Cert.KvUpDxIdeal.τ) (Cert.KvUpDxIdeal.main (F := Ideal))) ⟨m, fun _ => 0, g⟩ (fun r => (∀ c : Dev Cert.KvUpDxIdeal.nD,
      r.2.mem ((c.tc : Thread Cert.KvUpDxIdeal.nD Cert.KvUpDxIdeal.τ).loc Cert.KvUpDxIdeal.main_arg0) = m ((c.tc : Thread Cert.KvUpDxIdeal.nD Cert.KvUpDxIdeal.τ).loc Cert.KvUpDxIdeal.main_arg0)
      ∧ r.2.mem ((c.tc : Thread Cert.KvUpDxIdeal.nD Cert.KvUpDxIdeal.τ).loc Cert.KvUpDxIdeal.main_arg1) = m ((c.tc : Thread Cert.KvUpDxIdeal.nD Cert.KvUpDxIdeal.τ).loc Cert.KvUpDxIdeal.main_arg1))
      ∧ r.2.sem = fun _ => 0)

def quiescent_KvUpDxRefIdeal [hKvUpDxRefIdeal : Cert.KvUpDxRefIdeal.Facts] : Prop :=
  ∀ (m : (ℓ : Loc Cert.KvUpDxRefIdeal.nD Cert.KvUpDxRefIdeal.τ Cert.KvUpDxRefIdeal.sig) → Buf (Elt Ideal) ℓ) (g : Dev Cert.KvUpDxRefIdeal.nD → PrngReg), Pre_KvUpDxRefIdeal m →
    θ_run (Cert.KvUpDxRefIdeal.defs (F := Ideal)) (onTc (τ := Cert.KvUpDxRefIdeal.τ) (Cert.KvUpDxRefIdeal.main (F := Ideal))) ⟨m, fun _ => 0, g⟩ (fun r => (∀ c : Dev Cert.KvUpDxRefIdeal.nD,
      r.2.mem ((c.tc : Thread Cert.KvUpDxRefIdeal.nD Cert.KvUpDxRefIdeal.τ).loc Cert.KvUpDxRefIdeal.main_arg0) = m ((c.tc : Thread Cert.KvUpDxRefIdeal.nD Cert.KvUpDxRefIdeal.τ).loc Cert.KvUpDxRefIdeal.main_arg0)
      ∧ r.2.mem ((c.tc : Thread Cert.KvUpDxRefIdeal.nD Cert.KvUpDxRefIdeal.τ).loc Cert.KvUpDxRefIdeal.main_arg1) = m ((c.tc : Thread Cert.KvUpDxRefIdeal.nD Cert.KvUpDxRefIdeal.τ).loc Cert.KvUpDxRefIdeal.main_arg1))
      ∧ r.2.sem = fun _ => 0)

def quiescent_ProjKvCtx [hProjKvCtx : Cert.ProjKvCtx.Facts] : Prop :=
  ∀ (m : (ℓ : Loc Cert.ProjKvCtx.nD Cert.ProjKvCtx.τ Cert.ProjKvCtx.sig) → Buf (Elt Bits) ℓ) (g : Dev Cert.ProjKvCtx.nD → PrngReg), Pre_ProjKvCtx m →
    θ_run (Cert.ProjKvCtx.defs (F := Bits)) (onTc (τ := Cert.ProjKvCtx.τ) (Cert.ProjKvCtx.main (F := Bits))) ⟨m, fun _ => 0, g⟩ (fun r => (∀ c : Dev Cert.ProjKvCtx.nD,
      r.2.mem ((c.tc : Thread Cert.ProjKvCtx.nD Cert.ProjKvCtx.τ).loc Cert.ProjKvCtx.main_arg0) = m ((c.tc : Thread Cert.ProjKvCtx.nD Cert.ProjKvCtx.τ).loc Cert.ProjKvCtx.main_arg0)
      ∧ r.2.mem ((c.tc : Thread Cert.ProjKvCtx.nD Cert.ProjKvCtx.τ).loc Cert.ProjKvCtx.main_arg1) = m ((c.tc : Thread Cert.ProjKvCtx.nD Cert.ProjKvCtx.τ).loc Cert.ProjKvCtx.main_arg1))
      ∧ r.2.sem = fun _ => 0)

def quiescent_ProjKvCtxIdeal [hProjKvCtxIdeal : Cert.ProjKvCtxIdeal.Facts] : Prop :=
  ∀ (m : (ℓ : Loc Cert.ProjKvCtxIdeal.nD Cert.ProjKvCtxIdeal.τ Cert.ProjKvCtxIdeal.sig) → Buf (Elt Ideal) ℓ) (g : Dev Cert.ProjKvCtxIdeal.nD → PrngReg), Pre_ProjKvCtxIdeal m →
    θ_run (Cert.ProjKvCtxIdeal.defs (F := Ideal)) (onTc (τ := Cert.ProjKvCtxIdeal.τ) (Cert.ProjKvCtxIdeal.main (F := Ideal))) ⟨m, fun _ => 0, g⟩ (fun r => (∀ c : Dev Cert.ProjKvCtxIdeal.nD,
      r.2.mem ((c.tc : Thread Cert.ProjKvCtxIdeal.nD Cert.ProjKvCtxIdeal.τ).loc Cert.ProjKvCtxIdeal.main_arg0) = m ((c.tc : Thread Cert.ProjKvCtxIdeal.nD Cert.ProjKvCtxIdeal.τ).loc Cert.ProjKvCtxIdeal.main_arg0)
      ∧ r.2.mem ((c.tc : Thread Cert.ProjKvCtxIdeal.nD Cert.ProjKvCtxIdeal.τ).loc Cert.ProjKvCtxIdeal.main_arg1) = m ((c.tc : Thread Cert.ProjKvCtxIdeal.nD Cert.ProjKvCtxIdeal.τ).loc Cert.ProjKvCtxIdeal.main_arg1))
      ∧ r.2.sem = fun _ => 0)

def quiescent_ProjKvCtxRefIdeal [hProjKvCtxRefIdeal : Cert.ProjKvCtxRefIdeal.Facts] : Prop :=
  ∀ (m : (ℓ : Loc Cert.ProjKvCtxRefIdeal.nD Cert.ProjKvCtxRefIdeal.τ Cert.ProjKvCtxRefIdeal.sig) → Buf (Elt Ideal) ℓ) (g : Dev Cert.ProjKvCtxRefIdeal.nD → PrngReg), Pre_ProjKvCtxRefIdeal m →
    θ_run (Cert.ProjKvCtxRefIdeal.defs (F := Ideal)) (onTc (τ := Cert.ProjKvCtxRefIdeal.τ) (Cert.ProjKvCtxRefIdeal.main (F := Ideal))) ⟨m, fun _ => 0, g⟩ (fun r => (∀ c : Dev Cert.ProjKvCtxRefIdeal.nD,
      r.2.mem ((c.tc : Thread Cert.ProjKvCtxRefIdeal.nD Cert.ProjKvCtxRefIdeal.τ).loc Cert.ProjKvCtxRefIdeal.main_arg0) = m ((c.tc : Thread Cert.ProjKvCtxRefIdeal.nD Cert.ProjKvCtxRefIdeal.τ).loc Cert.ProjKvCtxRefIdeal.main_arg0)
      ∧ r.2.mem ((c.tc : Thread Cert.ProjKvCtxRefIdeal.nD Cert.ProjKvCtxRefIdeal.τ).loc Cert.ProjKvCtxRefIdeal.main_arg1) = m ((c.tc : Thread Cert.ProjKvCtxRefIdeal.nD Cert.ProjKvCtxRefIdeal.τ).loc Cert.ProjKvCtxRefIdeal.main_arg1))
      ∧ r.2.sem = fun _ => 0)

def quiescent_ProjKvCtxDx [hProjKvCtxDx : Cert.ProjKvCtxDx.Facts] : Prop :=
  ∀ (m : (ℓ : Loc Cert.ProjKvCtxDx.nD Cert.ProjKvCtxDx.τ Cert.ProjKvCtxDx.sig) → Buf (Elt Bits) ℓ) (g : Dev Cert.ProjKvCtxDx.nD → PrngReg), Pre_ProjKvCtxDx m →
    θ_run (Cert.ProjKvCtxDx.defs (F := Bits)) (onTc (τ := Cert.ProjKvCtxDx.τ) (Cert.ProjKvCtxDx.main (F := Bits))) ⟨m, fun _ => 0, g⟩ (fun r => (∀ c : Dev Cert.ProjKvCtxDx.nD,
      r.2.mem ((c.tc : Thread Cert.ProjKvCtxDx.nD Cert.ProjKvCtxDx.τ).loc Cert.ProjKvCtxDx.main_arg0) = m ((c.tc : Thread Cert.ProjKvCtxDx.nD Cert.ProjKvCtxDx.τ).loc Cert.ProjKvCtxDx.main_arg0)
      ∧ r.2.mem ((c.tc : Thread Cert.ProjKvCtxDx.nD Cert.ProjKvCtxDx.τ).loc Cert.ProjKvCtxDx.main_arg1) = m ((c.tc : Thread Cert.ProjKvCtxDx.nD Cert.ProjKvCtxDx.τ).loc Cert.ProjKvCtxDx.main_arg1))
      ∧ r.2.sem = fun _ => 0)

def quiescent_ProjKvCtxDxIdeal [hProjKvCtxDxIdeal : Cert.ProjKvCtxDxIdeal.Facts] : Prop :=
  ∀ (m : (ℓ : Loc Cert.ProjKvCtxDxIdeal.nD Cert.ProjKvCtxDxIdeal.τ Cert.ProjKvCtxDxIdeal.sig) → Buf (Elt Ideal) ℓ) (g : Dev Cert.ProjKvCtxDxIdeal.nD → PrngReg), Pre_ProjKvCtxDxIdeal m →
    θ_run (Cert.ProjKvCtxDxIdeal.defs (F := Ideal)) (onTc (τ := Cert.ProjKvCtxDxIdeal.τ) (Cert.ProjKvCtxDxIdeal.main (F := Ideal))) ⟨m, fun _ => 0, g⟩ (fun r => (∀ c : Dev Cert.ProjKvCtxDxIdeal.nD,
      r.2.mem ((c.tc : Thread Cert.ProjKvCtxDxIdeal.nD Cert.ProjKvCtxDxIdeal.τ).loc Cert.ProjKvCtxDxIdeal.main_arg0) = m ((c.tc : Thread Cert.ProjKvCtxDxIdeal.nD Cert.ProjKvCtxDxIdeal.τ).loc Cert.ProjKvCtxDxIdeal.main_arg0)
      ∧ r.2.mem ((c.tc : Thread Cert.ProjKvCtxDxIdeal.nD Cert.ProjKvCtxDxIdeal.τ).loc Cert.ProjKvCtxDxIdeal.main_arg1) = m ((c.tc : Thread Cert.ProjKvCtxDxIdeal.nD Cert.ProjKvCtxDxIdeal.τ).loc Cert.ProjKvCtxDxIdeal.main_arg1))
      ∧ r.2.sem = fun _ => 0)

def quiescent_ProjKvCtxDxRefIdeal [hProjKvCtxDxRefIdeal : Cert.ProjKvCtxDxRefIdeal.Facts] : Prop :=
  ∀ (m : (ℓ : Loc Cert.ProjKvCtxDxRefIdeal.nD Cert.ProjKvCtxDxRefIdeal.τ Cert.ProjKvCtxDxRefIdeal.sig) → Buf (Elt Ideal) ℓ) (g : Dev Cert.ProjKvCtxDxRefIdeal.nD → PrngReg), Pre_ProjKvCtxDxRefIdeal m →
    θ_run (Cert.ProjKvCtxDxRefIdeal.defs (F := Ideal)) (onTc (τ := Cert.ProjKvCtxDxRefIdeal.τ) (Cert.ProjKvCtxDxRefIdeal.main (F := Ideal))) ⟨m, fun _ => 0, g⟩ (fun r => (∀ c : Dev Cert.ProjKvCtxDxRefIdeal.nD,
      r.2.mem ((c.tc : Thread Cert.ProjKvCtxDxRefIdeal.nD Cert.ProjKvCtxDxRefIdeal.τ).loc Cert.ProjKvCtxDxRefIdeal.main_arg0) = m ((c.tc : Thread Cert.ProjKvCtxDxRefIdeal.nD Cert.ProjKvCtxDxRefIdeal.τ).loc Cert.ProjKvCtxDxRefIdeal.main_arg0)
      ∧ r.2.mem ((c.tc : Thread Cert.ProjKvCtxDxRefIdeal.nD Cert.ProjKvCtxDxRefIdeal.τ).loc Cert.ProjKvCtxDxRefIdeal.main_arg1) = m ((c.tc : Thread Cert.ProjKvCtxDxRefIdeal.nD Cert.ProjKvCtxDxRefIdeal.τ).loc Cert.ProjKvCtxDxRefIdeal.main_arg1))
      ∧ r.2.sem = fun _ => 0)

def quiescent_ProjKvDw [hProjKvDw : Cert.ProjKvDw.Facts] : Prop :=
  ∀ (m : (ℓ : Loc Cert.ProjKvDw.nD Cert.ProjKvDw.τ Cert.ProjKvDw.sig) → Buf (Elt Bits) ℓ) (g : Dev Cert.ProjKvDw.nD → PrngReg), Pre_ProjKvDw m →
    θ_run (Cert.ProjKvDw.defs (F := Bits)) (onTc (τ := Cert.ProjKvDw.τ) (Cert.ProjKvDw.main (F := Bits))) ⟨m, fun _ => 0, g⟩ (fun r => (∀ c : Dev Cert.ProjKvDw.nD,
      r.2.mem ((c.tc : Thread Cert.ProjKvDw.nD Cert.ProjKvDw.τ).loc Cert.ProjKvDw.main_arg0) = m ((c.tc : Thread Cert.ProjKvDw.nD Cert.ProjKvDw.τ).loc Cert.ProjKvDw.main_arg0)
      ∧ r.2.mem ((c.tc : Thread Cert.ProjKvDw.nD Cert.ProjKvDw.τ).loc Cert.ProjKvDw.main_arg1) = m ((c.tc : Thread Cert.ProjKvDw.nD Cert.ProjKvDw.τ).loc Cert.ProjKvDw.main_arg1)
      ∧ r.2.mem ((c.tc : Thread Cert.ProjKvDw.nD Cert.ProjKvDw.τ).loc Cert.ProjKvDw.main_arg2) = m ((c.tc : Thread Cert.ProjKvDw.nD Cert.ProjKvDw.τ).loc Cert.ProjKvDw.main_arg2)
      ∧ r.2.mem ((c.tc : Thread Cert.ProjKvDw.nD Cert.ProjKvDw.τ).loc Cert.ProjKvDw.main_arg3) = m ((c.tc : Thread Cert.ProjKvDw.nD Cert.ProjKvDw.τ).loc Cert.ProjKvDw.main_arg3))
      ∧ r.2.sem = fun _ => 0)

def quiescent_ProjKvDwIdeal [hProjKvDwIdeal : Cert.ProjKvDwIdeal.Facts] : Prop :=
  ∀ (m : (ℓ : Loc Cert.ProjKvDwIdeal.nD Cert.ProjKvDwIdeal.τ Cert.ProjKvDwIdeal.sig) → Buf (Elt Ideal) ℓ) (g : Dev Cert.ProjKvDwIdeal.nD → PrngReg), Pre_ProjKvDwIdeal m →
    θ_run (Cert.ProjKvDwIdeal.defs (F := Ideal)) (onTc (τ := Cert.ProjKvDwIdeal.τ) (Cert.ProjKvDwIdeal.main (F := Ideal))) ⟨m, fun _ => 0, g⟩ (fun r => (∀ c : Dev Cert.ProjKvDwIdeal.nD,
      r.2.mem ((c.tc : Thread Cert.ProjKvDwIdeal.nD Cert.ProjKvDwIdeal.τ).loc Cert.ProjKvDwIdeal.main_arg0) = m ((c.tc : Thread Cert.ProjKvDwIdeal.nD Cert.ProjKvDwIdeal.τ).loc Cert.ProjKvDwIdeal.main_arg0)
      ∧ r.2.mem ((c.tc : Thread Cert.ProjKvDwIdeal.nD Cert.ProjKvDwIdeal.τ).loc Cert.ProjKvDwIdeal.main_arg1) = m ((c.tc : Thread Cert.ProjKvDwIdeal.nD Cert.ProjKvDwIdeal.τ).loc Cert.ProjKvDwIdeal.main_arg1)
      ∧ r.2.mem ((c.tc : Thread Cert.ProjKvDwIdeal.nD Cert.ProjKvDwIdeal.τ).loc Cert.ProjKvDwIdeal.main_arg2) = m ((c.tc : Thread Cert.ProjKvDwIdeal.nD Cert.ProjKvDwIdeal.τ).loc Cert.ProjKvDwIdeal.main_arg2)
      ∧ r.2.mem ((c.tc : Thread Cert.ProjKvDwIdeal.nD Cert.ProjKvDwIdeal.τ).loc Cert.ProjKvDwIdeal.main_arg3) = m ((c.tc : Thread Cert.ProjKvDwIdeal.nD Cert.ProjKvDwIdeal.τ).loc Cert.ProjKvDwIdeal.main_arg3))
      ∧ r.2.sem = fun _ => 0)

def quiescent_ProjKvDwRefIdeal [hProjKvDwRefIdeal : Cert.ProjKvDwRefIdeal.Facts] : Prop :=
  ∀ (m : (ℓ : Loc Cert.ProjKvDwRefIdeal.nD Cert.ProjKvDwRefIdeal.τ Cert.ProjKvDwRefIdeal.sig) → Buf (Elt Ideal) ℓ) (g : Dev Cert.ProjKvDwRefIdeal.nD → PrngReg), Pre_ProjKvDwRefIdeal m →
    θ_run (Cert.ProjKvDwRefIdeal.defs (F := Ideal)) (onTc (τ := Cert.ProjKvDwRefIdeal.τ) (Cert.ProjKvDwRefIdeal.main (F := Ideal))) ⟨m, fun _ => 0, g⟩ (fun r => (∀ c : Dev Cert.ProjKvDwRefIdeal.nD,
      r.2.mem ((c.tc : Thread Cert.ProjKvDwRefIdeal.nD Cert.ProjKvDwRefIdeal.τ).loc Cert.ProjKvDwRefIdeal.main_arg0) = m ((c.tc : Thread Cert.ProjKvDwRefIdeal.nD Cert.ProjKvDwRefIdeal.τ).loc Cert.ProjKvDwRefIdeal.main_arg0)
      ∧ r.2.mem ((c.tc : Thread Cert.ProjKvDwRefIdeal.nD Cert.ProjKvDwRefIdeal.τ).loc Cert.ProjKvDwRefIdeal.main_arg1) = m ((c.tc : Thread Cert.ProjKvDwRefIdeal.nD Cert.ProjKvDwRefIdeal.τ).loc Cert.ProjKvDwRefIdeal.main_arg1)
      ∧ r.2.mem ((c.tc : Thread Cert.ProjKvDwRefIdeal.nD Cert.ProjKvDwRefIdeal.τ).loc Cert.ProjKvDwRefIdeal.main_arg2) = m ((c.tc : Thread Cert.ProjKvDwRefIdeal.nD Cert.ProjKvDwRefIdeal.τ).loc Cert.ProjKvDwRefIdeal.main_arg2)
      ∧ r.2.mem ((c.tc : Thread Cert.ProjKvDwRefIdeal.nD Cert.ProjKvDwRefIdeal.τ).loc Cert.ProjKvDwRefIdeal.main_arg3) = m ((c.tc : Thread Cert.ProjKvDwRefIdeal.nD Cert.ProjKvDwRefIdeal.τ).loc Cert.ProjKvDwRefIdeal.main_arg3))
      ∧ r.2.sem = fun _ => 0)

def quiescent_QUpDx [hQUpDx : Cert.QUpDx.Facts] : Prop :=
  ∀ (m : (ℓ : Loc Cert.QUpDx.nD Cert.QUpDx.τ Cert.QUpDx.sig) → Buf (Elt Bits) ℓ) (g : Dev Cert.QUpDx.nD → PrngReg), Pre_QUpDx m →
    θ_run (Cert.QUpDx.defs (F := Bits)) (onTc (τ := Cert.QUpDx.τ) (Cert.QUpDx.main (F := Bits))) ⟨m, fun _ => 0, g⟩ (fun r => (∀ c : Dev Cert.QUpDx.nD,
      r.2.mem ((c.tc : Thread Cert.QUpDx.nD Cert.QUpDx.τ).loc Cert.QUpDx.main_arg0) = m ((c.tc : Thread Cert.QUpDx.nD Cert.QUpDx.τ).loc Cert.QUpDx.main_arg0)
      ∧ r.2.mem ((c.tc : Thread Cert.QUpDx.nD Cert.QUpDx.τ).loc Cert.QUpDx.main_arg1) = m ((c.tc : Thread Cert.QUpDx.nD Cert.QUpDx.τ).loc Cert.QUpDx.main_arg1)
      ∧ r.2.mem ((c.tc : Thread Cert.QUpDx.nD Cert.QUpDx.τ).loc Cert.QUpDx.main_arg2) = m ((c.tc : Thread Cert.QUpDx.nD Cert.QUpDx.τ).loc Cert.QUpDx.main_arg2)
      ∧ r.2.mem ((c.tc : Thread Cert.QUpDx.nD Cert.QUpDx.τ).loc Cert.QUpDx.main_arg3) = m ((c.tc : Thread Cert.QUpDx.nD Cert.QUpDx.τ).loc Cert.QUpDx.main_arg3))
      ∧ r.2.sem = fun _ => 0)

def quiescent_QUpDxIdeal [hQUpDxIdeal : Cert.QUpDxIdeal.Facts] : Prop :=
  ∀ (m : (ℓ : Loc Cert.QUpDxIdeal.nD Cert.QUpDxIdeal.τ Cert.QUpDxIdeal.sig) → Buf (Elt Ideal) ℓ) (g : Dev Cert.QUpDxIdeal.nD → PrngReg), Pre_QUpDxIdeal m →
    θ_run (Cert.QUpDxIdeal.defs (F := Ideal)) (onTc (τ := Cert.QUpDxIdeal.τ) (Cert.QUpDxIdeal.main (F := Ideal))) ⟨m, fun _ => 0, g⟩ (fun r => (∀ c : Dev Cert.QUpDxIdeal.nD,
      r.2.mem ((c.tc : Thread Cert.QUpDxIdeal.nD Cert.QUpDxIdeal.τ).loc Cert.QUpDxIdeal.main_arg0) = m ((c.tc : Thread Cert.QUpDxIdeal.nD Cert.QUpDxIdeal.τ).loc Cert.QUpDxIdeal.main_arg0)
      ∧ r.2.mem ((c.tc : Thread Cert.QUpDxIdeal.nD Cert.QUpDxIdeal.τ).loc Cert.QUpDxIdeal.main_arg1) = m ((c.tc : Thread Cert.QUpDxIdeal.nD Cert.QUpDxIdeal.τ).loc Cert.QUpDxIdeal.main_arg1)
      ∧ r.2.mem ((c.tc : Thread Cert.QUpDxIdeal.nD Cert.QUpDxIdeal.τ).loc Cert.QUpDxIdeal.main_arg2) = m ((c.tc : Thread Cert.QUpDxIdeal.nD Cert.QUpDxIdeal.τ).loc Cert.QUpDxIdeal.main_arg2)
      ∧ r.2.mem ((c.tc : Thread Cert.QUpDxIdeal.nD Cert.QUpDxIdeal.τ).loc Cert.QUpDxIdeal.main_arg3) = m ((c.tc : Thread Cert.QUpDxIdeal.nD Cert.QUpDxIdeal.τ).loc Cert.QUpDxIdeal.main_arg3))
      ∧ r.2.sem = fun _ => 0)

def quiescent_QUpDxRefIdeal [hQUpDxRefIdeal : Cert.QUpDxRefIdeal.Facts] : Prop :=
  ∀ (m : (ℓ : Loc Cert.QUpDxRefIdeal.nD Cert.QUpDxRefIdeal.τ Cert.QUpDxRefIdeal.sig) → Buf (Elt Ideal) ℓ) (g : Dev Cert.QUpDxRefIdeal.nD → PrngReg), Pre_QUpDxRefIdeal m →
    θ_run (Cert.QUpDxRefIdeal.defs (F := Ideal)) (onTc (τ := Cert.QUpDxRefIdeal.τ) (Cert.QUpDxRefIdeal.main (F := Ideal))) ⟨m, fun _ => 0, g⟩ (fun r => (∀ c : Dev Cert.QUpDxRefIdeal.nD,
      r.2.mem ((c.tc : Thread Cert.QUpDxRefIdeal.nD Cert.QUpDxRefIdeal.τ).loc Cert.QUpDxRefIdeal.main_arg0) = m ((c.tc : Thread Cert.QUpDxRefIdeal.nD Cert.QUpDxRefIdeal.τ).loc Cert.QUpDxRefIdeal.main_arg0)
      ∧ r.2.mem ((c.tc : Thread Cert.QUpDxRefIdeal.nD Cert.QUpDxRefIdeal.τ).loc Cert.QUpDxRefIdeal.main_arg1) = m ((c.tc : Thread Cert.QUpDxRefIdeal.nD Cert.QUpDxRefIdeal.τ).loc Cert.QUpDxRefIdeal.main_arg1)
      ∧ r.2.mem ((c.tc : Thread Cert.QUpDxRefIdeal.nD Cert.QUpDxRefIdeal.τ).loc Cert.QUpDxRefIdeal.main_arg2) = m ((c.tc : Thread Cert.QUpDxRefIdeal.nD Cert.QUpDxRefIdeal.τ).loc Cert.QUpDxRefIdeal.main_arg2)
      ∧ r.2.mem ((c.tc : Thread Cert.QUpDxRefIdeal.nD Cert.QUpDxRefIdeal.τ).loc Cert.QUpDxRefIdeal.main_arg3) = m ((c.tc : Thread Cert.QUpDxRefIdeal.nD Cert.QUpDxRefIdeal.τ).loc Cert.QUpDxRefIdeal.main_arg3))
      ∧ r.2.sem = fun _ => 0)

def quiescent_ModFwd [hModFwd : Cert.ModFwd.Facts] : Prop :=
  ∀ (m : (ℓ : Loc Cert.ModFwd.nD Cert.ModFwd.τ Cert.ModFwd.sig) → Buf (Elt Bits) ℓ) (g : Dev Cert.ModFwd.nD → PrngReg), Pre_ModFwd m →
    θ_run (Cert.ModFwd.defs (F := Bits)) (onTc (τ := Cert.ModFwd.τ) (Cert.ModFwd.main (F := Bits))) ⟨m, fun _ => 0, g⟩ (fun r => (∀ c : Dev Cert.ModFwd.nD,
      r.2.mem ((c.tc : Thread Cert.ModFwd.nD Cert.ModFwd.τ).loc Cert.ModFwd.main_arg0) = m ((c.tc : Thread Cert.ModFwd.nD Cert.ModFwd.τ).loc Cert.ModFwd.main_arg0)
      ∧ r.2.mem ((c.tc : Thread Cert.ModFwd.nD Cert.ModFwd.τ).loc Cert.ModFwd.main_arg1) = m ((c.tc : Thread Cert.ModFwd.nD Cert.ModFwd.τ).loc Cert.ModFwd.main_arg1)
      ∧ r.2.mem ((c.tc : Thread Cert.ModFwd.nD Cert.ModFwd.τ).loc Cert.ModFwd.main_arg2) = m ((c.tc : Thread Cert.ModFwd.nD Cert.ModFwd.τ).loc Cert.ModFwd.main_arg2))
      ∧ r.2.sem = fun _ => 0)

def quiescent_ModFwdIdeal [hModFwdIdeal : Cert.ModFwdIdeal.Facts] : Prop :=
  ∀ (m : (ℓ : Loc Cert.ModFwdIdeal.nD Cert.ModFwdIdeal.τ Cert.ModFwdIdeal.sig) → Buf (Elt Ideal) ℓ) (g : Dev Cert.ModFwdIdeal.nD → PrngReg), Pre_ModFwdIdeal m →
    θ_run (Cert.ModFwdIdeal.defs (F := Ideal)) (onTc (τ := Cert.ModFwdIdeal.τ) (Cert.ModFwdIdeal.main (F := Ideal))) ⟨m, fun _ => 0, g⟩ (fun r => (∀ c : Dev Cert.ModFwdIdeal.nD,
      r.2.mem ((c.tc : Thread Cert.ModFwdIdeal.nD Cert.ModFwdIdeal.τ).loc Cert.ModFwdIdeal.main_arg0) = m ((c.tc : Thread Cert.ModFwdIdeal.nD Cert.ModFwdIdeal.τ).loc Cert.ModFwdIdeal.main_arg0)
      ∧ r.2.mem ((c.tc : Thread Cert.ModFwdIdeal.nD Cert.ModFwdIdeal.τ).loc Cert.ModFwdIdeal.main_arg1) = m ((c.tc : Thread Cert.ModFwdIdeal.nD Cert.ModFwdIdeal.τ).loc Cert.ModFwdIdeal.main_arg1)
      ∧ r.2.mem ((c.tc : Thread Cert.ModFwdIdeal.nD Cert.ModFwdIdeal.τ).loc Cert.ModFwdIdeal.main_arg2) = m ((c.tc : Thread Cert.ModFwdIdeal.nD Cert.ModFwdIdeal.τ).loc Cert.ModFwdIdeal.main_arg2))
      ∧ r.2.sem = fun _ => 0)

def quiescent_ModFwdRefIdeal [hModFwdRefIdeal : Cert.ModFwdRefIdeal.Facts] : Prop :=
  ∀ (m : (ℓ : Loc Cert.ModFwdRefIdeal.nD Cert.ModFwdRefIdeal.τ Cert.ModFwdRefIdeal.sig) → Buf (Elt Ideal) ℓ) (g : Dev Cert.ModFwdRefIdeal.nD → PrngReg), Pre_ModFwdRefIdeal m →
    θ_run (Cert.ModFwdRefIdeal.defs (F := Ideal)) (onTc (τ := Cert.ModFwdRefIdeal.τ) (Cert.ModFwdRefIdeal.main (F := Ideal))) ⟨m, fun _ => 0, g⟩ (fun r => (∀ c : Dev Cert.ModFwdRefIdeal.nD,
      r.2.mem ((c.tc : Thread Cert.ModFwdRefIdeal.nD Cert.ModFwdRefIdeal.τ).loc Cert.ModFwdRefIdeal.main_arg0) = m ((c.tc : Thread Cert.ModFwdRefIdeal.nD Cert.ModFwdRefIdeal.τ).loc Cert.ModFwdRefIdeal.main_arg0)
      ∧ r.2.mem ((c.tc : Thread Cert.ModFwdRefIdeal.nD Cert.ModFwdRefIdeal.τ).loc Cert.ModFwdRefIdeal.main_arg1) = m ((c.tc : Thread Cert.ModFwdRefIdeal.nD Cert.ModFwdRefIdeal.τ).loc Cert.ModFwdRefIdeal.main_arg1)
      ∧ r.2.mem ((c.tc : Thread Cert.ModFwdRefIdeal.nD Cert.ModFwdRefIdeal.τ).loc Cert.ModFwdRefIdeal.main_arg2) = m ((c.tc : Thread Cert.ModFwdRefIdeal.nD Cert.ModFwdRefIdeal.τ).loc Cert.ModFwdRefIdeal.main_arg2))
      ∧ r.2.sem = fun _ => 0)

def quiescent_ModDw [hModDw : Cert.ModDw.Facts] : Prop :=
  ∀ (m : (ℓ : Loc Cert.ModDw.nD Cert.ModDw.τ Cert.ModDw.sig) → Buf (Elt Bits) ℓ) (g : Dev Cert.ModDw.nD → PrngReg), Pre_ModDw m →
    θ_run (Cert.ModDw.defs (F := Bits)) (onTc (τ := Cert.ModDw.τ) (Cert.ModDw.main (F := Bits))) ⟨m, fun _ => 0, g⟩ (fun r => (∀ c : Dev Cert.ModDw.nD,
      r.2.mem ((c.tc : Thread Cert.ModDw.nD Cert.ModDw.τ).loc Cert.ModDw.main_arg0) = m ((c.tc : Thread Cert.ModDw.nD Cert.ModDw.τ).loc Cert.ModDw.main_arg0)
      ∧ r.2.mem ((c.tc : Thread Cert.ModDw.nD Cert.ModDw.τ).loc Cert.ModDw.main_arg1) = m ((c.tc : Thread Cert.ModDw.nD Cert.ModDw.τ).loc Cert.ModDw.main_arg1))
      ∧ r.2.sem = fun _ => 0)

def quiescent_ModDwIdeal [hModDwIdeal : Cert.ModDwIdeal.Facts] : Prop :=
  ∀ (m : (ℓ : Loc Cert.ModDwIdeal.nD Cert.ModDwIdeal.τ Cert.ModDwIdeal.sig) → Buf (Elt Ideal) ℓ) (g : Dev Cert.ModDwIdeal.nD → PrngReg), Pre_ModDwIdeal m →
    θ_run (Cert.ModDwIdeal.defs (F := Ideal)) (onTc (τ := Cert.ModDwIdeal.τ) (Cert.ModDwIdeal.main (F := Ideal))) ⟨m, fun _ => 0, g⟩ (fun r => (∀ c : Dev Cert.ModDwIdeal.nD,
      r.2.mem ((c.tc : Thread Cert.ModDwIdeal.nD Cert.ModDwIdeal.τ).loc Cert.ModDwIdeal.main_arg0) = m ((c.tc : Thread Cert.ModDwIdeal.nD Cert.ModDwIdeal.τ).loc Cert.ModDwIdeal.main_arg0)
      ∧ r.2.mem ((c.tc : Thread Cert.ModDwIdeal.nD Cert.ModDwIdeal.τ).loc Cert.ModDwIdeal.main_arg1) = m ((c.tc : Thread Cert.ModDwIdeal.nD Cert.ModDwIdeal.τ).loc Cert.ModDwIdeal.main_arg1))
      ∧ r.2.sem = fun _ => 0)

def quiescent_ModDwRefIdeal [hModDwRefIdeal : Cert.ModDwRefIdeal.Facts] : Prop :=
  ∀ (m : (ℓ : Loc Cert.ModDwRefIdeal.nD Cert.ModDwRefIdeal.τ Cert.ModDwRefIdeal.sig) → Buf (Elt Ideal) ℓ) (g : Dev Cert.ModDwRefIdeal.nD → PrngReg), Pre_ModDwRefIdeal m →
    θ_run (Cert.ModDwRefIdeal.defs (F := Ideal)) (onTc (τ := Cert.ModDwRefIdeal.τ) (Cert.ModDwRefIdeal.main (F := Ideal))) ⟨m, fun _ => 0, g⟩ (fun r => (∀ c : Dev Cert.ModDwRefIdeal.nD,
      r.2.mem ((c.tc : Thread Cert.ModDwRefIdeal.nD Cert.ModDwRefIdeal.τ).loc Cert.ModDwRefIdeal.main_arg0) = m ((c.tc : Thread Cert.ModDwRefIdeal.nD Cert.ModDwRefIdeal.τ).loc Cert.ModDwRefIdeal.main_arg0)
      ∧ r.2.mem ((c.tc : Thread Cert.ModDwRefIdeal.nD Cert.ModDwRefIdeal.τ).loc Cert.ModDwRefIdeal.main_arg1) = m ((c.tc : Thread Cert.ModDwRefIdeal.nD Cert.ModDwRefIdeal.τ).loc Cert.ModDwRefIdeal.main_arg1))
      ∧ r.2.sem = fun _ => 0)

def quiescent_ModDx [hModDx : Cert.ModDx.Facts] : Prop :=
  ∀ (m : (ℓ : Loc Cert.ModDx.nD Cert.ModDx.τ Cert.ModDx.sig) → Buf (Elt Bits) ℓ) (g : Dev Cert.ModDx.nD → PrngReg), Pre_ModDx m →
    θ_run (Cert.ModDx.defs (F := Bits)) (onTc (τ := Cert.ModDx.τ) (Cert.ModDx.main (F := Bits))) ⟨m, fun _ => 0, g⟩ (fun r => (∀ c : Dev Cert.ModDx.nD,
      r.2.mem ((c.tc : Thread Cert.ModDx.nD Cert.ModDx.τ).loc Cert.ModDx.main_arg0) = m ((c.tc : Thread Cert.ModDx.nD Cert.ModDx.τ).loc Cert.ModDx.main_arg0)
      ∧ r.2.mem ((c.tc : Thread Cert.ModDx.nD Cert.ModDx.τ).loc Cert.ModDx.main_arg1) = m ((c.tc : Thread Cert.ModDx.nD Cert.ModDx.τ).loc Cert.ModDx.main_arg1))
      ∧ r.2.sem = fun _ => 0)

def quiescent_ModDxIdeal [hModDxIdeal : Cert.ModDxIdeal.Facts] : Prop :=
  ∀ (m : (ℓ : Loc Cert.ModDxIdeal.nD Cert.ModDxIdeal.τ Cert.ModDxIdeal.sig) → Buf (Elt Ideal) ℓ) (g : Dev Cert.ModDxIdeal.nD → PrngReg), Pre_ModDxIdeal m →
    θ_run (Cert.ModDxIdeal.defs (F := Ideal)) (onTc (τ := Cert.ModDxIdeal.τ) (Cert.ModDxIdeal.main (F := Ideal))) ⟨m, fun _ => 0, g⟩ (fun r => (∀ c : Dev Cert.ModDxIdeal.nD,
      r.2.mem ((c.tc : Thread Cert.ModDxIdeal.nD Cert.ModDxIdeal.τ).loc Cert.ModDxIdeal.main_arg0) = m ((c.tc : Thread Cert.ModDxIdeal.nD Cert.ModDxIdeal.τ).loc Cert.ModDxIdeal.main_arg0)
      ∧ r.2.mem ((c.tc : Thread Cert.ModDxIdeal.nD Cert.ModDxIdeal.τ).loc Cert.ModDxIdeal.main_arg1) = m ((c.tc : Thread Cert.ModDxIdeal.nD Cert.ModDxIdeal.τ).loc Cert.ModDxIdeal.main_arg1))
      ∧ r.2.sem = fun _ => 0)

def quiescent_ModDxRefIdeal [hModDxRefIdeal : Cert.ModDxRefIdeal.Facts] : Prop :=
  ∀ (m : (ℓ : Loc Cert.ModDxRefIdeal.nD Cert.ModDxRefIdeal.τ Cert.ModDxRefIdeal.sig) → Buf (Elt Ideal) ℓ) (g : Dev Cert.ModDxRefIdeal.nD → PrngReg), Pre_ModDxRefIdeal m →
    θ_run (Cert.ModDxRefIdeal.defs (F := Ideal)) (onTc (τ := Cert.ModDxRefIdeal.τ) (Cert.ModDxRefIdeal.main (F := Ideal))) ⟨m, fun _ => 0, g⟩ (fun r => (∀ c : Dev Cert.ModDxRefIdeal.nD,
      r.2.mem ((c.tc : Thread Cert.ModDxRefIdeal.nD Cert.ModDxRefIdeal.τ).loc Cert.ModDxRefIdeal.main_arg0) = m ((c.tc : Thread Cert.ModDxRefIdeal.nD Cert.ModDxRefIdeal.τ).loc Cert.ModDxRefIdeal.main_arg0)
      ∧ r.2.mem ((c.tc : Thread Cert.ModDxRefIdeal.nD Cert.ModDxRefIdeal.τ).loc Cert.ModDxRefIdeal.main_arg1) = m ((c.tc : Thread Cert.ModDxRefIdeal.nD Cert.ModDxRefIdeal.τ).loc Cert.ModDxRefIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v42_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v42_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_OutDx_OutDxIdeal : Prop :=
  True

def algebraic_OutDxIdeal_OutDxRefIdeal_pre_ffn_out_dx_finite [hOutDxIdeal : Cert.OutDxIdeal.Facts] [hOutDxRefIdeal : Cert.OutDxRefIdeal.Facts] [hPre_ffn_out_dx_finite : Cert.Pre_ffn_out_dx_finite.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal_ffn_out_dx_finite m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)
      ∧ m' ((c.tc : Thread Cert.OutDxRefIdeal.nD Cert.OutDxRefIdeal.τ).loc Cert.OutDxRefIdeal.main_arg2) = m ((c.tc : Thread Cert.OutDxIdeal.nD Cert.OutDxIdeal.τ).loc Cert.OutDxIdeal.main_arg2)
      ∧ m' ((c.tc : Thread Cert.OutDxRefIdeal.nD Cert.OutDxRefIdeal.τ).loc Cert.OutDxRefIdeal.main_arg3) = m ((c.tc : Thread Cert.OutDxIdeal.nD Cert.OutDxIdeal.τ).loc Cert.OutDxIdeal.main_arg3)) →
    ∃ (v0 : (c : Dev Cert.OutDxIdeal.nD) → Buf (Elt Ideal) ((c.tc : Thread Cert.OutDxIdeal.nD Cert.OutDxIdeal.τ).loc Cert.OutDxIdeal.main_v0_0)) (v1 : (c : Dev Cert.OutDxIdeal.nD) → Buf (Elt Ideal) ((c.tc : Thread Cert.OutDxIdeal.nD Cert.OutDxIdeal.τ).loc Cert.OutDxIdeal.main_v0_1)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0_0) = v0 c
          ∧ r.2.mem ((c.tc : Thread Cert.OutDxIdeal.nD Cert.OutDxIdeal.τ).loc Cert.OutDxIdeal.main_v0_1) = v1 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
          ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2)
          ∧ r.2.mem ((c.tc : Thread Cert.OutDxIdeal.nD Cert.OutDxIdeal.τ).loc Cert.OutDxIdeal.main_arg3) = m ((c.tc : Thread Cert.OutDxIdeal.nD Cert.OutDxIdeal.τ).loc Cert.OutDxIdeal.main_arg3))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v11) = v0 c
          ∧ r.2.mem ((c.tc : Thread Cert.OutDxRefIdeal.nD Cert.OutDxRefIdeal.τ).loc Cert.OutDxRefIdeal.main_v12) = v1 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1)
          ∧ r.2.mem ((c.tc : Thread Cert.OutDxRefIdeal.nD Cert.OutDxRefIdeal.τ).loc Cert.OutDxRefIdeal.main_arg2) = m' ((c.tc : Thread Cert.OutDxRefIdeal.nD Cert.OutDxRefIdeal.τ).loc Cert.OutDxRefIdeal.main_arg2)
          ∧ r.2.mem ((c.tc : Thread Cert.OutDxRefIdeal.nD Cert.OutDxRefIdeal.τ).loc Cert.OutDxRefIdeal.main_arg3) = m' ((c.tc : Thread Cert.OutDxRefIdeal.nD Cert.OutDxRefIdeal.τ).loc Cert.OutDxRefIdeal.main_arg3))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)) →
    ∃ (v0 : (c : Dev Cert.InDxIdeal.nD) → Buf (Elt Ideal) ((c.tc : Thread Cert.InDxIdeal.nD Cert.InDxIdeal.τ).loc Cert.InDxIdeal.main_v2)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v2) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v8) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)
      ∧ m' ((c.tc : Thread Cert.InDwRefIdeal.nD Cert.InDwRefIdeal.τ).loc Cert.InDwRefIdeal.main_arg2) = m ((c.tc : Thread Cert.InDwIdeal.nD Cert.InDwIdeal.τ).loc Cert.InDwIdeal.main_arg2)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
          ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v10) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1)
          ∧ r.2.mem ((c.tc : Thread Cert.InDwRefIdeal.nD Cert.InDwRefIdeal.τ).loc Cert.InDwRefIdeal.main_arg2) = m' ((c.tc : Thread Cert.InDwRefIdeal.nD Cert.InDwRefIdeal.τ).loc Cert.InDwRefIdeal.main_arg2))

def preserves_InDwA_InDwAIdeal : Prop :=
  True

def algebraic_InDwAIdeal_InDwARefIdeal [hInDwAIdeal : Cert.InDwAIdeal.Facts] [hInDwARefIdeal : Cert.InDwARefIdeal.Facts] : Prop :=
  ∀ (m : (ℓ : Loc Cert.InDwAIdeal.nD Cert.InDwAIdeal.τ Cert.InDwAIdeal.sig) → Buf (Elt Ideal) ℓ) (g : Dev Cert.InDwAIdeal.nD → PrngReg)
    (m' : (ℓ : Loc Cert.InDwARefIdeal.nD Cert.InDwARefIdeal.τ Cert.InDwARefIdeal.sig) → Buf (Elt Ideal) ℓ) (g' : Dev Cert.InDwARefIdeal.nD → PrngReg), Pre_InDwAIdeal m →
    (∀ c : Dev Cert.InDwAIdeal.nD,
      m' ((c.tc : Thread Cert.InDwARefIdeal.nD Cert.InDwARefIdeal.τ).loc Cert.InDwARefIdeal.main_arg0) = m ((c.tc : Thread Cert.InDwAIdeal.nD Cert.InDwAIdeal.τ).loc Cert.InDwAIdeal.main_arg0)
      ∧ m' ((c.tc : Thread Cert.InDwARefIdeal.nD Cert.InDwARefIdeal.τ).loc Cert.InDwARefIdeal.main_arg1) = m ((c.tc : Thread Cert.InDwAIdeal.nD Cert.InDwAIdeal.τ).loc Cert.InDwAIdeal.main_arg1)
      ∧ m' ((c.tc : Thread Cert.InDwARefIdeal.nD Cert.InDwARefIdeal.τ).loc Cert.InDwARefIdeal.main_arg2) = m ((c.tc : Thread Cert.InDwAIdeal.nD Cert.InDwAIdeal.τ).loc Cert.InDwAIdeal.main_arg2)) →
    ∃ (v0 : (c : Dev Cert.InDwAIdeal.nD) → Buf (Elt Ideal) ((c.tc : Thread Cert.InDwAIdeal.nD Cert.InDwAIdeal.τ).loc Cert.InDwAIdeal.main_v0)),
      θ_run (Cert.InDwAIdeal.defs (F := Ideal)) (onTc (τ := Cert.InDwAIdeal.τ) (Cert.InDwAIdeal.main (F := Ideal))) ⟨m, fun _ => 0, g⟩ (fun r => ∀ c : Dev Cert.InDwAIdeal.nD,
          r.2.mem ((c.tc : Thread Cert.InDwAIdeal.nD Cert.InDwAIdeal.τ).loc Cert.InDwAIdeal.main_v0) = v0 c
          ∧ r.2.mem ((c.tc : Thread Cert.InDwAIdeal.nD Cert.InDwAIdeal.τ).loc Cert.InDwAIdeal.main_arg0) = m ((c.tc : Thread Cert.InDwAIdeal.nD Cert.InDwAIdeal.τ).loc Cert.InDwAIdeal.main_arg0)
          ∧ r.2.mem ((c.tc : Thread Cert.InDwAIdeal.nD Cert.InDwAIdeal.τ).loc Cert.InDwAIdeal.main_arg1) = m ((c.tc : Thread Cert.InDwAIdeal.nD Cert.InDwAIdeal.τ).loc Cert.InDwAIdeal.main_arg1)
          ∧ r.2.mem ((c.tc : Thread Cert.InDwAIdeal.nD Cert.InDwAIdeal.τ).loc Cert.InDwAIdeal.main_arg2) = m ((c.tc : Thread Cert.InDwAIdeal.nD Cert.InDwAIdeal.τ).loc Cert.InDwAIdeal.main_arg2))
      ∧ θ_run (Cert.InDwARefIdeal.defs (F := Ideal)) (onTc (τ := Cert.InDwARefIdeal.τ) (Cert.InDwARefIdeal.main (F := Ideal))) ⟨m', fun _ => 0, g'⟩ (fun r => ∀ c : Dev Cert.InDwARefIdeal.nD,
          r.2.mem ((c.tc : Thread Cert.InDwARefIdeal.nD Cert.InDwARefIdeal.τ).loc Cert.InDwARefIdeal.main_v10) = v0 c
          ∧ r.2.mem ((c.tc : Thread Cert.InDwARefIdeal.nD Cert.InDwARefIdeal.τ).loc Cert.InDwARefIdeal.main_arg0) = m' ((c.tc : Thread Cert.InDwARefIdeal.nD Cert.InDwARefIdeal.τ).loc Cert.InDwARefIdeal.main_arg0)
          ∧ r.2.mem ((c.tc : Thread Cert.InDwARefIdeal.nD Cert.InDwARefIdeal.τ).loc Cert.InDwARefIdeal.main_arg1) = m' ((c.tc : Thread Cert.InDwARefIdeal.nD Cert.InDwARefIdeal.τ).loc Cert.InDwARefIdeal.main_arg1)
          ∧ r.2.mem ((c.tc : Thread Cert.InDwARefIdeal.nD Cert.InDwARefIdeal.τ).loc Cert.InDwARefIdeal.main_arg2) = m' ((c.tc : Thread Cert.InDwARefIdeal.nD Cert.InDwARefIdeal.τ).loc Cert.InDwARefIdeal.main_arg2))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v2_0)) (v1 : (c : Dev Cert.FfnInIdeal.nD) → Buf (Elt Ideal) ((c.tc : Thread Cert.FfnInIdeal.nD Cert.FfnInIdeal.τ).loc Cert.FfnInIdeal.main_v2_1)) (v2 : (c : Dev Cert.FfnInIdeal.nD) → Buf (Elt Ideal) ((c.tc : Thread Cert.FfnInIdeal.nD Cert.FfnInIdeal.τ).loc Cert.FfnInIdeal.main_v2_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v2_0) = v0 c
          ∧ r.2.mem ((c.tc : Thread Cert.FfnInIdeal.nD Cert.FfnInIdeal.τ).loc Cert.FfnInIdeal.main_v2_1) = v1 c
          ∧ r.2.mem ((c.tc : Thread Cert.FfnInIdeal.nD Cert.FfnInIdeal.τ).loc Cert.FfnInIdeal.main_v2_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v5) = v0 c
          ∧ r.2.mem ((c.tc : Thread Cert.FfnInRefIdeal.nD Cert.FfnInRefIdeal.τ).loc Cert.FfnInRefIdeal.main_v6) = v1 c
          ∧ r.2.mem ((c.tc : Thread Cert.FfnInRefIdeal.nD Cert.FfnInRefIdeal.τ).loc Cert.FfnInRefIdeal.main_v9) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v5) = v0 c
          ∧ r.2.mem ((c.tc : Thread Cert.OutProjRefIdeal.nD Cert.OutProjRefIdeal.τ).loc Cert.OutProjRefIdeal.main_v6) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_MergeDx_MergeDxIdeal : Prop :=
  True

def algebraic_MergeDxIdeal_MergeDxRefIdeal [hMergeDxIdeal : Cert.MergeDxIdeal.Facts] [hMergeDxRefIdeal : Cert.MergeDxRefIdeal.Facts] : Prop :=
  ∀ (m : (ℓ : Loc Cert.MergeDxIdeal.nD Cert.MergeDxIdeal.τ Cert.MergeDxIdeal.sig) → Buf (Elt Ideal) ℓ) (g : Dev Cert.MergeDxIdeal.nD → PrngReg)
    (m' : (ℓ : Loc Cert.MergeDxRefIdeal.nD Cert.MergeDxRefIdeal.τ Cert.MergeDxRefIdeal.sig) → Buf (Elt Ideal) ℓ) (g' : Dev Cert.MergeDxRefIdeal.nD → PrngReg), Pre_MergeDxIdeal m →
    (∀ c : Dev Cert.MergeDxIdeal.nD,
      m' ((c.tc : Thread Cert.MergeDxRefIdeal.nD Cert.MergeDxRefIdeal.τ).loc Cert.MergeDxRefIdeal.main_arg0) = m ((c.tc : Thread Cert.MergeDxIdeal.nD Cert.MergeDxIdeal.τ).loc Cert.MergeDxIdeal.main_arg0)
      ∧ m' ((c.tc : Thread Cert.MergeDxRefIdeal.nD Cert.MergeDxRefIdeal.τ).loc Cert.MergeDxRefIdeal.main_arg1) = m ((c.tc : Thread Cert.MergeDxIdeal.nD Cert.MergeDxIdeal.τ).loc Cert.MergeDxIdeal.main_arg1)
      ∧ m' ((c.tc : Thread Cert.MergeDxRefIdeal.nD Cert.MergeDxRefIdeal.τ).loc Cert.MergeDxRefIdeal.main_arg2) = m ((c.tc : Thread Cert.MergeDxIdeal.nD Cert.MergeDxIdeal.τ).loc Cert.MergeDxIdeal.main_arg2)
      ∧ m' ((c.tc : Thread Cert.MergeDxRefIdeal.nD Cert.MergeDxRefIdeal.τ).loc Cert.MergeDxRefIdeal.main_arg3) = m ((c.tc : Thread Cert.MergeDxIdeal.nD Cert.MergeDxIdeal.τ).loc Cert.MergeDxIdeal.main_arg3)
      ∧ m' ((c.tc : Thread Cert.MergeDxRefIdeal.nD Cert.MergeDxRefIdeal.τ).loc Cert.MergeDxRefIdeal.main_arg4) = m ((c.tc : Thread Cert.MergeDxIdeal.nD Cert.MergeDxIdeal.τ).loc Cert.MergeDxIdeal.main_arg4)
      ∧ m' ((c.tc : Thread Cert.MergeDxRefIdeal.nD Cert.MergeDxRefIdeal.τ).loc Cert.MergeDxRefIdeal.main_arg5) = m ((c.tc : Thread Cert.MergeDxIdeal.nD Cert.MergeDxIdeal.τ).loc Cert.MergeDxIdeal.main_arg5)) →
    ∃ (v0 : (c : Dev Cert.MergeDxIdeal.nD) → Buf (Elt Ideal) ((c.tc : Thread Cert.MergeDxIdeal.nD Cert.MergeDxIdeal.τ).loc Cert.MergeDxIdeal.main_v0_0)) (v1 : (c : Dev Cert.MergeDxIdeal.nD) → Buf (Elt Ideal) ((c.tc : Thread Cert.MergeDxIdeal.nD Cert.MergeDxIdeal.τ).loc Cert.MergeDxIdeal.main_v0_1)) (v2 : (c : Dev Cert.MergeDxIdeal.nD) → Buf (Elt Ideal) ((c.tc : Thread Cert.MergeDxIdeal.nD Cert.MergeDxIdeal.τ).loc Cert.MergeDxIdeal.main_v0_2)) (v3 : (c : Dev Cert.MergeDxIdeal.nD) → Buf (Elt Ideal) ((c.tc : Thread Cert.MergeDxIdeal.nD Cert.MergeDxIdeal.τ).loc Cert.MergeDxIdeal.main_v0_3)),
      θ_run (Cert.MergeDxIdeal.defs (F := Ideal)) (onTc (τ := Cert.MergeDxIdeal.τ) (Cert.MergeDxIdeal.main (F := Ideal))) ⟨m, fun _ => 0, g⟩ (fun r => ∀ c : Dev Cert.MergeDxIdeal.nD,
          r.2.mem ((c.tc : Thread Cert.MergeDxIdeal.nD Cert.MergeDxIdeal.τ).loc Cert.MergeDxIdeal.main_v0_0) = v0 c
          ∧ r.2.mem ((c.tc : Thread Cert.MergeDxIdeal.nD Cert.MergeDxIdeal.τ).loc Cert.MergeDxIdeal.main_v0_1) = v1 c
          ∧ r.2.mem ((c.tc : Thread Cert.MergeDxIdeal.nD Cert.MergeDxIdeal.τ).loc Cert.MergeDxIdeal.main_v0_2) = v2 c
          ∧ r.2.mem ((c.tc : Thread Cert.MergeDxIdeal.nD Cert.MergeDxIdeal.τ).loc Cert.MergeDxIdeal.main_v0_3) = v3 c
          ∧ r.2.mem ((c.tc : Thread Cert.MergeDxIdeal.nD Cert.MergeDxIdeal.τ).loc Cert.MergeDxIdeal.main_arg0) = m ((c.tc : Thread Cert.MergeDxIdeal.nD Cert.MergeDxIdeal.τ).loc Cert.MergeDxIdeal.main_arg0)
          ∧ r.2.mem ((c.tc : Thread Cert.MergeDxIdeal.nD Cert.MergeDxIdeal.τ).loc Cert.MergeDxIdeal.main_arg1) = m ((c.tc : Thread Cert.MergeDxIdeal.nD Cert.MergeDxIdeal.τ).loc Cert.MergeDxIdeal.main_arg1)
          ∧ r.2.mem ((c.tc : Thread Cert.MergeDxIdeal.nD Cert.MergeDxIdeal.τ).loc Cert.MergeDxIdeal.main_arg2) = m ((c.tc : Thread Cert.MergeDxIdeal.nD Cert.MergeDxIdeal.τ).loc Cert.MergeDxIdeal.main_arg2)
          ∧ r.2.mem ((c.tc : Thread Cert.MergeDxIdeal.nD Cert.MergeDxIdeal.τ).loc Cert.MergeDxIdeal.main_arg3) = m ((c.tc : Thread Cert.MergeDxIdeal.nD Cert.MergeDxIdeal.τ).loc Cert.MergeDxIdeal.main_arg3)
          ∧ r.2.mem ((c.tc : Thread Cert.MergeDxIdeal.nD Cert.MergeDxIdeal.τ).loc Cert.MergeDxIdeal.main_arg4) = m ((c.tc : Thread Cert.MergeDxIdeal.nD Cert.MergeDxIdeal.τ).loc Cert.MergeDxIdeal.main_arg4)
          ∧ r.2.mem ((c.tc : Thread Cert.MergeDxIdeal.nD Cert.MergeDxIdeal.τ).loc Cert.MergeDxIdeal.main_arg5) = m ((c.tc : Thread Cert.MergeDxIdeal.nD Cert.MergeDxIdeal.τ).loc Cert.MergeDxIdeal.main_arg5))
      ∧ θ_run (Cert.MergeDxRefIdeal.defs (F := Ideal)) (onTc (τ := Cert.MergeDxRefIdeal.τ) (Cert.MergeDxRefIdeal.main (F := Ideal))) ⟨m', fun _ => 0, g'⟩ (fun r => ∀ c : Dev Cert.MergeDxRefIdeal.nD,
          r.2.mem ((c.tc : Thread Cert.MergeDxRefIdeal.nD Cert.MergeDxRefIdeal.τ).loc Cert.MergeDxRefIdeal.main_v35) = v0 c
          ∧ r.2.mem ((c.tc : Thread Cert.MergeDxRefIdeal.nD Cert.MergeDxRefIdeal.τ).loc Cert.MergeDxRefIdeal.main_v36) = v1 c
          ∧ r.2.mem ((c.tc : Thread Cert.MergeDxRefIdeal.nD Cert.MergeDxRefIdeal.τ).loc Cert.MergeDxRefIdeal.main_v37) = v2 c
          ∧ r.2.mem ((c.tc : Thread Cert.MergeDxRefIdeal.nD Cert.MergeDxRefIdeal.τ).loc Cert.MergeDxRefIdeal.main_v38) = v3 c
          ∧ r.2.mem ((c.tc : Thread Cert.MergeDxRefIdeal.nD Cert.MergeDxRefIdeal.τ).loc Cert.MergeDxRefIdeal.main_arg0) = m' ((c.tc : Thread Cert.MergeDxRefIdeal.nD Cert.MergeDxRefIdeal.τ).loc Cert.MergeDxRefIdeal.main_arg0)
          ∧ r.2.mem ((c.tc : Thread Cert.MergeDxRefIdeal.nD Cert.MergeDxRefIdeal.τ).loc Cert.MergeDxRefIdeal.main_arg1) = m' ((c.tc : Thread Cert.MergeDxRefIdeal.nD Cert.MergeDxRefIdeal.τ).loc Cert.MergeDxRefIdeal.main_arg1)
          ∧ r.2.mem ((c.tc : Thread Cert.MergeDxRefIdeal.nD Cert.MergeDxRefIdeal.τ).loc Cert.MergeDxRefIdeal.main_arg2) = m' ((c.tc : Thread Cert.MergeDxRefIdeal.nD Cert.MergeDxRefIdeal.τ).loc Cert.MergeDxRefIdeal.main_arg2)
          ∧ r.2.mem ((c.tc : Thread Cert.MergeDxRefIdeal.nD Cert.MergeDxRefIdeal.τ).loc Cert.MergeDxRefIdeal.main_arg3) = m' ((c.tc : Thread Cert.MergeDxRefIdeal.nD Cert.MergeDxRefIdeal.τ).loc Cert.MergeDxRefIdeal.main_arg3)
          ∧ r.2.mem ((c.tc : Thread Cert.MergeDxRefIdeal.nD Cert.MergeDxRefIdeal.τ).loc Cert.MergeDxRefIdeal.main_arg4) = m' ((c.tc : Thread Cert.MergeDxRefIdeal.nD Cert.MergeDxRefIdeal.τ).loc Cert.MergeDxRefIdeal.main_arg4)
          ∧ r.2.mem ((c.tc : Thread Cert.MergeDxRefIdeal.nD Cert.MergeDxRefIdeal.τ).loc Cert.MergeDxRefIdeal.main_arg5) = m' ((c.tc : Thread Cert.MergeDxRefIdeal.nD Cert.MergeDxRefIdeal.τ).loc Cert.MergeDxRefIdeal.main_arg5))

def preserves_MergeDw_MergeDwIdeal : Prop :=
  True

def algebraic_MergeDwIdeal_MergeDwRefIdeal [hMergeDwIdeal : Cert.MergeDwIdeal.Facts] [hMergeDwRefIdeal : Cert.MergeDwRefIdeal.Facts] : Prop :=
  ∀ (m : (ℓ : Loc Cert.MergeDwIdeal.nD Cert.MergeDwIdeal.τ Cert.MergeDwIdeal.sig) → Buf (Elt Ideal) ℓ) (g : Dev Cert.MergeDwIdeal.nD → PrngReg)
    (m' : (ℓ : Loc Cert.MergeDwRefIdeal.nD Cert.MergeDwRefIdeal.τ Cert.MergeDwRefIdeal.sig) → Buf (Elt Ideal) ℓ) (g' : Dev Cert.MergeDwRefIdeal.nD → PrngReg), Pre_MergeDwIdeal m →
    (∀ c : Dev Cert.MergeDwIdeal.nD,
      m' ((c.tc : Thread Cert.MergeDwRefIdeal.nD Cert.MergeDwRefIdeal.τ).loc Cert.MergeDwRefIdeal.main_arg0) = m ((c.tc : Thread Cert.MergeDwIdeal.nD Cert.MergeDwIdeal.τ).loc Cert.MergeDwIdeal.main_arg0)
      ∧ m' ((c.tc : Thread Cert.MergeDwRefIdeal.nD Cert.MergeDwRefIdeal.τ).loc Cert.MergeDwRefIdeal.main_arg1) = m ((c.tc : Thread Cert.MergeDwIdeal.nD Cert.MergeDwIdeal.τ).loc Cert.MergeDwIdeal.main_arg1)) →
    ∃ (v0 : (c : Dev Cert.MergeDwIdeal.nD) → Buf (Elt Ideal) ((c.tc : Thread Cert.MergeDwIdeal.nD Cert.MergeDwIdeal.τ).loc Cert.MergeDwIdeal.main_v0)),
      θ_run (Cert.MergeDwIdeal.defs (F := Ideal)) (onTc (τ := Cert.MergeDwIdeal.τ) (Cert.MergeDwIdeal.main (F := Ideal))) ⟨m, fun _ => 0, g⟩ (fun r => ∀ c : Dev Cert.MergeDwIdeal.nD,
          r.2.mem ((c.tc : Thread Cert.MergeDwIdeal.nD Cert.MergeDwIdeal.τ).loc Cert.MergeDwIdeal.main_v0) = v0 c
          ∧ r.2.mem ((c.tc : Thread Cert.MergeDwIdeal.nD Cert.MergeDwIdeal.τ).loc Cert.MergeDwIdeal.main_arg0) = m ((c.tc : Thread Cert.MergeDwIdeal.nD Cert.MergeDwIdeal.τ).loc Cert.MergeDwIdeal.main_arg0)
          ∧ r.2.mem ((c.tc : Thread Cert.MergeDwIdeal.nD Cert.MergeDwIdeal.τ).loc Cert.MergeDwIdeal.main_arg1) = m ((c.tc : Thread Cert.MergeDwIdeal.nD Cert.MergeDwIdeal.τ).loc Cert.MergeDwIdeal.main_arg1))
      ∧ θ_run (Cert.MergeDwRefIdeal.defs (F := Ideal)) (onTc (τ := Cert.MergeDwRefIdeal.τ) (Cert.MergeDwRefIdeal.main (F := Ideal))) ⟨m', fun _ => 0, g'⟩ (fun r => ∀ c : Dev Cert.MergeDwRefIdeal.nD,
          r.2.mem ((c.tc : Thread Cert.MergeDwRefIdeal.nD Cert.MergeDwRefIdeal.τ).loc Cert.MergeDwRefIdeal.main_v6) = v0 c
          ∧ r.2.mem ((c.tc : Thread Cert.MergeDwRefIdeal.nD Cert.MergeDwRefIdeal.τ).loc Cert.MergeDwRefIdeal.main_arg0) = m' ((c.tc : Thread Cert.MergeDwRefIdeal.nD Cert.MergeDwRefIdeal.τ).loc Cert.MergeDwRefIdeal.main_arg0)
          ∧ r.2.mem ((c.tc : Thread Cert.MergeDwRefIdeal.nD Cert.MergeDwRefIdeal.τ).loc Cert.MergeDwRefIdeal.main_arg1) = m' ((c.tc : Thread Cert.MergeDwRefIdeal.nD Cert.MergeDwRefIdeal.τ).loc Cert.MergeDwRefIdeal.main_arg1))

def preserves_BrAttn_BrAttnIdeal : Prop :=
  True

def algebraic_BrAttnIdeal_BrAttnRefIdeal [hBrAttnIdeal : Cert.BrAttnIdeal.Facts] [hBrAttnRefIdeal : Cert.BrAttnRefIdeal.Facts] : Prop :=
  ∀ (m : (ℓ : Loc Cert.BrAttnIdeal.nD Cert.BrAttnIdeal.τ Cert.BrAttnIdeal.sig) → Buf (Elt Ideal) ℓ) (g : Dev Cert.BrAttnIdeal.nD → PrngReg)
    (m' : (ℓ : Loc Cert.BrAttnRefIdeal.nD Cert.BrAttnRefIdeal.τ Cert.BrAttnRefIdeal.sig) → Buf (Elt Ideal) ℓ) (g' : Dev Cert.BrAttnRefIdeal.nD → PrngReg), Pre_BrAttnIdeal m →
    (∀ c : Dev Cert.BrAttnIdeal.nD,
      m' ((c.tc : Thread Cert.BrAttnRefIdeal.nD Cert.BrAttnRefIdeal.τ).loc Cert.BrAttnRefIdeal.main_arg0) = m ((c.tc : Thread Cert.BrAttnIdeal.nD Cert.BrAttnIdeal.τ).loc Cert.BrAttnIdeal.main_arg0)
      ∧ m' ((c.tc : Thread Cert.BrAttnRefIdeal.nD Cert.BrAttnRefIdeal.τ).loc Cert.BrAttnRefIdeal.main_arg1) = m ((c.tc : Thread Cert.BrAttnIdeal.nD Cert.BrAttnIdeal.τ).loc Cert.BrAttnIdeal.main_arg1)) →
    ∃ (v0 : (c : Dev Cert.BrAttnIdeal.nD) → Buf (Elt Ideal) ((c.tc : Thread Cert.BrAttnIdeal.nD Cert.BrAttnIdeal.τ).loc Cert.BrAttnIdeal.main_v0)),
      θ_run (Cert.BrAttnIdeal.defs (F := Ideal)) (onTc (τ := Cert.BrAttnIdeal.τ) (Cert.BrAttnIdeal.main (F := Ideal))) ⟨m, fun _ => 0, g⟩ (fun r => ∀ c : Dev Cert.BrAttnIdeal.nD,
          r.2.mem ((c.tc : Thread Cert.BrAttnIdeal.nD Cert.BrAttnIdeal.τ).loc Cert.BrAttnIdeal.main_v0) = v0 c
          ∧ r.2.mem ((c.tc : Thread Cert.BrAttnIdeal.nD Cert.BrAttnIdeal.τ).loc Cert.BrAttnIdeal.main_arg0) = m ((c.tc : Thread Cert.BrAttnIdeal.nD Cert.BrAttnIdeal.τ).loc Cert.BrAttnIdeal.main_arg0)
          ∧ r.2.mem ((c.tc : Thread Cert.BrAttnIdeal.nD Cert.BrAttnIdeal.τ).loc Cert.BrAttnIdeal.main_arg1) = m ((c.tc : Thread Cert.BrAttnIdeal.nD Cert.BrAttnIdeal.τ).loc Cert.BrAttnIdeal.main_arg1))
      ∧ θ_run (Cert.BrAttnRefIdeal.defs (F := Ideal)) (onTc (τ := Cert.BrAttnRefIdeal.τ) (Cert.BrAttnRefIdeal.main (F := Ideal))) ⟨m', fun _ => 0, g'⟩ (fun r => ∀ c : Dev Cert.BrAttnRefIdeal.nD,
          r.2.mem ((c.tc : Thread Cert.BrAttnRefIdeal.nD Cert.BrAttnRefIdeal.τ).loc Cert.BrAttnRefIdeal.main_v3) = v0 c
          ∧ r.2.mem ((c.tc : Thread Cert.BrAttnRefIdeal.nD Cert.BrAttnRefIdeal.τ).loc Cert.BrAttnRefIdeal.main_arg0) = m' ((c.tc : Thread Cert.BrAttnRefIdeal.nD Cert.BrAttnRefIdeal.τ).loc Cert.BrAttnRefIdeal.main_arg0)
          ∧ r.2.mem ((c.tc : Thread Cert.BrAttnRefIdeal.nD Cert.BrAttnRefIdeal.τ).loc Cert.BrAttnRefIdeal.main_arg1) = m' ((c.tc : Thread Cert.BrAttnRefIdeal.nD Cert.BrAttnRefIdeal.τ).loc Cert.BrAttnRefIdeal.main_arg1))

def preserves_BrSgu_BrSguIdeal : Prop :=
  True

def algebraic_BrSguIdeal_BrSguRefIdeal [hBrSguIdeal : Cert.BrSguIdeal.Facts] [hBrSguRefIdeal : Cert.BrSguRefIdeal.Facts] : Prop :=
  ∀ (m : (ℓ : Loc Cert.BrSguIdeal.nD Cert.BrSguIdeal.τ Cert.BrSguIdeal.sig) → Buf (Elt Ideal) ℓ) (g : Dev Cert.BrSguIdeal.nD → PrngReg)
    (m' : (ℓ : Loc Cert.BrSguRefIdeal.nD Cert.BrSguRefIdeal.τ Cert.BrSguRefIdeal.sig) → Buf (Elt Ideal) ℓ) (g' : Dev Cert.BrSguRefIdeal.nD → PrngReg), Pre_BrSguIdeal m →
    (∀ c : Dev Cert.BrSguIdeal.nD,
      m' ((c.tc : Thread Cert.BrSguRefIdeal.nD Cert.BrSguRefIdeal.τ).loc Cert.BrSguRefIdeal.main_arg0) = m ((c.tc : Thread Cert.BrSguIdeal.nD Cert.BrSguIdeal.τ).loc Cert.BrSguIdeal.main_arg0)
      ∧ m' ((c.tc : Thread Cert.BrSguRefIdeal.nD Cert.BrSguRefIdeal.τ).loc Cert.BrSguRefIdeal.main_arg1) = m ((c.tc : Thread Cert.BrSguIdeal.nD Cert.BrSguIdeal.τ).loc Cert.BrSguIdeal.main_arg1)
      ∧ m' ((c.tc : Thread Cert.BrSguRefIdeal.nD Cert.BrSguRefIdeal.τ).loc Cert.BrSguRefIdeal.main_arg2) = m ((c.tc : Thread Cert.BrSguIdeal.nD Cert.BrSguIdeal.τ).loc Cert.BrSguIdeal.main_arg2)
      ∧ m' ((c.tc : Thread Cert.BrSguRefIdeal.nD Cert.BrSguRefIdeal.τ).loc Cert.BrSguRefIdeal.main_arg3) = m ((c.tc : Thread Cert.BrSguIdeal.nD Cert.BrSguIdeal.τ).loc Cert.BrSguIdeal.main_arg3)
      ∧ m' ((c.tc : Thread Cert.BrSguRefIdeal.nD Cert.BrSguRefIdeal.τ).loc Cert.BrSguRefIdeal.main_arg4) = m ((c.tc : Thread Cert.BrSguIdeal.nD Cert.BrSguIdeal.τ).loc Cert.BrSguIdeal.main_arg4)) →
    ∃ (v0 : (c : Dev Cert.BrSguIdeal.nD) → Buf (Elt Ideal) ((c.tc : Thread Cert.BrSguIdeal.nD Cert.BrSguIdeal.τ).loc Cert.BrSguIdeal.main_v0_0)) (v1 : (c : Dev Cert.BrSguIdeal.nD) → Buf (Elt Ideal) ((c.tc : Thread Cert.BrSguIdeal.nD Cert.BrSguIdeal.τ).loc Cert.BrSguIdeal.main_v0_1)),
      θ_run (Cert.BrSguIdeal.defs (F := Ideal)) (onTc (τ := Cert.BrSguIdeal.τ) (Cert.BrSguIdeal.main (F := Ideal))) ⟨m, fun _ => 0, g⟩ (fun r => ∀ c : Dev Cert.BrSguIdeal.nD,
          r.2.mem ((c.tc : Thread Cert.BrSguIdeal.nD Cert.BrSguIdeal.τ).loc Cert.BrSguIdeal.main_v0_0) = v0 c
          ∧ r.2.mem ((c.tc : Thread Cert.BrSguIdeal.nD Cert.BrSguIdeal.τ).loc Cert.BrSguIdeal.main_v0_1) = v1 c
          ∧ r.2.mem ((c.tc : Thread Cert.BrSguIdeal.nD Cert.BrSguIdeal.τ).loc Cert.BrSguIdeal.main_arg0) = m ((c.tc : Thread Cert.BrSguIdeal.nD Cert.BrSguIdeal.τ).loc Cert.BrSguIdeal.main_arg0)
          ∧ r.2.mem ((c.tc : Thread Cert.BrSguIdeal.nD Cert.BrSguIdeal.τ).loc Cert.BrSguIdeal.main_arg1) = m ((c.tc : Thread Cert.BrSguIdeal.nD Cert.BrSguIdeal.τ).loc Cert.BrSguIdeal.main_arg1)
          ∧ r.2.mem ((c.tc : Thread Cert.BrSguIdeal.nD Cert.BrSguIdeal.τ).loc Cert.BrSguIdeal.main_arg2) = m ((c.tc : Thread Cert.BrSguIdeal.nD Cert.BrSguIdeal.τ).loc Cert.BrSguIdeal.main_arg2)
          ∧ r.2.mem ((c.tc : Thread Cert.BrSguIdeal.nD Cert.BrSguIdeal.τ).loc Cert.BrSguIdeal.main_arg3) = m ((c.tc : Thread Cert.BrSguIdeal.nD Cert.BrSguIdeal.τ).loc Cert.BrSguIdeal.main_arg3)
          ∧ r.2.mem ((c.tc : Thread Cert.BrSguIdeal.nD Cert.BrSguIdeal.τ).loc Cert.BrSguIdeal.main_arg4) = m ((c.tc : Thread Cert.BrSguIdeal.nD Cert.BrSguIdeal.τ).loc Cert.BrSguIdeal.main_arg4))
      ∧ θ_run (Cert.BrSguRefIdeal.defs (F := Ideal)) (onTc (τ := Cert.BrSguRefIdeal.τ) (Cert.BrSguRefIdeal.main (F := Ideal))) ⟨m', fun _ => 0, g'⟩ (fun r => ∀ c : Dev Cert.BrSguRefIdeal.nD,
          r.2.mem ((c.tc : Thread Cert.BrSguRefIdeal.nD Cert.BrSguRefIdeal.τ).loc Cert.BrSguRefIdeal.main_v17) = v0 c
          ∧ r.2.mem ((c.tc : Thread Cert.BrSguRefIdeal.nD Cert.BrSguRefIdeal.τ).loc Cert.BrSguRefIdeal.main_v22) = v1 c
          ∧ r.2.mem ((c.tc : Thread Cert.BrSguRefIdeal.nD Cert.BrSguRefIdeal.τ).loc Cert.BrSguRefIdeal.main_arg0) = m' ((c.tc : Thread Cert.BrSguRefIdeal.nD Cert.BrSguRefIdeal.τ).loc Cert.BrSguRefIdeal.main_arg0)
          ∧ r.2.mem ((c.tc : Thread Cert.BrSguRefIdeal.nD Cert.BrSguRefIdeal.τ).loc Cert.BrSguRefIdeal.main_arg1) = m' ((c.tc : Thread Cert.BrSguRefIdeal.nD Cert.BrSguRefIdeal.τ).loc Cert.BrSguRefIdeal.main_arg1)
          ∧ r.2.mem ((c.tc : Thread Cert.BrSguRefIdeal.nD Cert.BrSguRefIdeal.τ).loc Cert.BrSguRefIdeal.main_arg2) = m' ((c.tc : Thread Cert.BrSguRefIdeal.nD Cert.BrSguRefIdeal.τ).loc Cert.BrSguRefIdeal.main_arg2)
          ∧ r.2.mem ((c.tc : Thread Cert.BrSguRefIdeal.nD Cert.BrSguRefIdeal.τ).loc Cert.BrSguRefIdeal.main_arg3) = m' ((c.tc : Thread Cert.BrSguRefIdeal.nD Cert.BrSguRefIdeal.τ).loc Cert.BrSguRefIdeal.main_arg3)
          ∧ r.2.mem ((c.tc : Thread Cert.BrSguRefIdeal.nD Cert.BrSguRefIdeal.τ).loc Cert.BrSguRefIdeal.main_arg4) = m' ((c.tc : Thread Cert.BrSguRefIdeal.nD Cert.BrSguRefIdeal.τ).loc Cert.BrSguRefIdeal.main_arg4))

def preserves_BrDx_BrDxIdeal : Prop :=
  True

def algebraic_BrDxIdeal_BrDxRefIdeal [hBrDxIdeal : Cert.BrDxIdeal.Facts] [hBrDxRefIdeal : Cert.BrDxRefIdeal.Facts] : Prop :=
  ∀ (m : (ℓ : Loc Cert.BrDxIdeal.nD Cert.BrDxIdeal.τ Cert.BrDxIdeal.sig) → Buf (Elt Ideal) ℓ) (g : Dev Cert.BrDxIdeal.nD → PrngReg)
    (m' : (ℓ : Loc Cert.BrDxRefIdeal.nD Cert.BrDxRefIdeal.τ Cert.BrDxRefIdeal.sig) → Buf (Elt Ideal) ℓ) (g' : Dev Cert.BrDxRefIdeal.nD → PrngReg), Pre_BrDxIdeal m →
    (∀ c : Dev Cert.BrDxIdeal.nD,
      m' ((c.tc : Thread Cert.BrDxRefIdeal.nD Cert.BrDxRefIdeal.τ).loc Cert.BrDxRefIdeal.main_arg0) = m ((c.tc : Thread Cert.BrDxIdeal.nD Cert.BrDxIdeal.τ).loc Cert.BrDxIdeal.main_arg0)
      ∧ m' ((c.tc : Thread Cert.BrDxRefIdeal.nD Cert.BrDxRefIdeal.τ).loc Cert.BrDxRefIdeal.main_arg1) = m ((c.tc : Thread Cert.BrDxIdeal.nD Cert.BrDxIdeal.τ).loc Cert.BrDxIdeal.main_arg1)) →
    ∃ (v0 : (c : Dev Cert.BrDxIdeal.nD) → Buf (Elt Ideal) ((c.tc : Thread Cert.BrDxIdeal.nD Cert.BrDxIdeal.τ).loc Cert.BrDxIdeal.main_v0)),
      θ_run (Cert.BrDxIdeal.defs (F := Ideal)) (onTc (τ := Cert.BrDxIdeal.τ) (Cert.BrDxIdeal.main (F := Ideal))) ⟨m, fun _ => 0, g⟩ (fun r => ∀ c : Dev Cert.BrDxIdeal.nD,
          r.2.mem ((c.tc : Thread Cert.BrDxIdeal.nD Cert.BrDxIdeal.τ).loc Cert.BrDxIdeal.main_v0) = v0 c
          ∧ r.2.mem ((c.tc : Thread Cert.BrDxIdeal.nD Cert.BrDxIdeal.τ).loc Cert.BrDxIdeal.main_arg0) = m ((c.tc : Thread Cert.BrDxIdeal.nD Cert.BrDxIdeal.τ).loc Cert.BrDxIdeal.main_arg0)
          ∧ r.2.mem ((c.tc : Thread Cert.BrDxIdeal.nD Cert.BrDxIdeal.τ).loc Cert.BrDxIdeal.main_arg1) = m ((c.tc : Thread Cert.BrDxIdeal.nD Cert.BrDxIdeal.τ).loc Cert.BrDxIdeal.main_arg1))
      ∧ θ_run (Cert.BrDxRefIdeal.defs (F := Ideal)) (onTc (τ := Cert.BrDxRefIdeal.τ) (Cert.BrDxRefIdeal.main (F := Ideal))) ⟨m', fun _ => 0, g'⟩ (fun r => ∀ c : Dev Cert.BrDxRefIdeal.nD,
          r.2.mem ((c.tc : Thread Cert.BrDxRefIdeal.nD Cert.BrDxRefIdeal.τ).loc Cert.BrDxRefIdeal.main_v5) = v0 c
          ∧ r.2.mem ((c.tc : Thread Cert.BrDxRefIdeal.nD Cert.BrDxRefIdeal.τ).loc Cert.BrDxRefIdeal.main_arg0) = m' ((c.tc : Thread Cert.BrDxRefIdeal.nD Cert.BrDxRefIdeal.τ).loc Cert.BrDxRefIdeal.main_arg0)
          ∧ r.2.mem ((c.tc : Thread Cert.BrDxRefIdeal.nD Cert.BrDxRefIdeal.τ).loc Cert.BrDxRefIdeal.main_arg1) = m' ((c.tc : Thread Cert.BrDxRefIdeal.nD Cert.BrDxRefIdeal.τ).loc Cert.BrDxRefIdeal.main_arg1))

def preserves_BrDw_BrDwIdeal : Prop :=
  True

def algebraic_BrDwIdeal_BrDwRefIdeal [hBrDwIdeal : Cert.BrDwIdeal.Facts] [hBrDwRefIdeal : Cert.BrDwRefIdeal.Facts] : Prop :=
  ∀ (m : (ℓ : Loc Cert.BrDwIdeal.nD Cert.BrDwIdeal.τ Cert.BrDwIdeal.sig) → Buf (Elt Ideal) ℓ) (g : Dev Cert.BrDwIdeal.nD → PrngReg)
    (m' : (ℓ : Loc Cert.BrDwRefIdeal.nD Cert.BrDwRefIdeal.τ Cert.BrDwRefIdeal.sig) → Buf (Elt Ideal) ℓ) (g' : Dev Cert.BrDwRefIdeal.nD → PrngReg), Pre_BrDwIdeal m →
    (∀ c : Dev Cert.BrDwIdeal.nD,
      m' ((c.tc : Thread Cert.BrDwRefIdeal.nD Cert.BrDwRefIdeal.τ).loc Cert.BrDwRefIdeal.main_arg0) = m ((c.tc : Thread Cert.BrDwIdeal.nD Cert.BrDwIdeal.τ).loc Cert.BrDwIdeal.main_arg0)
      ∧ m' ((c.tc : Thread Cert.BrDwRefIdeal.nD Cert.BrDwRefIdeal.τ).loc Cert.BrDwRefIdeal.main_arg1) = m ((c.tc : Thread Cert.BrDwIdeal.nD Cert.BrDwIdeal.τ).loc Cert.BrDwIdeal.main_arg1)) →
    ∃ (v0 : (c : Dev Cert.BrDwIdeal.nD) → Buf (Elt Ideal) ((c.tc : Thread Cert.BrDwIdeal.nD Cert.BrDwIdeal.τ).loc Cert.BrDwIdeal.main_v0)),
      θ_run (Cert.BrDwIdeal.defs (F := Ideal)) (onTc (τ := Cert.BrDwIdeal.τ) (Cert.BrDwIdeal.main (F := Ideal))) ⟨m, fun _ => 0, g⟩ (fun r => ∀ c : Dev Cert.BrDwIdeal.nD,
          r.2.mem ((c.tc : Thread Cert.BrDwIdeal.nD Cert.BrDwIdeal.τ).loc Cert.BrDwIdeal.main_v0) = v0 c
          ∧ r.2.mem ((c.tc : Thread Cert.BrDwIdeal.nD Cert.BrDwIdeal.τ).loc Cert.BrDwIdeal.main_arg0) = m ((c.tc : Thread Cert.BrDwIdeal.nD Cert.BrDwIdeal.τ).loc Cert.BrDwIdeal.main_arg0)
          ∧ r.2.mem ((c.tc : Thread Cert.BrDwIdeal.nD Cert.BrDwIdeal.τ).loc Cert.BrDwIdeal.main_arg1) = m ((c.tc : Thread Cert.BrDwIdeal.nD Cert.BrDwIdeal.τ).loc Cert.BrDwIdeal.main_arg1))
      ∧ θ_run (Cert.BrDwRefIdeal.defs (F := Ideal)) (onTc (τ := Cert.BrDwRefIdeal.τ) (Cert.BrDwRefIdeal.main (F := Ideal))) ⟨m', fun _ => 0, g'⟩ (fun r => ∀ c : Dev Cert.BrDwRefIdeal.nD,
          r.2.mem ((c.tc : Thread Cert.BrDwRefIdeal.nD Cert.BrDwRefIdeal.τ).loc Cert.BrDwRefIdeal.main_v8) = v0 c
          ∧ r.2.mem ((c.tc : Thread Cert.BrDwRefIdeal.nD Cert.BrDwRefIdeal.τ).loc Cert.BrDwRefIdeal.main_arg0) = m' ((c.tc : Thread Cert.BrDwRefIdeal.nD Cert.BrDwRefIdeal.τ).loc Cert.BrDwRefIdeal.main_arg0)
          ∧ r.2.mem ((c.tc : Thread Cert.BrDwRefIdeal.nD Cert.BrDwRefIdeal.τ).loc Cert.BrDwRefIdeal.main_arg1) = m' ((c.tc : Thread Cert.BrDwRefIdeal.nD Cert.BrDwRefIdeal.τ).loc Cert.BrDwRefIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v2_0)) (v1 : (c : Dev Cert.GatesIdeal.nD) → Buf (Elt Ideal) ((c.tc : Thread Cert.GatesIdeal.nD Cert.GatesIdeal.τ).loc Cert.GatesIdeal.main_v2_1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v2_0) = v0 c
          ∧ r.2.mem ((c.tc : Thread Cert.GatesIdeal.nD Cert.GatesIdeal.τ).loc Cert.GatesIdeal.main_v2_1) = v1 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v6) = v0 c
          ∧ r.2.mem ((c.tc : Thread Cert.GatesRefIdeal.nD Cert.GatesRefIdeal.τ).loc Cert.GatesRefIdeal.main_v7) = v1 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Uv_UvIdeal : Prop :=
  True

def algebraic_UvIdeal_UvRefIdeal [hUvIdeal : Cert.UvIdeal.Facts] [hUvRefIdeal : Cert.UvRefIdeal.Facts] : Prop :=
  ∀ (m : (ℓ : Loc Cert.UvIdeal.nD Cert.UvIdeal.τ Cert.UvIdeal.sig) → Buf (Elt Ideal) ℓ) (g : Dev Cert.UvIdeal.nD → PrngReg)
    (m' : (ℓ : Loc Cert.UvRefIdeal.nD Cert.UvRefIdeal.τ Cert.UvRefIdeal.sig) → Buf (Elt Ideal) ℓ) (g' : Dev Cert.UvRefIdeal.nD → PrngReg), Pre_UvIdeal m →
    (∀ c : Dev Cert.UvIdeal.nD,
      m' ((c.tc : Thread Cert.UvRefIdeal.nD Cert.UvRefIdeal.τ).loc Cert.UvRefIdeal.main_arg0) = m ((c.tc : Thread Cert.UvIdeal.nD Cert.UvIdeal.τ).loc Cert.UvIdeal.main_arg0)
      ∧ m' ((c.tc : Thread Cert.UvRefIdeal.nD Cert.UvRefIdeal.τ).loc Cert.UvRefIdeal.main_arg1) = m ((c.tc : Thread Cert.UvIdeal.nD Cert.UvIdeal.τ).loc Cert.UvIdeal.main_arg1)) →
    ∃ (v0 : (c : Dev Cert.UvIdeal.nD) → Buf (Elt Ideal) ((c.tc : Thread Cert.UvIdeal.nD Cert.UvIdeal.τ).loc Cert.UvIdeal.main_v2_0)) (v1 : (c : Dev Cert.UvIdeal.nD) → Buf (Elt Ideal) ((c.tc : Thread Cert.UvIdeal.nD Cert.UvIdeal.τ).loc Cert.UvIdeal.main_v2_1)),
      θ_run (Cert.UvIdeal.defs (F := Ideal)) (onTc (τ := Cert.UvIdeal.τ) (Cert.UvIdeal.main (F := Ideal))) ⟨m, fun _ => 0, g⟩ (fun r => ∀ c : Dev Cert.UvIdeal.nD,
          r.2.mem ((c.tc : Thread Cert.UvIdeal.nD Cert.UvIdeal.τ).loc Cert.UvIdeal.main_v2_0) = v0 c
          ∧ r.2.mem ((c.tc : Thread Cert.UvIdeal.nD Cert.UvIdeal.τ).loc Cert.UvIdeal.main_v2_1) = v1 c
          ∧ r.2.mem ((c.tc : Thread Cert.UvIdeal.nD Cert.UvIdeal.τ).loc Cert.UvIdeal.main_arg0) = m ((c.tc : Thread Cert.UvIdeal.nD Cert.UvIdeal.τ).loc Cert.UvIdeal.main_arg0)
          ∧ r.2.mem ((c.tc : Thread Cert.UvIdeal.nD Cert.UvIdeal.τ).loc Cert.UvIdeal.main_arg1) = m ((c.tc : Thread Cert.UvIdeal.nD Cert.UvIdeal.τ).loc Cert.UvIdeal.main_arg1))
      ∧ θ_run (Cert.UvRefIdeal.defs (F := Ideal)) (onTc (τ := Cert.UvRefIdeal.τ) (Cert.UvRefIdeal.main (F := Ideal))) ⟨m', fun _ => 0, g'⟩ (fun r => ∀ c : Dev Cert.UvRefIdeal.nD,
          r.2.mem ((c.tc : Thread Cert.UvRefIdeal.nD Cert.UvRefIdeal.τ).loc Cert.UvRefIdeal.main_v6) = v0 c
          ∧ r.2.mem ((c.tc : Thread Cert.UvRefIdeal.nD Cert.UvRefIdeal.τ).loc Cert.UvRefIdeal.main_v7) = v1 c
          ∧ r.2.mem ((c.tc : Thread Cert.UvRefIdeal.nD Cert.UvRefIdeal.τ).loc Cert.UvRefIdeal.main_arg0) = m' ((c.tc : Thread Cert.UvRefIdeal.nD Cert.UvRefIdeal.τ).loc Cert.UvRefIdeal.main_arg0)
          ∧ r.2.mem ((c.tc : Thread Cert.UvRefIdeal.nD Cert.UvRefIdeal.τ).loc Cert.UvRefIdeal.main_arg1) = m' ((c.tc : Thread Cert.UvRefIdeal.nD Cert.UvRefIdeal.τ).loc Cert.UvRefIdeal.main_arg1))

def preserves_GatesDw_GatesDwIdeal : Prop :=
  True

def algebraic_GatesDwIdeal_GatesDwRefIdeal [hGatesDwIdeal : Cert.GatesDwIdeal.Facts] [hGatesDwRefIdeal : Cert.GatesDwRefIdeal.Facts] : Prop :=
  ∀ (m : (ℓ : Loc Cert.GatesDwIdeal.nD Cert.GatesDwIdeal.τ Cert.GatesDwIdeal.sig) → Buf (Elt Ideal) ℓ) (g : Dev Cert.GatesDwIdeal.nD → PrngReg)
    (m' : (ℓ : Loc Cert.GatesDwRefIdeal.nD Cert.GatesDwRefIdeal.τ Cert.GatesDwRefIdeal.sig) → Buf (Elt Ideal) ℓ) (g' : Dev Cert.GatesDwRefIdeal.nD → PrngReg), Pre_GatesDwIdeal m →
    (∀ c : Dev Cert.GatesDwIdeal.nD,
      m' ((c.tc : Thread Cert.GatesDwRefIdeal.nD Cert.GatesDwRefIdeal.τ).loc Cert.GatesDwRefIdeal.main_arg0) = m ((c.tc : Thread Cert.GatesDwIdeal.nD Cert.GatesDwIdeal.τ).loc Cert.GatesDwIdeal.main_arg0)
      ∧ m' ((c.tc : Thread Cert.GatesDwRefIdeal.nD Cert.GatesDwRefIdeal.τ).loc Cert.GatesDwRefIdeal.main_arg1) = m ((c.tc : Thread Cert.GatesDwIdeal.nD Cert.GatesDwIdeal.τ).loc Cert.GatesDwIdeal.main_arg1)
      ∧ m' ((c.tc : Thread Cert.GatesDwRefIdeal.nD Cert.GatesDwRefIdeal.τ).loc Cert.GatesDwRefIdeal.main_arg2) = m ((c.tc : Thread Cert.GatesDwIdeal.nD Cert.GatesDwIdeal.τ).loc Cert.GatesDwIdeal.main_arg2)) →
    ∃ (v0 : (c : Dev Cert.GatesDwIdeal.nD) → Buf (Elt Ideal) ((c.tc : Thread Cert.GatesDwIdeal.nD Cert.GatesDwIdeal.τ).loc Cert.GatesDwIdeal.main_v0_0)) (v1 : (c : Dev Cert.GatesDwIdeal.nD) → Buf (Elt Ideal) ((c.tc : Thread Cert.GatesDwIdeal.nD Cert.GatesDwIdeal.τ).loc Cert.GatesDwIdeal.main_v0_1)),
      θ_run (Cert.GatesDwIdeal.defs (F := Ideal)) (onTc (τ := Cert.GatesDwIdeal.τ) (Cert.GatesDwIdeal.main (F := Ideal))) ⟨m, fun _ => 0, g⟩ (fun r => ∀ c : Dev Cert.GatesDwIdeal.nD,
          r.2.mem ((c.tc : Thread Cert.GatesDwIdeal.nD Cert.GatesDwIdeal.τ).loc Cert.GatesDwIdeal.main_v0_0) = v0 c
          ∧ r.2.mem ((c.tc : Thread Cert.GatesDwIdeal.nD Cert.GatesDwIdeal.τ).loc Cert.GatesDwIdeal.main_v0_1) = v1 c
          ∧ r.2.mem ((c.tc : Thread Cert.GatesDwIdeal.nD Cert.GatesDwIdeal.τ).loc Cert.GatesDwIdeal.main_arg0) = m ((c.tc : Thread Cert.GatesDwIdeal.nD Cert.GatesDwIdeal.τ).loc Cert.GatesDwIdeal.main_arg0)
          ∧ r.2.mem ((c.tc : Thread Cert.GatesDwIdeal.nD Cert.GatesDwIdeal.τ).loc Cert.GatesDwIdeal.main_arg1) = m ((c.tc : Thread Cert.GatesDwIdeal.nD Cert.GatesDwIdeal.τ).loc Cert.GatesDwIdeal.main_arg1)
          ∧ r.2.mem ((c.tc : Thread Cert.GatesDwIdeal.nD Cert.GatesDwIdeal.τ).loc Cert.GatesDwIdeal.main_arg2) = m ((c.tc : Thread Cert.GatesDwIdeal.nD Cert.GatesDwIdeal.τ).loc Cert.GatesDwIdeal.main_arg2))
      ∧ θ_run (Cert.GatesDwRefIdeal.defs (F := Ideal)) (onTc (τ := Cert.GatesDwRefIdeal.τ) (Cert.GatesDwRefIdeal.main (F := Ideal))) ⟨m', fun _ => 0, g'⟩ (fun r => ∀ c : Dev Cert.GatesDwRefIdeal.nD,
          r.2.mem ((c.tc : Thread Cert.GatesDwRefIdeal.nD Cert.GatesDwRefIdeal.τ).loc Cert.GatesDwRefIdeal.main_v11) = v0 c
          ∧ r.2.mem ((c.tc : Thread Cert.GatesDwRefIdeal.nD Cert.GatesDwRefIdeal.τ).loc Cert.GatesDwRefIdeal.main_v12) = v1 c
          ∧ r.2.mem ((c.tc : Thread Cert.GatesDwRefIdeal.nD Cert.GatesDwRefIdeal.τ).loc Cert.GatesDwRefIdeal.main_arg0) = m' ((c.tc : Thread Cert.GatesDwRefIdeal.nD Cert.GatesDwRefIdeal.τ).loc Cert.GatesDwRefIdeal.main_arg0)
          ∧ r.2.mem ((c.tc : Thread Cert.GatesDwRefIdeal.nD Cert.GatesDwRefIdeal.τ).loc Cert.GatesDwRefIdeal.main_arg1) = m' ((c.tc : Thread Cert.GatesDwRefIdeal.nD Cert.GatesDwRefIdeal.τ).loc Cert.GatesDwRefIdeal.main_arg1)
          ∧ r.2.mem ((c.tc : Thread Cert.GatesDwRefIdeal.nD Cert.GatesDwRefIdeal.τ).loc Cert.GatesDwRefIdeal.main_arg2) = m' ((c.tc : Thread Cert.GatesDwRefIdeal.nD Cert.GatesDwRefIdeal.τ).loc Cert.GatesDwRefIdeal.main_arg2))

def preserves_UvDw_UvDwIdeal : Prop :=
  True

def algebraic_UvDwIdeal_UvDwRefIdeal [hUvDwIdeal : Cert.UvDwIdeal.Facts] [hUvDwRefIdeal : Cert.UvDwRefIdeal.Facts] : Prop :=
  ∀ (m : (ℓ : Loc Cert.UvDwIdeal.nD Cert.UvDwIdeal.τ Cert.UvDwIdeal.sig) → Buf (Elt Ideal) ℓ) (g : Dev Cert.UvDwIdeal.nD → PrngReg)
    (m' : (ℓ : Loc Cert.UvDwRefIdeal.nD Cert.UvDwRefIdeal.τ Cert.UvDwRefIdeal.sig) → Buf (Elt Ideal) ℓ) (g' : Dev Cert.UvDwRefIdeal.nD → PrngReg), Pre_UvDwIdeal m →
    (∀ c : Dev Cert.UvDwIdeal.nD,
      m' ((c.tc : Thread Cert.UvDwRefIdeal.nD Cert.UvDwRefIdeal.τ).loc Cert.UvDwRefIdeal.main_arg0) = m ((c.tc : Thread Cert.UvDwIdeal.nD Cert.UvDwIdeal.τ).loc Cert.UvDwIdeal.main_arg0)
      ∧ m' ((c.tc : Thread Cert.UvDwRefIdeal.nD Cert.UvDwRefIdeal.τ).loc Cert.UvDwRefIdeal.main_arg1) = m ((c.tc : Thread Cert.UvDwIdeal.nD Cert.UvDwIdeal.τ).loc Cert.UvDwIdeal.main_arg1)
      ∧ m' ((c.tc : Thread Cert.UvDwRefIdeal.nD Cert.UvDwRefIdeal.τ).loc Cert.UvDwRefIdeal.main_arg2) = m ((c.tc : Thread Cert.UvDwIdeal.nD Cert.UvDwIdeal.τ).loc Cert.UvDwIdeal.main_arg2)) →
    ∃ (v0 : (c : Dev Cert.UvDwIdeal.nD) → Buf (Elt Ideal) ((c.tc : Thread Cert.UvDwIdeal.nD Cert.UvDwIdeal.τ).loc Cert.UvDwIdeal.main_v0_0)) (v1 : (c : Dev Cert.UvDwIdeal.nD) → Buf (Elt Ideal) ((c.tc : Thread Cert.UvDwIdeal.nD Cert.UvDwIdeal.τ).loc Cert.UvDwIdeal.main_v0_1)),
      θ_run (Cert.UvDwIdeal.defs (F := Ideal)) (onTc (τ := Cert.UvDwIdeal.τ) (Cert.UvDwIdeal.main (F := Ideal))) ⟨m, fun _ => 0, g⟩ (fun r => ∀ c : Dev Cert.UvDwIdeal.nD,
          r.2.mem ((c.tc : Thread Cert.UvDwIdeal.nD Cert.UvDwIdeal.τ).loc Cert.UvDwIdeal.main_v0_0) = v0 c
          ∧ r.2.mem ((c.tc : Thread Cert.UvDwIdeal.nD Cert.UvDwIdeal.τ).loc Cert.UvDwIdeal.main_v0_1) = v1 c
          ∧ r.2.mem ((c.tc : Thread Cert.UvDwIdeal.nD Cert.UvDwIdeal.τ).loc Cert.UvDwIdeal.main_arg0) = m ((c.tc : Thread Cert.UvDwIdeal.nD Cert.UvDwIdeal.τ).loc Cert.UvDwIdeal.main_arg0)
          ∧ r.2.mem ((c.tc : Thread Cert.UvDwIdeal.nD Cert.UvDwIdeal.τ).loc Cert.UvDwIdeal.main_arg1) = m ((c.tc : Thread Cert.UvDwIdeal.nD Cert.UvDwIdeal.τ).loc Cert.UvDwIdeal.main_arg1)
          ∧ r.2.mem ((c.tc : Thread Cert.UvDwIdeal.nD Cert.UvDwIdeal.τ).loc Cert.UvDwIdeal.main_arg2) = m ((c.tc : Thread Cert.UvDwIdeal.nD Cert.UvDwIdeal.τ).loc Cert.UvDwIdeal.main_arg2))
      ∧ θ_run (Cert.UvDwRefIdeal.defs (F := Ideal)) (onTc (τ := Cert.UvDwRefIdeal.τ) (Cert.UvDwRefIdeal.main (F := Ideal))) ⟨m', fun _ => 0, g'⟩ (fun r => ∀ c : Dev Cert.UvDwRefIdeal.nD,
          r.2.mem ((c.tc : Thread Cert.UvDwRefIdeal.nD Cert.UvDwRefIdeal.τ).loc Cert.UvDwRefIdeal.main_v11) = v0 c
          ∧ r.2.mem ((c.tc : Thread Cert.UvDwRefIdeal.nD Cert.UvDwRefIdeal.τ).loc Cert.UvDwRefIdeal.main_v12) = v1 c
          ∧ r.2.mem ((c.tc : Thread Cert.UvDwRefIdeal.nD Cert.UvDwRefIdeal.τ).loc Cert.UvDwRefIdeal.main_arg0) = m' ((c.tc : Thread Cert.UvDwRefIdeal.nD Cert.UvDwRefIdeal.τ).loc Cert.UvDwRefIdeal.main_arg0)
          ∧ r.2.mem ((c.tc : Thread Cert.UvDwRefIdeal.nD Cert.UvDwRefIdeal.τ).loc Cert.UvDwRefIdeal.main_arg1) = m' ((c.tc : Thread Cert.UvDwRefIdeal.nD Cert.UvDwRefIdeal.τ).loc Cert.UvDwRefIdeal.main_arg1)
          ∧ r.2.mem ((c.tc : Thread Cert.UvDwRefIdeal.nD Cert.UvDwRefIdeal.τ).loc Cert.UvDwRefIdeal.main_arg2) = m' ((c.tc : Thread Cert.UvDwRefIdeal.nD Cert.UvDwRefIdeal.τ).loc Cert.UvDwRefIdeal.main_arg2))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)
      ∧ m' ((c.tc : Thread Cert.ProjDxRefIdeal.nD Cert.ProjDxRefIdeal.τ).loc Cert.ProjDxRefIdeal.main_arg2) = m ((c.tc : Thread Cert.ProjDxIdeal.nD Cert.ProjDxIdeal.τ).loc Cert.ProjDxIdeal.main_arg2)
      ∧ m' ((c.tc : Thread Cert.ProjDxRefIdeal.nD Cert.ProjDxRefIdeal.τ).loc Cert.ProjDxRefIdeal.main_arg3) = m ((c.tc : Thread Cert.ProjDxIdeal.nD Cert.ProjDxIdeal.τ).loc Cert.ProjDxIdeal.main_arg3)
      ∧ m' ((c.tc : Thread Cert.ProjDxRefIdeal.nD Cert.ProjDxRefIdeal.τ).loc Cert.ProjDxRefIdeal.main_arg4) = m ((c.tc : Thread Cert.ProjDxIdeal.nD Cert.ProjDxIdeal.τ).loc Cert.ProjDxIdeal.main_arg4)
      ∧ m' ((c.tc : Thread Cert.ProjDxRefIdeal.nD Cert.ProjDxRefIdeal.τ).loc Cert.ProjDxRefIdeal.main_arg5) = m ((c.tc : Thread Cert.ProjDxIdeal.nD Cert.ProjDxIdeal.τ).loc Cert.ProjDxIdeal.main_arg5)
      ∧ m' ((c.tc : Thread Cert.ProjDxRefIdeal.nD Cert.ProjDxRefIdeal.τ).loc Cert.ProjDxRefIdeal.main_arg6) = m ((c.tc : Thread Cert.ProjDxIdeal.nD Cert.ProjDxIdeal.τ).loc Cert.ProjDxIdeal.main_arg6)) →
    ∃ (v0 : (c : Dev Cert.ProjDxIdeal.nD) → Buf (Elt Ideal) ((c.tc : Thread Cert.ProjDxIdeal.nD Cert.ProjDxIdeal.τ).loc Cert.ProjDxIdeal.main_v7)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v7) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
          ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2)
          ∧ r.2.mem ((c.tc : Thread Cert.ProjDxIdeal.nD Cert.ProjDxIdeal.τ).loc Cert.ProjDxIdeal.main_arg3) = m ((c.tc : Thread Cert.ProjDxIdeal.nD Cert.ProjDxIdeal.τ).loc Cert.ProjDxIdeal.main_arg3)
          ∧ r.2.mem ((c.tc : Thread Cert.ProjDxIdeal.nD Cert.ProjDxIdeal.τ).loc Cert.ProjDxIdeal.main_arg4) = m ((c.tc : Thread Cert.ProjDxIdeal.nD Cert.ProjDxIdeal.τ).loc Cert.ProjDxIdeal.main_arg4)
          ∧ r.2.mem ((c.tc : Thread Cert.ProjDxIdeal.nD Cert.ProjDxIdeal.τ).loc Cert.ProjDxIdeal.main_arg5) = m ((c.tc : Thread Cert.ProjDxIdeal.nD Cert.ProjDxIdeal.τ).loc Cert.ProjDxIdeal.main_arg5)
          ∧ r.2.mem ((c.tc : Thread Cert.ProjDxIdeal.nD Cert.ProjDxIdeal.τ).loc Cert.ProjDxIdeal.main_arg6) = m ((c.tc : Thread Cert.ProjDxIdeal.nD Cert.ProjDxIdeal.τ).loc Cert.ProjDxIdeal.main_arg6))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v36) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1)
          ∧ r.2.mem ((c.tc : Thread Cert.ProjDxRefIdeal.nD Cert.ProjDxRefIdeal.τ).loc Cert.ProjDxRefIdeal.main_arg2) = m' ((c.tc : Thread Cert.ProjDxRefIdeal.nD Cert.ProjDxRefIdeal.τ).loc Cert.ProjDxRefIdeal.main_arg2)
          ∧ r.2.mem ((c.tc : Thread Cert.ProjDxRefIdeal.nD Cert.ProjDxRefIdeal.τ).loc Cert.ProjDxRefIdeal.main_arg3) = m' ((c.tc : Thread Cert.ProjDxRefIdeal.nD Cert.ProjDxRefIdeal.τ).loc Cert.ProjDxRefIdeal.main_arg3)
          ∧ r.2.mem ((c.tc : Thread Cert.ProjDxRefIdeal.nD Cert.ProjDxRefIdeal.τ).loc Cert.ProjDxRefIdeal.main_arg4) = m' ((c.tc : Thread Cert.ProjDxRefIdeal.nD Cert.ProjDxRefIdeal.τ).loc Cert.ProjDxRefIdeal.main_arg4)
          ∧ r.2.mem ((c.tc : Thread Cert.ProjDxRefIdeal.nD Cert.ProjDxRefIdeal.τ).loc Cert.ProjDxRefIdeal.main_arg5) = m' ((c.tc : Thread Cert.ProjDxRefIdeal.nD Cert.ProjDxRefIdeal.τ).loc Cert.ProjDxRefIdeal.main_arg5)
          ∧ r.2.mem ((c.tc : Thread Cert.ProjDxRefIdeal.nD Cert.ProjDxRefIdeal.τ).loc Cert.ProjDxRefIdeal.main_arg6) = m' ((c.tc : Thread Cert.ProjDxRefIdeal.nD Cert.ProjDxRefIdeal.τ).loc Cert.ProjDxRefIdeal.main_arg6))

def preserves_AttnFwd_AttnFwdIdeal : Prop :=
  True

def algebraic_AttnFwdIdeal_AttnFwdRefIdeal_pre_attn_fwd_finite [hAttnFwdIdeal : Cert.AttnFwdIdeal.Facts] [hAttnFwdRefIdeal : Cert.AttnFwdRefIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attn_fwd_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v10_0)) (v1 : (c : Dev Cert.AttnFwdIdeal.nD) → Buf (Elt Ideal) ((c.tc : Thread Cert.AttnFwdIdeal.nD Cert.AttnFwdIdeal.τ).loc Cert.AttnFwdIdeal.main_v10_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v10_0) = v0 c
          ∧ r.2.mem ((c.tc : Thread Cert.AttnFwdIdeal.nD Cert.AttnFwdIdeal.τ).loc Cert.AttnFwdIdeal.main_v10_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v23) = v0 c
          ∧ r.2.mem ((c.tc : Thread Cert.AttnFwdRefIdeal.nD Cert.AttnFwdRefIdeal.τ).loc Cert.AttnFwdRefIdeal.main_v27) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)
      ∧ m' ((c.tc : Thread Cert.FfnOutRefIdeal.nD Cert.FfnOutRefIdeal.τ).loc Cert.FfnOutRefIdeal.main_arg4) = m ((c.tc : Thread Cert.FfnOutIdeal.nD Cert.FfnOutIdeal.τ).loc Cert.FfnOutIdeal.main_arg4)) →
    ∃ (v0 : (c : Dev Cert.FfnOutIdeal.nD) → Buf (Elt Ideal) ((c.tc : Thread Cert.FfnOutIdeal.nD Cert.FfnOutIdeal.τ).loc Cert.FfnOutIdeal.main_v0_0)) (v1 : (c : Dev Cert.FfnOutIdeal.nD) → Buf (Elt Ideal) ((c.tc : Thread Cert.FfnOutIdeal.nD Cert.FfnOutIdeal.τ).loc Cert.FfnOutIdeal.main_v0_1)) (v2 : (c : Dev Cert.FfnOutIdeal.nD) → Buf (Elt Ideal) ((c.tc : Thread Cert.FfnOutIdeal.nD Cert.FfnOutIdeal.τ).loc Cert.FfnOutIdeal.main_v0_2)) (v3 : (c : Dev Cert.FfnOutIdeal.nD) → Buf (Elt Ideal) ((c.tc : Thread Cert.FfnOutIdeal.nD Cert.FfnOutIdeal.τ).loc Cert.FfnOutIdeal.main_v0_3)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0_0) = v0 c
          ∧ r.2.mem ((c.tc : Thread Cert.FfnOutIdeal.nD Cert.FfnOutIdeal.τ).loc Cert.FfnOutIdeal.main_v0_1) = v1 c
          ∧ r.2.mem ((c.tc : Thread Cert.FfnOutIdeal.nD Cert.FfnOutIdeal.τ).loc Cert.FfnOutIdeal.main_v0_2) = v2 c
          ∧ r.2.mem ((c.tc : Thread Cert.FfnOutIdeal.nD Cert.FfnOutIdeal.τ).loc Cert.FfnOutIdeal.main_v0_3) = v3 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
          ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v20) = v0 c
          ∧ r.2.mem ((c.tc : Thread Cert.FfnOutRefIdeal.nD Cert.FfnOutRefIdeal.τ).loc Cert.FfnOutRefIdeal.main_v37) = v1 c
          ∧ r.2.mem ((c.tc : Thread Cert.FfnOutRefIdeal.nD Cert.FfnOutRefIdeal.τ).loc Cert.FfnOutRefIdeal.main_v39) = v2 c
          ∧ r.2.mem ((c.tc : Thread Cert.FfnOutRefIdeal.nD Cert.FfnOutRefIdeal.τ).loc Cert.FfnOutRefIdeal.main_v41) = v3 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3)
          ∧ r.2.mem ((c.tc : Thread Cert.FfnOutRefIdeal.nD Cert.FfnOutRefIdeal.τ).loc Cert.FfnOutRefIdeal.main_arg4) = m' ((c.tc : Thread Cert.FfnOutRefIdeal.nD Cert.FfnOutRefIdeal.τ).loc Cert.FfnOutRefIdeal.main_arg4))

def preserves_ProjQ_ProjQIdeal : Prop :=
  True

def algebraic_ProjQIdeal_ProjQRefIdeal [hProjQIdeal : Cert.ProjQIdeal.Facts] [hProjQRefIdeal : Cert.ProjQRefIdeal.Facts] : Prop :=
  ∀ (m : (ℓ : Loc Cert.ProjQIdeal.nD Cert.ProjQIdeal.τ Cert.ProjQIdeal.sig) → Buf (Elt Ideal) ℓ) (g : Dev Cert.ProjQIdeal.nD → PrngReg)
    (m' : (ℓ : Loc Cert.ProjQRefIdeal.nD Cert.ProjQRefIdeal.τ Cert.ProjQRefIdeal.sig) → Buf (Elt Ideal) ℓ) (g' : Dev Cert.ProjQRefIdeal.nD → PrngReg), Pre_ProjQIdeal m →
    (∀ c : Dev Cert.ProjQIdeal.nD,
      m' ((c.tc : Thread Cert.ProjQRefIdeal.nD Cert.ProjQRefIdeal.τ).loc Cert.ProjQRefIdeal.main_arg0) = m ((c.tc : Thread Cert.ProjQIdeal.nD Cert.ProjQIdeal.τ).loc Cert.ProjQIdeal.main_arg0)
      ∧ m' ((c.tc : Thread Cert.ProjQRefIdeal.nD Cert.ProjQRefIdeal.τ).loc Cert.ProjQRefIdeal.main_arg1) = m ((c.tc : Thread Cert.ProjQIdeal.nD Cert.ProjQIdeal.τ).loc Cert.ProjQIdeal.main_arg1)
      ∧ m' ((c.tc : Thread Cert.ProjQRefIdeal.nD Cert.ProjQRefIdeal.τ).loc Cert.ProjQRefIdeal.main_arg2) = m ((c.tc : Thread Cert.ProjQIdeal.nD Cert.ProjQIdeal.τ).loc Cert.ProjQIdeal.main_arg2)) →
    ∃ (v0 : (c : Dev Cert.ProjQIdeal.nD) → Buf (Elt Ideal) ((c.tc : Thread Cert.ProjQIdeal.nD Cert.ProjQIdeal.τ).loc Cert.ProjQIdeal.main_v0_0)) (v1 : (c : Dev Cert.ProjQIdeal.nD) → Buf (Elt Ideal) ((c.tc : Thread Cert.ProjQIdeal.nD Cert.ProjQIdeal.τ).loc Cert.ProjQIdeal.main_v0_1)),
      θ_run (Cert.ProjQIdeal.defs (F := Ideal)) (onTc (τ := Cert.ProjQIdeal.τ) (Cert.ProjQIdeal.main (F := Ideal))) ⟨m, fun _ => 0, g⟩ (fun r => ∀ c : Dev Cert.ProjQIdeal.nD,
          r.2.mem ((c.tc : Thread Cert.ProjQIdeal.nD Cert.ProjQIdeal.τ).loc Cert.ProjQIdeal.main_v0_0) = v0 c
          ∧ r.2.mem ((c.tc : Thread Cert.ProjQIdeal.nD Cert.ProjQIdeal.τ).loc Cert.ProjQIdeal.main_v0_1) = v1 c
          ∧ r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
          ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1)
          ∧ r.2.mem ((c.tc : Thread Cert.ProjQIdeal.nD Cert.ProjQIdeal.τ).loc Cert.ProjQIdeal.main_arg2) = m ((c.tc : Thread Cert.ProjQIdeal.nD Cert.ProjQIdeal.τ).loc Cert.ProjQIdeal.main_arg2))
      ∧ θ_run (Cert.ProjQRefIdeal.defs (F := Ideal)) (onTc (τ := Cert.ProjQRefIdeal.τ) (Cert.ProjQRefIdeal.main (F := Ideal))) ⟨m', fun _ => 0, g'⟩ (fun r => ∀ c : Dev Cert.ProjQRefIdeal.nD,
          r.2.mem ((c.tc : Thread Cert.ProjQRefIdeal.nD Cert.ProjQRefIdeal.τ).loc Cert.ProjQRefIdeal.main_v2) = v0 c
          ∧ r.2.mem ((c.tc : Thread Cert.ProjQRefIdeal.nD Cert.ProjQRefIdeal.τ).loc Cert.ProjQRefIdeal.main_v15) = v1 c
          ∧ r.2.mem ((c.tc : Thread Cert.ProjQRefIdeal.nD Cert.ProjQRefIdeal.τ).loc Cert.ProjQRefIdeal.main_arg0) = m' ((c.tc : Thread Cert.ProjQRefIdeal.nD Cert.ProjQRefIdeal.τ).loc Cert.ProjQRefIdeal.main_arg0)
          ∧ r.2.mem ((c.tc : Thread Cert.ProjQRefIdeal.nD Cert.ProjQRefIdeal.τ).loc Cert.ProjQRefIdeal.main_arg1) = m' ((c.tc : Thread Cert.ProjQRefIdeal.nD Cert.ProjQRefIdeal.τ).loc Cert.ProjQRefIdeal.main_arg1)
          ∧ r.2.mem ((c.tc : Thread Cert.ProjQRefIdeal.nD Cert.ProjQRefIdeal.τ).loc Cert.ProjQRefIdeal.main_arg2) = m' ((c.tc : Thread Cert.ProjQRefIdeal.nD Cert.ProjQRefIdeal.τ).loc Cert.ProjQRefIdeal.main_arg2))

def preserves_ProjKv_ProjKvIdeal : Prop :=
  True

def algebraic_ProjKvIdeal_ProjKvRefIdeal [hProjKvIdeal : Cert.ProjKvIdeal.Facts] [hProjKvRefIdeal : Cert.ProjKvRefIdeal.Facts] : Prop :=
  ∀ (m : (ℓ : Loc Cert.ProjKvIdeal.nD Cert.ProjKvIdeal.τ Cert.ProjKvIdeal.sig) → Buf (Elt Ideal) ℓ) (g : Dev Cert.ProjKvIdeal.nD → PrngReg)
    (m' : (ℓ : Loc Cert.ProjKvRefIdeal.nD Cert.ProjKvRefIdeal.τ Cert.ProjKvRefIdeal.sig) → Buf (Elt Ideal) ℓ) (g' : Dev Cert.ProjKvRefIdeal.nD → PrngReg), Pre_ProjKvIdeal m →
    (∀ c : Dev Cert.ProjKvIdeal.nD,
      m' ((c.tc : Thread Cert.ProjKvRefIdeal.nD Cert.ProjKvRefIdeal.τ).loc Cert.ProjKvRefIdeal.main_arg0) = m ((c.tc : Thread Cert.ProjKvIdeal.nD Cert.ProjKvIdeal.τ).loc Cert.ProjKvIdeal.main_arg0)
      ∧ m' ((c.tc : Thread Cert.ProjKvRefIdeal.nD Cert.ProjKvRefIdeal.τ).loc Cert.ProjKvRefIdeal.main_arg1) = m ((c.tc : Thread Cert.ProjKvIdeal.nD Cert.ProjKvIdeal.τ).loc Cert.ProjKvIdeal.main_arg1)) →
    ∃ (v0 : (c : Dev Cert.ProjKvIdeal.nD) → Buf (Elt Ideal) ((c.tc : Thread Cert.ProjKvIdeal.nD Cert.ProjKvIdeal.τ).loc Cert.ProjKvIdeal.main_v0)),
      θ_run (Cert.ProjKvIdeal.defs (F := Ideal)) (onTc (τ := Cert.ProjKvIdeal.τ) (Cert.ProjKvIdeal.main (F := Ideal))) ⟨m, fun _ => 0, g⟩ (fun r => ∀ c : Dev Cert.ProjKvIdeal.nD,
          r.2.mem ((c.tc : Thread Cert.ProjKvIdeal.nD Cert.ProjKvIdeal.τ).loc Cert.ProjKvIdeal.main_v0) = v0 c
          ∧ r.2.mem ((c.tc : Thread Cert.ProjKvIdeal.nD Cert.ProjKvIdeal.τ).loc Cert.ProjKvIdeal.main_arg0) = m ((c.tc : Thread Cert.ProjKvIdeal.nD Cert.ProjKvIdeal.τ).loc Cert.ProjKvIdeal.main_arg0)
          ∧ r.2.mem ((c.tc : Thread Cert.ProjKvIdeal.nD Cert.ProjKvIdeal.τ).loc Cert.ProjKvIdeal.main_arg1) = m ((c.tc : Thread Cert.ProjKvIdeal.nD Cert.ProjKvIdeal.τ).loc Cert.ProjKvIdeal.main_arg1))
      ∧ θ_run (Cert.ProjKvRefIdeal.defs (F := Ideal)) (onTc (τ := Cert.ProjKvRefIdeal.τ) (Cert.ProjKvRefIdeal.main (F := Ideal))) ⟨m', fun _ => 0, g'⟩ (fun r => ∀ c : Dev Cert.ProjKvRefIdeal.nD,
          r.2.mem ((c.tc : Thread Cert.ProjKvRefIdeal.nD Cert.ProjKvRefIdeal.τ).loc Cert.ProjKvRefIdeal.main_v2) = v0 c
          ∧ r.2.mem ((c.tc : Thread Cert.ProjKvRefIdeal.nD Cert.ProjKvRefIdeal.τ).loc Cert.ProjKvRefIdeal.main_arg0) = m' ((c.tc : Thread Cert.ProjKvRefIdeal.nD Cert.ProjKvRefIdeal.τ).loc Cert.ProjKvRefIdeal.main_arg0)
          ∧ r.2.mem ((c.tc : Thread Cert.ProjKvRefIdeal.nD Cert.ProjKvRefIdeal.τ).loc Cert.ProjKvRefIdeal.main_arg1) = m' ((c.tc : Thread Cert.ProjKvRefIdeal.nD Cert.ProjKvRefIdeal.τ).loc Cert.ProjKvRefIdeal.main_arg1))

def preserves_QUp_QUpIdeal : Prop :=
  True

def algebraic_QUpIdeal_QUpRefIdeal [hQUpIdeal : Cert.QUpIdeal.Facts] [hQUpRefIdeal : Cert.QUpRefIdeal.Facts] : Prop :=
  ∀ (m : (ℓ : Loc Cert.QUpIdeal.nD Cert.QUpIdeal.τ Cert.QUpIdeal.sig) → Buf (Elt Ideal) ℓ) (g : Dev Cert.QUpIdeal.nD → PrngReg)
    (m' : (ℓ : Loc Cert.QUpRefIdeal.nD Cert.QUpRefIdeal.τ Cert.QUpRefIdeal.sig) → Buf (Elt Ideal) ℓ) (g' : Dev Cert.QUpRefIdeal.nD → PrngReg), Pre_QUpIdeal m →
    (∀ c : Dev Cert.QUpIdeal.nD,
      m' ((c.tc : Thread Cert.QUpRefIdeal.nD Cert.QUpRefIdeal.τ).loc Cert.QUpRefIdeal.main_arg0) = m ((c.tc : Thread Cert.QUpIdeal.nD Cert.QUpIdeal.τ).loc Cert.QUpIdeal.main_arg0)
      ∧ m' ((c.tc : Thread Cert.QUpRefIdeal.nD Cert.QUpRefIdeal.τ).loc Cert.QUpRefIdeal.main_arg1) = m ((c.tc : Thread Cert.QUpIdeal.nD Cert.QUpIdeal.τ).loc Cert.QUpIdeal.main_arg1)) →
    ∃ (v0 : (c : Dev Cert.QUpIdeal.nD) → Buf (Elt Ideal) ((c.tc : Thread Cert.QUpIdeal.nD Cert.QUpIdeal.τ).loc Cert.QUpIdeal.main_v0)),
      θ_run (Cert.QUpIdeal.defs (F := Ideal)) (onTc (τ := Cert.QUpIdeal.τ) (Cert.QUpIdeal.main (F := Ideal))) ⟨m, fun _ => 0, g⟩ (fun r => ∀ c : Dev Cert.QUpIdeal.nD,
          r.2.mem ((c.tc : Thread Cert.QUpIdeal.nD Cert.QUpIdeal.τ).loc Cert.QUpIdeal.main_v0) = v0 c
          ∧ r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
          ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1))
      ∧ θ_run (Cert.QUpRefIdeal.defs (F := Ideal)) (onTc (τ := Cert.QUpRefIdeal.τ) (Cert.QUpRefIdeal.main (F := Ideal))) ⟨m', fun _ => 0, g'⟩ (fun r => ∀ c : Dev Cert.QUpRefIdeal.nD,
          r.2.mem ((c.tc : Thread Cert.QUpRefIdeal.nD Cert.QUpRefIdeal.τ).loc Cert.QUpRefIdeal.main_v2) = v0 c
          ∧ r.2.mem ((c.tc : Thread Cert.QUpRefIdeal.nD Cert.QUpRefIdeal.τ).loc Cert.QUpRefIdeal.main_arg0) = m' ((c.tc : Thread Cert.QUpRefIdeal.nD Cert.QUpRefIdeal.τ).loc Cert.QUpRefIdeal.main_arg0)
          ∧ r.2.mem ((c.tc : Thread Cert.QUpRefIdeal.nD Cert.QUpRefIdeal.τ).loc Cert.QUpRefIdeal.main_arg1) = m' ((c.tc : Thread Cert.QUpRefIdeal.nD Cert.QUpRefIdeal.τ).loc Cert.QUpRefIdeal.main_arg1))

def preserves_KvUp_KvUpIdeal : Prop :=
  True

def algebraic_KvUpIdeal_KvUpRefIdeal [hKvUpIdeal : Cert.KvUpIdeal.Facts] [hKvUpRefIdeal : Cert.KvUpRefIdeal.Facts] : Prop :=
  ∀ (m : (ℓ : Loc Cert.KvUpIdeal.nD Cert.KvUpIdeal.τ Cert.KvUpIdeal.sig) → Buf (Elt Ideal) ℓ) (g : Dev Cert.KvUpIdeal.nD → PrngReg)
    (m' : (ℓ : Loc Cert.KvUpRefIdeal.nD Cert.KvUpRefIdeal.τ Cert.KvUpRefIdeal.sig) → Buf (Elt Ideal) ℓ) (g' : Dev Cert.KvUpRefIdeal.nD → PrngReg), Pre_KvUpIdeal m →
    (∀ c : Dev Cert.KvUpIdeal.nD,
      m' ((c.tc : Thread Cert.KvUpRefIdeal.nD Cert.KvUpRefIdeal.τ).loc Cert.KvUpRefIdeal.main_arg0) = m ((c.tc : Thread Cert.KvUpIdeal.nD Cert.KvUpIdeal.τ).loc Cert.KvUpIdeal.main_arg0)
      ∧ m' ((c.tc : Thread Cert.KvUpRefIdeal.nD Cert.KvUpRefIdeal.τ).loc Cert.KvUpRefIdeal.main_arg1) = m ((c.tc : Thread Cert.KvUpIdeal.nD Cert.KvUpIdeal.τ).loc Cert.KvUpIdeal.main_arg1)) →
    ∃ (v0 : (c : Dev Cert.KvUpIdeal.nD) → Buf (Elt Ideal) ((c.tc : Thread Cert.KvUpIdeal.nD Cert.KvUpIdeal.τ).loc Cert.KvUpIdeal.main_v0)),
      θ_run (Cert.KvUpIdeal.defs (F := Ideal)) (onTc (τ := Cert.KvUpIdeal.τ) (Cert.KvUpIdeal.main (F := Ideal))) ⟨m, fun _ => 0, g⟩ (fun r => ∀ c : Dev Cert.KvUpIdeal.nD,
          r.2.mem ((c.tc : Thread Cert.KvUpIdeal.nD Cert.KvUpIdeal.τ).loc Cert.KvUpIdeal.main_v0) = v0 c
          ∧ r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
          ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1))
      ∧ θ_run (Cert.KvUpRefIdeal.defs (F := Ideal)) (onTc (τ := Cert.KvUpRefIdeal.τ) (Cert.KvUpRefIdeal.main (F := Ideal))) ⟨m', fun _ => 0, g'⟩ (fun r => ∀ c : Dev Cert.KvUpRefIdeal.nD,
          r.2.mem ((c.tc : Thread Cert.KvUpRefIdeal.nD Cert.KvUpRefIdeal.τ).loc Cert.KvUpRefIdeal.main_v2) = v0 c
          ∧ r.2.mem ((c.tc : Thread Cert.KvUpRefIdeal.nD Cert.KvUpRefIdeal.τ).loc Cert.KvUpRefIdeal.main_arg0) = m' ((c.tc : Thread Cert.KvUpRefIdeal.nD Cert.KvUpRefIdeal.τ).loc Cert.KvUpRefIdeal.main_arg0)
          ∧ r.2.mem ((c.tc : Thread Cert.KvUpRefIdeal.nD Cert.KvUpRefIdeal.τ).loc Cert.KvUpRefIdeal.main_arg1) = m' ((c.tc : Thread Cert.KvUpRefIdeal.nD Cert.KvUpRefIdeal.τ).loc Cert.KvUpRefIdeal.main_arg1))

def preserves_ProjQDw_ProjQDwIdeal : Prop :=
  True

def algebraic_ProjQDwIdeal_ProjQDwRefIdeal [hProjQDwIdeal : Cert.ProjQDwIdeal.Facts] [hProjQDwRefIdeal : Cert.ProjQDwRefIdeal.Facts] : Prop :=
  ∀ (m : (ℓ : Loc Cert.ProjQDwIdeal.nD Cert.ProjQDwIdeal.τ Cert.ProjQDwIdeal.sig) → Buf (Elt Ideal) ℓ) (g : Dev Cert.ProjQDwIdeal.nD → PrngReg)
    (m' : (ℓ : Loc Cert.ProjQDwRefIdeal.nD Cert.ProjQDwRefIdeal.τ Cert.ProjQDwRefIdeal.sig) → Buf (Elt Ideal) ℓ) (g' : Dev Cert.ProjQDwRefIdeal.nD → PrngReg), Pre_ProjQDwIdeal m →
    (∀ c : Dev Cert.ProjQDwIdeal.nD,
      m' ((c.tc : Thread Cert.ProjQDwRefIdeal.nD Cert.ProjQDwRefIdeal.τ).loc Cert.ProjQDwRefIdeal.main_arg0) = m ((c.tc : Thread Cert.ProjQDwIdeal.nD Cert.ProjQDwIdeal.τ).loc Cert.ProjQDwIdeal.main_arg0)
      ∧ m' ((c.tc : Thread Cert.ProjQDwRefIdeal.nD Cert.ProjQDwRefIdeal.τ).loc Cert.ProjQDwRefIdeal.main_arg1) = m ((c.tc : Thread Cert.ProjQDwIdeal.nD Cert.ProjQDwIdeal.τ).loc Cert.ProjQDwIdeal.main_arg1)) →
    ∃ (v0 : (c : Dev Cert.ProjQDwIdeal.nD) → Buf (Elt Ideal) ((c.tc : Thread Cert.ProjQDwIdeal.nD Cert.ProjQDwIdeal.τ).loc Cert.ProjQDwIdeal.main_v0)),
      θ_run (Cert.ProjQDwIdeal.defs (F := Ideal)) (onTc (τ := Cert.ProjQDwIdeal.τ) (Cert.ProjQDwIdeal.main (F := Ideal))) ⟨m, fun _ => 0, g⟩ (fun r => ∀ c : Dev Cert.ProjQDwIdeal.nD,
          r.2.mem ((c.tc : Thread Cert.ProjQDwIdeal.nD Cert.ProjQDwIdeal.τ).loc Cert.ProjQDwIdeal.main_v0) = v0 c
          ∧ r.2.mem ((c.tc : Thread Cert.ProjQDwIdeal.nD Cert.ProjQDwIdeal.τ).loc Cert.ProjQDwIdeal.main_arg0) = m ((c.tc : Thread Cert.ProjQDwIdeal.nD Cert.ProjQDwIdeal.τ).loc Cert.ProjQDwIdeal.main_arg0)
          ∧ r.2.mem ((c.tc : Thread Cert.ProjQDwIdeal.nD Cert.ProjQDwIdeal.τ).loc Cert.ProjQDwIdeal.main_arg1) = m ((c.tc : Thread Cert.ProjQDwIdeal.nD Cert.ProjQDwIdeal.τ).loc Cert.ProjQDwIdeal.main_arg1))
      ∧ θ_run (Cert.ProjQDwRefIdeal.defs (F := Ideal)) (onTc (τ := Cert.ProjQDwRefIdeal.τ) (Cert.ProjQDwRefIdeal.main (F := Ideal))) ⟨m', fun _ => 0, g'⟩ (fun r => ∀ c : Dev Cert.ProjQDwRefIdeal.nD,
          r.2.mem ((c.tc : Thread Cert.ProjQDwRefIdeal.nD Cert.ProjQDwRefIdeal.τ).loc Cert.ProjQDwRefIdeal.main_v6) = v0 c
          ∧ r.2.mem ((c.tc : Thread Cert.ProjQDwRefIdeal.nD Cert.ProjQDwRefIdeal.τ).loc Cert.ProjQDwRefIdeal.main_arg0) = m' ((c.tc : Thread Cert.ProjQDwRefIdeal.nD Cert.ProjQDwRefIdeal.τ).loc Cert.ProjQDwRefIdeal.main_arg0)
          ∧ r.2.mem ((c.tc : Thread Cert.ProjQDwRefIdeal.nD Cert.ProjQDwRefIdeal.τ).loc Cert.ProjQDwRefIdeal.main_arg1) = m' ((c.tc : Thread Cert.ProjQDwRefIdeal.nD Cert.ProjQDwRefIdeal.τ).loc Cert.ProjQDwRefIdeal.main_arg1))

def preserves_QUpDw_QUpDwIdeal : Prop :=
  True

def algebraic_QUpDwIdeal_QUpDwRefIdeal [hQUpDwIdeal : Cert.QUpDwIdeal.Facts] [hQUpDwRefIdeal : Cert.QUpDwRefIdeal.Facts] : Prop :=
  ∀ (m : (ℓ : Loc Cert.QUpDwIdeal.nD Cert.QUpDwIdeal.τ Cert.QUpDwIdeal.sig) → Buf (Elt Ideal) ℓ) (g : Dev Cert.QUpDwIdeal.nD → PrngReg)
    (m' : (ℓ : Loc Cert.QUpDwRefIdeal.nD Cert.QUpDwRefIdeal.τ Cert.QUpDwRefIdeal.sig) → Buf (Elt Ideal) ℓ) (g' : Dev Cert.QUpDwRefIdeal.nD → PrngReg), Pre_QUpDwIdeal m →
    (∀ c : Dev Cert.QUpDwIdeal.nD,
      m' ((c.tc : Thread Cert.QUpDwRefIdeal.nD Cert.QUpDwRefIdeal.τ).loc Cert.QUpDwRefIdeal.main_arg0) = m ((c.tc : Thread Cert.QUpDwIdeal.nD Cert.QUpDwIdeal.τ).loc Cert.QUpDwIdeal.main_arg0)
      ∧ m' ((c.tc : Thread Cert.QUpDwRefIdeal.nD Cert.QUpDwRefIdeal.τ).loc Cert.QUpDwRefIdeal.main_arg1) = m ((c.tc : Thread Cert.QUpDwIdeal.nD Cert.QUpDwIdeal.τ).loc Cert.QUpDwIdeal.main_arg1)) →
    ∃ (v0 : (c : Dev Cert.QUpDwIdeal.nD) → Buf (Elt Ideal) ((c.tc : Thread Cert.QUpDwIdeal.nD Cert.QUpDwIdeal.τ).loc Cert.QUpDwIdeal.main_v0)),
      θ_run (Cert.QUpDwIdeal.defs (F := Ideal)) (onTc (τ := Cert.QUpDwIdeal.τ) (Cert.QUpDwIdeal.main (F := Ideal))) ⟨m, fun _ => 0, g⟩ (fun r => ∀ c : Dev Cert.QUpDwIdeal.nD,
          r.2.mem ((c.tc : Thread Cert.QUpDwIdeal.nD Cert.QUpDwIdeal.τ).loc Cert.QUpDwIdeal.main_v0) = v0 c
          ∧ r.2.mem ((c.tc : Thread Cert.QUpDwIdeal.nD Cert.QUpDwIdeal.τ).loc Cert.QUpDwIdeal.main_arg0) = m ((c.tc : Thread Cert.QUpDwIdeal.nD Cert.QUpDwIdeal.τ).loc Cert.QUpDwIdeal.main_arg0)
          ∧ r.2.mem ((c.tc : Thread Cert.QUpDwIdeal.nD Cert.QUpDwIdeal.τ).loc Cert.QUpDwIdeal.main_arg1) = m ((c.tc : Thread Cert.QUpDwIdeal.nD Cert.QUpDwIdeal.τ).loc Cert.QUpDwIdeal.main_arg1))
      ∧ θ_run (Cert.QUpDwRefIdeal.defs (F := Ideal)) (onTc (τ := Cert.QUpDwRefIdeal.τ) (Cert.QUpDwRefIdeal.main (F := Ideal))) ⟨m', fun _ => 0, g'⟩ (fun r => ∀ c : Dev Cert.QUpDwRefIdeal.nD,
          r.2.mem ((c.tc : Thread Cert.QUpDwRefIdeal.nD Cert.QUpDwRefIdeal.τ).loc Cert.QUpDwRefIdeal.main_v6) = v0 c
          ∧ r.2.mem ((c.tc : Thread Cert.QUpDwRefIdeal.nD Cert.QUpDwRefIdeal.τ).loc Cert.QUpDwRefIdeal.main_arg0) = m' ((c.tc : Thread Cert.QUpDwRefIdeal.nD Cert.QUpDwRefIdeal.τ).loc Cert.QUpDwRefIdeal.main_arg0)
          ∧ r.2.mem ((c.tc : Thread Cert.QUpDwRefIdeal.nD Cert.QUpDwRefIdeal.τ).loc Cert.QUpDwRefIdeal.main_arg1) = m' ((c.tc : Thread Cert.QUpDwRefIdeal.nD Cert.QUpDwRefIdeal.τ).loc Cert.QUpDwRefIdeal.main_arg1))

def preserves_KvUpDw_KvUpDwIdeal : Prop :=
  True

def algebraic_KvUpDwIdeal_KvUpDwRefIdeal [hKvUpDwIdeal : Cert.KvUpDwIdeal.Facts] [hKvUpDwRefIdeal : Cert.KvUpDwRefIdeal.Facts] : Prop :=
  ∀ (m : (ℓ : Loc Cert.KvUpDwIdeal.nD Cert.KvUpDwIdeal.τ Cert.KvUpDwIdeal.sig) → Buf (Elt Ideal) ℓ) (g : Dev Cert.KvUpDwIdeal.nD → PrngReg)
    (m' : (ℓ : Loc Cert.KvUpDwRefIdeal.nD Cert.KvUpDwRefIdeal.τ Cert.KvUpDwRefIdeal.sig) → Buf (Elt Ideal) ℓ) (g' : Dev Cert.KvUpDwRefIdeal.nD → PrngReg), Pre_KvUpDwIdeal m →
    (∀ c : Dev Cert.KvUpDwIdeal.nD,
      m' ((c.tc : Thread Cert.KvUpDwRefIdeal.nD Cert.KvUpDwRefIdeal.τ).loc Cert.KvUpDwRefIdeal.main_arg0) = m ((c.tc : Thread Cert.KvUpDwIdeal.nD Cert.KvUpDwIdeal.τ).loc Cert.KvUpDwIdeal.main_arg0)
      ∧ m' ((c.tc : Thread Cert.KvUpDwRefIdeal.nD Cert.KvUpDwRefIdeal.τ).loc Cert.KvUpDwRefIdeal.main_arg1) = m ((c.tc : Thread Cert.KvUpDwIdeal.nD Cert.KvUpDwIdeal.τ).loc Cert.KvUpDwIdeal.main_arg1)) →
    ∃ (v0 : (c : Dev Cert.KvUpDwIdeal.nD) → Buf (Elt Ideal) ((c.tc : Thread Cert.KvUpDwIdeal.nD Cert.KvUpDwIdeal.τ).loc Cert.KvUpDwIdeal.main_v0)),
      θ_run (Cert.KvUpDwIdeal.defs (F := Ideal)) (onTc (τ := Cert.KvUpDwIdeal.τ) (Cert.KvUpDwIdeal.main (F := Ideal))) ⟨m, fun _ => 0, g⟩ (fun r => ∀ c : Dev Cert.KvUpDwIdeal.nD,
          r.2.mem ((c.tc : Thread Cert.KvUpDwIdeal.nD Cert.KvUpDwIdeal.τ).loc Cert.KvUpDwIdeal.main_v0) = v0 c
          ∧ r.2.mem ((c.tc : Thread Cert.KvUpDwIdeal.nD Cert.KvUpDwIdeal.τ).loc Cert.KvUpDwIdeal.main_arg0) = m ((c.tc : Thread Cert.KvUpDwIdeal.nD Cert.KvUpDwIdeal.τ).loc Cert.KvUpDwIdeal.main_arg0)
          ∧ r.2.mem ((c.tc : Thread Cert.KvUpDwIdeal.nD Cert.KvUpDwIdeal.τ).loc Cert.KvUpDwIdeal.main_arg1) = m ((c.tc : Thread Cert.KvUpDwIdeal.nD Cert.KvUpDwIdeal.τ).loc Cert.KvUpDwIdeal.main_arg1))
      ∧ θ_run (Cert.KvUpDwRefIdeal.defs (F := Ideal)) (onTc (τ := Cert.KvUpDwRefIdeal.τ) (Cert.KvUpDwRefIdeal.main (F := Ideal))) ⟨m', fun _ => 0, g'⟩ (fun r => ∀ c : Dev Cert.KvUpDwRefIdeal.nD,
          r.2.mem ((c.tc : Thread Cert.KvUpDwRefIdeal.nD Cert.KvUpDwRefIdeal.τ).loc Cert.KvUpDwRefIdeal.main_v6) = v0 c
          ∧ r.2.mem ((c.tc : Thread Cert.KvUpDwRefIdeal.nD Cert.KvUpDwRefIdeal.τ).loc Cert.KvUpDwRefIdeal.main_arg0) = m' ((c.tc : Thread Cert.KvUpDwRefIdeal.nD Cert.KvUpDwRefIdeal.τ).loc Cert.KvUpDwRefIdeal.main_arg0)
          ∧ r.2.mem ((c.tc : Thread Cert.KvUpDwRefIdeal.nD Cert.KvUpDwRefIdeal.τ).loc Cert.KvUpDwRefIdeal.main_arg1) = m' ((c.tc : Thread Cert.KvUpDwRefIdeal.nD Cert.KvUpDwRefIdeal.τ).loc Cert.KvUpDwRefIdeal.main_arg1))

def preserves_KvUpDx_KvUpDxIdeal : Prop :=
  True

def algebraic_KvUpDxIdeal_KvUpDxRefIdeal [hKvUpDxIdeal : Cert.KvUpDxIdeal.Facts] [hKvUpDxRefIdeal : Cert.KvUpDxRefIdeal.Facts] : Prop :=
  ∀ (m : (ℓ : Loc Cert.KvUpDxIdeal.nD Cert.KvUpDxIdeal.τ Cert.KvUpDxIdeal.sig) → Buf (Elt Ideal) ℓ) (g : Dev Cert.KvUpDxIdeal.nD → PrngReg)
    (m' : (ℓ : Loc Cert.KvUpDxRefIdeal.nD Cert.KvUpDxRefIdeal.τ Cert.KvUpDxRefIdeal.sig) → Buf (Elt Ideal) ℓ) (g' : Dev Cert.KvUpDxRefIdeal.nD → PrngReg), Pre_KvUpDxIdeal m →
    (∀ c : Dev Cert.KvUpDxIdeal.nD,
      m' ((c.tc : Thread Cert.KvUpDxRefIdeal.nD Cert.KvUpDxRefIdeal.τ).loc Cert.KvUpDxRefIdeal.main_arg0) = m ((c.tc : Thread Cert.KvUpDxIdeal.nD Cert.KvUpDxIdeal.τ).loc Cert.KvUpDxIdeal.main_arg0)
      ∧ m' ((c.tc : Thread Cert.KvUpDxRefIdeal.nD Cert.KvUpDxRefIdeal.τ).loc Cert.KvUpDxRefIdeal.main_arg1) = m ((c.tc : Thread Cert.KvUpDxIdeal.nD Cert.KvUpDxIdeal.τ).loc Cert.KvUpDxIdeal.main_arg1)) →
    ∃ (v0 : (c : Dev Cert.KvUpDxIdeal.nD) → Buf (Elt Ideal) ((c.tc : Thread Cert.KvUpDxIdeal.nD Cert.KvUpDxIdeal.τ).loc Cert.KvUpDxIdeal.main_v0)),
      θ_run (Cert.KvUpDxIdeal.defs (F := Ideal)) (onTc (τ := Cert.KvUpDxIdeal.τ) (Cert.KvUpDxIdeal.main (F := Ideal))) ⟨m, fun _ => 0, g⟩ (fun r => ∀ c : Dev Cert.KvUpDxIdeal.nD,
          r.2.mem ((c.tc : Thread Cert.KvUpDxIdeal.nD Cert.KvUpDxIdeal.τ).loc Cert.KvUpDxIdeal.main_v0) = v0 c
          ∧ r.2.mem ((c.tc : Thread Cert.KvUpDxIdeal.nD Cert.KvUpDxIdeal.τ).loc Cert.KvUpDxIdeal.main_arg0) = m ((c.tc : Thread Cert.KvUpDxIdeal.nD Cert.KvUpDxIdeal.τ).loc Cert.KvUpDxIdeal.main_arg0)
          ∧ r.2.mem ((c.tc : Thread Cert.KvUpDxIdeal.nD Cert.KvUpDxIdeal.τ).loc Cert.KvUpDxIdeal.main_arg1) = m ((c.tc : Thread Cert.KvUpDxIdeal.nD Cert.KvUpDxIdeal.τ).loc Cert.KvUpDxIdeal.main_arg1))
      ∧ θ_run (Cert.KvUpDxRefIdeal.defs (F := Ideal)) (onTc (τ := Cert.KvUpDxRefIdeal.τ) (Cert.KvUpDxRefIdeal.main (F := Ideal))) ⟨m', fun _ => 0, g'⟩ (fun r => ∀ c : Dev Cert.KvUpDxRefIdeal.nD,
          r.2.mem ((c.tc : Thread Cert.KvUpDxRefIdeal.nD Cert.KvUpDxRefIdeal.τ).loc Cert.KvUpDxRefIdeal.main_v4) = v0 c
          ∧ r.2.mem ((c.tc : Thread Cert.KvUpDxRefIdeal.nD Cert.KvUpDxRefIdeal.τ).loc Cert.KvUpDxRefIdeal.main_arg0) = m' ((c.tc : Thread Cert.KvUpDxRefIdeal.nD Cert.KvUpDxRefIdeal.τ).loc Cert.KvUpDxRefIdeal.main_arg0)
          ∧ r.2.mem ((c.tc : Thread Cert.KvUpDxRefIdeal.nD Cert.KvUpDxRefIdeal.τ).loc Cert.KvUpDxRefIdeal.main_arg1) = m' ((c.tc : Thread Cert.KvUpDxRefIdeal.nD Cert.KvUpDxRefIdeal.τ).loc Cert.KvUpDxRefIdeal.main_arg1))

def preserves_ProjKvCtx_ProjKvCtxIdeal : Prop :=
  True

def algebraic_ProjKvCtxIdeal_ProjKvCtxRefIdeal [hProjKvCtxIdeal : Cert.ProjKvCtxIdeal.Facts] [hProjKvCtxRefIdeal : Cert.ProjKvCtxRefIdeal.Facts] : Prop :=
  ∀ (m : (ℓ : Loc Cert.ProjKvCtxIdeal.nD Cert.ProjKvCtxIdeal.τ Cert.ProjKvCtxIdeal.sig) → Buf (Elt Ideal) ℓ) (g : Dev Cert.ProjKvCtxIdeal.nD → PrngReg)
    (m' : (ℓ : Loc Cert.ProjKvCtxRefIdeal.nD Cert.ProjKvCtxRefIdeal.τ Cert.ProjKvCtxRefIdeal.sig) → Buf (Elt Ideal) ℓ) (g' : Dev Cert.ProjKvCtxRefIdeal.nD → PrngReg), Pre_ProjKvCtxIdeal m →
    (∀ c : Dev Cert.ProjKvCtxIdeal.nD,
      m' ((c.tc : Thread Cert.ProjKvCtxRefIdeal.nD Cert.ProjKvCtxRefIdeal.τ).loc Cert.ProjKvCtxRefIdeal.main_arg0) = m ((c.tc : Thread Cert.ProjKvCtxIdeal.nD Cert.ProjKvCtxIdeal.τ).loc Cert.ProjKvCtxIdeal.main_arg0)
      ∧ m' ((c.tc : Thread Cert.ProjKvCtxRefIdeal.nD Cert.ProjKvCtxRefIdeal.τ).loc Cert.ProjKvCtxRefIdeal.main_arg1) = m ((c.tc : Thread Cert.ProjKvCtxIdeal.nD Cert.ProjKvCtxIdeal.τ).loc Cert.ProjKvCtxIdeal.main_arg1)) →
    ∃ (v0 : (c : Dev Cert.ProjKvCtxIdeal.nD) → Buf (Elt Ideal) ((c.tc : Thread Cert.ProjKvCtxIdeal.nD Cert.ProjKvCtxIdeal.τ).loc Cert.ProjKvCtxIdeal.main_v0)),
      θ_run (Cert.ProjKvCtxIdeal.defs (F := Ideal)) (onTc (τ := Cert.ProjKvCtxIdeal.τ) (Cert.ProjKvCtxIdeal.main (F := Ideal))) ⟨m, fun _ => 0, g⟩ (fun r => ∀ c : Dev Cert.ProjKvCtxIdeal.nD,
          r.2.mem ((c.tc : Thread Cert.ProjKvCtxIdeal.nD Cert.ProjKvCtxIdeal.τ).loc Cert.ProjKvCtxIdeal.main_v0) = v0 c
          ∧ r.2.mem ((c.tc : Thread Cert.ProjKvCtxIdeal.nD Cert.ProjKvCtxIdeal.τ).loc Cert.ProjKvCtxIdeal.main_arg0) = m ((c.tc : Thread Cert.ProjKvCtxIdeal.nD Cert.ProjKvCtxIdeal.τ).loc Cert.ProjKvCtxIdeal.main_arg0)
          ∧ r.2.mem ((c.tc : Thread Cert.ProjKvCtxIdeal.nD Cert.ProjKvCtxIdeal.τ).loc Cert.ProjKvCtxIdeal.main_arg1) = m ((c.tc : Thread Cert.ProjKvCtxIdeal.nD Cert.ProjKvCtxIdeal.τ).loc Cert.ProjKvCtxIdeal.main_arg1))
      ∧ θ_run (Cert.ProjKvCtxRefIdeal.defs (F := Ideal)) (onTc (τ := Cert.ProjKvCtxRefIdeal.τ) (Cert.ProjKvCtxRefIdeal.main (F := Ideal))) ⟨m', fun _ => 0, g'⟩ (fun r => ∀ c : Dev Cert.ProjKvCtxRefIdeal.nD,
          r.2.mem ((c.tc : Thread Cert.ProjKvCtxRefIdeal.nD Cert.ProjKvCtxRefIdeal.τ).loc Cert.ProjKvCtxRefIdeal.main_v2) = v0 c
          ∧ r.2.mem ((c.tc : Thread Cert.ProjKvCtxRefIdeal.nD Cert.ProjKvCtxRefIdeal.τ).loc Cert.ProjKvCtxRefIdeal.main_arg0) = m' ((c.tc : Thread Cert.ProjKvCtxRefIdeal.nD Cert.ProjKvCtxRefIdeal.τ).loc Cert.ProjKvCtxRefIdeal.main_arg0)
          ∧ r.2.mem ((c.tc : Thread Cert.ProjKvCtxRefIdeal.nD Cert.ProjKvCtxRefIdeal.τ).loc Cert.ProjKvCtxRefIdeal.main_arg1) = m' ((c.tc : Thread Cert.ProjKvCtxRefIdeal.nD Cert.ProjKvCtxRefIdeal.τ).loc Cert.ProjKvCtxRefIdeal.main_arg1))

def preserves_ProjKvCtxDx_ProjKvCtxDxIdeal : Prop :=
  True

def algebraic_ProjKvCtxDxIdeal_ProjKvCtxDxRefIdeal [hProjKvCtxDxIdeal : Cert.ProjKvCtxDxIdeal.Facts] [hProjKvCtxDxRefIdeal : Cert.ProjKvCtxDxRefIdeal.Facts] : Prop :=
  ∀ (m : (ℓ : Loc Cert.ProjKvCtxDxIdeal.nD Cert.ProjKvCtxDxIdeal.τ Cert.ProjKvCtxDxIdeal.sig) → Buf (Elt Ideal) ℓ) (g : Dev Cert.ProjKvCtxDxIdeal.nD → PrngReg)
    (m' : (ℓ : Loc Cert.ProjKvCtxDxRefIdeal.nD Cert.ProjKvCtxDxRefIdeal.τ Cert.ProjKvCtxDxRefIdeal.sig) → Buf (Elt Ideal) ℓ) (g' : Dev Cert.ProjKvCtxDxRefIdeal.nD → PrngReg), Pre_ProjKvCtxDxIdeal m →
    (∀ c : Dev Cert.ProjKvCtxDxIdeal.nD,
      m' ((c.tc : Thread Cert.ProjKvCtxDxRefIdeal.nD Cert.ProjKvCtxDxRefIdeal.τ).loc Cert.ProjKvCtxDxRefIdeal.main_arg0) = m ((c.tc : Thread Cert.ProjKvCtxDxIdeal.nD Cert.ProjKvCtxDxIdeal.τ).loc Cert.ProjKvCtxDxIdeal.main_arg0)
      ∧ m' ((c.tc : Thread Cert.ProjKvCtxDxRefIdeal.nD Cert.ProjKvCtxDxRefIdeal.τ).loc Cert.ProjKvCtxDxRefIdeal.main_arg1) = m ((c.tc : Thread Cert.ProjKvCtxDxIdeal.nD Cert.ProjKvCtxDxIdeal.τ).loc Cert.ProjKvCtxDxIdeal.main_arg1)) →
    ∃ (v0 : (c : Dev Cert.ProjKvCtxDxIdeal.nD) → Buf (Elt Ideal) ((c.tc : Thread Cert.ProjKvCtxDxIdeal.nD Cert.ProjKvCtxDxIdeal.τ).loc Cert.ProjKvCtxDxIdeal.main_v0)),
      θ_run (Cert.ProjKvCtxDxIdeal.defs (F := Ideal)) (onTc (τ := Cert.ProjKvCtxDxIdeal.τ) (Cert.ProjKvCtxDxIdeal.main (F := Ideal))) ⟨m, fun _ => 0, g⟩ (fun r => ∀ c : Dev Cert.ProjKvCtxDxIdeal.nD,
          r.2.mem ((c.tc : Thread Cert.ProjKvCtxDxIdeal.nD Cert.ProjKvCtxDxIdeal.τ).loc Cert.ProjKvCtxDxIdeal.main_v0) = v0 c
          ∧ r.2.mem ((c.tc : Thread Cert.ProjKvCtxDxIdeal.nD Cert.ProjKvCtxDxIdeal.τ).loc Cert.ProjKvCtxDxIdeal.main_arg0) = m ((c.tc : Thread Cert.ProjKvCtxDxIdeal.nD Cert.ProjKvCtxDxIdeal.τ).loc Cert.ProjKvCtxDxIdeal.main_arg0)
          ∧ r.2.mem ((c.tc : Thread Cert.ProjKvCtxDxIdeal.nD Cert.ProjKvCtxDxIdeal.τ).loc Cert.ProjKvCtxDxIdeal.main_arg1) = m ((c.tc : Thread Cert.ProjKvCtxDxIdeal.nD Cert.ProjKvCtxDxIdeal.τ).loc Cert.ProjKvCtxDxIdeal.main_arg1))
      ∧ θ_run (Cert.ProjKvCtxDxRefIdeal.defs (F := Ideal)) (onTc (τ := Cert.ProjKvCtxDxRefIdeal.τ) (Cert.ProjKvCtxDxRefIdeal.main (F := Ideal))) ⟨m', fun _ => 0, g'⟩ (fun r => ∀ c : Dev Cert.ProjKvCtxDxRefIdeal.nD,
          r.2.mem ((c.tc : Thread Cert.ProjKvCtxDxRefIdeal.nD Cert.ProjKvCtxDxRefIdeal.τ).loc Cert.ProjKvCtxDxRefIdeal.main_v4) = v0 c
          ∧ r.2.mem ((c.tc : Thread Cert.ProjKvCtxDxRefIdeal.nD Cert.ProjKvCtxDxRefIdeal.τ).loc Cert.ProjKvCtxDxRefIdeal.main_arg0) = m' ((c.tc : Thread Cert.ProjKvCtxDxRefIdeal.nD Cert.ProjKvCtxDxRefIdeal.τ).loc Cert.ProjKvCtxDxRefIdeal.main_arg0)
          ∧ r.2.mem ((c.tc : Thread Cert.ProjKvCtxDxRefIdeal.nD Cert.ProjKvCtxDxRefIdeal.τ).loc Cert.ProjKvCtxDxRefIdeal.main_arg1) = m' ((c.tc : Thread Cert.ProjKvCtxDxRefIdeal.nD Cert.ProjKvCtxDxRefIdeal.τ).loc Cert.ProjKvCtxDxRefIdeal.main_arg1))

def preserves_ProjKvDw_ProjKvDwIdeal : Prop :=
  True

def algebraic_ProjKvDwIdeal_ProjKvDwRefIdeal [hProjKvDwIdeal : Cert.ProjKvDwIdeal.Facts] [hProjKvDwRefIdeal : Cert.ProjKvDwRefIdeal.Facts] : Prop :=
  ∀ (m : (ℓ : Loc Cert.ProjKvDwIdeal.nD Cert.ProjKvDwIdeal.τ Cert.ProjKvDwIdeal.sig) → Buf (Elt Ideal) ℓ) (g : Dev Cert.ProjKvDwIdeal.nD → PrngReg)
    (m' : (ℓ : Loc Cert.ProjKvDwRefIdeal.nD Cert.ProjKvDwRefIdeal.τ Cert.ProjKvDwRefIdeal.sig) → Buf (Elt Ideal) ℓ) (g' : Dev Cert.ProjKvDwRefIdeal.nD → PrngReg), Pre_ProjKvDwIdeal m →
    (∀ c : Dev Cert.ProjKvDwIdeal.nD,
      m' ((c.tc : Thread Cert.ProjKvDwRefIdeal.nD Cert.ProjKvDwRefIdeal.τ).loc Cert.ProjKvDwRefIdeal.main_arg0) = m ((c.tc : Thread Cert.ProjKvDwIdeal.nD Cert.ProjKvDwIdeal.τ).loc Cert.ProjKvDwIdeal.main_arg0)
      ∧ m' ((c.tc : Thread Cert.ProjKvDwRefIdeal.nD Cert.ProjKvDwRefIdeal.τ).loc Cert.ProjKvDwRefIdeal.main_arg1) = m ((c.tc : Thread Cert.ProjKvDwIdeal.nD Cert.ProjKvDwIdeal.τ).loc Cert.ProjKvDwIdeal.main_arg1)
      ∧ m' ((c.tc : Thread Cert.ProjKvDwRefIdeal.nD Cert.ProjKvDwRefIdeal.τ).loc Cert.ProjKvDwRefIdeal.main_arg2) = m ((c.tc : Thread Cert.ProjKvDwIdeal.nD Cert.ProjKvDwIdeal.τ).loc Cert.ProjKvDwIdeal.main_arg2)
      ∧ m' ((c.tc : Thread Cert.ProjKvDwRefIdeal.nD Cert.ProjKvDwRefIdeal.τ).loc Cert.ProjKvDwRefIdeal.main_arg3) = m ((c.tc : Thread Cert.ProjKvDwIdeal.nD Cert.ProjKvDwIdeal.τ).loc Cert.ProjKvDwIdeal.main_arg3)) →
    ∃ (v0 : (c : Dev Cert.ProjKvDwIdeal.nD) → Buf (Elt Ideal) ((c.tc : Thread Cert.ProjKvDwIdeal.nD Cert.ProjKvDwIdeal.τ).loc Cert.ProjKvDwIdeal.main_v0)),
      θ_run (Cert.ProjKvDwIdeal.defs (F := Ideal)) (onTc (τ := Cert.ProjKvDwIdeal.τ) (Cert.ProjKvDwIdeal.main (F := Ideal))) ⟨m, fun _ => 0, g⟩ (fun r => ∀ c : Dev Cert.ProjKvDwIdeal.nD,
          r.2.mem ((c.tc : Thread Cert.ProjKvDwIdeal.nD Cert.ProjKvDwIdeal.τ).loc Cert.ProjKvDwIdeal.main_v0) = v0 c
          ∧ r.2.mem ((c.tc : Thread Cert.ProjKvDwIdeal.nD Cert.ProjKvDwIdeal.τ).loc Cert.ProjKvDwIdeal.main_arg0) = m ((c.tc : Thread Cert.ProjKvDwIdeal.nD Cert.ProjKvDwIdeal.τ).loc Cert.ProjKvDwIdeal.main_arg0)
          ∧ r.2.mem ((c.tc : Thread Cert.ProjKvDwIdeal.nD Cert.ProjKvDwIdeal.τ).loc Cert.ProjKvDwIdeal.main_arg1) = m ((c.tc : Thread Cert.ProjKvDwIdeal.nD Cert.ProjKvDwIdeal.τ).loc Cert.ProjKvDwIdeal.main_arg1)
          ∧ r.2.mem ((c.tc : Thread Cert.ProjKvDwIdeal.nD Cert.ProjKvDwIdeal.τ).loc Cert.ProjKvDwIdeal.main_arg2) = m ((c.tc : Thread Cert.ProjKvDwIdeal.nD Cert.ProjKvDwIdeal.τ).loc Cert.ProjKvDwIdeal.main_arg2)
          ∧ r.2.mem ((c.tc : Thread Cert.ProjKvDwIdeal.nD Cert.ProjKvDwIdeal.τ).loc Cert.ProjKvDwIdeal.main_arg3) = m ((c.tc : Thread Cert.ProjKvDwIdeal.nD Cert.ProjKvDwIdeal.τ).loc Cert.ProjKvDwIdeal.main_arg3))
      ∧ θ_run (Cert.ProjKvDwRefIdeal.defs (F := Ideal)) (onTc (τ := Cert.ProjKvDwRefIdeal.τ) (Cert.ProjKvDwRefIdeal.main (F := Ideal))) ⟨m', fun _ => 0, g'⟩ (fun r => ∀ c : Dev Cert.ProjKvDwRefIdeal.nD,
          r.2.mem ((c.tc : Thread Cert.ProjKvDwRefIdeal.nD Cert.ProjKvDwRefIdeal.τ).loc Cert.ProjKvDwRefIdeal.main_v12) = v0 c
          ∧ r.2.mem ((c.tc : Thread Cert.ProjKvDwRefIdeal.nD Cert.ProjKvDwRefIdeal.τ).loc Cert.ProjKvDwRefIdeal.main_arg0) = m' ((c.tc : Thread Cert.ProjKvDwRefIdeal.nD Cert.ProjKvDwRefIdeal.τ).loc Cert.ProjKvDwRefIdeal.main_arg0)
          ∧ r.2.mem ((c.tc : Thread Cert.ProjKvDwRefIdeal.nD Cert.ProjKvDwRefIdeal.τ).loc Cert.ProjKvDwRefIdeal.main_arg1) = m' ((c.tc : Thread Cert.ProjKvDwRefIdeal.nD Cert.ProjKvDwRefIdeal.τ).loc Cert.ProjKvDwRefIdeal.main_arg1)
          ∧ r.2.mem ((c.tc : Thread Cert.ProjKvDwRefIdeal.nD Cert.ProjKvDwRefIdeal.τ).loc Cert.ProjKvDwRefIdeal.main_arg2) = m' ((c.tc : Thread Cert.ProjKvDwRefIdeal.nD Cert.ProjKvDwRefIdeal.τ).loc Cert.ProjKvDwRefIdeal.main_arg2)
          ∧ r.2.mem ((c.tc : Thread Cert.ProjKvDwRefIdeal.nD Cert.ProjKvDwRefIdeal.τ).loc Cert.ProjKvDwRefIdeal.main_arg3) = m' ((c.tc : Thread Cert.ProjKvDwRefIdeal.nD Cert.ProjKvDwRefIdeal.τ).loc Cert.ProjKvDwRefIdeal.main_arg3))

def preserves_QUpDx_QUpDxIdeal : Prop :=
  True

def algebraic_QUpDxIdeal_QUpDxRefIdeal [hQUpDxIdeal : Cert.QUpDxIdeal.Facts] [hQUpDxRefIdeal : Cert.QUpDxRefIdeal.Facts] : Prop :=
  ∀ (m : (ℓ : Loc Cert.QUpDxIdeal.nD Cert.QUpDxIdeal.τ Cert.QUpDxIdeal.sig) → Buf (Elt Ideal) ℓ) (g : Dev Cert.QUpDxIdeal.nD → PrngReg)
    (m' : (ℓ : Loc Cert.QUpDxRefIdeal.nD Cert.QUpDxRefIdeal.τ Cert.QUpDxRefIdeal.sig) → Buf (Elt Ideal) ℓ) (g' : Dev Cert.QUpDxRefIdeal.nD → PrngReg), Pre_QUpDxIdeal m →
    (∀ c : Dev Cert.QUpDxIdeal.nD,
      m' ((c.tc : Thread Cert.QUpDxRefIdeal.nD Cert.QUpDxRefIdeal.τ).loc Cert.QUpDxRefIdeal.main_arg0) = m ((c.tc : Thread Cert.QUpDxIdeal.nD Cert.QUpDxIdeal.τ).loc Cert.QUpDxIdeal.main_arg0)
      ∧ m' ((c.tc : Thread Cert.QUpDxRefIdeal.nD Cert.QUpDxRefIdeal.τ).loc Cert.QUpDxRefIdeal.main_arg1) = m ((c.tc : Thread Cert.QUpDxIdeal.nD Cert.QUpDxIdeal.τ).loc Cert.QUpDxIdeal.main_arg1)
      ∧ m' ((c.tc : Thread Cert.QUpDxRefIdeal.nD Cert.QUpDxRefIdeal.τ).loc Cert.QUpDxRefIdeal.main_arg2) = m ((c.tc : Thread Cert.QUpDxIdeal.nD Cert.QUpDxIdeal.τ).loc Cert.QUpDxIdeal.main_arg2)
      ∧ m' ((c.tc : Thread Cert.QUpDxRefIdeal.nD Cert.QUpDxRefIdeal.τ).loc Cert.QUpDxRefIdeal.main_arg3) = m ((c.tc : Thread Cert.QUpDxIdeal.nD Cert.QUpDxIdeal.τ).loc Cert.QUpDxIdeal.main_arg3)) →
    ∃ (v0 : (c : Dev Cert.QUpDxIdeal.nD) → Buf (Elt Ideal) ((c.tc : Thread Cert.QUpDxIdeal.nD Cert.QUpDxIdeal.τ).loc Cert.QUpDxIdeal.main_v0_0)) (v1 : (c : Dev Cert.QUpDxIdeal.nD) → Buf (Elt Ideal) ((c.tc : Thread Cert.QUpDxIdeal.nD Cert.QUpDxIdeal.τ).loc Cert.QUpDxIdeal.main_v0_1)),
      θ_run (Cert.QUpDxIdeal.defs (F := Ideal)) (onTc (τ := Cert.QUpDxIdeal.τ) (Cert.QUpDxIdeal.main (F := Ideal))) ⟨m, fun _ => 0, g⟩ (fun r => ∀ c : Dev Cert.QUpDxIdeal.nD,
          r.2.mem ((c.tc : Thread Cert.QUpDxIdeal.nD Cert.QUpDxIdeal.τ).loc Cert.QUpDxIdeal.main_v0_0) = v0 c
          ∧ r.2.mem ((c.tc : Thread Cert.QUpDxIdeal.nD Cert.QUpDxIdeal.τ).loc Cert.QUpDxIdeal.main_v0_1) = v1 c
          ∧ r.2.mem ((c.tc : Thread Cert.QUpDxIdeal.nD Cert.QUpDxIdeal.τ).loc Cert.QUpDxIdeal.main_arg0) = m ((c.tc : Thread Cert.QUpDxIdeal.nD Cert.QUpDxIdeal.τ).loc Cert.QUpDxIdeal.main_arg0)
          ∧ r.2.mem ((c.tc : Thread Cert.QUpDxIdeal.nD Cert.QUpDxIdeal.τ).loc Cert.QUpDxIdeal.main_arg1) = m ((c.tc : Thread Cert.QUpDxIdeal.nD Cert.QUpDxIdeal.τ).loc Cert.QUpDxIdeal.main_arg1)
          ∧ r.2.mem ((c.tc : Thread Cert.QUpDxIdeal.nD Cert.QUpDxIdeal.τ).loc Cert.QUpDxIdeal.main_arg2) = m ((c.tc : Thread Cert.QUpDxIdeal.nD Cert.QUpDxIdeal.τ).loc Cert.QUpDxIdeal.main_arg2)
          ∧ r.2.mem ((c.tc : Thread Cert.QUpDxIdeal.nD Cert.QUpDxIdeal.τ).loc Cert.QUpDxIdeal.main_arg3) = m ((c.tc : Thread Cert.QUpDxIdeal.nD Cert.QUpDxIdeal.τ).loc Cert.QUpDxIdeal.main_arg3))
      ∧ θ_run (Cert.QUpDxRefIdeal.defs (F := Ideal)) (onTc (τ := Cert.QUpDxRefIdeal.τ) (Cert.QUpDxRefIdeal.main (F := Ideal))) ⟨m', fun _ => 0, g'⟩ (fun r => ∀ c : Dev Cert.QUpDxRefIdeal.nD,
          r.2.mem ((c.tc : Thread Cert.QUpDxRefIdeal.nD Cert.QUpDxRefIdeal.τ).loc Cert.QUpDxRefIdeal.main_v38) = v0 c
          ∧ r.2.mem ((c.tc : Thread Cert.QUpDxRefIdeal.nD Cert.QUpDxRefIdeal.τ).loc Cert.QUpDxRefIdeal.main_v40) = v1 c
          ∧ r.2.mem ((c.tc : Thread Cert.QUpDxRefIdeal.nD Cert.QUpDxRefIdeal.τ).loc Cert.QUpDxRefIdeal.main_arg0) = m' ((c.tc : Thread Cert.QUpDxRefIdeal.nD Cert.QUpDxRefIdeal.τ).loc Cert.QUpDxRefIdeal.main_arg0)
          ∧ r.2.mem ((c.tc : Thread Cert.QUpDxRefIdeal.nD Cert.QUpDxRefIdeal.τ).loc Cert.QUpDxRefIdeal.main_arg1) = m' ((c.tc : Thread Cert.QUpDxRefIdeal.nD Cert.QUpDxRefIdeal.τ).loc Cert.QUpDxRefIdeal.main_arg1)
          ∧ r.2.mem ((c.tc : Thread Cert.QUpDxRefIdeal.nD Cert.QUpDxRefIdeal.τ).loc Cert.QUpDxRefIdeal.main_arg2) = m' ((c.tc : Thread Cert.QUpDxRefIdeal.nD Cert.QUpDxRefIdeal.τ).loc Cert.QUpDxRefIdeal.main_arg2)
          ∧ r.2.mem ((c.tc : Thread Cert.QUpDxRefIdeal.nD Cert.QUpDxRefIdeal.τ).loc Cert.QUpDxRefIdeal.main_arg3) = m' ((c.tc : Thread Cert.QUpDxRefIdeal.nD Cert.QUpDxRefIdeal.τ).loc Cert.QUpDxRefIdeal.main_arg3))

def preserves_ModFwd_ModFwdIdeal : Prop :=
  True

def algebraic_ModFwdIdeal_ModFwdRefIdeal [hModFwdIdeal : Cert.ModFwdIdeal.Facts] [hModFwdRefIdeal : Cert.ModFwdRefIdeal.Facts] : Prop :=
  ∀ (m : (ℓ : Loc Cert.ModFwdIdeal.nD Cert.ModFwdIdeal.τ Cert.ModFwdIdeal.sig) → Buf (Elt Ideal) ℓ) (g : Dev Cert.ModFwdIdeal.nD → PrngReg)
    (m' : (ℓ : Loc Cert.ModFwdRefIdeal.nD Cert.ModFwdRefIdeal.τ Cert.ModFwdRefIdeal.sig) → Buf (Elt Ideal) ℓ) (g' : Dev Cert.ModFwdRefIdeal.nD → PrngReg), Pre_ModFwdIdeal m →
    (∀ c : Dev Cert.ModFwdIdeal.nD,
      m' ((c.tc : Thread Cert.ModFwdRefIdeal.nD Cert.ModFwdRefIdeal.τ).loc Cert.ModFwdRefIdeal.main_arg0) = m ((c.tc : Thread Cert.ModFwdIdeal.nD Cert.ModFwdIdeal.τ).loc Cert.ModFwdIdeal.main_arg0)
      ∧ m' ((c.tc : Thread Cert.ModFwdRefIdeal.nD Cert.ModFwdRefIdeal.τ).loc Cert.ModFwdRefIdeal.main_arg1) = m ((c.tc : Thread Cert.ModFwdIdeal.nD Cert.ModFwdIdeal.τ).loc Cert.ModFwdIdeal.main_arg1)
      ∧ m' ((c.tc : Thread Cert.ModFwdRefIdeal.nD Cert.ModFwdRefIdeal.τ).loc Cert.ModFwdRefIdeal.main_arg2) = m ((c.tc : Thread Cert.ModFwdIdeal.nD Cert.ModFwdIdeal.τ).loc Cert.ModFwdIdeal.main_arg2)) →
    ∃ (v0 : (c : Dev Cert.ModFwdIdeal.nD) → Buf (Elt Ideal) ((c.tc : Thread Cert.ModFwdIdeal.nD Cert.ModFwdIdeal.τ).loc Cert.ModFwdIdeal.main_v0)),
      θ_run (Cert.ModFwdIdeal.defs (F := Ideal)) (onTc (τ := Cert.ModFwdIdeal.τ) (Cert.ModFwdIdeal.main (F := Ideal))) ⟨m, fun _ => 0, g⟩ (fun r => ∀ c : Dev Cert.ModFwdIdeal.nD,
          r.2.mem ((c.tc : Thread Cert.ModFwdIdeal.nD Cert.ModFwdIdeal.τ).loc Cert.ModFwdIdeal.main_v0) = v0 c
          ∧ r.2.mem ((c.tc : Thread Cert.ModFwdIdeal.nD Cert.ModFwdIdeal.τ).loc Cert.ModFwdIdeal.main_arg0) = m ((c.tc : Thread Cert.ModFwdIdeal.nD Cert.ModFwdIdeal.τ).loc Cert.ModFwdIdeal.main_arg0)
          ∧ r.2.mem ((c.tc : Thread Cert.ModFwdIdeal.nD Cert.ModFwdIdeal.τ).loc Cert.ModFwdIdeal.main_arg1) = m ((c.tc : Thread Cert.ModFwdIdeal.nD Cert.ModFwdIdeal.τ).loc Cert.ModFwdIdeal.main_arg1)
          ∧ r.2.mem ((c.tc : Thread Cert.ModFwdIdeal.nD Cert.ModFwdIdeal.τ).loc Cert.ModFwdIdeal.main_arg2) = m ((c.tc : Thread Cert.ModFwdIdeal.nD Cert.ModFwdIdeal.τ).loc Cert.ModFwdIdeal.main_arg2))
      ∧ θ_run (Cert.ModFwdRefIdeal.defs (F := Ideal)) (onTc (τ := Cert.ModFwdRefIdeal.τ) (Cert.ModFwdRefIdeal.main (F := Ideal))) ⟨m', fun _ => 0, g'⟩ (fun r => ∀ c : Dev Cert.ModFwdRefIdeal.nD,
          r.2.mem ((c.tc : Thread Cert.ModFwdRefIdeal.nD Cert.ModFwdRefIdeal.τ).loc Cert.ModFwdRefIdeal.main_v2) = v0 c
          ∧ r.2.mem ((c.tc : Thread Cert.ModFwdRefIdeal.nD Cert.ModFwdRefIdeal.τ).loc Cert.ModFwdRefIdeal.main_arg0) = m' ((c.tc : Thread Cert.ModFwdRefIdeal.nD Cert.ModFwdRefIdeal.τ).loc Cert.ModFwdRefIdeal.main_arg0)
          ∧ r.2.mem ((c.tc : Thread Cert.ModFwdRefIdeal.nD Cert.ModFwdRefIdeal.τ).loc Cert.ModFwdRefIdeal.main_arg1) = m' ((c.tc : Thread Cert.ModFwdRefIdeal.nD Cert.ModFwdRefIdeal.τ).loc Cert.ModFwdRefIdeal.main_arg1)
          ∧ r.2.mem ((c.tc : Thread Cert.ModFwdRefIdeal.nD Cert.ModFwdRefIdeal.τ).loc Cert.ModFwdRefIdeal.main_arg2) = m' ((c.tc : Thread Cert.ModFwdRefIdeal.nD Cert.ModFwdRefIdeal.τ).loc Cert.ModFwdRefIdeal.main_arg2))

def preserves_ModDw_ModDwIdeal : Prop :=
  True

def algebraic_ModDwIdeal_ModDwRefIdeal [hModDwIdeal : Cert.ModDwIdeal.Facts] [hModDwRefIdeal : Cert.ModDwRefIdeal.Facts] : Prop :=
  ∀ (m : (ℓ : Loc Cert.ModDwIdeal.nD Cert.ModDwIdeal.τ Cert.ModDwIdeal.sig) → Buf (Elt Ideal) ℓ) (g : Dev Cert.ModDwIdeal.nD → PrngReg)
    (m' : (ℓ : Loc Cert.ModDwRefIdeal.nD Cert.ModDwRefIdeal.τ Cert.ModDwRefIdeal.sig) → Buf (Elt Ideal) ℓ) (g' : Dev Cert.ModDwRefIdeal.nD → PrngReg), Pre_ModDwIdeal m →
    (∀ c : Dev Cert.ModDwIdeal.nD,
      m' ((c.tc : Thread Cert.ModDwRefIdeal.nD Cert.ModDwRefIdeal.τ).loc Cert.ModDwRefIdeal.main_arg0) = m ((c.tc : Thread Cert.ModDwIdeal.nD Cert.ModDwIdeal.τ).loc Cert.ModDwIdeal.main_arg0)
      ∧ m' ((c.tc : Thread Cert.ModDwRefIdeal.nD Cert.ModDwRefIdeal.τ).loc Cert.ModDwRefIdeal.main_arg1) = m ((c.tc : Thread Cert.ModDwIdeal.nD Cert.ModDwIdeal.τ).loc Cert.ModDwIdeal.main_arg1)) →
    ∃ (v0 : (c : Dev Cert.ModDwIdeal.nD) → Buf (Elt Ideal) ((c.tc : Thread Cert.ModDwIdeal.nD Cert.ModDwIdeal.τ).loc Cert.ModDwIdeal.main_v0)),
      θ_run (Cert.ModDwIdeal.defs (F := Ideal)) (onTc (τ := Cert.ModDwIdeal.τ) (Cert.ModDwIdeal.main (F := Ideal))) ⟨m, fun _ => 0, g⟩ (fun r => ∀ c : Dev Cert.ModDwIdeal.nD,
          r.2.mem ((c.tc : Thread Cert.ModDwIdeal.nD Cert.ModDwIdeal.τ).loc Cert.ModDwIdeal.main_v0) = v0 c
          ∧ r.2.mem ((c.tc : Thread Cert.ModDwIdeal.nD Cert.ModDwIdeal.τ).loc Cert.ModDwIdeal.main_arg0) = m ((c.tc : Thread Cert.ModDwIdeal.nD Cert.ModDwIdeal.τ).loc Cert.ModDwIdeal.main_arg0)
          ∧ r.2.mem ((c.tc : Thread Cert.ModDwIdeal.nD Cert.ModDwIdeal.τ).loc Cert.ModDwIdeal.main_arg1) = m ((c.tc : Thread Cert.ModDwIdeal.nD Cert.ModDwIdeal.τ).loc Cert.ModDwIdeal.main_arg1))
      ∧ θ_run (Cert.ModDwRefIdeal.defs (F := Ideal)) (onTc (τ := Cert.ModDwRefIdeal.τ) (Cert.ModDwRefIdeal.main (F := Ideal))) ⟨m', fun _ => 0, g'⟩ (fun r => ∀ c : Dev Cert.ModDwRefIdeal.nD,
          r.2.mem ((c.tc : Thread Cert.ModDwRefIdeal.nD Cert.ModDwRefIdeal.τ).loc Cert.ModDwRefIdeal.main_v3) = v0 c
          ∧ r.2.mem ((c.tc : Thread Cert.ModDwRefIdeal.nD Cert.ModDwRefIdeal.τ).loc Cert.ModDwRefIdeal.main_arg0) = m' ((c.tc : Thread Cert.ModDwRefIdeal.nD Cert.ModDwRefIdeal.τ).loc Cert.ModDwRefIdeal.main_arg0)
          ∧ r.2.mem ((c.tc : Thread Cert.ModDwRefIdeal.nD Cert.ModDwRefIdeal.τ).loc Cert.ModDwRefIdeal.main_arg1) = m' ((c.tc : Thread Cert.ModDwRefIdeal.nD Cert.ModDwRefIdeal.τ).loc Cert.ModDwRefIdeal.main_arg1))

def preserves_ModDx_ModDxIdeal : Prop :=
  True

def algebraic_ModDxIdeal_ModDxRefIdeal [hModDxIdeal : Cert.ModDxIdeal.Facts] [hModDxRefIdeal : Cert.ModDxRefIdeal.Facts] : Prop :=
  ∀ (m : (ℓ : Loc Cert.ModDxIdeal.nD Cert.ModDxIdeal.τ Cert.ModDxIdeal.sig) → Buf (Elt Ideal) ℓ) (g : Dev Cert.ModDxIdeal.nD → PrngReg)
    (m' : (ℓ : Loc Cert.ModDxRefIdeal.nD Cert.ModDxRefIdeal.τ Cert.ModDxRefIdeal.sig) → Buf (Elt Ideal) ℓ) (g' : Dev Cert.ModDxRefIdeal.nD → PrngReg), Pre_ModDxIdeal m →
    (∀ c : Dev Cert.ModDxIdeal.nD,
      m' ((c.tc : Thread Cert.ModDxRefIdeal.nD Cert.ModDxRefIdeal.τ).loc Cert.ModDxRefIdeal.main_arg0) = m ((c.tc : Thread Cert.ModDxIdeal.nD Cert.ModDxIdeal.τ).loc Cert.ModDxIdeal.main_arg0)
      ∧ m' ((c.tc : Thread Cert.ModDxRefIdeal.nD Cert.ModDxRefIdeal.τ).loc Cert.ModDxRefIdeal.main_arg1) = m ((c.tc : Thread Cert.ModDxIdeal.nD Cert.ModDxIdeal.τ).loc Cert.ModDxIdeal.main_arg1)) →
    ∃ (v0 : (c : Dev Cert.ModDxIdeal.nD) → Buf (Elt Ideal) ((c.tc : Thread Cert.ModDxIdeal.nD Cert.ModDxIdeal.τ).loc Cert.ModDxIdeal.main_v0)),
      θ_run (Cert.ModDxIdeal.defs (F := Ideal)) (onTc (τ := Cert.ModDxIdeal.τ) (Cert.ModDxIdeal.main (F := Ideal))) ⟨m, fun _ => 0, g⟩ (fun r => ∀ c : Dev Cert.ModDxIdeal.nD,
          r.2.mem ((c.tc : Thread Cert.ModDxIdeal.nD Cert.ModDxIdeal.τ).loc Cert.ModDxIdeal.main_v0) = v0 c
          ∧ r.2.mem ((c.tc : Thread Cert.ModDxIdeal.nD Cert.ModDxIdeal.τ).loc Cert.ModDxIdeal.main_arg0) = m ((c.tc : Thread Cert.ModDxIdeal.nD Cert.ModDxIdeal.τ).loc Cert.ModDxIdeal.main_arg0)
          ∧ r.2.mem ((c.tc : Thread Cert.ModDxIdeal.nD Cert.ModDxIdeal.τ).loc Cert.ModDxIdeal.main_arg1) = m ((c.tc : Thread Cert.ModDxIdeal.nD Cert.ModDxIdeal.τ).loc Cert.ModDxIdeal.main_arg1))
      ∧ θ_run (Cert.ModDxRefIdeal.defs (F := Ideal)) (onTc (τ := Cert.ModDxRefIdeal.τ) (Cert.ModDxRefIdeal.main (F := Ideal))) ⟨m', fun _ => 0, g'⟩ (fun r => ∀ c : Dev Cert.ModDxRefIdeal.nD,
          r.2.mem ((c.tc : Thread Cert.ModDxRefIdeal.nD Cert.ModDxRefIdeal.τ).loc Cert.ModDxRefIdeal.main_v2) = v0 c
          ∧ r.2.mem ((c.tc : Thread Cert.ModDxRefIdeal.nD Cert.ModDxRefIdeal.τ).loc Cert.ModDxRefIdeal.main_arg0) = m' ((c.tc : Thread Cert.ModDxRefIdeal.nD Cert.ModDxRefIdeal.τ).loc Cert.ModDxRefIdeal.main_arg0)
          ∧ r.2.mem ((c.tc : Thread Cert.ModDxRefIdeal.nD Cert.ModDxRefIdeal.τ).loc Cert.ModDxRefIdeal.main_arg1) = m' ((c.tc : Thread Cert.ModDxRefIdeal.nD Cert.ModDxRefIdeal.τ).loc Cert.ModDxRefIdeal.main_arg1))

def Claim : Prop :=
  ∃ (hKernel : Cert.Kernel.Facts) (hKernelIdeal : Cert.KernelIdeal.Facts) (hReferenceIdeal : Cert.ReferenceIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hInDwA : Cert.InDwA.Facts) (hInDwAIdeal : Cert.InDwAIdeal.Facts) (hInDwARefIdeal : Cert.InDwARefIdeal.Facts) (hFfnIn : Cert.FfnIn.Facts) (hFfnInIdeal : Cert.FfnInIdeal.Facts) (hFfnInRefIdeal : Cert.FfnInRefIdeal.Facts) (hOutProj : Cert.OutProj.Facts) (hOutProjIdeal : Cert.OutProjIdeal.Facts) (hOutProjRefIdeal : Cert.OutProjRefIdeal.Facts) (hMergeDx : Cert.MergeDx.Facts) (hMergeDxIdeal : Cert.MergeDxIdeal.Facts) (hMergeDxRefIdeal : Cert.MergeDxRefIdeal.Facts) (hMergeDw : Cert.MergeDw.Facts) (hMergeDwIdeal : Cert.MergeDwIdeal.Facts) (hMergeDwRefIdeal : Cert.MergeDwRefIdeal.Facts) (hBrAttn : Cert.BrAttn.Facts) (hBrAttnIdeal : Cert.BrAttnIdeal.Facts) (hBrAttnRefIdeal : Cert.BrAttnRefIdeal.Facts) (hBrSgu : Cert.BrSgu.Facts) (hBrSguIdeal : Cert.BrSguIdeal.Facts) (hBrSguRefIdeal : Cert.BrSguRefIdeal.Facts) (hBrDx : Cert.BrDx.Facts) (hBrDxIdeal : Cert.BrDxIdeal.Facts) (hBrDxRefIdeal : Cert.BrDxRefIdeal.Facts) (hBrDw : Cert.BrDw.Facts) (hBrDwIdeal : Cert.BrDwIdeal.Facts) (hBrDwRefIdeal : Cert.BrDwRefIdeal.Facts) (hGates : Cert.Gates.Facts) (hGatesIdeal : Cert.GatesIdeal.Facts) (hGatesRefIdeal : Cert.GatesRefIdeal.Facts) (hUv : Cert.Uv.Facts) (hUvIdeal : Cert.UvIdeal.Facts) (hUvRefIdeal : Cert.UvRefIdeal.Facts) (hGatesDw : Cert.GatesDw.Facts) (hGatesDwIdeal : Cert.GatesDwIdeal.Facts) (hGatesDwRefIdeal : Cert.GatesDwRefIdeal.Facts) (hUvDw : Cert.UvDw.Facts) (hUvDwIdeal : Cert.UvDwIdeal.Facts) (hUvDwRefIdeal : Cert.UvDwRefIdeal.Facts) (hProjDx : Cert.ProjDx.Facts) (hProjDxIdeal : Cert.ProjDxIdeal.Facts) (hProjDxRefIdeal : Cert.ProjDxRefIdeal.Facts) (hAttnFwd : Cert.AttnFwd.Facts) (hAttnFwdIdeal : Cert.AttnFwdIdeal.Facts) (hAttnFwdRefIdeal : Cert.AttnFwdRefIdeal.Facts) (hFfnOut : Cert.FfnOut.Facts) (hFfnOutIdeal : Cert.FfnOutIdeal.Facts) (hFfnOutRefIdeal : Cert.FfnOutRefIdeal.Facts) (hProjQ : Cert.ProjQ.Facts) (hProjQIdeal : Cert.ProjQIdeal.Facts) (hProjQRefIdeal : Cert.ProjQRefIdeal.Facts) (hProjKv : Cert.ProjKv.Facts) (hProjKvIdeal : Cert.ProjKvIdeal.Facts) (hProjKvRefIdeal : Cert.ProjKvRefIdeal.Facts) (hQUp : Cert.QUp.Facts) (hQUpIdeal : Cert.QUpIdeal.Facts) (hQUpRefIdeal : Cert.QUpRefIdeal.Facts) (hKvUp : Cert.KvUp.Facts) (hKvUpIdeal : Cert.KvUpIdeal.Facts) (hKvUpRefIdeal : Cert.KvUpRefIdeal.Facts) (hProjQDw : Cert.ProjQDw.Facts) (hProjQDwIdeal : Cert.ProjQDwIdeal.Facts) (hProjQDwRefIdeal : Cert.ProjQDwRefIdeal.Facts) (hQUpDw : Cert.QUpDw.Facts) (hQUpDwIdeal : Cert.QUpDwIdeal.Facts) (hQUpDwRefIdeal : Cert.QUpDwRefIdeal.Facts) (hKvUpDw : Cert.KvUpDw.Facts) (hKvUpDwIdeal : Cert.KvUpDwIdeal.Facts) (hKvUpDwRefIdeal : Cert.KvUpDwRefIdeal.Facts) (hKvUpDx : Cert.KvUpDx.Facts) (hKvUpDxIdeal : Cert.KvUpDxIdeal.Facts) (hKvUpDxRefIdeal : Cert.KvUpDxRefIdeal.Facts) (hProjKvCtx : Cert.ProjKvCtx.Facts) (hProjKvCtxIdeal : Cert.ProjKvCtxIdeal.Facts) (hProjKvCtxRefIdeal : Cert.ProjKvCtxRefIdeal.Facts) (hProjKvCtxDx : Cert.ProjKvCtxDx.Facts) (hProjKvCtxDxIdeal : Cert.ProjKvCtxDxIdeal.Facts) (hProjKvCtxDxRefIdeal : Cert.ProjKvCtxDxRefIdeal.Facts) (hProjKvDw : Cert.ProjKvDw.Facts) (hProjKvDwIdeal : Cert.ProjKvDwIdeal.Facts) (hProjKvDwRefIdeal : Cert.ProjKvDwRefIdeal.Facts) (hQUpDx : Cert.QUpDx.Facts) (hQUpDxIdeal : Cert.QUpDxIdeal.Facts) (hQUpDxRefIdeal : Cert.QUpDxRefIdeal.Facts) (hModFwd : Cert.ModFwd.Facts) (hModFwdIdeal : Cert.ModFwdIdeal.Facts) (hModFwdRefIdeal : Cert.ModFwdRefIdeal.Facts) (hModDw : Cert.ModDw.Facts) (hModDwIdeal : Cert.ModDwIdeal.Facts) (hModDwRefIdeal : Cert.ModDwRefIdeal.Facts) (hModDx : Cert.ModDx.Facts) (hModDxIdeal : Cert.ModDxIdeal.Facts) (hModDxRefIdeal : Cert.ModDxRefIdeal.Facts) (hPre_finite : Cert.Pre_finite.Facts) (hPre_ffn_out_dx_finite : Cert.Pre_ffn_out_dx_finite.Facts) (hPre_attn_fwd_finite : Cert.Pre_attn_fwd_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_OutDx (hOutDx := hOutDx)
    ∧ quiescent_OutDxIdeal (hOutDxIdeal := hOutDxIdeal)
    ∧ quiescent_OutDxIdeal_pre_ffn_out_dx_finite (hOutDxIdeal := hOutDxIdeal) (hPre_ffn_out_dx_finite := hPre_ffn_out_dx_finite)
    ∧ quiescent_OutDxRefIdeal (hOutDxRefIdeal := hOutDxRefIdeal)
    ∧ quiescent_OutDxRefIdeal_pre_ffn_out_dx_finite (hOutDxRefIdeal := hOutDxRefIdeal) (hPre_ffn_out_dx_finite := hPre_ffn_out_dx_finite)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_InDwA (hInDwA := hInDwA)
    ∧ quiescent_InDwAIdeal (hInDwAIdeal := hInDwAIdeal)
    ∧ quiescent_InDwARefIdeal (hInDwARefIdeal := hInDwARefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_MergeDx (hMergeDx := hMergeDx)
    ∧ quiescent_MergeDxIdeal (hMergeDxIdeal := hMergeDxIdeal)
    ∧ quiescent_MergeDxRefIdeal (hMergeDxRefIdeal := hMergeDxRefIdeal)
    ∧ quiescent_MergeDw (hMergeDw := hMergeDw)
    ∧ quiescent_MergeDwIdeal (hMergeDwIdeal := hMergeDwIdeal)
    ∧ quiescent_MergeDwRefIdeal (hMergeDwRefIdeal := hMergeDwRefIdeal)
    ∧ quiescent_BrAttn (hBrAttn := hBrAttn)
    ∧ quiescent_BrAttnIdeal (hBrAttnIdeal := hBrAttnIdeal)
    ∧ quiescent_BrAttnRefIdeal (hBrAttnRefIdeal := hBrAttnRefIdeal)
    ∧ quiescent_BrSgu (hBrSgu := hBrSgu)
    ∧ quiescent_BrSguIdeal (hBrSguIdeal := hBrSguIdeal)
    ∧ quiescent_BrSguRefIdeal (hBrSguRefIdeal := hBrSguRefIdeal)
    ∧ quiescent_BrDx (hBrDx := hBrDx)
    ∧ quiescent_BrDxIdeal (hBrDxIdeal := hBrDxIdeal)
    ∧ quiescent_BrDxRefIdeal (hBrDxRefIdeal := hBrDxRefIdeal)
    ∧ quiescent_BrDw (hBrDw := hBrDw)
    ∧ quiescent_BrDwIdeal (hBrDwIdeal := hBrDwIdeal)
    ∧ quiescent_BrDwRefIdeal (hBrDwRefIdeal := hBrDwRefIdeal)
    ∧ quiescent_Gates (hGates := hGates)
    ∧ quiescent_GatesIdeal (hGatesIdeal := hGatesIdeal)
    ∧ quiescent_GatesRefIdeal (hGatesRefIdeal := hGatesRefIdeal)
    ∧ quiescent_Uv (hUv := hUv)
    ∧ quiescent_UvIdeal (hUvIdeal := hUvIdeal)
    ∧ quiescent_UvRefIdeal (hUvRefIdeal := hUvRefIdeal)
    ∧ quiescent_GatesDw (hGatesDw := hGatesDw)
    ∧ quiescent_GatesDwIdeal (hGatesDwIdeal := hGatesDwIdeal)
    ∧ quiescent_GatesDwRefIdeal (hGatesDwRefIdeal := hGatesDwRefIdeal)
    ∧ quiescent_UvDw (hUvDw := hUvDw)
    ∧ quiescent_UvDwIdeal (hUvDwIdeal := hUvDwIdeal)
    ∧ quiescent_UvDwRefIdeal (hUvDwRefIdeal := hUvDwRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_AttnFwd (hAttnFwd := hAttnFwd)
    ∧ quiescent_AttnFwdIdeal (hAttnFwdIdeal := hAttnFwdIdeal)
    ∧ quiescent_AttnFwdIdeal_pre_attn_fwd_finite (hAttnFwdIdeal := hAttnFwdIdeal) (hPre_attn_fwd_finite := hPre_attn_fwd_finite)
    ∧ quiescent_AttnFwdRefIdeal (hAttnFwdRefIdeal := hAttnFwdRefIdeal)
    ∧ quiescent_AttnFwdRefIdeal_pre_attn_fwd_finite (hAttnFwdRefIdeal := hAttnFwdRefIdeal) (hPre_attn_fwd_finite := hPre_attn_fwd_finite)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_ProjQ (hProjQ := hProjQ)
    ∧ quiescent_ProjQIdeal (hProjQIdeal := hProjQIdeal)
    ∧ quiescent_ProjQRefIdeal (hProjQRefIdeal := hProjQRefIdeal)
    ∧ quiescent_ProjKv (hProjKv := hProjKv)
    ∧ quiescent_ProjKvIdeal (hProjKvIdeal := hProjKvIdeal)
    ∧ quiescent_ProjKvRefIdeal (hProjKvRefIdeal := hProjKvRefIdeal)
    ∧ quiescent_QUp (hQUp := hQUp)
    ∧ quiescent_QUpIdeal (hQUpIdeal := hQUpIdeal)
    ∧ quiescent_QUpRefIdeal (hQUpRefIdeal := hQUpRefIdeal)
    ∧ quiescent_KvUp (hKvUp := hKvUp)
    ∧ quiescent_KvUpIdeal (hKvUpIdeal := hKvUpIdeal)
    ∧ quiescent_KvUpRefIdeal (hKvUpRefIdeal := hKvUpRefIdeal)
    ∧ quiescent_ProjQDw (hProjQDw := hProjQDw)
    ∧ quiescent_ProjQDwIdeal (hProjQDwIdeal := hProjQDwIdeal)
    ∧ quiescent_ProjQDwRefIdeal (hProjQDwRefIdeal := hProjQDwRefIdeal)
    ∧ quiescent_QUpDw (hQUpDw := hQUpDw)
    ∧ quiescent_QUpDwIdeal (hQUpDwIdeal := hQUpDwIdeal)
    ∧ quiescent_QUpDwRefIdeal (hQUpDwRefIdeal := hQUpDwRefIdeal)
    ∧ quiescent_KvUpDw (hKvUpDw := hKvUpDw)
    ∧ quiescent_KvUpDwIdeal (hKvUpDwIdeal := hKvUpDwIdeal)
    ∧ quiescent_KvUpDwRefIdeal (hKvUpDwRefIdeal := hKvUpDwRefIdeal)
    ∧ quiescent_KvUpDx (hKvUpDx := hKvUpDx)
    ∧ quiescent_KvUpDxIdeal (hKvUpDxIdeal := hKvUpDxIdeal)
    ∧ quiescent_KvUpDxRefIdeal (hKvUpDxRefIdeal := hKvUpDxRefIdeal)
    ∧ quiescent_ProjKvCtx (hProjKvCtx := hProjKvCtx)
    ∧ quiescent_ProjKvCtxIdeal (hProjKvCtxIdeal := hProjKvCtxIdeal)
    ∧ quiescent_ProjKvCtxRefIdeal (hProjKvCtxRefIdeal := hProjKvCtxRefIdeal)
    ∧ quiescent_ProjKvCtxDx (hProjKvCtxDx := hProjKvCtxDx)
    ∧ quiescent_ProjKvCtxDxIdeal (hProjKvCtxDxIdeal := hProjKvCtxDxIdeal)
    ∧ quiescent_ProjKvCtxDxRefIdeal (hProjKvCtxDxRefIdeal := hProjKvCtxDxRefIdeal)
    ∧ quiescent_ProjKvDw (hProjKvDw := hProjKvDw)
    ∧ quiescent_ProjKvDwIdeal (hProjKvDwIdeal := hProjKvDwIdeal)
    ∧ quiescent_ProjKvDwRefIdeal (hProjKvDwRefIdeal := hProjKvDwRefIdeal)
    ∧ quiescent_QUpDx (hQUpDx := hQUpDx)
    ∧ quiescent_QUpDxIdeal (hQUpDxIdeal := hQUpDxIdeal)
    ∧ quiescent_QUpDxRefIdeal (hQUpDxRefIdeal := hQUpDxRefIdeal)
    ∧ quiescent_ModFwd (hModFwd := hModFwd)
    ∧ quiescent_ModFwdIdeal (hModFwdIdeal := hModFwdIdeal)
    ∧ quiescent_ModFwdRefIdeal (hModFwdRefIdeal := hModFwdRefIdeal)
    ∧ quiescent_ModDw (hModDw := hModDw)
    ∧ quiescent_ModDwIdeal (hModDwIdeal := hModDwIdeal)
    ∧ quiescent_ModDwRefIdeal (hModDwRefIdeal := hModDwRefIdeal)
    ∧ quiescent_ModDx (hModDx := hModDx)
    ∧ quiescent_ModDxIdeal (hModDxIdeal := hModDxIdeal)
    ∧ quiescent_ModDxRefIdeal (hModDxRefIdeal := hModDxRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_OutDx_OutDxIdeal
    ∧ algebraic_OutDxIdeal_OutDxRefIdeal_pre_ffn_out_dx_finite (hOutDxIdeal := hOutDxIdeal) (hOutDxRefIdeal := hOutDxRefIdeal) (hPre_ffn_out_dx_finite := hPre_ffn_out_dx_finite)
    ∧ preserves_OutDw_OutDwIdeal
    ∧ algebraic_OutDwIdeal_OutDwRefIdeal (hOutDwIdeal := hOutDwIdeal) (hOutDwRefIdeal := hOutDwRefIdeal)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_InDwA_InDwAIdeal
    ∧ algebraic_InDwAIdeal_InDwARefIdeal (hInDwAIdeal := hInDwAIdeal) (hInDwARefIdeal := hInDwARefIdeal)
    ∧ preserves_FfnIn_FfnInIdeal
    ∧ algebraic_FfnInIdeal_FfnInRefIdeal (hFfnInIdeal := hFfnInIdeal) (hFfnInRefIdeal := hFfnInRefIdeal)
    ∧ preserves_OutProj_OutProjIdeal
    ∧ algebraic_OutProjIdeal_OutProjRefIdeal (hOutProjIdeal := hOutProjIdeal) (hOutProjRefIdeal := hOutProjRefIdeal)
    ∧ preserves_MergeDx_MergeDxIdeal
    ∧ algebraic_MergeDxIdeal_MergeDxRefIdeal (hMergeDxIdeal := hMergeDxIdeal) (hMergeDxRefIdeal := hMergeDxRefIdeal)
    ∧ preserves_MergeDw_MergeDwIdeal
    ∧ algebraic_MergeDwIdeal_MergeDwRefIdeal (hMergeDwIdeal := hMergeDwIdeal) (hMergeDwRefIdeal := hMergeDwRefIdeal)
    ∧ preserves_BrAttn_BrAttnIdeal
    ∧ algebraic_BrAttnIdeal_BrAttnRefIdeal (hBrAttnIdeal := hBrAttnIdeal) (hBrAttnRefIdeal := hBrAttnRefIdeal)
    ∧ preserves_BrSgu_BrSguIdeal
    ∧ algebraic_BrSguIdeal_BrSguRefIdeal (hBrSguIdeal := hBrSguIdeal) (hBrSguRefIdeal := hBrSguRefIdeal)
    ∧ preserves_BrDx_BrDxIdeal
    ∧ algebraic_BrDxIdeal_BrDxRefIdeal (hBrDxIdeal := hBrDxIdeal) (hBrDxRefIdeal := hBrDxRefIdeal)
    ∧ preserves_BrDw_BrDwIdeal
    ∧ algebraic_BrDwIdeal_BrDwRefIdeal (hBrDwIdeal := hBrDwIdeal) (hBrDwRefIdeal := hBrDwRefIdeal)
    ∧ preserves_Gates_GatesIdeal
    ∧ algebraic_GatesIdeal_GatesRefIdeal (hGatesIdeal := hGatesIdeal) (hGatesRefIdeal := hGatesRefIdeal)
    ∧ preserves_Uv_UvIdeal
    ∧ algebraic_UvIdeal_UvRefIdeal (hUvIdeal := hUvIdeal) (hUvRefIdeal := hUvRefIdeal)
    ∧ preserves_GatesDw_GatesDwIdeal
    ∧ algebraic_GatesDwIdeal_GatesDwRefIdeal (hGatesDwIdeal := hGatesDwIdeal) (hGatesDwRefIdeal := hGatesDwRefIdeal)
    ∧ preserves_UvDw_UvDwIdeal
    ∧ algebraic_UvDwIdeal_UvDwRefIdeal (hUvDwIdeal := hUvDwIdeal) (hUvDwRefIdeal := hUvDwRefIdeal)
    ∧ preserves_ProjDx_ProjDxIdeal
    ∧ algebraic_ProjDxIdeal_ProjDxRefIdeal (hProjDxIdeal := hProjDxIdeal) (hProjDxRefIdeal := hProjDxRefIdeal)
    ∧ preserves_AttnFwd_AttnFwdIdeal
    ∧ algebraic_AttnFwdIdeal_AttnFwdRefIdeal_pre_attn_fwd_finite (hAttnFwdIdeal := hAttnFwdIdeal) (hAttnFwdRefIdeal := hAttnFwdRefIdeal) (hPre_attn_fwd_finite := hPre_attn_fwd_finite)
    ∧ preserves_FfnOut_FfnOutIdeal
    ∧ algebraic_FfnOutIdeal_FfnOutRefIdeal (hFfnOutIdeal := hFfnOutIdeal) (hFfnOutRefIdeal := hFfnOutRefIdeal)
    ∧ preserves_ProjQ_ProjQIdeal
    ∧ algebraic_ProjQIdeal_ProjQRefIdeal (hProjQIdeal := hProjQIdeal) (hProjQRefIdeal := hProjQRefIdeal)
    ∧ preserves_ProjKv_ProjKvIdeal
    ∧ algebraic_ProjKvIdeal_ProjKvRefIdeal (hProjKvIdeal := hProjKvIdeal) (hProjKvRefIdeal := hProjKvRefIdeal)
    ∧ preserves_QUp_QUpIdeal
    ∧ algebraic_QUpIdeal_QUpRefIdeal (hQUpIdeal := hQUpIdeal) (hQUpRefIdeal := hQUpRefIdeal)
    ∧ preserves_KvUp_KvUpIdeal
    ∧ algebraic_KvUpIdeal_KvUpRefIdeal (hKvUpIdeal := hKvUpIdeal) (hKvUpRefIdeal := hKvUpRefIdeal)
    ∧ preserves_ProjQDw_ProjQDwIdeal
    ∧ algebraic_ProjQDwIdeal_ProjQDwRefIdeal (hProjQDwIdeal := hProjQDwIdeal) (hProjQDwRefIdeal := hProjQDwRefIdeal)
    ∧ preserves_QUpDw_QUpDwIdeal
    ∧ algebraic_QUpDwIdeal_QUpDwRefIdeal (hQUpDwIdeal := hQUpDwIdeal) (hQUpDwRefIdeal := hQUpDwRefIdeal)
    ∧ preserves_KvUpDw_KvUpDwIdeal
    ∧ algebraic_KvUpDwIdeal_KvUpDwRefIdeal (hKvUpDwIdeal := hKvUpDwIdeal) (hKvUpDwRefIdeal := hKvUpDwRefIdeal)
    ∧ preserves_KvUpDx_KvUpDxIdeal
    ∧ algebraic_KvUpDxIdeal_KvUpDxRefIdeal (hKvUpDxIdeal := hKvUpDxIdeal) (hKvUpDxRefIdeal := hKvUpDxRefIdeal)
    ∧ preserves_ProjKvCtx_ProjKvCtxIdeal
    ∧ algebraic_ProjKvCtxIdeal_ProjKvCtxRefIdeal (hProjKvCtxIdeal := hProjKvCtxIdeal) (hProjKvCtxRefIdeal := hProjKvCtxRefIdeal)
    ∧ preserves_ProjKvCtxDx_ProjKvCtxDxIdeal
    ∧ algebraic_ProjKvCtxDxIdeal_ProjKvCtxDxRefIdeal (hProjKvCtxDxIdeal := hProjKvCtxDxIdeal) (hProjKvCtxDxRefIdeal := hProjKvCtxDxRefIdeal)
    ∧ preserves_ProjKvDw_ProjKvDwIdeal
    ∧ algebraic_ProjKvDwIdeal_ProjKvDwRefIdeal (hProjKvDwIdeal := hProjKvDwIdeal) (hProjKvDwRefIdeal := hProjKvDwRefIdeal)
    ∧ preserves_QUpDx_QUpDxIdeal
    ∧ algebraic_QUpDxIdeal_QUpDxRefIdeal (hQUpDxIdeal := hQUpDxIdeal) (hQUpDxRefIdeal := hQUpDxRefIdeal)
    ∧ preserves_ModFwd_ModFwdIdeal
    ∧ algebraic_ModFwdIdeal_ModFwdRefIdeal (hModFwdIdeal := hModFwdIdeal) (hModFwdRefIdeal := hModFwdRefIdeal)
    ∧ preserves_ModDw_ModDwIdeal
    ∧ algebraic_ModDwIdeal_ModDwRefIdeal (hModDwIdeal := hModDwIdeal) (hModDwRefIdeal := hModDwRefIdeal)
    ∧ preserves_ModDx_ModDxIdeal
    ∧ algebraic_ModDxIdeal_ModDxRefIdeal (hModDxIdeal := hModDxIdeal) (hModDxRefIdeal := hModDxRefIdeal)
-- ==== Pre_attn_fwd_finite.lean ====
abbrev S4096x8x192 : Shape := ⟨3, ![4096, 8, 192]⟩
abbrev S4352x8x192 : Shape := ⟨3, ![4352, 8, 192]⟩
abbrev S4352x8x128 : Shape := ⟨3, ![4352, 8, 128]⟩
abbrev S_ : Shape := ⟨0, ![]⟩

class Facts : Prop where
  bcast_S_S4096x8x192 : S_.BroadcastsInDim S4096x8x192 (![] : Fin 0 → Fin S4096x8x192.rank)
  bcast_S_S4352x8x192 : S_.BroadcastsInDim S4352x8x192 (![] : Fin 0 → Fin S4352x8x192.rank)

variable [Facts]

def fn {F : FTy → Type} [FloatOps F] (main_arg0 : FVec F S4096x8x192 .f32) (main_arg1 : FVec F S4352x8x192 .f32) (main_arg2 : FVec F S4352x8x128 .f32) : IVec S4096x8x192 1 × IVec S4352x8x192 1 :=
  let main_v0 : FVec F S4096x8x192 .f32 := Host.absf main_arg0
  let main_cst : FVec F S_ .f32 := constant S_ .f32 0x7F800000#32
  let main_v1 : FVec F S4096x8x192 .f32 := broadcastInDim S4096x8x192 ![] bcast_S_S4096x8x192 main_cst
  let main_v2 : IVec S4096x8x192 1 := cmpf .olt main_v0 main_v1
  let main_v3 : FVec F S4352x8x192 .f32 := Host.absf main_arg1
  let main_cst_0 : FVec F S_ .f32 := constant S_ .f32 0x7F800000#32
  let main_v4 : FVec F S4352x8x192 .f32 := broadcastInDim S4352x8x192 ![] bcast_S_S4352x8x192 main_cst_0
  let main_v5 : IVec S4352x8x192 1 := cmpf .olt main_v3 main_v4
  (main_v2, main_v5)
-- ==== Pre_ffn_out_dx_finite.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S5632x2048 : S_.BroadcastsInDim S5632x2048 (![] : Fin 0 → Fin S5632x2048.rank)
  bcast_S_S4096x5632 : S_.BroadcastsInDim S4096x5632 (![] : Fin 0 → Fin S4096x5632.rank)

variable [Facts]

def fn {F : FTy → Type} [FloatOps F] (main_arg0 : FVec F S4096x2048 .bf16) (main_arg1 : FVec F S5632x2048 .bf16) (main_arg2 : FVec F S4096x5632 .bf16) (main_arg3 : FVec F S4096x5632 .bf16) : IVec S4096x2048 1 × IVec S5632x2048 1 × IVec S4096x5632 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S5632x2048 .f32 := (extf .f32 · bitsLt_bf16_f32) main_arg1
  let main_v5 : FVec F S5632x2048 .f32 := Host.absf main_v4
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_v8 : FVec F S4096x5632 .f32 := (extf .f32 · bitsLt_bf16_f32) main_arg3
  let main_v9 : FVec F S4096x5632 .f32 := Host.absf main_v8
  let main_cst_1 : FVec F S_ .f32 := constant S_ .f32 0x7F800000#32
  let main_v10 : FVec F S4096x5632 .f32 := broadcastInDim S4096x5632 ![] bcast_S_S4096x5632 main_cst_1
  let main_v11 : IVec S4096x5632 1 := cmpf .olt main_v9 main_v10
  (main_v3, main_v7, main_v11)
-- ==== Pre_finite.lean ====
abbrev S4096x8x192 : Shape := ⟨3, ![4096, 8, 192]⟩
abbrev S4352x8x192 : Shape := ⟨3, ![4352, 8, 192]⟩
abbrev S4352x8x128 : Shape := ⟨3, ![4352, 8, 128]⟩
abbrev S4096x8x128 : Shape := ⟨3, ![4096, 8, 128]⟩
abbrev S_ : Shape := ⟨0, ![]⟩

class Facts : Prop where
  bcast_S_S4096x8x192 : S_.BroadcastsInDim S4096x8x192 (![] : Fin 0 → Fin S4096x8x192.rank)
  bcast_S_S4352x8x192 : S_.BroadcastsInDim S4352x8x192 (![] : Fin 0 → Fin S4352x8x192.rank)
  bcast_S_S4352x8x128 : S_.BroadcastsInDim S4352x8x128 (![] : Fin 0 → Fin S4352x8x128.rank)
  bcast_S_S4096x8x128 : S_.BroadcastsInDim S4096x8x128 (![] : Fin 0 → Fin S4096x8x128.rank)

variable [Facts]

def fn {F : FTy → Type} [FloatOps F] (main_arg0 : FVec F S4096x8x192 .f32) (main_arg1 : FVec F S4352x8x192 .f32) (main_arg2 : FVec F S4352x8x128 .f32) (main_arg3 : FVec F S4096x8x128 .f32) : IVec S4096x8x192 1 × IVec S4352x8x192 1 × IVec S4352x8x128 1 × IVec S4096x8x128 1 :=
  let main_v0 : FVec F S4096x8x192 .f32 := Host.absf main_arg0
  let main_cst : FVec F S_ .f32 := constant S_ .f32 0x7F800000#32
  let main_v1 : FVec F S4096x8x192 .f32 := broadcastInDim S4096x8x192 ![] bcast_S_S4096x8x192 main_cst
  let main_v2 : IVec S4096x8x192 1 := cmpf .olt main_v0 main_v1
  let main_v3 : FVec F S4352x8x192 .f32 := Host.absf main_arg1
  let main_cst_0 : FVec F S_ .f32 := constant S_ .f32 0x7F800000#32
  let main_v4 : FVec F S4352x8x192 .f32 := broadcastInDim S4352x8x192 ![] bcast_S_S4352x8x192 main_cst_0
  let main_v5 : IVec S4352x8x192 1 := cmpf .olt main_v3 main_v4
  let main_v6 : FVec F S4352x8x128 .f32 := Host.absf main_arg2
  let main_cst_1 : FVec F S_ .f32 := constant S_ .f32 0x7F800000#32
  let main_v7 : FVec F S4352x8x128 .f32 := broadcastInDim S4352x8x128 ![] bcast_S_S4352x8x128 main_cst_1
  let main_v8 : IVec S4352x8x128 1 := cmpf .olt main_v6 main_v7
  let main_v9 : FVec F S4096x8x128 .f32 := Host.absf main_arg3
  let main_cst_2 : FVec F S_ .f32 := constant S_ .f32 0x7F800000#32
  let main_v10 : FVec F S4096x8x128 .f32 := broadcastInDim S4096x8x128 ![] bcast_S_S4096x8x128 main_cst_2
  let main_v11 : IVec S4096x8x128 1 := cmpf .olt main_v9 main_v10
  (main_v2, main_v5, main_v8, main_v11)
-- ==== Kernel.lean ====
abbrev S4096x8x192 : Shape := ⟨3, ![4096, 8, 192]⟩
abbrev S4352x8x192 : Shape := ⟨3, ![4352, 8, 192]⟩
abbrev S4352x8x128 : Shape := ⟨3, ![4352, 8, 128]⟩
abbrev S4096x8x128 : Shape := ⟨3, ![4096, 8, 128]⟩
abbrev S_ : Shape := ⟨0, ![]⟩
abbrev S4096x8x256 : Shape := ⟨3, ![4096, 8, 256]⟩
abbrev S4096x2048 : Shape := ⟨2, ![4096, 2048]⟩
abbrev S4352x8x256 : Shape := ⟨3, ![4352, 8, 256]⟩
abbrev S4352x2048 : Shape := ⟨2, ![4352, 2048]⟩
abbrev S8x4096x4352 : Shape := ⟨3, ![8, 4096, 4352]⟩
abbrev S8x4096 : Shape := ⟨2, ![8, 4096]⟩
abbrev S8x4096x1 : Shape := ⟨3, ![8, 4096, 1]⟩
abbrev S8x128x4096 : Shape := ⟨3, ![8, 128, 4096]⟩
abbrev S4096x8 : Shape := ⟨2, ![4096, 8]⟩
abbrev S4096x8x1 : Shape := ⟨3, ![4096, 8, 1]⟩
abbrev S4096x1024 : Shape := ⟨2, ![4096, 1024]⟩
abbrev S4352x1024 : Shape := ⟨2, ![4352, 1024]⟩
abbrev S512x256 : Shape := ⟨2, ![512, 256]⟩
abbrev S4352x256 : Shape := ⟨2, ![4352, 256]⟩
abbrev S4352x128 : Shape := ⟨2, ![4352, 128]⟩
abbrev S512x128 : Shape := ⟨2, ![512, 128]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S256x4352 : Shape := ⟨2, ![256, 4352]⟩

abbrev nBuf : Space → Nat
  | .hbm => 60
  | .vmem => 18
  | .smem => 0
  | _ => 0

abbrev bufTy : (tb : Table) → Fin (tcTables nBuf tb) → BufTy
  | .hbm, ⟨0, _⟩ => ⟨S4096x8x192, .f32⟩
  | .hbm, ⟨1, _⟩ => ⟨S4352x8x192, .f32⟩
  | .hbm, ⟨2, _⟩ => ⟨S4352x8x128, .f32⟩
  | .hbm, ⟨3, _⟩ => ⟨S4096x8x128, .f32⟩
  | .hbm, ⟨4, _⟩ => ⟨S_, .f32⟩
  | .hbm, ⟨5, _⟩ => ⟨S4096x8x192, .f32⟩
  | .hbm, ⟨6, _⟩ => ⟨S4096x8x192, .f32⟩
  | .hbm, ⟨7, _⟩ => ⟨S_, .i32⟩
  | .hbm, ⟨8, _⟩ => ⟨S_, .f32⟩
  | .hbm, ⟨9, _⟩ => ⟨S4096x8x256, .f32⟩
  | .hbm, ⟨10, _⟩ => ⟨S4096x2048, .f32⟩
  | .hbm, ⟨11, _⟩ => ⟨S4096x2048, .bf16⟩
  | .hbm, ⟨12, _⟩ => ⟨S_, .i32⟩
  | .hbm, ⟨13, _⟩ => ⟨S_, .f32⟩
  | .hbm, ⟨14, _⟩ => ⟨S4352x8x256, .f32⟩
  | .hbm, ⟨15, _⟩ => ⟨S4352x2048, .f32⟩
  | .hbm, ⟨16, _⟩ => ⟨S4352x2048, .bf16⟩
  | .hbm, ⟨17, _⟩ => ⟨S_, .f32⟩
  | .hbm, ⟨18, _⟩ => ⟨S4096x8x192, .f32⟩
  | .hbm, ⟨19, _⟩ => ⟨S4096x8x192, .f32⟩
  | .hbm, ⟨20, _⟩ => ⟨S8x4096x4352, .f32⟩
  | .hbm, ⟨21, _⟩ => ⟨S_, .f32⟩
  | .hbm, ⟨22, _⟩ => ⟨S8x4096, .f32⟩
  | .hbm, ⟨23, _⟩ => ⟨S_, .f32⟩
  | .hbm, ⟨24, _⟩ => ⟨S8x4096, .f32⟩
  | .hbm, ⟨25, _⟩ => ⟨S8x4096, .f32⟩
  | .hbm, ⟨26, _⟩ => ⟨S8x4096x1, .f32⟩
  | .hbm, ⟨27, _⟩ => ⟨S8x4096x4352, .f32⟩
  | .hbm, ⟨28, _⟩ => ⟨S8x4096x4352, .f32⟩
  | .hbm, ⟨29, _⟩ => ⟨S8x4096x4352, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S8x4096x4352, .f32⟩
  | .hbm, ⟨34, _⟩ => ⟨S8x4096x4352, .f32⟩
  | .hbm, ⟨35, _⟩ => ⟨S8x128x4096, .f32⟩
  | .hbm, ⟨36, _⟩ => ⟨S4096x8x128, .f32⟩
  | .hbm, ⟨37, _⟩ => ⟨S_, .f32⟩
  | .hbm, ⟨38, _⟩ => ⟨S8x4096, .f32⟩
  | .hbm, ⟨39, _⟩ => ⟨S8x4096x1, .f32⟩
  | .hbm, ⟨40, _⟩ => ⟨S8x4096x4352, .f32⟩
  | .hbm, ⟨41, _⟩ => ⟨S8x4096x4352, .f32⟩
  | .hbm, ⟨42, _⟩ => ⟨S8x4096x4352, .f32⟩
  | .hbm, ⟨43, _⟩ => ⟨S_, .f32⟩
  | .hbm, ⟨44, _⟩ => ⟨S8x4096, .f32⟩
  | .hbm, ⟨45, _⟩ => ⟨S8x4096, .f32⟩
  | .hbm, ⟨46, _⟩ => ⟨S8x4096, .f32⟩
  | .hbm, ⟨47, _⟩ => ⟨S4096x8, .f32⟩
  | .hbm, ⟨48, _⟩ => ⟨S4096x8x1, .f32⟩
  | .hbm, ⟨49, _⟩ => ⟨S4096x8x128, .f32⟩
  | .hbm, ⟨50, _⟩ => ⟨S4096x1024, .f32⟩
  | .hbm, ⟨51, _⟩ => ⟨S4352x1024, .f32⟩
  | .hbm, ⟨52, _⟩ => ⟨S4352x1024, .bf16⟩
  | .hbm, ⟨53, _⟩ => ⟨S4096x1024, .f32⟩
  | .hbm, ⟨54, _⟩ => ⟨S4096x1024, .bf16⟩
  | .hbm, ⟨55, _⟩ => ⟨S4096x1024, .f32⟩
  | .hbm, ⟨56, _⟩ => ⟨S4096x1024, .bf16⟩
  | .hbm, ⟨57, _⟩ => ⟨S4096x2048, .f32⟩
  | .hbm, ⟨58, _⟩ => ⟨S4352x2048, .f32⟩
  | .hbm, ⟨59, _⟩ => ⟨S4352x1024, .f32⟩
  | .local _ .vmem, ⟨0, _⟩ => ⟨S512x256, .bf16⟩
  | .local _ .vmem, ⟨1, _⟩ => ⟨S512x256, .bf16⟩
  | .local _ .vmem, ⟨2, _⟩ => ⟨S4352x256, .bf16⟩
  | .local _ .vmem, ⟨3, _⟩ => ⟨S4352x256, .bf16⟩
  | .local _ .vmem, ⟨4, _⟩ => ⟨S4352x128, .bf16⟩
  | .local _ .vmem, ⟨5, _⟩ => ⟨S4352x128, .bf16⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | .local _ .vmem, ⟨10, _⟩ => ⟨S512x128, .bf16⟩
  | .local _ .vmem, ⟨11, _⟩ => ⟨S512x128, .bf16⟩
  | .local _ .vmem, ⟨12, _⟩ => ⟨S512x256, .f32⟩
  | .local _ .vmem, ⟨13, _⟩ => ⟨S512x256, .f32⟩
  | .local _ .vmem, ⟨14, _⟩ => ⟨S4352x256, .f32⟩
  | .local _ .vmem, ⟨15, _⟩ => ⟨S4352x256, .f32⟩
  | .local _ .vmem, ⟨16, _⟩ => ⟨S4352x128, .f32⟩
  | .local _ .vmem, ⟨17, _⟩ => ⟨S4352x128, .f32⟩
  | _, _ => ⟨S4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42_0 : Ref sig .tc := ⟨.hbm, 57, rfl⟩
abbrev main_v42_1 : Ref sig .tc := ⟨.hbm, 58, rfl⟩
abbrev main_v42_2 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v62 : BitVec 1 := Scalar.cmpi .eq arg1 c0_i32
  let v63 : BitVec 32 := Scalar.extui v62
  let c0_i32_33 : BitVec 32 := 0#32
  let v64 : BitVec 1 := Scalar.cmpi .ne v63 c0_i32_33
  v64

def k0_cond2 (i : grid0.Coords) : BitVec 1 :=
  let arg1 : BitVec 32 := BitVec.ofNat 32 (i 1).val
  let c0_i32_34 : BitVec 32 := 0#32
  let v65 : BitVec 1 := Scalar.cmpi .sgt arg1 c0_i32_34
  let v66 : BitVec 32 := Scalar.extui v65
  let c0_i32_35 : BitVec 32 := 0#32
  let v67 : BitVec 1 := Scalar.cmpi .ne v66 c0_i32_35
  v67

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4352x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4352x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4096x8x192 : Shape := ⟨3, ![4096, 8, 192]⟩
abbrev S4352x8x192 : Shape := ⟨3, ![4352, 8, 192]⟩
abbrev S4352x8x128 : Shape := ⟨3, ![4352, 8, 128]⟩
abbrev S4096x8x128 : Shape := ⟨3, ![4096, 8, 128]⟩
abbrev S_ : Shape := ⟨0, ![]⟩
abbrev S8x4096x4352 : Shape := ⟨3, ![8, 4096, 4352]⟩
abbrev S8x4096 : Shape := ⟨2, ![8, 4096]⟩
abbrev S8x4096x1 : Shape := ⟨3, ![8, 4096, 1]⟩
abbrev S8x128x4096 : Shape := ⟨3, ![8, 128, 4096]⟩
abbrev S8x128x4352 : Shape := ⟨3, ![8, 128, 4352]⟩
abbrev S8x4352x192 : Shape := ⟨3, ![8, 4352, 192]⟩
abbrev S8x4096x192 : Shape := ⟨3, ![8, 4096, 192]⟩
abbrev S4096x8x256 : Shape := ⟨3, ![4096, 8, 256]⟩
abbrev S4096x2048 : Shape := ⟨2, ![4096, 2048]⟩
abbrev S4352x8x256 : Shape := ⟨3, ![4352, 8, 256]⟩
abbrev S4352x2048 : Shape := ⟨2, ![4352, 2048]⟩
abbrev S4352x1024 : Shape := ⟨2, ![4352, 1024]⟩

abbrev nBuf : Space → Nat
  | .hbm => 79
  | .vmem => 0
  | .smem => 0
  | _ => 0

abbrev bufTy : (tb : Table) → Fin (tcTables nBuf tb) → BufTy
  | .hbm, ⟨0, _⟩ => ⟨S4096x8x192, .f32⟩
  | .hbm, ⟨1, _⟩ => ⟨S4352x8x192, .f32⟩
  | .hbm, ⟨2, _⟩ => ⟨S4352x8x128, .f32⟩
  | .hbm, ⟨3, _⟩ => ⟨S4096x8x128, .f32⟩
  | .hbm, ⟨4, _⟩ => ⟨S_, .f32⟩
  | .hbm, ⟨5, _⟩ => ⟨S4096x8x192, .f32⟩
  | .hbm, ⟨6, _⟩ => ⟨S4096x8x192, .f32⟩
  | .hbm, ⟨7, _⟩ => ⟨S8x4096x4352, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S8x4096x4352, .f32⟩
  | .hbm, ⟨12, _⟩ => ⟨S8x4096x4352, .i1⟩
  | .hbm, ⟨13, _⟩ => ⟨S8x4096x4352, .f32⟩
  | .hbm, ⟨14, _⟩ => ⟨S_, .f32⟩
  | .hbm, ⟨15, _⟩ => ⟨S8x4096, .f32⟩
  | .hbm, ⟨16, _⟩ => ⟨S_, .f32⟩
  | .hbm, ⟨17, _⟩ => ⟨S8x4096, .f32⟩
  | .hbm, ⟨18, _⟩ => ⟨S8x4096, .f32⟩
  | .hbm, ⟨19, _⟩ => ⟨S_, .f32⟩
  | .hbm, ⟨20, _⟩ => ⟨S8x4096, .f32⟩
  | .hbm, ⟨21, _⟩ => ⟨S8x4096, .i1⟩
  | .hbm, ⟨22, _⟩ => ⟨S_, .f32⟩
  | .hbm, ⟨23, _⟩ => ⟨S8x4096, .f32⟩
  | .hbm, ⟨24, _⟩ => ⟨S8x4096, .i1⟩
  | .hbm, ⟨25, _⟩ => ⟨S_, .f32⟩
  | .hbm, ⟨26, _⟩ => ⟨S8x4096, .f32⟩
  | .hbm, ⟨27, _⟩ => ⟨S_, .f32⟩
  | .hbm, ⟨28, _⟩ => ⟨S8x4096, .f32⟩
  | .hbm, ⟨29, _⟩ => ⟨S_, .f32⟩
  | .hbm, ⟨30, _⟩ => ⟨S8x4096, .f32⟩
  | .hbm, ⟨31, _⟩ => ⟨S8x4096, .f32⟩
  | .hbm, ⟨32, _⟩ => ⟨S8x4096, .f32⟩
  | .hbm, ⟨33, _⟩ => ⟨S8x4096x1, .f32⟩
  | .hbm, ⟨34, _⟩ => ⟨S8x4096x4352, .f32⟩
  | .hbm, ⟨35, _⟩ => ⟨S8x4096x4352, .f32⟩
  | .hbm, ⟨36, _⟩ => ⟨S8x4096x4352, .f32⟩
  | .hbm, ⟨37, _⟩ => ⟨S_, .f32⟩
  | .hbm, ⟨38, _⟩ => ⟨S8x4096, .f32⟩
  | .hbm, ⟨39, _⟩ => ⟨S8x4096x1, .f32⟩
  | .hbm, ⟨40, _⟩ => ⟨S8x4096x4352, .f32⟩
  | .hbm, ⟨41, _⟩ => ⟨S8x4096x4352, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S8x128x4096, .f32⟩
  | .hbm, ⟨47, _⟩ => ⟨S4096x8x128, .f32⟩
  | .hbm, ⟨48, _⟩ => ⟨S8x128x4096, .f32⟩
  | .hbm, ⟨49, _⟩ => ⟨S8x4096x4352, .f32⟩
  | .hbm, ⟨50, _⟩ => ⟨S8x128x4352, .f32⟩
  | .hbm, ⟨51, _⟩ => ⟨S4352x8x128, .f32⟩
  | .hbm, ⟨52, _⟩ => ⟨S8x4096x4352, .f32⟩
  | .hbm, ⟨53, _⟩ => ⟨S8x4096x4352, .f32⟩
  | .hbm, ⟨54, _⟩ => ⟨S8x4096x4352, .f32⟩
  | .hbm, ⟨55, _⟩ => ⟨S_, .f32⟩
  | .hbm, ⟨56, _⟩ => ⟨S8x4096, .f32⟩
  | .hbm, ⟨57, _⟩ => ⟨S8x4096x1, .f32⟩
  | .hbm, ⟨58, _⟩ => ⟨S8x4096x1, .f32⟩
  | .hbm, ⟨59, _⟩ => ⟨S8x4096x4352, .f32⟩
  | .hbm, ⟨60, _⟩ => ⟨S8x4096x4352, .f32⟩
  | .hbm, ⟨61, _⟩ => ⟨S_, .f32⟩
  | .hbm, ⟨62, _⟩ => ⟨S8x4096, .f32⟩
  | .hbm, ⟨63, _⟩ => ⟨S8x4096x4352, .f32⟩
  | .hbm, ⟨64, _⟩ => ⟨S8x4096x4352, .f32⟩
  | .hbm, ⟨65, _⟩ => ⟨S8x4096x4352, .f32⟩
  | .hbm, ⟨66, _⟩ => ⟨S8x4352x192, .f32⟩
  | .hbm, ⟨67, _⟩ => ⟨S4352x8x192, .f32⟩
  | .hbm, ⟨68, _⟩ => ⟨S8x4096x192, .f32⟩
  | .hbm, ⟨69, _⟩ => ⟨S4096x8x192, .f32⟩
  | .hbm, ⟨70, _⟩ => ⟨S_, .i32⟩
  | .hbm, ⟨71, _⟩ => ⟨S_, .f32⟩
  | .hbm, ⟨72, _⟩ => ⟨S4096x8x256, .f32⟩
  | .hbm, ⟨73, _⟩ => ⟨S4096x2048, .f32⟩
  | .hbm, ⟨74, _⟩ => ⟨S_, .i32⟩
  | .hbm, ⟨75, _⟩ => ⟨S_, .f32⟩
  | .hbm, ⟨76, _⟩ => ⟨S4352x8x256, .f32⟩
  | .hbm, ⟨77, _⟩ => ⟨S4352x2048, .f32⟩
  | .hbm, ⟨78, _⟩ => ⟨S4352x1024, .f32⟩
  | _, _ => ⟨S4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c : Ref sig .tc := ⟨.hbm, 70, rfl⟩
abbrev main_call0_v0 : Ref sig .tc := ⟨.hbm, 71, rfl⟩
abbrev main_v53 : Ref sig .tc := ⟨.hbm, 72, rfl⟩
abbrev main_v54 : Ref sig .tc := ⟨.hbm, 73, rfl⟩
abbrev main_c_12 : Ref sig .tc := ⟨.hbm, 74, rfl⟩
abbrev main_call1_v0 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== OutDx.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x5632, .bf16⟩
  | .hbm, ⟨5, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutDxRefIdeal.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S5632x2048, .f32⟩
  | .hbm, ⟨21, _⟩ => ⟨S4096x2048, .f32⟩
  | .hbm, ⟨22, _⟩ => ⟨S4096x2048, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .bf16⟩
  | .hbm, ⟨31, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== OutDw.lean ====
abbrev S4096x5632 : Shape := ⟨2, ![4096, 5632]⟩
abbrev S4096x2048 : Shape := ⟨2, ![4096, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_2 : BitVec 32 := 1#32
  let v8 : BitVec 1 := Scalar.cmpi .eq arg2 c1_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDx.lean ====
abbrev S4096x5632 : Shape := ⟨2, ![4096, 5632]⟩
abbrev S2048x11264 : Shape := ⟨2, ![2048, 11264]⟩
abbrev S2048x5632 : Shape := ⟨2, ![2048, 5632]⟩
abbrev S4096x2048 : Shape := ⟨2, ![4096, 2048]⟩
abbrev S1024x1408 : Shape := ⟨2, ![1024, 1408]⟩
abbrev S1024x1024 : Shape := ⟨2, ![1024, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x11264, .bf16⟩
  | .hbm, ⟨3, _⟩ => ⟨S2048x5632, .bf16⟩
  | .hbm, ⟨4, _⟩ => ⟨S2048x5632, .bf16⟩
  | .hbm, ⟨5, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 8], ![false, false, false]⟩

def k0_cond4 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_4 : BitVec 32 := 0#32
  let v15 : BitVec 1 := Scalar.cmpi .ne v14 c0_i32_4
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== InDxRefIdeal.lean ====
abbrev S4096x5632 : Shape := ⟨2, ![4096, 5632]⟩
abbrev S2048x11264 : Shape := ⟨2, ![2048, 11264]⟩
abbrev S_ : Shape := ⟨0, ![]⟩
abbrev S4096x2048 : Shape := ⟨2, ![4096, 2048]⟩
abbrev S4096x11264 : Shape := ⟨2, ![4096, 11264]⟩

abbrev nBuf : Space → Nat
  | .hbm => 13
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x11264, .bf16⟩
  | .hbm, ⟨3, _⟩ => ⟨S_, .f32⟩
  | .hbm, ⟨4, _⟩ => ⟨S4096x2048, .f32⟩
  | .hbm, ⟨5, _⟩ => ⟨S2048x11264, .f32⟩
  | .hbm, ⟨6, _⟩ => ⟨S4096x11264, .f32⟩
  | .hbm, ⟨7, _⟩ => ⟨S4096x5632, .f32⟩
  | .hbm, ⟨8, _⟩ => ⟨S4096x5632, .f32⟩
  | .hbm, ⟨9, _⟩ => ⟨S4096x5632, .f32⟩
  | .hbm, ⟨10, _⟩ => ⟨S4096x5632, .f32⟩
  | .hbm, ⟨11, _⟩ => ⟨S4096x11264, .f32⟩
  | .hbm, ⟨12, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== InDw.lean ====
abbrev S4096x2048 : Shape := ⟨2, ![4096, 2048]⟩
abbrev S4096x5632 : Shape := ⟨2, ![4096, 5632]⟩
abbrev S4x2048x2816 : Shape := ⟨3, ![4, 2048, 2816]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4x2048x2816, .bf16⟩
  | .hbm, ⟨3, _⟩ => ⟨S4x2048x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_2 : BitVec 32 := 1#32
  let v8 : BitVec 1 := Scalar.cmpi .eq arg2 c1_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi v16 c2_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg0.toNat, v27.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S4096x2048 : Shape := ⟨2, ![4096, 2048]⟩
abbrev S4096x5632 : Shape := ⟨2, ![4096, 5632]⟩
abbrev S4x2048x2816 : Shape := ⟨3, ![4, 2048, 2816]⟩
abbrev S_ : Shape := ⟨0, ![]⟩
abbrev S2048x5632 : Shape := ⟨2, ![2048, 5632]⟩
abbrev S5632x2048 : Shape := ⟨2, ![5632, 2048]⟩
abbrev S2048x2x2816 : Shape := ⟨3, ![2048, 2, 2816]⟩
abbrev S2x2048x2816 : Shape := ⟨3, ![2, 2048, 2816]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4x2048x2816, .bf16⟩
  | .hbm, ⟨3, _⟩ => ⟨S_, .f32⟩
  | .hbm, ⟨4, _⟩ => ⟨S2048x5632, .f32⟩
  | .hbm, ⟨5, _⟩ => ⟨S4096x2048, .f32⟩
  | .hbm, ⟨6, _⟩ => ⟨S4096x5632, .f32⟩
  | .hbm, ⟨7, _⟩ => ⟨S4096x5632, .f32⟩
  | .hbm, ⟨8, _⟩ => ⟨S5632x2048, .f32⟩
  | .hbm, ⟨9, _⟩ => ⟨S2048x5632, .f32⟩
  | .hbm, ⟨10, _⟩ => ⟨S2048x2x2816, .f32⟩
  | .hbm, ⟨11, _⟩ => ⟨S2x2048x2816, .f32⟩
  | .hbm, ⟨12, _⟩ => ⟨S2x2048x2816, .bf16⟩
  | .hbm, ⟨13, _⟩ => ⟨S2x2048x2816, .bf16⟩
  | .hbm, ⟨14, _⟩ => ⟨S4x2048x2816, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== InDwA.lean ====
abbrev S4096x2048 : Shape := ⟨2, ![4096, 2048]⟩
abbrev S4096x5632 : Shape := ⟨2, ![4096, 5632]⟩
abbrev S4x2048x2816 : Shape := ⟨3, ![4, 2048, 2816]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4x2048x2816, .bf16⟩
  | .hbm, ⟨3, _⟩ => ⟨S4x2048x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_2 : BitVec 32 := 1#32
  let v8 : BitVec 1 := Scalar.cmpi .eq arg2 c1_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi v16 c0_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg0.toNat, v27.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwARefIdeal.lean ====
abbrev S4096x2048 : Shape := ⟨2, ![4096, 2048]⟩
abbrev S4096x5632 : Shape := ⟨2, ![4096, 5632]⟩
abbrev S4x2048x2816 : Shape := ⟨3, ![4, 2048, 2816]⟩
abbrev S_ : Shape := ⟨0, ![]⟩
abbrev S2048x5632 : Shape := ⟨2, ![2048, 5632]⟩
abbrev S5632x2048 : Shape := ⟨2, ![5632, 2048]⟩
abbrev S2048x2x2816 : Shape := ⟨3, ![2048, 2, 2816]⟩
abbrev S2x2048x2816 : Shape := ⟨3, ![2, 2048, 2816]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4x2048x2816, .bf16⟩
  | .hbm, ⟨3, _⟩ => ⟨S_, .f32⟩
  | .hbm, ⟨4, _⟩ => ⟨S2048x5632, .f32⟩
  | .hbm, ⟨5, _⟩ => ⟨S4096x2048, .f32⟩
  | .hbm, ⟨6, _⟩ => ⟨S4096x5632, .f32⟩
  | .hbm, ⟨7, _⟩ => ⟨S4096x5632, .f32⟩
  | .hbm, ⟨8, _⟩ => ⟨S5632x2048, .f32⟩
  | .hbm, ⟨9, _⟩ => ⟨S2048x5632, .f32⟩
  | .hbm, ⟨10, _⟩ => ⟨S2048x2x2816, .f32⟩
  | .hbm, ⟨11, _⟩ => ⟨S2x2048x2816, .f32⟩
  | .hbm, ⟨12, _⟩ => ⟨S2x2048x2816, .bf16⟩
  | .hbm, ⟨13, _⟩ => ⟨S2x2048x2816, .bf16⟩
  | .hbm, ⟨14, _⟩ => ⟨S4x2048x2816, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== FfnIn.lean ====
abbrev S4096x2048 : Shape := ⟨2, ![4096, 2048]⟩
abbrev S2048x11264 : Shape := ⟨2, ![2048, 11264]⟩
abbrev S2048x5632 : Shape := ⟨2, ![2048, 5632]⟩
abbrev S4096x5632 : Shape := ⟨2, ![4096, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S2048x5632, .bf16⟩
  | .hbm, ⟨3, _⟩ => ⟨S2048x5632, .bf16⟩
  | .hbm, ⟨4, _⟩ => ⟨S4096x5632, .bf16⟩
  | .hbm, ⟨5, _⟩ => ⟨S4096x5632, .bf16⟩
  | .hbm, ⟨6, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnInRefIdeal.lean ====
abbrev S4096x2048 : Shape := ⟨2, ![4096, 2048]⟩
abbrev S2048x11264 : Shape := ⟨2, ![2048, 11264]⟩
abbrev S4096x11264 : Shape := ⟨2, ![4096, 11264]⟩
abbrev S4096x5632 : Shape := ⟨2, ![4096, 5632]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x2048, .f32⟩
  | .hbm, ⟨3, _⟩ => ⟨S2048x11264, .f32⟩
  | .hbm, ⟨4, _⟩ => ⟨S4096x11264, .f32⟩
  | .hbm, ⟨5, _⟩ => ⟨S4096x5632, .f32⟩
  | .hbm, ⟨6, _⟩ => ⟨S4096x5632, .f32⟩
  | .hbm, ⟨7, _⟩ => ⟨S4096x5632, .bf16⟩
  | .hbm, ⟨8, _⟩ => ⟨S4096x5632, .bf16⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== OutProj.lean ====
abbrev S4096x2048 : Shape := ⟨2, ![4096, 2048]⟩
abbrev S2048x2048 : Shape := ⟨2, ![2048, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutProjRefIdeal.lean ====
abbrev S4096x2048 : Shape := ⟨2, ![4096, 2048]⟩
abbrev S2048x2048 : Shape := ⟨2, ![2048, 2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== MergeDx.lean ====
abbrev S4096x2048 : Shape := ⟨2, ![4096, 2048]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 10
  | .vmem => 20
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4096x2048, .bf16⟩
  | .hbm, ⟨6, _⟩ => ⟨S4096x2048, .bf16⟩
  | .hbm, ⟨7, _⟩ => ⟨S4096x2048, .bf16⟩
  | .hbm, ⟨8, _⟩ => ⟨S4096x2048, .bf16⟩
  | .hbm, ⟨9, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== MergeDxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4096x2048, .bf16⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S2048x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .bf16⟩
  | .hbm, ⟨48, _⟩ => ⟨S4096x2048, .bf16⟩
  | .hbm, ⟨49, _⟩ => ⟨S4096x2048, .bf16⟩
  | .hbm, ⟨50, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== MergeDw.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_2 : BitVec 32 := 1#32
  let v8 : BitVec 1 := Scalar.cmpi .eq arg2 c1_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MergeDwRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BrAttn.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrAttnRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | .hbm, ⟨5, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BrSgu.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4096x2048, .bf16⟩
  | .hbm, ⟨6, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== BrSguRefIdeal.lean ====
abbrev S4096x1024 : Shape := ⟨2, ![4096, 1024]⟩
abbrev S1024x2048 : Shape := ⟨2, ![1024, 2048]⟩
abbrev S4096x2048 : Shape := ⟨2, ![4096, 2048]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4096x1024, .f32⟩
  | .hbm, ⟨6, _⟩ => ⟨S1024x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x2048, .bf16⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== BrDx.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrDxRefIdeal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S_, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S4096x1024, .f32⟩
  | .hbm, ⟨8, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BrDw.lean ====
abbrev S4096x1024 : Shape := ⟨2, ![4096, 1024]⟩
abbrev S4096x2048 : Shape := ⟨2, ![4096, 2048]⟩
abbrev S4x1024x512 : Shape := ⟨3, ![4, 1024, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_2 : BitVec 32 := 1#32
  let v8 : BitVec 1 := Scalar.cmpi .eq arg2 c1_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi v16 c0_i32_5
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg0.toNat, v27.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrDwRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x4x512, .f32⟩
  | .hbm, ⟨10, _⟩ => ⟨S4x1024x512, .f32⟩
  | .hbm, ⟨11, _⟩ => ⟨S4x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Gates.lean ====
abbrev S4096x2048 : Shape := ⟨2, ![4096, 2048]⟩
abbrev S2048x6976 : Shape := ⟨2, ![2048, 6976]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x6976, .bf16⟩
  | .hbm, ⟨2, _⟩ => ⟨S2048x2048, .bf16⟩
  | .hbm, ⟨3, _⟩ => ⟨S2048x2048, .bf16⟩
  | .hbm, ⟨4, _⟩ => ⟨S4096x2048, .bf16⟩
  | .hbm, ⟨5, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== GatesRefIdeal.lean ====
abbrev S4096x2048 : Shape := ⟨2, ![4096, 2048]⟩
abbrev S2048x6976 : Shape := ⟨2, ![2048, 6976]⟩
abbrev S2048x4096 : Shape := ⟨2, ![2048, 4096]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6976, .bf16⟩
  | .hbm, ⟨2, _⟩ => ⟨S4096x2048, .f32⟩
  | .hbm, ⟨3, _⟩ => ⟨S2048x4096, .bf16⟩
  | .hbm, ⟨4, _⟩ => ⟨S2048x4096, .f32⟩
  | .hbm, ⟨5, _⟩ => ⟨S4096x4096, .f32⟩
  | .hbm, ⟨6, _⟩ => ⟨S4096x2048, .f32⟩
  | .hbm, ⟨7, _⟩ => ⟨S4096x2048, .f32⟩
  | .hbm, ⟨8, _⟩ => ⟨S4096x2048, .bf16⟩
  | .hbm, ⟨9, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Uv.lean ====
abbrev S4096x2048 : Shape := ⟨2, ![4096, 2048]⟩
abbrev S2048x6976 : Shape := ⟨2, ![2048, 6976]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x6976, .bf16⟩
  | .hbm, ⟨2, _⟩ => ⟨S2048x1024, .bf16⟩
  | .hbm, ⟨3, _⟩ => ⟨S2048x1024, .bf16⟩
  | .hbm, ⟨4, _⟩ => ⟨S4096x1024, .bf16⟩
  | .hbm, ⟨5, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== UvRefIdeal.lean ====
abbrev S4096x2048 : Shape := ⟨2, ![4096, 2048]⟩
abbrev S2048x6976 : Shape := ⟨2, ![2048, 6976]⟩
abbrev S2048x2048 : Shape := ⟨2, ![2048, 2048]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6976, .bf16⟩
  | .hbm, ⟨2, _⟩ => ⟨S4096x2048, .f32⟩
  | .hbm, ⟨3, _⟩ => ⟨S2048x2048, .bf16⟩
  | .hbm, ⟨4, _⟩ => ⟨S2048x2048, .f32⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== GatesDw.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S2048x2048, .bf16⟩
  | .hbm, ⟨4, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_2 : BitVec 32 := 1#32
  let v8 : BitVec 1 := Scalar.cmpi .eq arg2 c1_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== GatesDwRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .bf16⟩
  | .hbm, ⟨16, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== UvDw.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 5
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x1024, .bf16⟩
  | .hbm, ⟨3, _⟩ => ⟨S2048x1024, .bf16⟩
  | .hbm, ⟨4, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_2 : BitVec 32 := 1#32
  let v8 : BitVec 1 := Scalar.cmpi .eq arg2 c1_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== UvDwRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x1024, .bf16⟩
  | .hbm, ⟨3, _⟩ => ⟨S_, .f32⟩
  | .hbm, ⟨4, _⟩ => ⟨S2048x1024, .f32⟩
  | .hbm, ⟨5, _⟩ => ⟨S4096x2048, .f32⟩
  | .hbm, ⟨6, _⟩ => ⟨S4096x1024, .f32⟩
  | .hbm, ⟨7, _⟩ => ⟨S4096x2048, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S1024x2048, .f32⟩
  | .hbm, ⟨12, _⟩ => ⟨S2048x1024, .f32⟩
  | .hbm, ⟨13, _⟩ => ⟨S1024x2048, .f32⟩
  | .hbm, ⟨14, _⟩ => ⟨S2048x1024, .f32⟩
  | .hbm, ⟨15, _⟩ => ⟨S2048x1024, .bf16⟩
  | .hbm, ⟨16, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== ProjDx.lean ====
abbrev S4096x512 : Shape := ⟨2, ![4096, 512]⟩
abbrev S4096x384 : Shape := ⟨2, ![4096, 384]⟩
abbrev S4096x1024 : Shape := ⟨2, ![4096, 1024]⟩
abbrev S4096x2048 : Shape := ⟨2, ![4096, 2048]⟩
abbrev S2048x6976 : Shape := ⟨2, ![2048, 6976]⟩
abbrev S2048x512 : Shape := ⟨2, ![2048, 512]⟩
abbrev S2048x320 : Shape := ⟨2, ![2048, 320]⟩
abbrev S_ : Shape := ⟨0, ![]⟩
abbrev S2048x384 : Shape := ⟨2, ![2048, 384]⟩
abbrev S2048x1024 : Shape := ⟨2, ![2048, 1024]⟩
abbrev S2048x2048 : Shape := ⟨2, ![2048, 2048]⟩
abbrev S1024x512 : Shape := ⟨2, ![1024, 512]⟩
abbrev S1024x384 : Shape := ⟨2, ![1024, 384]⟩
abbrev S1024x1024 : Shape := ⟨2, ![1024, 1024]⟩

abbrev nBuf : Space → Nat
  | .hbm => 17
  | .vmem => 27
  | .smem => 0
  | _ => 0

abbrev bufTy : (tb : Table) → Fin (tcTables nBuf tb) → BufTy
  | .hbm, ⟨0, _⟩ => ⟨S4096x512, .bf16⟩
  | .hbm, ⟨1, _⟩ => ⟨S4096x384, .bf16⟩
  | .hbm, ⟨2, _⟩ => ⟨S4096x1024, .bf16⟩
  | .hbm, ⟨3, _⟩ => ⟨S4096x1024, .bf16⟩
  | .hbm, ⟨4, _⟩ => ⟨S4096x2048, .bf16⟩
  | .hbm, ⟨5, _⟩ => ⟨S4096x2048, .bf16⟩
  | .hbm, ⟨6, _⟩ => ⟨S2048x6976, .bf16⟩
  | .hbm, ⟨7, _⟩ => ⟨S2048x512, .bf16⟩
  | .hbm, ⟨8, _⟩ => ⟨S2048x320, .bf16⟩
  | .hbm, ⟨9, _⟩ => ⟨S_, .i32⟩
  | .hbm, ⟨10, _⟩ => ⟨S_, .bf16⟩
  | .hbm, ⟨11, _⟩ => ⟨S2048x384, .bf16⟩
  | .hbm, ⟨12, _⟩ => ⟨S2048x1024, .bf16⟩
  | .hbm, ⟨13, _⟩ => ⟨S2048x1024, .bf16⟩
  | .hbm, ⟨14, _⟩ => ⟨S2048x2048, .bf16⟩
  | .hbm, ⟨15, _⟩ => ⟨S2048x2048, .bf16⟩
  | .hbm, ⟨16, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x384, .bf16⟩
  | .local _ .vmem, ⟨5, _⟩ => ⟨S1024x384, .bf16⟩
  | .local _ .vmem, ⟨6, _⟩ => ⟨S1024x384, .bf16⟩
  | .local _ .vmem, ⟨7, _⟩ => ⟨S1024x384, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1024x1024, .f32⟩
  | .local _ .vmem, ⟨25, _⟩ => ⟨S1024x1024, .f32⟩
  | .local _ .vmem, ⟨26, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![4, 2, 14], ![false, false, false]⟩

def k0_cond8 (i : grid0.Coords) : BitVec 1 :=
  let arg2 : BitVec 32 := BitVec.ofNat 32 (i 2).val
  let c13_i32 : BitVec 32 := 13#32
  let v33 : BitVec 1 := Scalar.cmpi .eq arg2 c13_i32
  let v34 : BitVec 32 := Scalar.extui v33
  let c0_i32_13 : BitVec 32 := 0#32
  let v35 : BitVec 1 := Scalar.cmpi .ne v34 c0_i32_13
  v35

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg1.toNat, v2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg1.toNat, v2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.subi arg2 c6_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.subi arg2 c6_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg1.toNat, v2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.subi arg2 c10_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.subi arg2 c10_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg1.toNat, v2.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, true]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== ProjDxRefIdeal.lean ====
abbrev S4096x512 : Shape := ⟨2, ![4096, 512]⟩
abbrev S4096x384 : Shape := ⟨2, ![4096, 384]⟩
abbrev S4096x1024 : Shape := ⟨2, ![4096, 1024]⟩
abbrev S4096x2048 : Shape := ⟨2, ![4096, 2048]⟩
abbrev S2048x6976 : Shape := ⟨2, ![2048, 6976]⟩
abbrev S4096x320 : Shape := ⟨2, ![4096, 320]⟩
abbrev S_ : Shape := ⟨0, ![]⟩
abbrev S2048x512 : Shape := ⟨2, ![2048, 512]⟩
abbrev S2048x320 : Shape := ⟨2, ![2048, 320]⟩
abbrev S2048x1024 : Shape := ⟨2, ![2048, 1024]⟩
abbrev S2048x2048 : Shape := ⟨2, ![2048, 2048]⟩

abbrev nBuf : Space → Nat
  | .hbm => 45
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x384, .bf16⟩
  | .hbm, ⟨2, _⟩ => ⟨S4096x1024, .bf16⟩
  | .hbm, ⟨3, _⟩ => ⟨S4096x1024, .bf16⟩
  | .hbm, ⟨4, _⟩ => ⟨S4096x2048, .bf16⟩
  | .hbm, ⟨5, _⟩ => ⟨S4096x2048, .bf16⟩
  | .hbm, ⟨6, _⟩ => ⟨S2048x6976, .bf16⟩
  | .hbm, ⟨7, _⟩ => ⟨S4096x320, .bf16⟩
  | .hbm, ⟨8, _⟩ => ⟨S_, .f32⟩
  | .hbm, ⟨9, _⟩ => ⟨S4096x2048, .f32⟩
  | .hbm, ⟨10, _⟩ => ⟨S2048x512, .bf16⟩
  | .hbm, ⟨11, _⟩ => ⟨S2048x512, .f32⟩
  | .hbm, ⟨12, _⟩ => ⟨S4096x512, .f32⟩
  | .hbm, ⟨13, _⟩ => ⟨S2048x320, .bf16⟩
  | .hbm, ⟨14, _⟩ => ⟨S2048x320, .f32⟩
  | .hbm, ⟨15, _⟩ => ⟨S4096x320, .f32⟩
  | .hbm, ⟨16, _⟩ => ⟨S2048x1024, .bf16⟩
  | .hbm, ⟨17, _⟩ => ⟨S2048x1024, .f32⟩
  | .hbm, ⟨18, _⟩ => ⟨S4096x1024, .f32⟩
  | .hbm, ⟨19, _⟩ => ⟨S2048x1024, .bf16⟩
  | .hbm, ⟨20, _⟩ => ⟨S2048x1024, .f32⟩
  | .hbm, ⟨21, _⟩ => ⟨S4096x1024, .f32⟩
  | .hbm, ⟨22, _⟩ => ⟨S2048x2048, .bf16⟩
  | .hbm, ⟨23, _⟩ => ⟨S2048x2048, .f32⟩
  | .hbm, ⟨24, _⟩ => ⟨S4096x2048, .f32⟩
  | .hbm, ⟨25, _⟩ => ⟨S2048x2048, .bf16⟩
  | .hbm, ⟨26, _⟩ => ⟨S2048x2048, .f32⟩
  | .hbm, ⟨27, _⟩ => ⟨S4096x2048, .f32⟩
  | .hbm, ⟨28, _⟩ => ⟨S4096x512, .f32⟩
  | .hbm, ⟨29, _⟩ => ⟨S4096x320, .f32⟩
  | .hbm, ⟨30, _⟩ => ⟨S4096x1024, .f32⟩
  | .hbm, ⟨31, _⟩ => ⟨S4096x1024, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩

abbrev nD : Nat := 1
abbrev τ : Topo := Topo.v7x

variable {F : FTy → Type} [FloatOps F]
-- ==== AttnFwd.lean ====
abbrev S4096x8x192 : Shape := ⟨3, ![4096, 8, 192]⟩
abbrev S4352x8x192 : Shape := ⟨3, ![4352, 8, 192]⟩
abbrev S4352x8x128 : Shape := ⟨3, ![4352, 8, 128]⟩
abbrev S_ : Shape := ⟨0, ![]⟩
abbrev S4096x8x256 : Shape := ⟨3, ![4096, 8, 256]⟩
abbrev S4096x2048 : Shape := ⟨2, ![4096, 2048]⟩
abbrev S4352x8x256 : Shape := ⟨3, ![4352, 8, 256]⟩
abbrev S4352x2048 : Shape := ⟨2, ![4352, 2048]⟩
abbrev S4352x1024 : Shape := ⟨2, ![4352, 1024]⟩
abbrev S4096x1024 : Shape := ⟨2, ![4096, 1024]⟩
abbrev S1024x256 : Shape := ⟨2, ![1024, 256]⟩
abbrev S4352x256 : Shape := ⟨2, ![4352, 256]⟩
abbrev S4352x128 : Shape := ⟨2, ![4352, 128]⟩
abbrev S1024x128 : Shape := ⟨2, ![1024, 128]⟩
abbrev S256x256 : Shape := ⟨2, ![256, 256]⟩
abbrev S256x4352 : Shape := ⟨2, ![256, 4352]⟩
abbrev S256 : Shape := ⟨1, ![256]⟩
abbrev S256x1 : Shape := ⟨2, ![256, 1]⟩
abbrev S256x128 : Shape := ⟨2, ![256, 128]⟩

abbrev nBuf : Space → Nat
  | .hbm => 20
  | .vmem => 10
  | .smem => 0
  | _ => 0

abbrev bufTy : (tb : Table) → Fin (tcTables nBuf tb) → BufTy
  | .hbm, ⟨0, _⟩ => ⟨S4096x8x192, .f32⟩
  | .hbm, ⟨1, _⟩ => ⟨S4352x8x192, .f32⟩
  | .hbm, ⟨2, _⟩ => ⟨S4352x8x128, .f32⟩
  | .hbm, ⟨3, _⟩ => ⟨S_, .f32⟩
  | .hbm, ⟨4, _⟩ => ⟨S4096x8x192, .f32⟩
  | .hbm, ⟨5, _⟩ => ⟨S4096x8x192, .f32⟩
  | .hbm, ⟨6, _⟩ => ⟨S_, .i32⟩
  | .hbm, ⟨7, _⟩ => ⟨S_, .f32⟩
  | .hbm, ⟨8, _⟩ => ⟨S4096x8x256, .f32⟩
  | .hbm, ⟨9, _⟩ => ⟨S4096x2048, .f32⟩
  | .hbm, ⟨10, _⟩ => ⟨S4096x2048, .bf16⟩
  | .hbm, ⟨11, _⟩ => ⟨S_, .i32⟩
  | .hbm, ⟨12, _⟩ => ⟨S_, .f32⟩
  | .hbm, ⟨13, _⟩ => ⟨S4352x8x256, .f32⟩
  | .hbm, ⟨14, _⟩ => ⟨S4352x2048, .f32⟩
  | .hbm, ⟨15, _⟩ => ⟨S4352x2048, .bf16⟩
  | .hbm, ⟨16, _⟩ => ⟨S4352x1024, .f32⟩
  | .hbm, ⟨17, _⟩ => ⟨S4352x1024, .bf16⟩
  | .hbm, ⟨18, _⟩ => ⟨S4096x1024, .bf16⟩
  | .hbm, ⟨19, _⟩ => ⟨S4096x1024, .f32⟩
  | .local _ .vmem, ⟨0, _⟩ => ⟨S1024x256, .bf16⟩
  | .local _ .vmem, ⟨1, _⟩ => ⟨S1024x256, .bf16⟩
  | .local _ .vmem, ⟨2, _⟩ => ⟨S4352x256, .bf16⟩
  | .local _ .vmem, ⟨3, _⟩ => ⟨S4352x256, .bf16⟩
  | .local _ .vmem, ⟨4, _⟩ => ⟨S4352x128, .bf16⟩
  | .local _ .vmem, ⟨5, _⟩ => ⟨S4352x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | _, _ => ⟨S4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnFwdRefIdeal.lean ====
abbrev S4096x8x192 : Shape := ⟨3, ![4096, 8, 192]⟩
abbrev S4352x8x192 : Shape := ⟨3, ![4352, 8, 192]⟩
abbrev S4352x8x128 : Shape := ⟨3, ![4352, 8, 128]⟩
abbrev S_ : Shape := ⟨0, ![]⟩
abbrev S8x4096x4352 : Shape := ⟨3, ![8, 4096, 4352]⟩
abbrev S8x4096 : Shape := ⟨2, ![8, 4096]⟩
abbrev S8x4096x1 : Shape := ⟨3, ![8, 4096, 1]⟩
abbrev S8x128x4096 : Shape := ⟨3, ![8, 128, 4096]⟩
abbrev S4096x8x128 : Shape := ⟨3, ![4096, 8, 128]⟩
abbrev S4096x1024 : Shape := ⟨2, ![4096, 1024]⟩
abbrev S4096x8 : Shape := ⟨2, ![4096, 8]⟩
abbrev S4096x8x1 : Shape := ⟨3, ![4096, 8, 1]⟩

abbrev nBuf : Space → Nat
  | .hbm => 37
  | .vmem => 0
  | .smem => 0
  | _ => 0

abbrev bufTy : (tb : Table) → Fin (tcTables nBuf tb) → BufTy
  | .hbm, ⟨0, _⟩ => ⟨S4096x8x192, .f32⟩
  | .hbm, ⟨1, _⟩ => ⟨S4352x8x192, .f32⟩
  | .hbm, ⟨2, _⟩ => ⟨S4352x8x128, .f32⟩
  | .hbm, ⟨3, _⟩ => ⟨S_, .f32⟩
  | .hbm, ⟨4, _⟩ => ⟨S4096x8x192, .f32⟩
  | .hbm, ⟨5, _⟩ => ⟨S4096x8x192, .f32⟩
  | .hbm, ⟨6, _⟩ => ⟨S8x4096x4352, .f32⟩
  | .hbm, ⟨7, _⟩ => ⟨S8x4096x4352, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S_, .f32⟩
  | .hbm, ⟨12, _⟩ => ⟨S4096x8x192, .f32⟩
  | .hbm, ⟨13, _⟩ => ⟨S4096x8x192, .f32⟩
  | .hbm, ⟨14, _⟩ => ⟨S8x4096x4352, .f32⟩
  | .hbm, ⟨15, _⟩ => ⟨S_, .f32⟩
  | .hbm, ⟨16, _⟩ => ⟨S8x4096, .f32⟩
  | .hbm, ⟨17, _⟩ => ⟨S_, .f32⟩
  | .hbm, ⟨18, _⟩ => ⟨S8x4096, .f32⟩
  | .hbm, ⟨19, _⟩ => ⟨S8x4096, .f32⟩
  | .hbm, ⟨20, _⟩ => ⟨S8x4096x1, .f32⟩
  | .hbm, ⟨21, _⟩ => ⟨S8x4096x4352, .f32⟩
  | .hbm, ⟨22, _⟩ => ⟨S8x4096x4352, .f32⟩
  | .hbm, ⟨23, _⟩ => ⟨S8x4096x4352, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S8x4096x4352, .f32⟩
  | .hbm, ⟨28, _⟩ => ⟨S8x4096x4352, .f32⟩
  | .hbm, ⟨29, _⟩ => ⟨S8x128x4096, .f32⟩
  | .hbm, ⟨30, _⟩ => ⟨S4096x8x128, .f32⟩
  | .hbm, ⟨31, _⟩ => ⟨S4096x1024, .f32⟩
  | .hbm, ⟨32, _⟩ => ⟨S4096x1024, .bf16⟩
  | .hbm, ⟨33, _⟩ => ⟨S4096x8, .f32⟩
  | .hbm, ⟨34, _⟩ => ⟨S4096x8x1, .f32⟩
  | .hbm, ⟨35, _⟩ => ⟨S4096x8x128, .f32⟩
  | .hbm, ⟨36, _⟩ => ⟨S4096x1024, .f32⟩
  | _, _ => ⟨S4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== FfnOut.lean ====
abbrev S4096x5632 : Shape := ⟨2, ![4096, 5632]⟩
abbrev S5632x2048 : Shape := ⟨2, ![5632, 2048]⟩
abbrev S4096x2048 : Shape := ⟨2, ![4096, 2048]⟩
abbrev S1x2048 : Shape := ⟨2, ![1, 2048]⟩
abbrev S4x8x2048 : Shape := ⟨3, ![4, 8, 2048]⟩
abbrev S1024x1408 : Shape := ⟨2, ![1024, 1408]⟩
abbrev S1408x1024 : Shape := ⟨2, ![1408, 1024]⟩
abbrev S1024x1024 : Shape := ⟨2, ![1024, 1024]⟩
abbrev S1x1024 : Shape := ⟨2, ![1, 1024]⟩
abbrev S1x8x1024 : Shape := ⟨3, ![1, 8, 1024]⟩
abbrev S1024 : Shape := ⟨1, ![1024]⟩
abbrev S8x1024 : Shape := ⟨2, ![8, 1024]⟩

abbrev nBuf : Space → Nat
  | .hbm => 9
  | .vmem => 19
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S4x8x2048, .f32⟩
  | .hbm, ⟨8, _⟩ => ⟨S4x8x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1x8x1024, .f32⟩
  | .local _ .vmem, ⟨15, _⟩ => ⟨S1x8x1024, .f32⟩
  | .local _ .vmem, ⟨16, _⟩ => ⟨S1x8x1024, .f32⟩
  | .local _ .vmem, ⟨17, _⟩ => ⟨S1x8x1024, .f32⟩
  | .local _ .vmem, ⟨18, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_2 : BitVec 32 := 0#32
  let v10 : BitVec 1 := Scalar.cmpi .ne v9 c0_i32_2
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== FfnOutRefIdeal.lean ====
abbrev S4096x5632 : Shape := ⟨2, ![4096, 5632]⟩
abbrev S5632x2048 : Shape := ⟨2, ![5632, 2048]⟩
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4x1024x2048 : Shape := ⟨3, ![4, 1024, 2048]⟩
abbrev S4x2048 : Shape := ⟨2, ![4, 2048]⟩
abbrev S4x1x2048 : Shape := ⟨3, ![4, 1, 2048]⟩
abbrev S4x8x2048 : Shape := ⟨3, ![4, 8, 2048]⟩

abbrev nBuf : Space → Nat
  | .hbm => 59
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x5632, .f32⟩
  | .hbm, ⟨6, _⟩ => ⟨S5632x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4x1024x2048, .f32⟩
  | .hbm, ⟨42, _⟩ => ⟨S_, .f32⟩
  | .hbm, ⟨43, _⟩ => ⟨S4x2048, .f32⟩
  | .hbm, ⟨44, _⟩ => ⟨S_, .f32⟩
  | .hbm, ⟨45, _⟩ => ⟨S4x2048, .f32⟩
  | .hbm, ⟨46, _⟩ => ⟨S4x2048, .f32⟩
  | .hbm, ⟨47, _⟩ => ⟨S_, .f32⟩
  | .hbm, ⟨48, _⟩ => ⟨S4x2048, .f32⟩
  | .hbm, ⟨49, _⟩ => ⟨S4x2048, .f32⟩
  | .hbm, ⟨50, _⟩ => ⟨S4096x2048, .f32⟩
  | .hbm, ⟨51, _⟩ => ⟨S4x1024x2048, .f32⟩
  | .hbm, ⟨52, _⟩ => ⟨S_, .f32⟩
  | .hbm, ⟨53, _⟩ => ⟨S4x2048, .f32⟩
  | .hbm, ⟨54, _⟩ => ⟨S4096x2048, .bf16⟩
  | .hbm, ⟨55, _⟩ => ⟨S4x1x2048, .f32⟩
  | .hbm, ⟨56, _⟩ => ⟨S4x8x2048, .f32⟩
  | .hbm, ⟨57, _⟩ => ⟨S4x1x2048, .f32⟩
  | .hbm, ⟨58, _⟩ => ⟨S4x8x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_cst_4 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_10 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== ProjQ.lean ====
abbrev S4096x2048 : Shape := ⟨2, ![4096, 2048]⟩
abbrev S2048x512 : Shape := ⟨2, ![2048, 512]⟩
abbrev S1x512 : Shape := ⟨2, ![1, 512]⟩
abbrev S4096x512 : Shape := ⟨2, ![4096, 512]⟩
abbrev S1024x2048 : Shape := ⟨2, ![1024, 2048]⟩
abbrev S1024x512 : Shape := ⟨2, ![1024, 512]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x512, .bf16⟩
  | .hbm, ⟨2, _⟩ => ⟨S1x512, .f32⟩
  | .hbm, ⟨3, _⟩ => ⟨S4096x512, .f32⟩
  | .hbm, ⟨4, _⟩ => ⟨S4096x512, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ProjQRefIdeal.lean ====
abbrev S4096x2048 : Shape := ⟨2, ![4096, 2048]⟩
abbrev S2048x512 : Shape := ⟨2, ![2048, 512]⟩
abbrev S1x512 : Shape := ⟨2, ![1, 512]⟩
abbrev S4096x512 : Shape := ⟨2, ![4096, 512]⟩
abbrev S_ : Shape := ⟨0, ![]⟩
abbrev S4096 : Shape := ⟨1, ![4096]⟩
abbrev S4096x1 : Shape := ⟨2, ![4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x512, .bf16⟩
  | .hbm, ⟨2, _⟩ => ⟨S1x512, .f32⟩
  | .hbm, ⟨3, _⟩ => ⟨S4096x2048, .f32⟩
  | .hbm, ⟨4, _⟩ => ⟨S2048x512, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== ProjKv.lean ====
abbrev S4096x2048 : Shape := ⟨2, ![4096, 2048]⟩
abbrev S2048x384 : Shape := ⟨2, ![2048, 384]⟩
abbrev S4096x384 : Shape := ⟨2, ![4096, 384]⟩
abbrev S1024x2048 : Shape := ⟨2, ![1024, 2048]⟩
abbrev S1024x384 : Shape := ⟨2, ![1024, 384]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x384, .bf16⟩
  | .hbm, ⟨2, _⟩ => ⟨S4096x384, .f32⟩
  | .local _ .vmem, ⟨0, _⟩ => ⟨S1024x2048, .bf16⟩
  | .local _ .vmem, ⟨1, _⟩ => ⟨S1024x2048, .bf16⟩
  | .local _ .vmem, ⟨2, _⟩ => ⟨S2048x384, .bf16⟩
  | .local _ .vmem, ⟨3, _⟩ => ⟨S1024x384, .f32⟩
  | .local _ .vmem, ⟨4, _⟩ => ⟨S1024x384, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjKvRefIdeal.lean ====
abbrev S4096x2048 : Shape := ⟨2, ![4096, 2048]⟩
abbrev S2048x384 : Shape := ⟨2, ![2048, 384]⟩
abbrev S4096x384 : Shape := ⟨2, ![4096, 384]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x384, .bf16⟩
  | .hbm, ⟨2, _⟩ => ⟨S4096x2048, .f32⟩
  | .hbm, ⟨3, _⟩ => ⟨S2048x384, .f32⟩
  | .hbm, ⟨4, _⟩ => ⟨S4096x384, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== QUp.lean ====
abbrev S4096x512 : Shape := ⟨2, ![4096, 512]⟩
abbrev S512x2048 : Shape := ⟨2, ![512, 2048]⟩
abbrev S4096x2048 : Shape := ⟨2, ![4096, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QUpRefIdeal.lean ====
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x512, .f32⟩
  | .hbm, ⟨3, _⟩ => ⟨S512x2048, .f32⟩
  | .hbm, ⟨4, _⟩ => ⟨S4096x2048, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KvUp.lean ====
abbrev S4352x256 : Shape := ⟨2, ![4352, 256]⟩
abbrev S256x2048 : Shape := ⟨2, ![256, 2048]⟩
abbrev S4352x2048 : Shape := ⟨2, ![4352, 2048]⟩
abbrev S2176x256 : Shape := ⟨2, ![2176, 256]⟩
abbrev S256x1024 : Shape := ⟨2, ![256, 1024]⟩
abbrev S2176x1024 : Shape := ⟨2, ![2176, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x256, .bf16⟩
  | .hbm, ⟨1, _⟩ => ⟨S256x2048, .bf16⟩
  | .hbm, ⟨2, _⟩ => ⟨S4352x2048, .f32⟩
  | .local _ .vmem, ⟨0, _⟩ => ⟨S2176x256, .bf16⟩
  | .local _ .vmem, ⟨1, _⟩ => ⟨S2176x256, .bf16⟩
  | .local _ .vmem, ⟨2, _⟩ => ⟨S256x1024, .bf16⟩
  | .local _ .vmem, ⟨3, _⟩ => ⟨S256x1024, .bf16⟩
  | .local _ .vmem, ⟨4, _⟩ => ⟨S2176x1024, .f32⟩
  | .local _ .vmem, ⟨5, _⟩ => ⟨S2176x1024, .f32⟩
  | _, _ => ⟨S4352x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvUpRefIdeal.lean ====
abbrev S4352x256 : Shape := ⟨2, ![4352, 256]⟩
abbrev S256x2048 : Shape := ⟨2, ![256, 2048]⟩
abbrev S4352x2048 : Shape := ⟨2, ![4352, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4352x256, .bf16⟩
  | .hbm, ⟨1, _⟩ => ⟨S256x2048, .bf16⟩
  | .hbm, ⟨2, _⟩ => ⟨S4352x256, .f32⟩
  | .hbm, ⟨3, _⟩ => ⟨S256x2048, .f32⟩
  | .hbm, ⟨4, _⟩ => ⟨S4352x2048, .f32⟩
  | _, _ => ⟨S4352x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjQDw.lean ====
abbrev S4096x2048 : Shape := ⟨2, ![4096, 2048]⟩
abbrev S4096x512 : Shape := ⟨2, ![4096, 512]⟩
abbrev S2048x512 : Shape := ⟨2, ![2048, 512]⟩
abbrev S2048x1024 : Shape := ⟨2, ![2048, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S2048x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_2 : BitVec 32 := 1#32
  let v8 : BitVec 1 := Scalar.cmpi .eq arg2 c1_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjQDwRefIdeal.lean ====
abbrev S4096x2048 : Shape := ⟨2, ![4096, 2048]⟩
abbrev S4096x512 : Shape := ⟨2, ![4096, 512]⟩
abbrev S_ : Shape := ⟨0, ![]⟩
abbrev S2048x512 : Shape := ⟨2, ![2048, 512]⟩
abbrev S512x2048 : Shape := ⟨2, ![512, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S_, .f32⟩
  | .hbm, ⟨3, _⟩ => ⟨S2048x512, .f32⟩
  | .hbm, ⟨4, _⟩ => ⟨S4096x2048, .f32⟩
  | .hbm, ⟨5, _⟩ => ⟨S4096x512, .f32⟩
  | .hbm, ⟨6, _⟩ => ⟨S4096x512, .f32⟩
  | .hbm, ⟨7, _⟩ => ⟨S512x2048, .f32⟩
  | .hbm, ⟨8, _⟩ => ⟨S2048x512, .f32⟩
  | .hbm, ⟨9, _⟩ => ⟨S2048x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== QUpDw.lean ====
abbrev S4096x512 : Shape := ⟨2, ![4096, 512]⟩
abbrev S4096x2048 : Shape := ⟨2, ![4096, 2048]⟩
abbrev S512x2048 : Shape := ⟨2, ![512, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_2 : BitVec 32 := 1#32
  let v8 : BitVec 1 := Scalar.cmpi .eq arg2 c1_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QUpDwRefIdeal.lean ====
abbrev S4096x512 : Shape := ⟨2, ![4096, 512]⟩
abbrev S4096x2048 : Shape := ⟨2, ![4096, 2048]⟩
abbrev S_ : Shape := ⟨0, ![]⟩
abbrev S512x2048 : Shape := ⟨2, ![512, 2048]⟩
abbrev S2048x512 : Shape := ⟨2, ![2048, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S_, .f32⟩
  | .hbm, ⟨3, _⟩ => ⟨S512x2048, .f32⟩
  | .hbm, ⟨4, _⟩ => ⟨S4096x512, .f32⟩
  | .hbm, ⟨5, _⟩ => ⟨S4096x2048, .f32⟩
  | .hbm, ⟨6, _⟩ => ⟨S4096x2048, .f32⟩
  | .hbm, ⟨7, _⟩ => ⟨S2048x512, .f32⟩
  | .hbm, ⟨8, _⟩ => ⟨S512x2048, .f32⟩
  | .hbm, ⟨9, _⟩ => ⟨S512x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KvUpDw.lean ====
abbrev S4352x256 : Shape := ⟨2, ![4352, 256]⟩
abbrev S4352x2048 : Shape := ⟨2, ![4352, 2048]⟩
abbrev S256x2048 : Shape := ⟨2, ![256, 2048]⟩
abbrev S2176x256 : Shape := ⟨2, ![2176, 256]⟩
abbrev S2176x1024 : Shape := ⟨2, ![2176, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x256, .bf16⟩
  | .hbm, ⟨1, _⟩ => ⟨S4352x2048, .bf16⟩
  | .hbm, ⟨2, _⟩ => ⟨S256x2048, .bf16⟩
  | .local _ .vmem, ⟨0, _⟩ => ⟨S2176x256, .bf16⟩
  | .local _ .vmem, ⟨1, _⟩ => ⟨S2176x256, .bf16⟩
  | .local _ .vmem, ⟨2, _⟩ => ⟨S2176x1024, .bf16⟩
  | .local _ .vmem, ⟨3, _⟩ => ⟨S2176x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S4352x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_2 : BitVec 32 := 1#32
  let v8 : BitVec 1 := Scalar.cmpi .eq arg2 c1_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvUpDwRefIdeal.lean ====
abbrev S4352x256 : Shape := ⟨2, ![4352, 256]⟩
abbrev S4352x2048 : Shape := ⟨2, ![4352, 2048]⟩
abbrev S_ : Shape := ⟨0, ![]⟩
abbrev S256x2048 : Shape := ⟨2, ![256, 2048]⟩
abbrev S2048x256 : Shape := ⟨2, ![2048, 256]⟩

abbrev nBuf : Space → Nat
  | .hbm => 10
  | .vmem => 0
  | .smem => 0
  | _ => 0

abbrev bufTy : (tb : Table) → Fin (tcTables nBuf tb) → BufTy
  | .hbm, ⟨0, _⟩ => ⟨S4352x256, .bf16⟩
  | .hbm, ⟨1, _⟩ => ⟨S4352x2048, .bf16⟩
  | .hbm, ⟨2, _⟩ => ⟨S_, .f32⟩
  | .hbm, ⟨3, _⟩ => ⟨S256x2048, .f32⟩
  | .hbm, ⟨4, _⟩ => ⟨S4352x256, .f32⟩
  | .hbm, ⟨5, _⟩ => ⟨S4352x2048, .f32⟩
  | .hbm, ⟨6, _⟩ => ⟨S4352x2048, .f32⟩
  | .hbm, ⟨7, _⟩ => ⟨S2048x256, .f32⟩
  | .hbm, ⟨8, _⟩ => ⟨S256x2048, .f32⟩
  | .hbm, ⟨9, _⟩ => ⟨S256x2048, .bf16⟩
  | _, _ => ⟨S4352x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KvUpDx.lean ====
abbrev S4352x2048 : Shape := ⟨2, ![4352, 2048]⟩
abbrev S256x2048 : Shape := ⟨2, ![256, 2048]⟩
abbrev S4352x256 : Shape := ⟨2, ![4352, 256]⟩
abbrev S2176x2048 : Shape := ⟨2, ![2176, 2048]⟩
abbrev S2176x256 : Shape := ⟨2, ![2176, 256]⟩

abbrev nBuf : Space → Nat
  | .hbm => 3
  | .vmem => 5
  | .smem => 0
  | _ => 0

abbrev bufTy : (tb : Table) → Fin (tcTables nBuf tb) → BufTy
  | .hbm, ⟨0, _⟩ => ⟨S4352x2048, .bf16⟩
  | .hbm, ⟨1, _⟩ => ⟨S256x2048, .bf16⟩
  | .hbm, ⟨2, _⟩ => ⟨S4352x256, .f32⟩
  | .local _ .vmem, ⟨0, _⟩ => ⟨S2176x2048, .bf16⟩
  | .local _ .vmem, ⟨1, _⟩ => ⟨S2176x2048, .bf16⟩
  | .local _ .vmem, ⟨2, _⟩ => ⟨S256x2048, .bf16⟩
  | .local _ .vmem, ⟨3, _⟩ => ⟨S2176x256, .f32⟩
  | .local _ .vmem, ⟨4, _⟩ => ⟨S2176x256, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2176x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvUpDxRefIdeal.lean ====
abbrev S4352x2048 : Shape := ⟨2, ![4352, 2048]⟩
abbrev S256x2048 : Shape := ⟨2, ![256, 2048]⟩
abbrev S_ : Shape := ⟨0, ![]⟩
abbrev S4352x256 : Shape := ⟨2, ![4352, 256]⟩

abbrev nBuf : Space → Nat
  | .hbm => 8
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S256x2048, .bf16⟩
  | .hbm, ⟨2, _⟩ => ⟨S_, .f32⟩
  | .hbm, ⟨3, _⟩ => ⟨S4352x256, .f32⟩
  | .hbm, ⟨4, _⟩ => ⟨S256x2048, .f32⟩
  | .hbm, ⟨5, _⟩ => ⟨S4352x2048, .f32⟩
  | .hbm, ⟨6, _⟩ => ⟨S4352x2048, .f32⟩
  | .hbm, ⟨7, _⟩ => ⟨S4352x256, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjKvCtx.lean ====
abbrev S256x2048 : Shape := ⟨2, ![256, 2048]⟩
abbrev S2048x384 : Shape := ⟨2, ![2048, 384]⟩
abbrev S256x384 : Shape := ⟨2, ![256, 384]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .bf16⟩
  | .hbm, ⟨1, _⟩ => ⟨S2048x384, .bf16⟩
  | .hbm, ⟨2, _⟩ => ⟨S256x384, .f32⟩
  | .local _ .vmem, ⟨0, _⟩ => ⟨S256x2048, .bf16⟩
  | .local _ .vmem, ⟨1, _⟩ => ⟨S2048x384, .bf16⟩
  | .local _ .vmem, ⟨2, _⟩ => ⟨S256x384, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProjKvCtxRefIdeal.lean ====
abbrev S256x2048 : Shape := ⟨2, ![256, 2048]⟩
abbrev S2048x384 : Shape := ⟨2, ![2048, 384]⟩
abbrev S256x384 : Shape := ⟨2, ![256, 384]⟩

abbrev nBuf : Space → Nat
  | .hbm => 5
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x384, .bf16⟩
  | .hbm, ⟨2, _⟩ => ⟨S256x2048, .f32⟩
  | .hbm, ⟨3, _⟩ => ⟨S2048x384, .f32⟩
  | .hbm, ⟨4, _⟩ => ⟨S256x384, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjKvCtxDx.lean ====
abbrev S256x384 : Shape := ⟨2, ![256, 384]⟩
abbrev S2048x384 : Shape := ⟨2, ![2048, 384]⟩
abbrev S256x2048 : Shape := ⟨2, ![256, 2048]⟩
abbrev S1024x384 : Shape := ⟨2, ![1024, 384]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x384, .bf16⟩
  | .hbm, ⟨1, _⟩ => ⟨S2048x384, .bf16⟩
  | .hbm, ⟨2, _⟩ => ⟨S256x2048, .f32⟩
  | .local _ .vmem, ⟨0, _⟩ => ⟨S256x384, .bf16⟩
  | .local _ .vmem, ⟨1, _⟩ => ⟨S1024x384, .bf16⟩
  | .local _ .vmem, ⟨2, _⟩ => ⟨S1024x384, .bf16⟩
  | .local _ .vmem, ⟨3, _⟩ => ⟨S256x1024, .f32⟩
  | .local _ .vmem, ⟨4, _⟩ => ⟨S256x1024, .f32⟩
  | _, _ => ⟨S256x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjKvCtxDxRefIdeal.lean ====
abbrev S256x384 : Shape := ⟨2, ![256, 384]⟩
abbrev S2048x384 : Shape := ⟨2, ![2048, 384]⟩
abbrev S_ : Shape := ⟨0, ![]⟩
abbrev S256x2048 : Shape := ⟨2, ![256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x384, .bf16⟩
  | .hbm, ⟨1, _⟩ => ⟨S2048x384, .bf16⟩
  | .hbm, ⟨2, _⟩ => ⟨S_, .f32⟩
  | .hbm, ⟨3, _⟩ => ⟨S256x2048, .f32⟩
  | .hbm, ⟨4, _⟩ => ⟨S2048x384, .f32⟩
  | .hbm, ⟨5, _⟩ => ⟨S256x384, .f32⟩
  | .hbm, ⟨6, _⟩ => ⟨S256x384, .f32⟩
  | .hbm, ⟨7, _⟩ => ⟨S256x2048, .f32⟩
  | _, _ => ⟨S256x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjKvDw.lean ====
abbrev S4096x2048 : Shape := ⟨2, ![4096, 2048]⟩
abbrev S4096x384 : Shape := ⟨2, ![4096, 384]⟩
abbrev S256x2048 : Shape := ⟨2, ![256, 2048]⟩
abbrev S256x384 : Shape := ⟨2, ![256, 384]⟩
abbrev S2048x384 : Shape := ⟨2, ![2048, 384]⟩
abbrev S2048x1024 : Shape := ⟨2, ![2048, 1024]⟩
abbrev S256x1024 : Shape := ⟨2, ![256, 1024]⟩
abbrev S1024x384 : Shape := ⟨2, ![1024, 384]⟩

abbrev nBuf : Space → Nat
  | .hbm => 5
  | .vmem => 11
  | .smem => 0
  | _ => 0

abbrev bufTy : (tb : Table) → Fin (tcTables nBuf tb) → BufTy
  | .hbm, ⟨0, _⟩ => ⟨S4096x2048, .bf16⟩
  | .hbm, ⟨1, _⟩ => ⟨S4096x384, .bf16⟩
  | .hbm, ⟨2, _⟩ => ⟨S256x2048, .bf16⟩
  | .hbm, ⟨3, _⟩ => ⟨S256x384, .bf16⟩
  | .hbm, ⟨4, _⟩ => ⟨S2048x384, .bf16⟩
  | .local _ .vmem, ⟨0, _⟩ => ⟨S2048x1024, .bf16⟩
  | .local _ .vmem, ⟨1, _⟩ => ⟨S2048x1024, .bf16⟩
  | .local _ .vmem, ⟨2, _⟩ => ⟨S2048x384, .bf16⟩
  | .local _ .vmem, ⟨3, _⟩ => ⟨S2048x384, .bf16⟩
  | .local _ .vmem, ⟨4, _⟩ => ⟨S256x1024, .bf16⟩
  | .local _ .vmem, ⟨5, _⟩ => ⟨S256x1024, .bf16⟩
  | .local _ .vmem, ⟨6, _⟩ => ⟨S256x384, .bf16⟩
  | .local _ .vmem, ⟨7, _⟩ => ⟨S256x384, .bf16⟩
  | .local _ .vmem, ⟨8, _⟩ => ⟨S1024x384, .bf16⟩
  | .local _ .vmem, ⟨9, _⟩ => ⟨S1024x384, .bf16⟩
  | .local _ .vmem, ⟨10, _⟩ => ⟨S1024x384, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 1, 3], ![false, false, false]⟩

def k0_cond4 (i : grid0.Coords) : BitVec 1 :=
  let arg2 : BitVec 32 := BitVec.ofNat 32 (i 2).val
  let c2_i32_4 : BitVec 32 := 2#32
  let v13 : BitVec 1 := Scalar.cmpi .eq arg2 c2_i32_4
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![v2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ProjKvDwRefIdeal.lean ====
abbrev S4096x2048 : Shape := ⟨2, ![4096, 2048]⟩
abbrev S4096x384 : Shape := ⟨2, ![4096, 384]⟩
abbrev S256x2048 : Shape := ⟨2, ![256, 2048]⟩
abbrev S256x384 : Shape := ⟨2, ![256, 384]⟩
abbrev S_ : Shape := ⟨0, ![]⟩
abbrev S2048x384 : Shape := ⟨2, ![2048, 384]⟩
abbrev S384x2048 : Shape := ⟨2, ![384, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x384, .bf16⟩
  | .hbm, ⟨2, _⟩ => ⟨S256x2048, .bf16⟩
  | .hbm, ⟨3, _⟩ => ⟨S256x384, .bf16⟩
  | .hbm, ⟨4, _⟩ => ⟨S_, .f32⟩
  | .hbm, ⟨5, _⟩ => ⟨S2048x384, .f32⟩
  | .hbm, ⟨6, _⟩ => ⟨S4096x2048, .f32⟩
  | .hbm, ⟨7, _⟩ => ⟨S4096x384, .f32⟩
  | .hbm, ⟨8, _⟩ => ⟨S256x2048, .f32⟩
  | .hbm, ⟨9, _⟩ => ⟨S256x384, .f32⟩
  | .hbm, ⟨10, _⟩ => ⟨S4096x384, .f32⟩
  | .hbm, ⟨11, _⟩ => ⟨S256x384, .f32⟩
  | .hbm, ⟨12, _⟩ => ⟨S384x2048, .f32⟩
  | .hbm, ⟨13, _⟩ => ⟨S2048x384, .f32⟩
  | .hbm, ⟨14, _⟩ => ⟨S384x2048, .f32⟩
  | .hbm, ⟨15, _⟩ => ⟨S2048x384, .f32⟩
  | .hbm, ⟨16, _⟩ => ⟨S2048x384, .f32⟩
  | .hbm, ⟨17, _⟩ => ⟨S2048x384, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== QUpDx.lean ====
abbrev S4096x2048 : Shape := ⟨2, ![4096, 2048]⟩
abbrev S512x2048 : Shape := ⟨2, ![512, 2048]⟩
abbrev S4096x512 : Shape := ⟨2, ![4096, 512]⟩
abbrev S1x512 : Shape := ⟨2, ![1, 512]⟩
abbrev S4x8x512 : Shape := ⟨3, ![4, 8, 512]⟩
abbrev S1024x2048 : Shape := ⟨2, ![1024, 2048]⟩
abbrev S1024x512 : Shape := ⟨2, ![1024, 512]⟩
abbrev S1x8x512 : Shape := ⟨3, ![1, 8, 512]⟩
abbrev S1024 : Shape := ⟨1, ![1024]⟩
abbrev S1024x1 : Shape := ⟨2, ![1024, 1]⟩
abbrev S512 : Shape := ⟨1, ![512]⟩
abbrev S8x512 : Shape := ⟨2, ![8, 512]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S4096x512, .f32⟩
  | .hbm, ⟨3, _⟩ => ⟨S1x512, .f32⟩
  | .hbm, ⟨4, _⟩ => ⟨S4096x512, .bf16⟩
  | .hbm, ⟨5, _⟩ => ⟨S4x8x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S1x8x512, .f32⟩
  | .local _ .vmem, ⟨9, _⟩ => ⟨S1x8x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== QUpDxRefIdeal.lean ====
abbrev S4096x2048 : Shape := ⟨2, ![4096, 2048]⟩
abbrev S512x2048 : Shape := ⟨2, ![512, 2048]⟩
abbrev S4096x512 : Shape := ⟨2, ![4096, 512]⟩
abbrev S1x512 : Shape := ⟨2, ![1, 512]⟩
abbrev S_ : Shape := ⟨0, ![]⟩
abbrev S4096 : Shape := ⟨1, ![4096]⟩
abbrev S4096x1 : Shape := ⟨2, ![4096, 1]⟩
abbrev S4x1024x512 : Shape := ⟨3, ![4, 1024, 512]⟩
abbrev S4x512 : Shape := ⟨2, ![4, 512]⟩
abbrev S4x1x512 : Shape := ⟨3, ![4, 1, 512]⟩
abbrev S4x8x512 : Shape := ⟨3, ![4, 8, 512]⟩

abbrev nBuf : Space → Nat
  | .hbm => 54
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S4096x512, .f32⟩
  | .hbm, ⟨3, _⟩ => ⟨S1x512, .f32⟩
  | .hbm, ⟨4, _⟩ => ⟨S4096x512, .f32⟩
  | .hbm, ⟨5, _⟩ => ⟨S4096x512, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096x512, .f32⟩
  | .hbm, ⟨25, _⟩ => ⟨S512x2048, .f32⟩
  | .hbm, ⟨26, _⟩ => ⟨S4096x2048, .f32⟩
  | .hbm, ⟨27, _⟩ => ⟨S4096x2048, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x512, .f32⟩
  | .hbm, ⟨36, _⟩ => ⟨S4096x512, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S4x1024x512, .f32⟩
  | .hbm, ⟨49, _⟩ => ⟨S_, .f32⟩
  | .hbm, ⟨50, _⟩ => ⟨S4x512, .f32⟩
  | .hbm, ⟨51, _⟩ => ⟨S4096x512, .bf16⟩
  | .hbm, ⟨52, _⟩ => ⟨S4x1x512, .f32⟩
  | .hbm, ⟨53, _⟩ => ⟨S4x8x512, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== ModFwd.lean ====
abbrev S16x2048 : Shape := ⟨2, ![16, 2048]⟩
abbrev S2048x3072 : Shape := ⟨2, ![2048, 3072]⟩
abbrev S1x3072 : Shape := ⟨2, ![1, 3072]⟩
abbrev S16x3072 : Shape := ⟨2, ![16, 3072]⟩
abbrev S2048x1024 : Shape := ⟨2, ![2048, 1024]⟩
abbrev S1x1024 : Shape := ⟨2, ![1, 1024]⟩
abbrev S16x1024 : Shape := ⟨2, ![16, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S2048x3072, .f32⟩
  | .hbm, ⟨2, _⟩ => ⟨S1x3072, .f32⟩
  | .hbm, ⟨3, _⟩ => ⟨S16x3072, .f32⟩
  | .local _ .vmem, ⟨0, _⟩ => ⟨S16x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ModFwdRefIdeal.lean ====
abbrev S16x2048 : Shape := ⟨2, ![16, 2048]⟩
abbrev S2048x3072 : Shape := ⟨2, ![2048, 3072]⟩
abbrev S1x3072 : Shape := ⟨2, ![1, 3072]⟩
abbrev S16x3072 : Shape := ⟨2, ![16, 3072]⟩

abbrev nBuf : Space → Nat
  | .hbm => 6
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2048x3072, .f32⟩
  | .hbm, ⟨2, _⟩ => ⟨S1x3072, .f32⟩
  | .hbm, ⟨3, _⟩ => ⟨S16x3072, .f32⟩
  | .hbm, ⟨4, _⟩ => ⟨S16x3072, .f32⟩
  | .hbm, ⟨5, _⟩ => ⟨S16x3072, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ModDw.lean ====
abbrev S16x2048 : Shape := ⟨2, ![16, 2048]⟩
abbrev S16x3072 : Shape := ⟨2, ![16, 3072]⟩
abbrev S2048x3072 : Shape := ⟨2, ![2048, 3072]⟩
abbrev S16x1024 : Shape := ⟨2, ![16, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16x2048, .f32⟩
  | .hbm, ⟨1, _⟩ => ⟨S16x3072, .f32⟩
  | .hbm, ⟨2, _⟩ => ⟨S2048x3072, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S1024x1024, .f32⟩
  | .local _ .vmem, ⟨5, _⟩ => ⟨S1024x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ModDwRefIdeal.lean ====
abbrev S16x2048 : Shape := ⟨2, ![16, 2048]⟩
abbrev S16x3072 : Shape := ⟨2, ![16, 3072]⟩
abbrev S_ : Shape := ⟨0, ![]⟩
abbrev S2048x3072 : Shape := ⟨2, ![2048, 3072]⟩
abbrev S3072x2048 : Shape := ⟨2, ![3072, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x3072, .f32⟩
  | .hbm, ⟨2, _⟩ => ⟨S_, .f32⟩
  | .hbm, ⟨3, _⟩ => ⟨S2048x3072, .f32⟩
  | .hbm, ⟨4, _⟩ => ⟨S16x3072, .f32⟩
  | .hbm, ⟨5, _⟩ => ⟨S3072x2048, .f32⟩
  | .hbm, ⟨6, _⟩ => ⟨S2048x3072, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ModDx.lean ====
abbrev S16x3072 : Shape := ⟨2, ![16, 3072]⟩
abbrev S2048x3072 : Shape := ⟨2, ![2048, 3072]⟩
abbrev S16x2048 : Shape := ⟨2, ![16, 2048]⟩
abbrev S16x1536 : Shape := ⟨2, ![16, 1536]⟩
abbrev S1024x1536 : Shape := ⟨2, ![1024, 1536]⟩
abbrev S16x1024 : Shape := ⟨2, ![16, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16x3072, .f32⟩
  | .hbm, ⟨1, _⟩ => ⟨S2048x3072, .f32⟩
  | .hbm, ⟨2, _⟩ => ⟨S16x2048, .f32⟩
  | .local _ .vmem, ⟨0, _⟩ => ⟨S16x1536, .f32⟩
  | .local _ .vmem, ⟨1, _⟩ => ⟨S16x1536, .f32⟩
  | .local _ .vmem, ⟨2, _⟩ => ⟨S1024x1536, .f32⟩
  | .local _ .vmem, ⟨3, _⟩ => ⟨S1024x1536, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | _, _ => ⟨S16x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_2 : BitVec 32 := 1#32
  let v8 : BitVec 1 := Scalar.cmpi .eq arg2 c1_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ModDxRefIdeal.lean ====
abbrev S16x3072 : Shape := ⟨2, ![16, 3072]⟩
abbrev S2048x3072 : Shape := ⟨2, ![2048, 3072]⟩
abbrev S_ : Shape := ⟨0, ![]⟩
abbrev S16x2048 : Shape := ⟨2, ![16, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16x3072, .f32⟩
  | .hbm, ⟨1, _⟩ => ⟨S2048x3072, .f32⟩
  | .hbm, ⟨2, _⟩ => ⟨S_, .f32⟩
  | .hbm, ⟨3, _⟩ => ⟨S16x2048, .f32⟩
  | .hbm, ⟨4, _⟩ => ⟨S16x3072, .f32⟩
  | .hbm, ⟨5, _⟩ => ⟨S16x2048, .f32⟩
  | _, _ => ⟨S16x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Frames.lean ====
/- The frames of the kernels: each kernel is its ideal's text at the machine's floats, so its frame is the frame of that
   text there. -/
module

public import proofs.«01_k».proof.Proof.Gen.Kernel
public import proofs.«01_k».proof.Proof.Gen.KernelIdeal.Frame
public import proofs.«01_k».proof.Proof.Gen.OutDx
public import proofs.«01_k».proof.Proof.Gen.OutDxIdeal.Frame
public import proofs.«01_k».proof.Proof.Gen.OutDw
public import proofs.«01_k».proof.Proof.Gen.OutDwIdeal.Frame
public import proofs.«01_k».proof.Proof.Gen.InDx
public import proofs.«01_k».proof.Proof.Gen.InDxIdeal.Frame
public import proofs.«01_k».proof.Proof.Gen.InDw
public import proofs.«01_k».proof.Proof.Gen.InDwIdeal.Frame
public import proofs.«01_k».proof.Proof.Gen.InDwA
public import proofs.«01_k».proof.Proof.Gen.InDwAIdeal.Frame
public import proofs.«01_k».proof.Proof.Gen.FfnIn
public import proofs.«01_k».proof.Proof.Gen.FfnInIdeal.Frame
public import proofs.«01_k».proof.Proof.Gen.OutProj
public import proofs.«01_k».proof.Proof.Gen.OutProjIdeal.Frame
public import proofs.«01_k».proof.Proof.Gen.MergeDx
public import proofs.«01_k».proof.Proof.Gen.MergeDxIdeal.Frame
public import proofs.«01_k».proof.Proof.Gen.MergeDw
public import proofs.«01_k».proof.Proof.Gen.MergeDwIdeal.Frame
public import proofs.«01_k».proof.Proof.Gen.BrAttn
public import proofs.«01_k».proof.Proof.Gen.BrAttnIdeal.Frame
public import proofs.«01_k».proof.Proof.Gen.BrSgu
public import proofs.«01_k».proof.Proof.Gen.BrSguIdeal.Frame
public import proofs.«01_k».proof.Proof.Gen.BrDx
public import proofs.«01_k».proof.Proof.Gen.BrDxIdeal.Frame
public import proofs.«01_k».proof.Proof.Gen.BrDw
public import proofs.«01_k».proof.Proof.Gen.BrDwIdeal.Frame
public import proofs.«01_k».proof.Proof.Gen.Gates
public import proofs.«01_k».proof.Proof.Gen.GatesIdeal.Frame
public import proofs.«01_k».proof.Proof.Gen.Uv
public import proofs.«01_k».proof.Proof.Gen.UvIdeal.Frame
public import proofs.«01_k».proof.Proof.Gen.GatesDw
public import proofs.«01_k».proof.Proof.Gen.GatesDwIdeal.Frame
public import proofs.«01_k».proof.Proof.Gen.UvDw
public import proofs.«01_k».proof.Proof.Gen.UvDwIdeal.Frame
public import proofs.«01_k».proof.Proof.Gen.ProjDx
public import proofs.«01_k».proof.Proof.Gen.ProjDxIdeal.Frame
public import proofs.«01_k».proof.Proof.Gen.AttnFwd
public import proofs.«01_k».proof.Proof.Gen.AttnFwdIdeal.Frame
public import proofs.«01_k».proof.Proof.Gen.FfnOut
public import proofs.«01_k».proof.Proof.Gen.FfnOutIdeal.Frame
public import proofs.«01_k».proof.Proof.Gen.ProjQ
public import proofs.«01_k».proof.Proof.Gen.ProjQIdeal.Frame
public import proofs.«01_k».proof.Proof.Gen.ProjKv
public import proofs.«01_k».proof.Proof.Gen.ProjKvIdeal.Frame
public import proofs.«01_k».proof.Proof.Gen.QUp
public import proofs.«01_k».proof.Proof.Gen.QUpIdeal.Frame
public import proofs.«01_k».proof.Proof.Gen.KvUp
public import proofs.«01_k».proof.Proof.Gen.KvUpIdeal.Frame
public import proofs.«01_k».proof.Proof.Gen.ProjQDw
public import proofs.«01_k».proof.Proof.Gen.ProjQDwIdeal.Frame
public import proofs.«01_k».proof.Proof.Gen.QUpDw
public import proofs.«01_k».proof.Proof.Gen.QUpDwIdeal.Frame
public import proofs.«01_k».proof.Proof.Gen.KvUpDw
public import proofs.«01_k».proof.Proof.Gen.KvUpDwIdeal.Frame
public import proofs.«01_k».proof.Proof.Gen.KvUpDx
public import proofs.«01_k».proof.Proof.Gen.KvUpDxIdeal.Frame
public import proofs.«01_k».proof.Proof.Gen.ProjKvCtx
public import proofs.«01_k».proof.Proof.Gen.ProjKvCtxIdeal.Frame
public import proofs.«01_k».proof.Proof.Gen.ProjKvCtxDx
public import proofs.«01_k».proof.Proof.Gen.ProjKvCtxDxIdeal.Frame
public import proofs.«01_k».proof.Proof.Gen.ProjKvDw
public import proofs.«01_k».proof.Proof.Gen.ProjKvDwIdeal.Frame
public import proofs.«01_k».proof.Proof.Gen.QUpDx
public import proofs.«01_k».proof.Proof.Gen.QUpDxIdeal.Frame
public import proofs.«01_k».proof.Proof.Gen.ModFwd
public import proofs.«01_k».proof.Proof.Gen.ModFwdIdeal.Frame
public import proofs.«01_k».proof.Proof.Gen.ModDw
public import proofs.«01_k».proof.Proof.Gen.ModDwIdeal.Frame
public import proofs.«01_k».proof.Proof.Gen.ModDx
public import proofs.«01_k».proof.Proof.Gen.ModDxIdeal.Frame
public import proofs.«01_k».proof.Defs

@[expose] public section

set_option maxHeartbeats 2000000

open Idealize.ShloMosaic

namespace Cert.Frames

/-- The two body tables are one. -/
theorem same_Kernel : Cert.Kernel.defs (F := Bits) = Cert.KernelIdeal.defs (F := Bits) :=
  congrArg (Pipeline.defs Cert.Kernel.pcfgs) (congrArg Defs.onTc (funext fun x => by fin_cases x <;> rfl))

theorem Kernel : Cert.quiescent_Kernel := fun m ρ _ => by
  have h := Cert.KernelIdeal.Gen.frame (F := Bits) m ρ
  rw [← same_Kernel] at h
  exact h

/-- The two body tables are one. -/
theorem same_OutDx : Cert.OutDx.defs (F := Bits) = Cert.OutDxIdeal.defs (F := Bits) :=
  congrArg (Pipeline.defs Cert.OutDx.pcfgs) (congrArg Defs.onTc (funext fun x => by fin_cases x <;> rfl))

theorem OutDx : Cert.quiescent_OutDx := fun m ρ _ => by
  have h := Cert.OutDxIdeal.Gen.frame (F := Bits) m ρ
  rw [← same_OutDx] at h
  exact h

/-- The two body tables are one. -/
theorem same_OutDw : Cert.OutDw.defs (F := Bits) = Cert.OutDwIdeal.defs (F := Bits) :=
  congrArg (Pipeline.defs Cert.OutDw.pcfgs) (congrArg Defs.onTc (funext fun x => by fin_cases x <;> rfl))

theorem OutDw : Cert.quiescent_OutDw := fun m ρ _ => by
  have h := Cert.OutDwIdeal.Gen.frame (F := Bits) m ρ
  rw [← same_OutDw] at h
  exact h

/-- The two body tables are one. -/
theorem same_InDx : Cert.InDx.defs (F := Bits) = Cert.InDxIdeal.defs (F := Bits) :=
  congrArg (Pipeline.defs Cert.InDx.pcfgs) (congrArg Defs.onTc (funext fun x => by fin_cases x <;> rfl))

theorem InDx : Cert.quiescent_InDx := fun m ρ _ => by
  have h := Cert.InDxIdeal.Gen.frame (F := Bits) m ρ
  rw [← same_InDx] at h
  exact h

/-- The two body tables are one. -/
theorem same_InDw : Cert.InDw.defs (F := Bits) = Cert.InDwIdeal.defs (F := Bits) :=
  congrArg (Pipeline.defs Cert.InDw.pcfgs) (congrArg Defs.onTc (funext fun x => by fin_cases x <;> rfl))

theorem InDw : Cert.quiescent_InDw := fun m ρ _ => by
  have h := Cert.InDwIdeal.Gen.frame (F := Bits) m ρ
  rw [← same_InDw] at h
  exact h

/-- The two body tables are one. -/
theorem same_InDwA : Cert.InDwA.defs (F := Bits) = Cert.InDwAIdeal.defs (F := Bits) :=
  congrArg (Pipeline.defs Cert.InDwA.pcfgs) (congrArg Defs.onTc (funext fun x => by fin_cases x <;> rfl))

theorem InDwA : Cert.quiescent_InDwA := fun m ρ _ => by
  have h := Cert.InDwAIdeal.Gen.frame (F := Bits) m ρ
  rw [← same_InDwA] at h
  exact h

/-- The two body tables are one. -/
theorem same_FfnIn : Cert.FfnIn.defs (F := Bits) = Cert.FfnInIdeal.defs (F := Bits) :=
  congrArg (Pipeline.defs Cert.FfnIn.pcfgs) (congrArg Defs.onTc (funext fun x => by fin_cases x <;> rfl))

theorem FfnIn : Cert.quiescent_FfnIn := fun m ρ _ => by
  have h := Cert.FfnInIdeal.Gen.frame (F := Bits) m ρ
  rw [← same_FfnIn] at h
  exact h

/-- The two body tables are one. -/
theorem same_OutProj : Cert.OutProj.defs (F := Bits) = Cert.OutProjIdeal.defs (F := Bits) :=
  congrArg (Pipeline.defs Cert.OutProj.pcfgs) (congrArg Defs.onTc (funext fun x => by fin_cases x <;> rfl))

theorem OutProj : Cert.quiescent_OutProj := fun m ρ _ => by
  have h := Cert.OutProjIdeal.Gen.frame (F := Bits) m ρ
  rw [← same_OutProj] at h
  exact h

/-- The two body tables are one. -/
theorem same_MergeDx : Cert.MergeDx.defs (F := Bits) = Cert.MergeDxIdeal.defs (F := Bits) :=
  congrArg (Pipeline.defs Cert.MergeDx.pcfgs) (congrArg Defs.onTc (funext fun x => by fin_cases x <;> rfl))

theorem MergeDx : Cert.quiescent_MergeDx := fun m ρ _ => by
  have h := Cert.MergeDxIdeal.Gen.frame (F := Bits) m ρ
  rw [← same_MergeDx] at h
  exact h

/-- The two body tables are one. -/
theorem same_MergeDw : Cert.MergeDw.defs (F := Bits) = Cert.MergeDwIdeal.defs (F := Bits) :=
  congrArg (Pipeline.defs Cert.MergeDw.pcfgs) (congrArg Defs.onTc (funext fun x => by fin_cases x <;> rfl))

theorem MergeDw : Cert.quiescent_MergeDw := fun m ρ _ => by
  have h := Cert.MergeDwIdeal.Gen.frame (F := Bits) m ρ
  rw [← same_MergeDw] at h
  exact h

/-- The two body tables are one. -/
theorem same_BrAttn : Cert.BrAttn.defs (F := Bits) = Cert.BrAttnIdeal.defs (F := Bits) :=
  congrArg (Pipeline.defs Cert.BrAttn.pcfgs) (congrArg Defs.onTc (funext fun x => by fin_cases x <;> rfl))

theorem BrAttn : Cert.quiescent_BrAttn := fun m ρ _ => by
  have h := Cert.BrAttnIdeal.Gen.frame (F := Bits) m ρ
  rw [← same_BrAttn] at h
  exact h

/-- The two body tables are one. -/
theorem same_BrSgu : Cert.BrSgu.defs (F := Bits) = Cert.BrSguIdeal.defs (F := Bits) :=
  congrArg (Pipeline.defs Cert.BrSgu.pcfgs) (congrArg Defs.onTc (funext fun x => by fin_cases x <;> rfl))

theorem BrSgu : Cert.quiescent_BrSgu := fun m ρ _ => by
  have h := Cert.BrSguIdeal.Gen.frame (F := Bits) m ρ
  rw [← same_BrSgu] at h
  exact h

/-- The two body tables are one. -/
theorem same_BrDx : Cert.BrDx.defs (F := Bits) = Cert.BrDxIdeal.defs (F := Bits) :=
  congrArg (Pipeline.defs Cert.BrDx.pcfgs) (congrArg Defs.onTc (funext fun x => by fin_cases x <;> rfl))

theorem BrDx : Cert.quiescent_BrDx := fun m ρ _ => by
  have h := Cert.BrDxIdeal.Gen.frame (F := Bits) m ρ
  rw [← same_BrDx] at h
  exact h

/-- The two body tables are one. -/
theorem same_BrDw : Cert.BrDw.defs (F := Bits) = Cert.BrDwIdeal.defs (F := Bits) :=
  congrArg (Pipeline.defs Cert.BrDw.pcfgs) (congrArg Defs.onTc (funext fun x => by fin_cases x <;> rfl))

theorem BrDw : Cert.quiescent_BrDw := fun m ρ _ => by
  have h := Cert.BrDwIdeal.Gen.frame (F := Bits) m ρ
  rw [← same_BrDw] at h
  exact h

/-- The two body tables are one. -/
theorem same_Gates : Cert.Gates.defs (F := Bits) = Cert.GatesIdeal.defs (F := Bits) :=
  congrArg (Pipeline.defs Cert.Gates.pcfgs) (congrArg Defs.onTc (funext fun x => by fin_cases x <;> rfl))

theorem Gates : Cert.quiescent_Gates := fun m ρ _ => by
  have h := Cert.GatesIdeal.Gen.frame (F := Bits) m ρ
  rw [← same_Gates] at h
  exact h

/-- The two body tables are one. -/
theorem same_Uv : Cert.Uv.defs (F := Bits) = Cert.UvIdeal.defs (F := Bits) :=
  congrArg (Pipeline.defs Cert.Uv.pcfgs) (congrArg Defs.onTc (funext fun x => by fin_cases x <;> rfl))

theorem Uv : Cert.quiescent_Uv := fun m ρ _ => by
  have h := Cert.UvIdeal.Gen.frame (F := Bits) m ρ
  rw [← same_Uv] at h
  exact h

/-- The two body tables are one. -/
theorem same_GatesDw : Cert.GatesDw.defs (F := Bits) = Cert.GatesDwIdeal.defs (F := Bits) :=
  congrArg (Pipeline.defs Cert.GatesDw.pcfgs) (congrArg Defs.onTc (funext fun x => by fin_cases x <;> rfl))

theorem GatesDw : Cert.quiescent_GatesDw := fun m ρ _ => by
  have h := Cert.GatesDwIdeal.Gen.frame (F := Bits) m ρ
  rw [← same_GatesDw] at h
  exact h

/-- The two body tables are one. -/
theorem same_UvDw : Cert.UvDw.defs (F := Bits) = Cert.UvDwIdeal.defs (F := Bits) :=
  congrArg (Pipeline.defs Cert.UvDw.pcfgs) (congrArg Defs.onTc (funext fun x => by fin_cases x <;> rfl))

theorem UvDw : Cert.quiescent_UvDw := fun m ρ _ => by
  have h := Cert.UvDwIdeal.Gen.frame (F := Bits) m ρ
  rw [← same_UvDw] at h
  exact h

/-- The two body tables are one. -/
theorem same_ProjDx : Cert.ProjDx.defs (F := Bits) = Cert.ProjDxIdeal.defs (F := Bits) :=
  congrArg (Pipeline.defs Cert.ProjDx.pcfgs) (congrArg Defs.onTc (funext fun x => by fin_cases x <;> rfl))

theorem ProjDx : Cert.quiescent_ProjDx := fun m ρ _ => by
  have h := Cert.ProjDxIdeal.Gen.frame (F := Bits) m ρ
  rw [← same_ProjDx] at h
  exact h

/-- The two body tables are one. -/
theorem same_AttnFwd : Cert.AttnFwd.defs (F := Bits) = Cert.AttnFwdIdeal.defs (F := Bits) :=
  congrArg (Pipeline.defs Cert.AttnFwd.pcfgs) (congrArg Defs.onTc (funext fun x => by fin_cases x <;> rfl))

theorem AttnFwd : Cert.quiescent_AttnFwd := fun m ρ _ => by
  have h := Cert.AttnFwdIdeal.Gen.frame (F := Bits) m ρ
  rw [← same_AttnFwd] at h
  exact h

/-- The two body tables are one. -/
theorem same_FfnOut : Cert.FfnOut.defs (F := Bits) = Cert.FfnOutIdeal.defs (F := Bits) :=
  congrArg (Pipeline.defs Cert.FfnOut.pcfgs) (congrArg Defs.onTc (funext fun x => by fin_cases x <;> rfl))

theorem FfnOut : Cert.quiescent_FfnOut := fun m ρ _ => by
  have h := Cert.FfnOutIdeal.Gen.frame (F := Bits) m ρ
  rw [← same_FfnOut] at h
  exact h

/-- The two body tables are one. -/
theorem same_ProjQ : Cert.ProjQ.defs (F := Bits) = Cert.ProjQIdeal.defs (F := Bits) :=
  congrArg (Pipeline.defs Cert.ProjQ.pcfgs) (congrArg Defs.onTc (funext fun x => by fin_cases x <;> rfl))

theorem ProjQ : Cert.quiescent_ProjQ := fun m ρ _ => by
  have h := Cert.ProjQIdeal.Gen.frame (F := Bits) m ρ
  rw [← same_ProjQ] at h
  exact h

/-- The two body tables are one. -/
theorem same_ProjKv : Cert.ProjKv.defs (F := Bits) = Cert.ProjKvIdeal.defs (F := Bits) :=
  congrArg (Pipeline.defs Cert.ProjKv.pcfgs) (congrArg Defs.onTc (funext fun x => by fin_cases x <;> rfl))

theorem ProjKv : Cert.quiescent_ProjKv := fun m ρ _ => by
  have h := Cert.ProjKvIdeal.Gen.frame (F := Bits) m ρ
  rw [← same_ProjKv] at h
  exact h

/-- The two body tables are one. -/
theorem same_QUp : Cert.QUp.defs (F := Bits) = Cert.QUpIdeal.defs (F := Bits) :=
  congrArg (Pipeline.defs Cert.QUp.pcfgs) (congrArg Defs.onTc (funext fun x => by fin_cases x <;> rfl))

theorem QUp : Cert.quiescent_QUp := fun m ρ _ => by
  have h := Cert.QUpIdeal.Gen.frame (F := Bits) m ρ
  rw [← same_QUp] at h
  exact h

/-- The two body tables are one. -/
theorem same_KvUp : Cert.KvUp.defs (F := Bits) = Cert.KvUpIdeal.defs (F := Bits) :=
  congrArg (Pipeline.defs Cert.KvUp.pcfgs) (congrArg Defs.onTc (funext fun x => by fin_cases x <;> rfl))

theorem KvUp : Cert.quiescent_KvUp := fun m ρ _ => by
  have h := Cert.KvUpIdeal.Gen.frame (F := Bits) m ρ
  rw [← same_KvUp] at h
  exact h

/-- The two body tables are one. -/
theorem same_ProjQDw : Cert.ProjQDw.defs (F := Bits) = Cert.ProjQDwIdeal.defs (F := Bits) :=
  congrArg (Pipeline.defs Cert.ProjQDw.pcfgs) (congrArg Defs.onTc (funext fun x => by fin_cases x <;> rfl))

theorem ProjQDw : Cert.quiescent_ProjQDw := fun m ρ _ => by
  have h := Cert.ProjQDwIdeal.Gen.frame (F := Bits) m ρ
  rw [← same_ProjQDw] at h
  exact h

/-- The two body tables are one. -/
theorem same_QUpDw : Cert.QUpDw.defs (F := Bits) = Cert.QUpDwIdeal.defs (F := Bits) :=
  congrArg (Pipeline.defs Cert.QUpDw.pcfgs) (congrArg Defs.onTc (funext fun x => by fin_cases x <;> rfl))

theorem QUpDw : Cert.quiescent_QUpDw := fun m ρ _ => by
  have h := Cert.QUpDwIdeal.Gen.frame (F := Bits) m ρ
  rw [← same_QUpDw] at h
  exact h

/-- The two body tables are one. -/
theorem same_KvUpDw : Cert.KvUpDw.defs (F := Bits) = Cert.KvUpDwIdeal.defs (F := Bits) :=
  congrArg (Pipeline.defs Cert.KvUpDw.pcfgs) (congrArg Defs.onTc (funext fun x => by fin_cases x <;> rfl))

theorem KvUpDw : Cert.quiescent_KvUpDw := fun m ρ _ => by
  have h := Cert.KvUpDwIdeal.Gen.frame (F := Bits) m ρ
  rw [← same_KvUpDw] at h
  exact h

/-- The two body tables are one. -/
theorem same_KvUpDx : Cert.KvUpDx.defs (F := Bits) = Cert.KvUpDxIdeal.defs (F := Bits) :=
  congrArg (Pipeline.defs Cert.KvUpDx.pcfgs) (congrArg Defs.onTc (funext fun x => by fin_cases x <;> rfl))

theorem KvUpDx : Cert.quiescent_KvUpDx := fun m ρ _ => by
  have h := Cert.KvUpDxIdeal.Gen.frame (F := Bits) m ρ
  rw [← same_KvUpDx] at h
  exact h

/-- The two body tables are one. -/
theorem same_ProjKvCtx : Cert.ProjKvCtx.defs (F := Bits) = Cert.ProjKvCtxIdeal.defs (F := Bits) :=
  congrArg (Pipeline.defs Cert.ProjKvCtx.pcfgs) (congrArg Defs.onTc (funext fun x => by fin_cases x <;> rfl))

theorem ProjKvCtx : Cert.quiescent_ProjKvCtx := fun m ρ _ => by
  have h := Cert.ProjKvCtxIdeal.Gen.frame (F := Bits) m ρ
  rw [← same_ProjKvCtx] at h
  exact h

/-- The two body tables are one. -/
theorem same_ProjKvCtxDx : Cert.ProjKvCtxDx.defs (F := Bits) = Cert.ProjKvCtxDxIdeal.defs (F := Bits) :=
  congrArg (Pipeline.defs Cert.ProjKvCtxDx.pcfgs) (congrArg Defs.onTc (funext fun x => by fin_cases x <;> rfl))

theorem ProjKvCtxDx : Cert.quiescent_ProjKvCtxDx := fun m ρ _ => by
  have h := Cert.ProjKvCtxDxIdeal.Gen.frame (F := Bits) m ρ
  rw [← same_ProjKvCtxDx] at h
  exact h

/-- The two body tables are one. -/
theorem same_ProjKvDw : Cert.ProjKvDw.defs (F := Bits) = Cert.ProjKvDwIdeal.defs (F := Bits) :=
  congrArg (Pipeline.defs Cert.ProjKvDw.pcfgs) (congrArg Defs.onTc (funext fun x => by fin_cases x <;> rfl))

theorem ProjKvDw : Cert.quiescent_ProjKvDw := fun m ρ _ => by
  have h := Cert.ProjKvDwIdeal.Gen.frame (F := Bits) m ρ
  rw [← same_ProjKvDw] at h
  exact h

/-- The two body tables are one. -/
theorem same_QUpDx : Cert.QUpDx.defs (F := Bits) = Cert.QUpDxIdeal.defs (F := Bits) :=
  congrArg (Pipeline.defs Cert.QUpDx.pcfgs) (congrArg Defs.onTc (funext fun x => by fin_cases x <;> rfl))

theorem QUpDx : Cert.quiescent_QUpDx := fun m ρ _ => by
  have h := Cert.QUpDxIdeal.Gen.frame (F := Bits) m ρ
  rw [← same_QUpDx] at h
  exact h

/-- The two body tables are one. -/
theorem same_ModFwd : Cert.ModFwd.defs (F := Bits) = Cert.ModFwdIdeal.defs (F := Bits) :=
  congrArg (Pipeline.defs Cert.ModFwd.pcfgs) (congrArg Defs.onTc (funext fun x => by fin_cases x <;> rfl))

theorem ModFwd : Cert.quiescent_ModFwd := fun m ρ _ => by
  have h := Cert.ModFwdIdeal.Gen.frame (F := Bits) m ρ
  rw [← same_ModFwd] at h
  exact h

/-- The two body tables are one. -/
theorem same_ModDw : Cert.ModDw.defs (F := Bits) = Cert.ModDwIdeal.defs (F := Bits) :=
  congrArg (Pipeline.defs Cert.ModDw.pcfgs) (congrArg Defs.onTc (funext fun x => by fin_cases x <;> rfl))

theorem ModDw : Cert.quiescent_ModDw := fun m ρ _ => by
  have h := Cert.ModDwIdeal.Gen.frame (F := Bits) m ρ
  rw [← same_ModDw] at h
  exact h

/-- The two body tables are one. -/
theorem same_ModDx : Cert.ModDx.defs (F := Bits) = Cert.ModDxIdeal.defs (F := Bits) :=
  congrArg (Pipeline.defs Cert.ModDx.pcfgs) (congrArg Defs.onTc (funext fun x => by fin_cases x <;> rfl))

theorem ModDx : Cert.quiescent_ModDx := fun m ρ _ => by
  have h := Cert.ModDxIdeal.Gen.frame (F := Bits) m ρ
  rw [← same_ModDx] at h
  exact h

end Cert.Frames
-- ==== Proof.Step.lean ====
/- What one grid point of the attention's backward pass computes, from the blocks it is given: the products of each
   half of the queries' block, read at an index. -/
module

public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The weight of query `i` on key `j`: the exponential of the score less the saved logarithm of the sum. -/
def wt (q : FVec Ideal S512x256 .bf16) (k : FVec Ideal S4352x256 .bf16) (l : FVec Ideal S512x128 .f32)
    (i : Fin 512) (j : Fin 4352) : EReal :=
  Ideal.exp ((∑ d : Fin 256, q (ix2 i d) * k (ix2 j d)) - l (ix2 i 0))

/-- The gradient of the score of query `i` and key `j`. -/
def ds (q : FVec Ideal S512x256 .bf16) (k : FVec Ideal S4352x256 .bf16) (v : FVec Ideal S4352x128 .bf16)
    (o : FVec Ideal S512x128 .bf16) (l : FVec Ideal S512x128 .f32) (g : FVec Ideal S512x128 .bf16)
    (i : Fin 512) (j : Fin 4352) : EReal :=
  wt q k l i j * ((∑ d : Fin 128, g (ix2 i d) * v (ix2 j d)) - ∑ d : Fin 128, g (ix2 i d) * o (ix2 i d))

/-- Row `r` of the first half of a block of 512. -/
def lo (r : Fin 256) : Fin 512 := ⟨r.val, by omega⟩
/-- Row `r` of the second half of a block of 512. -/
def hi (r : Fin 256) : Fin 512 := ⟨256 + r.val, by omega⟩

section blocks
variable (c : Dev nD) (t : Fin cfg0.N)
/-- The point's block of queries. -/
abbrev qB : FVec Ideal S512x256 .bf16 := iblk m c 0 t
/-- The point's block of keys. -/
abbrev kB : FVec Ideal S4352x256 .bf16 := iblk m c 1 t
/-- The point's block of values. -/
abbrev vB : FVec Ideal S4352x128 .bf16 := iblk m c 2 t
/-- The point's block of the forward result. -/
abbrev oB : FVec Ideal S512x128 .bf16 := iblk m c 3 t
/-- The point's block of the saved logarithms. -/
abbrev lB : FVec Ideal S512x128 .f32 := iblk m c 4 t
/-- The point's block of the cotangent. -/
abbrev gB : FVec Ideal S512x128 .bf16 := iblk m c 5 t
/-- The gradient of the scores of the point's block. -/
abbrev dsB : Fin 512 → Fin 4352 → EReal :=
  ds (qB m c t) (kB m c t) (vB m c t) (oB m c t) (lB m c t) (gB m c t)
/-- The weights of the point's block. -/
abbrev wtB : Fin 512 → Fin 4352 → EReal := wt (qB m c t) (kB m c t) (lB m c t)
end blocks

/-- The keys' gradient at the first point of a head: both halves' products. -/
theorem dk_first (c : Dev nD) (t : Fin cfg0.N) (h0 : t.val % 8 = 0) (h1 : ¬1 ≤ t.val % 8) (a : Fin 4352) (b : Fin 256) :
    (outsAt0 m c t.val t.isLt).2.1 (ix2 a b)
      = (∑ r : Fin 256, dsB m c t (lo r) a * qB m c t (ix2 (lo r) b))
        + ∑ r : Fin 256, dsB m c t (hi r) a * qB m c t (ix2 (hi r) b) := by
  rw [outsAt0_A m c t h0 h1]; frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, ds, wt, lo, hi]

/-- The values' gradient at the first point of a head: both halves' products. -/
theorem dv_first (c : Dev nD) (t : Fin cfg0.N) (h0 : t.val % 8 = 0) (h1 : ¬1 ≤ t.val % 8) (a : Fin 4352) (b : Fin 128) :
    (outsAt0 m c t.val t.isLt).2.2 (ix2 a b)
      = (∑ r : Fin 256, wtB m c t (lo r) a * gB m c t (ix2 (lo r) b))
        + ∑ r : Fin 256, wtB m c t (hi r) a * gB m c t (ix2 (hi r) b) := by
  rw [outsAt0_A m c t h0 h1]; frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, ds, wt, lo, hi]

/-- The keys' gradient at a later point of a head: what the point before left, and both halves' products. -/
theorem dk_next (c : Dev nD) (t : Fin cfg0.N) (h0 : ¬t.val % 8 = 0) (h1 : 1 ≤ t.val % 8) (a : Fin 4352) (b : Fin 256) :
    (outsAt0 m c t.val t.isLt).2.1 (ix2 a b)
      = (show EReal from (outsAt0 m c (t.val - 1) (by omega)).2.1 (ix2 a b)) + ((∑ r : Fin 256, dsB m c t (lo r) a * qB m c t (ix2 (lo r) b))
        + ∑ r : Fin 256, dsB m c t (hi r) a * qB m c t (ix2 (hi r) b)) := by
  rw [outsAt0_B m c t h0 h1]; frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, ds, wt, lo, hi]

/-- The values' gradient at a later point of a head: what the point before left, and both halves' products. -/
theorem dv_next (c : Dev nD) (t : Fin cfg0.N) (h0 : ¬t.val % 8 = 0) (h1 : 1 ≤ t.val % 8) (a : Fin 4352) (b : Fin 128) :
    (outsAt0 m c t.val t.isLt).2.2 (ix2 a b)
      = (show EReal from (outsAt0 m c (t.val - 1) (by omega)).2.2 (ix2 a b)) + ((∑ r : Fin 256, wtB m c t (lo r) a * gB m c t (ix2 (lo r) b))
        + ∑ r : Fin 256, wtB m c t (hi r) a * gB m c t (ix2 (hi r) b)) := by
  rw [outsAt0_B m c t h0 h1]; frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, ds, wt, lo, hi]

/-- The queries' gradient at the first point of a head. -/
theorem dq_A (c : Dev nD) (t : Fin cfg0.N) (h0 : t.val % 8 = 0) (h1 : ¬1 ≤ t.val % 8) (y : S512x256.Idx) :
    (outsAt0 m c t.val t.isLt).1 y = ∑ j : Fin 4352, dsB m c t (y 0) j * kB m c t (ix2 j (y 1)) := by
  rw [outsAt0_A m c t h0 h1]; frame_out
  clear h0 h1
  canon_tiles x h
  · have e0 : (y 0 : Fin 512) = hi (x 0) := Fin.ext (by simpa [hi] using h0)
    have e1 : (y 1 : Fin 256) = x 1 := Fin.ext (by simpa using h1)
    rw [e0, e1]
    pointwise [k0_pay1, k0_pay2, k0_pay3, k0_pay4, k0_pay9, k0_pay10, k0_pay11, k0_pay12, k0_pay13, k0_pay14, k0_pay15, k0_pay18, ds, wt, lo, hi]
  · have e0 : (y 0 : Fin 512) = lo (x 0) := Fin.ext (by simpa [lo] using h0)
    have e1 : (y 1 : Fin 256) = x 1 := Fin.ext (by simpa using h1)
    rw [e0, e1]
    pointwise [k0_pay1, k0_pay2, k0_pay3, k0_pay4, k0_pay9, k0_pay10, k0_pay11, k0_pay12, k0_pay13, k0_pay14, k0_pay15, k0_pay18, ds, wt, lo, hi]

/-- The queries' gradient at a later point of a head. -/
theorem dq_B (c : Dev nD) (t : Fin cfg0.N) (h0 : ¬t.val % 8 = 0) (h1 : 1 ≤ t.val % 8) (y : S512x256.Idx) :
    (outsAt0 m c t.val t.isLt).1 y = ∑ j : Fin 4352, dsB m c t (y 0) j * kB m c t (ix2 j (y 1)) := by
  rw [outsAt0_B m c t h0 h1]; frame_out
  clear h0 h1
  canon_tiles x h
  · have e0 : (y 0 : Fin 512) = hi (x 0) := Fin.ext (by simpa [hi] using h0)
    have e1 : (y 1 : Fin 256) = x 1 := Fin.ext (by simpa using h1)
    rw [e0, e1]
    pointwise [k0_pay1, k0_pay2, k0_pay3, k0_pay4, k0_pay9, k0_pay10, k0_pay11, k0_pay12, k0_pay13, k0_pay14, k0_pay15, k0_pay18, ds, wt, lo, hi]
  · have e0 : (y 0 : Fin 512) = lo (x 0) := Fin.ext (by simpa [lo] using h0)
    have e1 : (y 1 : Fin 256) = x 1 := Fin.ext (by simpa using h1)
    rw [e0, e1]
    pointwise [k0_pay1, k0_pay2, k0_pay3, k0_pay4, k0_pay9, k0_pay10, k0_pay11, k0_pay12, k0_pay13, k0_pay14, k0_pay15, k0_pay18, ds, wt, lo, hi]

end Cert.KernelIdeal.Value
-- ==== Proof.Terms.lean ====
/- What the call's operands hold, as terms of the program's arguments and as sums over elements: the padded queries and
   keys, the values, the forward result and the saved logarithms. -/
module

public import proofs.«01_k».proof.Proof.Step
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

section terms
variable {F : FTy → Type} [FloatOps F]
/-- The scaled queries. -/
def qsT (x0 : FVec F S4096x8x192 .f32) : FVec F S4096x8x192 .f32 :=
  mulf x0 (broadcastInDim S4096x8x192 ![] bcast_S_S4096x8x192 (constant S_ .f32 0x3D93CD3A#32))
/-- The queries' operand: scaled, padded to 256 columns a head, laid out by token. -/
def qT (x0 : FVec F S4096x8x192 .f32) : FVec F S4096x2048 .bf16 :=
  truncf .bf16 (shapeCast S4096x2048 (pad S4096x8x256 ![0, 0, 0] ![0, 0, 64] ![0, 0, 0] (qsT x0) (sitofp .f32 (constantI S_ 32 0#32))
    pads_S4096x8x192_S4096x8x256_000_000_0640 h_S_) shapeCasts_S4096x8x256_S4096x2048) bitsLt_bf16_f32
/-- The keys' operand: padded to 256 columns a head, laid out by token. -/
def kT (x1 : FVec F S4352x8x192 .f32) : FVec F S4352x2048 .bf16 :=
  truncf .bf16 (shapeCast S4352x2048 (pad S4352x8x256 ![0, 0, 0] ![0, 0, 64] ![0, 0, 0] x1 (sitofp .f32 (constantI S_ 32 0#32))
    pads_S4352x8x192_S4352x8x256_000_000_0640 h_S_) shapeCasts_S4352x8x256_S4352x2048) bitsLt_bf16_f32
/-- The scores. -/
def scT (x0 : FVec F S4096x8x192 .f32) (x1 : FVec F S4352x8x192 .f32) : FVec F S8x4096x4352 .f32 :=
  Host.dotGeneral dot_S4096x8x192_S4352x8x192_S8x4096x4352_2_2_0_0_1_1 none (qsT x0) x1
/-- Each query's largest score. -/
def mxT (x0 : FVec F S4096x8x192 .f32) (x1 : FVec F S4352x8x192 .f32) : FVec F S8x4096 .f32 :=
  Host.reduce FloatOps.maximumf (scT x0 x1) (constant S_ .f32 0xFF800000#32) reducesTo_S8x4096x4352_S8x4096_d2 h_S_
/-- The exponentials of the scores less a value for each query. -/
def exT (s : FVec F S8x4096x4352 .f32) (y : FVec F S8x4096 .f32) : FVec F S8x4096x4352 .f32 :=
  Host.exp (subf s (broadcastInDim S8x4096x4352 ![0, 1, 2] bcast_S8x4096x1_S8x4096x4352_0_1_2
    (broadcastInDim S8x4096x1 ![0, 1] bcast_S8x4096_S8x4096x1_0_1 y)))
/-- Their sums. -/
def smT (e : FVec F S8x4096x4352 .f32) : FVec F S8x4096 .f32 :=
  Host.reduceAdd e (constant S_ .f32 0#32) reducesTo_S8x4096x4352_S8x4096_d2 h_S_
/-- The saved logarithms' operand. -/
def lT (x0 : FVec F S4096x8x192 .f32) (x1 : FVec F S4352x8x192 .f32) : FVec F S4096x1024 .f32 :=
  shapeCast S4096x1024 (broadcastInDim S4096x8x128 ![0, 1, 2] bcast_S4096x8x1_S4096x8x128_0_1_2
    (broadcastInDim S4096x8x1 ![0, 1] bcast_S4096x8_S4096x8x1_0_1 (transpose S4096x8 [1, 0]
      (addf (mxT x0 x1) (Host.log (smT (exT (scT x0 x1) (mxT x0 x1))))) transposes_S8x4096_S4096x8_1_0)))
    shapeCasts_S4096x8x128_S4096x1024
/-- The largest scores as the softmax takes them. -/
def mx2T (x0 : FVec F S4096x8x192 .f32) (x1 : FVec F S4352x8x192 .f32) : FVec F S8x4096 .f32 :=
  maximumf (broadcastInDim S8x4096 ![] bcast_S_S8x4096 (constant S_ .f32 0xFF800000#32)) (mxT x0 x1)
/-- The exponentials as the softmax takes them. -/
def ex2T (x0 : FVec F S4096x8x192 .f32) (x1 : FVec F S4352x8x192 .f32) : FVec F S8x4096x4352 .f32 :=
  exT (scT x0 x1) (mx2T x0 x1)
/-- The forward result's operand. -/
def oT (x0 : FVec F S4096x8x192 .f32) (x1 : FVec F S4352x8x192 .f32) (x2 : FVec F S4352x8x128 .f32) : FVec F S4096x1024 .bf16 :=
  truncf .bf16 (shapeCast S4096x1024 (transpose S4096x8x128 [2, 0, 1] (Host.dotGeneral dot_S4352x8x128_S8x4096x4352_S8x128x4096_0_2_2_1_1_0 none x2
    (Host.divf (ex2T x0 x1) (broadcastInDim S8x4096x4352 ![0, 1, 2] bcast_S8x4096x1_S8x4096x4352_0_1_2
      (broadcastInDim S8x4096x1 ![0, 1] bcast_S8x4096_S8x4096x1_0_1 (smT (ex2T x0 x1)))))) transposes_S8x128x4096_S4096x8x128_2_0_1)
    shapeCasts_S4096x8x128_S4096x1024) bitsLt_bf16_f32
/-- The values' operand. -/
def vT (x2 : FVec F S4352x8x128 .f32) : FVec F S4352x1024 .bf16 :=
  truncf .bf16 (shapeCast S4352x1024 x2 shapeCasts_S4352x8x128_S4352x1024) bitsLt_bf16_f32
/-- The cotangent's operand. -/
def gT (x3 : FVec F S4096x8x128 .f32) : FVec F S4096x1024 .bf16 :=
  truncf .bf16 (shapeCast S4096x1024 x3 shapeCasts_S4096x8x128_S4096x1024) bitsLt_bf16_f32

end terms

/-- The scores' scale. -/
abbrev kappa : EReal := Ideal.ofBits .f32 0x3D93CD3A#32

section scalars
variable (X0 : FVec Ideal S4096x8x192 .f32) (X1 : FVec Ideal S4352x8x192 .f32) (X2 : FVec Ideal S4352x8x128 .f32)
/-- The score of query `i` and key `j` in head `h`. -/
@[irreducible] def sc (h : Fin 8) (i : Fin 4096) (j : Fin 4352) : EReal :=
  ∑ d : Fin 192, X0 (ix3 i h d) * kappa * X1 (ix3 j h d)
/-- The largest score of query `i`. -/
@[irreducible] def mx (h : Fin 8) (i : Fin 4096) : EReal := Finset.univ.fold max ⊥ fun j => sc X0 X1 h i j
/-- The exponential of a score less the largest. -/
@[irreducible] def ex (h : Fin 8) (i : Fin 4096) (j : Fin 4352) : EReal := Ideal.exp (sc X0 X1 h i j - mx X0 X1 h i)
/-- The sum of a query's exponentials. -/
@[irreducible] def sm (h : Fin 8) (i : Fin 4096) : EReal := ∑ j, ex X0 X1 h i j
/-- The forward result. -/
@[irreducible] def fo (h : Fin 8) (i : Fin 4096) (d : Fin 128) : EReal :=
  ∑ j, X2 (ix3 j h d) * Ideal.div (ex X0 X1 h i j) (sm X0 X1 h i)
end scalars

variable (m : (ℓ : Loc nD τ sig) → Buf (Elt Ideal) ℓ)

section args
variable (c : Dev nD)
/-- The queries. -/
abbrev aq : FVec Ideal S4096x8x192 .f32 := m ((c : Thread nD τ).loc main_arg0)
/-- The keys. -/
abbrev ak : FVec Ideal S4352x8x192 .f32 := m ((c : Thread nD τ).loc main_arg1)
/-- The values. -/
abbrev av : FVec Ideal S4352x8x128 .f32 := m ((c : Thread nD τ).loc main_arg2)
/-- The cotangent. -/
abbrev ag : FVec Ideal S4096x8x128 .f32 := m ((c : Thread nD τ).loc main_arg3)
end args

end Cert.KernelIdeal.Value
-- ==== Proof.Host.lean ====
/- What the call's operands hold, element by element: the padded queries and keys, the values, the forward result and
   the saved logarithms, from the program's arguments. -/
module

public import proofs.«01_k».proof.Proof.Terms
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

section terms
variable {F : FTy → Type} [FloatOps F]
variable (m : (ℓ : Loc nD τ sig) → Buf (Elt F) ℓ) (c : Dev nD)
/-- The operand of the queries, as the call finds it. -/
theorem V_q : V m c main_v4 = qT (m ((c : Thread nD τ).loc main_arg0)) := by
  unfold V; after_reads_simp; rfl
/-- The operand of the keys, as the call finds it. -/
theorem V_k : V m c main_v7 = kT (m ((c : Thread nD τ).loc main_arg1)) := by
  unfold V; after_reads_simp; rfl
/-- The operand of the values, as the call finds it. -/
theorem V_v : V m c main_v37 = vT (m ((c : Thread nD τ).loc main_arg2)) := by
  unfold V; after_reads_simp; rfl
/-- The operand of the forward result, as the call finds it. -/
theorem V_o : V m c main_v39 = oT (m ((c : Thread nD τ).loc main_arg0)) (m ((c : Thread nD τ).loc main_arg1)) (m ((c : Thread nD τ).loc main_arg2)) := by
  unfold V; after_reads_simp; rfl
/-- The operand of the saved logarithms, as the call finds it. -/
theorem V_l : V m c main_v35 = lT (m ((c : Thread nD τ).loc main_arg0)) (m ((c : Thread nD τ).loc main_arg1)) := by
  unfold V; after_reads_simp; rfl
/-- The operand of the cotangent, as the call finds it. -/
theorem V_g : V m c main_v41 = gT (m ((c : Thread nD τ).loc main_arg3)) := by
  unfold V; after_reads_simp; rfl
end terms

section reads
variable (X0 : FVec Ideal S4096x8x192 .f32) (X1 : FVec Ideal S4352x8x192 .f32) (X2 : FVec Ideal S4352x8x128 .f32) (X3 : FVec Ideal S4096x8x128 .f32)

theorem negInf : Ideal.ofBits .f32 0xFF800000#32 = ⊥ := by
  simp [Ideal.ofBits, Ideal.ieee]

theorem sitofp_zero : (FloatOps.sitofp .f32 0#32 : Ideal .f32) = 0 := by
  show (((0#32 : BitVec 32).toInt : ℝ) : EReal) = 0
  simp

/-- The queries' operand: column `b` is entry `b % 256` of head `b / 256`, zero from 192 on. -/
theorem qT_at (i : Fin 4096) (b : Fin 2048) : qT X0 (ix2 i b)
    = if hd : b.val % 256 < 192 then X0 (ix3 i ⟨b.val / 256, by omega⟩ ⟨b.val % 256, hd⟩) * kappa else 0 := by
  pointwise [qT, qsT]
  rw [sitofp_zero]
  by_cases hd : b.val % 256 < 192
  · rw [dif_pos hd, dif_pos ⟨by omega, hd⟩]
  · rw [dif_neg hd, dif_neg (fun h => hd h.2)]

/-- The keys' operand: column `b` is entry `b % 256` of head `b / 256`, zero from 192 on. -/
theorem kT_at (i : Fin 4352) (b : Fin 2048) : kT X1 (ix2 i b)
    = if hd : b.val % 256 < 192 then X1 (ix3 i ⟨b.val / 256, by omega⟩ ⟨b.val % 256, hd⟩) else 0 := by
  pointwise [kT]
  rw [sitofp_zero]
  by_cases hd : b.val % 256 < 192
  · rw [dif_pos hd, dif_pos ⟨by omega, hd⟩]
  · rw [dif_neg hd, dif_neg (fun h => hd h.2)]

theorem vT_at (i : Fin 4352) (b : Fin 1024) : vT X2 (ix2 i b) = X2 (ix3 i ⟨b.val / 128, by omega⟩ ⟨b.val % 128, by omega⟩) := by
  pointwise [vT]

theorem gT_at (i : Fin 4096) (b : Fin 1024) : gT X3 (ix2 i b) = X3 (ix3 i ⟨b.val / 128, by omega⟩ ⟨b.val % 128, by omega⟩) := by
  pointwise [gT]

theorem scT_at (h : Fin 8) (i : Fin 4096) (j : Fin 4352) : scT X0 X1 (ix3 h i j) = sc X0 X1 h i j := by
  pointwise [scT, qsT, sc]

theorem mxT_at (h : Fin 8) (i : Fin 4096) : mxT X0 X1 (ix2 h i) = mx X0 X1 h i := by
  pointwise [mxT, mx, scT_at]
  rw [negInf]

/-- The larger of minus infinity and a value is the value. -/
theorem maxBot_at (Y : FVec Ideal S8x4096 .f32) (h : Fin 8) (i : Fin 4096) :
    maximumf (broadcastInDim S8x4096 ![] bcast_S_S8x4096 (constant S_ .f32 0xFF800000#32)) Y (ix2 h i) = Y (ix2 h i) := by
  pointwise
  rw [negInf, max_eq_right bot_le]

theorem mx2T_at (h : Fin 8) (i : Fin 4096) : mx2T X0 X1 (ix2 h i) = mx X0 X1 h i :=
  (maxBot_at _ h i).trans (mxT_at X0 X1 h i)

theorem ex2T_at (h : Fin 8) (i : Fin 4096) (j : Fin 4352) : ex2T X0 X1 (ix3 h i j) = ex X0 X1 h i j := by
  pointwise [ex2T, exT, ex, scT_at, mx2T_at]

theorem smT_at (h : Fin 8) (i : Fin 4096) : smT (exT (scT X0 X1) (mxT X0 X1)) (ix2 h i) = sm X0 X1 h i := by
  pointwise [smT, exT, sm, ex, scT_at]
  simp only [mxT_at]

/-- The layout of a value for each head and query, repeated over a head's 128 columns. -/
theorem lay_at (Y Z : FVec Ideal S8x4096 .f32) (i : Fin 4096) (b : Fin 1024) :
    shapeCast S4096x1024 (broadcastInDim S4096x8x128 ![0, 1, 2] bcast_S4096x8x1_S4096x8x128_0_1_2
      (broadcastInDim S4096x8x1 ![0, 1] bcast_S4096x8_S4096x8x1_0_1 (transpose S4096x8 [1, 0]
        (addf Y (Host.log Z)) transposes_S8x4096_S4096x8_1_0))) shapeCasts_S4096x8x128_S4096x1024 (ix2 i b)
      = Y (ix2 ⟨b.val / 128, by omega⟩ i) + Ideal.log (Z (ix2 ⟨b.val / 128, by omega⟩ i)) := by
  pointwise

theorem lT_at (i : Fin 4096) (b : Fin 1024) : lT X0 X1 (ix2 i b)
    = mx X0 X1 ⟨b.val / 128, by omega⟩ i + Ideal.log (sm X0 X1 ⟨b.val / 128, by omega⟩ i) :=
  (lay_at _ _ i b).trans (by rw [smT_at, mxT_at])

theorem oT_at (i : Fin 4096) (b : Fin 1024) : oT X0 X1 X2 (ix2 i b)
    = fo X0 X1 X2 ⟨b.val / 128, by omega⟩ i ⟨b.val % 128, by omega⟩ := by
  pointwise [oT, fo, sm, smT, ex2T_at]

end reads

end Cert.KernelIdeal.Value
-- ==== Proof.Ref.lean ====
/- The reference's three results, element by element. -/
module

public import proofs.«01_k».proof.Proof.Host
public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem

namespace Cert.ReferenceIdeal.Read

open Cert.ReferenceIdeal Cert.ReferenceIdeal.Gen
open Cert.KernelIdeal.Value (kappa sc mx ex sm fo negInf sitofp_zero)

variable (X0 : FVec Ideal S4096x8x192 .f32) (X1 : FVec Ideal S4352x8x192 .f32) (X2 : FVec Ideal S4352x8x128 .f32)
  (X3 : FVec Ideal S4096x8x128 .f32)

/-- The gradient of the weight of query `i` on key `j`. -/
@[irreducible] def dp (h : Fin 8) (i : Fin 4096) (j : Fin 4352) : EReal := ∑ d : Fin 128, X3 (ix3 i h d) * X2 (ix3 j h d)

/-- The gradient of the score of query `i` and key `j`, as the derivative of the softmax gives it. -/
@[irreducible] def dsr (h : Fin 8) (i : Fin 4096) (j : Fin 4352) : EReal :=
  (Ideal.div (dp X2 X3 h i j) (sm X0 X1 h i)
    + -(∑ k : Fin 4352, dp X2 X3 h i k * Ideal.div 1 (sm X0 X1 h i * sm X0 X1 h i) * ex X0 X1 h i k)) * ex X0 X1 h i j

theorem v2_at (h : Fin 8) (i : Fin 4096) (j : Fin 4352) : val_main_v2 (F := Ideal) X0 X1 (ix3 h i j) = sc X0 X1 h i j := by
  pointwise [val_main_v2, val_main_v1, val_main_v0, val_main_cst, sc]

theorem v8_at (h : Fin 8) (i : Fin 4096) : val_main_v3 (F := Ideal) X0 X1 (ix2 h i) = mx X0 X1 h i := by
  pointwise [val_main_v3, val_main_cst_0, mx, v2_at]
  rw [negInf]

theorem maxBot_at (Y : FVec Ideal S8x4096 .f32) (h : Fin 8) (i : Fin 4096) :
    maximumf (val_main_v9 (F := Ideal)) Y (ix2 h i) = Y (ix2 h i) := by
  pointwise [val_main_v9, val_main_cst_2]
  rw [negInf, max_eq_right bot_le]

theorem v10_at (h : Fin 8) (i : Fin 4096) : val_main_v10 (F := Ideal) X0 X1 (ix2 h i) = mx X0 X1 h i :=
  (maxBot_at _ h i).trans (v8_at X0 X1 h i)

theorem v23_at (h : Fin 8) (i : Fin 4096) (j : Fin 4352) : val_main_v23 (F := Ideal) X0 X1 (ix3 h i j) = ex X0 X1 h i j := by
  pointwise [val_main_v23, val_main_v22, val_main_v21, val_main_v20, ex, v2_at, v10_at]

theorem v24_at (h : Fin 8) (i : Fin 4096) : val_main_v24 (F := Ideal) X0 X1 (ix2 h i) = sm X0 X1 h i := by
  pointwise [val_main_v24, val_main_cst_8, sm, v23_at]

theorem v34_at (h : Fin 8) (i : Fin 4096) (j : Fin 4352) : val_main_v34 (F := Ideal) X2 X3 (ix3 h i j) = dp X2 X3 h i j := by
  pointwise [val_main_v34, val_main_v33, dp]

theorem v48_at (h : Fin 8) (i : Fin 4096) (j : Fin 4352) : val_main_v48 (F := Ideal) X0 X1 X2 X3 (ix3 h i j) = dsr X0 X1 X2 X3 h i j := by
  pointwise [val_main_v48, val_main_v47, val_main_v46, val_main_v45, val_main_v44, val_main_v43, val_main_v42, val_main_v41, val_main_v40,
    val_main_v39, val_main_v38, val_main_v37, val_main_v30, val_main_v29, val_main_v28, val_main_v25, val_main_cst_9, val_main_cst_10, val_main_cst_11,
    dsr, v23_at, v24_at, v34_at]
  rw [Fin.sum_univ_one]

/-- The queries' gradient padded to 256 columns a head and laid out by token. -/
theorem padq_at (Z : FVec Ideal S4096x8x192 .f32) (i : Fin 4096) (b : Fin 2048) :
    shapeCast S4096x2048 (pad S4096x8x256 ![0, 0, 0] ![0, 0, 64] ![0, 0, 0] Z (sitofp .f32 (constantI S_ 32 0#32))
      pads_S4096x8x192_S4096x8x256_000_000_0640 h_S_) shapeCasts_S4096x8x256_S4096x2048 (ix2 i b)
      = if hd : b.val % 256 < 192 then Z (ix3 i ⟨b.val / 256, by omega⟩ ⟨b.val % 256, hd⟩) else 0 := by
  pointwise
  rw [sitofp_zero]
  by_cases hd : b.val % 256 < 192
  · rw [dif_pos hd, dif_pos ⟨by omega, hd⟩]
  · rw [dif_neg hd, dif_neg (fun h => hd h.2)]

/-- The keys' gradient padded to 256 columns a head and laid out by token. -/
theorem padk_at (Z : FVec Ideal S4352x8x192 .f32) (i : Fin 4352) (b : Fin 2048) :
    shapeCast S4352x2048 (pad S4352x8x256 ![0, 0, 0] ![0, 0, 64] ![0, 0, 0] Z (sitofp .f32 (constantI S_ 32 0#32))
      pads_S4352x8x192_S4352x8x256_000_000_0640 h_S_) shapeCasts_S4352x8x256_S4352x2048 (ix2 i b)
      = if hd : b.val % 256 < 192 then Z (ix3 i ⟨b.val / 256, by omega⟩ ⟨b.val % 256, hd⟩) else 0 := by
  pointwise
  rw [sitofp_zero]
  by_cases hd : b.val % 256 < 192
  · rw [dif_pos hd, dif_pos ⟨by omega, hd⟩]
  · rw [dif_neg hd, dif_neg (fun h => hd h.2)]

theorem v52_at (i : Fin 4096) (h : Fin 8) (d : Fin 192) : val_main_v52 (F := Ideal) X0 X1 X2 X3 (ix3 i h d)
    = ∑ j : Fin 4352, dsr X0 X1 X2 X3 h i j * X1 (ix3 j h d) := by
  pointwise [val_main_v52, val_main_v51, v48_at]

theorem v50_at (j : Fin 4352) (h : Fin 8) (d : Fin 192) : val_main_v50 (F := Ideal) X0 X1 X2 X3 (ix3 j h d)
    = ∑ i : Fin 4096, dsr X0 X1 X2 X3 h i j * (X0 (ix3 i h d) * kappa) := by
  pointwise [val_main_v50, val_main_v49, val_main_v1, val_main_v0, val_main_cst, v48_at]

/-- The queries' gradient: column `b` is entry `b % 256` of head `b / 256`, zero from 192 on. -/
theorem v54_at (i : Fin 4096) (b : Fin 2048) : val_main_v54 (F := Ideal) X0 X1 X2 X3 (ix2 i b)
    = if hd : b.val % 256 < 192 then ∑ j : Fin 4352, dsr X0 X1 X2 X3 ⟨b.val / 256, by omega⟩ i j
        * X1 (ix3 j ⟨b.val / 256, by omega⟩ ⟨b.val % 256, hd⟩) else 0 := by
  refine (padq_at (val_main_v52 (F := Ideal) X0 X1 X2 X3) i b).trans ?_
  simp only [v52_at]

/-- The keys' gradient: column `b` is entry `b % 256` of head `b / 256`, zero from 192 on. -/
theorem v56_at (j : Fin 4352) (b : Fin 2048) : val_main_v56 (F := Ideal) X0 X1 X2 X3 (ix2 j b)
    = if hd : b.val % 256 < 192 then ∑ i : Fin 4096, dsr X0 X1 X2 X3 ⟨b.val / 256, by omega⟩ i j
        * (X0 (ix3 i ⟨b.val / 256, by omega⟩ ⟨b.val % 256, hd⟩) * kappa) else 0 := by
  refine (padk_at (val_main_v50 (F := Ideal) X0 X1 X2 X3) j b).trans ?_
  simp only [v50_at]

/-- The values' gradient: column `b` is entry `b % 128` of head `b / 128`. -/
theorem v57_at (j : Fin 4352) (b : Fin 1024) : val_main_v57 (F := Ideal) X0 X1 X3 (ix2 j b)
    = ∑ i : Fin 4096, X3 (ix3 i ⟨b.val / 128, by omega⟩ ⟨b.val % 128, by omega⟩)
        * Ideal.div (ex X0 X1 ⟨b.val / 128, by omega⟩ i j) (sm X0 X1 ⟨b.val / 128, by omega⟩ i) := by
  pointwise [val_main_v57, val_main_v36, val_main_v35, val_main_v33, val_main_v27, val_main_v26, val_main_v25, v23_at, v24_at]

end Cert.ReferenceIdeal.Read
-- ==== Proof.Core.lean ====
/- The mathematics of the softmax's derivative over the real numbers: the exponential of a score less the saved
   logarithm is the softmax's weight, and the two forms of the scores' gradient agree. -/
module

public import proofs.«01_k».proof.Proof.Ref

@[expose] public section

set_option maxRecDepth 16384

noncomputable section

open Idealize.ShloMosaic Idealize.ShloMosaic.TcCoe Idealize.SL.Sem

namespace Cert.Core

open Cert.KernelIdeal
open Cert.KernelIdeal.Value (kappa sc mx ex sm fo negInf sitofp_zero)
open Cert.ReferenceIdeal.Read (dp dsr)

/-- A sum of real numbers, taken in the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The largest of finitely many real numbers, starting from minus infinity, is a real number. -/
theorem fold_max_real {n : Nat} [NeZero n] (f : Fin n → ℝ) :
    ∃ M : ℝ, Finset.univ.fold max (⊥ : EReal) (fun j => ((f j : ℝ) : EReal)) = ((M : ℝ) : EReal) := by
  have h : ∃ j ∈ (Finset.univ : Finset (Fin n)), Finset.univ.sup (fun j => ((f j : ℝ) : EReal)) = ((f j : ℝ) : EReal) :=
    Finset.exists_mem_eq_sup _ ⟨0, Finset.mem_univ _⟩ _
  obtain ⟨j, _, hj⟩ := h
  exact ⟨f j, hj⟩

/-- The scale is a real number. -/
theorem kappa_real : ∃ r : ℝ, kappa = ((r : ℝ) : EReal) := by
  refine ⟨9686330 / 134217728, ?_⟩
  simp [Ideal.ofBits, Ideal.ieee, -EReal.coe_mul]
  norm_num

/-- Division of a real number by a real number that is not zero. -/
theorem div_real (x y : ℝ) (h : y ≠ 0) : Ideal.div ((x : ℝ) : EReal) ((y : ℝ) : EReal) = ((x / y : ℝ) : EReal) := by
  rw [Ideal.div_coe h, ← EReal.coe_mul]
  congr 1
  ring

theorem div_one_real (y : ℝ) (h : y ≠ 0) : Ideal.div 1 ((y : ℝ) : EReal) = ((1 / y : ℝ) : EReal) :=
  div_real 1 y h

/-- The identity over the reals: the two forms of the score's gradient. -/
theorem grad_eq {n d : Nat} (e : Fin n → ℝ) (G : Fin d → ℝ) (W : Fin n → Fin d → ℝ) (L : ℝ) (hL : L ≠ 0) (j : Fin n) :
    e j / L * ((∑ a, G a * W j a) - ∑ a, G a * ∑ k, W k a * (e k / L))
      = ((∑ a, G a * W j a) / L + -(∑ k, (∑ a, G a * W k a) * (1 / (L * L)) * e k)) * e j := by
  have h1 : ∑ a, G a * ∑ k, W k a * (e k / L) = L * ∑ k, (∑ a, G a * W k a) * (1 / (L * L)) * e k := by
    rw [Finset.mul_sum]
    simp only [Finset.mul_sum, Finset.sum_mul]
    rw [Finset.sum_comm]
    refine Finset.sum_congr rfl fun k _ => Finset.sum_congr rfl fun a _ => ?_
    field_simp
  rw [h1]
  generalize (∑ k, (∑ a, G a * W k a) * (1 / (L * L)) * e k) = Y
  field_simp
  ring

variable (X0 : FVec Ideal S4096x8x192 .f32) (X1 : FVec Ideal S4352x8x192 .f32) (X2 : FVec Ideal S4352x8x128 .f32)
  (X3 : FVec Ideal S4096x8x128 .f32)

/-- The scores of real queries and keys are real numbers. -/
theorem sc_real (h0 : ∀ y, ∃ r : ℝ, X0 y = ((r : ℝ) : EReal)) (h1 : ∀ y, ∃ r : ℝ, X1 y = ((r : ℝ) : EReal))
    (h : Fin 8) (i : Fin 4096) (j : Fin 4352) : ∃ r : ℝ, sc X0 X1 h i j = ((r : ℝ) : EReal) := by
  choose f0 e0 using h0
  choose f1 e1 using h1
  obtain ⟨κ, hκ⟩ := kappa_real
  unfold sc
  simp only [e0, e1, hκ, ← EReal.coe_mul]
  exact ⟨_, coe_sum _ _⟩

/-- The scores of a query, their largest, the exponentials and their sum are real numbers. -/
theorem row_real (h0 : ∀ y, ∃ r : ℝ, X0 y = ((r : ℝ) : EReal)) (h1 : ∀ y, ∃ r : ℝ, X1 y = ((r : ℝ) : EReal))
    (h : Fin 8) (i : Fin 4096) : ∃ (s : Fin 4352 → ℝ) (M : ℝ), (∀ j, sc X0 X1 h i j = ((s j : ℝ) : EReal))
      ∧ mx X0 X1 h i = ((M : ℝ) : EReal) ∧ (∀ j, ex X0 X1 h i j = ((Real.exp (s j - M) : ℝ) : EReal))
      ∧ sm X0 X1 h i = ((∑ j, Real.exp (s j - M) : ℝ) : EReal) ∧ 0 < ∑ j, Real.exp (s j - M) := by
  choose s hs using sc_real X0 X1 h0 h1 h i
  obtain ⟨M, hM⟩ := fold_max_real s
  have hm : mx X0 X1 h i = ((M : ℝ) : EReal) := by
    unfold mx
    simp only [hs]
    exact hM
  have he : ∀ j, ex X0 X1 h i j = ((Real.exp (s j - M) : ℝ) : EReal) := by
    intro j
    unfold ex
    rw [hs, hm, ← EReal.coe_sub, Ideal.exp_coe]
  have hl : sm X0 X1 h i = ((∑ j, Real.exp (s j - M) : ℝ) : EReal) := by
    unfold sm
    simp only [he]
    exact coe_sum _ _
  exact ⟨s, M, hs, hm, he, hl, Finset.sum_pos (fun j _ => Real.exp_pos _) ⟨0, Finset.mem_univ _⟩⟩

/-- The exponential of a score less the saved logarithm is the softmax's weight. -/
theorem weight_eq (h0 : ∀ y, ∃ r : ℝ, X0 y = ((r : ℝ) : EReal)) (h1 : ∀ y, ∃ r : ℝ, X1 y = ((r : ℝ) : EReal))
    (h : Fin 8) (i : Fin 4096) (j : Fin 4352) :
    Ideal.exp (sc X0 X1 h i j - (mx X0 X1 h i + Ideal.log (sm X0 X1 h i))) = Ideal.div (ex X0 X1 h i j) (sm X0 X1 h i) := by
  obtain ⟨s, M, hs, hm, he, hl, hp⟩ := row_real X0 X1 h0 h1 h i
  rw [hs, hm, he, hl, div_real _ _ hp.ne', Ideal.log_coe, if_neg (not_le.mpr hp), ← EReal.coe_add, ← EReal.coe_sub, Ideal.exp_coe]
  congr 1
  rw [← sub_sub, Real.exp_sub, Real.exp_log hp]

/-- The scores' gradient through the forward result is the one the softmax's derivative gives. -/
theorem grad_at (h0 : ∀ y, ∃ r : ℝ, X0 y = ((r : ℝ) : EReal)) (h1 : ∀ y, ∃ r : ℝ, X1 y = ((r : ℝ) : EReal))
    (h2 : ∀ y, ∃ r : ℝ, X2 y = ((r : ℝ) : EReal)) (h3 : ∀ y, ∃ r : ℝ, X3 y = ((r : ℝ) : EReal))
    (h : Fin 8) (i : Fin 4096) (j : Fin 4352) :
    Ideal.div (ex X0 X1 h i j) (sm X0 X1 h i) * ((∑ d : Fin 128, X3 (ix3 i h d) * X2 (ix3 j h d))
        - ∑ d : Fin 128, X3 (ix3 i h d) * fo X0 X1 X2 h i d) = dsr X0 X1 X2 X3 h i j := by
  obtain ⟨s, M, hs, hm, he, hl, hp⟩ := row_real X0 X1 h0 h1 h i
  choose f2 e2 using h2
  choose f3 e3 using h3
  have hL := hp.ne'
  unfold dsr dp fo
  simp only [he, hl, e2, e3, div_real _ _ hL, ← EReal.coe_mul, coe_sum, ← EReal.coe_sub, div_one_real _ (mul_ne_zero hL hL),
    ← EReal.coe_neg, ← EReal.coe_add]
  exact congrArg _ (grad_eq (fun j => Real.exp (s j - M)) (fun a => f3 (ix3 i h a)) (fun k a => f2 (ix3 k h a)) _ hL j)

/-- A product over padded columns is the product over the columns that hold something. -/
theorem sum_pad (f g : Fin 192 → EReal) : (∑ d : Fin 256, (if h : d.val < 192 then f ⟨d.val, h⟩ else 0)
    * (if h : d.val < 192 then g ⟨d.val, h⟩ else 0)) = ∑ d : Fin 192, f d * g d := by
  rw [Fin.sum_univ_add (a := 192) (b := 64) (fun d : Fin (192 + 64) => (if h : d.val < 192 then f ⟨d.val, h⟩ else 0)
    * (if h : d.val < 192 then g ⟨d.val, h⟩ else 0))]
  have z : (∑ i : Fin 64, (if h : (Fin.natAdd 192 i).val < 192 then f ⟨(Fin.natAdd 192 i).val, h⟩ else 0)
    * (if h : (Fin.natAdd 192 i).val < 192 then g ⟨(Fin.natAdd 192 i).val, h⟩ else 0)) = 0 :=
    Finset.sum_eq_zero fun i _ => by
      rw [dif_neg (by show ¬ 192 + i.val < 192; omega), dif_neg (by show ¬ 192 + i.val < 192; omega), zero_mul]
  rw [z, add_zero]
  refine Finset.sum_congr rfl fun d _ => ?_
  rw [dif_pos (show (Fin.castAdd 64 d).val < 192 from d.isLt), dif_pos (show (Fin.castAdd 64 d).val < 192 from d.isLt)]
  rfl

end Cert.Core
-- ==== Proof.Blocks.lean ====
/- What the call's operands hold, element by element: the padded queries and keys, the values, the forward result and
   the saved logarithms, from the program's arguments. -/
module

public import proofs.«01_k».proof.Proof.Host
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

/-! ## The blocks of a point -/

theorem idx : ∀ t : Fin cfg0.N, win0_0.index t = ![t.val % 8, t.val / 8] ∧ win0_1.index t = ![0, t.val / 8]
    ∧ win0_2.index t = ![0, t.val / 8] ∧ win0_3.index t = ![t.val % 8, t.val / 8] ∧ win0_4.index t = ![t.val % 8, t.val / 8]
    ∧ win0_5.index t = ![t.val % 8, t.val / 8] ∧ win0_6.index t = ![t.val % 8, t.val / 8] ∧ win0_7.index t = ![0, t.val / 8]
    ∧ win0_8.index t = ![0, t.val / 8] ∧ t.val / 8 < 8 :=
  (by decide +kernel : ∀ t : Fin grid0.N, _)

/-- The head of a point. -/
def hd (t : Fin cfg0.N) : Fin 8 := ⟨t.val / 8, (idx t).2.2.2.2.2.2.2.2.2⟩
/-- The array's row of a point's row. -/
def row (t : Fin cfg0.N) (r : Fin 512) : Fin 4096 := ⟨t.val % 8 * 512 + r.val, by omega⟩

variable (m : (ℓ : Loc nD τ sig) → Buf (Elt Ideal) ℓ) (c : Dev nD) (t : Fin cfg0.N)

theorem qB_at (r : Fin 512) (d : Fin 256) : qB m c t (ix2 r d) = if h : d.val < 192 then aq m c (ix3 (row t r) (hd t) ⟨d.val, h⟩) * kappa else 0 := by
  have ht : t.val / 8 < 8 := (hd t).isLt
  have key : ∀ Z : FVec Ideal S4096x2048 .bf16, ((cfg0.win 0).blk t).view.read (Elt Ideal) Z (ix2 r d)
      = Z (ix2 (row t r) ⟨t.val / 8 * 256 + d.val, by omega⟩) := by
    intro Z
    simp only [row]
    blk_ext [idx t]
  have e1 : (t.val / 8 * 256 + d.val) / 256 = t.val / 8 := by omega
  have e2 : (t.val / 8 * 256 + d.val) % 256 = d.val := by omega
  refine (key (V m c main_v4)).trans ?_
  rw [V_q, qT_at]
  simp only [e1, e2]
  rfl

theorem kB_at (r : Fin 4352) (d : Fin 256) : kB m c t (ix2 r d) = if h : d.val < 192 then ak m c (ix3 r (hd t) ⟨d.val, h⟩) else 0 := by
  have ht : t.val / 8 < 8 := (hd t).isLt
  have key : ∀ Z : FVec Ideal S4352x2048 .bf16, ((cfg0.win 1).blk t).view.read (Elt Ideal) Z (ix2 r d)
      = Z (ix2 r ⟨t.val / 8 * 256 + d.val, by omega⟩) := by
    intro Z
    blk_ext [idx t]
  have e1 : (t.val / 8 * 256 + d.val) / 256 = t.val / 8 := by omega
  have e2 : (t.val / 8 * 256 + d.val) % 256 = d.val := by omega
  refine (key (V m c main_v7)).trans ?_
  rw [V_k, kT_at]
  simp only [e1, e2]
  rfl

theorem vB_at (r : Fin 4352) (d : Fin 128) : vB m c t (ix2 r d) = av m c (ix3 r (hd t) d) := by
  have ht : t.val / 8 < 8 := (hd t).isLt
  have key : ∀ Z : FVec Ideal S4352x1024 .bf16, ((cfg0.win 2).blk t).view.read (Elt Ideal) Z (ix2 r d)
      = Z (ix2 r ⟨t.val / 8 * 128 + d.val, by omega⟩) := by
    intro Z
    blk_ext [idx t]
  have e1 : (t.val / 8 * 128 + d.val) / 128 = t.val / 8 := by omega
  have e2 : (t.val / 8 * 128 + d.val) % 128 = d.val := by omega
  refine (key (V m c main_v37)).trans ?_
  rw [V_v, vT_at]
  simp only [e1, e2]
  rfl

theorem oB_at (r : Fin 512) (d : Fin 128) : oB m c t (ix2 r d) = fo (aq m c) (ak m c) (av m c) (hd t) (row t r) d := by
  have ht : t.val / 8 < 8 := (hd t).isLt
  have key : ∀ Z : FVec Ideal S4096x1024 .bf16, ((cfg0.win 3).blk t).view.read (Elt Ideal) Z (ix2 r d)
      = Z (ix2 (row t r) ⟨t.val / 8 * 128 + d.val, by omega⟩) := by
    intro Z
    simp only [row]
    blk_ext [idx t]
  have e1 : (t.val / 8 * 128 + d.val) / 128 = t.val / 8 := by omega
  have e2 : (t.val / 8 * 128 + d.val) % 128 = d.val := by omega
  refine (key (V m c main_v39)).trans ?_
  rw [V_o, oT_at]
  simp only [e1, e2]
  rfl

theorem lB_at (r : Fin 512) (d : Fin 128) : lB m c t (ix2 r d) = mx (aq m c) (ak m c) (hd t) (row t r) + Ideal.log (sm (aq m c) (ak m c) (hd t) (row t r)) := by
  have ht : t.val / 8 < 8 := (hd t).isLt
  have key : ∀ Z : FVec Ideal S4096x1024 .f32, ((cfg0.win 4).blk t).view.read (Elt Ideal) Z (ix2 r d)
      = Z (ix2 (row t r) ⟨t.val / 8 * 128 + d.val, by omega⟩) := by
    intro Z
    simp only [row]
    blk_ext [idx t]
  have e1 : (t.val / 8 * 128 + d.val) / 128 = t.val / 8 := by omega
  have e2 : (t.val / 8 * 128 + d.val) % 128 = d.val := by omega
  refine (key (V m c main_v35)).trans ?_
  rw [V_l, lT_at]
  simp only [e1, e2]
  rfl

theorem gB_at (r : Fin 512) (d : Fin 128) : gB m c t (ix2 r d) = ag m c (ix3 (row t r) (hd t) d) := by
  have ht : t.val / 8 < 8 := (hd t).isLt
  have key : ∀ Z : FVec Ideal S4096x1024 .bf16, ((cfg0.win 5).blk t).view.read (Elt Ideal) Z (ix2 r d)
      = Z (ix2 (row t r) ⟨t.val / 8 * 128 + d.val, by omega⟩) := by
    intro Z
    simp only [row]
    blk_ext [idx t]
  have e1 : (t.val / 8 * 128 + d.val) / 128 = t.val / 8 := by omega
  have e2 : (t.val / 8 * 128 + d.val) % 128 = d.val := by omega
  refine (key (V m c main_v41)).trans ?_
  rw [V_g, gT_at]
  simp only [e1, e2]
  rfl

end Cert.KernelIdeal.Value
-- ==== Proof.Final.lean ====
/- The three results of the call are the reference's gradients of the queries, the keys and the values. -/
module

public import proofs.«01_k».proof.Proof.Core
public import proofs.«01_k».proof.Proof.Blocks

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Core
open Cert.ReferenceIdeal.Read (dp dsr v54_at v56_at v57_at)

variable (m : (ℓ : Loc nD τ sig) → Buf (Elt Ideal) ℓ) (c : Dev nD)

/-- The arguments are real numbers. -/
def Real4 : Prop := (∀ y, ∃ r : ℝ, aq m c y = ((r : ℝ) : EReal)) ∧ (∀ y, ∃ r : ℝ, ak m c y = ((r : ℝ) : EReal))
    ∧ (∀ y, ∃ r : ℝ, av m c y = ((r : ℝ) : EReal)) ∧ (∀ y, ∃ r : ℝ, ag m c y = ((r : ℝ) : EReal))

variable (t : Fin cfg0.N)

theorem wtB_at (H : Real4 m c) (r : Fin 512) (j : Fin 4352) : wtB m c t r j
    = Ideal.div (ex (aq m c) (ak m c) (hd t) (row t r) j) (sm (aq m c) (ak m c) (hd t) (row t r)) := by
  unfold wtB wt
  rw [← weight_eq _ _ H.1 H.2.1, lB_at]
  simp only [qB_at, kB_at]
  rw [sum_pad (fun d => aq m c (ix3 (row t r) (hd t) d) * kappa) (fun d => ak m c (ix3 j (hd t) d))]
  unfold sc
  rfl

theorem dsB_at (H : Real4 m c) (r : Fin 512) (j : Fin 4352) : dsB m c t r j
    = dsr (aq m c) (ak m c) (av m c) (ag m c) (hd t) (row t r) j := by
  rw [← grad_at _ _ _ _ H.1 H.2.1 H.2.2.1 H.2.2.2, ← wtB_at m c t H r j]
  unfold dsB ds
  simp only [gB_at, vB_at, oB_at]

theorem dq_at (H : Real4 m c) (y : S512x256.Idx) : (outsAt0 m c t.val t.isLt).1 y
    = ∑ j : Fin 4352, dsr (aq m c) (ak m c) (av m c) (ag m c) (hd t) (row t (y 0)) j
        * (if h : (y 1).val < 192 then ak m c (ix3 j (hd t) ⟨(y 1).val, h⟩) else 0) := by
  by_cases h0 : t.val % 8 = 0
  · refine (dq_A m c t h0 (by omega) y).trans (Finset.sum_congr rfl fun j _ => ?_)
    exact congrArg₂ (· * ·) (dsB_at m c t H (y 0) j) (kB_at m c t j (y 1))
  · refine (dq_B m c t h0 (by omega) y).trans (Finset.sum_congr rfl fun j _ => ?_)
    exact congrArg₂ (· * ·) (dsB_at m c t H (y 0) j) (kB_at m c t j (y 1))

theorem final6 (H : Real4 m c) : (dats m 0 c).arrAt 6 cfg0.N
    = Cert.ReferenceIdeal.Read.val_main_v54 (F := Ideal) (aq m c) (ak m c) (av m c) (ag m c) :=
  (dats m 0 c).arrAt_eq_of_covers 6 _ (by decide +kernel) fun t hf y => by
    blk_simp
    rw [after0_6]
    have ht : t.val / 8 < 8 := (hd t).isLt
    have hy0 : (y 0).val < 512 := (y 0).isLt
    have hy1 : (y 1).val < 256 := (y 1).isLt
    have e : (win0_6.blk t).view.emb y = ix2 (row t (y 0)) ⟨t.val / 8 * 256 + (y 1).val, by omega⟩ := by
      simp only [row]
      blk_ext [idx t]
    rw [e]
    refine (dq_at m c t H y).trans ?_
    rw [v54_at]
    have e1 : (t.val / 8 * 256 + (y 1).val) / 256 = t.val / 8 := by omega
    have e2 : (t.val / 8 * 256 + (y 1).val) % 256 = (y 1).val := by omega
    simp only [e1, e2]
    by_cases h : (y 1).val < 192
    · simp only [dif_pos h]
      rfl
    · simp only [dif_neg h, mul_zero, Finset.sum_const_zero]

/-- What a point adds to the keys' gradient of its head: the sum over its 512 queries. -/
theorem dk_step (H : Real4 m c) (a : Fin 4352) (b : Fin 256) :
    (∑ r : Fin 256, dsB m c t (lo r) a * qB m c t (ix2 (lo r) b)) + ∑ r : Fin 256, dsB m c t (hi r) a * qB m c t (ix2 (hi r) b)
      = ∑ r : Fin 512, dsr (aq m c) (ak m c) (av m c) (ag m c) (hd t) (row t r) a
          * (if h : b.val < 192 then aq m c (ix3 (row t r) (hd t) ⟨b.val, h⟩) * kappa else 0) := by
  rw [Fin.sum_univ_two_halves 256 256 rfl]
  simp only [dsB_at m c t H, qB_at]
  rfl

/-- What a point adds to the values' gradient of its head: the sum over its 512 queries. -/
theorem dv_step (H : Real4 m c) (a : Fin 4352) (b : Fin 128) :
    (∑ r : Fin 256, wtB m c t (lo r) a * gB m c t (ix2 (lo r) b)) + ∑ r : Fin 256, wtB m c t (hi r) a * gB m c t (ix2 (hi r) b)
      = ∑ r : Fin 512, Ideal.div (ex (aq m c) (ak m c) (hd t) (row t r) a) (sm (aq m c) (ak m c) (hd t) (row t r))
          * ag m c (ix3 (row t r) (hd t) b) := by
  rw [Fin.sum_univ_two_halves 256 256 rfl]
  simp only [wtB_at m c t H, gB_at]
  rfl

theorem dk_sum (H : Real4 m c) (ht : t.val % 8 = 8 - 1) (a : Fin 4352) (b : Fin 256) : (show EReal from (outsAt0 m c t.val t.isLt).2.1 (ix2 a b))
    = ∑ i : Fin 4096, dsr (aq m c) (ak m c) (av m c) (ag m c) (hd t) i a * (if h : b.val < 192 then aq m c (ix3 i (hd t) ⟨b.val, h⟩) * kappa else 0) := by
  rw [Pipeline.eq_sum_fin_of_reset_step_apply_of_flush (fun n h => (outsAt0 m c n h).2.1) 8 (fun _ => (0 : EReal))
    (fun t j => ∑ r : Fin 512, dsr (aq m c) (ak m c) (av m c) (ag m c) (hd t) (row t r) (j 0) * (if h : (j 1).val < 192 then aq m c (ix3 (row t r) (hd t) ⟨(j 1).val, h⟩) * kappa else 0))
    (fun t h j => by
      obtain ⟨a, b, rfl⟩ : ∃ (a : Fin 4352) (b : Fin 256), j = ix2 a b := ⟨j 0, j 1, by funext k; fin_cases k <;> rfl⟩
      exact (dk_first m c t h (by omega) a b).trans ((dk_step m c t H a b).trans (zero_add _).symm))
    (fun t h j => by
      obtain ⟨a, b, rfl⟩ : ∃ (a : Fin 4352) (b : Fin 256), j = ix2 a b := ⟨j 0, j 1, by funext k; fin_cases k <;> rfl⟩
      exact (dk_next m c t h (by omega) a b).trans (congrArg (_ + ·) (dk_step m c t H a b)))
    t ht (ix2 a b)]
  show (0 : EReal) + _ = _
  rw [zero_add]
  refine Fin.sum_mul_add_congr (n := 512) (fun s r hl => ?_)
  have eh : hd ⟨8 * (t.val / 8) + s.val, Pipeline.run_point_lt_of_flush t ht s⟩ = hd t := by
    apply Fin.ext; simp only [hd]; omega
  have er : row ⟨8 * (t.val / 8) + s.val, Pipeline.run_point_lt_of_flush t ht s⟩ r = ⟨s.val * 512 + r.val, hl⟩ := by
    apply Fin.ext; simp only [row]; omega
  rw [eh, er]
  rfl

theorem dv_sum (H : Real4 m c) (ht : t.val % 8 = 8 - 1) (a : Fin 4352) (b : Fin 128) : (show EReal from (outsAt0 m c t.val t.isLt).2.2 (ix2 a b))
    = ∑ i : Fin 4096, Ideal.div (ex (aq m c) (ak m c) (hd t) i a) (sm (aq m c) (ak m c) (hd t) i) * ag m c (ix3 i (hd t) b) := by
  rw [Pipeline.eq_sum_fin_of_reset_step_apply_of_flush (fun n h => (outsAt0 m c n h).2.2) 8 (fun _ => (0 : EReal))
    (fun t j => ∑ r : Fin 512, Ideal.div (ex (aq m c) (ak m c) (hd t) (row t r) (j 0)) (sm (aq m c) (ak m c) (hd t) (row t r)) * ag m c (ix3 (row t r) (hd t) (j 1)))
    (fun t h j => by
      obtain ⟨a, b, rfl⟩ : ∃ (a : Fin 4352) (b : Fin 128), j = ix2 a b := ⟨j 0, j 1, by funext k; fin_cases k <;> rfl⟩
      exact (dv_first m c t h (by omega) a b).trans ((dv_step m c t H a b).trans (zero_add _).symm))
    (fun t h j => by
      obtain ⟨a, b, rfl⟩ : ∃ (a : Fin 4352) (b : Fin 128), j = ix2 a b := ⟨j 0, j 1, by funext k; fin_cases k <;> rfl⟩
      exact (dv_next m c t h (by omega) a b).trans (congrArg (_ + ·) (dv_step m c t H a b)))
    t ht (ix2 a b)]
  show (0 : EReal) + _ = _
  rw [zero_add]
  refine Fin.sum_mul_add_congr (n := 512) (fun s r hl => ?_)
  have eh : hd ⟨8 * (t.val / 8) + s.val, Pipeline.run_point_lt_of_flush t ht s⟩ = hd t := by
    apply Fin.ext; simp only [hd]; omega
  have er : row ⟨8 * (t.val / 8) + s.val, Pipeline.run_point_lt_of_flush t ht s⟩ r = ⟨s.val * 512 + r.val, hl⟩ := by
    apply Fin.ext; simp only [row]; omega
  rw [eh, er]
  rfl

theorem final7 (H : Real4 m c) : (dats m 0 c).arrAt 7 cfg0.N
    = Cert.ReferenceIdeal.Read.val_main_v56 (F := Ideal) (aq m c) (ak m c) (av m c) (ag m c) :=
  (dats m 0 c).arrAt_eq_of_covers 7 _ (by decide +kernel) fun t hf y => by
    blk_simp
    rw [after0_7]
    have ht : t.val / 8 < 8 := (hd t).isLt
    obtain ⟨a, b, rfl⟩ : ∃ (a : Fin 4352) (b : Fin 256), y = ix2 a b := ⟨y 0, y 1, by funext k; fin_cases k <;> rfl⟩
    have e : (win0_7.blk t).view.emb (ix2 a b) = ix2 a (⟨t.val / 8 * 256 + b.val, by omega⟩ : Fin 2048) := by
      blk_ext [idx t]
    rw [e]
    have e1 : (t.val / 8 * 256 + b.val) / 256 = t.val / 8 := by omega
    have e2 : (t.val / 8 * 256 + b.val) % 256 = b.val := by omega
    refine (dk_sum m c t H ((flush0_7 t).mp hf) a b).trans ?_
    rw [v56_at]
    simp only [e1, e2]
    by_cases h : b.val < 192
    · simp only [dif_pos h]
      rfl
    · simp only [dif_neg h, mul_zero, Finset.sum_const_zero]

theorem final8 (H : Real4 m c) : (dats m 0 c).arrAt 8 cfg0.N
    = Cert.ReferenceIdeal.Read.val_main_v57 (F := Ideal) (aq m c) (ak m c) (ag m c) :=
  (dats m 0 c).arrAt_eq_of_covers 8 _ (by decide +kernel) fun t hf y => by
    blk_simp
    rw [after0_8]
    have ht : t.val / 8 < 8 := (hd t).isLt
    obtain ⟨a, b, rfl⟩ : ∃ (a : Fin 4352) (b : Fin 128), y = ix2 a b := ⟨y 0, y 1, by funext k; fin_cases k <;> rfl⟩
    have e : (win0_8.blk t).view.emb (ix2 a b) = ix2 a (⟨t.val / 8 * 128 + b.val, by omega⟩ : Fin 1024) := by
      blk_ext [idx t]
    rw [e]
    have e1 : (t.val / 8 * 128 + b.val) / 128 = t.val / 8 := by omega
    have e2 : (t.val / 8 * 128 + b.val) % 128 = b.val := by omega
    refine (dv_sum m c t H ((flush0_8 t).mp hf) a b).trans ?_
    rw [v57_at]
    simp only [e1, e2]
    exact Finset.sum_congr rfl fun i _ => mul_comm _ _

end Cert.KernelIdeal.Value
-- ==== Proof.Finite.lean ====
/- The precondition read: an array all of whose entries are smaller than infinity in absolute value holds real numbers. -/
module

public import proofs.«01_k».proof.Proof.Final
public import proofs.«01_k».proof.Proof.Gen.Pre_finite
public import proofs.«01_k».proof.Defs

@[expose] public section

set_option maxRecDepth 16384

noncomputable section

open Idealize.ShloMosaic Idealize.ShloMosaic.TcCoe Idealize.SL.Sem

namespace Cert.Core

/-- A number smaller than infinity in absolute value is real. -/
theorem real_of_abs {x : EReal} (h : max x (-x) < ⊤) : ∃ r : ℝ, x = ((r : ℝ) : EReal) := by
  induction x with
  | bot => simp at h
  | top => simp at h
  | coe r => exact ⟨r, rfl⟩

/-- The printed comparison of an array's absolute values with infinity, true everywhere, says that the array is real. -/
theorem real_of {S : Shape} (X : FVec Ideal S .f32) (hb : (⟨0, ![]⟩ : Shape).BroadcastsInDim S (![] : Fin 0 → Fin S.rank))
    (h : cmpf .olt (Host.absf X) (broadcastInDim S ![] hb (constant (F := Ideal) (⟨0, ![]⟩ : Shape) .f32 0x7F800000#32)) = fun _ => 1#1)
    (y : S.Idx) : ∃ r : ℝ, X y = ((r : ℝ) : EReal) := by
  have h1 := congrFun h y
  have top : Ideal.ofBits .f32 0x7F800000#32 = ⊤ := by simp [Ideal.ofBits, Ideal.ieee]
  have h2 : Ideal.cmp .olt (max (X y) (-(X y))) (Ideal.ofBits .f32 0x7F800000#32) = 1#1 := h1
  rw [top] at h2
  refine real_of_abs ?_
  by_contra hn
  simp [Ideal.cmp, hn] at h2

end Cert.Core

namespace Cert.KernelIdeal.Value

open Cert.KernelIdeal

/-- Under the precondition the arguments are real. -/
theorem real4 (m : (ℓ : Loc nD τ sig) → Buf (Elt Ideal) ℓ) (h : Cert.Pre_KernelIdeal_finite m) (c : Dev nD) : Real4 m c :=
  ⟨Cert.Core.real_of (aq m c) _ (h c).1, Cert.Core.real_of (ak m c) _ (h c).2.1, Cert.Core.real_of (av m c) _ (h c).2.2.1,
    Cert.Core.real_of (ag m c) _ (h c).2.2.2⟩

end Cert.KernelIdeal.Value
-- ==== Proof.OutDxVal.lean ====
/- The inputs' gradient of the feed-forward's second product and of its gate: the call's two arrays are the reference's. -/
module

public import proofs.«01_k».proof.Proof.Gen.OutDxIdeal.Value
public import proofs.«01_k».proof.Proof.Gen.OutDxRefIdeal.Read
public import proofs.«01_k».proof.Proof.Gen.Pre_ffn_out_dx_finite
public import proofs.«01_k».proof.Proof.Finite
public import Idealize.ShloMosaic.Lib.Pipeline.ValueKit
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutDxIdeal.Value

open Cert.OutDxIdeal Cert.OutDxIdeal.Gen

variable (m : (ℓ : Loc nD τ sig) → Buf (Elt Ideal) ℓ) (c : Dev nD)

/-- The cotangent, as launched. -/
abbrev aD : FVec Ideal S4096x2048 .bf16 := m ((c : Thread nD τ).loc main_arg0)
/-- The weights, as launched. -/
abbrev aW : FVec Ideal S5632x2048 .bf16 := m ((c : Thread nD τ).loc main_arg1)
/-- The gate's argument, as launched. -/
abbrev aA : FVec Ideal S4096x5632 .bf16 := m ((c : Thread nD τ).loc main_arg2)
/-- The gated half, as launched. -/
abbrev aG : FVec Ideal S4096x5632 .bf16 := m ((c : Thread nD τ).loc main_arg3)

theorem idx : ∀ t : Fin cfg0.N, win0_0.index t = ![t.val / 11, 0] ∧ win0_1.index t = ![t.val % 11, 0]
    ∧ win0_2.index t = ![t.val / 11, t.val % 11] ∧ win0_3.index t = ![t.val / 11, t.val % 11]
    ∧ win0_4.index t = ![t.val / 11, t.val % 11] ∧ win0_5.index t = ![t.val / 11, t.val % 11] ∧ t.val / 11 < 4 :=
  (by decide +kernel : ∀ t : Fin grid0.N, _)

/-- The logistic function as the program computes it. -/
def sg (x : EReal) : EReal := Ideal.div 1 (1 + Ideal.exp (-x))

/-- The gradient of the gate's argument as the program computes it. -/
def ka (g x b : EReal) : EReal := g * b * (sg x * (1 + x * (1 - sg x)))
/-- The gradient of the gate's argument as the reference computes it. -/
def ra (g x b : EReal) : EReal := g * b * sg x + x * (g * b) * (sg x * (1 - sg x))

theorem one_f32 : Ideal.ofBits .f32 0x3F800000#32 = 1 := by simp [Ideal.ofBits, Ideal.ieee, -EReal.coe_mul]; norm_num
theorem zero_f32 : Ideal.ofBits .f32 0x00000000#32 = 0 := by simp [Ideal.ofBits, Ideal.ieee]

theorem sg_top : sg ⊤ = 1 := by
  rw [sg, EReal.neg_top, Ideal.exp_bot, add_zero, ← EReal.coe_one, Cert.Core.div_real _ _ one_ne_zero, div_one]

theorem sg_bot : sg ⊥ = 0 := by
  rw [sg, EReal.neg_bot, Ideal.exp_top, EReal.add_top_of_ne_bot (by decide), Ideal.div, if_neg (by decide), EReal.inv_top, mul_zero]

theorem sg_coe (x : ℝ) : ∃ s : ℝ, sg (x : EReal) = (s : EReal) := by
  have h : (1 : EReal) + Ideal.exp (-(x : EReal)) = ((1 + Real.exp (-x) : ℝ) : EReal) := by
    rw [← EReal.coe_neg, Ideal.exp_coe, EReal.coe_add, EReal.coe_one]
  refine ⟨1 / (1 + Real.exp (-x)), ?_⟩
  have hp : (1 + Real.exp (-x)) ≠ 0 := by positivity
  rw [sg, h, ← EReal.coe_one, Cert.Core.div_real _ _ hp]

theorem ka_eq (g b : ℝ) (x : EReal) : ka (g : EReal) x (b : EReal) = ra (g : EReal) x (b : EReal) := by
  unfold ka ra
  induction x with
  | bot => rw [sg_bot]; simp
  | top =>
    have h : (1 : EReal) - 1 = 0 := by rw [← EReal.coe_one, ← EReal.coe_sub, sub_self, EReal.coe_zero]
    rw [sg_top, h]; simp
  | coe x =>
    obtain ⟨s, hs⟩ := sg_coe x
    rw [hs]
    norm_cast
    ring

/-- A sum of products of real numbers is real. -/
theorem dot_real {n : ℕ} (f g : Fin n → EReal) (hf : ∀ k, ∃ r : ℝ, f k = (r : EReal)) (hg : ∀ k, ∃ r : ℝ, g k = (r : EReal)) :
    ∃ r : ℝ, ∑ k, f k * g k = (r : EReal) := by
  choose p hp using hf
  choose q hq using hg
  refine ⟨∑ k, p k * q k, ?_⟩
  rw [← Cert.Core.coe_sum]
  exact Finset.sum_congr rfl fun k _ => by rw [hp, hq, EReal.coe_mul]

/-- The gradient of the gated product. -/
def dg (X0 : FVec Ideal S4096x2048 .bf16) (X1 : FVec Ideal S5632x2048 .bf16) (a : Fin 4096) (b : Fin 5632) : EReal :=
  ∑ k : Fin 2048, X0 (ix2 a k) * X1 (ix2 b k)

theorem refA_at (X0 : FVec Ideal S4096x2048 .bf16) (X1 : FVec Ideal S5632x2048 .bf16) (X2 X3 : FVec Ideal S4096x5632 .bf16) (a : Fin 4096) (b : Fin 5632) :
    Cert.OutDxRefIdeal.Read.val_main_v11 (F := Ideal) X0 X1 X2 X3 (ix2 a b) = ra (dg X0 X1 a b) (X2 (ix2 a b)) (X3 (ix2 a b)) := by
  open Cert.OutDxRefIdeal.Read in
  pointwise [val_main_v11, val_main_v10, val_main_call1_v2, val_main_call1_v1, val_main_call1_v0, val_main_v9, val_main_v7, val_main_v6, val_main_v4,
    val_main_v2_1, val_main_v2_2, val_main_call0_v7, val_main_call0_v6, val_main_call0_cst_1, val_main_call0_v4, val_main_call0_cst_0, val_main_call0_v3,
    val_main_call0_v2, val_main_call0_cst, val_main_call0_v1, val_main_call0_v0, val_main_v1, val_main_v0, ra, sg, dg, one_f32]

theorem refB_at (X0 : FVec Ideal S4096x2048 .bf16) (X1 : FVec Ideal S5632x2048 .bf16) (X2 : FVec Ideal S4096x5632 .bf16) (a : Fin 4096) (b : Fin 5632) :
    Cert.OutDxRefIdeal.Read.val_main_v12 (F := Ideal) X0 X1 X2 (ix2 a b) = X2 (ix2 a b) * sg (X2 (ix2 a b)) * dg X0 X1 a b := by
  open Cert.OutDxRefIdeal.Read in
  pointwise [val_main_v12, val_main_v8, val_main_v7, val_main_v6, val_main_v4, val_main_v2_0,
    val_main_v2_2, val_main_call0_v4, val_main_call0_cst_0, val_main_call0_v3,
    val_main_call0_v2, val_main_call0_cst, val_main_call0_v1, val_main_call0_v0, val_main_v0, sg, dg, one_f32]

variable (t : Fin cfg0.N)

/-- The point's block of the cotangent. -/
abbrev dB : FVec Ideal S1024x2048 .bf16 := iblk m c 0 t
/-- The point's block of weights. -/
abbrev wB : FVec Ideal S512x2048 .bf16 := iblk m c 1 t
/-- The point's block of the gate's argument. -/
abbrev aB : FVec Ideal S1024x512 .bf16 := iblk m c 2 t
/-- The point's block of the gated half. -/
abbrev gB : FVec Ideal S1024x512 .bf16 := iblk m c 3 t

theorem outA_at (x0 : FVec Ideal S1024x2048 .bf16) (x1 : FVec Ideal S512x2048 .bf16) (x2 x3 : FVec Ideal S1024x512 .bf16) (a : Fin 1024) (b : Fin 512) :
    out0_4 (F := Ideal) x0 x1 x2 x3 (ix2 a b) = ka (∑ k : Fin 2048, x0 (ix2 a k) * x1 (ix2 b k)) (x2 (ix2 a b)) (x3 (ix2 a b)) := by
  frame_out
  pointwise [k0_pay1, k0_pay2, k0_pay3, k0_pay4, ka, sg, one_f32, zero_f32, zero_sub]

theorem outB_at (x0 : FVec Ideal S1024x2048 .bf16) (x1 : FVec Ideal S512x2048 .bf16) (x2 x3 : FVec Ideal S1024x512 .bf16) (a : Fin 1024) (b : Fin 512) :
    out0_5 (F := Ideal) x0 x1 x2 x3 (ix2 a b) = (∑ k : Fin 2048, x0 (ix2 a k) * x1 (ix2 b k)) * (x2 (ix2 a b) * sg (x2 (ix2 a b))) := by
  frame_out
  pointwise [k0_pay1, k0_pay2, k0_pay3, k0_pay5, sg, one_f32, zero_f32, zero_sub]

theorem dB_at (ht : t.val / 11 < 4) (a : Fin 1024) (k : Fin 2048) : dB m c t (ix2 a k)
    = aD m c (ix2 ⟨t.val / 11 * 1024 + a.val, by omega⟩ k) := by
  have key : ∀ Z : FVec Ideal S4096x2048 .bf16, ((cfg0.win 0).blk t).view.read (Elt Ideal) Z (ix2 a k)
      = Z (ix2 ⟨t.val / 11 * 1024 + a.val, by omega⟩ k) := by
    intro Z
    blk_ext [idx t]
  refine (key (V m c main_arg0)).trans ?_
  rw [V_main_arg0]

theorem wB_at (b : Fin 512) (k : Fin 2048) : wB m c t (ix2 b k)
    = aW m c (ix2 ⟨t.val % 11 * 512 + b.val, by omega⟩ k) := by
  have key : ∀ Z : FVec Ideal S5632x2048 .bf16, ((cfg0.win 1).blk t).view.read (Elt Ideal) Z (ix2 b k)
      = Z (ix2 ⟨t.val % 11 * 512 + b.val, by omega⟩ k) := by
    intro Z
    blk_ext [idx t]
  refine (key (V m c main_arg1)).trans ?_
  rw [V_main_arg1]

theorem aB_at (ht : t.val / 11 < 4) (a : Fin 1024) (b : Fin 512) : aB m c t (ix2 a b)
    = aA m c (ix2 ⟨t.val / 11 * 1024 + a.val, by omega⟩ ⟨t.val % 11 * 512 + b.val, by omega⟩) := by
  have key : ∀ Z : FVec Ideal S4096x5632 .bf16, ((cfg0.win 2).blk t).view.read (Elt Ideal) Z (ix2 a b)
      = Z (ix2 ⟨t.val / 11 * 1024 + a.val, by omega⟩ ⟨t.val % 11 * 512 + b.val, by omega⟩) := by
    intro Z
    blk_ext [idx t]
  refine (key (V m c main_arg2)).trans ?_
  rw [V_main_arg2]

theorem gB_at (ht : t.val / 11 < 4) (a : Fin 1024) (b : Fin 512) : gB m c t (ix2 a b)
    = aG m c (ix2 ⟨t.val / 11 * 1024 + a.val, by omega⟩ ⟨t.val % 11 * 512 + b.val, by omega⟩) := by
  have key : ∀ Z : FVec Ideal S4096x5632 .bf16, ((cfg0.win 3).blk t).view.read (Elt Ideal) Z (ix2 a b)
      = Z (ix2 ⟨t.val / 11 * 1024 + a.val, by omega⟩ ⟨t.val % 11 * 512 + b.val, by omega⟩) := by
    intro Z
    blk_ext [idx t]
  refine (key (V m c main_arg3)).trans ?_
  rw [V_main_arg3]

theorem dot_at (ht : t.val / 11 < 4) (a : Fin 1024) (b : Fin 512) :
    (∑ k : Fin 2048, dB m c t (ix2 a k) * wB m c t (ix2 b k))
      = dg (aD m c) (aW m c) ⟨t.val / 11 * 1024 + a.val, by omega⟩ ⟨t.val % 11 * 512 + b.val, by omega⟩ := by
  unfold dg
  exact Finset.sum_congr rfl fun k _ => congrArg₂ (· * ·) (dB_at m c t ht a k) (wB_at m c t b k)

/-- The arguments but the gate's are real numbers. -/
def Real3 : Prop := (∀ y, ∃ r : ℝ, aD m c y = ((r : ℝ) : EReal)) ∧ (∀ y, ∃ r : ℝ, aW m c y = ((r : ℝ) : EReal))
    ∧ (∀ y, ∃ r : ℝ, aG m c y = ((r : ℝ) : EReal))

/-- Under the precondition they are. -/
theorem real3 (h : Cert.Pre_OutDxIdeal_ffn_out_dx_finite m) : Real3 m c :=
  ⟨Cert.Core.real_of (aD m c) _ (h c).1, Cert.Core.real_of (aW m c) _ (h c).2.1, Cert.Core.real_of (aG m c) _ (h c).2.2⟩

/-- The gradient of the gate's argument. -/
theorem finalA (H : Real3 m c) : (dats m 0 c).arrAt 4 cfg0.N
    = Cert.OutDxRefIdeal.Read.val_main_v11 (F := Ideal) (aD m c) (aW m c) (aA m c) (aG m c) :=
  (dats m 0 c).arrAt_eq_of_covers 4 _ (by decide +kernel) fun t hf y => by
    blk_simp
    rw [after0_4]
    have ht : t.val / 11 < 4 := (idx t).2.2.2.2.2.2
    obtain ⟨a, b, rfl⟩ : ∃ (a : Fin 1024) (b : Fin 512), y = ix2 a b := ⟨y 0, y 1, by funext k; fin_cases k <;> rfl⟩
    have e : (win0_4.blk t).view.emb (ix2 a b) = ix2 ⟨t.val / 11 * 1024 + a.val, by omega⟩ ⟨t.val % 11 * 512 + b.val, by omega⟩ := by
      blk_ext [idx t]
    rw [e, refA_at]
    refine (outA_at (dB m c t) (wB m c t) (aB m c t) (gB m c t) a b).trans ?_
    rw [dot_at m c t ht a b, aB_at m c t ht a b, gB_at m c t ht a b]
    obtain ⟨g, hg⟩ : ∃ r : ℝ, dg (aD m c) (aW m c) ⟨t.val / 11 * 1024 + a.val, by omega⟩ ⟨t.val % 11 * 512 + b.val, by omega⟩ = (r : EReal) :=
      dot_real (fun k : Fin 2048 => aD m c (ix2 ⟨t.val / 11 * 1024 + a.val, by omega⟩ k)) (fun k => aW m c (ix2 ⟨t.val % 11 * 512 + b.val, by omega⟩ k))
        (fun k => H.1 _) (fun k => H.2.1 _)
    obtain ⟨r, hr⟩ := H.2.2 (ix2 ⟨t.val / 11 * 1024 + a.val, by omega⟩ ⟨t.val % 11 * 512 + b.val, by omega⟩)
    rw [hg, hr]
    exact ka_eq g r _

/-- The gradient of the gated half. -/
theorem finalB : (dats m 0 c).arrAt 5 cfg0.N
    = Cert.OutDxRefIdeal.Read.val_main_v12 (F := Ideal) (aD m c) (aW m c) (aA m c) :=
  (dats m 0 c).arrAt_eq_of_covers 5 _ (by decide +kernel) fun t hf y => by
    blk_simp
    rw [after0_5]
    have ht : t.val / 11 < 4 := (idx t).2.2.2.2.2.2
    obtain ⟨a, b, rfl⟩ : ∃ (a : Fin 1024) (b : Fin 512), y = ix2 a b := ⟨y 0, y 1, by funext k; fin_cases k <;> rfl⟩
    have e : (win0_5.blk t).view.emb (ix2 a b) = ix2 ⟨t.val / 11 * 1024 + a.val, by omega⟩ ⟨t.val % 11 * 512 + b.val, by omega⟩ := by
      blk_ext [idx t]
    rw [e, refB_at]
    refine (outB_at (dB m c t) (wB m c t) (aB m c t) (gB m c t) a b).trans ?_
    rw [dot_at m c t ht a b, aB_at m c t ht a b]
    exact mul_comm _ _

end Cert.OutDxIdeal.Value
-- ==== Proof.OutDwVal.lean ====
/- The weights' gradient of the feed-forward's second product: the call's array is the reference's. -/
module

public import proofs.«01_k».proof.Proof.Gen.OutDwIdeal.Value
public import proofs.«01_k».proof.Proof.Gen.OutDwRefIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutDwIdeal.Value

open Cert.OutDwIdeal Cert.OutDwIdeal.Gen

variable (m : (ℓ : Loc nD τ sig) → Buf (Elt Ideal) ℓ) (c : Dev nD)

/-- The activations, as launched. -/
abbrev aA : FVec Ideal S4096x5632 .bf16 := m ((c : Thread nD τ).loc main_arg0)
/-- The cotangent, as launched. -/
abbrev aD : FVec Ideal S4096x2048 .bf16 := m ((c : Thread nD τ).loc main_arg1)

theorem idx : ∀ t : Fin cfg0.N, win0_0.index t = ![t.val % 2, t.val / 4] ∧ win0_1.index t = ![t.val % 2, t.val / 2 % 2]
    ∧ win0_2.index t = ![t.val / 4, t.val / 2 % 2] ∧ t.val / 4 < 4 :=
  (by decide +kernel : ∀ t : Fin grid0.N, _)

variable (t : Fin cfg0.N)

/-- The point's block of activations. -/
abbrev aB : FVec Ideal S2048x1408 .bf16 := iblk m c 0 t
/-- The point's block of the cotangent. -/
abbrev dB : FVec Ideal S2048x1024 .bf16 := iblk m c 1 t

theorem aB_at (k : Fin 2048) (a : Fin 1408) (ht : t.val / 4 < 4) : aB m c t (ix2 k a)
    = aA m c (ix2 ⟨t.val % 2 * 2048 + k.val, by omega⟩ ⟨t.val / 4 * 1408 + a.val, by omega⟩) := by
  have key : ∀ Z : FVec Ideal S4096x5632 .bf16, ((cfg0.win 0).blk t).view.read (Elt Ideal) Z (ix2 k a)
      = Z (ix2 ⟨t.val % 2 * 2048 + k.val, by omega⟩ ⟨t.val / 4 * 1408 + a.val, by omega⟩) := by
    intro Z
    blk_ext [idx t]
  refine (key (V m c main_arg0)).trans ?_
  rw [V_main_arg0]

theorem dB_at (k : Fin 2048) (b : Fin 1024) : dB m c t (ix2 k b)
    = aD m c (ix2 ⟨t.val % 2 * 2048 + k.val, by omega⟩ ⟨t.val / 2 % 2 * 1024 + b.val, by omega⟩) := by
  have key : ∀ Z : FVec Ideal S4096x2048 .bf16, ((cfg0.win 1).blk t).view.read (Elt Ideal) Z (ix2 k b)
      = Z (ix2 ⟨t.val % 2 * 2048 + k.val, by omega⟩ ⟨t.val / 2 % 2 * 1024 + b.val, by omega⟩) := by
    intro Z
    blk_ext [idx t]
  refine (key (V m c main_arg1)).trans ?_
  rw [V_main_arg1]

/-- The accumulator after a block's first point: the products of the first half of the tokens. -/
theorem first (h : t.val % 2 = 0) (a : Fin 1408) (b : Fin 1024) : (outsAt0 m c t.val t.isLt).2 (ix2 a b)
    = ∑ k : Fin 2048, aB m c t (ix2 k a) * dB m c t (ix2 k b) := by
  rw [outsAt0_A m c t h (by omega) (by omega)]; frame_out
  pointwise [k0_pay1]

/-- The block after its last point: the accumulator and the products of the second half of the tokens. -/
theorem last (h : t.val % 2 = 1) (a : Fin 1408) (b : Fin 1024) : (outsAt0 m c t.val t.isLt).1 (ix2 a b)
    = (show EReal from (outsAt0 m c (t.val - 1) (Nat.lt_of_le_of_lt (Nat.sub_le _ _) t.isLt)).2 (ix2 a b))
      + ∑ k : Fin 2048, aB m c t (ix2 k a) * dB m c t (ix2 k b) := by
  rw [outsAt0_B m c t (by omega) h h]; frame_out
  pointwise [k0_pay2, k0_pay3]
  exact congrArg (· + _) (congrFun (read_unread_whole _ _ _) _)

/-- The reference's gradient at an index. -/
theorem ref_at (X0 : FVec Ideal S4096x5632 .bf16) (X1 : FVec Ideal S4096x2048 .bf16) (a : Fin 5632) (b : Fin 2048) :
    Cert.OutDwRefIdeal.Read.val_main_v6 (F := Ideal) X0 X1 (ix2 a b) = ∑ k : Fin 4096, X1 (ix2 k b) * X0 (ix2 k a) := by
  pointwise [Cert.OutDwRefIdeal.Read.val_main_v6, Cert.OutDwRefIdeal.Read.val_main_v5, Cert.OutDwRefIdeal.Read.val_main_v4,
    Cert.OutDwRefIdeal.Read.val_main_v3, Cert.OutDwRefIdeal.Read.val_main_v1]

/-- The array after the run is the reference's. -/
theorem final : (dats m 0 c).arrAt 2 cfg0.N = Cert.OutDwRefIdeal.Read.val_main_v6 (F := Ideal) (aA m c) (aD m c) :=
  (dats m 0 c).arrAt_eq_of_covers 2 _ (by decide +kernel) fun t hf y => by
    blk_simp
    rw [after0_2]
    have ht : t.val / 4 < 4 := (idx t).2.2.2
    have ho : t.val % 2 = 1 := (flush0_2 t).mp hf
    obtain ⟨a, b, rfl⟩ : ∃ (a : Fin 1408) (b : Fin 1024), y = ix2 a b := ⟨y 0, y 1, by funext k; fin_cases k <;> rfl⟩
    have e : (win0_2.blk t).view.emb (ix2 a b) = ix2 ⟨t.val / 4 * 1408 + a.val, by omega⟩ ⟨t.val / 2 % 2 * 1024 + b.val, by omega⟩ := by
      blk_ext [idx t]
    rw [e, ref_at]
    refine (last m c t ho a b).trans ?_
    have hp : t.val - 1 < cfg0.N := Nat.lt_of_le_of_lt (Nat.sub_le _ _) t.isLt
    have ef := first m c ⟨t.val - 1, hp⟩ (by show (t.val - 1) % 2 = 0; omega) a b
    have ht' : (⟨t.val - 1, hp⟩ : Fin cfg0.N).val / 4 < 4 := by show (t.val - 1) / 4 < 4; omega
    refine (congrArg (· + _) ef).trans ?_
    rw [Fin.sum_univ_two_halves 2048 2048 rfl]
    refine congrArg₂ (· + ·) (Finset.sum_congr rfl fun k _ => ?_) (Finset.sum_congr rfl fun k _ => ?_)
    · rw [aB_at m c _ k a ht', dB_at, mul_comm]
      have e1 : (t.val - 1) % 2 = 0 := by omega
      have e2 : (t.val - 1) / 4 = t.val / 4 := by omega
      have e3 : (t.val - 1) / 2 % 2 = t.val / 2 % 2 := by omega
      simp only [e1, e2, e3, Nat.zero_mul, Nat.zero_add]
    · rw [aB_at m c _ k a ht, dB_at, mul_comm]
      simp only [ho, Nat.one_mul]

end Cert.OutDwIdeal.Value
-- ==== Proof.InDxVal.lean ====
/- The inputs' gradient of the feed-forward's first product: the call's array is the reference's. -/
module

public import proofs.«01_k».proof.Proof.Gen.InDxIdeal.Value
public import proofs.«01_k».proof.Proof.Gen.InDxRefIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InDxIdeal.Value

open Cert.InDxIdeal Cert.InDxIdeal.Gen

variable (m : (ℓ : Loc nD τ sig) → Buf (Elt Ideal) ℓ) (c : Dev nD)

/-- The cotangent of the gate's argument, as launched. -/
abbrev aA : FVec Ideal S4096x5632 .bf16 := m ((c : Thread nD τ).loc main_arg0)
/-- The cotangent of the gated half, as launched. -/
abbrev aB : FVec Ideal S4096x5632 .bf16 := m ((c : Thread nD τ).loc main_arg1)
/-- The weights, as launched. -/
abbrev aW : FVec Ideal S2048x11264 .bf16 := m ((c : Thread nD τ).loc main_arg2)

section terms
variable {F : FTy → Type} [FloatOps F]
variable (m : (ℓ : Loc nD τ sig) → Buf (Elt F) ℓ) (c : Dev nD)
/-- The weights of the gate's argument, as the call finds them. -/
theorem V_wa : V m c main_v0 = extractStridedSlice S2048x5632 ![0, 0] (m ((c : Thread nD τ).loc main_arg2)) slices_S2048x11264_S2048x5632_0_0 := by
  unfold V; after_reads_simp
/-- The weights of the gated half, as the call finds them. -/
theorem V_wb : V m c main_v1 = extractStridedSlice S2048x5632 ![0, 5632] (m ((c : Thread nD τ).loc main_arg2)) slices_S2048x11264_S2048x5632_0_5632 := by
  unfold V; after_reads_simp
end terms

theorem sliceA_at (X : FVec Ideal S2048x11264 .bf16) (b : Fin 2048) (k : Fin 5632) :
    extractStridedSlice S2048x5632 ![0, 0] X slices_S2048x11264_S2048x5632_0_0 (ix2 b k) = X (ix2 b ⟨k.val, by omega⟩) := by
  pointwise

theorem sliceB_at (X : FVec Ideal S2048x11264 .bf16) (b : Fin 2048) (k : Fin 5632) :
    extractStridedSlice S2048x5632 ![0, 5632] X slices_S2048x11264_S2048x5632_0_5632 (ix2 b k) = X (ix2 b ⟨5632 + k.val, by omega⟩) := by
  pointwise

theorem idx : ∀ t : Fin cfg0.N, win0_0.index t = ![t.val / 16, min (t.val % 8) 3] ∧ win0_1.index t = ![t.val / 8 % 2, min (t.val % 8) 3]
    ∧ win0_2.index t = ![t.val / 16, t.val % 8 - 4] ∧ win0_3.index t = ![t.val / 8 % 2, t.val % 8 - 4]
    ∧ win0_4.index t = ![t.val / 16, t.val / 8 % 2] ∧ t.val / 16 < 4 :=
  (by decide +kernel : ∀ t : Fin grid0.N, _)

variable (t : Fin cfg0.N)

/-- The array's row of a point's row. -/
def row (a : Fin 1024) : Fin 4096 := ⟨t.val / 16 * 1024 + a.val, by have := (idx t).2.2.2.2.2; omega⟩
/-- The array's column of a point's column. -/
def col (b : Fin 1024) : Fin 2048 := ⟨t.val / 8 % 2 * 1024 + b.val, by omega⟩
/-- The place in the summed axis of a point's lane. -/
def lane (r : Fin 1408) : Fin 11264 := ⟨t.val % 8 * 1408 + r.val, by omega⟩

/-- The two cotangents side by side. -/
def both (X0 X1 : FVec Ideal S4096x5632 .bf16) (a : Fin 4096) (k : Fin 11264) : EReal :=
  if h : k.val < 5632 then X0 (ix2 a ⟨k.val, h⟩) else X1 (ix2 a ⟨k.val - 5632, by omega⟩)

/-- The point's blocks. -/
abbrev daB : FVec Ideal S1024x1408 .bf16 := iblk m c 0 t
abbrev waB : FVec Ideal S1024x1408 .bf16 := iblk m c 1 t
abbrev dbB : FVec Ideal S1024x1408 .bf16 := iblk m c 2 t
abbrev wbB : FVec Ideal S1024x1408 .bf16 := iblk m c 3 t

theorem daB_at (h : t.val % 8 < 4) (a : Fin 1024) (r : Fin 1408) : daB m c t (ix2 a r) = both (aA m c) (aB m c) (row t a) (lane t r) := by
  have ht := (idx t).2.2.2.2.2
  have key : ∀ Z : FVec Ideal S4096x5632 .bf16, ((cfg0.win 0).blk t).view.read (Elt Ideal) Z (ix2 a r)
      = Z (ix2 ⟨t.val / 16 * 1024 + a.val, by omega⟩ ⟨t.val % 8 * 1408 + r.val, by omega⟩) := by
    intro Z
    have e : min (t.val % 8) 3 = t.val % 8 := by omega
    blk_ext [idx t, e]
  refine (key (V m c main_arg0)).trans ?_
  rw [V_main_arg0, both, dif_pos (show (lane t r).val < 5632 from by show t.val % 8 * 1408 + r.val < 5632; omega)]
  rfl

theorem dbB_at (h : 4 ≤ t.val % 8) (a : Fin 1024) (r : Fin 1408) : dbB m c t (ix2 a r) = both (aA m c) (aB m c) (row t a) (lane t r) := by
  have ht := (idx t).2.2.2.2.2
  have key : ∀ Z : FVec Ideal S4096x5632 .bf16, ((cfg0.win 2).blk t).view.read (Elt Ideal) Z (ix2 a r)
      = Z (ix2 ⟨t.val / 16 * 1024 + a.val, by omega⟩ ⟨(t.val % 8 - 4) * 1408 + r.val, by omega⟩) := by
    intro Z
    blk_ext [idx t]
  refine (key (V m c main_arg1)).trans ?_
  rw [V_main_arg1, both, dif_neg (show ¬(lane t r).val < 5632 from by show ¬t.val % 8 * 1408 + r.val < 5632; omega)]
  have e : (⟨(t.val % 8 - 4) * 1408 + r.val, by omega⟩ : Fin 5632) = ⟨(lane t r).val - 5632, by have := (lane t r).isLt; omega⟩ := by
    apply Fin.ext; simp only [lane]; omega
  rw [e]
  rfl

theorem waB_at (h : t.val % 8 < 4) (b : Fin 1024) (r : Fin 1408) : waB m c t (ix2 b r) = aW m c (ix2 (col t b) (lane t r)) := by
  have key : ∀ Z : FVec Ideal S2048x5632 .bf16, ((cfg0.win 1).blk t).view.read (Elt Ideal) Z (ix2 b r)
      = Z (ix2 ⟨t.val / 8 % 2 * 1024 + b.val, by omega⟩ ⟨t.val % 8 * 1408 + r.val, by omega⟩) := by
    intro Z
    have e : min (t.val % 8) 3 = t.val % 8 := by omega
    blk_ext [idx t, e]
  refine (key (V m c main_v0)).trans ?_
  rw [V_wa, sliceA_at]
  rfl

theorem wbB_at (h : 4 ≤ t.val % 8) (b : Fin 1024) (r : Fin 1408) : wbB m c t (ix2 b r) = aW m c (ix2 (col t b) (lane t r)) := by
  have key : ∀ Z : FVec Ideal S2048x5632 .bf16, ((cfg0.win 3).blk t).view.read (Elt Ideal) Z (ix2 b r)
      = Z (ix2 ⟨t.val / 8 % 2 * 1024 + b.val, by omega⟩ ⟨(t.val % 8 - 4) * 1408 + r.val, by omega⟩) := by
    intro Z
    blk_ext [idx t]
  refine (key (V m c main_v1)).trans ?_
  rw [V_wb, sliceB_at]
  have e : (⟨5632 + ((t.val % 8 - 4) * 1408 + r.val), by omega⟩ : Fin 11264) = lane t r := by
    apply Fin.ext; simp only [lane]; omega
  rw [e]
  rfl

/-- What a point adds to its block. -/
def term (a b : Fin 1024) : EReal :=
  ∑ r : Fin 1408, both (aA m c) (aB m c) (row t a) (lane t r) * aW m c (ix2 (col t b) (lane t r))

theorem term_a (h : t.val % 8 < 4) (a b : Fin 1024) : (∑ r : Fin 1408, daB m c t (ix2 a r) * waB m c t (ix2 b r)) = term m c t a b := by
  unfold term
  exact Finset.sum_congr rfl fun r _ => congrArg₂ (· * ·) (daB_at m c t h a r) (waB_at m c t h b r)

theorem term_b (h : 4 ≤ t.val % 8) (a b : Fin 1024) : (∑ r : Fin 1408, dbB m c t (ix2 a r) * wbB m c t (ix2 b r)) = term m c t a b := by
  unfold term
  exact Finset.sum_congr rfl fun r _ => congrArg₂ (· * ·) (dbB_at m c t h a r) (wbB_at m c t h b r)

/-- What the accumulator holds before a point that is not a block's first. -/
abbrev prev : FVec Ideal S1024x1024 .f32 := (outsAt0 m c (t.val - 1) (Nat.lt_of_le_of_lt (Nat.sub_le _ _) t.isLt)).2

theorem first (h : t.val % 8 = 0) (a b : Fin 1024) : (outsAt0 m c t.val t.isLt).2 (ix2 a b) = term m c t a b := by
  refine Eq.trans ?_ (term_a m c t (by omega) a b)
  rw [outsAt0_A m c t h (by omega) (by omega) (by omega)]; frame_out
  pointwise [k0_pay1]

theorem next (h : ¬t.val % 8 = 0) (a b : Fin 1024) : (outsAt0 m c t.val t.isLt).2 (ix2 a b) = (show EReal from prev m c t (ix2 a b)) + term m c t a b := by
  by_cases h1 : t.val % 8 < 4
  · refine Eq.trans ?_ (congrArg (_ + ·) (term_a m c t h1 a b))
    rw [outsAt0_B m c t h (by omega) (by omega) (by omega)]; frame_out
    pointwise [k0_pay2]
    exact congrArg (· + _) (congrFun (read_unread_whole _ _ _) _)
  · refine Eq.trans ?_ (congrArg (_ + ·) (term_b m c t (by omega) a b))
    by_cases h2 : t.val % 8 = 7
    · rw [outsAt0_D m c t h (by omega) (by omega) h2]; frame_out
      pointwise [k0_pay3]
      exact congrArg (· + _) (congrFun (read_unread_whole _ _ _) _)
    · rw [outsAt0_C m c t h (by omega) (by omega) h2]; frame_out
      pointwise [k0_pay3]
      exact congrArg (· + _) (congrFun (read_unread_whole _ _ _) _)

/-- The block written back is what the accumulator holds. -/
theorem last (h : t.val % 8 = 7) (a b : Fin 1024) : (outsAt0 m c t.val t.isLt).1 (ix2 a b) = (show EReal from prev m c t (ix2 a b)) + term m c t a b := by
  refine Eq.trans ?_ (congrArg (_ + ·) (term_b m c t (by omega) a b))
  rw [outsAt0_D m c t (by omega) (by omega) (by omega) h]; frame_out
  pointwise [k0_pay3]
  exact congrArg (· + _) (congrFun (read_unread_whole _ _ _) _)

theorem acc_sum (ht : t.val % 8 = 8 - 1) (a b : Fin 1024) : (show EReal from (outsAt0 m c t.val t.isLt).2 (ix2 a b))
    = ∑ k : Fin 11264, both (aA m c) (aB m c) (row t a) k * aW m c (ix2 (col t b) k) := by
  rw [Pipeline.eq_sum_fin_of_reset_step_apply_of_flush (fun n h => (outsAt0 m c n h).2) 8 (fun _ => (0 : EReal))
    (fun t j => term m c t (j 0) (j 1))
    (fun t h j => by
      obtain ⟨a, b, rfl⟩ : ∃ (a : Fin 1024) (b : Fin 1024), j = ix2 a b := ⟨j 0, j 1, by funext k; fin_cases k <;> rfl⟩
      exact (first m c t h a b).trans (zero_add _).symm)
    (fun t h j => by
      obtain ⟨a, b, rfl⟩ : ∃ (a : Fin 1024) (b : Fin 1024), j = ix2 a b := ⟨j 0, j 1, by funext k; fin_cases k <;> rfl⟩
      exact next m c t h a b)
    t ht (ix2 a b)]
  show (0 : EReal) + _ = _
  rw [zero_add]
  unfold term
  refine Fin.sum_mul_add_congr (n := 1408) (fun s r hl => ?_)
  have er : row ⟨8 * (t.val / 8) + s.val, Pipeline.run_point_lt_of_flush t ht s⟩ a = row t a := by
    apply Fin.ext; simp only [row]; omega
  have ec : col ⟨8 * (t.val / 8) + s.val, Pipeline.run_point_lt_of_flush t ht s⟩ b = col t b := by
    apply Fin.ext; simp only [col]; omega
  have el : lane ⟨8 * (t.val / 8) + s.val, Pipeline.run_point_lt_of_flush t ht s⟩ r = ⟨s.val * 1408 + r.val, hl⟩ := by
    apply Fin.ext; simp only [lane]; omega
  show both _ _ (row ⟨8 * (t.val / 8) + s.val, _⟩ a) (lane ⟨8 * (t.val / 8) + s.val, _⟩ r) * aW m c (ix2 (col ⟨8 * (t.val / 8) + s.val, _⟩ b) (lane ⟨8 * (t.val / 8) + s.val, _⟩ r)) = _
  rw [er, ec, el]

/-- The reference's gradient at an index. -/
theorem ref_at (X0 X1 : FVec Ideal S4096x5632 .bf16) (X2 : FVec Ideal S2048x11264 .bf16) (a : Fin 4096) (b : Fin 2048) :
    Cert.InDxRefIdeal.Read.val_main_v8 (F := Ideal) X0 X1 X2 (ix2 a b) = ∑ k : Fin 11264, both X0 X1 a k * X2 (ix2 b k) := by
  open Cert.InDxRefIdeal.Read in
  pointwise [val_main_v8, val_main_v7, val_main_v6, val_main_v5, val_main_v1, both]

/-- The array after the run is the reference's. -/
theorem final : (dats m 0 c).arrAt 4 cfg0.N = Cert.InDxRefIdeal.Read.val_main_v8 (F := Ideal) (aA m c) (aB m c) (aW m c) :=
  (dats m 0 c).arrAt_eq_of_covers 4 _ (by decide +kernel) fun t hf y => by
    blk_simp
    rw [after0_4]
    have ht := (idx t).2.2.2.2.2
    have ho : t.val % 8 = 7 := (flush0_4 t).mp hf
    obtain ⟨a, b, rfl⟩ : ∃ (a : Fin 1024) (b : Fin 1024), y = ix2 a b := ⟨y 0, y 1, by funext k; fin_cases k <;> rfl⟩
    have e : (win0_4.blk t).view.emb (ix2 a b) = ix2 (row t a) (col t b) := by
      simp only [row, col]
      blk_ext [idx t]
    rw [e, ref_at]
    exact (last m c t ho a b).trans ((next m c t (by omega) a b).symm.trans (acc_sum m c t ho a b))

end Cert.InDxIdeal.Value
-- ==== Proof.InDwVal.lean ====
/- The weights' gradient of the feed-forward's first product, for the gated half: the call's array is the reference's. -/
module

public import proofs.«01_k».proof.Proof.Gen.InDwIdeal.Value
public import proofs.«01_k».proof.Proof.Gen.InDwRefIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InDwIdeal.Value

open Cert.InDwIdeal Cert.InDwIdeal.Gen

variable (m : (ℓ : Loc nD τ sig) → Buf (Elt Ideal) ℓ) (c : Dev nD)

/-- The inputs, as launched. -/
abbrev aH : FVec Ideal S4096x2048 .bf16 := m ((c : Thread nD τ).loc main_arg0)
/-- The cotangent, as launched. -/
abbrev aD : FVec Ideal S4096x5632 .bf16 := m ((c : Thread nD τ).loc main_arg1)
/-- The buffer that takes the gradient, as launched. -/
abbrev aZ : FVec Ideal S4x2048x2816 .bf16 := m ((c : Thread nD τ).loc main_arg2)

section terms
variable {F : FTy → Type} [FloatOps F]
variable (m : (ℓ : Loc nD τ sig) → Buf (Elt F) ℓ) (c : Dev nD)
/-- The result's buffer, as the call finds it. -/
theorem V_z : V m c main_v0 = m ((c : Thread nD τ).loc main_arg2) := by
  unfold V; after_reads_simp; rfl
end terms

theorem idx : ∀ t : Fin cfg0.N, win0_0.index t = ![t.val % 2, t.val / 8] ∧ win0_1.index t = ![t.val % 2, t.val / 2 % 4]
    ∧ win0_2.index t = ![2 + t.val / 4 % 2, t.val / 8, t.val / 2 % 2] ∧ t.val / 8 < 2 :=
  (by decide +kernel : ∀ t : Fin grid0.N, _)

variable (t : Fin cfg0.N)

/-- The point's block of inputs. -/
abbrev hB : FVec Ideal S2048x1024 .bf16 := iblk m c 0 t
/-- The point's block of the cotangent. -/
abbrev dB : FVec Ideal S2048x1408 .bf16 := iblk m c 1 t

theorem hB_at (k : Fin 2048) (a : Fin 1024) (ht : t.val / 8 < 2) : hB m c t (ix2 k a)
    = aH m c (ix2 ⟨t.val % 2 * 2048 + k.val, by omega⟩ ⟨t.val / 8 * 1024 + a.val, by omega⟩) := by
  have key : ∀ Z : FVec Ideal S4096x2048 .bf16, ((cfg0.win 0).blk t).view.read (Elt Ideal) Z (ix2 k a)
      = Z (ix2 ⟨t.val % 2 * 2048 + k.val, by omega⟩ ⟨t.val / 8 * 1024 + a.val, by omega⟩) := by
    intro Z
    blk_ext [idx t]
  refine (key (V m c main_arg0)).trans ?_
  rw [V_main_arg0]

theorem dB_at (k : Fin 2048) (b : Fin 1408) : dB m c t (ix2 k b)
    = aD m c (ix2 ⟨t.val % 2 * 2048 + k.val, by omega⟩ ⟨t.val / 2 % 4 * 1408 + b.val, by omega⟩) := by
  have key : ∀ Z : FVec Ideal S4096x5632 .bf16, ((cfg0.win 1).blk t).view.read (Elt Ideal) Z (ix2 k b)
      = Z (ix2 ⟨t.val % 2 * 2048 + k.val, by omega⟩ ⟨t.val / 2 % 4 * 1408 + b.val, by omega⟩) := by
    intro Z
    blk_ext [idx t]
  refine (key (V m c main_arg1)).trans ?_
  rw [V_main_arg1]

/-- The accumulator after a block's first point: the products of the first half of the tokens. -/
theorem first (h : t.val % 2 = 0) (a : Fin 1024) (b : Fin 1408) : (outsAt0 m c t.val t.isLt).2 (ix2 a b)
    = ∑ k : Fin 2048, hB m c t (ix2 k a) * dB m c t (ix2 k b) := by
  rw [outsAt0_A m c t h (by omega) (by omega)]; frame_out
  pointwise [k0_pay1]

/-- The block after its last point: the accumulator and the products of the second half of the tokens. -/
theorem last (h : t.val % 2 = 1) (a : Fin 1024) (b : Fin 1408) : (outsAt0 m c t.val t.isLt).1 (ix3 0 a b)
    = (show EReal from (outsAt0 m c (t.val - 1) (Nat.lt_of_le_of_lt (Nat.sub_le _ _) t.isLt)).2 (ix2 a b))
      + ∑ k : Fin 2048, hB m c t (ix2 k a) * dB m c t (ix2 k b) := by
  rw [outsAt0_B m c t (by omega) h h]; frame_out
  pointwise [k0_pay2, k0_pay3]
  exact congrArg (· + _) (congrFun (read_unread_whole _ _ _) _)

/-- The reference's result at an index. -/
theorem ref_at (X0 : FVec Ideal S4096x2048 .bf16) (X1 : FVec Ideal S4096x5632 .bf16) (X2 : FVec Ideal S4x2048x2816 .bf16)
    (s : Fin 4) (a : Fin 2048) (b : Fin 2816) :
    Cert.InDwRefIdeal.Read.val_main_v10 (F := Ideal) X0 X1 X2 (ix3 s a b)
      = if h : s.val < 2 then X2 (ix3 s a b) else ∑ k : Fin 4096, X1 (ix2 k ⟨(s.val - 2) * 2816 + b.val, by omega⟩) * X0 (ix2 k a) := by
  open Cert.InDwRefIdeal.Read in
  pointwise [val_main_v10, val_main_v9, val_main_v8, val_main_v7, val_main_v6, val_main_v5, val_main_v4, val_main_v3, val_main_v1]

/-- What a block holds after its last point. -/
theorem block (ho : t.val % 2 = 1) (ht : t.val / 8 < 2) (a : Fin 1024) (b : Fin 1408) : (outsAt0 m c t.val t.isLt).1 (ix3 0 a b)
    = ∑ k : Fin 4096, aD m c (ix2 k ⟨t.val / 2 % 4 * 1408 + b.val, by omega⟩) * aH m c (ix2 k ⟨t.val / 8 * 1024 + a.val, by omega⟩) := by
  refine (last m c t ho a b).trans ?_
  have hp : t.val - 1 < cfg0.N := Nat.lt_of_le_of_lt (Nat.sub_le _ _) t.isLt
  have ef := first m c ⟨t.val - 1, hp⟩ (by show (t.val - 1) % 2 = 0; omega) a b
  have ht' : (⟨t.val - 1, hp⟩ : Fin cfg0.N).val / 8 < 2 := by show (t.val - 1) / 8 < 2; omega
  refine (congrArg (· + _) ef).trans ?_
  rw [Fin.sum_univ_two_halves 2048 2048 rfl]
  refine congrArg₂ (· + ·) (Finset.sum_congr rfl fun k _ => ?_) (Finset.sum_congr rfl fun k _ => ?_)
  · rw [hB_at m c _ k a ht', dB_at, mul_comm]
    have e1 : (t.val - 1) % 2 = 0 := by omega
    have e2 : (t.val - 1) / 8 = t.val / 8 := by omega
    have e3 : (t.val - 1) / 2 % 4 = t.val / 2 % 4 := by omega
    simp only [e1, e2, e3, Nat.zero_mul, Nat.zero_add]
  · rw [hB_at m c _ k a ht, dB_at, mul_comm]
    simp only [ho, Nat.one_mul]

/-- The array after the run is the reference's. -/
theorem final : (dats m 0 c).arrAt 2 cfg0.N = Cert.InDwRefIdeal.Read.val_main_v10 (F := Ideal) (aH m c) (aD m c) (aZ m c) := by
  have H : (dats m 0 c).arrAt 2 cfg0.N = fun i => if 2 ≤ (i 0 : ℕ) then Cert.InDwRefIdeal.Read.val_main_v10 (F := Ideal) (aH m c) (aD m c) (aZ m c) i
      else V m c main_v0 i := by
    refine (dats m 0 c).arrAt_eq_of_coversWhere 2 _ (fun β => 2 ≤ β 0) (by decide +kernel) (fun t hf y => ?_)
      (fun j => by blk_simp [Pipeline.Window.cell_apply]; rw [Nat.div_one])
    blk_simp
    rw [after0_2]
    have ht : t.val / 8 < 2 := (idx t).2.2.2
    have ho : t.val % 2 = 1 := (flush0_2 t).mp hf
    obtain ⟨a, b, rfl⟩ : ∃ (a : Fin 1024) (b : Fin 1408), y = ix3 0 a b := ⟨y 1, y 2, by funext k; fin_cases k; exact Subsingleton.elim (α := Fin 1) _ _; rfl; rfl⟩
    have e : (win0_2.blk t).view.emb (ix3 0 a b) = ix3 ⟨2 + t.val / 4 % 2, by omega⟩ ⟨t.val / 8 * 1024 + a.val, by omega⟩ ⟨t.val / 2 % 2 * 1408 + b.val, by omega⟩ := by
      blk_ext [idx t]
    rw [e, ref_at, dif_neg (by show ¬2 + t.val / 4 % 2 < 2; omega)]
    refine (block m c t ho ht a b).trans ?_
    have e3 : (2 + t.val / 4 % 2 - 2) * 2816 + (t.val / 2 % 2 * 1408 + b.val) = t.val / 2 % 4 * 1408 + b.val := by omega
    simp only [e3]
  rw [H]
  funext i
  obtain ⟨s, a, b, rfl⟩ : ∃ (s : Fin 4) (a : Fin 2048) (b : Fin 2816), i = ix3 s a b := ⟨i 0, i 1, i 2, by funext k; fin_cases k <;> rfl⟩
  by_cases h : 2 ≤ s.val
  · exact if_pos h
  · refine (if_neg h).trans ?_
    rw [V_z, ref_at, dif_pos (by omega)]

end Cert.InDwIdeal.Value
-- ==== Proof.InDwAVal.lean ====
/- The weights' gradient of the feed-forward's first product, for the half of the gate's argument: the call's array is the reference's. -/
module

public import proofs.«01_k».proof.Proof.Gen.InDwAIdeal.Value
public import proofs.«01_k».proof.Proof.Gen.InDwARefIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InDwAIdeal.Value

open Cert.InDwAIdeal Cert.InDwAIdeal.Gen

variable (m : (ℓ : Loc nD τ sig) → Buf (Elt Ideal) ℓ) (c : Dev nD)

/-- The inputs, as launched. -/
abbrev aH : FVec Ideal S4096x2048 .bf16 := m ((c : Thread nD τ).loc main_arg0)
/-- The cotangent, as launched. -/
abbrev aD : FVec Ideal S4096x5632 .bf16 := m ((c : Thread nD τ).loc main_arg1)
/-- The buffer that takes the gradient, as launched. -/
abbrev aZ : FVec Ideal S4x2048x2816 .bf16 := m ((c : Thread nD τ).loc main_arg2)

section terms
variable {F : FTy → Type} [FloatOps F]
variable (m : (ℓ : Loc nD τ sig) → Buf (Elt F) ℓ) (c : Dev nD)
/-- The result's buffer, as the call finds it. -/
theorem V_z : V m c main_v0 = m ((c : Thread nD τ).loc main_arg2) := by
  unfold V; after_reads_simp; rfl
end terms

theorem idx : ∀ t : Fin cfg0.N, win0_0.index t = ![t.val % 2, t.val / 8] ∧ win0_1.index t = ![t.val % 2, t.val / 2 % 4]
    ∧ win0_2.index t = ![t.val / 4 % 2, t.val / 8, t.val / 2 % 2] ∧ t.val / 8 < 2 :=
  (by decide +kernel : ∀ t : Fin grid0.N, _)

variable (t : Fin cfg0.N)

/-- The point's block of inputs. -/
abbrev hB : FVec Ideal S2048x1024 .bf16 := iblk m c 0 t
/-- The point's block of the cotangent. -/
abbrev dB : FVec Ideal S2048x1408 .bf16 := iblk m c 1 t

theorem hB_at (k : Fin 2048) (a : Fin 1024) (ht : t.val / 8 < 2) : hB m c t (ix2 k a)
    = aH m c (ix2 ⟨t.val % 2 * 2048 + k.val, by omega⟩ ⟨t.val / 8 * 1024 + a.val, by omega⟩) := by
  have key : ∀ Z : FVec Ideal S4096x2048 .bf16, ((cfg0.win 0).blk t).view.read (Elt Ideal) Z (ix2 k a)
      = Z (ix2 ⟨t.val % 2 * 2048 + k.val, by omega⟩ ⟨t.val / 8 * 1024 + a.val, by omega⟩) := by
    intro Z
    blk_ext [idx t]
  refine (key (V m c main_arg0)).trans ?_
  rw [V_main_arg0]

theorem dB_at (k : Fin 2048) (b : Fin 1408) : dB m c t (ix2 k b)
    = aD m c (ix2 ⟨t.val % 2 * 2048 + k.val, by omega⟩ ⟨t.val / 2 % 4 * 1408 + b.val, by omega⟩) := by
  have key : ∀ Z : FVec Ideal S4096x5632 .bf16, ((cfg0.win 1).blk t).view.read (Elt Ideal) Z (ix2 k b)
      = Z (ix2 ⟨t.val % 2 * 2048 + k.val, by omega⟩ ⟨t.val / 2 % 4 * 1408 + b.val, by omega⟩) := by
    intro Z
    blk_ext [idx t]
  refine (key (V m c main_arg1)).trans ?_
  rw [V_main_arg1]

/-- The accumulator after a block's first point: the products of the first half of the tokens. -/
theorem first (h : t.val % 2 = 0) (a : Fin 1024) (b : Fin 1408) : (outsAt0 m c t.val t.isLt).2 (ix2 a b)
    = ∑ k : Fin 2048, hB m c t (ix2 k a) * dB m c t (ix2 k b) := by
  rw [outsAt0_A m c t h (by omega) (by omega)]; frame_out
  pointwise [k0_pay1]

/-- The block after its last point: the accumulator and the products of the second half of the tokens. -/
theorem last (h : t.val % 2 = 1) (a : Fin 1024) (b : Fin 1408) : (outsAt0 m c t.val t.isLt).1 (ix3 0 a b)
    = (show EReal from (outsAt0 m c (t.val - 1) (Nat.lt_of_le_of_lt (Nat.sub_le _ _) t.isLt)).2 (ix2 a b))
      + ∑ k : Fin 2048, hB m c t (ix2 k a) * dB m c t (ix2 k b) := by
  rw [outsAt0_B m c t (by omega) h h]; frame_out
  pointwise [k0_pay2, k0_pay3]
  exact congrArg (· + _) (congrFun (read_unread_whole _ _ _) _)

/-- The reference's result at an index. -/
theorem ref_at (X0 : FVec Ideal S4096x2048 .bf16) (X1 : FVec Ideal S4096x5632 .bf16) (X2 : FVec Ideal S4x2048x2816 .bf16)
    (s : Fin 4) (a : Fin 2048) (b : Fin 2816) :
    Cert.InDwARefIdeal.Read.val_main_v10 (F := Ideal) X0 X1 X2 (ix3 s a b)
      = if h : s.val < 2 then ∑ k : Fin 4096, X1 (ix2 k ⟨s.val * 2816 + b.val, by omega⟩) * X0 (ix2 k a) else X2 (ix3 s a b) := by
  open Cert.InDwARefIdeal.Read in
  pointwise [val_main_v10, val_main_v9, val_main_v8, val_main_v7, val_main_v6, val_main_v5, val_main_v4, val_main_v3, val_main_v1]
  by_cases h : s.val < 2
  · rw [dif_pos h, dif_pos h]
  · rw [dif_neg h, dif_neg h]
    have e : (⟨2 + (s.val - 2), by omega⟩ : Fin 4) = s := Fin.ext (by show 2 + (s.val - 2) = s.val; omega)
    rw [e]

/-- What a block holds after its last point. -/
theorem block (ho : t.val % 2 = 1) (ht : t.val / 8 < 2) (a : Fin 1024) (b : Fin 1408) : (outsAt0 m c t.val t.isLt).1 (ix3 0 a b)
    = ∑ k : Fin 4096, aD m c (ix2 k ⟨t.val / 2 % 4 * 1408 + b.val, by omega⟩) * aH m c (ix2 k ⟨t.val / 8 * 1024 + a.val, by omega⟩) := by
  refine (last m c t ho a b).trans ?_
  have hp : t.val - 1 < cfg0.N := Nat.lt_of_le_of_lt (Nat.sub_le _ _) t.isLt
  have ef := first m c ⟨t.val - 1, hp⟩ (by show (t.val - 1) % 2 = 0; omega) a b
  have ht' : (⟨t.val - 1, hp⟩ : Fin cfg0.N).val / 8 < 2 := by show (t.val - 1) / 8 < 2; omega
  refine (congrArg (· + _) ef).trans ?_
  rw [Fin.sum_univ_two_halves 2048 2048 rfl]
  refine congrArg₂ (· + ·) (Finset.sum_congr rfl fun k _ => ?_) (Finset.sum_congr rfl fun k _ => ?_)
  · rw [hB_at m c _ k a ht', dB_at, mul_comm]
    have e1 : (t.val - 1) % 2 = 0 := by omega
    have e2 : (t.val - 1) / 8 = t.val / 8 := by omega
    have e3 : (t.val - 1) / 2 % 4 = t.val / 2 % 4 := by omega
    simp only [e1, e2, e3, Nat.zero_mul, Nat.zero_add]
  · rw [hB_at m c _ k a ht, dB_at, mul_comm]
    simp only [ho, Nat.one_mul]

/-- The array after the run is the reference's. -/
theorem final : (dats m 0 c).arrAt 2 cfg0.N = Cert.InDwARefIdeal.Read.val_main_v10 (F := Ideal) (aH m c) (aD m c) (aZ m c) := by
  have H : (dats m 0 c).arrAt 2 cfg0.N = fun i => if (i 0 : ℕ) < 2 then Cert.InDwARefIdeal.Read.val_main_v10 (F := Ideal) (aH m c) (aD m c) (aZ m c) i
      else V m c main_v0 i := by
    refine (dats m 0 c).arrAt_eq_of_coversWhere 2 _ (fun β => β 0 < 2) (by decide +kernel) (fun t hf y => ?_)
      (fun j => by blk_simp [Pipeline.Window.cell_apply]; rw [Nat.div_one])
    blk_simp
    rw [after0_2]
    have ht : t.val / 8 < 2 := (idx t).2.2.2
    have ho : t.val % 2 = 1 := (flush0_2 t).mp hf
    obtain ⟨a, b, rfl⟩ : ∃ (a : Fin 1024) (b : Fin 1408), y = ix3 0 a b := ⟨y 1, y 2, by funext k; fin_cases k; exact Subsingleton.elim (α := Fin 1) _ _; rfl; rfl⟩
    have e : (win0_2.blk t).view.emb (ix3 0 a b) = ix3 ⟨t.val / 4 % 2, by omega⟩ ⟨t.val / 8 * 1024 + a.val, by omega⟩ ⟨t.val / 2 % 2 * 1408 + b.val, by omega⟩ := by
      blk_ext [idx t]
    rw [e, ref_at, dif_pos (by show t.val / 4 % 2 < 2; omega)]
    refine (block m c t ho ht a b).trans ?_
    have e3 : t.val / 4 % 2 * 2816 + (t.val / 2 % 2 * 1408 + b.val) = t.val / 2 % 4 * 1408 + b.val := by omega
    simp only [e3]
  rw [H]
  funext i
  obtain ⟨s, a, b, rfl⟩ : ∃ (s : Fin 4) (a : Fin 2048) (b : Fin 2816), i = ix3 s a b := ⟨i 0, i 1, i 2, by funext k; fin_cases k <;> rfl⟩
  by_cases h : s.val < 2
  · exact if_pos h
  · refine (if_neg h).trans ?_
    rw [V_z, ref_at, dif_neg h]

end Cert.InDwAIdeal.Value
-- ==== Proof.Logistic.lean ====
/- The logistic function as the programs compute it, and the constants they print. -/
module

public import Idealize.ShloMosaic.Lib.Pipeline.ValueKit
public import Idealize.ShloMosaic.Lib.Pointwise

@[expose] public section

noncomputable section

open Idealize.ShloMosaic

namespace Cert.Core

/-- The logistic function as the programs compute it. -/
def sg (x : EReal) : EReal := Ideal.div 1 (1 + Ideal.exp (-x))

theorem one_f32 : Ideal.ofBits .f32 0x3F800000#32 = 1 := by simp [Ideal.ofBits, Ideal.ieee, -EReal.coe_mul]; norm_num
theorem zero_f32 : Ideal.ofBits .f32 0x00000000#32 = 0 := by simp [Ideal.ofBits, Ideal.ieee]

end Cert.Core
-- ==== Proof.FfnInVal.lean ====
/- The feed-forward's first product and its gate: the call's three arrays are the reference's. -/
module

public import proofs.«01_k».proof.Proof.Gen.FfnInIdeal.Value
public import proofs.«01_k».proof.Proof.Gen.FfnInRefIdeal.Read
public import proofs.«01_k».proof.Proof.Logistic
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnInIdeal.Value

open Cert.Core (sg one_f32 zero_f32)
open Cert.FfnInIdeal Cert.FfnInIdeal.Gen

variable (m : (ℓ : Loc nD τ sig) → Buf (Elt Ideal) ℓ) (c : Dev nD)

/-- The inputs, as launched. -/
abbrev aH : FVec Ideal S4096x2048 .bf16 := m ((c : Thread nD τ).loc main_arg0)
/-- The weights, as launched. -/
abbrev aW : FVec Ideal S2048x11264 .bf16 := m ((c : Thread nD τ).loc main_arg1)

section terms
variable {F : FTy → Type} [FloatOps F]
variable (m : (ℓ : Loc nD τ sig) → Buf (Elt F) ℓ) (c : Dev nD)
/-- The operand's columns from 0, as the call finds them. -/
theorem V_wa : V m c main_v0 = extractStridedSlice S2048x5632 ![0, 0] (m ((c : Thread nD τ).loc main_arg1)) slices_S2048x11264_S2048x5632_0_0 := by
  unfold V; after_reads_simp
/-- The operand's columns from 5632, as the call finds them. -/
theorem V_wb : V m c main_v1 = extractStridedSlice S2048x5632 ![0, 5632] (m ((c : Thread nD τ).loc main_arg1)) slices_S2048x11264_S2048x5632_0_5632 := by
  unfold V; after_reads_simp
end terms

theorem slice_wa (X : FVec Ideal S2048x11264 .bf16) (a : Fin 2048) (b : Fin 5632) :
    extractStridedSlice S2048x5632 ![0, 0] X slices_S2048x11264_S2048x5632_0_0 (ix2 a b) = X (ix2 a ⟨0 + b.val, by omega⟩) := by
  pointwise

theorem slice_wb (X : FVec Ideal S2048x11264 .bf16) (a : Fin 2048) (b : Fin 5632) :
    extractStridedSlice S2048x5632 ![0, 5632] X slices_S2048x11264_S2048x5632_0_5632 (ix2 a b) = X (ix2 a ⟨5632 + b.val, by omega⟩) := by
  pointwise

theorem idx : ∀ t : Fin cfg0.N, win0_0.index t = ![t.val / 11, 0]
    ∧ win0_1.index t = ![0, t.val % 11]
    ∧ win0_2.index t = ![0, t.val % 11]
    ∧ win0_3.index t = ![t.val / 11, t.val % 11]
    ∧ win0_4.index t = ![t.val / 11, t.val % 11]
    ∧ win0_5.index t = ![t.val / 11, t.val % 11] ∧ t.val / 11 < 4 :=
  (by decide +kernel : ∀ t : Fin grid0.N, _)

variable (t : Fin cfg0.N)

theorem bound : t.val / 11 < 4 := (idx t).2.2.2.2.2.2

/-- The array's row of a block's row. -/
def row (t : Fin cfg0.N) (a : Fin 1024) : Fin 4096 := ⟨t.val / 11 * 1024 + a.val, by have := bound t; omega⟩
/-- The array's column of a block's column. -/
def col (t : Fin cfg0.N) (b : Fin 512) : Fin 5632 := ⟨t.val % 11 * 512 + b.val, by omega⟩

/-- The point's block of an operand. -/
abbrev hB : FVec Ideal S1024x2048 .bf16 := iblk m c 0 t

theorem hB_at (a : Fin 1024) (k : Fin 2048) : hB m c t (ix2 a k) = aH m c (ix2 (row t a) k) := by
  have key : ∀ Z : FVec Ideal S4096x2048 .bf16, ((cfg0.win 0).blk t).view.read (Elt Ideal) Z (ix2 a k) = Z (ix2 ⟨t.val / 11 * 1024 + a.val, by have := bound t; omega⟩ k) := by
    intro Z
    blk_ext [idx t]
  refine (key (V m c main_arg0)).trans ?_
  rw [V_main_arg0]
  rfl

/-- The point's block of an operand. -/
abbrev waB : FVec Ideal S2048x512 .bf16 := iblk m c 1 t

theorem waB_at (k : Fin 2048) (b : Fin 512) : waB m c t (ix2 k b) = aW m c (ix2 k ⟨0 + (col t b).val, by omega⟩) := by
  have key : ∀ Z : FVec Ideal S2048x5632 .bf16, ((cfg0.win 1).blk t).view.read (Elt Ideal) Z (ix2 k b) = Z (ix2 k ⟨t.val % 11 * 512 + b.val, by omega⟩) := by
    intro Z
    blk_ext [idx t]
  refine (key (V m c main_v0)).trans ?_
  rw [V_wa, slice_wa]
  rfl

/-- The point's block of an operand. -/
abbrev wbB : FVec Ideal S2048x512 .bf16 := iblk m c 2 t

theorem wbB_at (k : Fin 2048) (b : Fin 512) : wbB m c t (ix2 k b) = aW m c (ix2 k ⟨5632 + (col t b).val, by omega⟩) := by
  have key : ∀ Z : FVec Ideal S2048x5632 .bf16, ((cfg0.win 2).blk t).view.read (Elt Ideal) Z (ix2 k b) = Z (ix2 k ⟨t.val % 11 * 512 + b.val, by omega⟩) := by
    intro Z
    blk_ext [idx t]
  refine (key (V m c main_v1)).trans ?_
  rw [V_wb, slice_wb]
  rfl

/-- A row of the product of the operands. -/
def dot0 (X : FVec Ideal S4096x2048 .bf16) (Y : FVec Ideal S2048x11264 .bf16) (a : Fin 4096) (b : Fin 5632) : EReal :=
  ∑ k : Fin 2048, X (ix2 a k) * Y (ix2 k ⟨0 + b.val, by omega⟩)

theorem dot0_at (a : Fin 1024) (b : Fin 512) :
    (∑ k : Fin 2048, hB m c t (ix2 a k) * waB m c t (ix2 k b)) = dot0 (aH m c) (aW m c) (row t a) (col t b) := by
  unfold dot0
  exact Finset.sum_congr rfl fun k _ => congrArg₂ (· * ·) (hB_at m c t a k) (waB_at m c t k b)

/-- A row of the product of the operands. -/
def dot1 (X : FVec Ideal S4096x2048 .bf16) (Y : FVec Ideal S2048x11264 .bf16) (a : Fin 4096) (b : Fin 5632) : EReal :=
  ∑ k : Fin 2048, X (ix2 a k) * Y (ix2 k ⟨5632 + b.val, by omega⟩)

theorem dot1_at (a : Fin 1024) (b : Fin 512) :
    (∑ k : Fin 2048, hB m c t (ix2 a k) * wbB m c t (ix2 k b)) = dot1 (aH m c) (aW m c) (row t a) (col t b) := by
  unfold dot1
  exact Finset.sum_congr rfl fun k _ => congrArg₂ (· * ·) (hB_at m c t a k) (wbB_at m c t k b)

theorem out3_at (x0 : FVec Ideal S1024x2048 .bf16) (x1 : FVec Ideal S2048x512 .bf16) (x2 : FVec Ideal S2048x512 .bf16) (a : Fin 1024) (b : Fin 512) :
    out0_3 (F := Ideal) x0 x1 x2 (ix2 a b) = (∑ k : Fin 2048, x0 (ix2 a k) * x1 (ix2 k b)) := by
  frame_out
  pointwise [k0_pay1, k0_pay2, k0_pay3, k0_pay4, k0_pay5, sg, one_f32, zero_f32, zero_sub]

theorem ref3_at (X0 : FVec Ideal S4096x2048 .bf16) (X1 : FVec Ideal S2048x11264 .bf16) (a : Fin 4096) (b : Fin 5632) :
    Cert.FfnInRefIdeal.Read.val_main_v5 (F := Ideal) X0 X1 (ix2 a b) = dot0 X0 X1 a b := by
  open Cert.FfnInRefIdeal.Read in
  pointwise [val_main_v5, val_main_v4, val_main_v3, val_main_v2, val_main_v1, val_main_v0, dot0, dot1, sg, one_f32, zero_f32, zero_sub]

/-- The array after the run is the reference's. -/
theorem arr3 : (dats m 0 c).arrAt 3 cfg0.N = Cert.FfnInRefIdeal.Read.val_main_v5 (F := Ideal) (aH m c) (aW m c) :=
  (dats m 0 c).arrAt_eq_of_covers 3 _ (by decide +kernel) fun t hf y => by
    blk_simp
    rw [after0_3]
    have ht := bound t
    obtain ⟨a, b, rfl⟩ : ∃ (a : Fin 1024) (b : Fin 512), y = ix2 a b := ⟨y 0, y 1, by funext k; fin_cases k <;> rfl⟩
    have e : (win0_3.blk t).view.emb (ix2 a b) = ix2 (row t a) (col t b) := by
      simp only [row, col]
      blk_ext [idx t]
    rw [e, ref3_at]
    refine (out3_at (hB m c t) (waB m c t) (wbB m c t) a b).trans ?_
    rw [dot0_at m c t a b]

theorem out4_at (x0 : FVec Ideal S1024x2048 .bf16) (x1 : FVec Ideal S2048x512 .bf16) (x2 : FVec Ideal S2048x512 .bf16) (a : Fin 1024) (b : Fin 512) :
    out0_4 (F := Ideal) x0 x1 x2 (ix2 a b) = (∑ k : Fin 2048, x0 (ix2 a k) * x2 (ix2 k b)) := by
  frame_out
  pointwise [k0_pay1, k0_pay2, k0_pay3, k0_pay4, k0_pay5, sg, one_f32, zero_f32, zero_sub]

theorem ref4_at (X0 : FVec Ideal S4096x2048 .bf16) (X1 : FVec Ideal S2048x11264 .bf16) (a : Fin 4096) (b : Fin 5632) :
    Cert.FfnInRefIdeal.Read.val_main_v6 (F := Ideal) X0 X1 (ix2 a b) = dot1 X0 X1 a b := by
  open Cert.FfnInRefIdeal.Read in
  pointwise [val_main_v6, val_main_v5, val_main_v4, val_main_v3, val_main_v2, val_main_v1, val_main_v0, dot0, dot1, sg, one_f32, zero_f32, zero_sub]

/-- The array after the run is the reference's. -/
theorem arr4 : (dats m 0 c).arrAt 4 cfg0.N = Cert.FfnInRefIdeal.Read.val_main_v6 (F := Ideal) (aH m c) (aW m c) :=
  (dats m 0 c).arrAt_eq_of_covers 4 _ (by decide +kernel) fun t hf y => by
    blk_simp
    rw [after0_4]
    have ht := bound t
    obtain ⟨a, b, rfl⟩ : ∃ (a : Fin 1024) (b : Fin 512), y = ix2 a b := ⟨y 0, y 1, by funext k; fin_cases k <;> rfl⟩
    have e : (win0_4.blk t).view.emb (ix2 a b) = ix2 (row t a) (col t b) := by
      simp only [row, col]
      blk_ext [idx t]
    rw [e, ref4_at]
    refine (out4_at (hB m c t) (waB m c t) (wbB m c t) a b).trans ?_
    rw [dot1_at m c t a b]

theorem out5_at (x0 : FVec Ideal S1024x2048 .bf16) (x1 : FVec Ideal S2048x512 .bf16) (x2 : FVec Ideal S2048x512 .bf16) (a : Fin 1024) (b : Fin 512) :
    out0_5 (F := Ideal) x0 x1 x2 (ix2 a b) = (∑ k : Fin 2048, x0 (ix2 a k) * x1 (ix2 k b)) * sg (∑ k : Fin 2048, x0 (ix2 a k) * x1 (ix2 k b)) * (∑ k : Fin 2048, x0 (ix2 a k) * x2 (ix2 k b)) := by
  frame_out
  pointwise [k0_pay1, k0_pay2, k0_pay3, k0_pay4, k0_pay5, sg, one_f32, zero_f32, zero_sub]

theorem ref5_at (X0 : FVec Ideal S4096x2048 .bf16) (X1 : FVec Ideal S2048x11264 .bf16) (a : Fin 4096) (b : Fin 5632) :
    Cert.FfnInRefIdeal.Read.val_main_v9 (F := Ideal) X0 X1 (ix2 a b) = dot0 X0 X1 a b * sg (dot0 X0 X1 a b) * dot1 X0 X1 a b := by
  open Cert.FfnInRefIdeal.Read in
  pointwise [val_main_v9, val_main_v8, val_main_v7, val_main_call0_v5, val_main_call0_v4, val_main_call0_cst_0, val_main_call0_v3, val_main_call0_v2, val_main_call0_cst, val_main_call0_v1, val_main_call0_v0, val_main_v6, val_main_v5, val_main_v4, val_main_v3, val_main_v2, val_main_v1, val_main_v0, dot0, dot1, sg, one_f32, zero_f32, zero_sub]

/-- The array after the run is the reference's. -/
theorem arr5 : (dats m 0 c).arrAt 5 cfg0.N = Cert.FfnInRefIdeal.Read.val_main_v9 (F := Ideal) (aH m c) (aW m c) :=
  (dats m 0 c).arrAt_eq_of_covers 5 _ (by decide +kernel) fun t hf y => by
    blk_simp
    rw [after0_5]
    have ht := bound t
    obtain ⟨a, b, rfl⟩ : ∃ (a : Fin 1024) (b : Fin 512), y = ix2 a b := ⟨y 0, y 1, by funext k; fin_cases k <;> rfl⟩
    have e : (win0_5.blk t).view.emb (ix2 a b) = ix2 (row t a) (col t b) := by
      simp only [row, col]
      blk_ext [idx t]
    rw [e, ref5_at]
    refine (out5_at (hB m c t) (waB m c t) (wbB m c t) a b).trans ?_
    rw [dot0_at m c t a b, dot1_at m c t a b]

end Cert.FfnInIdeal.Value
-- ==== Proof.OutProjVal.lean ====
/- The output projection and its gated residual: the call's two arrays are the reference's. -/
module

public import proofs.«01_k».proof.Proof.Gen.OutProjIdeal.Value
public import proofs.«01_k».proof.Proof.Gen.OutProjRefIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutProjIdeal.Value

open Cert.OutProjIdeal Cert.OutProjIdeal.Gen

variable (m : (ℓ : Loc nD τ sig) → Buf (Elt Ideal) ℓ) (c : Dev nD)

/-- The merged branches, as launched. -/
abbrev aM : FVec Ideal S4096x2048 .bf16 := m ((c : Thread nD τ).loc main_arg0)
/-- The weights, as launched. -/
abbrev aW : FVec Ideal S2048x2048 .bf16 := m ((c : Thread nD τ).loc main_arg1)
/-- The residual, as launched. -/
abbrev aX : FVec Ideal S4096x2048 .f32 := m ((c : Thread nD τ).loc main_arg2)
/-- The gate, as launched. -/
abbrev aG : FVec Ideal S1x2048 .f32 := m ((c : Thread nD τ).loc main_arg3)

theorem idx : ∀ t : Fin cfg0.N, win0_0.index t = ![t.val / 2, 0]
    ∧ win0_1.index t = ![0, t.val % 2]
    ∧ win0_2.index t = ![t.val / 2, t.val % 2]
    ∧ win0_3.index t = ![0, t.val % 2]
    ∧ win0_4.index t = ![t.val / 2, t.val % 2]
    ∧ win0_5.index t = ![t.val / 2, t.val % 2] ∧ t.val / 2 < 4 :=
  (by decide +kernel : ∀ t : Fin grid0.N, _)

variable (t : Fin cfg0.N)

theorem bound : t.val / 2 < 4 := (idx t).2.2.2.2.2.2

/-- The array's row of a block's row. -/
def row (t : Fin cfg0.N) (a : Fin 1024) : Fin 4096 := ⟨t.val / 2 * 1024 + a.val, by have := bound t; omega⟩
/-- The array's column of a block's column. -/
def col (t : Fin cfg0.N) (b : Fin 1024) : Fin 2048 := ⟨t.val % 2 * 1024 + b.val, by omega⟩

/-- The point's block of an operand. -/
abbrev pB : FVec Ideal S1024x2048 .bf16 := iblk m c 0 t

theorem pB_at (a : Fin 1024) (k : Fin 2048) : pB m c t (ix2 a k) = aM m c (ix2 (row t a) k) := by
  have key : ∀ Z : FVec Ideal S4096x2048 .bf16, ((cfg0.win 0).blk t).view.read (Elt Ideal) Z (ix2 a k) = Z (ix2 ⟨t.val / 2 * 1024 + a.val, by have := bound t; omega⟩ k) := by
    intro Z
    blk_ext [idx t]
  refine (key (V m c main_arg0)).trans ?_
  rw [V_main_arg0]
  rfl

/-- The point's block of an operand. -/
abbrev wB : FVec Ideal S2048x1024 .bf16 := iblk m c 1 t

theorem wB_at (k : Fin 2048) (b : Fin 1024) : wB m c t (ix2 k b) = aW m c (ix2 k (col t b)) := by
  have key : ∀ Z : FVec Ideal S2048x2048 .bf16, ((cfg0.win 1).blk t).view.read (Elt Ideal) Z (ix2 k b) = Z (ix2 k ⟨t.val % 2 * 1024 + b.val, by omega⟩) := by
    intro Z
    blk_ext [idx t]
  refine (key (V m c main_arg1)).trans ?_
  rw [V_main_arg1]
  rfl

/-- The point's block of an operand. -/
abbrev xB : FVec Ideal S1024x1024 .f32 := iblk m c 2 t

theorem xB_at (a : Fin 1024) (b : Fin 1024) : xB m c t (ix2 a b) = aX m c (ix2 (row t a) (col t b)) := by
  have key : ∀ Z : FVec Ideal S4096x2048 .f32, ((cfg0.win 2).blk t).view.read (Elt Ideal) Z (ix2 a b) = Z (ix2 ⟨t.val / 2 * 1024 + a.val, by have := bound t; omega⟩ ⟨t.val % 2 * 1024 + b.val, by omega⟩) := by
    intro Z
    blk_ext [idx t]
  refine (key (V m c main_arg2)).trans ?_
  rw [V_main_arg2]
  rfl

/-- The point's block of an operand. -/
abbrev gB : FVec Ideal S1x1024 .f32 := iblk m c 3 t

theorem gB_at (b : Fin 1024) : gB m c t (ix2 0 b) = aG m c (ix2 0 (col t b)) := by
  have key : ∀ Z : FVec Ideal S1x2048 .f32, ((cfg0.win 3).blk t).view.read (Elt Ideal) Z (ix2 0 b) = Z (ix2 0 ⟨t.val % 2 * 1024 + b.val, by omega⟩) := by
    intro Z
    blk_ext [idx t]
  refine (key (V m c main_arg3)).trans ?_
  rw [V_main_arg3]
  rfl

/-- A row of the product of the operands. -/
def dot0 (X : FVec Ideal S4096x2048 .bf16) (Y : FVec Ideal S2048x2048 .bf16) (a : Fin 4096) (b : Fin 2048) : EReal :=
  ∑ k : Fin 2048, X (ix2 a k) * Y (ix2 k b)

theorem dot0_at (a : Fin 1024) (b : Fin 1024) :
    (∑ k : Fin 2048, pB m c t (ix2 a k) * wB m c t (ix2 k b)) = dot0 (aM m c) (aW m c) (row t a) (col t b) := by
  unfold dot0
  exact Finset.sum_congr rfl fun k _ => congrArg₂ (· * ·) (pB_at m c t a k) (wB_at m c t k b)

theorem out4_at (x0 : FVec Ideal S1024x2048 .bf16) (x1 : FVec Ideal S2048x1024 .bf16) (x2 : FVec Ideal S1024x1024 .f32) (x3 : FVec Ideal S1x1024 .f32) (a : Fin 1024) (b : Fin 1024) :
    out0_4 (F := Ideal) x0 x1 x2 x3 (ix2 a b) = x2 (ix2 a b) + x3 (ix2 0 b) * (∑ k : Fin 2048, x0 (ix2 a k) * x1 (ix2 k b)) := by
  frame_out
  pointwise [k0_pay1, k0_pay2, k0_pay3]

theorem ref4_at (X0 : FVec Ideal S4096x2048 .bf16) (X1 : FVec Ideal S2048x2048 .bf16) (X2 : FVec Ideal S4096x2048 .f32) (X3 : FVec Ideal S1x2048 .f32) (a : Fin 4096) (b : Fin 2048) :
    Cert.OutProjRefIdeal.Read.val_main_v5 (F := Ideal) X0 X1 X2 X3 (ix2 a b) = X2 (ix2 a b) + X3 (ix2 0 b) * dot0 X0 X1 a b := by
  open Cert.OutProjRefIdeal.Read in
  pointwise [val_main_v5, val_main_v4, val_main_v3, val_main_v2, val_main_v1, val_main_v0, dot0]

/-- The array after the run is the reference's. -/
theorem arr4 : (dats m 0 c).arrAt 4 cfg0.N = Cert.OutProjRefIdeal.Read.val_main_v5 (F := Ideal) (aM m c) (aW m c) (aX m c) (aG m c) :=
  (dats m 0 c).arrAt_eq_of_covers 4 _ (by decide +kernel) fun t hf y => by
    blk_simp
    rw [after0_4]
    have ht := bound t
    obtain ⟨a, b, rfl⟩ : ∃ (a : Fin 1024) (b : Fin 1024), y = ix2 a b := ⟨y 0, y 1, by funext k; fin_cases k <;> rfl⟩
    have e : (win0_4.blk t).view.emb (ix2 a b) = ix2 (row t a) (col t b) := by
      simp only [row, col]
      blk_ext [idx t]
    rw [e, ref4_at]
    refine (out4_at (pB m c t) (wB m c t) (xB m c t) (gB m c t) a b).trans ?_
    rw [dot0_at m c t a b, xB_at m c t a b, gB_at m c t b]

theorem out5_at (x0 : FVec Ideal S1024x2048 .bf16) (x1 : FVec Ideal S2048x1024 .bf16) (x2 : FVec Ideal S1024x1024 .f32) (x3 : FVec Ideal S1x1024 .f32) (a : Fin 1024) (b : Fin 1024) :
    out0_5 (F := Ideal) x0 x1 x2 x3 (ix2 a b) = (∑ k : Fin 2048, x0 (ix2 a k) * x1 (ix2 k b)) := by
  frame_out
  pointwise [k0_pay1, k0_pay2, k0_pay3]

theorem ref5_at (X0 : FVec Ideal S4096x2048 .bf16) (X1 : FVec Ideal S2048x2048 .bf16) (a : Fin 4096) (b : Fin 2048) :
    Cert.OutProjRefIdeal.Read.val_main_v6 (F := Ideal) X0 X1 (ix2 a b) = dot0 X0 X1 a b := by
  open Cert.OutProjRefIdeal.Read in
  pointwise [val_main_v6, val_main_v5, val_main_v4, val_main_v3, val_main_v2, val_main_v1, val_main_v0, dot0]

/-- The array after the run is the reference's. -/
theorem arr5 : (dats m 0 c).arrAt 5 cfg0.N = Cert.OutProjRefIdeal.Read.val_main_v6 (F := Ideal) (aM m c) (aW m c) :=
  (dats m 0 c).arrAt_eq_of_covers 5 _ (by decide +kernel) fun t hf y => by
    blk_simp
    rw [after0_5]
    have ht := bound t
    obtain ⟨a, b, rfl⟩ : ∃ (a : Fin 1024) (b : Fin 1024), y = ix2 a b := ⟨y 0, y 1, by funext k; fin_cases k <;> rfl⟩
    have e : (win0_5.blk t).view.emb (ix2 a b) = ix2 (row t a) (col t b) := by
      simp only [row, col]
      blk_ext [idx t]
    rw [e, ref5_at]
    refine (out5_at (pB m c t) (wB m c t) (xB m c t) (gB m c t) a b).trans ?_
    rw [dot0_at m c t a b]

end Cert.OutProjIdeal.Value
-- ==== Proof.MergeDxVal.lean ====
/- The gradients of the merge of the branches: the call's four arrays are the reference's. -/
module

public import proofs.«01_k».proof.Proof.Gen.MergeDxIdeal.Value
public import proofs.«01_k».proof.Proof.Gen.MergeDxRefIdeal.Read
public import proofs.«01_k».proof.Proof.Logistic
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeDxIdeal.Value

open Cert.Core (sg one_f32 zero_f32)
open Cert.MergeDxIdeal Cert.MergeDxIdeal.Gen

variable (m : (ℓ : Loc nD τ sig) → Buf (Elt Ideal) ℓ) (c : Dev nD)

/-- The cotangent, as launched. -/
abbrev aD : FVec Ideal S4096x2048 .bf16 := m ((c : Thread nD τ).loc main_arg0)
/-- The weights, as launched. -/
abbrev aW : FVec Ideal S2048x2048 .bf16 := m ((c : Thread nD τ).loc main_arg1)
/-- The first branch, as launched. -/
abbrev aA : FVec Ideal S4096x2048 .bf16 := m ((c : Thread nD τ).loc main_arg2)
/-- The second branch, as launched. -/
abbrev aB : FVec Ideal S4096x2048 .bf16 := m ((c : Thread nD τ).loc main_arg3)
/-- The first gate's argument, as launched. -/
abbrev aG : FVec Ideal S4096x2048 .bf16 := m ((c : Thread nD τ).loc main_arg4)
/-- The second gate's argument, as launched. -/
abbrev aE : FVec Ideal S4096x2048 .bf16 := m ((c : Thread nD τ).loc main_arg5)

theorem idx : ∀ t : Fin cfg0.N, win0_0.index t = ![t.val / 4, 0]
    ∧ win0_1.index t = ![t.val % 4, 0]
    ∧ win0_2.index t = ![t.val / 4, t.val % 4]
    ∧ win0_3.index t = ![t.val / 4, t.val % 4]
    ∧ win0_4.index t = ![t.val / 4, t.val % 4]
    ∧ win0_5.index t = ![t.val / 4, t.val % 4]
    ∧ win0_6.index t = ![t.val / 4, t.val % 4]
    ∧ win0_7.index t = ![t.val / 4, t.val % 4]
    ∧ win0_8.index t = ![t.val / 4, t.val % 4]
    ∧ win0_9.index t = ![t.val / 4, t.val % 4] ∧ t.val / 4 < 4 :=
  (by decide +kernel : ∀ t : Fin grid0.N, _)

variable (t : Fin cfg0.N)

theorem bound : t.val / 4 < 4 := (idx t).2.2.2.2.2.2.2.2.2.2

/-- The array's row of a block's row. -/
def row (t : Fin cfg0.N) (a : Fin 1024) : Fin 4096 := ⟨t.val / 4 * 1024 + a.val, by have := bound t; omega⟩
/-- The array's column of a block's column. -/
def col (t : Fin cfg0.N) (b : Fin 512) : Fin 2048 := ⟨t.val % 4 * 512 + b.val, by omega⟩

/-- The point's block of an operand. -/
abbrev dB : FVec Ideal S1024x2048 .bf16 := iblk m c 0 t

theorem dB_at (a : Fin 1024) (k : Fin 2048) : dB m c t (ix2 a k) = aD m c (ix2 (row t a) k) := by
  have key : ∀ Z : FVec Ideal S4096x2048 .bf16, ((cfg0.win 0).blk t).view.read (Elt Ideal) Z (ix2 a k) = Z (ix2 ⟨t.val / 4 * 1024 + a.val, by have := bound t; omega⟩ k) := by
    intro Z
    blk_ext [idx t]
  refine (key (V m c main_arg0)).trans ?_
  rw [V_main_arg0]
  rfl

/-- The point's block of an operand. -/
abbrev wB : FVec Ideal S512x2048 .bf16 := iblk m c 1 t

theorem wB_at (b : Fin 512) (k : Fin 2048) : wB m c t (ix2 b k) = aW m c (ix2 (col t b) k) := by
  have key : ∀ Z : FVec Ideal S2048x2048 .bf16, ((cfg0.win 1).blk t).view.read (Elt Ideal) Z (ix2 b k) = Z (ix2 ⟨t.val % 4 * 512 + b.val, by omega⟩ k) := by
    intro Z
    blk_ext [idx t]
  refine (key (V m c main_arg1)).trans ?_
  rw [V_main_arg1]
  rfl

/-- The point's block of an operand. -/
abbrev pB : FVec Ideal S1024x512 .bf16 := iblk m c 2 t

theorem pB_at (a : Fin 1024) (b : Fin 512) : pB m c t (ix2 a b) = aA m c (ix2 (row t a) (col t b)) := by
  have key : ∀ Z : FVec Ideal S4096x2048 .bf16, ((cfg0.win 2).blk t).view.read (Elt Ideal) Z (ix2 a b) = Z (ix2 ⟨t.val / 4 * 1024 + a.val, by have := bound t; omega⟩ ⟨t.val % 4 * 512 + b.val, by omega⟩) := by
    intro Z
    blk_ext [idx t]
  refine (key (V m c main_arg2)).trans ?_
  rw [V_main_arg2]
  rfl

/-- The point's block of an operand. -/
abbrev qB : FVec Ideal S1024x512 .bf16 := iblk m c 3 t

theorem qB_at (a : Fin 1024) (b : Fin 512) : qB m c t (ix2 a b) = aB m c (ix2 (row t a) (col t b)) := by
  have key : ∀ Z : FVec Ideal S4096x2048 .bf16, ((cfg0.win 3).blk t).view.read (Elt Ideal) Z (ix2 a b) = Z (ix2 ⟨t.val / 4 * 1024 + a.val, by have := bound t; omega⟩ ⟨t.val % 4 * 512 + b.val, by omega⟩) := by
    intro Z
    blk_ext [idx t]
  refine (key (V m c main_arg3)).trans ?_
  rw [V_main_arg3]
  rfl

/-- The point's block of an operand. -/
abbrev gB : FVec Ideal S1024x512 .bf16 := iblk m c 4 t

theorem gB_at (a : Fin 1024) (b : Fin 512) : gB m c t (ix2 a b) = aG m c (ix2 (row t a) (col t b)) := by
  have key : ∀ Z : FVec Ideal S4096x2048 .bf16, ((cfg0.win 4).blk t).view.read (Elt Ideal) Z (ix2 a b) = Z (ix2 ⟨t.val / 4 * 1024 + a.val, by have := bound t; omega⟩ ⟨t.val % 4 * 512 + b.val, by omega⟩) := by
    intro Z
    blk_ext [idx t]
  refine (key (V m c main_arg4)).trans ?_
  rw [V_main_arg4]
  rfl

/-- The point's block of an operand. -/
abbrev eB : FVec Ideal S1024x512 .bf16 := iblk m c 5 t

theorem eB_at (a : Fin 1024) (b : Fin 512) : eB m c t (ix2 a b) = aE m c (ix2 (row t a) (col t b)) := by
  have key : ∀ Z : FVec Ideal S4096x2048 .bf16, ((cfg0.win 5).blk t).view.read (Elt Ideal) Z (ix2 a b) = Z (ix2 ⟨t.val / 4 * 1024 + a.val, by have := bound t; omega⟩ ⟨t.val % 4 * 512 + b.val, by omega⟩) := by
    intro Z
    blk_ext [idx t]
  refine (key (V m c main_arg5)).trans ?_
  rw [V_main_arg5]
  rfl

/-- A row of the product of the operands. -/
def dot0 (X : FVec Ideal S4096x2048 .bf16) (Y : FVec Ideal S2048x2048 .bf16) (a : Fin 4096) (b : Fin 2048) : EReal :=
  ∑ k : Fin 2048, X (ix2 a k) * Y (ix2 b k)

theorem dot0_at (a : Fin 1024) (b : Fin 512) :
    (∑ k : Fin 2048, dB m c t (ix2 a k) * wB m c t (ix2 b k)) = dot0 (aD m c) (aW m c) (row t a) (col t b) := by
  unfold dot0
  exact Finset.sum_congr rfl fun k _ => congrArg₂ (· * ·) (dB_at m c t a k) (wB_at m c t b k)

theorem out6_at (x0 : FVec Ideal S1024x2048 .bf16) (x1 : FVec Ideal S512x2048 .bf16) (x2 : FVec Ideal S1024x512 .bf16) (x3 : FVec Ideal S1024x512 .bf16) (x4 : FVec Ideal S1024x512 .bf16) (x5 : FVec Ideal S1024x512 .bf16) (a : Fin 1024) (b : Fin 512) :
    out0_6 (F := Ideal) x0 x1 x2 x3 x4 x5 (ix2 a b) = (∑ k : Fin 2048, x0 (ix2 a k) * x1 (ix2 b k)) * sg (x4 (ix2 a b)) := by
  frame_out
  pointwise [k0_pay1, k0_pay2, k0_pay3, k0_pay4, k0_pay5, k0_pay6, k0_pay7, k0_pay8, k0_pay9, k0_pay10, k0_pay11, k0_pay12, sg, one_f32, zero_f32, zero_sub]

theorem ref6_at (X0 : FVec Ideal S4096x2048 .bf16) (X1 : FVec Ideal S2048x2048 .bf16) (X4 : FVec Ideal S4096x2048 .bf16) (a : Fin 4096) (b : Fin 2048) :
    Cert.MergeDxRefIdeal.Read.val_main_v35 (F := Ideal) X0 X1 X4 (ix2 a b) = sg (X4 (ix2 a b)) * dot0 X0 X1 a b := by
  open Cert.MergeDxRefIdeal.Read in
  pointwise [val_main_v35, val_main_v34, val_main_v33, val_main_v32, val_main_v31, val_main_v30, val_main_v29, val_main_v28, val_main_v27, val_main_v26, val_main_v25, val_main_v24, val_main_v23, val_main_v22, val_main_v21, val_main_v20, val_main_cst_4, val_main_v19, val_main_v18, val_main_cst_3, val_main_v17, val_main_v16, val_main_cst_2, val_main_v15, val_main_v14, val_main_v13, val_main_v12, val_main_v11, val_main_v10, val_main_cst_1, val_main_v9, val_main_v8, val_main_cst_0, val_main_v7, val_main_v6, val_main_cst, val_main_v5, val_main_v4, val_main_v3, val_main_v2, val_main_v1, val_main_v0, dot0, sg, one_f32, zero_f32, zero_sub]

/-- The array after the run is the reference's. -/
theorem arr6 : (dats m 0 c).arrAt 6 cfg0.N = Cert.MergeDxRefIdeal.Read.val_main_v35 (F := Ideal) (aD m c) (aW m c) (aG m c) :=
  (dats m 0 c).arrAt_eq_of_covers 6 _ (by decide +kernel) fun t hf y => by
    blk_simp
    rw [after0_6]
    have ht := bound t
    obtain ⟨a, b, rfl⟩ : ∃ (a : Fin 1024) (b : Fin 512), y = ix2 a b := ⟨y 0, y 1, by funext k; fin_cases k <;> rfl⟩
    have e : (win0_6.blk t).view.emb (ix2 a b) = ix2 (row t a) (col t b) := by
      simp only [row, col]
      blk_ext [idx t]
    rw [e, ref6_at]
    refine (out6_at (dB m c t) (wB m c t) (pB m c t) (qB m c t) (gB m c t) (eB m c t) a b).trans ?_
    rw [dot0_at m c t a b, gB_at m c t a b]
    exact mul_comm _ _

theorem out7_at (x0 : FVec Ideal S1024x2048 .bf16) (x1 : FVec Ideal S512x2048 .bf16) (x2 : FVec Ideal S1024x512 .bf16) (x3 : FVec Ideal S1024x512 .bf16) (x4 : FVec Ideal S1024x512 .bf16) (x5 : FVec Ideal S1024x512 .bf16) (a : Fin 1024) (b : Fin 512) :
    out0_7 (F := Ideal) x0 x1 x2 x3 x4 x5 (ix2 a b) = (∑ k : Fin 2048, x0 (ix2 a k) * x1 (ix2 b k)) * sg (x5 (ix2 a b)) := by
  frame_out
  pointwise [k0_pay1, k0_pay2, k0_pay3, k0_pay4, k0_pay5, k0_pay6, k0_pay7, k0_pay8, k0_pay9, k0_pay10, k0_pay11, k0_pay12, sg, one_f32, zero_f32, zero_sub]

theorem ref7_at (X0 : FVec Ideal S4096x2048 .bf16) (X1 : FVec Ideal S2048x2048 .bf16) (X5 : FVec Ideal S4096x2048 .bf16) (a : Fin 4096) (b : Fin 2048) :
    Cert.MergeDxRefIdeal.Read.val_main_v36 (F := Ideal) X0 X1 X5 (ix2 a b) = sg (X5 (ix2 a b)) * dot0 X0 X1 a b := by
  open Cert.MergeDxRefIdeal.Read in
  pointwise [val_main_v36, val_main_v35, val_main_v34, val_main_v33, val_main_v32, val_main_v31, val_main_v30, val_main_v29, val_main_v28, val_main_v27, val_main_v26, val_main_v25, val_main_v24, val_main_v23, val_main_v22, val_main_v21, val_main_v20, val_main_cst_4, val_main_v19, val_main_v18, val_main_cst_3, val_main_v17, val_main_v16, val_main_cst_2, val_main_v15, val_main_v14, val_main_v13, val_main_v12, val_main_v11, val_main_v10, val_main_cst_1, val_main_v9, val_main_v8, val_main_cst_0, val_main_v7, val_main_v6, val_main_cst, val_main_v5, val_main_v4, val_main_v3, val_main_v2, val_main_v1, val_main_v0, dot0, sg, one_f32, zero_f32, zero_sub]

/-- The array after the run is the reference's. -/
theorem arr7 : (dats m 0 c).arrAt 7 cfg0.N = Cert.MergeDxRefIdeal.Read.val_main_v36 (F := Ideal) (aD m c) (aW m c) (aE m c) :=
  (dats m 0 c).arrAt_eq_of_covers 7 _ (by decide +kernel) fun t hf y => by
    blk_simp
    rw [after0_7]
    have ht := bound t
    obtain ⟨a, b, rfl⟩ : ∃ (a : Fin 1024) (b : Fin 512), y = ix2 a b := ⟨y 0, y 1, by funext k; fin_cases k <;> rfl⟩
    have e : (win0_7.blk t).view.emb (ix2 a b) = ix2 (row t a) (col t b) := by
      simp only [row, col]
      blk_ext [idx t]
    rw [e, ref7_at]
    refine (out7_at (dB m c t) (wB m c t) (pB m c t) (qB m c t) (gB m c t) (eB m c t) a b).trans ?_
    rw [dot0_at m c t a b, eB_at m c t a b]
    exact mul_comm _ _

theorem out8_at (x0 : FVec Ideal S1024x2048 .bf16) (x1 : FVec Ideal S512x2048 .bf16) (x2 : FVec Ideal S1024x512 .bf16) (x3 : FVec Ideal S1024x512 .bf16) (x4 : FVec Ideal S1024x512 .bf16) (x5 : FVec Ideal S1024x512 .bf16) (a : Fin 1024) (b : Fin 512) :
    out0_8 (F := Ideal) x0 x1 x2 x3 x4 x5 (ix2 a b) = (∑ k : Fin 2048, x0 (ix2 a k) * x1 (ix2 b k)) * x2 (ix2 a b) * (sg (x4 (ix2 a b)) * (1 - sg (x4 (ix2 a b)))) := by
  frame_out
  pointwise [k0_pay1, k0_pay2, k0_pay3, k0_pay4, k0_pay5, k0_pay6, k0_pay7, k0_pay8, k0_pay9, k0_pay10, k0_pay11, k0_pay12, sg, one_f32, zero_f32, zero_sub]

theorem ref8_at (X0 : FVec Ideal S4096x2048 .bf16) (X1 : FVec Ideal S2048x2048 .bf16) (X2 : FVec Ideal S4096x2048 .bf16) (X4 : FVec Ideal S4096x2048 .bf16) (a : Fin 4096) (b : Fin 2048) :
    Cert.MergeDxRefIdeal.Read.val_main_v37 (F := Ideal) X0 X1 X2 X4 (ix2 a b) = dot0 X0 X1 a b * X2 (ix2 a b) * (sg (X4 (ix2 a b)) * (1 - sg (X4 (ix2 a b)))) := by
  open Cert.MergeDxRefIdeal.Read in
  pointwise [val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_cst_4, val_main_v19, val_main_v18, val_main_cst_3, val_main_v17, val_main_v16, val_main_cst_2, val_main_v15, val_main_v14, val_main_v13, val_main_v12, val_main_v11, val_main_v10, val_main_cst_1, val_main_v9, val_main_v8, val_main_cst_0, val_main_v7, val_main_v6, val_main_cst, val_main_v5, val_main_v4, val_main_v3, val_main_v2, val_main_v1, val_main_v0, dot0, sg, one_f32, zero_f32, zero_sub]

/-- The array after the run is the reference's. -/
theorem arr8 : (dats m 0 c).arrAt 8 cfg0.N = Cert.MergeDxRefIdeal.Read.val_main_v37 (F := Ideal) (aD m c) (aW m c) (aA m c) (aG m c) :=
  (dats m 0 c).arrAt_eq_of_covers 8 _ (by decide +kernel) fun t hf y => by
    blk_simp
    rw [after0_8]
    have ht := bound t
    obtain ⟨a, b, rfl⟩ : ∃ (a : Fin 1024) (b : Fin 512), y = ix2 a b := ⟨y 0, y 1, by funext k; fin_cases k <;> rfl⟩
    have e : (win0_8.blk t).view.emb (ix2 a b) = ix2 (row t a) (col t b) := by
      simp only [row, col]
      blk_ext [idx t]
    rw [e, ref8_at]
    refine (out8_at (dB m c t) (wB m c t) (pB m c t) (qB m c t) (gB m c t) (eB m c t) a b).trans ?_
    rw [dot0_at m c t a b, pB_at m c t a b, gB_at m c t a b]

theorem out9_at (x0 : FVec Ideal S1024x2048 .bf16) (x1 : FVec Ideal S512x2048 .bf16) (x2 : FVec Ideal S1024x512 .bf16) (x3 : FVec Ideal S1024x512 .bf16) (x4 : FVec Ideal S1024x512 .bf16) (x5 : FVec Ideal S1024x512 .bf16) (a : Fin 1024) (b : Fin 512) :
    out0_9 (F := Ideal) x0 x1 x2 x3 x4 x5 (ix2 a b) = (∑ k : Fin 2048, x0 (ix2 a k) * x1 (ix2 b k)) * x3 (ix2 a b) * (sg (x5 (ix2 a b)) * (1 - sg (x5 (ix2 a b)))) := by
  frame_out
  pointwise [k0_pay1, k0_pay2, k0_pay3, k0_pay4, k0_pay5, k0_pay6, k0_pay7, k0_pay8, k0_pay9, k0_pay10, k0_pay11, k0_pay12, sg, one_f32, zero_f32, zero_sub]

theorem ref9_at (X0 : FVec Ideal S4096x2048 .bf16) (X1 : FVec Ideal S2048x2048 .bf16) (X3 : FVec Ideal S4096x2048 .bf16) (X5 : FVec Ideal S4096x2048 .bf16) (a : Fin 4096) (b : Fin 2048) :
    Cert.MergeDxRefIdeal.Read.val_main_v38 (F := Ideal) X0 X1 X3 X5 (ix2 a b) = dot0 X0 X1 a b * X3 (ix2 a b) * (sg (X5 (ix2 a b)) * (1 - sg (X5 (ix2 a b)))) := by
  open Cert.MergeDxRefIdeal.Read in
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_cst_4, val_main_v19, val_main_v18, val_main_cst_3, val_main_v17, val_main_v16, val_main_cst_2, val_main_v15, val_main_v14, val_main_v13, val_main_v12, val_main_v11, val_main_v10, val_main_cst_1, val_main_v9, val_main_v8, val_main_cst_0, val_main_v7, val_main_v6, val_main_cst, val_main_v5, val_main_v4, val_main_v3, val_main_v2, val_main_v1, val_main_v0, dot0, sg, one_f32, zero_f32, zero_sub]

/-- The array after the run is the reference's. -/
theorem arr9 : (dats m 0 c).arrAt 9 cfg0.N = Cert.MergeDxRefIdeal.Read.val_main_v38 (F := Ideal) (aD m c) (aW m c) (aB m c) (aE m c) :=
  (dats m 0 c).arrAt_eq_of_covers 9 _ (by decide +kernel) fun t hf y => by
    blk_simp
    rw [after0_9]
    have ht := bound t
    obtain ⟨a, b, rfl⟩ : ∃ (a : Fin 1024) (b : Fin 512), y = ix2 a b := ⟨y 0, y 1, by funext k; fin_cases k <;> rfl⟩
    have e : (win0_9.blk t).view.emb (ix2 a b) = ix2 (row t a) (col t b) := by
      simp only [row, col]
      blk_ext [idx t]
    rw [e, ref9_at]
    refine (out9_at (dB m c t) (wB m c t) (pB m c t) (qB m c t) (gB m c t) (eB m c t) a b).trans ?_
    rw [dot0_at m c t a b, qB_at m c t a b, eB_at m c t a b]

end Cert.MergeDxIdeal.Value
-- ==== Proof.MergeDwVal.lean ====
/- The gradient of the output projection's weights: the call's array is the reference's. -/
module

public import proofs.«01_k».proof.Proof.Gen.MergeDwIdeal.Value
public import proofs.«01_k».proof.Proof.Gen.MergeDwRefIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeDwIdeal.Value

open Cert.MergeDwIdeal Cert.MergeDwIdeal.Gen

variable (m : (ℓ : Loc nD τ sig) → Buf (Elt Ideal) ℓ) (c : Dev nD)

/-- The merged branches, as launched. -/
abbrev aH : FVec Ideal S4096x2048 .bf16 := m ((c : Thread nD τ).loc main_arg0)
/-- The cotangent, as launched. -/
abbrev aD : FVec Ideal S4096x2048 .bf16 := m ((c : Thread nD τ).loc main_arg1)

theorem idx : ∀ t : Fin cfg0.N, win0_0.index t = ![t.val % 2, t.val / 4]
    ∧ win0_1.index t = ![t.val % 2, t.val / 2 % 2]
    ∧ win0_2.index t = ![t.val / 4, t.val / 2 % 2] ∧ t.val / 4 < 2 :=
  (by decide +kernel : ∀ t : Fin grid0.N, _)

variable (t : Fin cfg0.N)

theorem bound : t.val / 4 < 2 := (idx t).2.2.2

/-- The token of a block's token. -/
def tok (t : Fin cfg0.N) (k : Fin 2048) : Fin 4096 := ⟨t.val % 2 * 2048 + k.val, by omega⟩
/-- The array's row of a block's row. -/
def row (t : Fin cfg0.N) (a : Fin 1024) : Fin 2048 := ⟨t.val / 4 * 1024 + a.val, by have := bound t; omega⟩
/-- The array's column of a block's column. -/
def col (t : Fin cfg0.N) (b : Fin 1024) : Fin 2048 := ⟨t.val / 2 % 2 * 1024 + b.val, by have := bound t; omega⟩

/-- The point's block of an operand. -/
abbrev bH : FVec Ideal S2048x1024 .bf16 := iblk m c 0 t

theorem bH_at (k : Fin 2048) (a : Fin 1024) : bH m c t (ix2 k a) = aH m c (ix2 (tok t k) (row t a)) := by
  have key : ∀ Z : FVec Ideal S4096x2048 .bf16, ((cfg0.win 0).blk t).view.read (Elt Ideal) Z (ix2 k a)
      = Z (ix2 ⟨t.val % 2 * 2048 + k.val, by omega⟩ ⟨t.val / 4 * 1024 + a.val, by have := bound t; omega⟩) := by
    intro Z
    blk_ext [idx t]
  refine (key (V m c main_arg0)).trans ?_
  rw [V_main_arg0]
  rfl

/-- The point's block of an operand. -/
abbrev bD : FVec Ideal S2048x1024 .bf16 := iblk m c 1 t

theorem bD_at (k : Fin 2048) (b : Fin 1024) : bD m c t (ix2 k b) = aD m c (ix2 (tok t k) (col t b)) := by
  have key : ∀ Z : FVec Ideal S4096x2048 .bf16, ((cfg0.win 1).blk t).view.read (Elt Ideal) Z (ix2 k b)
      = Z (ix2 ⟨t.val % 2 * 2048 + k.val, by omega⟩ ⟨t.val / 2 % 2 * 1024 + b.val, by have := bound t; omega⟩) := by
    intro Z
    blk_ext [idx t]
  refine (key (V m c main_arg1)).trans ?_
  rw [V_main_arg1]
  rfl

/-- The accumulator after a block's first point: the products of the first half of the tokens. -/
theorem first2 (h : t.val % 2 = 0) (a : Fin 1024) (b : Fin 1024) : (outsAt0 m c t.val t.isLt).2 (ix2 a b)
    = ∑ k : Fin 2048, bH m c t (ix2 k a) * bD m c t (ix2 k b) := by
  rw [outsAt0_A m c t h (by omega) (by omega)]; frame_out
  pointwise [k0_pay1, k0_pay2, k0_pay3]

/-- The block after its last point: the accumulator and the products of the second half of the tokens. -/
theorem last2 (h : t.val % 2 = 1) (a : Fin 1024) (b : Fin 1024) : (outsAt0 m c t.val t.isLt).1 (ix2 a b)
    = (show EReal from (outsAt0 m c (t.val - 1) (Nat.lt_of_le_of_lt (Nat.sub_le _ _) t.isLt)).2 (ix2 a b))
      + ∑ k : Fin 2048, bH m c t (ix2 k a) * bD m c t (ix2 k b) := by
  rw [outsAt0_B m c t (by omega) h h]; frame_out
  pointwise [k0_pay1, k0_pay2, k0_pay3]
  exact congrArg (· + _) (congrFun (read_unread_whole _ _ _) _)

/-- What a block holds after its last point. -/
theorem block2 (ho : t.val % 2 = 1) (a : Fin 1024) (b : Fin 1024) : (outsAt0 m c t.val t.isLt).1 (ix2 a b)
    = ∑ k : Fin 4096, aD m c (ix2 k (col t b)) * aH m c (ix2 k (row t a)) := by
  refine (last2 m c t ho a b).trans ?_
  have hp : t.val - 1 < cfg0.N := Nat.lt_of_le_of_lt (Nat.sub_le _ _) t.isLt
  have ef := first2 m c ⟨t.val - 1, hp⟩ (by show (t.val - 1) % 2 = 0; omega) a b
  refine (congrArg (· + _) ef).trans ?_
  have er : row ⟨t.val - 1, hp⟩ a = row t a := by apply Fin.ext; simp only [row] <;> omega
  have ec : col ⟨t.val - 1, hp⟩ b = col t b := by apply Fin.ext; simp only [col] <;> omega
  rw [Fin.sum_univ_two_halves 2048 2048 rfl]
  refine congrArg₂ (· + ·) (Finset.sum_congr rfl fun k _ => ?_) (Finset.sum_congr rfl fun k _ => ?_)
  · rw [bH_at, bD_at, mul_comm, er, ec]
    have ek : tok ⟨t.val - 1, hp⟩ k = ⟨k.val, by omega⟩ := by apply Fin.ext; simp only [tok]; omega
    rw [ek]
  · rw [bH_at, bD_at, mul_comm]
    have ek : tok t k = ⟨2048 + k.val, by omega⟩ := by apply Fin.ext; simp only [tok]; omega
    rw [ek]

/-- The reference's gradient at an index. -/
theorem ref2_at (X0 : FVec Ideal S4096x2048 .bf16) (X1 : FVec Ideal S4096x2048 .bf16) (a : Fin 2048) (b : Fin 2048) :
    Cert.MergeDwRefIdeal.Read.val_main_v6 (F := Ideal) X0 X1 (ix2 a b) = ∑ k : Fin 4096, X1 (ix2 k b) * X0 (ix2 k a) := by
  open Cert.MergeDwRefIdeal.Read in
  pointwise [val_main_v6, val_main_v5, val_main_v4, val_main_v3, val_main_v2, val_main_v1, val_main_v0, val_main_cst]

/-- The array after the run is the reference's. -/
theorem arr2 : (dats m 0 c).arrAt 2 cfg0.N = Cert.MergeDwRefIdeal.Read.val_main_v6 (F := Ideal) (aH m c) (aD m c) :=
  (dats m 0 c).arrAt_eq_of_covers 2 _ (by decide +kernel) fun t hf y => by
    blk_simp
    rw [after0_2]
    have ht := bound t
    have ho : t.val % 2 = 1 := (flush0_2 t).mp hf
    obtain ⟨a, b, rfl⟩ : ∃ (a : Fin 1024) (b : Fin 1024), y = ix2 a b := ⟨y 0, y 1, by funext k; fin_cases k <;> rfl⟩
    have e : (win0_2.blk t).view.emb (ix2 a b) = ix2 (row t a) (col t b) := by
      simp only [row, col]
      blk_ext [idx t]
    rw [e, ref2_at]
    exact block2 m c t ho a b

end Cert.MergeDwIdeal.Value
-- ==== Proof.BrAttnVal.lean ====
/- A branch's projection: the call's array is the reference's. -/
module

public import proofs.«01_k».proof.Proof.Gen.BrAttnIdeal.Value
public import proofs.«01_k».proof.Proof.Gen.BrAttnRefIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.BrAttnIdeal.Value

open Cert.BrAttnIdeal Cert.BrAttnIdeal.Gen

variable (m : (ℓ : Loc nD τ sig) → Buf (Elt Ideal) ℓ) (c : Dev nD)

/-- The branch, as launched. -/
abbrev aO : FVec Ideal S4096x1024 .bf16 := m ((c : Thread nD τ).loc main_arg0)
/-- The weights, as launched. -/
abbrev aW : FVec Ideal S1024x2048 .bf16 := m ((c : Thread nD τ).loc main_arg1)

theorem idx : ∀ t : Fin cfg0.N, win0_0.index t = ![t.val / 2, 0]
    ∧ win0_1.index t = ![0, t.val % 2]
    ∧ win0_2.index t = ![t.val / 2, t.val % 2] ∧ t.val / 2 < 4 :=
  (by decide +kernel : ∀ t : Fin grid0.N, _)

variable (t : Fin cfg0.N)

theorem bound : t.val / 2 < 4 := (idx t).2.2.2

/-- The array's row of a block's row. -/
def row (t : Fin cfg0.N) (a : Fin 1024) : Fin 4096 := ⟨t.val / 2 * 1024 + a.val, by have := bound t; omega⟩
/-- The array's column of a block's column. -/
def col (t : Fin cfg0.N) (b : Fin 1024) : Fin 2048 := ⟨t.val % 2 * 1024 + b.val, by omega⟩

/-- The point's block of an operand. -/
abbrev oB : FVec Ideal S1024x1024 .bf16 := iblk m c 0 t

theorem oB_at (a : Fin 1024) (k : Fin 1024) : oB m c t (ix2 a k) = aO m c (ix2 (row t a) k) := by
  have key : ∀ Z : FVec Ideal S4096x1024 .bf16, ((cfg0.win 0).blk t).view.read (Elt Ideal) Z (ix2 a k) = Z (ix2 ⟨t.val / 2 * 1024 + a.val, by have := bound t; omega⟩ k) := by
    intro Z
    blk_ext [idx t]
  refine (key (V m c main_arg0)).trans ?_
  rw [V_main_arg0]
  rfl

/-- The point's block of an operand. -/
abbrev wB : FVec Ideal S1024x1024 .bf16 := iblk m c 1 t

theorem wB_at (k : Fin 1024) (b : Fin 1024) : wB m c t (ix2 k b) = aW m c (ix2 k (col t b)) := by
  have key : ∀ Z : FVec Ideal S1024x2048 .bf16, ((cfg0.win 1).blk t).view.read (Elt Ideal) Z (ix2 k b) = Z (ix2 k ⟨t.val % 2 * 1024 + b.val, by omega⟩) := by
    intro Z
    blk_ext [idx t]
  refine (key (V m c main_arg1)).trans ?_
  rw [V_main_arg1]
  rfl

/-- A row of the product of the operands. -/
def dot0 (X : FVec Ideal S4096x1024 .bf16) (Y : FVec Ideal S1024x2048 .bf16) (a : Fin 4096) (b : Fin 2048) : EReal :=
  ∑ k : Fin 1024, X (ix2 a k) * Y (ix2 k b)

theorem dot0_at (a : Fin 1024) (b : Fin 1024) :
    (∑ k : Fin 1024, oB m c t (ix2 a k) * wB m c t (ix2 k b)) = dot0 (aO m c) (aW m c) (row t a) (col t b) := by
  unfold dot0
  exact Finset.sum_congr rfl fun k _ => congrArg₂ (· * ·) (oB_at m c t a k) (wB_at m c t k b)

theorem out2_at (x0 : FVec Ideal S1024x1024 .bf16) (x1 : FVec Ideal S1024x1024 .bf16) (a : Fin 1024) (b : Fin 1024) :
    out0_2 (F := Ideal) x0 x1 (ix2 a b) = (∑ k : Fin 1024, x0 (ix2 a k) * x1 (ix2 k b)) := by
  frame_out
  pointwise [k0_pay1]

theorem ref2_at (X0 : FVec Ideal S4096x1024 .bf16) (X1 : FVec Ideal S1024x2048 .bf16) (a : Fin 4096) (b : Fin 2048) :
    Cert.BrAttnRefIdeal.Read.val_main_v3 (F := Ideal) X0 X1 (ix2 a b) = dot0 X0 X1 a b := by
  open Cert.BrAttnRefIdeal.Read in
  pointwise [val_main_v3, val_main_v2, val_main_v1, val_main_v0, dot0]

/-- The array after the run is the reference's. -/
theorem arr2 : (dats m 0 c).arrAt 2 cfg0.N = Cert.BrAttnRefIdeal.Read.val_main_v3 (F := Ideal) (aO m c) (aW m c) :=
  (dats m 0 c).arrAt_eq_of_covers 2 _ (by decide +kernel) fun t hf y => by
    blk_simp
    rw [after0_2]
    have ht := bound t
    obtain ⟨a, b, rfl⟩ : ∃ (a : Fin 1024) (b : Fin 1024), y = ix2 a b := ⟨y 0, y 1, by funext k; fin_cases k <;> rfl⟩
    have e : (win0_2.blk t).view.emb (ix2 a b) = ix2 (row t a) (col t b) := by
      simp only [row, col]
      blk_ext [idx t]
    rw [e, ref2_at]
    refine (out2_at (oB m c t) (wB m c t) a b).trans ?_
    rw [dot0_at m c t a b]

end Cert.BrAttnIdeal.Value
-- ==== Proof.BrSguVal.lean ====
/- The second branch's projection and the merge: the call's two arrays are the reference's. -/
module

public import proofs.«01_k».proof.Proof.Gen.BrSguIdeal.Value
public import proofs.«01_k».proof.Proof.Gen.BrSguRefIdeal.Read
public import proofs.«01_k».proof.Proof.Logistic
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.BrSguIdeal.Value

open Cert.Core (sg one_f32 zero_f32)
open Cert.BrSguIdeal Cert.BrSguIdeal.Gen

variable (m : (ℓ : Loc nD τ sig) → Buf (Elt Ideal) ℓ) (c : Dev nD)

/-- The branch, as launched. -/
abbrev aO : FVec Ideal S4096x1024 .bf16 := m ((c : Thread nD τ).loc main_arg0)
/-- The weights, as launched. -/
abbrev aW : FVec Ideal S1024x2048 .bf16 := m ((c : Thread nD τ).loc main_arg1)
/-- The first branch, projected, as launched. -/
abbrev aA : FVec Ideal S4096x2048 .bf16 := m ((c : Thread nD τ).loc main_arg2)
/-- The first gate's argument, as launched. -/
abbrev aG : FVec Ideal S4096x2048 .bf16 := m ((c : Thread nD τ).loc main_arg3)
/-- The second gate's argument, as launched. -/
abbrev aE : FVec Ideal S4096x2048 .bf16 := m ((c : Thread nD τ).loc main_arg4)

theorem idx : ∀ t : Fin cfg0.N, win0_0.index t = ![t.val / 2, 0]
    ∧ win0_1.index t = ![0, t.val % 2]
    ∧ win0_2.index t = ![t.val / 2, t.val % 2]
    ∧ win0_3.index t = ![t.val / 2, t.val % 2]
    ∧ win0_4.index t = ![t.val / 2, t.val % 2]
    ∧ win0_5.index t = ![t.val / 2, t.val % 2]
    ∧ win0_6.index t = ![t.val / 2, t.val % 2] ∧ t.val / 2 < 4 :=
  (by decide +kernel : ∀ t : Fin grid0.N, _)

variable (t : Fin cfg0.N)

theorem bound : t.val / 2 < 4 := (idx t).2.2.2.2.2.2.2

/-- The array's row of a block's row. -/
def row (t : Fin cfg0.N) (a : Fin 1024) : Fin 4096 := ⟨t.val / 2 * 1024 + a.val, by have := bound t; omega⟩
/-- The array's column of a block's column. -/
def col (t : Fin cfg0.N) (b : Fin 1024) : Fin 2048 := ⟨t.val % 2 * 1024 + b.val, by omega⟩

/-- The point's block of an operand. -/
abbrev oB : FVec Ideal S1024x1024 .bf16 := iblk m c 0 t

theorem oB_at (a : Fin 1024) (k : Fin 1024) : oB m c t (ix2 a k) = aO m c (ix2 (row t a) k) := by
  have key : ∀ Z : FVec Ideal S4096x1024 .bf16, ((cfg0.win 0).blk t).view.read (Elt Ideal) Z (ix2 a k) = Z (ix2 ⟨t.val / 2 * 1024 + a.val, by have := bound t; omega⟩ k) := by
    intro Z
    blk_ext [idx t]
  refine (key (V m c main_arg0)).trans ?_
  rw [V_main_arg0]
  rfl

/-- The point's block of an operand. -/
abbrev wB : FVec Ideal S1024x1024 .bf16 := iblk m c 1 t

theorem wB_at (k : Fin 1024) (b : Fin 1024) : wB m c t (ix2 k b) = aW m c (ix2 k (col t b)) := by
  have key : ∀ Z : FVec Ideal S1024x2048 .bf16, ((cfg0.win 1).blk t).view.read (Elt Ideal) Z (ix2 k b) = Z (ix2 k ⟨t.val % 2 * 1024 + b.val, by omega⟩) := by
    intro Z
    blk_ext [idx t]
  refine (key (V m c main_arg1)).trans ?_
  rw [V_main_arg1]
  rfl

/-- The point's block of an operand. -/
abbrev pB : FVec Ideal S1024x1024 .bf16 := iblk m c 2 t

theorem pB_at (a : Fin 1024) (b : Fin 1024) : pB m c t (ix2 a b) = aA m c (ix2 (row t a) (col t b)) := by
  have key : ∀ Z : FVec Ideal S4096x2048 .bf16, ((cfg0.win 2).blk t).view.read (Elt Ideal) Z (ix2 a b) = Z (ix2 ⟨t.val / 2 * 1024 + a.val, by have := bound t; omega⟩ ⟨t.val % 2 * 1024 + b.val, by omega⟩) := by
    intro Z
    blk_ext [idx t]
  refine (key (V m c main_arg2)).trans ?_
  rw [V_main_arg2]
  rfl

/-- The point's block of an operand. -/
abbrev gB : FVec Ideal S1024x1024 .bf16 := iblk m c 3 t

theorem gB_at (a : Fin 1024) (b : Fin 1024) : gB m c t (ix2 a b) = aG m c (ix2 (row t a) (col t b)) := by
  have key : ∀ Z : FVec Ideal S4096x2048 .bf16, ((cfg0.win 3).blk t).view.read (Elt Ideal) Z (ix2 a b) = Z (ix2 ⟨t.val / 2 * 1024 + a.val, by have := bound t; omega⟩ ⟨t.val % 2 * 1024 + b.val, by omega⟩) := by
    intro Z
    blk_ext [idx t]
  refine (key (V m c main_arg3)).trans ?_
  rw [V_main_arg3]
  rfl

/-- The point's block of an operand. -/
abbrev eB : FVec Ideal S1024x1024 .bf16 := iblk m c 4 t

theorem eB_at (a : Fin 1024) (b : Fin 1024) : eB m c t (ix2 a b) = aE m c (ix2 (row t a) (col t b)) := by
  have key : ∀ Z : FVec Ideal S4096x2048 .bf16, ((cfg0.win 4).blk t).view.read (Elt Ideal) Z (ix2 a b) = Z (ix2 ⟨t.val / 2 * 1024 + a.val, by have := bound t; omega⟩ ⟨t.val % 2 * 1024 + b.val, by omega⟩) := by
    intro Z
    blk_ext [idx t]
  refine (key (V m c main_arg4)).trans ?_
  rw [V_main_arg4]
  rfl

/-- A row of the product of the operands. -/
def dot0 (X : FVec Ideal S4096x1024 .bf16) (Y : FVec Ideal S1024x2048 .bf16) (a : Fin 4096) (b : Fin 2048) : EReal :=
  ∑ k : Fin 1024, X (ix2 a k) * Y (ix2 k b)

theorem dot0_at (a : Fin 1024) (b : Fin 1024) :
    (∑ k : Fin 1024, oB m c t (ix2 a k) * wB m c t (ix2 k b)) = dot0 (aO m c) (aW m c) (row t a) (col t b) := by
  unfold dot0
  exact Finset.sum_congr rfl fun k _ => congrArg₂ (· * ·) (oB_at m c t a k) (wB_at m c t k b)

theorem out5_at (x0 : FVec Ideal S1024x1024 .bf16) (x1 : FVec Ideal S1024x1024 .bf16) (x2 : FVec Ideal S1024x1024 .bf16) (x3 : FVec Ideal S1024x1024 .bf16) (x4 : FVec Ideal S1024x1024 .bf16) (a : Fin 1024) (b : Fin 1024) :
    out0_5 (F := Ideal) x0 x1 x2 x3 x4 (ix2 a b) = (∑ k : Fin 1024, x0 (ix2 a k) * x1 (ix2 k b)) := by
  frame_out
  pointwise [k0_pay1, k0_pay2, k0_pay3, sg, one_f32, zero_f32, zero_sub]

theorem ref5_at (X0 : FVec Ideal S4096x1024 .bf16) (X1 : FVec Ideal S1024x2048 .bf16) (a : Fin 4096) (b : Fin 2048) :
    Cert.BrSguRefIdeal.Read.val_main_v17 (F := Ideal) X0 X1 (ix2 a b) = dot0 X0 X1 a b := by
  open Cert.BrSguRefIdeal.Read in
  pointwise [val_main_v17, val_main_v16, val_main_v15, val_main_cst_2, val_main_v14, val_main_v13, val_main_cst_1, val_main_v12, val_main_v11, val_main_v10, val_main_v9, val_main_v8, val_main_cst_0, val_main_v7, val_main_v6, val_main_cst, val_main_v5, val_main_v4, val_main_v3, val_main_v2, val_main_v1, val_main_v0, dot0, sg, one_f32, zero_f32, zero_sub]

/-- The array after the run is the reference's. -/
theorem arr5 : (dats m 0 c).arrAt 5 cfg0.N = Cert.BrSguRefIdeal.Read.val_main_v17 (F := Ideal) (aO m c) (aW m c) :=
  (dats m 0 c).arrAt_eq_of_covers 5 _ (by decide +kernel) fun t hf y => by
    blk_simp
    rw [after0_5]
    have ht := bound t
    obtain ⟨a, b, rfl⟩ : ∃ (a : Fin 1024) (b : Fin 1024), y = ix2 a b := ⟨y 0, y 1, by funext k; fin_cases k <;> rfl⟩
    have e : (win0_5.blk t).view.emb (ix2 a b) = ix2 (row t a) (col t b) := by
      simp only [row, col]
      blk_ext [idx t]
    rw [e, ref5_at]
    refine (out5_at (oB m c t) (wB m c t) (pB m c t) (gB m c t) (eB m c t) a b).trans ?_
    rw [dot0_at m c t a b]

theorem out6_at (x0 : FVec Ideal S1024x1024 .bf16) (x1 : FVec Ideal S1024x1024 .bf16) (x2 : FVec Ideal S1024x1024 .bf16) (x3 : FVec Ideal S1024x1024 .bf16) (x4 : FVec Ideal S1024x1024 .bf16) (a : Fin 1024) (b : Fin 1024) :
    out0_6 (F := Ideal) x0 x1 x2 x3 x4 (ix2 a b) = sg (x3 (ix2 a b)) * x2 (ix2 a b) + sg (x4 (ix2 a b)) * (∑ k : Fin 1024, x0 (ix2 a k) * x1 (ix2 k b)) := by
  frame_out
  pointwise [k0_pay1, k0_pay2, k0_pay3, sg, one_f32, zero_f32, zero_sub]

theorem ref6_at (X0 : FVec Ideal S4096x1024 .bf16) (X1 : FVec Ideal S1024x2048 .bf16) (X2 : FVec Ideal S4096x2048 .bf16) (X3 : FVec Ideal S4096x2048 .bf16) (X4 : FVec Ideal S4096x2048 .bf16) (a : Fin 4096) (b : Fin 2048) :
    Cert.BrSguRefIdeal.Read.val_main_v22 (F := Ideal) X0 X1 X2 X3 X4 (ix2 a b) = sg (X3 (ix2 a b)) * X2 (ix2 a b) + sg (X4 (ix2 a b)) * dot0 X0 X1 a b := by
  open Cert.BrSguRefIdeal.Read in
  pointwise [val_main_v22, val_main_v21, val_main_v20, val_main_v19, val_main_v18, val_main_v17, val_main_v16, val_main_v15, val_main_cst_2, val_main_v14, val_main_v13, val_main_cst_1, val_main_v12, val_main_v11, val_main_v10, val_main_v9, val_main_v8, val_main_cst_0, val_main_v7, val_main_v6, val_main_cst, val_main_v5, val_main_v4, val_main_v3, val_main_v2, val_main_v1, val_main_v0, dot0, sg, one_f32, zero_f32, zero_sub]

/-- The array after the run is the reference's. -/
theorem arr6 : (dats m 0 c).arrAt 6 cfg0.N = Cert.BrSguRefIdeal.Read.val_main_v22 (F := Ideal) (aO m c) (aW m c) (aA m c) (aG m c) (aE m c) :=
  (dats m 0 c).arrAt_eq_of_covers 6 _ (by decide +kernel) fun t hf y => by
    blk_simp
    rw [after0_6]
    have ht := bound t
    obtain ⟨a, b, rfl⟩ : ∃ (a : Fin 1024) (b : Fin 1024), y = ix2 a b := ⟨y 0, y 1, by funext k; fin_cases k <;> rfl⟩
    have e : (win0_6.blk t).view.emb (ix2 a b) = ix2 (row t a) (col t b) := by
      simp only [row, col]
      blk_ext [idx t]
    rw [e, ref6_at]
    refine (out6_at (oB m c t) (wB m c t) (pB m c t) (gB m c t) (eB m c t) a b).trans ?_
    rw [dot0_at m c t a b, pB_at m c t a b, gB_at m c t a b, eB_at m c t a b]

end Cert.BrSguIdeal.Value
-- ==== Proof.BrDxVal.lean ====
/- The gradient of a branch: the call's array is the reference's. -/
module

public import proofs.«01_k».proof.Proof.Gen.BrDxIdeal.Value
public import proofs.«01_k».proof.Proof.Gen.BrDxRefIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.BrDxIdeal.Value

open Cert.BrDxIdeal Cert.BrDxIdeal.Gen

variable (m : (ℓ : Loc nD τ sig) → Buf (Elt Ideal) ℓ) (c : Dev nD)

/-- The cotangent, as launched. -/
abbrev aD : FVec Ideal S4096x2048 .bf16 := m ((c : Thread nD τ).loc main_arg0)
/-- The weights, as launched. -/
abbrev aW : FVec Ideal S1024x2048 .bf16 := m ((c : Thread nD τ).loc main_arg1)

theorem idx : ∀ t : Fin cfg0.N, win0_0.index t = ![t.val, 0]
    ∧ win0_1.index t = ![0, 0]
    ∧ win0_2.index t = ![t.val, 0] ∧ t.val < 4 :=
  (by decide +kernel : ∀ t : Fin grid0.N, _)

variable (t : Fin cfg0.N)

theorem bound : t.val < 4 := (idx t).2.2.2

/-- The array's row of a block's row. -/
def row (t : Fin cfg0.N) (a : Fin 1024) : Fin 4096 := ⟨t.val * 1024 + a.val, by have := bound t; omega⟩
/-- The array's column of a block's column. -/
def col (t : Fin cfg0.N) (b : Fin 1024) : Fin 1024 := ⟨0 * 1024 + b.val, by omega⟩

/-- The point's block of an operand. -/
abbrev dB : FVec Ideal S1024x2048 .bf16 := iblk m c 0 t

theorem dB_at (a : Fin 1024) (k : Fin 2048) : dB m c t (ix2 a k) = aD m c (ix2 (row t a) k) := by
  have key : ∀ Z : FVec Ideal S4096x2048 .bf16, ((cfg0.win 0).blk t).view.read (Elt Ideal) Z (ix2 a k) = Z (ix2 ⟨t.val * 1024 + a.val, by have := bound t; omega⟩ k) := by
    intro Z
    blk_ext [idx t]
  refine (key (V m c main_arg0)).trans ?_
  rw [V_main_arg0]
  rfl

/-- The point's block of an operand. -/
abbrev wB : FVec Ideal S1024x2048 .bf16 := iblk m c 1 t

theorem wB_at (b : Fin 1024) (k : Fin 2048) : wB m c t (ix2 b k) = aW m c (ix2 (col t b) k) := by
  have key : ∀ Z : FVec Ideal S1024x2048 .bf16, ((cfg0.win 1).blk t).view.read (Elt Ideal) Z (ix2 b k) = Z (ix2 ⟨0 * 1024 + b.val, by omega⟩ k) := by
    intro Z
    blk_ext [idx t]
  refine (key (V m c main_arg1)).trans ?_
  rw [V_main_arg1]
  rfl

/-- A row of the product of the operands. -/
def dot0 (X : FVec Ideal S4096x2048 .bf16) (Y : FVec Ideal S1024x2048 .bf16) (a : Fin 4096) (b : Fin 1024) : EReal :=
  ∑ k : Fin 2048, X (ix2 a k) * Y (ix2 b k)

theorem dot0_at (a : Fin 1024) (b : Fin 1024) :
    (∑ k : Fin 2048, dB m c t (ix2 a k) * wB m c t (ix2 b k)) = dot0 (aD m c) (aW m c) (row t a) (col t b) := by
  unfold dot0
  exact Finset.sum_congr rfl fun k _ => congrArg₂ (· * ·) (dB_at m c t a k) (wB_at m c t b k)

theorem out2_at (x0 : FVec Ideal S1024x2048 .bf16) (x1 : FVec Ideal S1024x2048 .bf16) (a : Fin 1024) (b : Fin 1024) :
    out0_2 (F := Ideal) x0 x1 (ix2 a b) = (∑ k : Fin 2048, x0 (ix2 a k) * x1 (ix2 b k)) := by
  frame_out
  pointwise [k0_pay1]

theorem ref2_at (X0 : FVec Ideal S4096x2048 .bf16) (X1 : FVec Ideal S1024x2048 .bf16) (a : Fin 4096) (b : Fin 1024) :
    Cert.BrDxRefIdeal.Read.val_main_v5 (F := Ideal) X0 X1 (ix2 a b) = dot0 X0 X1 a b := by
  open Cert.BrDxRefIdeal.Read in
  pointwise [val_main_v5, val_main_v4, val_main_v3, val_main_v2, val_main_v1, val_main_v0, val_main_cst, dot0]

/-- The array after the run is the reference's. -/
theorem arr2 : (dats m 0 c).arrAt 2 cfg0.N = Cert.BrDxRefIdeal.Read.val_main_v5 (F := Ideal) (aD m c) (aW m c) :=
  (dats m 0 c).arrAt_eq_of_covers 2 _ (by decide +kernel) fun t hf y => by
    blk_simp
    rw [after0_2]
    have ht := bound t
    obtain ⟨a, b, rfl⟩ : ∃ (a : Fin 1024) (b : Fin 1024), y = ix2 a b := ⟨y 0, y 1, by funext k; fin_cases k <;> rfl⟩
    have e : (win0_2.blk t).view.emb (ix2 a b) = ix2 (row t a) (col t b) := by
      simp only [row, col]
      blk_ext [idx t]
    rw [e, ref2_at]
    refine (out2_at (dB m c t) (wB m c t) a b).trans ?_
    rw [dot0_at m c t a b]

end Cert.BrDxIdeal.Value
-- ==== Proof.BrDwVal.lean ====
/- The gradient of a branch's weights, by quarter of their columns: the call's array is the reference's. -/
module

public import proofs.«01_k».proof.Proof.Gen.BrDwIdeal.Value
public import proofs.«01_k».proof.Proof.Gen.BrDwRefIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.BrDwIdeal.Value

open Cert.BrDwIdeal Cert.BrDwIdeal.Gen

variable (m : (ℓ : Loc nD τ sig) → Buf (Elt Ideal) ℓ) (c : Dev nD)

/-- The branch, as launched. -/
abbrev aH : FVec Ideal S4096x1024 .bf16 := m ((c : Thread nD τ).loc main_arg0)
/-- The cotangent, as launched. -/
abbrev aD : FVec Ideal S4096x2048 .bf16 := m ((c : Thread nD τ).loc main_arg1)

theorem idx : ∀ t : Fin cfg0.N, win0_0.index t = ![t.val % 2, 0]
    ∧ win0_1.index t = ![t.val % 2, t.val / 2]
    ∧ win0_2.index t = ![t.val / 2, 0, 0] ∧ t.val / 8 < 1 :=
  (by decide +kernel : ∀ t : Fin grid0.N, _)

variable (t : Fin cfg0.N)

theorem bound : t.val / 8 < 1 := (idx t).2.2.2

/-- The token of a block's token. -/
def tok (t : Fin cfg0.N) (k : Fin 2048) : Fin 4096 := ⟨t.val % 2 * 2048 + k.val, by omega⟩
/-- The array's row of a block's row. -/
def row (t : Fin cfg0.N) (a : Fin 1024) : Fin 1024 := ⟨0 * 1024 + a.val, by have := bound t; omega⟩
/-- The array's column of a block's column. -/
def col (t : Fin cfg0.N) (b : Fin 512) : Fin 2048 := ⟨t.val / 2 * 512 + b.val, by have := bound t; omega⟩

/-- The point's block of an operand. -/
abbrev bH : FVec Ideal S2048x1024 .bf16 := iblk m c 0 t

theorem bH_at (k : Fin 2048) (a : Fin 1024) : bH m c t (ix2 k a) = aH m c (ix2 (tok t k) (row t a)) := by
  have key : ∀ Z : FVec Ideal S4096x1024 .bf16, ((cfg0.win 0).blk t).view.read (Elt Ideal) Z (ix2 k a)
      = Z (ix2 ⟨t.val % 2 * 2048 + k.val, by omega⟩ ⟨0 * 1024 + a.val, by have := bound t; omega⟩) := by
    intro Z
    blk_ext [idx t]
  refine (key (V m c main_arg0)).trans ?_
  rw [V_main_arg0]
  rfl

/-- The point's block of an operand. -/
abbrev bD : FVec Ideal S2048x512 .bf16 := iblk m c 1 t

theorem bD_at (k : Fin 2048) (b : Fin 512) : bD m c t (ix2 k b) = aD m c (ix2 (tok t k) (col t b)) := by
  have key : ∀ Z : FVec Ideal S4096x2048 .bf16, ((cfg0.win 1).blk t).view.read (Elt Ideal) Z (ix2 k b)
      = Z (ix2 ⟨t.val % 2 * 2048 + k.val, by omega⟩ ⟨t.val / 2 * 512 + b.val, by have := bound t; omega⟩) := by
    intro Z
    blk_ext [idx t]
  refine (key (V m c main_arg1)).trans ?_
  rw [V_main_arg1]
  rfl

/-- The accumulator after a block's first point: the products of the first half of the tokens. -/
theorem first2 (h : t.val % 2 = 0) (a : Fin 1024) (b : Fin 512) : (outsAt0 m c t.val t.isLt).2 (ix2 a b)
    = ∑ k : Fin 2048, bH m c t (ix2 k a) * bD m c t (ix2 k b) := by
  rw [outsAt0_A m c t h (by omega) (by omega)]; frame_out
  pointwise [k0_pay1, k0_pay2, k0_pay3]

/-- The block after its last point: the accumulator and the products of the second half of the tokens. -/
theorem last2 (h : t.val % 2 = 1) (a : Fin 1024) (b : Fin 512) : (outsAt0 m c t.val t.isLt).1 (ix3 0 a b)
    = (show EReal from (outsAt0 m c (t.val - 1) (Nat.lt_of_le_of_lt (Nat.sub_le _ _) t.isLt)).2 (ix2 a b))
      + ∑ k : Fin 2048, bH m c t (ix2 k a) * bD m c t (ix2 k b) := by
  rw [outsAt0_B m c t (by omega) h h]; frame_out
  pointwise [k0_pay1, k0_pay2, k0_pay3]
  exact congrArg (· + _) (congrFun (read_unread_whole _ _ _) _)

/-- What a block holds after its last point. -/
theorem block2 (ho : t.val % 2 = 1) (a : Fin 1024) (b : Fin 512) : (outsAt0 m c t.val t.isLt).1 (ix3 0 a b)
    = ∑ k : Fin 4096, aD m c (ix2 k (col t b)) * aH m c (ix2 k (row t a)) := by
  refine (last2 m c t ho a b).trans ?_
  have hp : t.val - 1 < cfg0.N := Nat.lt_of_le_of_lt (Nat.sub_le _ _) t.isLt
  have ef := first2 m c ⟨t.val - 1, hp⟩ (by show (t.val - 1) % 2 = 0; omega) a b
  refine (congrArg (· + _) ef).trans ?_
  have er : row ⟨t.val - 1, hp⟩ a = row t a := by apply Fin.ext; simp only [row] <;> omega
  have ec : col ⟨t.val - 1, hp⟩ b = col t b := by apply Fin.ext; simp only [col] <;> omega
  rw [Fin.sum_univ_two_halves 2048 2048 rfl]
  refine congrArg₂ (· + ·) (Finset.sum_congr rfl fun k _ => ?_) (Finset.sum_congr rfl fun k _ => ?_)
  · rw [bH_at, bD_at, mul_comm, er, ec]
    have ek : tok ⟨t.val - 1, hp⟩ k = ⟨k.val, by omega⟩ := by apply Fin.ext; simp only [tok]; omega
    rw [ek]
  · rw [bH_at, bD_at, mul_comm]
    have ek : tok t k = ⟨2048 + k.val, by omega⟩ := by apply Fin.ext; simp only [tok]; omega
    rw [ek]

/-- The reference's gradient at an index. -/
theorem ref2_at (X0 : FVec Ideal S4096x1024 .bf16) (X1 : FVec Ideal S4096x2048 .bf16) (s : Fin 4) (a : Fin 1024) (b : Fin 512) :
    Cert.BrDwRefIdeal.Read.val_main_v8 (F := Ideal) X0 X1 (ix3 s a b) = ∑ k : Fin 4096, X1 (ix2 k ⟨s.val * 512 + b.val, by omega⟩) * X0 (ix2 k a) := by
  open Cert.BrDwRefIdeal.Read in
  pointwise [val_main_v8, val_main_v7, val_main_v6, val_main_v5, val_main_v4, val_main_v3, val_main_v2, val_main_v1, val_main_v0, val_main_cst]

/-- The array after the run is the reference's. -/
theorem arr2 : (dats m 0 c).arrAt 2 cfg0.N = Cert.BrDwRefIdeal.Read.val_main_v8 (F := Ideal) (aH m c) (aD m c) :=
  (dats m 0 c).arrAt_eq_of_covers 2 _ (by decide +kernel) fun t hf y => by
    blk_simp
    rw [after0_2]
    have ht := bound t
    have ho : t.val % 2 = 1 := (flush0_2 t).mp hf
    obtain ⟨a, b, rfl⟩ : ∃ (a : Fin 1024) (b : Fin 512), y = ix3 0 a b := ⟨y 1, y 2, by funext k; fin_cases k; exact Subsingleton.elim (α := Fin 1) _ _; rfl; rfl⟩
    have e : (win0_2.blk t).view.emb (ix3 0 a b) = ix3 ⟨t.val / 2, by omega⟩ (row t a) b := by
      simp only [row]
      blk_ext [idx t]
    rw [e, ref2_at]
    exact block2 m c t ho a b

end Cert.BrDwIdeal.Value
-- ==== Proof.GatesVal.lean ====
/- Two blocks of columns of the combined projection: the call's two arrays are the reference's. -/
module

public import proofs.«01_k».proof.Proof.Gen.GatesIdeal.Value
public import proofs.«01_k».proof.Proof.Gen.GatesRefIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GatesIdeal.Value

open Cert.GatesIdeal Cert.GatesIdeal.Gen

variable (m : (ℓ : Loc nD τ sig) → Buf (Elt Ideal) ℓ) (c : Dev nD)

/-- The inputs, as launched. -/
abbrev aH : FVec Ideal S4096x2048 .bf16 := m ((c : Thread nD τ).loc main_arg0)
/-- The weights, as launched. -/
abbrev aW : FVec Ideal S2048x6976 .bf16 := m ((c : Thread nD τ).loc main_arg1)

section terms
variable {F : FTy → Type} [FloatOps F]
variable (m : (ℓ : Loc nD τ sig) → Buf (Elt F) ℓ) (c : Dev nD)
/-- The operand's columns from 2880, as the call finds them. -/
theorem V_wa : V m c main_v0 = extractStridedSlice S2048x2048 ![0, 2880] (m ((c : Thread nD τ).loc main_arg1)) slices_S2048x6976_S2048x2048_0_2880 := by
  unfold V; after_reads_simp
/-- The operand's columns from 4928, as the call finds them. -/
theorem V_wb : V m c main_v1 = extractStridedSlice S2048x2048 ![0, 4928] (m ((c : Thread nD τ).loc main_arg1)) slices_S2048x6976_S2048x2048_0_4928 := by
  unfold V; after_reads_simp
end terms

theorem slice_wa (X : FVec Ideal S2048x6976 .bf16) (a : Fin 2048) (b : Fin 2048) :
    extractStridedSlice S2048x2048 ![0, 2880] X slices_S2048x6976_S2048x2048_0_2880 (ix2 a b) = X (ix2 a ⟨2880 + b.val, by omega⟩) := by
  pointwise

theorem slice_wb (X : FVec Ideal S2048x6976 .bf16) (a : Fin 2048) (b : Fin 2048) :
    extractStridedSlice S2048x2048 ![0, 4928] X slices_S2048x6976_S2048x2048_0_4928 (ix2 a b) = X (ix2 a ⟨4928 + b.val, by omega⟩) := by
  pointwise

theorem idx : ∀ t : Fin cfg0.N, win0_0.index t = ![t.val / 2, 0]
    ∧ win0_1.index t = ![0, t.val % 2]
    ∧ win0_2.index t = ![0, t.val % 2]
    ∧ win0_3.index t = ![t.val / 2, t.val % 2]
    ∧ win0_4.index t = ![t.val / 2, t.val % 2] ∧ t.val / 2 < 4 :=
  (by decide +kernel : ∀ t : Fin grid0.N, _)

variable (t : Fin cfg0.N)

theorem bound : t.val / 2 < 4 := (idx t).2.2.2.2.2

/-- The array's row of a block's row. -/
def row (t : Fin cfg0.N) (a : Fin 1024) : Fin 4096 := ⟨t.val / 2 * 1024 + a.val, by have := bound t; omega⟩
/-- The array's column of a block's column. -/
def col (t : Fin cfg0.N) (b : Fin 1024) : Fin 2048 := ⟨t.val % 2 * 1024 + b.val, by omega⟩

/-- The point's block of an operand. -/
abbrev hB : FVec Ideal S1024x2048 .bf16 := iblk m c 0 t

theorem hB_at (a : Fin 1024) (k : Fin 2048) : hB m c t (ix2 a k) = aH m c (ix2 (row t a) k) := by
  have key : ∀ Z : FVec Ideal S4096x2048 .bf16, ((cfg0.win 0).blk t).view.read (Elt Ideal) Z (ix2 a k) = Z (ix2 ⟨t.val / 2 * 1024 + a.val, by have := bound t; omega⟩ k) := by
    intro Z
    blk_ext [idx t]
  refine (key (V m c main_arg0)).trans ?_
  rw [V_main_arg0]
  rfl

/-- The point's block of an operand. -/
abbrev waB : FVec Ideal S2048x1024 .bf16 := iblk m c 1 t

theorem waB_at (k : Fin 2048) (b : Fin 1024) : waB m c t (ix2 k b) = aW m c (ix2 k ⟨2880 + (col t b).val, by omega⟩) := by
  have key : ∀ Z : FVec Ideal S2048x2048 .bf16, ((cfg0.win 1).blk t).view.read (Elt Ideal) Z (ix2 k b) = Z (ix2 k ⟨t.val % 2 * 1024 + b.val, by omega⟩) := by
    intro Z
    blk_ext [idx t]
  refine (key (V m c main_v0)).trans ?_
  rw [V_wa, slice_wa]
  rfl

/-- The point's block of an operand. -/
abbrev wbB : FVec Ideal S2048x1024 .bf16 := iblk m c 2 t

theorem wbB_at (k : Fin 2048) (b : Fin 1024) : wbB m c t (ix2 k b) = aW m c (ix2 k ⟨4928 + (col t b).val, by omega⟩) := by
  have key : ∀ Z : FVec Ideal S2048x2048 .bf16, ((cfg0.win 2).blk t).view.read (Elt Ideal) Z (ix2 k b) = Z (ix2 k ⟨t.val % 2 * 1024 + b.val, by omega⟩) := by
    intro Z
    blk_ext [idx t]
  refine (key (V m c main_v1)).trans ?_
  rw [V_wb, slice_wb]
  rfl

/-- A row of the product of the operands. -/
def dot0 (X : FVec Ideal S4096x2048 .bf16) (Y : FVec Ideal S2048x6976 .bf16) (a : Fin 4096) (b : Fin 2048) : EReal :=
  ∑ k : Fin 2048, X (ix2 a k) * Y (ix2 k ⟨2880 + b.val, by omega⟩)

theorem dot0_at (a : Fin 1024) (b : Fin 1024) :
    (∑ k : Fin 2048, hB m c t (ix2 a k) * waB m c t (ix2 k b)) = dot0 (aH m c) (aW m c) (row t a) (col t b) := by
  unfold dot0
  exact Finset.sum_congr rfl fun k _ => congrArg₂ (· * ·) (hB_at m c t a k) (waB_at m c t k b)

/-- A row of the product of the operands. -/
def dot1 (X : FVec Ideal S4096x2048 .bf16) (Y : FVec Ideal S2048x6976 .bf16) (a : Fin 4096) (b : Fin 2048) : EReal :=
  ∑ k : Fin 2048, X (ix2 a k) * Y (ix2 k ⟨4928 + b.val, by omega⟩)

theorem dot1_at (a : Fin 1024) (b : Fin 1024) :
    (∑ k : Fin 2048, hB m c t (ix2 a k) * wbB m c t (ix2 k b)) = dot1 (aH m c) (aW m c) (row t a) (col t b) := by
  unfold dot1
  exact Finset.sum_congr rfl fun k _ => congrArg₂ (· * ·) (hB_at m c t a k) (wbB_at m c t k b)

theorem out3_at (x0 : FVec Ideal S1024x2048 .bf16) (x1 : FVec Ideal S2048x1024 .bf16) (x2 : FVec Ideal S2048x1024 .bf16) (a : Fin 1024) (b : Fin 1024) :
    out0_3 (F := Ideal) x0 x1 x2 (ix2 a b) = (∑ k : Fin 2048, x0 (ix2 a k) * x1 (ix2 k b)) := by
  frame_out
  pointwise [k0_pay1, k0_pay2]

theorem ref3_at (X0 : FVec Ideal S4096x2048 .bf16) (X1 : FVec Ideal S2048x6976 .bf16) (a : Fin 4096) (b : Fin 2048) :
    Cert.GatesRefIdeal.Read.val_main_v6 (F := Ideal) X0 X1 (ix2 a b) = dot0 X0 X1 a b := by
  open Cert.GatesRefIdeal.Read in
  pointwise [val_main_v6, val_main_v5, val_main_v4, val_main_v3, val_main_v2, val_main_v1, val_main_v0, dot0, dot1]

/-- The array after the run is the reference's. -/
theorem arr3 : (dats m 0 c).arrAt 3 cfg0.N = Cert.GatesRefIdeal.Read.val_main_v6 (F := Ideal) (aH m c) (aW m c) :=
  (dats m 0 c).arrAt_eq_of_covers 3 _ (by decide +kernel) fun t hf y => by
    blk_simp
    rw [after0_3]
    have ht := bound t
    obtain ⟨a, b, rfl⟩ : ∃ (a : Fin 1024) (b : Fin 1024), y = ix2 a b := ⟨y 0, y 1, by funext k; fin_cases k <;> rfl⟩
    have e : (win0_3.blk t).view.emb (ix2 a b) = ix2 (row t a) (col t b) := by
      simp only [row, col]
      blk_ext [idx t]
    rw [e, ref3_at]
    refine (out3_at (hB m c t) (waB m c t) (wbB m c t) a b).trans ?_
    rw [dot0_at m c t a b]

theorem out4_at (x0 : FVec Ideal S1024x2048 .bf16) (x1 : FVec Ideal S2048x1024 .bf16) (x2 : FVec Ideal S2048x1024 .bf16) (a : Fin 1024) (b : Fin 1024) :
    out0_4 (F := Ideal) x0 x1 x2 (ix2 a b) = (∑ k : Fin 2048, x0 (ix2 a k) * x2 (ix2 k b)) := by
  frame_out
  pointwise [k0_pay1, k0_pay2]

theorem ref4_at (X0 : FVec Ideal S4096x2048 .bf16) (X1 : FVec Ideal S2048x6976 .bf16) (a : Fin 4096) (b : Fin 2048) :
    Cert.GatesRefIdeal.Read.val_main_v7 (F := Ideal) X0 X1 (ix2 a b) = dot1 X0 X1 a b := by
  open Cert.GatesRefIdeal.Read in
  pointwise [val_main_v7, val_main_v6, val_main_v5, val_main_v4, val_main_v3, val_main_v2, val_main_v1, val_main_v0, dot0, dot1]
  exact Finset.sum_congr rfl fun k _ => by
    have e : (⟨2880 + (2048 + b.val), by omega⟩ : Fin 6976) = ⟨4928 + b.val, by omega⟩ := Fin.ext (by show 2880 + (2048 + b.val) = 4928 + b.val; omega)
    rw [e]

/-- The array after the run is the reference's. -/
theorem arr4 : (dats m 0 c).arrAt 4 cfg0.N = Cert.GatesRefIdeal.Read.val_main_v7 (F := Ideal) (aH m c) (aW m c) :=
  (dats m 0 c).arrAt_eq_of_covers 4 _ (by decide +kernel) fun t hf y => by
    blk_simp
    rw [after0_4]
    have ht := bound t
    obtain ⟨a, b, rfl⟩ : ∃ (a : Fin 1024) (b : Fin 1024), y = ix2 a b := ⟨y 0, y 1, by funext k; fin_cases k <;> rfl⟩
    have e : (win0_4.blk t).view.emb (ix2 a b) = ix2 (row t a) (col t b) := by
      simp only [row, col]
      blk_ext [idx t]
    rw [e, ref4_at]
    refine (out4_at (hB m c t) (waB m c t) (wbB m c t) a b).trans ?_
    rw [dot1_at m c t a b]

end Cert.GatesIdeal.Value
-- ==== Proof.UvVal.lean ====
/- Two blocks of columns of the combined projection: the call's two arrays are the reference's. -/
module

public import proofs.«01_k».proof.Proof.Gen.UvIdeal.Value
public import proofs.«01_k».proof.Proof.Gen.UvRefIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.UvIdeal.Value

open Cert.UvIdeal Cert.UvIdeal.Gen

variable (m : (ℓ : Loc nD τ sig) → Buf (Elt Ideal) ℓ) (c : Dev nD)

/-- The inputs, as launched. -/
abbrev aH : FVec Ideal S4096x2048 .bf16 := m ((c : Thread nD τ).loc main_arg0)
/-- The weights, as launched. -/
abbrev aW : FVec Ideal S2048x6976 .bf16 := m ((c : Thread nD τ).loc main_arg1)

section terms
variable {F : FTy → Type} [FloatOps F]
variable (m : (ℓ : Loc nD τ sig) → Buf (Elt F) ℓ) (c : Dev nD)
/-- The operand's columns from 832, as the call finds them. -/
theorem V_wa : V m c main_v0 = extractStridedSlice S2048x1024 ![0, 832] (m ((c : Thread nD τ).loc main_arg1)) slices_S2048x6976_S2048x1024_0_832 := by
  unfold V; after_reads_simp
/-- The operand's columns from 1856, as the call finds them. -/
theorem V_wb : V m c main_v1 = extractStridedSlice S2048x1024 ![0, 1856] (m ((c : Thread nD τ).loc main_arg1)) slices_S2048x6976_S2048x1024_0_1856 := by
  unfold V; after_reads_simp
end terms

theorem slice_wa (X : FVec Ideal S2048x6976 .bf16) (a : Fin 2048) (b : Fin 1024) :
    extractStridedSlice S2048x1024 ![0, 832] X slices_S2048x6976_S2048x1024_0_832 (ix2 a b) = X (ix2 a ⟨832 + b.val, by omega⟩) := by
  pointwise

theorem slice_wb (X : FVec Ideal S2048x6976 .bf16) (a : Fin 2048) (b : Fin 1024) :
    extractStridedSlice S2048x1024 ![0, 1856] X slices_S2048x6976_S2048x1024_0_1856 (ix2 a b) = X (ix2 a ⟨1856 + b.val, by omega⟩) := by
  pointwise

theorem idx : ∀ t : Fin cfg0.N, win0_0.index t = ![t.val, 0]
    ∧ win0_1.index t = ![0, 0]
    ∧ win0_2.index t = ![0, 0]
    ∧ win0_3.index t = ![t.val, 0]
    ∧ win0_4.index t = ![t.val, 0] ∧ t.val < 4 :=
  (by decide +kernel : ∀ t : Fin grid0.N, _)

variable (t : Fin cfg0.N)

theorem bound : t.val < 4 := (idx t).2.2.2.2.2

/-- The array's row of a block's row. -/
def row (t : Fin cfg0.N) (a : Fin 1024) : Fin 4096 := ⟨t.val * 1024 + a.val, by have := bound t; omega⟩
/-- The array's column of a block's column. -/
def col (t : Fin cfg0.N) (b : Fin 1024) : Fin 1024 := ⟨0 * 1024 + b.val, by omega⟩

/-- The point's block of an operand. -/
abbrev hB : FVec Ideal S1024x2048 .bf16 := iblk m c 0 t

theorem hB_at (a : Fin 1024) (k : Fin 2048) : hB m c t (ix2 a k) = aH m c (ix2 (row t a) k) := by
  have key : ∀ Z : FVec Ideal S4096x2048 .bf16, ((cfg0.win 0).blk t).view.read (Elt Ideal) Z (ix2 a k) = Z (ix2 ⟨t.val * 1024 + a.val, by have := bound t; omega⟩ k) := by
    intro Z
    blk_ext [idx t]
  refine (key (V m c main_arg0)).trans ?_
  rw [V_main_arg0]
  rfl

/-- The point's block of an operand. -/
abbrev waB : FVec Ideal S2048x1024 .bf16 := iblk m c 1 t

theorem waB_at (k : Fin 2048) (b : Fin 1024) : waB m c t (ix2 k b) = aW m c (ix2 k ⟨832 + (col t b).val, by omega⟩) := by
  have key : ∀ Z : FVec Ideal S2048x1024 .bf16, ((cfg0.win 1).blk t).view.read (Elt Ideal) Z (ix2 k b) = Z (ix2 k ⟨0 * 1024 + b.val, by omega⟩) := by
    intro Z
    blk_ext [idx t]
  refine (key (V m c main_v0)).trans ?_
  rw [V_wa, slice_wa]
  rfl

/-- The point's block of an operand. -/
abbrev wbB : FVec Ideal S2048x1024 .bf16 := iblk m c 2 t

theorem wbB_at (k : Fin 2048) (b : Fin 1024) : wbB m c t (ix2 k b) = aW m c (ix2 k ⟨1856 + (col t b).val, by omega⟩) := by
  have key : ∀ Z : FVec Ideal S2048x1024 .bf16, ((cfg0.win 2).blk t).view.read (Elt Ideal) Z (ix2 k b) = Z (ix2 k ⟨0 * 1024 + b.val, by omega⟩) := by
    intro Z
    blk_ext [idx t]
  refine (key (V m c main_v1)).trans ?_
  rw [V_wb, slice_wb]
  rfl

/-- A row of the product of the operands. -/
def dot0 (X : FVec Ideal S4096x2048 .bf16) (Y : FVec Ideal S2048x6976 .bf16) (a : Fin 4096) (b : Fin 1024) : EReal :=
  ∑ k : Fin 2048, X (ix2 a k) * Y (ix2 k ⟨832 + b.val, by omega⟩)

theorem dot0_at (a : Fin 1024) (b : Fin 1024) :
    (∑ k : Fin 2048, hB m c t (ix2 a k) * waB m c t (ix2 k b)) = dot0 (aH m c) (aW m c) (row t a) (col t b) := by
  unfold dot0
  exact Finset.sum_congr rfl fun k _ => congrArg₂ (· * ·) (hB_at m c t a k) (waB_at m c t k b)

/-- A row of the product of the operands. -/
def dot1 (X : FVec Ideal S4096x2048 .bf16) (Y : FVec Ideal S2048x6976 .bf16) (a : Fin 4096) (b : Fin 1024) : EReal :=
  ∑ k : Fin 2048, X (ix2 a k) * Y (ix2 k ⟨1856 + b.val, by omega⟩)

theorem dot1_at (a : Fin 1024) (b : Fin 1024) :
    (∑ k : Fin 2048, hB m c t (ix2 a k) * wbB m c t (ix2 k b)) = dot1 (aH m c) (aW m c) (row t a) (col t b) := by
  unfold dot1
  exact Finset.sum_congr rfl fun k _ => congrArg₂ (· * ·) (hB_at m c t a k) (wbB_at m c t k b)

theorem out3_at (x0 : FVec Ideal S1024x2048 .bf16) (x1 : FVec Ideal S2048x1024 .bf16) (x2 : FVec Ideal S2048x1024 .bf16) (a : Fin 1024) (b : Fin 1024) :
    out0_3 (F := Ideal) x0 x1 x2 (ix2 a b) = (∑ k : Fin 2048, x0 (ix2 a k) * x1 (ix2 k b)) := by
  frame_out
  pointwise [k0_pay1, k0_pay2]

theorem ref3_at (X0 : FVec Ideal S4096x2048 .bf16) (X1 : FVec Ideal S2048x6976 .bf16) (a : Fin 4096) (b : Fin 1024) :
    Cert.UvRefIdeal.Read.val_main_v6 (F := Ideal) X0 X1 (ix2 a b) = dot0 X0 X1 a b := by
  open Cert.UvRefIdeal.Read in
  pointwise [val_main_v6, val_main_v5, val_main_v4, val_main_v3, val_main_v2, val_main_v1, val_main_v0, dot0, dot1]

/-- The array after the run is the reference's. -/
theorem arr3 : (dats m 0 c).arrAt 3 cfg0.N = Cert.UvRefIdeal.Read.val_main_v6 (F := Ideal) (aH m c) (aW m c) :=
  (dats m 0 c).arrAt_eq_of_covers 3 _ (by decide +kernel) fun t hf y => by
    blk_simp
    rw [after0_3]
    have ht := bound t
    obtain ⟨a, b, rfl⟩ : ∃ (a : Fin 1024) (b : Fin 1024), y = ix2 a b := ⟨y 0, y 1, by funext k; fin_cases k <;> rfl⟩
    have e : (win0_3.blk t).view.emb (ix2 a b) = ix2 (row t a) (col t b) := by
      simp only [row, col]
      blk_ext [idx t]
    rw [e, ref3_at]
    refine (out3_at (hB m c t) (waB m c t) (wbB m c t) a b).trans ?_
    rw [dot0_at m c t a b]

theorem out4_at (x0 : FVec Ideal S1024x2048 .bf16) (x1 : FVec Ideal S2048x1024 .bf16) (x2 : FVec Ideal S2048x1024 .bf16) (a : Fin 1024) (b : Fin 1024) :
    out0_4 (F := Ideal) x0 x1 x2 (ix2 a b) = (∑ k : Fin 2048, x0 (ix2 a k) * x2 (ix2 k b)) := by
  frame_out
  pointwise [k0_pay1, k0_pay2]

theorem ref4_at (X0 : FVec Ideal S4096x2048 .bf16) (X1 : FVec Ideal S2048x6976 .bf16) (a : Fin 4096) (b : Fin 1024) :
    Cert.UvRefIdeal.Read.val_main_v7 (F := Ideal) X0 X1 (ix2 a b) = dot1 X0 X1 a b := by
  open Cert.UvRefIdeal.Read in
  pointwise [val_main_v7, val_main_v6, val_main_v5, val_main_v4, val_main_v3, val_main_v2, val_main_v1, val_main_v0, dot0, dot1]
  exact Finset.sum_congr rfl fun k _ => by
    have e : (⟨832 + (1024 + b.val), by omega⟩ : Fin 6976) = ⟨1856 + b.val, by omega⟩ := Fin.ext (by show 832 + (1024 + b.val) = 1856 + b.val; omega)
    rw [e]

/-- The array after the run is the reference's. -/
theorem arr4 : (dats m 0 c).arrAt 4 cfg0.N = Cert.UvRefIdeal.Read.val_main_v7 (F := Ideal) (aH m c) (aW m c) :=
  (dats m 0 c).arrAt_eq_of_covers 4 _ (by decide +kernel) fun t hf y => by
    blk_simp
    rw [after0_4]
    have ht := bound t
    obtain ⟨a, b, rfl⟩ : ∃ (a : Fin 1024) (b : Fin 1024), y = ix2 a b := ⟨y 0, y 1, by funext k; fin_cases k <;> rfl⟩
    have e : (win0_4.blk t).view.emb (ix2 a b) = ix2 (row t a) (col t b) := by
      simp only [row, col]
      blk_ext [idx t]
    rw [e, ref4_at]
    refine (out4_at (hB m c t) (waB m c t) (wbB m c t) a b).trans ?_
    rw [dot1_at m c t a b]

end Cert.UvIdeal.Value
-- ==== Proof.GatesDwVal.lean ====
/- The gradients of the gates' weights: the call's two arrays are the reference's. -/
module

public import proofs.«01_k».proof.Proof.Gen.GatesDwIdeal.Value
public import proofs.«01_k».proof.Proof.Gen.GatesDwRefIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GatesDwIdeal.Value

open Cert.GatesDwIdeal Cert.GatesDwIdeal.Gen

variable (m : (ℓ : Loc nD τ sig) → Buf (Elt Ideal) ℓ) (c : Dev nD)

/-- The inputs, as launched. -/
abbrev aH : FVec Ideal S4096x2048 .bf16 := m ((c : Thread nD τ).loc main_arg0)
/-- The first cotangent, as launched. -/
abbrev aD : FVec Ideal S4096x2048 .bf16 := m ((c : Thread nD τ).loc main_arg1)
/-- The second cotangent, as launched. -/
abbrev aE : FVec Ideal S4096x2048 .bf16 := m ((c : Thread nD τ).loc main_arg2)

theorem idx : ∀ t : Fin cfg0.N, win0_0.index t = ![t.val % 2, t.val / 4]
    ∧ win0_1.index t = ![t.val % 2, t.val / 2 % 2]
    ∧ win0_2.index t = ![t.val % 2, t.val / 2 % 2]
    ∧ win0_3.index t = ![t.val / 4, t.val / 2 % 2]
    ∧ win0_4.index t = ![t.val / 4, t.val / 2 % 2] ∧ t.val / 4 < 2 :=
  (by decide +kernel : ∀ t : Fin grid0.N, _)

variable (t : Fin cfg0.N)

theorem bound : t.val / 4 < 2 := (idx t).2.2.2.2.2

/-- The token of a block's token. -/
def tok (t : Fin cfg0.N) (k : Fin 2048) : Fin 4096 := ⟨t.val % 2 * 2048 + k.val, by omega⟩
/-- The array's row of a block's row. -/
def row (t : Fin cfg0.N) (a : Fin 1024) : Fin 2048 := ⟨t.val / 4 * 1024 + a.val, by have := bound t; omega⟩
/-- The array's column of a block's column. -/
def col (t : Fin cfg0.N) (b : Fin 1024) : Fin 2048 := ⟨t.val / 2 % 2 * 1024 + b.val, by have := bound t; omega⟩

/-- The point's block of an operand. -/
abbrev bH : FVec Ideal S2048x1024 .bf16 := iblk m c 0 t

theorem bH_at (k : Fin 2048) (a : Fin 1024) : bH m c t (ix2 k a) = aH m c (ix2 (tok t k) (row t a)) := by
  have key : ∀ Z : FVec Ideal S4096x2048 .bf16, ((cfg0.win 0).blk t).view.read (Elt Ideal) Z (ix2 k a)
      = Z (ix2 ⟨t.val % 2 * 2048 + k.val, by omega⟩ ⟨t.val / 4 * 1024 + a.val, by have := bound t; omega⟩) := by
    intro Z
    blk_ext [idx t]
  refine (key (V m c main_arg0)).trans ?_
  rw [V_main_arg0]
  rfl

/-- The point's block of an operand. -/
abbrev bD : FVec Ideal S2048x1024 .bf16 := iblk m c 1 t

theorem bD_at (k : Fin 2048) (b : Fin 1024) : bD m c t (ix2 k b) = aD m c (ix2 (tok t k) (col t b)) := by
  have key : ∀ Z : FVec Ideal S4096x2048 .bf16, ((cfg0.win 1).blk t).view.read (Elt Ideal) Z (ix2 k b)
      = Z (ix2 ⟨t.val % 2 * 2048 + k.val, by omega⟩ ⟨t.val / 2 % 2 * 1024 + b.val, by have := bound t; omega⟩) := by
    intro Z
    blk_ext [idx t]
  refine (key (V m c main_arg1)).trans ?_
  rw [V_main_arg1]
  rfl

/-- The point's block of an operand. -/
abbrev bE : FVec Ideal S2048x1024 .bf16 := iblk m c 2 t

theorem bE_at (k : Fin 2048) (b : Fin 1024) : bE m c t (ix2 k b) = aE m c (ix2 (tok t k) (col t b)) := by
  have key : ∀ Z : FVec Ideal S4096x2048 .bf16, ((cfg0.win 2).blk t).view.read (Elt Ideal) Z (ix2 k b)
      = Z (ix2 ⟨t.val % 2 * 2048 + k.val, by omega⟩ ⟨t.val / 2 % 2 * 1024 + b.val, by have := bound t; omega⟩) := by
    intro Z
    blk_ext [idx t]
  refine (key (V m c main_arg2)).trans ?_
  rw [V_main_arg2]
  rfl

/-- The accumulator after a block's first point: the products of the first half of the tokens. -/
theorem first3 (h : t.val % 2 = 0) (a : Fin 1024) (b : Fin 1024) : (outsAt0 m c t.val t.isLt).2.2.1 (ix2 a b)
    = ∑ k : Fin 2048, bH m c t (ix2 k a) * bD m c t (ix2 k b) := by
  rw [outsAt0_A m c t h (by omega) (by omega)]; frame_out
  pointwise [k0_pay1, k0_pay2, k0_pay3, k0_pay4, k0_pay5, k0_pay6]

/-- The block after its last point: the accumulator and the products of the second half of the tokens. -/
theorem last3 (h : t.val % 2 = 1) (a : Fin 1024) (b : Fin 1024) : (outsAt0 m c t.val t.isLt).1 (ix2 a b)
    = (show EReal from (outsAt0 m c (t.val - 1) (Nat.lt_of_le_of_lt (Nat.sub_le _ _) t.isLt)).2.2.1 (ix2 a b))
      + ∑ k : Fin 2048, bH m c t (ix2 k a) * bD m c t (ix2 k b) := by
  rw [outsAt0_B m c t (by omega) h h]; frame_out
  pointwise [k0_pay1, k0_pay2, k0_pay3, k0_pay4, k0_pay5, k0_pay6]
  exact congrArg (· + _) (congrFun (read_unread_whole _ _ _) _)

/-- What a block holds after its last point. -/
theorem block3 (ho : t.val % 2 = 1) (a : Fin 1024) (b : Fin 1024) : (outsAt0 m c t.val t.isLt).1 (ix2 a b)
    = ∑ k : Fin 4096, aD m c (ix2 k (col t b)) * aH m c (ix2 k (row t a)) := by
  refine (last3 m c t ho a b).trans ?_
  have hp : t.val - 1 < cfg0.N := Nat.lt_of_le_of_lt (Nat.sub_le _ _) t.isLt
  have ef := first3 m c ⟨t.val - 1, hp⟩ (by show (t.val - 1) % 2 = 0; omega) a b
  refine (congrArg (· + _) ef).trans ?_
  have er : row ⟨t.val - 1, hp⟩ a = row t a := by apply Fin.ext; simp only [row] <;> omega
  have ec : col ⟨t.val - 1, hp⟩ b = col t b := by apply Fin.ext; simp only [col] <;> omega
  rw [Fin.sum_univ_two_halves 2048 2048 rfl]
  refine congrArg₂ (· + ·) (Finset.sum_congr rfl fun k _ => ?_) (Finset.sum_congr rfl fun k _ => ?_)
  · rw [bH_at, bD_at, mul_comm, er, ec]
    have ek : tok ⟨t.val - 1, hp⟩ k = ⟨k.val, by omega⟩ := by apply Fin.ext; simp only [tok]; omega
    rw [ek]
  · rw [bH_at, bD_at, mul_comm]
    have ek : tok t k = ⟨2048 + k.val, by omega⟩ := by apply Fin.ext; simp only [tok]; omega
    rw [ek]

/-- The reference's gradient at an index. -/
theorem ref3_at (X0 : FVec Ideal S4096x2048 .bf16) (X1 : FVec Ideal S4096x2048 .bf16) (a : Fin 2048) (b : Fin 2048) :
    Cert.GatesDwRefIdeal.Read.val_main_v11 (F := Ideal) X0 X1 (ix2 a b) = ∑ k : Fin 4096, X1 (ix2 k b) * X0 (ix2 k a) := by
  open Cert.GatesDwRefIdeal.Read in
  pointwise [val_main_v11, val_main_v10, val_main_v9, val_main_v8, val_main_v7, val_main_v6, val_main_v5, val_main_v4, val_main_v3, val_main_v2, val_main_v1, val_main_v0, val_main_cst]

/-- The array after the run is the reference's. -/
theorem arr3 : (dats m 0 c).arrAt 3 cfg0.N = Cert.GatesDwRefIdeal.Read.val_main_v11 (F := Ideal) (aH m c) (aD m c) :=
  (dats m 0 c).arrAt_eq_of_covers 3 _ (by decide +kernel) fun t hf y => by
    blk_simp
    rw [after0_3]
    have ht := bound t
    have ho : t.val % 2 = 1 := (flush0_3 t).mp hf
    obtain ⟨a, b, rfl⟩ : ∃ (a : Fin 1024) (b : Fin 1024), y = ix2 a b := ⟨y 0, y 1, by funext k; fin_cases k <;> rfl⟩
    have e : (win0_3.blk t).view.emb (ix2 a b) = ix2 (row t a) (col t b) := by
      simp only [row, col]
      blk_ext [idx t]
    rw [e, ref3_at]
    exact block3 m c t ho a b

/-- The accumulator after a block's first point: the products of the first half of the tokens. -/
theorem first4 (h : t.val % 2 = 0) (a : Fin 1024) (b : Fin 1024) : (outsAt0 m c t.val t.isLt).2.2.2 (ix2 a b)
    = ∑ k : Fin 2048, bH m c t (ix2 k a) * bE m c t (ix2 k b) := by
  rw [outsAt0_A m c t h (by omega) (by omega)]; frame_out
  pointwise [k0_pay1, k0_pay2, k0_pay3, k0_pay4, k0_pay5, k0_pay6]

/-- The block after its last point: the accumulator and the products of the second half of the tokens. -/
theorem last4 (h : t.val % 2 = 1) (a : Fin 1024) (b : Fin 1024) : (outsAt0 m c t.val t.isLt).2.1 (ix2 a b)
    = (show EReal from (outsAt0 m c (t.val - 1) (Nat.lt_of_le_of_lt (Nat.sub_le _ _) t.isLt)).2.2.2 (ix2 a b))
      + ∑ k : Fin 2048, bH m c t (ix2 k a) * bE m c t (ix2 k b) := by
  rw [outsAt0_B m c t (by omega) h h]; frame_out
  pointwise [k0_pay1, k0_pay2, k0_pay3, k0_pay4, k0_pay5, k0_pay6]
  exact congrArg (· + _) (congrFun (read_unread_whole _ _ _) _)

/-- What a block holds after its last point. -/
theorem block4 (ho : t.val % 2 = 1) (a : Fin 1024) (b : Fin 1024) : (outsAt0 m c t.val t.isLt).2.1 (ix2 a b)
    = ∑ k : Fin 4096, aE m c (ix2 k (col t b)) * aH m c (ix2 k (row t a)) := by
  refine (last4 m c t ho a b).trans ?_
  have hp : t.val - 1 < cfg0.N := Nat.lt_of_le_of_lt (Nat.sub_le _ _) t.isLt
  have ef := first4 m c ⟨t.val - 1, hp⟩ (by show (t.val - 1) % 2 = 0; omega) a b
  refine (congrArg (· + _) ef).trans ?_
  have er : row ⟨t.val - 1, hp⟩ a = row t a := by apply Fin.ext; simp only [row] <;> omega
  have ec : col ⟨t.val - 1, hp⟩ b = col t b := by apply Fin.ext; simp only [col] <;> omega
  rw [Fin.sum_univ_two_halves 2048 2048 rfl]
  refine congrArg₂ (· + ·) (Finset.sum_congr rfl fun k _ => ?_) (Finset.sum_congr rfl fun k _ => ?_)
  · rw [bH_at, bE_at, mul_comm, er, ec]
    have ek : tok ⟨t.val - 1, hp⟩ k = ⟨k.val, by omega⟩ := by apply Fin.ext; simp only [tok]; omega
    rw [ek]
  · rw [bH_at, bE_at, mul_comm]
    have ek : tok t k = ⟨2048 + k.val, by omega⟩ := by apply Fin.ext; simp only [tok]; omega
    rw [ek]

/-- The reference's gradient at an index. -/
theorem ref4_at (X0 : FVec Ideal S4096x2048 .bf16) (X2 : FVec Ideal S4096x2048 .bf16) (a : Fin 2048) (b : Fin 2048) :
    Cert.GatesDwRefIdeal.Read.val_main_v12 (F := Ideal) X0 X2 (ix2 a b) = ∑ k : Fin 4096, X2 (ix2 k b) * X0 (ix2 k a) := by
  open Cert.GatesDwRefIdeal.Read in
  pointwise [val_main_v12, val_main_v11, val_main_v10, val_main_v9, val_main_v8, val_main_v7, val_main_v6, val_main_v5, val_main_v4, val_main_v3, val_main_v2, val_main_v1, val_main_v0, val_main_cst]

/-- The array after the run is the reference's. -/
theorem arr4 : (dats m 0 c).arrAt 4 cfg0.N = Cert.GatesDwRefIdeal.Read.val_main_v12 (F := Ideal) (aH m c) (aE m c) :=
  (dats m 0 c).arrAt_eq_of_covers 4 _ (by decide +kernel) fun t hf y => by
    blk_simp
    rw [after0_4]
    have ht := bound t
    have ho : t.val % 2 = 1 := (flush0_4 t).mp hf
    obtain ⟨a, b, rfl⟩ : ∃ (a : Fin 1024) (b : Fin 1024), y = ix2 a b := ⟨y 0, y 1, by funext k; fin_cases k <;> rfl⟩
    have e : (win0_4.blk t).view.emb (ix2 a b) = ix2 (row t a) (col t b) := by
      simp only [row, col]
      blk_ext [idx t]
    rw [e, ref4_at]
    exact block4 m c t ho a b

end Cert.GatesDwIdeal.Value
-- ==== Proof.UvDwVal.lean ====
/- The gradients of the gating unit's weights: the call's two arrays are the reference's. -/
module

public import proofs.«01_k».proof.Proof.Gen.UvDwIdeal.Value
public import proofs.«01_k».proof.Proof.Gen.UvDwRefIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.UvDwIdeal.Value

open Cert.UvDwIdeal Cert.UvDwIdeal.Gen

variable (m : (ℓ : Loc nD τ sig) → Buf (Elt Ideal) ℓ) (c : Dev nD)

/-- The inputs, as launched. -/
abbrev aH : FVec Ideal S4096x2048 .bf16 := m ((c : Thread nD τ).loc main_arg0)
/-- The first cotangent, as launched. -/
abbrev aD : FVec Ideal S4096x1024 .bf16 := m ((c : Thread nD τ).loc main_arg1)
/-- The second cotangent, as launched. -/
abbrev aE : FVec Ideal S4096x1024 .bf16 := m ((c : Thread nD τ).loc main_arg2)

theorem idx : ∀ t : Fin cfg0.N, win0_0.index t = ![t.val % 2, t.val / 2]
    ∧ win0_1.index t = ![t.val % 2, 0]
    ∧ win0_2.index t = ![t.val % 2, 0]
    ∧ win0_3.index t = ![t.val / 2, 0]
    ∧ win0_4.index t = ![t.val / 2, 0] ∧ t.val / 2 < 2 :=
  (by decide +kernel : ∀ t : Fin grid0.N, _)

variable (t : Fin cfg0.N)

theorem bound : t.val / 2 < 2 := (idx t).2.2.2.2.2

/-- The token of a block's token. -/
def tok (t : Fin cfg0.N) (k : Fin 2048) : Fin 4096 := ⟨t.val % 2 * 2048 + k.val, by omega⟩
/-- The array's row of a block's row. -/
def row (t : Fin cfg0.N) (a : Fin 1024) : Fin 2048 := ⟨t.val / 2 * 1024 + a.val, by have := bound t; omega⟩
/-- The array's column of a block's column. -/
def col (t : Fin cfg0.N) (b : Fin 1024) : Fin 1024 := ⟨0 * 1024 + b.val, by have := bound t; omega⟩

/-- The point's block of an operand. -/
abbrev bH : FVec Ideal S2048x1024 .bf16 := iblk m c 0 t

theorem bH_at (k : Fin 2048) (a : Fin 1024) : bH m c t (ix2 k a) = aH m c (ix2 (tok t k) (row t a)) := by
  have key : ∀ Z : FVec Ideal S4096x2048 .bf16, ((cfg0.win 0).blk t).view.read (Elt Ideal) Z (ix2 k a)
      = Z (ix2 ⟨t.val % 2 * 2048 + k.val, by omega⟩ ⟨t.val / 2 * 1024 + a.val, by have := bound t; omega⟩) := by
    intro Z
    blk_ext [idx t]
  refine (key (V m c main_arg0)).trans ?_
  rw [V_main_arg0]
  rfl

/-- The point's block of an operand. -/
abbrev bD : FVec Ideal S2048x1024 .bf16 := iblk m c 1 t

theorem bD_at (k : Fin 2048) (b : Fin 1024) : bD m c t (ix2 k b) = aD m c (ix2 (tok t k) (col t b)) := by
  have key : ∀ Z : FVec Ideal S4096x1024 .bf16, ((cfg0.win 1).blk t).view.read (Elt Ideal) Z (ix2 k b)
      = Z (ix2 ⟨t.val % 2 * 2048 + k.val, by omega⟩ ⟨0 * 1024 + b.val, by have := bound t; omega⟩) := by
    intro Z
    blk_ext [idx t]
  refine (key (V m c main_arg1)).trans ?_
  rw [V_main_arg1]
  rfl

/-- The point's block of an operand. -/
abbrev bE : FVec Ideal S2048x1024 .bf16 := iblk m c 2 t

theorem bE_at (k : Fin 2048) (b : Fin 1024) : bE m c t (ix2 k b) = aE m c (ix2 (tok t k) (col t b)) := by
  have key : ∀ Z : FVec Ideal S4096x1024 .bf16, ((cfg0.win 2).blk t).view.read (Elt Ideal) Z (ix2 k b)
      = Z (ix2 ⟨t.val % 2 * 2048 + k.val, by omega⟩ ⟨0 * 1024 + b.val, by have := bound t; omega⟩) := by
    intro Z
    blk_ext [idx t]
  refine (key (V m c main_arg2)).trans ?_
  rw [V_main_arg2]
  rfl

/-- The accumulator after a block's first point: the products of the first half of the tokens. -/
theorem first3 (h : t.val % 2 = 0) (a : Fin 1024) (b : Fin 1024) : (outsAt0 m c t.val t.isLt).2.2.1 (ix2 a b)
    = ∑ k : Fin 2048, bH m c t (ix2 k a) * bD m c t (ix2 k b) := by
  rw [outsAt0_A m c t h (by omega) (by omega)]; frame_out
  pointwise [k0_pay1, k0_pay2, k0_pay3, k0_pay4, k0_pay5, k0_pay6]

/-- The block after its last point: the accumulator and the products of the second half of the tokens. -/
theorem last3 (h : t.val % 2 = 1) (a : Fin 1024) (b : Fin 1024) : (outsAt0 m c t.val t.isLt).1 (ix2 a b)
    = (show EReal from (outsAt0 m c (t.val - 1) (Nat.lt_of_le_of_lt (Nat.sub_le _ _) t.isLt)).2.2.1 (ix2 a b))
      + ∑ k : Fin 2048, bH m c t (ix2 k a) * bD m c t (ix2 k b) := by
  rw [outsAt0_B m c t (by omega) h h]; frame_out
  pointwise [k0_pay1, k0_pay2, k0_pay3, k0_pay4, k0_pay5, k0_pay6]
  exact congrArg (· + _) (congrFun (read_unread_whole _ _ _) _)

/-- What a block holds after its last point. -/
theorem block3 (ho : t.val % 2 = 1) (a : Fin 1024) (b : Fin 1024) : (outsAt0 m c t.val t.isLt).1 (ix2 a b)
    = ∑ k : Fin 4096, aD m c (ix2 k (col t b)) * aH m c (ix2 k (row t a)) := by
  refine (last3 m c t ho a b).trans ?_
  have hp : t.val - 1 < cfg0.N := Nat.lt_of_le_of_lt (Nat.sub_le _ _) t.isLt
  have ef := first3 m c ⟨t.val - 1, hp⟩ (by show (t.val - 1) % 2 = 0; omega) a b
  refine (congrArg (· + _) ef).trans ?_
  have er : row ⟨t.val - 1, hp⟩ a = row t a := by apply Fin.ext; simp only [row] <;> omega
  have ec : col ⟨t.val - 1, hp⟩ b = col t b := by apply Fin.ext; simp only [col] <;> omega
  rw [Fin.sum_univ_two_halves 2048 2048 rfl]
  refine congrArg₂ (· + ·) (Finset.sum_congr rfl fun k _ => ?_) (Finset.sum_congr rfl fun k _ => ?_)
  · rw [bH_at, bD_at, mul_comm, er, ec]
    have ek : tok ⟨t.val - 1, hp⟩ k = ⟨k.val, by omega⟩ := by apply Fin.ext; simp only [tok]; omega
    rw [ek]
  · rw [bH_at, bD_at, mul_comm]
    have ek : tok t k = ⟨2048 + k.val, by omega⟩ := by apply Fin.ext; simp only [tok]; omega
    rw [ek]

/-- The reference's gradient at an index. -/
theorem ref3_at (X0 : FVec Ideal S4096x2048 .bf16) (X1 : FVec Ideal S4096x1024 .bf16) (a : Fin 2048) (b : Fin 1024) :
    Cert.UvDwRefIdeal.Read.val_main_v11 (F := Ideal) X0 X1 (ix2 a b) = ∑ k : Fin 4096, X1 (ix2 k b) * X0 (ix2 k a) := by
  open Cert.UvDwRefIdeal.Read in
  pointwise [val_main_v11, val_main_v10, val_main_v9, val_main_v8, val_main_v7, val_main_v6, val_main_v5, val_main_v4, val_main_v3, val_main_v2, val_main_v1, val_main_v0, val_main_cst]

/-- The array after the run is the reference's. -/
theorem arr3 : (dats m 0 c).arrAt 3 cfg0.N = Cert.UvDwRefIdeal.Read.val_main_v11 (F := Ideal) (aH m c) (aD m c) :=
  (dats m 0 c).arrAt_eq_of_covers 3 _ (by decide +kernel) fun t hf y => by
    blk_simp
    rw [after0_3]
    have ht := bound t
    have ho : t.val % 2 = 1 := (flush0_3 t).mp hf
    obtain ⟨a, b, rfl⟩ : ∃ (a : Fin 1024) (b : Fin 1024), y = ix2 a b := ⟨y 0, y 1, by funext k; fin_cases k <;> rfl⟩
    have e : (win0_3.blk t).view.emb (ix2 a b) = ix2 (row t a) (col t b) := by
      simp only [row, col]
      blk_ext [idx t]
    rw [e, ref3_at]
    exact block3 m c t ho a b

/-- The accumulator after a block's first point: the products of the first half of the tokens. -/
theorem first4 (h : t.val % 2 = 0) (a : Fin 1024) (b : Fin 1024) : (outsAt0 m c t.val t.isLt).2.2.2 (ix2 a b)
    = ∑ k : Fin 2048, bH m c t (ix2 k a) * bE m c t (ix2 k b) := by
  rw [outsAt0_A m c t h (by omega) (by omega)]; frame_out
  pointwise [k0_pay1, k0_pay2, k0_pay3, k0_pay4, k0_pay5, k0_pay6]

/-- The block after its last point: the accumulator and the products of the second half of the tokens. -/
theorem last4 (h : t.val % 2 = 1) (a : Fin 1024) (b : Fin 1024) : (outsAt0 m c t.val t.isLt).2.1 (ix2 a b)
    = (show EReal from (outsAt0 m c (t.val - 1) (Nat.lt_of_le_of_lt (Nat.sub_le _ _) t.isLt)).2.2.2 (ix2 a b))
      + ∑ k : Fin 2048, bH m c t (ix2 k a) * bE m c t (ix2 k b) := by
  rw [outsAt0_B m c t (by omega) h h]; frame_out
  pointwise [k0_pay1, k0_pay2, k0_pay3, k0_pay4, k0_pay5, k0_pay6]
  exact congrArg (· + _) (congrFun (read_unread_whole _ _ _) _)

/-- What a block holds after its last point. -/
theorem block4 (ho : t.val % 2 = 1) (a : Fin 1024) (b : Fin 1024) : (outsAt0 m c t.val t.isLt).2.1 (ix2 a b)
    = ∑ k : Fin 4096, aE m c (ix2 k (col t b)) * aH m c (ix2 k (row t a)) := by
  refine (last4 m c t ho a b).trans ?_
  have hp : t.val - 1 < cfg0.N := Nat.lt_of_le_of_lt (Nat.sub_le _ _) t.isLt
  have ef := first4 m c ⟨t.val - 1, hp⟩ (by show (t.val - 1) % 2 = 0; omega) a b
  refine (congrArg (· + _) ef).trans ?_
  have er : row ⟨t.val - 1, hp⟩ a = row t a := by apply Fin.ext; simp only [row] <;> omega
  have ec : col ⟨t.val - 1, hp⟩ b = col t b := by apply Fin.ext; simp only [col] <;> omega
  rw [Fin.sum_univ_two_halves 2048 2048 rfl]
  refine congrArg₂ (· + ·) (Finset.sum_congr rfl fun k _ => ?_) (Finset.sum_congr rfl fun k _ => ?_)
  · rw [bH_at, bE_at, mul_comm, er, ec]
    have ek : tok ⟨t.val - 1, hp⟩ k = ⟨k.val, by omega⟩ := by apply Fin.ext; simp only [tok]; omega
    rw [ek]
  · rw [bH_at, bE_at, mul_comm]
    have ek : tok t k = ⟨2048 + k.val, by omega⟩ := by apply Fin.ext; simp only [tok]; omega
    rw [ek]

/-- The reference's gradient at an index. -/
theorem ref4_at (X0 : FVec Ideal S4096x2048 .bf16) (X2 : FVec Ideal S4096x1024 .bf16) (a : Fin 2048) (b : Fin 1024) :
    Cert.UvDwRefIdeal.Read.val_main_v12 (F := Ideal) X0 X2 (ix2 a b) = ∑ k : Fin 4096, X2 (ix2 k b) * X0 (ix2 k a) := by
  open Cert.UvDwRefIdeal.Read in
  pointwise [val_main_v12, val_main_v11, val_main_v10, val_main_v9, val_main_v8, val_main_v7, val_main_v6, val_main_v5, val_main_v4, val_main_v3, val_main_v2, val_main_v1, val_main_v0, val_main_cst]

/-- The array after the run is the reference's. -/
theorem arr4 : (dats m 0 c).arrAt 4 cfg0.N = Cert.UvDwRefIdeal.Read.val_main_v12 (F := Ideal) (aH m c) (aE m c) :=
  (dats m 0 c).arrAt_eq_of_covers 4 _ (by decide +kernel) fun t hf y => by
    blk_simp
    rw [after0_4]
    have ht := bound t
    have ho : t.val % 2 = 1 := (flush0_4 t).mp hf
    obtain ⟨a, b, rfl⟩ : ∃ (a : Fin 1024) (b : Fin 1024), y = ix2 a b := ⟨y 0, y 1, by funext k; fin_cases k <;> rfl⟩
    have e : (win0_4.blk t).view.emb (ix2 a b) = ix2 (row t a) (col t b) := by
      simp only [row, col]
      blk_ext [idx t]
    rw [e, ref4_at]
    exact block4 m c t ho a b

end Cert.UvDwIdeal.Value
-- ==== Proof.ProjDxVal.lean ====
/- The gradient of the combined projection's inputs: the call's array is the reference's. -/
module

public import proofs.«01_k».proof.Proof.Gen.ProjDxIdeal.Value
public import proofs.«01_k».proof.Proof.Gen.ProjDxRefIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjDxIdeal.Value

open Cert.ProjDxIdeal Cert.ProjDxIdeal.Gen

variable (m : (ℓ : Loc nD τ sig) → Buf (Elt Ideal) ℓ) (c : Dev nD)

/-- The cotangent of the queries, as launched. -/
abbrev aQ : FVec Ideal S4096x512 .bf16 := m ((c : Thread nD τ).loc main_arg0)
/-- The cotangent of the keys and values, as launched. -/
abbrev aK : FVec Ideal S4096x384 .bf16 := m ((c : Thread nD τ).loc main_arg1)
/-- The cotangent of the gating unit's first half, as launched. -/
abbrev aU : FVec Ideal S4096x1024 .bf16 := m ((c : Thread nD τ).loc main_arg2)
/-- The cotangent of the gating unit's second half, as launched. -/
abbrev aV : FVec Ideal S4096x1024 .bf16 := m ((c : Thread nD τ).loc main_arg3)
/-- The cotangent of the first gate, as launched. -/
abbrev aG : FVec Ideal S4096x2048 .bf16 := m ((c : Thread nD τ).loc main_arg4)
/-- The cotangent of the second gate, as launched. -/
abbrev aH : FVec Ideal S4096x2048 .bf16 := m ((c : Thread nD τ).loc main_arg5)
/-- The weights, as launched. -/
abbrev aW : FVec Ideal S2048x6976 .bf16 := m ((c : Thread nD τ).loc main_arg6)

section terms
variable {F : FTy → Type} [FloatOps F]
variable (m : (ℓ : Loc nD τ sig) → Buf (Elt F) ℓ) (c : Dev nD)
/-- The operand's columns from 0, as the call finds them. -/
theorem V_Q : V m c main_v0 = extractStridedSlice S2048x512 ![0, 0] (m ((c : Thread nD τ).loc main_arg6)) slices_S2048x6976_S2048x512_0_0 := by
  unfold V; after_reads_simp
/-- The operand's columns from 832, as the call finds them. -/
theorem V_U : V m c main_v3 = extractStridedSlice S2048x1024 ![0, 832] (m ((c : Thread nD τ).loc main_arg6)) slices_S2048x6976_S2048x1024_0_832 := by
  unfold V; after_reads_simp
/-- The operand's columns from 1856, as the call finds them. -/
theorem V_V : V m c main_v4 = extractStridedSlice S2048x1024 ![0, 1856] (m ((c : Thread nD τ).loc main_arg6)) slices_S2048x6976_S2048x1024_0_1856 := by
  unfold V; after_reads_simp
/-- The operand's columns from 2880, as the call finds them. -/
theorem V_G : V m c main_v5 = extractStridedSlice S2048x2048 ![0, 2880] (m ((c : Thread nD τ).loc main_arg6)) slices_S2048x6976_S2048x2048_0_2880 := by
  unfold V; after_reads_simp
/-- The operand's columns from 4928, as the call finds them. -/
theorem V_H : V m c main_v6 = extractStridedSlice S2048x2048 ![0, 4928] (m ((c : Thread nD τ).loc main_arg6)) slices_S2048x6976_S2048x2048_0_4928 := by
  unfold V; after_reads_simp
/-- The operand's columns from 512, padded to 384, as the call finds them. -/
theorem V_K : V m c main_v2 = pad S2048x384 ![0, 0] ![0, 64] ![0, 0] (extractStridedSlice S2048x320 ![0, 512] (m ((c : Thread nD τ).loc main_arg6)) slices_S2048x6976_S2048x320_0_512)
    (sitofp (F := F) .bf16 (constantI S_ 32 0#32)) pads_S2048x320_S2048x384_000_0640 h_S_ := by
  unfold V; after_reads_simp
  rfl
end terms

theorem slice_Q (X : FVec Ideal S2048x6976 .bf16) (a : Fin 2048) (b : Fin 512) :
    extractStridedSlice S2048x512 ![0, 0] X slices_S2048x6976_S2048x512_0_0 (ix2 a b) = X (ix2 a ⟨0 + b.val, by omega⟩) := by
  pointwise

theorem slice_U (X : FVec Ideal S2048x6976 .bf16) (a : Fin 2048) (b : Fin 1024) :
    extractStridedSlice S2048x1024 ![0, 832] X slices_S2048x6976_S2048x1024_0_832 (ix2 a b) = X (ix2 a ⟨832 + b.val, by omega⟩) := by
  pointwise

theorem slice_V (X : FVec Ideal S2048x6976 .bf16) (a : Fin 2048) (b : Fin 1024) :
    extractStridedSlice S2048x1024 ![0, 1856] X slices_S2048x6976_S2048x1024_0_1856 (ix2 a b) = X (ix2 a ⟨1856 + b.val, by omega⟩) := by
  pointwise

theorem slice_G (X : FVec Ideal S2048x6976 .bf16) (a : Fin 2048) (b : Fin 2048) :
    extractStridedSlice S2048x2048 ![0, 2880] X slices_S2048x6976_S2048x2048_0_2880 (ix2 a b) = X (ix2 a ⟨2880 + b.val, by omega⟩) := by
  pointwise

theorem slice_H (X : FVec Ideal S2048x6976 .bf16) (a : Fin 2048) (b : Fin 2048) :
    extractStridedSlice S2048x2048 ![0, 4928] X slices_S2048x6976_S2048x2048_0_4928 (ix2 a b) = X (ix2 a ⟨4928 + b.val, by omega⟩) := by
  pointwise

theorem idx : ∀ t : Fin cfg0.N, win0_0.index t = ![t.val / 28, 0]
    ∧ win0_1.index t = ![t.val / 14 % 2, 0]
    ∧ win0_2.index t = ![t.val / 28, 0]
    ∧ win0_3.index t = ![t.val / 14 % 2, 0]
    ∧ win0_4.index t = ![t.val / 28, min (t.val % 14 - 2) 1]
    ∧ win0_5.index t = ![t.val / 14 % 2, min (t.val % 14 - 2) 1]
    ∧ win0_6.index t = ![t.val / 28, min (t.val % 14 - 4) 1]
    ∧ win0_7.index t = ![t.val / 14 % 2, min (t.val % 14 - 4) 1]
    ∧ win0_8.index t = ![t.val / 28, min (t.val % 14 - 6) 3]
    ∧ win0_9.index t = ![t.val / 14 % 2, min (t.val % 14 - 6) 3]
    ∧ win0_10.index t = ![t.val / 28, t.val % 14 - 10]
    ∧ win0_11.index t = ![t.val / 14 % 2, t.val % 14 - 10]
    ∧ win0_12.index t = ![t.val / 28, t.val / 14 % 2] ∧ t.val / 28 < 4 :=
  (by decide +kernel : ∀ t : Fin grid0.N, _)

theorem bound (t : Fin cfg0.N) : t.val / 28 < 4 := (idx t).2.2.2.2.2.2.2.2.2.2.2.2.2

/-- The array's row of a block's row. -/
def row (t : Fin cfg0.N) (a : Fin 1024) : Fin 4096 := ⟨t.val / 28 * 1024 + a.val, by have := bound t; omega⟩
/-- The array's column of a block's column. -/
def col (t : Fin cfg0.N) (b : Fin 1024) : Fin 2048 := ⟨t.val / 14 % 2 * 1024 + b.val, by omega⟩

/-- One product of the sum over the columns of `aQ`. -/
def gQ (X : FVec Ideal S4096x512 .bf16) (Y : FVec Ideal S2048x6976 .bf16) (a : Fin 4096) (b : Fin 2048) (k : ℕ) : EReal :=
  if h : k < 512 then X (ix2 a ⟨k, h⟩) * Y (ix2 b ⟨0 + k, by omega⟩) else 0

/-- One product of the sum over the columns of `aK`. -/
def gK (X : FVec Ideal S4096x384 .bf16) (Y : FVec Ideal S2048x6976 .bf16) (a : Fin 4096) (b : Fin 2048) (k : ℕ) : EReal :=
  if h : k < 384 then X (ix2 a ⟨k, h⟩) * (if h' : k < 320 then Y (ix2 b ⟨512 + k, by omega⟩) else 0) else 0

/-- One product of the sum over the columns of `aU`. -/
def gU (X : FVec Ideal S4096x1024 .bf16) (Y : FVec Ideal S2048x6976 .bf16) (a : Fin 4096) (b : Fin 2048) (k : ℕ) : EReal :=
  if h : k < 1024 then X (ix2 a ⟨k, h⟩) * Y (ix2 b ⟨832 + k, by omega⟩) else 0

/-- One product of the sum over the columns of `aV`. -/
def gV (X : FVec Ideal S4096x1024 .bf16) (Y : FVec Ideal S2048x6976 .bf16) (a : Fin 4096) (b : Fin 2048) (k : ℕ) : EReal :=
  if h : k < 1024 then X (ix2 a ⟨k, h⟩) * Y (ix2 b ⟨1856 + k, by omega⟩) else 0

/-- One product of the sum over the columns of `aG`. -/
def gG (X : FVec Ideal S4096x2048 .bf16) (Y : FVec Ideal S2048x6976 .bf16) (a : Fin 4096) (b : Fin 2048) (k : ℕ) : EReal :=
  if h : k < 2048 then X (ix2 a ⟨k, h⟩) * Y (ix2 b ⟨2880 + k, by omega⟩) else 0

/-- One product of the sum over the columns of `aH`. -/
def gH (X : FVec Ideal S4096x2048 .bf16) (Y : FVec Ideal S2048x6976 .bf16) (a : Fin 4096) (b : Fin 2048) (k : ℕ) : EReal :=
  if h : k < 2048 then X (ix2 a ⟨k, h⟩) * Y (ix2 b ⟨4928 + k, by omega⟩) else 0

variable (t : Fin cfg0.N)

/-- The point's blocks of the pair. -/
abbrev xQ : FVec Ideal S1024x512 .bf16 := iblk m c 0 t
abbrev wQ : FVec Ideal S1024x512 .bf16 := iblk m c 1 t

theorem xQ_at (h : 0 ≤ t.val % 14 ∧ t.val % 14 < 1) (a : Fin 1024) (k : Fin 512) : xQ m c t (ix2 a k) = aQ m c (ix2 (row t a) ⟨(t.val % 14 - 0) * 512 + k.val, by omega⟩) := by
  have key : ∀ Z : FVec Ideal S4096x512 .bf16, ((cfg0.win 0).blk t).view.read (Elt Ideal) Z (ix2 a k)
      = Z (ix2 ⟨t.val / 28 * 1024 + a.val, by have := bound t; omega⟩ ⟨(t.val % 14 - 0) * 512 + k.val, by omega⟩) := by
    intro Z
    have e : t.val % 14 - 0 = 0 := by omega
    blk_ext [idx t, e]
  refine (key (V m c main_arg0)).trans ?_
  rw [V_main_arg0]
  rfl

theorem wQ_at (h : 0 ≤ t.val % 14 ∧ t.val % 14 < 1) (b : Fin 1024) (k : Fin 512) : wQ m c t (ix2 b k) = aW m c (ix2 (col t b) ⟨0 + ((t.val % 14 - 0) * 512 + k.val), by omega⟩) := by
  have key : ∀ Z : FVec Ideal S2048x512 .bf16, ((cfg0.win 1).blk t).view.read (Elt Ideal) Z (ix2 b k)
      = Z (ix2 ⟨t.val / 14 % 2 * 1024 + b.val, by omega⟩ ⟨(t.val % 14 - 0) * 512 + k.val, by omega⟩) := by
    intro Z
    have e : t.val % 14 - 0 = 0 := by omega
    blk_ext [idx t, e]
  refine (key (V m c main_v0)).trans ?_
  rw [V_Q, slice_Q]
  rfl

theorem sumQ (h : 0 ≤ t.val % 14 ∧ t.val % 14 < 1) (a b : Fin 1024) : (∑ r : Fin 512, xQ m c t (ix2 a r) * wQ m c t (ix2 b r))
    = ∑ r : Fin 512, gQ (aQ m c) (aW m c) (row t a) (col t b) ((t.val % 14 - 0) * 512 + r.val) := by
  refine Finset.sum_congr rfl fun r _ => ?_
  rw [xQ_at m c t h, wQ_at m c t h, gQ, dif_pos (show (t.val % 14 - 0) * 512 + r.val < 512 by omega)]

theorem padK_at (X : FVec Ideal S2048x6976 .bf16) (b : Fin 2048) (k : Fin 384) :
    pad S2048x384 ![0, 0] ![0, 64] ![0, 0] (extractStridedSlice S2048x320 ![0, 512] X slices_S2048x6976_S2048x320_0_512)
      (sitofp (F := Ideal) .bf16 (constantI S_ 32 0#32)) pads_S2048x320_S2048x384_000_0640 h_S_ (ix2 b k)
      = if h' : k.val < 320 then X (ix2 b ⟨512 + k.val, by omega⟩) else 0 := by
  pointwise
  have e : (FloatOps.sitofp .bf16 0#32 : Ideal .bf16) = 0 := by
    show (((0#32 : BitVec 32).toInt : ℝ) : EReal) = 0
    simp
  rw [e]

/-- The point's blocks of the pair. -/
abbrev xK : FVec Ideal S1024x384 .bf16 := iblk m c 2 t
abbrev wK : FVec Ideal S1024x384 .bf16 := iblk m c 3 t

theorem xK_at (h : 1 ≤ t.val % 14 ∧ t.val % 14 < 2) (a : Fin 1024) (k : Fin 384) : xK m c t (ix2 a k) = aK m c (ix2 (row t a) ⟨(t.val % 14 - 1) * 384 + k.val, by omega⟩) := by
  have key : ∀ Z : FVec Ideal S4096x384 .bf16, ((cfg0.win 2).blk t).view.read (Elt Ideal) Z (ix2 a k)
      = Z (ix2 ⟨t.val / 28 * 1024 + a.val, by have := bound t; omega⟩ ⟨(t.val % 14 - 1) * 384 + k.val, by omega⟩) := by
    intro Z
    have e : t.val % 14 - 1 = 0 := by omega
    blk_ext [idx t, e]
  refine (key (V m c main_arg1)).trans ?_
  rw [V_main_arg1]
  rfl

theorem wK_at (h : 1 ≤ t.val % 14 ∧ t.val % 14 < 2) (b : Fin 1024) (k : Fin 384) : wK m c t (ix2 b k)
    = if h' : (t.val % 14 - 1) * 384 + k.val < 320 then aW m c (ix2 (col t b) ⟨512 + ((t.val % 14 - 1) * 384 + k.val), by omega⟩) else 0 := by
  have key : ∀ Z : FVec Ideal S2048x384 .bf16, ((cfg0.win 3).blk t).view.read (Elt Ideal) Z (ix2 b k)
      = Z (ix2 (col t b) ⟨(t.val % 14 - 1) * 384 + k.val, by omega⟩) := by
    intro Z
    simp only [col]
    have e : t.val % 14 - 1 = 0 := by omega
    blk_ext [idx t, e]
  refine (key (V m c main_v2)).trans ?_
  rw [V_K, padK_at]

theorem sumK (h : 1 ≤ t.val % 14 ∧ t.val % 14 < 2) (a b : Fin 1024) : (∑ r : Fin 384, xK m c t (ix2 a r) * wK m c t (ix2 b r))
    = ∑ r : Fin 384, gK (aK m c) (aW m c) (row t a) (col t b) ((t.val % 14 - 1) * 384 + r.val) := by
  refine Finset.sum_congr rfl fun r _ => ?_
  rw [xK_at m c t h, wK_at m c t h, gK, dif_pos (show (t.val % 14 - 1) * 384 + r.val < 384 by omega)]

/-- The point's blocks of the pair. -/
abbrev xU : FVec Ideal S1024x512 .bf16 := iblk m c 4 t
abbrev wU : FVec Ideal S1024x512 .bf16 := iblk m c 5 t

theorem xU_at (h : 2 ≤ t.val % 14 ∧ t.val % 14 < 4) (a : Fin 1024) (k : Fin 512) : xU m c t (ix2 a k) = aU m c (ix2 (row t a) ⟨(t.val % 14 - 2) * 512 + k.val, by omega⟩) := by
  have key : ∀ Z : FVec Ideal S4096x1024 .bf16, ((cfg0.win 4).blk t).view.read (Elt Ideal) Z (ix2 a k)
      = Z (ix2 ⟨t.val / 28 * 1024 + a.val, by have := bound t; omega⟩ ⟨(t.val % 14 - 2) * 512 + k.val, by omega⟩) := by
    intro Z
    have e : min (t.val % 14 - 2) 1 = t.val % 14 - 2 := by omega
    blk_ext [idx t, e]
  refine (key (V m c main_arg2)).trans ?_
  rw [V_main_arg2]
  rfl

theorem wU_at (h : 2 ≤ t.val % 14 ∧ t.val % 14 < 4) (b : Fin 1024) (k : Fin 512) : wU m c t (ix2 b k) = aW m c (ix2 (col t b) ⟨832 + ((t.val % 14 - 2) * 512 + k.val), by omega⟩) := by
  have key : ∀ Z : FVec Ideal S2048x1024 .bf16, ((cfg0.win 5).blk t).view.read (Elt Ideal) Z (ix2 b k)
      = Z (ix2 ⟨t.val / 14 % 2 * 1024 + b.val, by omega⟩ ⟨(t.val % 14 - 2) * 512 + k.val, by omega⟩) := by
    intro Z
    have e : min (t.val % 14 - 2) 1 = t.val % 14 - 2 := by omega
    blk_ext [idx t, e]
  refine (key (V m c main_v3)).trans ?_
  rw [V_U, slice_U]
  rfl

theorem sumU (h : 2 ≤ t.val % 14 ∧ t.val % 14 < 4) (a b : Fin 1024) : (∑ r : Fin 512, xU m c t (ix2 a r) * wU m c t (ix2 b r))
    = ∑ r : Fin 512, gU (aU m c) (aW m c) (row t a) (col t b) ((t.val % 14 - 2) * 512 + r.val) := by
  refine Finset.sum_congr rfl fun r _ => ?_
  rw [xU_at m c t h, wU_at m c t h, gU, dif_pos (show (t.val % 14 - 2) * 512 + r.val < 1024 by omega)]

/-- The point's blocks of the pair. -/
abbrev xV : FVec Ideal S1024x512 .bf16 := iblk m c 6 t
abbrev wV : FVec Ideal S1024x512 .bf16 := iblk m c 7 t

theorem xV_at (h : 4 ≤ t.val % 14 ∧ t.val % 14 < 6) (a : Fin 1024) (k : Fin 512) : xV m c t (ix2 a k) = aV m c (ix2 (row t a) ⟨(t.val % 14 - 4) * 512 + k.val, by omega⟩) := by
  have key : ∀ Z : FVec Ideal S4096x1024 .bf16, ((cfg0.win 6).blk t).view.read (Elt Ideal) Z (ix2 a k)
      = Z (ix2 ⟨t.val / 28 * 1024 + a.val, by have := bound t; omega⟩ ⟨(t.val % 14 - 4) * 512 + k.val, by omega⟩) := by
    intro Z
    have e : min (t.val % 14 - 4) 1 = t.val % 14 - 4 := by omega
    blk_ext [idx t, e]
  refine (key (V m c main_arg3)).trans ?_
  rw [V_main_arg3]
  rfl

theorem wV_at (h : 4 ≤ t.val % 14 ∧ t.val % 14 < 6) (b : Fin 1024) (k : Fin 512) : wV m c t (ix2 b k) = aW m c (ix2 (col t b) ⟨1856 + ((t.val % 14 - 4) * 512 + k.val), by omega⟩) := by
  have key : ∀ Z : FVec Ideal S2048x1024 .bf16, ((cfg0.win 7).blk t).view.read (Elt Ideal) Z (ix2 b k)
      = Z (ix2 ⟨t.val / 14 % 2 * 1024 + b.val, by omega⟩ ⟨(t.val % 14 - 4) * 512 + k.val, by omega⟩) := by
    intro Z
    have e : min (t.val % 14 - 4) 1 = t.val % 14 - 4 := by omega
    blk_ext [idx t, e]
  refine (key (V m c main_v4)).trans ?_
  rw [V_V, slice_V]
  rfl

theorem sumV (h : 4 ≤ t.val % 14 ∧ t.val % 14 < 6) (a b : Fin 1024) : (∑ r : Fin 512, xV m c t (ix2 a r) * wV m c t (ix2 b r))
    = ∑ r : Fin 512, gV (aV m c) (aW m c) (row t a) (col t b) ((t.val % 14 - 4) * 512 + r.val) := by
  refine Finset.sum_congr rfl fun r _ => ?_
  rw [xV_at m c t h, wV_at m c t h, gV, dif_pos (show (t.val % 14 - 4) * 512 + r.val < 1024 by omega)]

/-- The point's blocks of the pair. -/
abbrev xG : FVec Ideal S1024x512 .bf16 := iblk m c 8 t
abbrev wG : FVec Ideal S1024x512 .bf16 := iblk m c 9 t

theorem xG_at (h : 6 ≤ t.val % 14 ∧ t.val % 14 < 10) (a : Fin 1024) (k : Fin 512) : xG m c t (ix2 a k) = aG m c (ix2 (row t a) ⟨(t.val % 14 - 6) * 512 + k.val, by omega⟩) := by
  have key : ∀ Z : FVec Ideal S4096x2048 .bf16, ((cfg0.win 8).blk t).view.read (Elt Ideal) Z (ix2 a k)
      = Z (ix2 ⟨t.val / 28 * 1024 + a.val, by have := bound t; omega⟩ ⟨(t.val % 14 - 6) * 512 + k.val, by omega⟩) := by
    intro Z
    have e : min (t.val % 14 - 6) 3 = t.val % 14 - 6 := by omega
    blk_ext [idx t, e]
  refine (key (V m c main_arg4)).trans ?_
  rw [V_main_arg4]
  rfl

theorem wG_at (h : 6 ≤ t.val % 14 ∧ t.val % 14 < 10) (b : Fin 1024) (k : Fin 512) : wG m c t (ix2 b k) = aW m c (ix2 (col t b) ⟨2880 + ((t.val % 14 - 6) * 512 + k.val), by omega⟩) := by
  have key : ∀ Z : FVec Ideal S2048x2048 .bf16, ((cfg0.win 9).blk t).view.read (Elt Ideal) Z (ix2 b k)
      = Z (ix2 ⟨t.val / 14 % 2 * 1024 + b.val, by omega⟩ ⟨(t.val % 14 - 6) * 512 + k.val, by omega⟩) := by
    intro Z
    have e : min (t.val % 14 - 6) 3 = t.val % 14 - 6 := by omega
    blk_ext [idx t, e]
  refine (key (V m c main_v5)).trans ?_
  rw [V_G, slice_G]
  rfl

theorem sumG (h : 6 ≤ t.val % 14 ∧ t.val % 14 < 10) (a b : Fin 1024) : (∑ r : Fin 512, xG m c t (ix2 a r) * wG m c t (ix2 b r))
    = ∑ r : Fin 512, gG (aG m c) (aW m c) (row t a) (col t b) ((t.val % 14 - 6) * 512 + r.val) := by
  refine Finset.sum_congr rfl fun r _ => ?_
  rw [xG_at m c t h, wG_at m c t h, gG, dif_pos (show (t.val % 14 - 6) * 512 + r.val < 2048 by omega)]

/-- The point's blocks of the pair. -/
abbrev xH : FVec Ideal S1024x512 .bf16 := iblk m c 10 t
abbrev wH : FVec Ideal S1024x512 .bf16 := iblk m c 11 t

theorem xH_at (h : 10 ≤ t.val % 14 ∧ t.val % 14 < 14) (a : Fin 1024) (k : Fin 512) : xH m c t (ix2 a k) = aH m c (ix2 (row t a) ⟨(t.val % 14 - 10) * 512 + k.val, by omega⟩) := by
  have key : ∀ Z : FVec Ideal S4096x2048 .bf16, ((cfg0.win 10).blk t).view.read (Elt Ideal) Z (ix2 a k)
      = Z (ix2 ⟨t.val / 28 * 1024 + a.val, by have := bound t; omega⟩ ⟨(t.val % 14 - 10) * 512 + k.val, by omega⟩) := by
    intro Z
    blk_ext [idx t]
  refine (key (V m c main_arg5)).trans ?_
  rw [V_main_arg5]
  rfl

theorem wH_at (h : 10 ≤ t.val % 14 ∧ t.val % 14 < 14) (b : Fin 1024) (k : Fin 512) : wH m c t (ix2 b k) = aW m c (ix2 (col t b) ⟨4928 + ((t.val % 14 - 10) * 512 + k.val), by omega⟩) := by
  have key : ∀ Z : FVec Ideal S2048x2048 .bf16, ((cfg0.win 11).blk t).view.read (Elt Ideal) Z (ix2 b k)
      = Z (ix2 ⟨t.val / 14 % 2 * 1024 + b.val, by omega⟩ ⟨(t.val % 14 - 10) * 512 + k.val, by omega⟩) := by
    intro Z
    blk_ext [idx t]
  refine (key (V m c main_v6)).trans ?_
  rw [V_H, slice_H]
  rfl

theorem sumH (h : 10 ≤ t.val % 14 ∧ t.val % 14 < 14) (a b : Fin 1024) : (∑ r : Fin 512, xH m c t (ix2 a r) * wH m c t (ix2 b r))
    = ∑ r : Fin 512, gH (aH m c) (aW m c) (row t a) (col t b) ((t.val % 14 - 10) * 512 + r.val) := by
  refine Finset.sum_congr rfl fun r _ => ?_
  rw [xH_at m c t h, wH_at m c t h, gH, dif_pos (show (t.val % 14 - 10) * 512 + r.val < 2048 by omega)]

/-- What the point `s` of a block's fourteen adds to it. -/
def part (a : Fin 4096) (b : Fin 2048) (s : ℕ) : EReal :=
  if s < 1 then ∑ r : Fin 512, gQ (aQ m c) (aW m c) a b ((s - 0) * 512 + r.val) else
  if s < 2 then ∑ r : Fin 384, gK (aK m c) (aW m c) a b ((s - 1) * 384 + r.val) else
  if s < 4 then ∑ r : Fin 512, gU (aU m c) (aW m c) a b ((s - 2) * 512 + r.val) else
  if s < 6 then ∑ r : Fin 512, gV (aV m c) (aW m c) a b ((s - 4) * 512 + r.val) else
  if s < 10 then ∑ r : Fin 512, gG (aG m c) (aW m c) a b ((s - 6) * 512 + r.val) else
  ∑ r : Fin 512, gH (aH m c) (aW m c) a b ((s - 10) * 512 + r.val)

theorem partQ (h : 0 ≤ t.val % 14 ∧ t.val % 14 < 1) (a b : Fin 1024) :
    (∑ r : Fin 512, xQ m c t (ix2 a r) * wQ m c t (ix2 b r)) = part m c (row t a) (col t b) (t.val % 14) := by
  rw [sumQ m c t h, part, if_pos h.2]

theorem partK (h : 1 ≤ t.val % 14 ∧ t.val % 14 < 2) (a b : Fin 1024) :
    (∑ r : Fin 384, xK m c t (ix2 a r) * wK m c t (ix2 b r)) = part m c (row t a) (col t b) (t.val % 14) := by
  rw [sumK m c t h, part, if_neg (by omega), if_pos h.2]

theorem partU (h : 2 ≤ t.val % 14 ∧ t.val % 14 < 4) (a b : Fin 1024) :
    (∑ r : Fin 512, xU m c t (ix2 a r) * wU m c t (ix2 b r)) = part m c (row t a) (col t b) (t.val % 14) := by
  rw [sumU m c t h, part, if_neg (by omega), if_neg (by omega), if_pos h.2]

theorem partV (h : 4 ≤ t.val % 14 ∧ t.val % 14 < 6) (a b : Fin 1024) :
    (∑ r : Fin 512, xV m c t (ix2 a r) * wV m c t (ix2 b r)) = part m c (row t a) (col t b) (t.val % 14) := by
  rw [sumV m c t h, part, if_neg (by omega), if_neg (by omega), if_neg (by omega), if_pos h.2]

theorem partG (h : 6 ≤ t.val % 14 ∧ t.val % 14 < 10) (a b : Fin 1024) :
    (∑ r : Fin 512, xG m c t (ix2 a r) * wG m c t (ix2 b r)) = part m c (row t a) (col t b) (t.val % 14) := by
  rw [sumG m c t h, part, if_neg (by omega), if_neg (by omega), if_neg (by omega), if_neg (by omega), if_pos h.2]

theorem partH (h : 10 ≤ t.val % 14 ∧ t.val % 14 < 14) (a b : Fin 1024) :
    (∑ r : Fin 512, xH m c t (ix2 a r) * wH m c t (ix2 b r)) = part m c (row t a) (col t b) (t.val % 14) := by
  rw [sumH m c t h, part, if_neg (by omega), if_neg (by omega), if_neg (by omega), if_neg (by omega), if_neg (by omega)]

/-- What the accumulator holds before a point that is not a block's first. -/
abbrev prev : FVec Ideal S1024x1024 .f32 := (outsAt0 m c (t.val - 1) (Nat.lt_of_le_of_lt (Nat.sub_le _ _) t.isLt)).2

theorem first (h : t.val % 14 = 0) (a b : Fin 1024) : (outsAt0 m c t.val t.isLt).2 (ix2 a b) = part m c (row t a) (col t b) (t.val % 14) := by
  refine Eq.trans ?_ (partQ m c t (by omega) a b)
  rw [outsAt0_A m c t h (by omega) (by omega) (by omega) (by omega) (by omega) (by omega)]; frame_out
  pointwise [k0_pay1, k0_pay2, k0_pay3, k0_pay4, k0_pay5, k0_pay6, k0_pay7]

theorem next (h : ¬t.val % 14 = 0) (a b : Fin 1024) : (outsAt0 m c t.val t.isLt).2 (ix2 a b)
    = (show EReal from prev m c t (ix2 a b)) + part m c (row t a) (col t b) (t.val % 14) := by
  by_cases hK : 1 ≤ t.val % 14 ∧ t.val % 14 < 2
  · refine Eq.trans ?_ (congrArg (_ + ·) (partK m c t hK a b))
    rw [outsAt0_B m c t h (by omega) (by omega) (by omega) (by omega) (by omega) (by omega)]; frame_out
    pointwise [k0_pay1, k0_pay2, k0_pay3, k0_pay4, k0_pay5, k0_pay6, k0_pay7]
    exact congrArg (· + _) (congrFun (read_unread_whole _ _ _) _)
  by_cases hU : 2 ≤ t.val % 14 ∧ t.val % 14 < 4
  · refine Eq.trans ?_ (congrArg (_ + ·) (partU m c t hU a b))
    rw [outsAt0_C m c t h (by omega) (by omega) (by omega) (by omega) (by omega) (by omega)]; frame_out
    pointwise [k0_pay1, k0_pay2, k0_pay3, k0_pay4, k0_pay5, k0_pay6, k0_pay7]
    exact congrArg (· + _) (congrFun (read_unread_whole _ _ _) _)
  by_cases hV : 4 ≤ t.val % 14 ∧ t.val % 14 < 6
  · refine Eq.trans ?_ (congrArg (_ + ·) (partV m c t hV a b))
    rw [outsAt0_D m c t h (by omega) (by omega) (by omega) (by omega) (by omega) (by omega)]; frame_out
    pointwise [k0_pay1, k0_pay2, k0_pay3, k0_pay4, k0_pay5, k0_pay6, k0_pay7]
    exact congrArg (· + _) (congrFun (read_unread_whole _ _ _) _)
  by_cases hG : 6 ≤ t.val % 14 ∧ t.val % 14 < 10
  · refine Eq.trans ?_ (congrArg (_ + ·) (partG m c t hG a b))
    rw [outsAt0_E m c t h (by omega) (by omega) (by omega) (by omega) (by omega) (by omega)]; frame_out
    pointwise [k0_pay1, k0_pay2, k0_pay3, k0_pay4, k0_pay5, k0_pay6, k0_pay7]
    exact congrArg (· + _) (congrFun (read_unread_whole _ _ _) _)
  refine Eq.trans ?_ (congrArg (_ + ·) (partH m c t (by omega) a b))
  by_cases h2 : t.val % 14 = 13
  · rw [outsAt0_G m c t h (by omega) (by omega) (by omega) (by omega) (by omega) h2]; frame_out
    pointwise [k0_pay1, k0_pay2, k0_pay3, k0_pay4, k0_pay5, k0_pay6, k0_pay7]
    exact congrArg (· + _) (congrFun (read_unread_whole _ _ _) _)
  · rw [outsAt0_F m c t h (by omega) (by omega) (by omega) (by omega) (by omega) h2]; frame_out
    pointwise [k0_pay1, k0_pay2, k0_pay3, k0_pay4, k0_pay5, k0_pay6, k0_pay7]
    exact congrArg (· + _) (congrFun (read_unread_whole _ _ _) _)

/-- The block written back is what the accumulator holds. -/
theorem last (h : t.val % 14 = 13) (a b : Fin 1024) : (outsAt0 m c t.val t.isLt).1 (ix2 a b)
    = (show EReal from prev m c t (ix2 a b)) + part m c (row t a) (col t b) (t.val % 14) := by
  refine Eq.trans ?_ (congrArg (_ + ·) (partH m c t (by omega) a b))
  rw [outsAt0_G m c t (by omega) (by omega) (by omega) (by omega) (by omega) (by omega) h]; frame_out
  pointwise [k0_pay1, k0_pay2, k0_pay3, k0_pay4, k0_pay5, k0_pay6, k0_pay7]
  exact congrArg (· + _) (congrFun (read_unread_whole _ _ _) _)

theorem acc_sum (ht : t.val % 14 = 14 - 1) (a b : Fin 1024) : (show EReal from (outsAt0 m c t.val t.isLt).2 (ix2 a b))
    = ∑ s : Fin 14, part m c (row t a) (col t b) s.val := by
  rw [Pipeline.eq_sum_fin_of_reset_step_apply_of_flush (fun n h => (outsAt0 m c n h).2) 14 (fun _ => (0 : EReal))
    (fun t j => part m c (row t (j 0)) (col t (j 1)) (t.val % 14))
    (fun t h j => by
      obtain ⟨a, b, rfl⟩ : ∃ (a : Fin 1024) (b : Fin 1024), j = ix2 a b := ⟨j 0, j 1, by funext k; fin_cases k <;> rfl⟩
      exact (first m c t h a b).trans (zero_add _).symm)
    (fun t h j => by
      obtain ⟨a, b, rfl⟩ : ∃ (a : Fin 1024) (b : Fin 1024), j = ix2 a b := ⟨j 0, j 1, by funext k; fin_cases k <;> rfl⟩
      exact next m c t h a b)
    t ht (ix2 a b)]
  show (0 : EReal) + _ = _
  rw [zero_add]
  refine Finset.sum_congr rfl fun s _ => ?_
  have er : row ⟨14 * (t.val / 14) + s.val, Pipeline.run_point_lt_of_flush t ht s⟩ a = row t a := by
    apply Fin.ext; simp only [row]; omega
  have ec : col ⟨14 * (t.val / 14) + s.val, Pipeline.run_point_lt_of_flush t ht s⟩ b = col t b := by
    apply Fin.ext; simp only [col]; omega
  have es : (14 * (t.val / 14) + s.val) % 14 = s.val := by omega
  show part m c (row ⟨14 * (t.val / 14) + s.val, _⟩ a) (col ⟨14 * (t.val / 14) + s.val, _⟩ b) ((14 * (t.val / 14) + s.val) % 14) = _
  rw [er, ec, es]

/-- A row of the product of `aQ` and its weights. -/
def dotQ (X : FVec Ideal S4096x512 .bf16) (Y : FVec Ideal S2048x6976 .bf16) (a : Fin 4096) (b : Fin 2048) : EReal :=
  ∑ k : Fin 512, X (ix2 a ⟨k.val, by omega⟩) * Y (ix2 b ⟨0 + k.val, by omega⟩)

theorem dotQ_eq (X : FVec Ideal S4096x512 .bf16) (Y : FVec Ideal S2048x6976 .bf16) (a : Fin 4096) (b : Fin 2048) :
    dotQ X Y a b = ∑ s : Fin 1, ∑ r : Fin 512, gQ X Y a b (s.val * 512 + r.val) := by
  symm
  unfold dotQ
  refine Fin.sum_mul_add_congr (n := 512) (fun s r hl => ?_)
  rw [gQ, dif_pos hl]

/-- A row of the product of `aK` and its weights. -/
def dotK (X : FVec Ideal S4096x384 .bf16) (Y : FVec Ideal S2048x6976 .bf16) (a : Fin 4096) (b : Fin 2048) : EReal :=
  ∑ k : Fin 320, X (ix2 a ⟨k.val, by omega⟩) * Y (ix2 b ⟨512 + k.val, by omega⟩)

theorem dotK_eq (X : FVec Ideal S4096x384 .bf16) (Y : FVec Ideal S2048x6976 .bf16) (a : Fin 4096) (b : Fin 2048) :
    dotK X Y a b = ∑ s : Fin 1, ∑ r : Fin 384, gK X Y a b (s.val * 384 + r.val) := by
  rw [Fin.sum_univ_one, dotK]
  have h : (∑ r : Fin 384, gK X Y a b ((0 : Fin 1).val * 384 + r.val)) = ∑ r : Fin (320 + 64), gK X Y a b r.val :=
    Finset.sum_congr rfl fun r _ => by simp
  rw [h, Fin.sum_univ_add]
  have z : (∑ r : Fin 64, gK X Y a b (Fin.natAdd 320 r).val) = 0 :=
    Finset.sum_eq_zero fun r _ => by
      rw [gK]
      split
      · rw [dif_neg (show ¬(Fin.natAdd 320 r).val < 320 by simp), mul_zero]
      · rfl
  rw [z, add_zero]
  refine Finset.sum_congr rfl fun k _ => ?_
  rw [gK, dif_pos (show (Fin.castAdd 64 k).val < 384 by simp; omega), dif_pos (show (Fin.castAdd 64 k).val < 320 by simp)]
  rfl

/-- A row of the product of `aU` and its weights. -/
def dotU (X : FVec Ideal S4096x1024 .bf16) (Y : FVec Ideal S2048x6976 .bf16) (a : Fin 4096) (b : Fin 2048) : EReal :=
  ∑ k : Fin 1024, X (ix2 a ⟨k.val, by omega⟩) * Y (ix2 b ⟨832 + k.val, by omega⟩)

theorem dotU_eq (X : FVec Ideal S4096x1024 .bf16) (Y : FVec Ideal S2048x6976 .bf16) (a : Fin 4096) (b : Fin 2048) :
    dotU X Y a b = ∑ s : Fin 2, ∑ r : Fin 512, gU X Y a b (s.val * 512 + r.val) := by
  symm
  unfold dotU
  refine Fin.sum_mul_add_congr (n := 512) (fun s r hl => ?_)
  rw [gU, dif_pos hl]

/-- A row of the product of `aV` and its weights. -/
def dotV (X : FVec Ideal S4096x1024 .bf16) (Y : FVec Ideal S2048x6976 .bf16) (a : Fin 4096) (b : Fin 2048) : EReal :=
  ∑ k : Fin 1024, X (ix2 a ⟨k.val, by omega⟩) * Y (ix2 b ⟨1856 + k.val, by omega⟩)

theorem dotV_eq (X : FVec Ideal S4096x1024 .bf16) (Y : FVec Ideal S2048x6976 .bf16) (a : Fin 4096) (b : Fin 2048) :
    dotV X Y a b = ∑ s : Fin 2, ∑ r : Fin 512, gV X Y a b (s.val * 512 + r.val) := by
  symm
  unfold dotV
  refine Fin.sum_mul_add_congr (n := 512) (fun s r hl => ?_)
  rw [gV, dif_pos hl]

/-- A row of the product of `aG` and its weights. -/
def dotG (X : FVec Ideal S4096x2048 .bf16) (Y : FVec Ideal S2048x6976 .bf16) (a : Fin 4096) (b : Fin 2048) : EReal :=
  ∑ k : Fin 2048, X (ix2 a ⟨k.val, by omega⟩) * Y (ix2 b ⟨2880 + k.val, by omega⟩)

theorem dotG_eq (X : FVec Ideal S4096x2048 .bf16) (Y : FVec Ideal S2048x6976 .bf16) (a : Fin 4096) (b : Fin 2048) :
    dotG X Y a b = ∑ s : Fin 4, ∑ r : Fin 512, gG X Y a b (s.val * 512 + r.val) := by
  symm
  unfold dotG
  refine Fin.sum_mul_add_congr (n := 512) (fun s r hl => ?_)
  rw [gG, dif_pos hl]

/-- A row of the product of `aH` and its weights. -/
def dotH (X : FVec Ideal S4096x2048 .bf16) (Y : FVec Ideal S2048x6976 .bf16) (a : Fin 4096) (b : Fin 2048) : EReal :=
  ∑ k : Fin 2048, X (ix2 a ⟨k.val, by omega⟩) * Y (ix2 b ⟨4928 + k.val, by omega⟩)

theorem dotH_eq (X : FVec Ideal S4096x2048 .bf16) (Y : FVec Ideal S2048x6976 .bf16) (a : Fin 4096) (b : Fin 2048) :
    dotH X Y a b = ∑ s : Fin 4, ∑ r : Fin 512, gH X Y a b (s.val * 512 + r.val) := by
  symm
  unfold dotH
  refine Fin.sum_mul_add_congr (n := 512) (fun s r hl => ?_)
  rw [gH, dif_pos hl]

/-- The reference's gradient at an index. -/
theorem ref_at (X0 : FVec Ideal S4096x512 .bf16) (X1 : FVec Ideal S4096x384 .bf16) (X2 : FVec Ideal S4096x1024 .bf16) (X3 : FVec Ideal S4096x1024 .bf16) (X4 : FVec Ideal S4096x2048 .bf16) (X5 : FVec Ideal S4096x2048 .bf16) (X6 : FVec Ideal S2048x6976 .bf16) (a : Fin 4096) (b : Fin 2048) :
    Cert.ProjDxRefIdeal.Read.val_main_v36 (F := Ideal) X0 X1 X2 X3 X4 X5 X6 (ix2 a b) = dotH X5 X6 a b + dotG X4 X6 a b + dotV X3 X6 a b + dotU X2 X6 a b + dotK X1 X6 a b + dotQ X0 X6 a b := by
  open Cert.ProjDxRefIdeal.Read in
  pointwise [val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_cst, val_main_v0, dotQ, dotK, dotU, dotV, dotG, dotH]

/-- The fourteen points' sums are the six products. -/
theorem parts (a : Fin 4096) (b : Fin 2048) : (∑ s : Fin 14, part m c a b s.val)
    = dotH (aH m c) (aW m c) a b + dotG (aG m c) (aW m c) a b + dotV (aV m c) (aW m c) a b + dotU (aU m c) (aW m c) a b + dotK (aK m c) (aW m c) a b + dotQ (aQ m c) (aW m c) a b := by
  have hs : (∑ s : Fin 14, part m c a b s.val) = ∑ s ∈ Finset.range 14, part m c a b s := Fin.sum_univ_eq_sum_range (part m c a b) 14
  rw [hs]
  simp only [Finset.sum_range_succ, Finset.sum_range_zero, zero_add]
  rw [dotQ_eq, dotK_eq, dotU_eq, dotV_eq, dotG_eq, dotH_eq]
  rw [Fin.sum_univ_one, Fin.sum_univ_one, Fin.sum_univ_two, Fin.sum_univ_two, Fin.sum_univ_four, Fin.sum_univ_four]
  have p0 : part m c a b 0 = ∑ r : Fin 512, gQ (aQ m c) (aW m c) a b ((0 : Fin 1).val * 512 + r.val) := rfl
  have p1 : part m c a b 1 = ∑ r : Fin 384, gK (aK m c) (aW m c) a b ((0 : Fin 1).val * 384 + r.val) := rfl
  have p2 : part m c a b 2 = ∑ r : Fin 512, gU (aU m c) (aW m c) a b ((0 : Fin 2).val * 512 + r.val) := rfl
  have p3 : part m c a b 3 = ∑ r : Fin 512, gU (aU m c) (aW m c) a b ((1 : Fin 2).val * 512 + r.val) := rfl
  have p4 : part m c a b 4 = ∑ r : Fin 512, gV (aV m c) (aW m c) a b ((0 : Fin 2).val * 512 + r.val) := rfl
  have p5 : part m c a b 5 = ∑ r : Fin 512, gV (aV m c) (aW m c) a b ((1 : Fin 2).val * 512 + r.val) := rfl
  have p6 : part m c a b 6 = ∑ r : Fin 512, gG (aG m c) (aW m c) a b ((0 : Fin 4).val * 512 + r.val) := rfl
  have p7 : part m c a b 7 = ∑ r : Fin 512, gG (aG m c) (aW m c) a b ((1 : Fin 4).val * 512 + r.val) := rfl
  have p8 : part m c a b 8 = ∑ r : Fin 512, gG (aG m c) (aW m c) a b ((2 : Fin 4).val * 512 + r.val) := rfl
  have p9 : part m c a b 9 = ∑ r : Fin 512, gG (aG m c) (aW m c) a b ((3 : Fin 4).val * 512 + r.val) := rfl
  have p10 : part m c a b 10 = ∑ r : Fin 512, gH (aH m c) (aW m c) a b ((0 : Fin 4).val * 512 + r.val) := rfl
  have p11 : part m c a b 11 = ∑ r : Fin 512, gH (aH m c) (aW m c) a b ((1 : Fin 4).val * 512 + r.val) := rfl
  have p12 : part m c a b 12 = ∑ r : Fin 512, gH (aH m c) (aW m c) a b ((2 : Fin 4).val * 512 + r.val) := rfl
  have p13 : part m c a b 13 = ∑ r : Fin 512, gH (aH m c) (aW m c) a b ((3 : Fin 4).val * 512 + r.val) := rfl
  rw [p0, p1, p2, p3, p4, p5, p6, p7, p8, p9, p10, p11, p12, p13]
  abel

/-- The array after the run is the reference's. -/
theorem arr12 : (dats m 0 c).arrAt 12 cfg0.N = Cert.ProjDxRefIdeal.Read.val_main_v36 (F := Ideal) (aQ m c) (aK m c) (aU m c) (aV m c) (aG m c) (aH m c) (aW m c) :=
  (dats m 0 c).arrAt_eq_of_covers 12 _ (by decide +kernel) fun t hf y => by
    blk_simp
    rw [after0_12]
    have ht := bound t
    have ho : t.val % 14 = 13 := (flush0_12 t).mp hf
    obtain ⟨a, b, rfl⟩ : ∃ (a : Fin 1024) (b : Fin 1024), y = ix2 a b := ⟨y 0, y 1, by funext k; fin_cases k <;> rfl⟩
    have e : (win0_12.blk t).view.emb (ix2 a b) = ix2 (row t a) (col t b) := by
      simp only [row, col]
      blk_ext [idx t]
    rw [e, ref_at]
    exact (last m c t ho a b).trans ((next m c t (by omega) a b).symm.trans ((acc_sum m c t ho a b).trans (parts m c _ _)))

end Cert.ProjDxIdeal.Value
-- ==== Proof.Sums.lean ====
/- A sum of extended reals times a number that is not negative and not infinite. -/
module

public import Idealize.ShloMosaic.Lib.Pointwise

@[expose] public section

noncomputable section

namespace Cert.Sums

theorem sum_mul {ι : Type} (s : Finset ι) (f : ι → EReal) (x : EReal) (h0 : 0 ≤ x) (h1 : x ≠ ⊤) :
    (∑ i ∈ s, f i) * x = ∑ i ∈ s, f i * x := by
  classical
  induction s using Finset.induction_on with
  | empty => simp
  | insert i s hi ih => rw [Finset.sum_insert hi, Finset.sum_insert hi, EReal.right_distrib_of_nonneg_of_ne_top h0 h1, ih]

end Cert.Sums
-- ==== Proof.AttnFwdVal.lean ====
/- The attention's forward pass: the call's two arrays are the reference's. -/
module

public import proofs.«01_k».proof.Proof.Finite
public import proofs.«01_k».proof.Proof.Gen.AttnFwdIdeal.Value
public import proofs.«01_k».proof.Proof.Gen.AttnFwdRefIdeal.Read
public import proofs.«01_k».proof.Proof.Sums
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnFwdIdeal.Value

open Cert.AttnFwdIdeal Cert.AttnFwdIdeal.Gen Cert.Core
open Cert.KernelIdeal.Value (kappa sc mx ex sm fo negInf sitofp_zero)

section terms
variable {F : FTy → Type} [FloatOps F]
/-- The queries' operand: scaled, padded to 256 columns a head, laid out by token. -/
def qT (x0 : FVec F S4096x8x192 .f32) : FVec F S4096x2048 .bf16 :=
  truncf .bf16 (shapeCast S4096x2048 (pad S4096x8x256 ![0, 0, 0] ![0, 0, 64] ![0, 0, 0]
    (mulf x0 (broadcastInDim S4096x8x192 ![] bcast_S_S4096x8x192 (constant S_ .f32 0x3D93CD3A#32))) (sitofp .f32 (constantI S_ 32 0#32))
    pads_S4096x8x192_S4096x8x256_000_000_0640 h_S_) shapeCasts_S4096x8x256_S4096x2048) bitsLt_bf16_f32
/-- The keys' operand: padded to 256 columns a head, laid out by token. -/
def kT (x1 : FVec F S4352x8x192 .f32) : FVec F S4352x2048 .bf16 :=
  truncf .bf16 (shapeCast S4352x2048 (pad S4352x8x256 ![0, 0, 0] ![0, 0, 64] ![0, 0, 0] x1 (sitofp .f32 (constantI S_ 32 0#32))
    pads_S4352x8x192_S4352x8x256_000_000_0640 h_S_) shapeCasts_S4352x8x256_S4352x2048) bitsLt_bf16_f32
/-- The values' operand. -/
def vT (x2 : FVec F S4352x8x128 .f32) : FVec F S4352x1024 .bf16 :=
  truncf .bf16 (shapeCast S4352x1024 x2 shapeCasts_S4352x8x128_S4352x1024) bitsLt_bf16_f32

variable (m : (ℓ : Loc nD τ sig) → Buf (Elt F) ℓ) (c : Dev nD)
/-- The operand of the queries, as the call finds it. -/
theorem V_q : V m c main_v4 = qT (m ((c : Thread nD τ).loc main_arg0)) := by
  unfold V; after_reads_simp; rfl
/-- The operand of the keys, as the call finds it. -/
theorem V_k : V m c main_v7 = kT (m ((c : Thread nD τ).loc main_arg1)) := by
  unfold V; after_reads_simp; rfl
/-- The operand of the values, as the call finds it. -/
theorem V_v : V m c main_v9 = vT (m ((c : Thread nD τ).loc main_arg2)) := by
  unfold V; after_reads_simp; rfl
end terms

section reads
variable (X0 : FVec Ideal S4096x8x192 .f32) (X1 : FVec Ideal S4352x8x192 .f32) (X2 : FVec Ideal S4352x8x128 .f32)

/-- The queries' operand: column `b` is entry `b % 256` of head `b / 256`, zero from 192 on. -/
theorem qT_at (i : Fin 4096) (b : Fin 2048) : qT X0 (ix2 i b)
    = if hd : b.val % 256 < 192 then X0 (ix3 i ⟨b.val / 256, by omega⟩ ⟨b.val % 256, hd⟩) * kappa else 0 := by
  pointwise [qT]
  rw [sitofp_zero]
  by_cases hd : b.val % 256 < 192
  · rw [dif_pos hd, dif_pos ⟨by omega, hd⟩]
  · rw [dif_neg hd, dif_neg (fun h => hd h.2)]

/-- The keys' operand: column `b` is entry `b % 256` of head `b / 256`, zero from 192 on. -/
theorem kT_at (i : Fin 4352) (b : Fin 2048) : kT X1 (ix2 i b)
    = if hd : b.val % 256 < 192 then X1 (ix3 i ⟨b.val / 256, by omega⟩ ⟨b.val % 256, hd⟩) else 0 := by
  pointwise [kT]
  rw [sitofp_zero]
  by_cases hd : b.val % 256 < 192
  · rw [dif_pos hd, dif_pos ⟨by omega, hd⟩]
  · rw [dif_neg hd, dif_neg (fun h => hd h.2)]

theorem vT_at (i : Fin 4352) (b : Fin 1024) : vT X2 (ix2 i b) = X2 (ix3 i ⟨b.val / 128, by omega⟩ ⟨b.val % 128, by omega⟩) := by
  pointwise [vT]
end reads

theorem idx : ∀ t : Fin cfg0.N, win0_0.index t = ![t.val % 4, t.val / 4] ∧ win0_1.index t = ![0, t.val / 4]
    ∧ win0_2.index t = ![0, t.val / 4] ∧ win0_3.index t = ![t.val % 4, t.val / 4] ∧ win0_4.index t = ![t.val % 4, t.val / 4] ∧ t.val / 4 < 8 :=
  (by decide +kernel : ∀ t : Fin grid0.N, _)

/-- The head of a point. -/
def hd (t : Fin cfg0.N) : Fin 8 := ⟨t.val / 4, (idx t).2.2.2.2.2⟩
/-- The array's row of a point's row. -/
def row (t : Fin cfg0.N) (r : Fin 1024) : Fin 4096 := ⟨t.val % 4 * 1024 + r.val, by omega⟩

variable (m : (ℓ : Loc nD τ sig) → Buf (Elt Ideal) ℓ) (c : Dev nD) (t : Fin cfg0.N)

/-- The queries. -/
abbrev aq : FVec Ideal S4096x8x192 .f32 := m ((c : Thread nD τ).loc main_arg0)
/-- The keys. -/
abbrev ak : FVec Ideal S4352x8x192 .f32 := m ((c : Thread nD τ).loc main_arg1)
/-- The values. -/
abbrev av : FVec Ideal S4352x8x128 .f32 := m ((c : Thread nD τ).loc main_arg2)

/-- The point's blocks. -/
abbrev qB : FVec Ideal S1024x256 .bf16 := iblk m c 0 t
abbrev kB : FVec Ideal S4352x256 .bf16 := iblk m c 1 t
abbrev vB : FVec Ideal S4352x128 .bf16 := iblk m c 2 t

theorem qB_at (r : Fin 1024) (d : Fin 256) : qB m c t (ix2 r d) = if h : d.val < 192 then aq m c (ix3 (row t r) (hd t) ⟨d.val, h⟩) * kappa else 0 := by
  have ht : t.val / 4 < 8 := (hd t).isLt
  have key : ∀ Z : FVec Ideal S4096x2048 .bf16, ((cfg0.win 0).blk t).view.read (Elt Ideal) Z (ix2 r d)
      = Z (ix2 (row t r) ⟨t.val / 4 * 256 + d.val, by omega⟩) := by
    intro Z
    simp only [row]
    blk_ext [idx t]
  have e1 : (t.val / 4 * 256 + d.val) / 256 = t.val / 4 := by omega
  have e2 : (t.val / 4 * 256 + d.val) % 256 = d.val := by omega
  refine (key (V m c main_v4)).trans ?_
  rw [V_q, qT_at]
  simp only [e1, e2]
  rfl

theorem kB_at (r : Fin 4352) (d : Fin 256) : kB m c t (ix2 r d) = if h : d.val < 192 then ak m c (ix3 r (hd t) ⟨d.val, h⟩) else 0 := by
  have ht : t.val / 4 < 8 := (hd t).isLt
  have key : ∀ Z : FVec Ideal S4352x2048 .bf16, ((cfg0.win 1).blk t).view.read (Elt Ideal) Z (ix2 r d)
      = Z (ix2 r ⟨t.val / 4 * 256 + d.val, by omega⟩) := by
    intro Z
    blk_ext [idx t]
  have e1 : (t.val / 4 * 256 + d.val) / 256 = t.val / 4 := by omega
  have e2 : (t.val / 4 * 256 + d.val) % 256 = d.val := by omega
  refine (key (V m c main_v7)).trans ?_
  rw [V_k, kT_at]
  simp only [e1, e2]
  rfl

theorem vB_at (r : Fin 4352) (d : Fin 128) : vB m c t (ix2 r d) = av m c (ix3 r (hd t) d) := by
  have ht : t.val / 4 < 8 := (hd t).isLt
  have key : ∀ Z : FVec Ideal S4352x1024 .bf16, ((cfg0.win 2).blk t).view.read (Elt Ideal) Z (ix2 r d)
      = Z (ix2 r ⟨t.val / 4 * 128 + d.val, by omega⟩) := by
    intro Z
    blk_ext [idx t]
  have e1 : (t.val / 4 * 128 + d.val) / 128 = t.val / 4 := by omega
  have e2 : (t.val / 4 * 128 + d.val) % 128 = d.val := by omega
  refine (key (V m c main_v9)).trans ?_
  rw [V_v, vT_at]
  simp only [e1, e2]
  rfl

section block
variable (q : Fin 256 → EReal) (x : FVec Ideal S256x256 .bf16) (k : FVec Ideal S4352x256 .bf16) (v : FVec Ideal S4352x128 .bf16)

/-- The scores of a query `q` on a block of keys. -/
@[irreducible] def rs (j : Fin 4352) : EReal := ∑ d : Fin 256, q d * k (ix2 j d)
/-- Their largest. -/
@[irreducible] def rm : EReal := Finset.univ.fold max ⊥ fun j => rs q k j
/-- The exponentials. -/
@[irreducible] def re (j : Fin 4352) : EReal := Ideal.exp (rs q k j - rm q k)
/-- Their sum. -/
@[irreducible] def rl : EReal := ∑ j, re q k j

theorem pay2_at (r : Fin 256) (j : Fin 4352) : k0_pay2 (F := Ideal) x k (ix2 r j) = rs (fun d => x (ix2 r d)) k j := by
  pointwise [k0_pay2, rs]

theorem pay3_at (r : Fin 256) : k0_pay3 (F := Ideal) x k (ix2 r 0) = rm (fun d => x (ix2 r d)) k := by
  pointwise [k0_pay3, rm, pay2_at]
  rw [negInf]

theorem pay4_at (r : Fin 256) (j : Fin 4352) : k0_pay4 (F := Ideal) x k (ix2 r j) = re (fun d => x (ix2 r d)) k j := by
  pointwise [k0_pay4, re, pay2_at, pay3_at]

theorem pay5_at (r : Fin 256) : k0_pay5 (F := Ideal) x k (ix2 r 0) = rl (fun d => x (ix2 r d)) k := by
  pointwise [k0_pay5, rl, pay4_at]

theorem pay6_at (r : Fin 256) (b : Fin 128) : k0_pay6 (F := Ideal) x k v (ix2 r b)
    = Ideal.div (∑ j : Fin 4352, re (fun d => x (ix2 r d)) k j * v (ix2 j b)) (rl (fun d => x (ix2 r d)) k) := by
  pointwise [k0_pay6, pay4_at, pay5_at]

theorem pay7_at (r : Fin 256) (b : Fin 128) : k0_pay7 (F := Ideal) x k (ix2 r b)
    = rm (fun d => x (ix2 r d)) k + Ideal.log (rl (fun d => x (ix2 r d)) k) := by
  pointwise [k0_pay7, pay3_at, pay5_at]

theorem pay12 : k0_pay12 (F := Ideal) x k v = k0_pay6 x k v := rfl
theorem pay18 : k0_pay18 (F := Ideal) (k0_pay16 x k) v = k0_pay6 x k v := rfl
theorem pay24 : k0_pay24 (F := Ideal) x k v = k0_pay6 x k v := rfl
theorem pay13 : k0_pay13 (F := Ideal) x k = k0_pay7 x k := rfl
theorem pay19 : k0_pay19 (F := Ideal) (k0_pay15 x k) (k0_pay16 x k) = k0_pay7 x k := rfl
theorem pay25 : k0_pay1 (F := Ideal) (k0_pay25 x k) = k0_pay7 x k := rfl

theorem ld_k (k : Vec Ideal S4352x256 .bf16) : View.ld k r0_1 = k := by
  funext y
  obtain ⟨a, b, rfl⟩ : ∃ (a : Fin 4352) (b : Fin 256), y = ix2 a b := ⟨y 0, y 1, by funext k; fin_cases k <;> rfl⟩
  pointwise
theorem ld_v (v : Vec Ideal S4352x128 .bf16) : View.ld v r0_2 = v := by
  funext y
  obtain ⟨a, b, rfl⟩ : ∃ (a : Fin 4352) (b : Fin 128), y = ix2 a b := ⟨y 0, y 1, by funext k; fin_cases k <;> rfl⟩
  pointwise

variable (x0 : FVec Ideal S1024x256 .bf16)
theorem ld_a (x0 : Vec Ideal S1024x256 .bf16) (r d : Fin 256) : (show EReal from View.ld x0 r0_0 (ix2 r d)) = x0 (ix2 (⟨r.val, by omega⟩ : Fin 1024) d) := by pointwise
theorem ld_b (x0 : Vec Ideal S1024x256 .bf16) (r d : Fin 256) : (show EReal from View.ld x0 r0_4 (ix2 r d)) = x0 (ix2 (⟨256 + r.val, by omega⟩ : Fin 1024) d) := by pointwise
theorem ld_c (x0 : Vec Ideal S1024x256 .bf16) (r d : Fin 256) : (show EReal from View.ld x0 r0_6 (ix2 r d)) = x0 (ix2 (⟨512 + r.val, by omega⟩ : Fin 1024) d) := by pointwise
theorem ld_d (x0 : Vec Ideal S1024x256 .bf16) (r d : Fin 256) : (show EReal from View.ld x0 r0_8 (ix2 r d)) = x0 (ix2 (⟨768 + r.val, by omega⟩ : Fin 1024) d) := by pointwise

/-- A tile of the result, its query's row found in the whole block. -/
theorem tile6 (i : Fin 1024) (z : S256x128.Idx) (h : ∀ d, x (ix2 (z 0) d) = x0 (ix2 i d)) : k0_pay6 (F := Ideal) x k v z
    = Ideal.div (∑ j : Fin 4352, re (fun d => x0 (ix2 i d)) k j * v (ix2 j (z 1))) (rl (fun d => x0 (ix2 i d)) k) := by
  obtain ⟨a, b, rfl⟩ : ∃ (a : Fin 256) (b : Fin 128), z = ix2 a b := ⟨z 0, z 1, by funext k; fin_cases k <;> rfl⟩
  have e : (fun d => x (ix2 a d)) = fun d => x0 (ix2 i d) := funext h
  rw [pay6_at, e]
  rfl

/-- A tile of the saved logarithms. -/
theorem tile7 (i : Fin 1024) (z : S256x128.Idx) (h : ∀ d, x (ix2 (z 0) d) = x0 (ix2 i d)) : k0_pay7 (F := Ideal) x k z
    = rm (fun d => x0 (ix2 i d)) k + Ideal.log (rl (fun d => x0 (ix2 i d)) k) := by
  obtain ⟨a, b, rfl⟩ : ∃ (a : Fin 256) (b : Fin 128), z = ix2 a b := ⟨z 0, z 1, by funext k; fin_cases k <;> rfl⟩
  have e : (fun d => x (ix2 a d)) = fun d => x0 (ix2 i d) := funext h
  rw [pay7_at, e]

/-- The body's result. -/
theorem out3_at (y : S1024x128.Idx) : out0_3 (F := Ideal) x0 k v y
    = Ideal.div (∑ j : Fin 4352, re (fun d => x0 (ix2 (y 0) d)) k j * v (ix2 j (y 1))) (rl (fun d => x0 (ix2 (y 0) d)) k) := by
  unfold_out out0_3
  rw [ld_k, ld_v, pay12, pay18, pay24]
  canon_tiles z h
  · have e0 : (y 0 : Fin 1024) = ⟨768 + (z 0).val, by have := (z 0).isLt; simp at this; omega⟩ := Fin.ext (by simpa using h0)
    have e1 : (y 1 : Fin 128) = z 1 := Fin.ext (by simpa using h1)
    rw [e0, e1]
    exact tile6 _ k v x0 _ z (ld_d x0 (z 0))
  · have e0 : (y 0 : Fin 1024) = ⟨512 + (z 0).val, by have := (z 0).isLt; simp at this; omega⟩ := Fin.ext (by simpa using h0)
    have e1 : (y 1 : Fin 128) = z 1 := Fin.ext (by simpa using h1)
    rw [e0, e1]
    exact tile6 _ k v x0 _ z (ld_c x0 (z 0))
  · have e0 : (y 0 : Fin 1024) = ⟨256 + (z 0).val, by have := (z 0).isLt; simp at this; omega⟩ := Fin.ext (by simpa using h0)
    have e1 : (y 1 : Fin 128) = z 1 := Fin.ext (by simpa using h1)
    rw [e0, e1]
    exact tile6 _ k v x0 _ z (ld_b x0 (z 0))
  · have e0 : (y 0 : Fin 1024) = ⟨(z 0).val, by have := (z 0).isLt; simp at this; omega⟩ := Fin.ext (by simpa using h0)
    have e1 : (y 1 : Fin 128) = z 1 := Fin.ext (by simpa using h1)
    rw [e0, e1]
    exact tile6 _ k v x0 _ z (ld_a x0 (z 0))

/-- The body's saved logarithms. -/
theorem out4_at (y : S1024x128.Idx) : out0_4 (F := Ideal) x0 k v y
    = rm (fun d => x0 (ix2 (y 0) d)) k + Ideal.log (rl (fun d => x0 (ix2 (y 0) d)) k) := by
  unfold_out out0_4
  rw [ld_k, pay13, pay19, pay25]
  canon_tiles z h
  · have e0 : (y 0 : Fin 1024) = ⟨768 + (z 0).val, by have := (z 0).isLt; simp at this; omega⟩ := Fin.ext (by simpa using h0)
    rw [e0]
    exact tile7 _ k x0 _ z (ld_d x0 (z 0))
  · have e0 : (y 0 : Fin 1024) = ⟨512 + (z 0).val, by have := (z 0).isLt; simp at this; omega⟩ := Fin.ext (by simpa using h0)
    rw [e0]
    exact tile7 _ k x0 _ z (ld_c x0 (z 0))
  · have e0 : (y 0 : Fin 1024) = ⟨256 + (z 0).val, by have := (z 0).isLt; simp at this; omega⟩ := Fin.ext (by simpa using h0)
    rw [e0]
    exact tile7 _ k x0 _ z (ld_b x0 (z 0))
  · have e0 : (y 0 : Fin 1024) = ⟨(z 0).val, by have := (z 0).isLt; simp at this; omega⟩ := Fin.ext (by simpa using h0)
    rw [e0]
    exact tile7 _ k x0 _ z (ld_a x0 (z 0))
end block

section point
variable (a : Fin 1024)

/-- The query's row of a point. -/
abbrev qr : Fin 256 → EReal := fun d => qB m c t (ix2 a d)

theorem rs_eq (j : Fin 4352) : rs (qr m c t a) (kB m c t) j = sc (aq m c) (ak m c) (hd t) (row t a) j := by
  unfold rs sc
  simp only [qr, qB_at, kB_at]
  exact sum_pad (fun d => aq m c (ix3 (row t a) (hd t) d) * kappa) (fun d => ak m c (ix3 j (hd t) d))
theorem rm_eq : rm (qr m c t a) (kB m c t) = mx (aq m c) (ak m c) (hd t) (row t a) := by
  unfold rm mx
  simp only [rs_eq]
theorem re_eq (j : Fin 4352) : re (qr m c t a) (kB m c t) j = ex (aq m c) (ak m c) (hd t) (row t a) j := by
  unfold re ex
  rw [rs_eq, rm_eq]
theorem rl_eq : rl (qr m c t a) (kB m c t) = sm (aq m c) (ak m c) (hd t) (row t a) := by
  unfold rl sm
  simp only [re_eq]
end point

section maths
variable (X0 : FVec Ideal S4096x8x192 .f32) (X1 : FVec Ideal S4352x8x192 .f32) (X2 : FVec Ideal S4352x8x128 .f32)

/-- The reference's saved logarithm: the logarithm of the sum of the scores' exponentials. -/
@[irreducible] def ls (h : Fin 8) (i : Fin 4096) : EReal := Ideal.log (∑ j : Fin 4352, Ideal.exp (sc X0 X1 h i j))

/-- Dividing after the product with the values is dividing before it. -/
theorem fo_eq (h0 : ∀ y, ∃ r : ℝ, X0 y = ((r : ℝ) : EReal)) (h1 : ∀ y, ∃ r : ℝ, X1 y = ((r : ℝ) : EReal))
    (h : Fin 8) (i : Fin 4096) (b : Fin 128) :
    Ideal.div (∑ j : Fin 4352, ex X0 X1 h i j * X2 (ix3 j h b)) (sm X0 X1 h i) = fo X0 X1 X2 h i b := by
  obtain ⟨s, M, hs, hm, he, hl, hp⟩ := row_real X0 X1 h0 h1 h i
  unfold fo
  simp only [he, hl, Ideal.div_coe hp.ne']
  rw [Cert.Sums.sum_mul _ _ _ (by exact_mod_cast (one_div_nonneg.mpr hp.le)) (EReal.coe_ne_top _)]
  exact Finset.sum_congr rfl fun j _ => by rw [mul_comm (((Real.exp _ : ℝ) : EReal)), mul_assoc]

/-- The largest score and the logarithm of the shifted sum make the logarithm of the sum. -/
theorem ls_eq (h0 : ∀ y, ∃ r : ℝ, X0 y = ((r : ℝ) : EReal)) (h1 : ∀ y, ∃ r : ℝ, X1 y = ((r : ℝ) : EReal))
    (h : Fin 8) (i : Fin 4096) : mx X0 X1 h i + Ideal.log (sm X0 X1 h i) = ls X0 X1 h i := by
  obtain ⟨s, M, hs, hm, he, hl, hp⟩ := row_real X0 X1 h0 h1 h i
  have e : (∑ j, Real.exp (s j)) = Real.exp M * ∑ j, Real.exp (s j - M) := by
    rw [Finset.mul_sum]
    exact Finset.sum_congr rfl fun j _ => by rw [← Real.exp_add]; congr 1; ring
  have hq : 0 < ∑ j, Real.exp (s j) := by rw [e]; exact mul_pos (Real.exp_pos _) hp
  unfold ls
  simp only [hs, Ideal.exp_coe, coe_sum]
  rw [hm, hl, Ideal.log_coe, if_neg (not_le.mpr hp), Ideal.log_coe, if_neg (not_le.mpr hq), ← EReal.coe_add, e,
    Real.log_mul (Real.exp_pos _).ne' hp.ne', Real.log_exp]
end maths

end Cert.AttnFwdIdeal.Value

namespace Cert.AttnFwdRefIdeal.Read

open Cert.AttnFwdRefIdeal Cert.AttnFwdRefIdeal.Gen Cert.Core
open Cert.KernelIdeal.Value (kappa sc mx ex sm fo negInf sitofp_zero)
open Cert.AttnFwdIdeal.Value (ls)

variable (X0 : FVec Ideal S4096x8x192 .f32) (X1 : FVec Ideal S4352x8x192 .f32) (X2 : FVec Ideal S4352x8x128 .f32)

theorem v2_at (h : Fin 8) (i : Fin 4096) (j : Fin 4352) : val_main_v2 (F := Ideal) X0 X1 (ix3 h i j) = sc X0 X1 h i j := by
  pointwise [val_main_v2, val_main_v1, val_main_v0, val_main_cst, sc]

theorem v8_at (h : Fin 8) (i : Fin 4096) (j : Fin 4352) : val_main_v8 (F := Ideal) X0 X1 (ix3 h i j) = sc X0 X1 h i j := by
  pointwise [val_main_v8, val_main_v7, val_main_v6, val_main_cst_1, sc]

theorem v9_at (h : Fin 8) (i : Fin 4096) : val_main_v9 (F := Ideal) X0 X1 (ix2 h i) = mx X0 X1 h i := by
  pointwise [val_main_v9, val_main_cst_2, mx, v8_at]
  rw [negInf]

theorem maxBot_at (Y : FVec Ideal S8x4096 .f32) (h : Fin 8) (i : Fin 4096) :
    maximumf (val_main_v10 (F := Ideal)) Y (ix2 h i) = Y (ix2 h i) := by
  pointwise [val_main_v10, val_main_cst_3]
  rw [negInf, max_eq_right bot_le]

theorem v11_at (h : Fin 8) (i : Fin 4096) : val_main_v11 (F := Ideal) X0 X1 (ix2 h i) = mx X0 X1 h i :=
  (maxBot_at _ h i).trans (v9_at X0 X1 h i)

theorem v15_at (h : Fin 8) (i : Fin 4096) (j : Fin 4352) : val_main_v15 (F := Ideal) X0 X1 (ix3 h i j) = ex X0 X1 h i j := by
  pointwise [val_main_v15, val_main_v14, val_main_v13, val_main_v12, ex, v8_at, v11_at]

theorem v16_at (h : Fin 8) (i : Fin 4096) : val_main_v16 (F := Ideal) X0 X1 (ix2 h i) = sm X0 X1 h i := by
  pointwise [val_main_v16, val_main_cst_4, sm, v15_at]

theorem v23_at (i : Fin 4096) (b : Fin 1024) : val_main_v23 (F := Ideal) X0 X1 X2 (ix2 i b)
    = fo X0 X1 X2 ⟨b.val / 128, by omega⟩ i ⟨b.val % 128, by omega⟩ := by
  pointwise [val_main_v23, val_main_v22, val_main_v21, val_main_v20, val_main_v19, val_main_v18, val_main_v17, fo, v15_at, v16_at]

theorem v5_at (h : Fin 8) (i : Fin 4096) : val_main_v5 (F := Ideal) X0 X1 (ix2 h i) = ls X0 X1 h i := by
  pointwise [val_main_v5, val_main_v4, val_main_v3, val_main_cst_0, ls, v2_at]

theorem v27_at (i : Fin 4096) (b : Fin 1024) : val_main_v27 (F := Ideal) X0 X1 (ix2 i b) = ls X0 X1 ⟨b.val / 128, by omega⟩ i := by
  pointwise [val_main_v27, val_main_v26, val_main_v25, val_main_v24, v5_at]

end Cert.AttnFwdRefIdeal.Read

namespace Cert.AttnFwdIdeal.Value

open Cert.AttnFwdIdeal Cert.AttnFwdIdeal.Gen Cert.Core
open Cert.KernelIdeal.Value (kappa sc mx ex sm fo negInf sitofp_zero)

variable (m : (ℓ : Loc nD τ sig) → Buf (Elt Ideal) ℓ) (c : Dev nD)

/-- The queries and keys are real numbers. -/
def RealArgs : Prop := (∀ y, ∃ r : ℝ, aq m c y = ((r : ℝ) : EReal)) ∧ (∀ y, ∃ r : ℝ, ak m c y = ((r : ℝ) : EReal))

/-- The attention's result. -/
theorem arr3 (H : RealArgs m c) : (dats m 0 c).arrAt 3 cfg0.N
    = Cert.AttnFwdRefIdeal.Read.val_main_v23 (F := Ideal) (aq m c) (ak m c) (av m c) :=
  (dats m 0 c).arrAt_eq_of_covers 3 _ (by decide +kernel) fun t hf y => by
    blk_simp
    rw [after0_3]
    have ht : t.val / 4 < 8 := (idx t).2.2.2.2.2
    obtain ⟨a, b, rfl⟩ : ∃ (a : Fin 1024) (b : Fin 128), y = ix2 a b := ⟨y 0, y 1, by funext k; fin_cases k <;> rfl⟩
    have e : (win0_3.blk t).view.emb (ix2 a b) = ix2 (row t a) ⟨t.val / 4 * 128 + b.val, by omega⟩ := by
      simp only [row]
      blk_ext [idx t]
    have d1 : (⟨(t.val / 4 * 128 + b.val) / 128, by omega⟩ : Fin 8) = hd t := Fin.ext (by simp only [hd]; omega)
    have d2 : (⟨(t.val / 4 * 128 + b.val) % 128, by omega⟩ : Fin 128) = b := Fin.ext (by simp only []; omega)
    rw [e, Cert.AttnFwdRefIdeal.Read.v23_at, d1, d2]
    refine (out3_at (kB m c t) (vB m c t) (qB m c t) (ix2 a b)).trans ?_
    show Ideal.div (∑ j : Fin 4352, re (qr m c t a) (kB m c t) j * vB m c t (ix2 j b)) (rl (qr m c t a) (kB m c t)) = _
    simp only [re_eq, rl_eq, vB_at]
    exact fo_eq (aq m c) (ak m c) (av m c) H.1 H.2 (hd t) (row t a) b

/-- The saved logarithms. -/
theorem arr4 (H : RealArgs m c) : (dats m 0 c).arrAt 4 cfg0.N
    = Cert.AttnFwdRefIdeal.Read.val_main_v27 (F := Ideal) (aq m c) (ak m c) :=
  (dats m 0 c).arrAt_eq_of_covers 4 _ (by decide +kernel) fun t hf y => by
    blk_simp
    rw [after0_4]
    have ht : t.val / 4 < 8 := (idx t).2.2.2.2.2
    obtain ⟨a, b, rfl⟩ : ∃ (a : Fin 1024) (b : Fin 128), y = ix2 a b := ⟨y 0, y 1, by funext k; fin_cases k <;> rfl⟩
    have e : (win0_4.blk t).view.emb (ix2 a b) = ix2 (row t a) ⟨t.val / 4 * 128 + b.val, by omega⟩ := by
      simp only [row]
      blk_ext [idx t]
    have d1 : (⟨(t.val / 4 * 128 + b.val) / 128, by omega⟩ : Fin 8) = hd t := Fin.ext (by simp only [hd]; omega)
    rw [e, Cert.AttnFwdRefIdeal.Read.v27_at, d1]
    refine (out4_at (kB m c t) (vB m c t) (qB m c t) (ix2 a b)).trans ?_
    show rm (qr m c t a) (kB m c t) + Ideal.log (rl (qr m c t a) (kB m c t)) = _
    rw [rm_eq, rl_eq]
    exact ls_eq (aq m c) (ak m c) H.1 H.2 (hd t) (row t a)

end Cert.AttnFwdIdeal.Value
-- ==== Proof.FfnOutVal.lean ====
/- The feed-forward's second product, the loss and its gradient: the call's four arrays are the reference's. -/
module

public import proofs.«01_k».proof.Proof.Gen.FfnOutIdeal.Value
public import proofs.«01_k».proof.Proof.Gen.FfnOutRefIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnOutIdeal.Value

open Cert.FfnOutIdeal Cert.FfnOutIdeal.Gen

variable (m : (ℓ : Loc nD τ sig) → Buf (Elt Ideal) ℓ) (c : Dev nD)

/-- The gated activations, as launched. -/
abbrev aA : FVec Ideal S4096x5632 .bf16 := m ((c : Thread nD τ).loc main_arg0)
/-- The weights, as launched. -/
abbrev aW : FVec Ideal S5632x2048 .bf16 := m ((c : Thread nD τ).loc main_arg1)
/-- The residual, as launched. -/
abbrev aX : FVec Ideal S4096x2048 .f32 := m ((c : Thread nD τ).loc main_arg2)
/-- The target, as launched. -/
abbrev aT : FVec Ideal S4096x2048 .f32 := m ((c : Thread nD τ).loc main_arg3)
/-- The gate, as launched. -/
abbrev aG : FVec Ideal S1x2048 .f32 := m ((c : Thread nD τ).loc main_arg4)

theorem over : Ideal.ofBits .f32 0x3A000000#32 = ((1 / 2048 : ℝ) : EReal) := by
  simp [Ideal.ofBits, Ideal.ieee, -EReal.coe_mul]; norm_num
theorem half_over : Ideal.ofBits .f32 0x39800000#32 = ((1 / 4096 : ℝ) : EReal) := by
  simp [Ideal.ofBits, Ideal.ieee, -EReal.coe_mul]; norm_num
theorem half : Ideal.ofBits .f32 0x3F000000#32 = ((1 / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem width : Ideal.ofBits .f32 0x45000000#32 = ((2048 : ℝ) : EReal) := by
  simp [Ideal.ofBits, Ideal.ieee, -EReal.coe_mul]; norm_num
theorem unit : Ideal.ofBits .f32 0x3F800000#32 = ((1 : ℝ) : EReal) := by
  simp [Ideal.ofBits, Ideal.ieee, -EReal.coe_mul]; norm_num
theorem zero : Ideal.ofBits .f32 0x00000000#32 = 0 := by simp [Ideal.ofBits, Ideal.ieee]

/-- The derivative of the mean square, its constants multiplied out. -/
theorem slope (e : EReal) : Ideal.div (Ideal.ofBits .f32 0x3F000000#32 * Ideal.ofBits .f32 0x3F800000#32) (Ideal.ofBits .f32 0x45000000#32)
    * (Ideal.ofBits .f32 0x40000000#32 * e) = e * Ideal.ofBits .f32 0x3A000000#32 := by
  rw [half, unit, width, two, over, Ideal.div_coe (by norm_num), ← mul_assoc, ← EReal.coe_mul, ← EReal.coe_mul, ← EReal.coe_mul, mul_comm]
  norm_num

/-- The loss of a sum of squares, its constants multiplied out. -/
theorem share (s : EReal) : Ideal.div (Ideal.ofBits .f32 0x3F000000#32 * s) (Ideal.ofBits .f32 0x45000000#32)
    = s * Ideal.ofBits .f32 0x39800000#32 := by
  rw [half, width, half_over, Ideal.div_coe (by norm_num), mul_comm _ s, mul_assoc, ← EReal.coe_mul]
  norm_num

theorem idx : ∀ t : Fin cfg0.N, win0_0.index t = ![t.val / 8, t.val % 4] ∧ win0_1.index t = ![t.val % 4, t.val / 4 % 2]
    ∧ win0_2.index t = ![t.val / 8, t.val / 4 % 2] ∧ win0_3.index t = ![t.val / 8, t.val / 4 % 2]
    ∧ win0_4.index t = ![0, t.val / 4 % 2] ∧ win0_5.index t = ![t.val / 8, t.val / 4 % 2] ∧ win0_6.index t = ![t.val / 8, t.val / 4 % 2]
    ∧ win0_7.index t = ![t.val / 8, 0, t.val / 4 % 2] ∧ win0_8.index t = ![t.val / 8, 0, t.val / 4 % 2] ∧ t.val / 8 < 4 :=
  (by decide +kernel : ∀ t : Fin grid0.N, _)

variable (t : Fin cfg0.N)

theorem bound : t.val / 8 < 4 := (idx t).2.2.2.2.2.2.2.2.2

/-- The array's row of a point's row. -/
def row (a : Fin 1024) : Fin 4096 := ⟨t.val / 8 * 1024 + a.val, by have := bound t; omega⟩
/-- The array's column of a point's column. -/
def col (b : Fin 1024) : Fin 2048 := ⟨t.val / 4 % 2 * 1024 + b.val, by omega⟩
/-- The place in the summed axis of a point's lane. -/
def lane (r : Fin 1408) : Fin 5632 := ⟨t.val % 4 * 1408 + r.val, by omega⟩

/-- The point's blocks. -/
abbrev pB : FVec Ideal S1024x1408 .bf16 := iblk m c 0 t
abbrev wB : FVec Ideal S1408x1024 .bf16 := iblk m c 1 t
abbrev xB : FVec Ideal S1024x1024 .f32 := iblk m c 2 t
abbrev tB : FVec Ideal S1024x1024 .f32 := iblk m c 3 t
abbrev gB : FVec Ideal S1x1024 .f32 := iblk m c 4 t

theorem pB_at (a : Fin 1024) (r : Fin 1408) : pB m c t (ix2 a r) = aA m c (ix2 (row t a) (lane t r)) := by
  have ht := bound t
  have key : ∀ Z : FVec Ideal S4096x5632 .bf16, ((cfg0.win 0).blk t).view.read (Elt Ideal) Z (ix2 a r)
      = Z (ix2 ⟨t.val / 8 * 1024 + a.val, by omega⟩ ⟨t.val % 4 * 1408 + r.val, by omega⟩) := by
    intro Z
    blk_ext [idx t]
  refine (key (V m c main_arg0)).trans ?_
  rw [V_main_arg0]
  rfl

theorem wB_at (r : Fin 1408) (b : Fin 1024) : wB m c t (ix2 r b) = aW m c (ix2 (lane t r) (col t b)) := by
  have key : ∀ Z : FVec Ideal S5632x2048 .bf16, ((cfg0.win 1).blk t).view.read (Elt Ideal) Z (ix2 r b)
      = Z (ix2 ⟨t.val % 4 * 1408 + r.val, by omega⟩ ⟨t.val / 4 % 2 * 1024 + b.val, by omega⟩) := by
    intro Z
    blk_ext [idx t]
  refine (key (V m c main_arg1)).trans ?_
  rw [V_main_arg1]
  rfl

theorem xB_at (a b : Fin 1024) : xB m c t (ix2 a b) = aX m c (ix2 (row t a) (col t b)) := by
  have ht := bound t
  have key : ∀ Z : FVec Ideal S4096x2048 .f32, ((cfg0.win 2).blk t).view.read (Elt Ideal) Z (ix2 a b)
      = Z (ix2 ⟨t.val / 8 * 1024 + a.val, by omega⟩ ⟨t.val / 4 % 2 * 1024 + b.val, by omega⟩) := by
    intro Z
    blk_ext [idx t]
  refine (key (V m c main_arg2)).trans ?_
  rw [V_main_arg2]
  rfl

theorem tB_at (a b : Fin 1024) : tB m c t (ix2 a b) = aT m c (ix2 (row t a) (col t b)) := by
  have ht := bound t
  have key : ∀ Z : FVec Ideal S4096x2048 .f32, ((cfg0.win 3).blk t).view.read (Elt Ideal) Z (ix2 a b)
      = Z (ix2 ⟨t.val / 8 * 1024 + a.val, by omega⟩ ⟨t.val / 4 % 2 * 1024 + b.val, by omega⟩) := by
    intro Z
    blk_ext [idx t]
  refine (key (V m c main_arg3)).trans ?_
  rw [V_main_arg3]
  rfl

theorem gB_at (b : Fin 1024) : gB m c t (ix2 0 b) = aG m c (ix2 0 (col t b)) := by
  have key : ∀ Z : FVec Ideal S1x2048 .f32, ((cfg0.win 4).blk t).view.read (Elt Ideal) Z (ix2 0 b)
      = Z (ix2 0 ⟨t.val / 4 % 2 * 1024 + b.val, by omega⟩) := by
    intro Z
    blk_ext [idx t]
  refine (key (V m c main_arg4)).trans ?_
  rw [V_main_arg4]
  rfl

/-- What a point adds to its block. -/
def term (a b : Fin 1024) : EReal :=
  ∑ r : Fin 1408, aA m c (ix2 (row t a) (lane t r)) * aW m c (ix2 (lane t r) (col t b))

theorem term_eq (a b : Fin 1024) : (∑ r : Fin 1408, pB m c t (ix2 a r) * wB m c t (ix2 r b)) = term m c t a b := by
  unfold term
  exact Finset.sum_congr rfl fun r _ => congrArg₂ (· * ·) (pB_at m c t a r) (wB_at m c t r b)

/-- What the accumulator holds after a point. -/
abbrev acc : FVec Ideal S1024x1024 .f32 := (outsAt0 m c t.val t.isLt).2.2.2.2
/-- What the accumulator holds before a point that is not a block's first. -/
abbrev prev : FVec Ideal S1024x1024 .f32 := (outsAt0 m c (t.val - 1) (Nat.lt_of_le_of_lt (Nat.sub_le _ _) t.isLt)).2.2.2.2

theorem first (h : t.val % 4 = 0) (a b : Fin 1024) : acc m c t (ix2 a b) = term m c t a b := by
  refine Eq.trans ?_ (term_eq m c t a b)
  unfold acc
  rw [outsAt0_A m c t h (by omega) (by omega)]; frame_out
  pointwise [k0_pay1]

theorem next (h : ¬t.val % 4 = 0) (a b : Fin 1024) : acc m c t (ix2 a b) = (show EReal from prev m c t (ix2 a b)) + term m c t a b := by
  refine Eq.trans ?_ (congrArg (_ + ·) (term_eq m c t a b))
  unfold acc
  by_cases h2 : t.val % 4 = 3
  · rw [outsAt0_C m c t h (by omega) h2]; frame_out
    pointwise [k0_pay2]
    exact congrArg (· + _) (congrFun (read_unread_whole _ _ _) _)
  · rw [outsAt0_B m c t h (by omega) h2]; frame_out
    pointwise [k0_pay2]
    exact congrArg (· + _) (congrFun (read_unread_whole _ _ _) _)

theorem acc_sum (ht : t.val % 4 = 4 - 1) (a b : Fin 1024) : (show EReal from acc m c t (ix2 a b))
    = ∑ k : Fin 5632, aA m c (ix2 (row t a) k) * aW m c (ix2 k (col t b)) := by
  unfold acc
  rw [Pipeline.eq_sum_fin_of_reset_step_apply_of_flush (fun n h => (outsAt0 m c n h).2.2.2.2) 4 (fun _ => (0 : EReal))
    (fun t j => term m c t (j 0) (j 1))
    (fun t h j => by
      obtain ⟨a, b, rfl⟩ : ∃ (a : Fin 1024) (b : Fin 1024), j = ix2 a b := ⟨j 0, j 1, by funext k; fin_cases k <;> rfl⟩
      exact (first m c t h a b).trans (zero_add _).symm)
    (fun t h j => by
      obtain ⟨a, b, rfl⟩ : ∃ (a : Fin 1024) (b : Fin 1024), j = ix2 a b := ⟨j 0, j 1, by funext k; fin_cases k <;> rfl⟩
      exact next m c t h a b)
    t ht (ix2 a b)]
  show (0 : EReal) + _ = _
  rw [zero_add]
  unfold term
  refine Fin.sum_mul_add_congr (n := 1408) (fun s r hl => ?_)
  have er : row ⟨4 * (t.val / 4) + s.val, Pipeline.run_point_lt_of_flush t ht s⟩ a = row t a := by
    apply Fin.ext; simp only [row]; omega
  have ec : col ⟨4 * (t.val / 4) + s.val, Pipeline.run_point_lt_of_flush t ht s⟩ b = col t b := by
    apply Fin.ext; simp only [col]; omega
  have el : lane ⟨4 * (t.val / 4) + s.val, Pipeline.run_point_lt_of_flush t ht s⟩ r = ⟨s.val * 1408 + r.val, hl⟩ := by
    apply Fin.ext; simp only [lane]; omega
  show aA m c (ix2 (row ⟨4 * (t.val / 4) + s.val, _⟩ a) (lane ⟨4 * (t.val / 4) + s.val, _⟩ r)) * aW m c (ix2 (lane ⟨4 * (t.val / 4) + s.val, _⟩ r) (col ⟨4 * (t.val / 4) + s.val, _⟩ b)) = _
  rw [er, ec, el]

theorem out5 (h : t.val % 4 = 3) : (outsAt0 m c t.val t.isLt).1 = k0_pay4 (F := Ideal) (acc m c t) (xB m c t) (tB m c t) (gB m c t) := by
  unfold acc
  rw [outsAt0_C m c t (by omega) (by omega) h]; frame_out

theorem out6 (h : t.val % 4 = 3) : (outsAt0 m c t.val t.isLt).2.1 = k0_pay5 (F := Ideal) (acc m c t) (xB m c t) (tB m c t) (gB m c t) := by
  unfold acc
  rw [outsAt0_C m c t (by omega) (by omega) h]; frame_out

theorem out7 (h : t.val % 4 = 3) : (outsAt0 m c t.val t.isLt).2.2.1 = k0_pay6 (F := Ideal) (acc m c t) (xB m c t) (tB m c t) (gB m c t) := by
  unfold acc
  rw [outsAt0_C m c t (by omega) (by omega) h]; frame_out

theorem out8 (h : t.val % 4 = 3) : (outsAt0 m c t.val t.isLt).2.2.2.1 = k0_pay7 (F := Ideal) (acc m c t) (xB m c t) (tB m c t) (gB m c t) := by
  unfold acc
  rw [outsAt0_C m c t (by omega) (by omega) h]; frame_out

section payloads
variable (f x y : FVec Ideal S1024x1024 .f32) (g : FVec Ideal S1x1024 .f32)

theorem err_at (a b : Fin 1024) : k0_pay3 (F := Ideal) f x y g (ix2 a b) = x (ix2 a b) + g (ix2 0 b) * f (ix2 a b) - y (ix2 a b) := by
  pointwise [k0_pay3]

theorem dy_at (a b : Fin 1024) : k0_pay4 (F := Ideal) f x y g (ix2 a b)
    = (show EReal from k0_pay3 (F := Ideal) f x y g (ix2 a b)) * Ideal.ofBits .f32 0x3A000000#32 := by
  pointwise [k0_pay4]

theorem df_at (a b : Fin 1024) : k0_pay5 (F := Ideal) f x y g (ix2 a b)
    = g (ix2 0 b) * (show EReal from k0_pay4 (F := Ideal) f x y g (ix2 a b)) := by
  pointwise [k0_pay5]

theorem loss_at (s : Fin 8) (b : Fin 1024) : k0_pay6 (F := Ideal) f x y g (ix3 0 s b)
    = (∑ a : Fin 1024, (show EReal from k0_pay3 (F := Ideal) f x y g (ix2 a b)) * (show EReal from k0_pay3 (F := Ideal) f x y g (ix2 a b))) * Ideal.ofBits .f32 0x39800000#32 := by
  pointwise [k0_pay6]

theorem dg_at (s : Fin 8) (b : Fin 1024) : k0_pay7 (F := Ideal) f x y g (ix3 0 s b)
    = ∑ a : Fin 1024, (show EReal from k0_pay4 (F := Ideal) f x y g (ix2 a b)) * f (ix2 a b) := by
  pointwise [k0_pay7]

end payloads

section reference
variable (X0 : FVec Ideal S4096x5632 .bf16) (X1 : FVec Ideal S5632x2048 .bf16) (X2 X3 : FVec Ideal S4096x2048 .f32) (X4 : FVec Ideal S1x2048 .f32)

/-- The second product. -/
def ff (a : Fin 4096) (b : Fin 2048) : EReal := ∑ k : Fin 5632, X0 (ix2 a k) * X1 (ix2 k b)
/-- The error. -/
def er (a : Fin 4096) (b : Fin 2048) : EReal := X2 (ix2 a b) + X4 (ix2 0 b) * ff X0 X1 a b - X3 (ix2 a b)
/-- The loss's derivative. -/
def sl (a : Fin 4096) (b : Fin 2048) : EReal := er X0 X1 X2 X3 X4 a b * Ideal.ofBits .f32 0x3A000000#32

open Cert.FfnOutRefIdeal.Read

theorem ref_ff (a : Fin 4096) (b : Fin 2048) : val_main_v2 (F := Ideal) X0 X1 (ix2 a b) = ff X0 X1 a b := by
  pointwise [val_main_v2, val_main_v1, val_main_v0, ff]

theorem ref_dy (a : Fin 4096) (b : Fin 2048) : val_main_v20 (F := Ideal) X0 X1 X2 X3 X4 (ix2 a b) = sl X0 X1 X2 X3 X4 a b := by
  refine Eq.trans ?_ (slope (er X0 X1 X2 X3 X4 a b))
  unfold er
  rw [← ref_ff]
  pointwise [val_main_v20, val_main_v19, val_main_v18, val_main_v17, val_main_v16, val_main_v15, val_main_v9, val_main_v8, val_main_v6, val_main_v5, val_main_v4, val_main_v3, val_main_cst, val_main_cst_4, val_main_cst_5, val_main_cst_6]

theorem ref_df (a : Fin 4096) (b : Fin 2048) : val_main_v37 (F := Ideal) X0 X1 X2 X3 X4 (ix2 a b) = X4 (ix2 0 b) * sl X0 X1 X2 X3 X4 a b := by
  rw [← ref_dy]
  pointwise [val_main_v37, val_main_v22, val_main_v21]

theorem ref_loss (i : Fin 4) (s : Fin 8) (b : Fin 2048) : val_main_v39 (F := Ideal) X0 X1 X2 X3 X4 (ix3 i s b)
    = (∑ k : Fin 1024, er X0 X1 X2 X3 X4 ⟨i.val * 1024 + k.val, by omega⟩ b * er X0 X1 X2 X3 X4 ⟨i.val * 1024 + k.val, by omega⟩ b) * Ideal.ofBits .f32 0x39800000#32 := by
  rw [← share]
  unfold er
  simp only [← ref_ff]
  pointwise [val_main_v39, val_main_v38, val_main_v33, val_main_v32, val_main_v31, val_main_v30, val_main_v29, val_main_v28, val_main_v27, val_main_v26, val_main_v25, val_main_v24, val_main_v23, val_main_cst_7, val_main_cst_8, val_main_cst_9]

theorem ref_dg (i : Fin 4) (s : Fin 8) (b : Fin 2048) : val_main_v41 (F := Ideal) X0 X1 X2 X3 X4 (ix3 i s b)
    = ∑ k : Fin 1024, sl X0 X1 X2 X3 X4 ⟨i.val * 1024 + k.val, by omega⟩ b * ff X0 X1 ⟨i.val * 1024 + k.val, by omega⟩ b := by
  simp only [← ref_ff, ← ref_dy]
  pointwise [val_main_v41, val_main_v40, val_main_v36, val_main_v35, val_main_v34, val_main_cst_10]

end reference

theorem acc_at (h : t.val % 4 = 3) (a b : Fin 1024) : acc m c t (ix2 a b) = ff (aA m c) (aW m c) (row t a) (col t b) :=
  acc_sum m c t h a b

theorem blk_err (h : t.val % 4 = 3) (a b : Fin 1024) : k0_pay3 (F := Ideal) (acc m c t) (xB m c t) (tB m c t) (gB m c t) (ix2 a b)
    = er (aA m c) (aW m c) (aX m c) (aT m c) (aG m c) (row t a) (col t b) := by
  rw [err_at, acc_at m c t h, xB_at, tB_at, gB_at]
  rfl

theorem blk_dy (h : t.val % 4 = 3) (a b : Fin 1024) : k0_pay4 (F := Ideal) (acc m c t) (xB m c t) (tB m c t) (gB m c t) (ix2 a b)
    = sl (aA m c) (aW m c) (aX m c) (aT m c) (aG m c) (row t a) (col t b) := by
  rw [dy_at, blk_err m c t h]
  rfl

theorem blk_dg (h : t.val % 4 = 3) (s : Fin 8) (b : Fin 1024) : k0_pay7 (F := Ideal) (acc m c t) (xB m c t) (tB m c t) (gB m c t) (ix3 0 s b)
    = ∑ k : Fin 1024, sl (aA m c) (aW m c) (aX m c) (aT m c) (aG m c) (row t k) (col t b) * ff (aA m c) (aW m c) (row t k) (col t b) := by
  rw [dg_at]
  exact Finset.sum_congr rfl fun k _ => by rw [blk_dy m c t h, acc_at m c t h]

/-- The first array after the run is the reference's. -/
theorem arr5 : (dats m 0 c).arrAt 5 cfg0.N = Cert.FfnOutRefIdeal.Read.val_main_v20 (F := Ideal) (aA m c) (aW m c) (aX m c) (aT m c) (aG m c) :=
  (dats m 0 c).arrAt_eq_of_covers 5 _ (by decide +kernel) fun t hf y => by
    blk_simp
    rw [after0_5]
    have ht := bound t
    have ho : t.val % 4 = 3 := (flush0_5 t).mp hf
    obtain ⟨a, b, rfl⟩ : ∃ (a : Fin 1024) (b : Fin 1024), y = ix2 a b := ⟨y 0, y 1, by funext k; fin_cases k <;> rfl⟩
    have e : (win0_5.blk t).view.emb (ix2 a b) = ix2 (row t a) (col t b) := by
      simp only [row, col]
      blk_ext [idx t]
    rw [e, ref_dy, out5 m c t ho]
    exact blk_dy m c t ho a b

/-- The second array after the run is the reference's. -/
theorem arr6 : (dats m 0 c).arrAt 6 cfg0.N = Cert.FfnOutRefIdeal.Read.val_main_v37 (F := Ideal) (aA m c) (aW m c) (aX m c) (aT m c) (aG m c) :=
  (dats m 0 c).arrAt_eq_of_covers 6 _ (by decide +kernel) fun t hf y => by
    blk_simp
    rw [after0_6]
    have ht := bound t
    have ho : t.val % 4 = 3 := (flush0_6 t).mp hf
    obtain ⟨a, b, rfl⟩ : ∃ (a : Fin 1024) (b : Fin 1024), y = ix2 a b := ⟨y 0, y 1, by funext k; fin_cases k <;> rfl⟩
    have e : (win0_6.blk t).view.emb (ix2 a b) = ix2 (row t a) (col t b) := by
      simp only [row, col]
      blk_ext [idx t]
    rw [e, ref_df, out6 m c t ho, df_at, blk_dy m c t ho, gB_at]

/-- The third array after the run is the reference's. -/
theorem arr7 : (dats m 0 c).arrAt 7 cfg0.N = Cert.FfnOutRefIdeal.Read.val_main_v39 (F := Ideal) (aA m c) (aW m c) (aX m c) (aT m c) (aG m c) :=
  (dats m 0 c).arrAt_eq_of_covers 7 _ (by decide +kernel) fun t hf y => by
    blk_simp
    rw [after0_7]
    have ht := bound t
    have ho : t.val % 4 = 3 := (flush0_7 t).mp hf
    obtain ⟨s, b, rfl⟩ : ∃ (s : Fin 8) (b : Fin 1024), y = ix3 0 s b :=
      ⟨y 1, y 2, by funext k; fin_cases k <;> [exact Fin.ext (by have := (y 0).isLt; show (y 0).val = 0; change (y 0).val < 1 at this; omega); rfl; rfl]⟩
    have e : (win0_7.blk t).view.emb (ix3 0 s b) = ix3 ⟨t.val / 8, ht⟩ s (col t b) := by
      simp only [col]
      blk_ext [idx t]
    rw [e, ref_loss, out7 m c t ho, loss_at]
    exact congrArg (· * _) (Finset.sum_congr rfl fun k _ => by rw [blk_err m c t ho]; rfl)

/-- The fourth array after the run is the reference's. -/
theorem arr8 : (dats m 0 c).arrAt 8 cfg0.N = Cert.FfnOutRefIdeal.Read.val_main_v41 (F := Ideal) (aA m c) (aW m c) (aX m c) (aT m c) (aG m c) :=
  (dats m 0 c).arrAt_eq_of_covers 8 _ (by decide +kernel) fun t hf y => by
    blk_simp
    rw [after0_8]
    have ht := bound t
    have ho : t.val % 4 = 3 := (flush0_8 t).mp hf
    obtain ⟨s, b, rfl⟩ : ∃ (s : Fin 8) (b : Fin 1024), y = ix3 0 s b :=
      ⟨y 1, y 2, by funext k; fin_cases k <;> [exact Fin.ext (by have := (y 0).isLt; show (y 0).val = 0; change (y 0).val < 1 at this; omega); rfl; rfl]⟩
    have e : (win0_8.blk t).view.emb (ix3 0 s b) = ix3 ⟨t.val / 8, ht⟩ s (col t b) := by
      simp only [col]
      blk_ext [idx t]
    rw [e, ref_dg, out8 m c t ho]
    exact blk_dg m c t ho s b

end Cert.FfnOutIdeal.Value
-- ==== Proof.ProjQVal.lean ====
/- The queries' projection and its normalized form: the call's two arrays are the reference's. -/
module

public import proofs.«01_k».proof.Proof.Gen.ProjQIdeal.Value
public import proofs.«01_k».proof.Proof.Gen.ProjQRefIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16512

noncomputable section

open Idealize.ShloMosaic Idealize.ShloMosaic.TcCoe Idealize.SL.Sem
open Idealize.ShloMosaic.Pipeline (Dat)

namespace Cert.ProjQIdeal.Value

open Cert.ProjQIdeal Cert.ProjQIdeal.Gen

variable (m : (ℓ : Loc nD τ sig) → Buf (Elt Ideal) ℓ) (c : Dev nD)

/-- The inputs, as launched. -/
abbrev aH : FVec Ideal S4096x2048 .bf16 := m ((c : Thread nD τ).loc main_arg0)
/-- The weights, as launched. -/
abbrev aW : FVec Ideal S2048x512 .bf16 := m ((c : Thread nD τ).loc main_arg1)

/-- The scale of the normalization, as launched. -/
abbrev aG : FVec Ideal S1x512 .f32 := m ((c : Thread nD τ).loc main_arg2)

theorem idx : ∀ t : Fin cfg0.N, win0_0.index t = ![t.val, 0]
    ∧ win0_1.index t = ![0, 0]
    ∧ win0_2.index t = ![0, 0]
    ∧ win0_3.index t = ![t.val, 0] ∧ win0_4.index t = ![t.val, 0] ∧ t.val < 4 :=
  (by decide +kernel : ∀ t : Fin grid0.N, _)

variable (t : Fin cfg0.N)

theorem bound : t.val < 4 := (idx t).2.2.2.2.2

/-- The array's row of a block's row. -/
def row (t : Fin cfg0.N) (a : Fin 1024) : Fin 4096 := ⟨t.val * 1024 + a.val, by have := bound t; omega⟩
/-- The array's column of a block's column. -/
def col (t : Fin cfg0.N) (b : Fin 512) : Fin 512 := ⟨0 * 512 + b.val, by omega⟩

/-- The point's block of an operand. -/
abbrev hB : FVec Ideal S1024x2048 .bf16 := iblk m c 0 t

theorem hB_at (a : Fin 1024) (k : Fin 2048) : hB m c t (ix2 a k) = aH m c (ix2 (row t a) k) := by
  have key : ∀ Z : FVec Ideal S4096x2048 .bf16, ((cfg0.win 0).blk t).view.read (Elt Ideal) Z (ix2 a k) = Z (ix2 ⟨t.val * 1024 + a.val, by have := bound t; omega⟩ k) := by
    intro Z
    blk_ext [idx t]
  refine (key (V m c main_arg0)).trans ?_
  rw [V_main_arg0]
  rfl

/-- The point's block of an operand. -/
abbrev wB : FVec Ideal S2048x512 .bf16 := iblk m c 1 t

theorem wB_at (k : Fin 2048) (b : Fin 512) : wB m c t (ix2 k b) = aW m c (ix2 k (col t b)) := by
  have key : ∀ Z : FVec Ideal S2048x512 .bf16, ((cfg0.win 1).blk t).view.read (Elt Ideal) Z (ix2 k b) = Z (ix2 k ⟨0 * 512 + b.val, by omega⟩) := by
    intro Z
    blk_ext [idx t]
  refine (key (V m c main_arg1)).trans ?_
  rw [V_main_arg1]
  rfl

/-- A row of the product of the operands. -/
def dot0 (X : FVec Ideal S4096x2048 .bf16) (Y : FVec Ideal S2048x512 .bf16) (a : Fin 4096) (b : Fin 512) : EReal :=
  ∑ k : Fin 2048, X (ix2 a k) * Y (ix2 k b)

theorem dot0_at (a : Fin 1024) (b : Fin 512) :
    (∑ k : Fin 2048, hB m c t (ix2 a k) * wB m c t (ix2 k b)) = dot0 (aH m c) (aW m c) (row t a) (col t b) := by
  unfold dot0
  exact Finset.sum_congr rfl fun k _ => congrArg₂ (· * ·) (hB_at m c t a k) (wB_at m c t k b)

/-- The point's block of an operand. -/
abbrev gB : FVec Ideal S1x512 .f32 := iblk m c 2 t

theorem gB_at (b : Fin 512) : gB m c t (ix2 0 b) = aG m c (ix2 0 (col t b)) := by
  have key : ∀ Z : FVec Ideal S1x512 .f32, ((cfg0.win 2).blk t).view.read (Elt Ideal) Z (ix2 0 b) = Z (ix2 0 ⟨0 * 512 + b.val, by omega⟩) := by
    intro Z
    blk_ext [idx t]
  refine (key (V m c main_arg2)).trans ?_
  rw [V_main_arg2]
  rfl

theorem share : Ideal.ofBits .f32 0x3B000000#32 = ((1 / 512 : ℝ) : EReal) := by
  simp [Ideal.ofBits, Ideal.ieee, -EReal.coe_mul]; norm_num
theorem width : Ideal.ofBits .f32 0x44000000#32 = ((512 : ℝ) : EReal) := by
  simp [Ideal.ofBits, Ideal.ieee, -EReal.coe_mul]; norm_num

/-- The mean over a row, by division and by multiplication. -/
theorem mean (s : EReal) : Ideal.div s (Ideal.ofBits .f32 0x44000000#32) = s * Ideal.ofBits .f32 0x3B000000#32 := by
  rw [width, share, Ideal.div_coe (by norm_num)]

/-- A row's entry, normalized. -/
def nrm (f : Fin 512 → EReal) (g : EReal) (b : Fin 512) : EReal :=
  f b * Ideal.rsqrt ((∑ k : Fin 512, f k * f k) * Ideal.ofBits .f32 0x3B000000#32 + Ideal.ofBits .f32 0x358637BD#32) * g

theorem pay1_at (x0 : FVec Ideal S1024x2048 .bf16) (x1 : FVec Ideal S2048x512 .bf16) (a : Fin 1024) (b : Fin 512) :
    k0_pay1 (F := Ideal) x0 x1 (ix2 a b) = (∑ k : Fin 2048, x0 (ix2 a k) * x1 (ix2 k b)) := by
  pointwise [k0_pay1]

theorem pay2_at (x0 : FVec Ideal S1024x2048 .bf16) (x1 : FVec Ideal S2048x512 .bf16) (x2 : FVec Ideal S1x512 .f32) (a : Fin 1024) (b : Fin 512) :
    k0_pay2 (F := Ideal) x0 x1 x2 (ix2 a b) = nrm (fun b => ∑ k : Fin 2048, x0 (ix2 a k) * x1 (ix2 k b)) (x2 (ix2 0 b)) b := by
  pointwise [k0_pay2, nrm, pay1_at]

theorem out3_at (x0 : FVec Ideal S1024x2048 .bf16) (x1 : FVec Ideal S2048x512 .bf16) (x2 : FVec Ideal S1x512 .f32) (a : Fin 1024) (b : Fin 512) :
    out0_3 (F := Ideal) x0 x1 x2 (ix2 a b) = (∑ k : Fin 2048, x0 (ix2 a k) * x1 (ix2 k b)) := by
  frame_out
  pointwise [k0_pay1]

theorem out4_at (x0 : FVec Ideal S1024x2048 .bf16) (x1 : FVec Ideal S2048x512 .bf16) (x2 : FVec Ideal S1x512 .f32) (a : Fin 1024) (b : Fin 512) :
    out0_4 (F := Ideal) x0 x1 x2 (ix2 a b) = nrm (fun b => ∑ k : Fin 2048, x0 (ix2 a k) * x1 (ix2 k b)) (x2 (ix2 0 b)) b := by
  refine Eq.trans ?_ (pay2_at x0 x1 x2 a b)
  frame_out

section reference
variable (X0 : FVec Ideal S4096x2048 .bf16) (X1 : FVec Ideal S2048x512 .bf16) (X2 : FVec Ideal S1x512 .f32)

open Cert.ProjQRefIdeal.Read

theorem ref3_at (a : Fin 4096) (b : Fin 512) : val_main_v2 (F := Ideal) X0 X1 (ix2 a b) = dot0 X0 X1 a b := by
  pointwise [val_main_v2, val_main_v1, val_main_v0, dot0]

theorem ref4_at (a : Fin 4096) (b : Fin 512) :
    val_main_v15 (F := Ideal) X0 X1 X2 (ix2 a b) = nrm (dot0 X0 X1 a) (X2 (ix2 0 b)) b := by
  unfold nrm
  rw [← mean]
  pointwise [val_main_v15, val_main_v14, val_main_v13, val_main_v12, val_main_v11, val_main_v10, val_main_v9, val_main_v8, val_main_cst_1, val_main_v7, val_main_v6, val_main_cst_0, val_main_v5, val_main_v4, val_main_cst, val_main_v3, ref3_at]
end reference

/-- The product after the run is the reference's. -/
theorem arr3 : (dats m 0 c).arrAt 3 cfg0.N = Cert.ProjQRefIdeal.Read.val_main_v2 (F := Ideal) (aH m c) (aW m c) :=
  (dats m 0 c).arrAt_eq_of_covers 3 _ (by decide +kernel) fun t hf y => by
    blk_simp
    rw [after0_3]
    have ht := bound t
    obtain ⟨a, b, rfl⟩ : ∃ (a : Fin 1024) (b : Fin 512), y = ix2 a b := ⟨y 0, y 1, by funext k; fin_cases k <;> rfl⟩
    have e : (win0_3.blk t).view.emb (ix2 a b) = ix2 (row t a) (col t b) := by
      simp only [row, col]
      blk_ext [idx t]
    rw [e, ref3_at]
    refine (out3_at (hB m c t) (wB m c t) (gB m c t) a b).trans ?_
    rw [dot0_at m c t a b]

/-- The normalized product after the run is the reference's. -/
theorem arr4 : (dats m 0 c).arrAt 4 cfg0.N = Cert.ProjQRefIdeal.Read.val_main_v15 (F := Ideal) (aH m c) (aW m c) (aG m c) :=
  (dats m 0 c).arrAt_eq_of_covers 4 _ (by decide +kernel) fun t hf y => by
    blk_simp
    rw [after0_4]
    have ht := bound t
    obtain ⟨a, b, rfl⟩ : ∃ (a : Fin 1024) (b : Fin 512), y = ix2 a b := ⟨y 0, y 1, by funext k; fin_cases k <;> rfl⟩
    have e : (win0_4.blk t).view.emb (ix2 a b) = ix2 (row t a) (col t b) := by
      simp only [row, col]
      blk_ext [idx t]
    have ec : ∀ b : Fin 512, col t b = b := fun b => Fin.ext (by simp only [col]; omega)
    rw [e, ref4_at]
    refine (out4_at (hB m c t) (wB m c t) (gB m c t) a b).trans ?_
    simp only [dot0_at m c t a, gB_at m c t, ec]

end Cert.ProjQIdeal.Value
-- ==== Proof.ProjKvVal.lean ====
/- The keys' and values' columns of the combined projection: the call's array is the reference's. -/
module

public import proofs.«01_k».proof.Proof.Gen.ProjKvIdeal.Value
public import proofs.«01_k».proof.Proof.Gen.ProjKvRefIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjKvIdeal.Value

open Cert.ProjKvIdeal Cert.ProjKvIdeal.Gen

variable (m : (ℓ : Loc nD τ sig) → Buf (Elt Ideal) ℓ) (c : Dev nD)

/-- The inputs, as launched. -/
abbrev aH : FVec Ideal S4096x2048 .bf16 := m ((c : Thread nD τ).loc main_arg0)
/-- The weights, as launched. -/
abbrev aW : FVec Ideal S2048x384 .bf16 := m ((c : Thread nD τ).loc main_arg1)

theorem idx : ∀ t : Fin cfg0.N, win0_0.index t = ![t.val, 0]
    ∧ win0_1.index t = ![0, 0]
    ∧ win0_2.index t = ![t.val, 0] ∧ t.val < 4 :=
  (by decide +kernel : ∀ t : Fin grid0.N, _)

variable (t : Fin cfg0.N)

theorem bound : t.val < 4 := (idx t).2.2.2

/-- The array's row of a block's row. -/
def row (t : Fin cfg0.N) (a : Fin 1024) : Fin 4096 := ⟨t.val * 1024 + a.val, by have := bound t; omega⟩
/-- The array's column of a block's column. -/
def col (t : Fin cfg0.N) (b : Fin 384) : Fin 384 := ⟨0 * 384 + b.val, by omega⟩

/-- The point's block of an operand. -/
abbrev hB : FVec Ideal S1024x2048 .bf16 := iblk m c 0 t

theorem hB_at (a : Fin 1024) (k : Fin 2048) : hB m c t (ix2 a k) = aH m c (ix2 (row t a) k) := by
  have key : ∀ Z : FVec Ideal S4096x2048 .bf16, ((cfg0.win 0).blk t).view.read (Elt Ideal) Z (ix2 a k) = Z (ix2 ⟨t.val * 1024 + a.val, by have := bound t; omega⟩ k) := by
    intro Z
    blk_ext [idx t]
  refine (key (V m c main_arg0)).trans ?_
  rw [V_main_arg0]
  rfl

/-- The point's block of an operand. -/
abbrev wB : FVec Ideal S2048x384 .bf16 := iblk m c 1 t

theorem wB_at (k : Fin 2048) (b : Fin 384) : wB m c t (ix2 k b) = aW m c (ix2 k (col t b)) := by
  have key : ∀ Z : FVec Ideal S2048x384 .bf16, ((cfg0.win 1).blk t).view.read (Elt Ideal) Z (ix2 k b) = Z (ix2 k ⟨0 * 384 + b.val, by omega⟩) := by
    intro Z
    blk_ext [idx t]
  refine (key (V m c main_arg1)).trans ?_
  rw [V_main_arg1]
  rfl

/-- A row of the product of the operands. -/
def dot0 (X : FVec Ideal S4096x2048 .bf16) (Y : FVec Ideal S2048x384 .bf16) (a : Fin 4096) (b : Fin 384) : EReal :=
  ∑ k : Fin 2048, X (ix2 a k) * Y (ix2 k b)

theorem dot0_at (a : Fin 1024) (b : Fin 384) :
    (∑ k : Fin 2048, hB m c t (ix2 a k) * wB m c t (ix2 k b)) = dot0 (aH m c) (aW m c) (row t a) (col t b) := by
  unfold dot0
  exact Finset.sum_congr rfl fun k _ => congrArg₂ (· * ·) (hB_at m c t a k) (wB_at m c t k b)

theorem out2_at (x0 : FVec Ideal S1024x2048 .bf16) (x1 : FVec Ideal S2048x384 .bf16) (a : Fin 1024) (b : Fin 384) :
    out0_2 (F := Ideal) x0 x1 (ix2 a b) = (∑ k : Fin 2048, x0 (ix2 a k) * x1 (ix2 k b)) := by
  frame_out
  pointwise [k0_pay1]

theorem ref2_at (X0 : FVec Ideal S4096x2048 .bf16) (X1 : FVec Ideal S2048x384 .bf16) (a : Fin 4096) (b : Fin 384) :
    Cert.ProjKvRefIdeal.Read.val_main_v2 (F := Ideal) X0 X1 (ix2 a b) = dot0 X0 X1 a b := by
  open Cert.ProjKvRefIdeal.Read in
  pointwise [val_main_v2, val_main_v1, val_main_v0, dot0]

/-- The array after the run is the reference's. -/
theorem arr2 : (dats m 0 c).arrAt 2 cfg0.N = Cert.ProjKvRefIdeal.Read.val_main_v2 (F := Ideal) (aH m c) (aW m c) :=
  (dats m 0 c).arrAt_eq_of_covers 2 _ (by decide +kernel) fun t hf y => by
    blk_simp
    rw [after0_2]
    have ht := bound t
    obtain ⟨a, b, rfl⟩ : ∃ (a : Fin 1024) (b : Fin 384), y = ix2 a b := ⟨y 0, y 1, by funext k; fin_cases k <;> rfl⟩
    have e : (win0_2.blk t).view.emb (ix2 a b) = ix2 (row t a) (col t b) := by
      simp only [row, col]
      blk_ext [idx t]
    rw [e, ref2_at]
    refine (out2_at (hB m c t) (wB m c t) a b).trans ?_
    rw [dot0_at m c t a b]

end Cert.ProjKvIdeal.Value
-- ==== Proof.QUpVal.lean ====
/- The queries' second projection: the call's array is the reference's. -/
module

public import proofs.«01_k».proof.Proof.Gen.QUpIdeal.Value
public import proofs.«01_k».proof.Proof.Gen.QUpRefIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.QUpIdeal.Value

open Cert.QUpIdeal Cert.QUpIdeal.Gen

variable (m : (ℓ : Loc nD τ sig) → Buf (Elt Ideal) ℓ) (c : Dev nD)

/-- The normalised queries, as launched. -/
abbrev aQ : FVec Ideal S4096x512 .bf16 := m ((c : Thread nD τ).loc main_arg0)
/-- The weights, as launched. -/
abbrev aW : FVec Ideal S512x2048 .bf16 := m ((c : Thread nD τ).loc main_arg1)

theorem idx : ∀ t : Fin cfg0.N, win0_0.index t = ![t.val / 2, 0]
    ∧ win0_1.index t = ![0, t.val % 2]
    ∧ win0_2.index t = ![t.val / 2, t.val % 2] ∧ t.val / 2 < 4 :=
  (by decide +kernel : ∀ t : Fin grid0.N, _)

variable (t : Fin cfg0.N)

theorem bound : t.val / 2 < 4 := (idx t).2.2.2

/-- The array's row of a block's row. -/
def row (t : Fin cfg0.N) (a : Fin 1024) : Fin 4096 := ⟨t.val / 2 * 1024 + a.val, by have := bound t; omega⟩
/-- The array's column of a block's column. -/
def col (t : Fin cfg0.N) (b : Fin 1024) : Fin 2048 := ⟨t.val % 2 * 1024 + b.val, by omega⟩

/-- The point's block of an operand. -/
abbrev qB : FVec Ideal S1024x512 .bf16 := iblk m c 0 t

theorem qB_at (a : Fin 1024) (k : Fin 512) : qB m c t (ix2 a k) = aQ m c (ix2 (row t a) k) := by
  have key : ∀ Z : FVec Ideal S4096x512 .bf16, ((cfg0.win 0).blk t).view.read (Elt Ideal) Z (ix2 a k) = Z (ix2 ⟨t.val / 2 * 1024 + a.val, by have := bound t; omega⟩ k) := by
    intro Z
    blk_ext [idx t]
  refine (key (V m c main_arg0)).trans ?_
  rw [V_main_arg0]
  rfl

/-- The point's block of an operand. -/
abbrev wB : FVec Ideal S512x1024 .bf16 := iblk m c 1 t

theorem wB_at (k : Fin 512) (b : Fin 1024) : wB m c t (ix2 k b) = aW m c (ix2 k (col t b)) := by
  have key : ∀ Z : FVec Ideal S512x2048 .bf16, ((cfg0.win 1).blk t).view.read (Elt Ideal) Z (ix2 k b) = Z (ix2 k ⟨t.val % 2 * 1024 + b.val, by omega⟩) := by
    intro Z
    blk_ext [idx t]
  refine (key (V m c main_arg1)).trans ?_
  rw [V_main_arg1]
  rfl

/-- A row of the product of the operands. -/
def dot0 (X : FVec Ideal S4096x512 .bf16) (Y : FVec Ideal S512x2048 .bf16) (a : Fin 4096) (b : Fin 2048) : EReal :=
  ∑ k : Fin 512, X (ix2 a k) * Y (ix2 k b)

theorem dot0_at (a : Fin 1024) (b : Fin 1024) :
    (∑ k : Fin 512, qB m c t (ix2 a k) * wB m c t (ix2 k b)) = dot0 (aQ m c) (aW m c) (row t a) (col t b) := by
  unfold dot0
  exact Finset.sum_congr rfl fun k _ => congrArg₂ (· * ·) (qB_at m c t a k) (wB_at m c t k b)

theorem out2_at (x0 : FVec Ideal S1024x512 .bf16) (x1 : FVec Ideal S512x1024 .bf16) (a : Fin 1024) (b : Fin 1024) :
    out0_2 (F := Ideal) x0 x1 (ix2 a b) = (∑ k : Fin 512, x0 (ix2 a k) * x1 (ix2 k b)) := by
  frame_out
  pointwise [k0_pay1]

theorem ref2_at (X0 : FVec Ideal S4096x512 .bf16) (X1 : FVec Ideal S512x2048 .bf16) (a : Fin 4096) (b : Fin 2048) :
    Cert.QUpRefIdeal.Read.val_main_v2 (F := Ideal) X0 X1 (ix2 a b) = dot0 X0 X1 a b := by
  open Cert.QUpRefIdeal.Read in
  pointwise [val_main_v2, val_main_v1, val_main_v0, dot0]

/-- The array after the run is the reference's. -/
theorem arr2 : (dats m 0 c).arrAt 2 cfg0.N = Cert.QUpRefIdeal.Read.val_main_v2 (F := Ideal) (aQ m c) (aW m c) :=
  (dats m 0 c).arrAt_eq_of_covers 2 _ (by decide +kernel) fun t hf y => by
    blk_simp
    rw [after0_2]
    have ht := bound t
    obtain ⟨a, b, rfl⟩ : ∃ (a : Fin 1024) (b : Fin 1024), y = ix2 a b := ⟨y 0, y 1, by funext k; fin_cases k <;> rfl⟩
    have e : (win0_2.blk t).view.emb (ix2 a b) = ix2 (row t a) (col t b) := by
      simp only [row, col]
      blk_ext [idx t]
    rw [e, ref2_at]
    refine (out2_at (qB m c t) (wB m c t) a b).trans ?_
    rw [dot0_at m c t a b]

end Cert.QUpIdeal.Value
-- ==== Proof.KvUpVal.lean ====
/- The keys' and values' second projection: the call's array is the reference's. -/
module

public import proofs.«01_k».proof.Proof.Gen.KvUpIdeal.Value
public import proofs.«01_k».proof.Proof.Gen.KvUpRefIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KvUpIdeal.Value

open Cert.KvUpIdeal Cert.KvUpIdeal.Gen

variable (m : (ℓ : Loc nD τ sig) → Buf (Elt Ideal) ℓ) (c : Dev nD)

/-- The normalised keys and values, as launched. -/
abbrev aQ : FVec Ideal S4352x256 .bf16 := m ((c : Thread nD τ).loc main_arg0)
/-- The weights, as launched. -/
abbrev aW : FVec Ideal S256x2048 .bf16 := m ((c : Thread nD τ).loc main_arg1)

theorem idx : ∀ t : Fin cfg0.N, win0_0.index t = ![t.val / 2, 0]
    ∧ win0_1.index t = ![0, t.val % 2]
    ∧ win0_2.index t = ![t.val / 2, t.val % 2] ∧ t.val / 2 < 2 :=
  (by decide +kernel : ∀ t : Fin grid0.N, _)

variable (t : Fin cfg0.N)

theorem bound : t.val / 2 < 2 := (idx t).2.2.2

/-- The array's row of a block's row. -/
def row (t : Fin cfg0.N) (a : Fin 2176) : Fin 4352 := ⟨t.val / 2 * 2176 + a.val, by have := bound t; omega⟩
/-- The array's column of a block's column. -/
def col (t : Fin cfg0.N) (b : Fin 1024) : Fin 2048 := ⟨t.val % 2 * 1024 + b.val, by omega⟩

/-- The point's block of an operand. -/
abbrev qB : FVec Ideal S2176x256 .bf16 := iblk m c 0 t

theorem qB_at (a : Fin 2176) (k : Fin 256) : qB m c t (ix2 a k) = aQ m c (ix2 (row t a) k) := by
  have key : ∀ Z : FVec Ideal S4352x256 .bf16, ((cfg0.win 0).blk t).view.read (Elt Ideal) Z (ix2 a k) = Z (ix2 ⟨t.val / 2 * 2176 + a.val, by have := bound t; omega⟩ k) := by
    intro Z
    blk_ext [idx t]
  refine (key (V m c main_arg0)).trans ?_
  rw [V_main_arg0]
  rfl

/-- The point's block of an operand. -/
abbrev wB : FVec Ideal S256x1024 .bf16 := iblk m c 1 t

theorem wB_at (k : Fin 256) (b : Fin 1024) : wB m c t (ix2 k b) = aW m c (ix2 k (col t b)) := by
  have key : ∀ Z : FVec Ideal S256x2048 .bf16, ((cfg0.win 1).blk t).view.read (Elt Ideal) Z (ix2 k b) = Z (ix2 k ⟨t.val % 2 * 1024 + b.val, by omega⟩) := by
    intro Z
    blk_ext [idx t]
  refine (key (V m c main_arg1)).trans ?_
  rw [V_main_arg1]
  rfl

/-- A row of the product of the operands. -/
def dot0 (X : FVec Ideal S4352x256 .bf16) (Y : FVec Ideal S256x2048 .bf16) (a : Fin 4352) (b : Fin 2048) : EReal :=
  ∑ k : Fin 256, X (ix2 a k) * Y (ix2 k b)

theorem dot0_at (a : Fin 2176) (b : Fin 1024) :
    (∑ k : Fin 256, qB m c t (ix2 a k) * wB m c t (ix2 k b)) = dot0 (aQ m c) (aW m c) (row t a) (col t b) := by
  unfold dot0
  exact Finset.sum_congr rfl fun k _ => congrArg₂ (· * ·) (qB_at m c t a k) (wB_at m c t k b)

theorem out2_at (x0 : FVec Ideal S2176x256 .bf16) (x1 : FVec Ideal S256x1024 .bf16) (a : Fin 2176) (b : Fin 1024) :
    out0_2 (F := Ideal) x0 x1 (ix2 a b) = (∑ k : Fin 256, x0 (ix2 a k) * x1 (ix2 k b)) := by
  frame_out
  pointwise [k0_pay1]

theorem ref2_at (X0 : FVec Ideal S4352x256 .bf16) (X1 : FVec Ideal S256x2048 .bf16) (a : Fin 4352) (b : Fin 2048) :
    Cert.KvUpRefIdeal.Read.val_main_v2 (F := Ideal) X0 X1 (ix2 a b) = dot0 X0 X1 a b := by
  open Cert.KvUpRefIdeal.Read in
  pointwise [val_main_v2, val_main_v1, val_main_v0, dot0]

/-- The array after the run is the reference's. -/
theorem arr2 : (dats m 0 c).arrAt 2 cfg0.N = Cert.KvUpRefIdeal.Read.val_main_v2 (F := Ideal) (aQ m c) (aW m c) :=
  (dats m 0 c).arrAt_eq_of_covers 2 _ (by decide +kernel) fun t hf y => by
    blk_simp
    rw [after0_2]
    have ht := bound t
    obtain ⟨a, b, rfl⟩ : ∃ (a : Fin 2176) (b : Fin 1024), y = ix2 a b := ⟨y 0, y 1, by funext k; fin_cases k <;> rfl⟩
    have e : (win0_2.blk t).view.emb (ix2 a b) = ix2 (row t a) (col t b) := by
      simp only [row, col]
      blk_ext [idx t]
    rw [e, ref2_at]
    refine (out2_at (qB m c t) (wB m c t) a b).trans ?_
    rw [dot0_at m c t a b]

end Cert.KvUpIdeal.Value
-- ==== Proof.ProjQDwVal.lean ====
/- The gradient of the queries' columns of the combined projection: the call's array is the reference's. -/
module

public import proofs.«01_k».proof.Proof.Gen.ProjQDwIdeal.Value
public import proofs.«01_k».proof.Proof.Gen.ProjQDwRefIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjQDwIdeal.Value

open Cert.ProjQDwIdeal Cert.ProjQDwIdeal.Gen

variable (m : (ℓ : Loc nD τ sig) → Buf (Elt Ideal) ℓ) (c : Dev nD)

/-- The inputs, as launched. -/
abbrev aH : FVec Ideal S4096x2048 .bf16 := m ((c : Thread nD τ).loc main_arg0)
/-- The cotangent, as launched. -/
abbrev aD : FVec Ideal S4096x512 .bf16 := m ((c : Thread nD τ).loc main_arg1)

theorem idx : ∀ t : Fin cfg0.N, win0_0.index t = ![t.val % 2, t.val / 2]
    ∧ win0_1.index t = ![t.val % 2, 0]
    ∧ win0_2.index t = ![t.val / 2, 0] ∧ t.val / 2 < 2 :=
  (by decide +kernel : ∀ t : Fin grid0.N, _)

variable (t : Fin cfg0.N)

theorem bound : t.val / 2 < 2 := (idx t).2.2.2

/-- The token of a block's token. -/
def tok (t : Fin cfg0.N) (k : Fin 2048) : Fin 4096 := ⟨t.val % 2 * 2048 + k.val, by omega⟩
/-- The array's row of a block's row. -/
def row (t : Fin cfg0.N) (a : Fin 1024) : Fin 2048 := ⟨t.val / 2 * 1024 + a.val, by have := bound t; omega⟩
/-- The array's column of a block's column. -/
def col (t : Fin cfg0.N) (b : Fin 512) : Fin 512 := ⟨0 * 512 + b.val, by have := bound t; omega⟩

/-- The point's block of an operand. -/
abbrev bH : FVec Ideal S2048x1024 .bf16 := iblk m c 0 t

theorem bH_at (k : Fin 2048) (a : Fin 1024) : bH m c t (ix2 k a) = aH m c (ix2 (tok t k) (row t a)) := by
  have key : ∀ Z : FVec Ideal S4096x2048 .bf16, ((cfg0.win 0).blk t).view.read (Elt Ideal) Z (ix2 k a)
      = Z (ix2 ⟨t.val % 2 * 2048 + k.val, by omega⟩ ⟨t.val / 2 * 1024 + a.val, by have := bound t; omega⟩) := by
    intro Z
    blk_ext [idx t]
  refine (key (V m c main_arg0)).trans ?_
  rw [V_main_arg0]
  rfl

/-- The point's block of an operand. -/
abbrev bD : FVec Ideal S2048x512 .bf16 := iblk m c 1 t

theorem bD_at (k : Fin 2048) (b : Fin 512) : bD m c t (ix2 k b) = aD m c (ix2 (tok t k) (col t b)) := by
  have key : ∀ Z : FVec Ideal S4096x512 .bf16, ((cfg0.win 1).blk t).view.read (Elt Ideal) Z (ix2 k b)
      = Z (ix2 ⟨t.val % 2 * 2048 + k.val, by omega⟩ ⟨0 * 512 + b.val, by have := bound t; omega⟩) := by
    intro Z
    blk_ext [idx t]
  refine (key (V m c main_arg1)).trans ?_
  rw [V_main_arg1]
  rfl

/-- The accumulator after a block's first point: the products of the first half of the tokens. -/
theorem first2 (h : t.val % 2 = 0) (a : Fin 1024) (b : Fin 512) : (outsAt0 m c t.val t.isLt).2 (ix2 a b)
    = ∑ k : Fin 2048, bH m c t (ix2 k a) * bD m c t (ix2 k b) := by
  rw [outsAt0_A m c t h (by omega) (by omega)]; frame_out
  pointwise [k0_pay1, k0_pay2, k0_pay3]

/-- The block after its last point: the accumulator and the products of the second half of the tokens. -/
theorem last2 (h : t.val % 2 = 1) (a : Fin 1024) (b : Fin 512) : (outsAt0 m c t.val t.isLt).1 (ix2 a b)
    = (show EReal from (outsAt0 m c (t.val - 1) (Nat.lt_of_le_of_lt (Nat.sub_le _ _) t.isLt)).2 (ix2 a b))
      + ∑ k : Fin 2048, bH m c t (ix2 k a) * bD m c t (ix2 k b) := by
  rw [outsAt0_B m c t (by omega) h h]; frame_out
  pointwise [k0_pay1, k0_pay2, k0_pay3]
  exact congrArg (· + _) (congrFun (read_unread_whole _ _ _) _)

/-- What a block holds after its last point. -/
theorem block2 (ho : t.val % 2 = 1) (a : Fin 1024) (b : Fin 512) : (outsAt0 m c t.val t.isLt).1 (ix2 a b)
    = ∑ k : Fin 4096, aD m c (ix2 k (col t b)) * aH m c (ix2 k (row t a)) := by
  refine (last2 m c t ho a b).trans ?_
  have hp : t.val - 1 < cfg0.N := Nat.lt_of_le_of_lt (Nat.sub_le _ _) t.isLt
  have ef := first2 m c ⟨t.val - 1, hp⟩ (by show (t.val - 1) % 2 = 0; omega) a b
  refine (congrArg (· + _) ef).trans ?_
  have er : row ⟨t.val - 1, hp⟩ a = row t a := by apply Fin.ext; simp only [row] <;> omega
  have ec : col ⟨t.val - 1, hp⟩ b = col t b := by apply Fin.ext; simp only [col] <;> omega
  rw [Fin.sum_univ_two_halves 2048 2048 rfl]
  refine congrArg₂ (· + ·) (Finset.sum_congr rfl fun k _ => ?_) (Finset.sum_congr rfl fun k _ => ?_)
  · rw [bH_at, bD_at, mul_comm, er, ec]
    have ek : tok ⟨t.val - 1, hp⟩ k = ⟨k.val, by omega⟩ := by apply Fin.ext; simp only [tok]; omega
    rw [ek]
  · rw [bH_at, bD_at, mul_comm]
    have ek : tok t k = ⟨2048 + k.val, by omega⟩ := by apply Fin.ext; simp only [tok]; omega
    rw [ek]

/-- The reference's gradient at an index. -/
theorem ref2_at (X0 : FVec Ideal S4096x2048 .bf16) (X1 : FVec Ideal S4096x512 .bf16) (a : Fin 2048) (b : Fin 512) :
    Cert.ProjQDwRefIdeal.Read.val_main_v6 (F := Ideal) X0 X1 (ix2 a b) = ∑ k : Fin 4096, X1 (ix2 k b) * X0 (ix2 k a) := by
  open Cert.ProjQDwRefIdeal.Read in
  pointwise [val_main_v6, val_main_v5, val_main_v4, val_main_v3, val_main_v2, val_main_v1, val_main_v0, val_main_cst]

/-- The array after the run is the reference's. -/
theorem arr2 : (dats m 0 c).arrAt 2 cfg0.N = Cert.ProjQDwRefIdeal.Read.val_main_v6 (F := Ideal) (aH m c) (aD m c) :=
  (dats m 0 c).arrAt_eq_of_covers 2 _ (by decide +kernel) fun t hf y => by
    blk_simp
    rw [after0_2]
    have ht := bound t
    have ho : t.val % 2 = 1 := (flush0_2 t).mp hf
    obtain ⟨a, b, rfl⟩ : ∃ (a : Fin 1024) (b : Fin 512), y = ix2 a b := ⟨y 0, y 1, by funext k; fin_cases k <;> rfl⟩
    have e : (win0_2.blk t).view.emb (ix2 a b) = ix2 (row t a) (col t b) := by
      simp only [row, col]
      blk_ext [idx t]
    rw [e, ref2_at]
    exact block2 m c t ho a b

end Cert.ProjQDwIdeal.Value
-- ==== Proof.QUpDwVal.lean ====
/- The gradient of the queries' second weights: the call's array is the reference's. -/
module

public import proofs.«01_k».proof.Proof.Gen.QUpDwIdeal.Value
public import proofs.«01_k».proof.Proof.Gen.QUpDwRefIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.QUpDwIdeal.Value

open Cert.QUpDwIdeal Cert.QUpDwIdeal.Gen

variable (m : (ℓ : Loc nD τ sig) → Buf (Elt Ideal) ℓ) (c : Dev nD)

/-- The normalised queries, as launched. -/
abbrev aH : FVec Ideal S4096x512 .bf16 := m ((c : Thread nD τ).loc main_arg0)
/-- The cotangent, as launched. -/
abbrev aD : FVec Ideal S4096x2048 .bf16 := m ((c : Thread nD τ).loc main_arg1)

theorem idx : ∀ t : Fin cfg0.N, win0_0.index t = ![t.val % 2, 0]
    ∧ win0_1.index t = ![t.val % 2, t.val / 2]
    ∧ win0_2.index t = ![0, t.val / 2] ∧ t.val / 4 < 1 :=
  (by decide +kernel : ∀ t : Fin grid0.N, _)

variable (t : Fin cfg0.N)

theorem bound : t.val / 4 < 1 := (idx t).2.2.2

/-- The token of a block's token. -/
def tok (t : Fin cfg0.N) (k : Fin 2048) : Fin 4096 := ⟨t.val % 2 * 2048 + k.val, by omega⟩
/-- The array's row of a block's row. -/
def row (t : Fin cfg0.N) (a : Fin 512) : Fin 512 := ⟨0 * 512 + a.val, by have := bound t; omega⟩
/-- The array's column of a block's column. -/
def col (t : Fin cfg0.N) (b : Fin 1024) : Fin 2048 := ⟨t.val / 2 * 1024 + b.val, by have := bound t; omega⟩

/-- The point's block of an operand. -/
abbrev bH : FVec Ideal S2048x512 .bf16 := iblk m c 0 t

theorem bH_at (k : Fin 2048) (a : Fin 512) : bH m c t (ix2 k a) = aH m c (ix2 (tok t k) (row t a)) := by
  have key : ∀ Z : FVec Ideal S4096x512 .bf16, ((cfg0.win 0).blk t).view.read (Elt Ideal) Z (ix2 k a)
      = Z (ix2 ⟨t.val % 2 * 2048 + k.val, by omega⟩ ⟨0 * 512 + a.val, by have := bound t; omega⟩) := by
    intro Z
    blk_ext [idx t]
  refine (key (V m c main_arg0)).trans ?_
  rw [V_main_arg0]
  rfl

/-- The point's block of an operand. -/
abbrev bD : FVec Ideal S2048x1024 .bf16 := iblk m c 1 t

theorem bD_at (k : Fin 2048) (b : Fin 1024) : bD m c t (ix2 k b) = aD m c (ix2 (tok t k) (col t b)) := by
  have key : ∀ Z : FVec Ideal S4096x2048 .bf16, ((cfg0.win 1).blk t).view.read (Elt Ideal) Z (ix2 k b)
      = Z (ix2 ⟨t.val % 2 * 2048 + k.val, by omega⟩ ⟨t.val / 2 * 1024 + b.val, by have := bound t; omega⟩) := by
    intro Z
    blk_ext [idx t]
  refine (key (V m c main_arg1)).trans ?_
  rw [V_main_arg1]
  rfl

/-- The accumulator after a block's first point: the products of the first half of the tokens. -/
theorem first2 (h : t.val % 2 = 0) (a : Fin 512) (b : Fin 1024) : (outsAt0 m c t.val t.isLt).2 (ix2 a b)
    = ∑ k : Fin 2048, bH m c t (ix2 k a) * bD m c t (ix2 k b) := by
  rw [outsAt0_A m c t h (by omega) (by omega)]; frame_out
  pointwise [k0_pay1, k0_pay2, k0_pay3]

/-- The block after its last point: the accumulator and the products of the second half of the tokens. -/
theorem last2 (h : t.val % 2 = 1) (a : Fin 512) (b : Fin 1024) : (outsAt0 m c t.val t.isLt).1 (ix2 a b)
    = (show EReal from (outsAt0 m c (t.val - 1) (Nat.lt_of_le_of_lt (Nat.sub_le _ _) t.isLt)).2 (ix2 a b))
      + ∑ k : Fin 2048, bH m c t (ix2 k a) * bD m c t (ix2 k b) := by
  rw [outsAt0_B m c t (by omega) h h]; frame_out
  pointwise [k0_pay1, k0_pay2, k0_pay3]
  exact congrArg (· + _) (congrFun (read_unread_whole _ _ _) _)

/-- What a block holds after its last point. -/
theorem block2 (ho : t.val % 2 = 1) (a : Fin 512) (b : Fin 1024) : (outsAt0 m c t.val t.isLt).1 (ix2 a b)
    = ∑ k : Fin 4096, aD m c (ix2 k (col t b)) * aH m c (ix2 k (row t a)) := by
  refine (last2 m c t ho a b).trans ?_
  have hp : t.val - 1 < cfg0.N := Nat.lt_of_le_of_lt (Nat.sub_le _ _) t.isLt
  have ef := first2 m c ⟨t.val - 1, hp⟩ (by show (t.val - 1) % 2 = 0; omega) a b
  refine (congrArg (· + _) ef).trans ?_
  have er : row ⟨t.val - 1, hp⟩ a = row t a := by apply Fin.ext; simp only [row] <;> omega
  have ec : col ⟨t.val - 1, hp⟩ b = col t b := by apply Fin.ext; simp only [col] <;> omega
  rw [Fin.sum_univ_two_halves 2048 2048 rfl]
  refine congrArg₂ (· + ·) (Finset.sum_congr rfl fun k _ => ?_) (Finset.sum_congr rfl fun k _ => ?_)
  · rw [bH_at, bD_at, mul_comm, er, ec]
    have ek : tok ⟨t.val - 1, hp⟩ k = ⟨k.val, by omega⟩ := by apply Fin.ext; simp only [tok]; omega
    rw [ek]
  · rw [bH_at, bD_at, mul_comm]
    have ek : tok t k = ⟨2048 + k.val, by omega⟩ := by apply Fin.ext; simp only [tok]; omega
    rw [ek]

/-- The reference's gradient at an index. -/
theorem ref2_at (X0 : FVec Ideal S4096x512 .bf16) (X1 : FVec Ideal S4096x2048 .bf16) (a : Fin 512) (b : Fin 2048) :
    Cert.QUpDwRefIdeal.Read.val_main_v6 (F := Ideal) X0 X1 (ix2 a b) = ∑ k : Fin 4096, X1 (ix2 k b) * X0 (ix2 k a) := by
  open Cert.QUpDwRefIdeal.Read in
  pointwise [val_main_v6, val_main_v5, val_main_v4, val_main_v3, val_main_v2, val_main_v1, val_main_v0, val_main_cst]

/-- The array after the run is the reference's. -/
theorem arr2 : (dats m 0 c).arrAt 2 cfg0.N = Cert.QUpDwRefIdeal.Read.val_main_v6 (F := Ideal) (aH m c) (aD m c) :=
  (dats m 0 c).arrAt_eq_of_covers 2 _ (by decide +kernel) fun t hf y => by
    blk_simp
    rw [after0_2]
    have ht := bound t
    have ho : t.val % 2 = 1 := (flush0_2 t).mp hf
    obtain ⟨a, b, rfl⟩ : ∃ (a : Fin 512) (b : Fin 1024), y = ix2 a b := ⟨y 0, y 1, by funext k; fin_cases k <;> rfl⟩
    have e : (win0_2.blk t).view.emb (ix2 a b) = ix2 (row t a) (col t b) := by
      simp only [row, col]
      blk_ext [idx t]
    rw [e, ref2_at]
    exact block2 m c t ho a b

end Cert.QUpDwIdeal.Value
-- ==== Proof.KvUpDwVal.lean ====
/- The gradient of the keys' and values' second weights: the call's array is the reference's. -/
module

public import proofs.«01_k».proof.Proof.Gen.KvUpDwIdeal.Value
public import proofs.«01_k».proof.Proof.Gen.KvUpDwRefIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KvUpDwIdeal.Value

open Cert.KvUpDwIdeal Cert.KvUpDwIdeal.Gen

variable (m : (ℓ : Loc nD τ sig) → Buf (Elt Ideal) ℓ) (c : Dev nD)

/-- The normalised keys and values, as launched. -/
abbrev aH : FVec Ideal S4352x256 .bf16 := m ((c : Thread nD τ).loc main_arg0)
/-- The cotangent, as launched. -/
abbrev aD : FVec Ideal S4352x2048 .bf16 := m ((c : Thread nD τ).loc main_arg1)

theorem idx : ∀ t : Fin cfg0.N, win0_0.index t = ![t.val % 2, 0]
    ∧ win0_1.index t = ![t.val % 2, t.val / 2]
    ∧ win0_2.index t = ![0, t.val / 2] ∧ t.val / 4 < 1 :=
  (by decide +kernel : ∀ t : Fin grid0.N, _)

variable (t : Fin cfg0.N)

theorem bound : t.val / 4 < 1 := (idx t).2.2.2

/-- The token of a block's token. -/
def tok (t : Fin cfg0.N) (k : Fin 2176) : Fin 4352 := ⟨t.val % 2 * 2176 + k.val, by omega⟩
/-- The array's row of a block's row. -/
def row (t : Fin cfg0.N) (a : Fin 256) : Fin 256 := ⟨0 * 256 + a.val, by have := bound t; omega⟩
/-- The array's column of a block's column. -/
def col (t : Fin cfg0.N) (b : Fin 1024) : Fin 2048 := ⟨t.val / 2 * 1024 + b.val, by have := bound t; omega⟩

/-- The point's block of an operand. -/
abbrev bH : FVec Ideal S2176x256 .bf16 := iblk m c 0 t

theorem bH_at (k : Fin 2176) (a : Fin 256) : bH m c t (ix2 k a) = aH m c (ix2 (tok t k) (row t a)) := by
  have key : ∀ Z : FVec Ideal S4352x256 .bf16, ((cfg0.win 0).blk t).view.read (Elt Ideal) Z (ix2 k a)
      = Z (ix2 ⟨t.val % 2 * 2176 + k.val, by omega⟩ ⟨0 * 256 + a.val, by have := bound t; omega⟩) := by
    intro Z
    blk_ext [idx t]
  refine (key (V m c main_arg0)).trans ?_
  rw [V_main_arg0]
  rfl

/-- The point's block of an operand. -/
abbrev bD : FVec Ideal S2176x1024 .bf16 := iblk m c 1 t

theorem bD_at (k : Fin 2176) (b : Fin 1024) : bD m c t (ix2 k b) = aD m c (ix2 (tok t k) (col t b)) := by
  have key : ∀ Z : FVec Ideal S4352x2048 .bf16, ((cfg0.win 1).blk t).view.read (Elt Ideal) Z (ix2 k b)
      = Z (ix2 ⟨t.val % 2 * 2176 + k.val, by omega⟩ ⟨t.val / 2 * 1024 + b.val, by have := bound t; omega⟩) := by
    intro Z
    blk_ext [idx t]
  refine (key (V m c main_arg1)).trans ?_
  rw [V_main_arg1]
  rfl

/-- The accumulator after a block's first point: the products of the first half of the tokens. -/
theorem first2 (h : t.val % 2 = 0) (a : Fin 256) (b : Fin 1024) : (outsAt0 m c t.val t.isLt).2 (ix2 a b)
    = ∑ k : Fin 2176, bH m c t (ix2 k a) * bD m c t (ix2 k b) := by
  rw [outsAt0_A m c t h (by omega) (by omega)]; frame_out
  pointwise [k0_pay1, k0_pay2, k0_pay3]

/-- The block after its last point: the accumulator and the products of the second half of the tokens. -/
theorem last2 (h : t.val % 2 = 1) (a : Fin 256) (b : Fin 1024) : (outsAt0 m c t.val t.isLt).1 (ix2 a b)
    = (show EReal from (outsAt0 m c (t.val - 1) (Nat.lt_of_le_of_lt (Nat.sub_le _ _) t.isLt)).2 (ix2 a b))
      + ∑ k : Fin 2176, bH m c t (ix2 k a) * bD m c t (ix2 k b) := by
  rw [outsAt0_B m c t (by omega) h h]; frame_out
  pointwise [k0_pay1, k0_pay2, k0_pay3]
  exact congrArg (· + _) (congrFun (read_unread_whole _ _ _) _)

/-- What a block holds after its last point. -/
theorem block2 (ho : t.val % 2 = 1) (a : Fin 256) (b : Fin 1024) : (outsAt0 m c t.val t.isLt).1 (ix2 a b)
    = ∑ k : Fin 4352, aD m c (ix2 k (col t b)) * aH m c (ix2 k (row t a)) := by
  refine (last2 m c t ho a b).trans ?_
  have hp : t.val - 1 < cfg0.N := Nat.lt_of_le_of_lt (Nat.sub_le _ _) t.isLt
  have ef := first2 m c ⟨t.val - 1, hp⟩ (by show (t.val - 1) % 2 = 0; omega) a b
  refine (congrArg (· + _) ef).trans ?_
  have er : row ⟨t.val - 1, hp⟩ a = row t a := by apply Fin.ext; simp only [row] <;> omega
  have ec : col ⟨t.val - 1, hp⟩ b = col t b := by apply Fin.ext; simp only [col] <;> omega
  rw [Fin.sum_univ_two_halves 2176 2176 rfl]
  refine congrArg₂ (· + ·) (Finset.sum_congr rfl fun k _ => ?_) (Finset.sum_congr rfl fun k _ => ?_)
  · rw [bH_at, bD_at, mul_comm, er, ec]
    have ek : tok ⟨t.val - 1, hp⟩ k = ⟨k.val, by omega⟩ := by apply Fin.ext; simp only [tok]; omega
    rw [ek]
  · rw [bH_at, bD_at, mul_comm]
    have ek : tok t k = ⟨2176 + k.val, by omega⟩ := by apply Fin.ext; simp only [tok]; omega
    rw [ek]

/-- The reference's gradient at an index. -/
theorem ref2_at (X0 : FVec Ideal S4352x256 .bf16) (X1 : FVec Ideal S4352x2048 .bf16) (a : Fin 256) (b : Fin 2048) :
    Cert.KvUpDwRefIdeal.Read.val_main_v6 (F := Ideal) X0 X1 (ix2 a b) = ∑ k : Fin 4352, X1 (ix2 k b) * X0 (ix2 k a) := by
  open Cert.KvUpDwRefIdeal.Read in
  pointwise [val_main_v6, val_main_v5, val_main_v4, val_main_v3, val_main_v2, val_main_v1, val_main_v0, val_main_cst]

/-- The array after the run is the reference's. -/
theorem arr2 : (dats m 0 c).arrAt 2 cfg0.N = Cert.KvUpDwRefIdeal.Read.val_main_v6 (F := Ideal) (aH m c) (aD m c) :=
  (dats m 0 c).arrAt_eq_of_covers 2 _ (by decide +kernel) fun t hf y => by
    blk_simp
    rw [after0_2]
    have ht := bound t
    have ho : t.val % 2 = 1 := (flush0_2 t).mp hf
    obtain ⟨a, b, rfl⟩ : ∃ (a : Fin 256) (b : Fin 1024), y = ix2 a b := ⟨y 0, y 1, by funext k; fin_cases k <;> rfl⟩
    have e : (win0_2.blk t).view.emb (ix2 a b) = ix2 (row t a) (col t b) := by
      simp only [row, col]
      blk_ext [idx t]
    rw [e, ref2_at]
    exact block2 m c t ho a b

end Cert.KvUpDwIdeal.Value
-- ==== Proof.KvUpDxVal.lean ====
/- The gradient of the normalised keys and values: the call's array is the reference's. -/
module

public import proofs.«01_k».proof.Proof.Gen.KvUpDxIdeal.Value
public import proofs.«01_k».proof.Proof.Gen.KvUpDxRefIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KvUpDxIdeal.Value

open Cert.KvUpDxIdeal Cert.KvUpDxIdeal.Gen

variable (m : (ℓ : Loc nD τ sig) → Buf (Elt Ideal) ℓ) (c : Dev nD)

/-- The cotangent, as launched. -/
abbrev aD : FVec Ideal S4352x2048 .bf16 := m ((c : Thread nD τ).loc main_arg0)
/-- The weights, as launched. -/
abbrev aW : FVec Ideal S256x2048 .bf16 := m ((c : Thread nD τ).loc main_arg1)

theorem idx : ∀ t : Fin cfg0.N, win0_0.index t = ![t.val, 0]
    ∧ win0_1.index t = ![0, 0]
    ∧ win0_2.index t = ![t.val, 0] ∧ t.val < 2 :=
  (by decide +kernel : ∀ t : Fin grid0.N, _)

variable (t : Fin cfg0.N)

theorem bound : t.val < 2 := (idx t).2.2.2

/-- The array's row of a block's row. -/
def row (t : Fin cfg0.N) (a : Fin 2176) : Fin 4352 := ⟨t.val * 2176 + a.val, by have := bound t; omega⟩
/-- The array's column of a block's column. -/
def col (t : Fin cfg0.N) (b : Fin 256) : Fin 256 := ⟨0 * 256 + b.val, by omega⟩

/-- The point's block of an operand. -/
abbrev dB : FVec Ideal S2176x2048 .bf16 := iblk m c 0 t

theorem dB_at (a : Fin 2176) (k : Fin 2048) : dB m c t (ix2 a k) = aD m c (ix2 (row t a) k) := by
  have key : ∀ Z : FVec Ideal S4352x2048 .bf16, ((cfg0.win 0).blk t).view.read (Elt Ideal) Z (ix2 a k) = Z (ix2 ⟨t.val * 2176 + a.val, by have := bound t; omega⟩ k) := by
    intro Z
    blk_ext [idx t]
  refine (key (V m c main_arg0)).trans ?_
  rw [V_main_arg0]
  rfl

/-- The point's block of an operand. -/
abbrev wB : FVec Ideal S256x2048 .bf16 := iblk m c 1 t

theorem wB_at (b : Fin 256) (k : Fin 2048) : wB m c t (ix2 b k) = aW m c (ix2 (col t b) k) := by
  have key : ∀ Z : FVec Ideal S256x2048 .bf16, ((cfg0.win 1).blk t).view.read (Elt Ideal) Z (ix2 b k) = Z (ix2 ⟨0 * 256 + b.val, by omega⟩ k) := by
    intro Z
    blk_ext [idx t]
  refine (key (V m c main_arg1)).trans ?_
  rw [V_main_arg1]
  rfl

/-- A row of the product of the operands. -/
def dot0 (X : FVec Ideal S4352x2048 .bf16) (Y : FVec Ideal S256x2048 .bf16) (a : Fin 4352) (b : Fin 256) : EReal :=
  ∑ k : Fin 2048, X (ix2 a k) * Y (ix2 b k)

theorem dot0_at (a : Fin 2176) (b : Fin 256) :
    (∑ k : Fin 2048, dB m c t (ix2 a k) * wB m c t (ix2 b k)) = dot0 (aD m c) (aW m c) (row t a) (col t b) := by
  unfold dot0
  exact Finset.sum_congr rfl fun k _ => congrArg₂ (· * ·) (dB_at m c t a k) (wB_at m c t b k)

theorem out2_at (x0 : FVec Ideal S2176x2048 .bf16) (x1 : FVec Ideal S256x2048 .bf16) (a : Fin 2176) (b : Fin 256) :
    out0_2 (F := Ideal) x0 x1 (ix2 a b) = (∑ k : Fin 2048, x0 (ix2 a k) * x1 (ix2 b k)) := by
  frame_out
  pointwise [k0_pay1]

theorem ref2_at (X0 : FVec Ideal S4352x2048 .bf16) (X1 : FVec Ideal S256x2048 .bf16) (a : Fin 4352) (b : Fin 256) :
    Cert.KvUpDxRefIdeal.Read.val_main_v4 (F := Ideal) X0 X1 (ix2 a b) = dot0 X0 X1 a b := by
  open Cert.KvUpDxRefIdeal.Read in
  pointwise [val_main_v4, val_main_v3, val_main_v2, val_main_v1, val_main_v0, val_main_cst, dot0]

/-- The array after the run is the reference's. -/
theorem arr2 : (dats m 0 c).arrAt 2 cfg0.N = Cert.KvUpDxRefIdeal.Read.val_main_v4 (F := Ideal) (aD m c) (aW m c) :=
  (dats m 0 c).arrAt_eq_of_covers 2 _ (by decide +kernel) fun t hf y => by
    blk_simp
    rw [after0_2]
    have ht := bound t
    obtain ⟨a, b, rfl⟩ : ∃ (a : Fin 2176) (b : Fin 256), y = ix2 a b := ⟨y 0, y 1, by funext k; fin_cases k <;> rfl⟩
    have e : (win0_2.blk t).view.emb (ix2 a b) = ix2 (row t a) (col t b) := by
      simp only [row, col]
      blk_ext [idx t]
    rw [e, ref2_at]
    refine (out2_at (dB m c t) (wB m c t) a b).trans ?_
    rw [dot0_at m c t a b]

end Cert.KvUpDxIdeal.Value
-- ==== Proof.ProjKvCtxVal.lean ====
/- The context's keys' and values' columns of the combined projection: the call's array is the reference's. -/
module

public import proofs.«01_k».proof.Proof.Gen.ProjKvCtxIdeal.Value
public import proofs.«01_k».proof.Proof.Gen.ProjKvCtxRefIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjKvCtxIdeal.Value

open Cert.ProjKvCtxIdeal Cert.ProjKvCtxIdeal.Gen

variable (m : (ℓ : Loc nD τ sig) → Buf (Elt Ideal) ℓ) (c : Dev nD)

/-- The context's inputs, as launched. -/
abbrev aH : FVec Ideal S256x2048 .bf16 := m ((c : Thread nD τ).loc main_arg0)
/-- The weights, as launched. -/
abbrev aW : FVec Ideal S2048x384 .bf16 := m ((c : Thread nD τ).loc main_arg1)

theorem idx : ∀ t : Fin cfg0.N, win0_0.index t = ![0, 0]
    ∧ win0_1.index t = ![0, 0]
    ∧ win0_2.index t = ![0, 0] ∧ t.val < 1 :=
  (by decide +kernel : ∀ t : Fin grid0.N, _)

variable (t : Fin cfg0.N)

theorem bound : t.val < 1 := (idx t).2.2.2

/-- The array's row of a block's row. -/
def row (t : Fin cfg0.N) (a : Fin 256) : Fin 256 := ⟨0 * 256 + a.val, by have := bound t; omega⟩
/-- The array's column of a block's column. -/
def col (t : Fin cfg0.N) (b : Fin 384) : Fin 384 := ⟨0 * 384 + b.val, by have := bound t; omega⟩

/-- The point's block of an operand. -/
abbrev hB : FVec Ideal S256x2048 .bf16 := iblk m c 0 t

theorem hB_at (a : Fin 256) (k : Fin 2048) : hB m c t (ix2 a k) = aH m c (ix2 (row t a) k) := by
  have key : ∀ Z : FVec Ideal S256x2048 .bf16, ((cfg0.win 0).blk t).view.read (Elt Ideal) Z (ix2 a k) = Z (ix2 ⟨0 * 256 + a.val, by have := bound t; omega⟩ k) := by
    intro Z
    blk_ext [idx t]
  refine (key (V m c main_arg0)).trans ?_
  rw [V_main_arg0]
  rfl

/-- The point's block of an operand. -/
abbrev wB : FVec Ideal S2048x384 .bf16 := iblk m c 1 t

theorem wB_at (k : Fin 2048) (b : Fin 384) : wB m c t (ix2 k b) = aW m c (ix2 k (col t b)) := by
  have key : ∀ Z : FVec Ideal S2048x384 .bf16, ((cfg0.win 1).blk t).view.read (Elt Ideal) Z (ix2 k b) = Z (ix2 k ⟨0 * 384 + b.val, by have := bound t; omega⟩) := by
    intro Z
    blk_ext [idx t]
  refine (key (V m c main_arg1)).trans ?_
  rw [V_main_arg1]
  rfl

/-- A row of the product of the operands. -/
def dot0 (X : FVec Ideal S256x2048 .bf16) (Y : FVec Ideal S2048x384 .bf16) (a : Fin 256) (b : Fin 384) : EReal :=
  ∑ k : Fin 2048, X (ix2 a k) * Y (ix2 k b)

theorem dot0_at (a : Fin 256) (b : Fin 384) :
    (∑ k : Fin 2048, hB m c t (ix2 a k) * wB m c t (ix2 k b)) = dot0 (aH m c) (aW m c) (row t a) (col t b) := by
  unfold dot0
  exact Finset.sum_congr rfl fun k _ => congrArg₂ (· * ·) (hB_at m c t a k) (wB_at m c t k b)

theorem out2_at (x0 : FVec Ideal S256x2048 .bf16) (x1 : FVec Ideal S2048x384 .bf16) (a : Fin 256) (b : Fin 384) :
    out0_2 (F := Ideal) x0 x1 (ix2 a b) = (∑ k : Fin 2048, x0 (ix2 a k) * x1 (ix2 k b)) := by
  frame_out
  pointwise [k0_pay1]

theorem ref2_at (X0 : FVec Ideal S256x2048 .bf16) (X1 : FVec Ideal S2048x384 .bf16) (a : Fin 256) (b : Fin 384) :
    Cert.ProjKvCtxRefIdeal.Read.val_main_v2 (F := Ideal) X0 X1 (ix2 a b) = dot0 X0 X1 a b := by
  open Cert.ProjKvCtxRefIdeal.Read in
  pointwise [val_main_v2, val_main_v1, val_main_v0, dot0]

/-- The array after the run is the reference's. -/
theorem arr2 : (dats m 0 c).arrAt 2 cfg0.N = Cert.ProjKvCtxRefIdeal.Read.val_main_v2 (F := Ideal) (aH m c) (aW m c) :=
  (dats m 0 c).arrAt_eq_of_covers 2 _ (by decide +kernel) fun t hf y => by
    blk_simp
    rw [after0_2]
    have ht := bound t
    obtain ⟨a, b, rfl⟩ : ∃ (a : Fin 256) (b : Fin 384), y = ix2 a b := ⟨y 0, y 1, by funext k; fin_cases k <;> rfl⟩
    have e : (win0_2.blk t).view.emb (ix2 a b) = ix2 (row t a) (col t b) := by
      simp only [row, col]
      blk_ext [idx t]
    rw [e, ref2_at]
    refine (out2_at (hB m c t) (wB m c t) a b).trans ?_
    rw [dot0_at m c t a b]

end Cert.ProjKvCtxIdeal.Value
-- ==== Proof.ProjKvCtxDxVal.lean ====
/- The gradient of the context's inputs: the call's array is the reference's. -/
module

public import proofs.«01_k».proof.Proof.Gen.ProjKvCtxDxIdeal.Value
public import proofs.«01_k».proof.Proof.Gen.ProjKvCtxDxRefIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjKvCtxDxIdeal.Value

open Cert.ProjKvCtxDxIdeal Cert.ProjKvCtxDxIdeal.Gen

variable (m : (ℓ : Loc nD τ sig) → Buf (Elt Ideal) ℓ) (c : Dev nD)

/-- The cotangent, as launched. -/
abbrev aD : FVec Ideal S256x384 .bf16 := m ((c : Thread nD τ).loc main_arg0)
/-- The weights, as launched. -/
abbrev aW : FVec Ideal S2048x384 .bf16 := m ((c : Thread nD τ).loc main_arg1)

theorem idx : ∀ t : Fin cfg0.N, win0_0.index t = ![0, 0]
    ∧ win0_1.index t = ![t.val, 0]
    ∧ win0_2.index t = ![0, t.val] ∧ t.val < 2 :=
  (by decide +kernel : ∀ t : Fin grid0.N, _)

variable (t : Fin cfg0.N)

theorem bound : t.val < 2 := (idx t).2.2.2

/-- The array's row of a block's row. -/
def row (t : Fin cfg0.N) (a : Fin 256) : Fin 256 := ⟨0 * 256 + a.val, by have := bound t; omega⟩
/-- The array's column of a block's column. -/
def col (t : Fin cfg0.N) (b : Fin 1024) : Fin 2048 := ⟨t.val * 1024 + b.val, by have := bound t; omega⟩

/-- The point's block of an operand. -/
abbrev dB : FVec Ideal S256x384 .bf16 := iblk m c 0 t

theorem dB_at (a : Fin 256) (k : Fin 384) : dB m c t (ix2 a k) = aD m c (ix2 (row t a) k) := by
  have key : ∀ Z : FVec Ideal S256x384 .bf16, ((cfg0.win 0).blk t).view.read (Elt Ideal) Z (ix2 a k) = Z (ix2 ⟨0 * 256 + a.val, by have := bound t; omega⟩ k) := by
    intro Z
    blk_ext [idx t]
  refine (key (V m c main_arg0)).trans ?_
  rw [V_main_arg0]
  rfl

/-- The point's block of an operand. -/
abbrev wB : FVec Ideal S1024x384 .bf16 := iblk m c 1 t

theorem wB_at (k : Fin 384) (b : Fin 1024) : wB m c t (ix2 b k) = aW m c (ix2 (col t b) k) := by
  have key : ∀ Z : FVec Ideal S2048x384 .bf16, ((cfg0.win 1).blk t).view.read (Elt Ideal) Z (ix2 b k) = Z (ix2 ⟨t.val * 1024 + b.val, by have := bound t; omega⟩ k) := by
    intro Z
    blk_ext [idx t]
  refine (key (V m c main_arg1)).trans ?_
  rw [V_main_arg1]
  rfl

/-- A row of the product of the operands. -/
def dot0 (X : FVec Ideal S256x384 .bf16) (Y : FVec Ideal S2048x384 .bf16) (a : Fin 256) (b : Fin 2048) : EReal :=
  ∑ k : Fin 384, X (ix2 a k) * Y (ix2 b k)

theorem dot0_at (a : Fin 256) (b : Fin 1024) :
    (∑ k : Fin 384, dB m c t (ix2 a k) * wB m c t (ix2 b k)) = dot0 (aD m c) (aW m c) (row t a) (col t b) := by
  unfold dot0
  exact Finset.sum_congr rfl fun k _ => congrArg₂ (· * ·) (dB_at m c t a k) (wB_at m c t k b)

theorem out2_at (x0 : FVec Ideal S256x384 .bf16) (x1 : FVec Ideal S1024x384 .bf16) (a : Fin 256) (b : Fin 1024) :
    out0_2 (F := Ideal) x0 x1 (ix2 a b) = (∑ k : Fin 384, x0 (ix2 a k) * x1 (ix2 b k)) := by
  frame_out
  pointwise [k0_pay1]

theorem ref2_at (X0 : FVec Ideal S256x384 .bf16) (X1 : FVec Ideal S2048x384 .bf16) (a : Fin 256) (b : Fin 2048) :
    Cert.ProjKvCtxDxRefIdeal.Read.val_main_v4 (F := Ideal) X0 X1 (ix2 a b) = dot0 X0 X1 a b := by
  open Cert.ProjKvCtxDxRefIdeal.Read in
  pointwise [val_main_v4, val_main_v3, val_main_v2, val_main_v1, val_main_v0, val_main_cst, dot0]

/-- The array after the run is the reference's. -/
theorem arr2 : (dats m 0 c).arrAt 2 cfg0.N = Cert.ProjKvCtxDxRefIdeal.Read.val_main_v4 (F := Ideal) (aD m c) (aW m c) :=
  (dats m 0 c).arrAt_eq_of_covers 2 _ (by decide +kernel) fun t hf y => by
    blk_simp
    rw [after0_2]
    have ht := bound t
    obtain ⟨a, b, rfl⟩ : ∃ (a : Fin 256) (b : Fin 1024), y = ix2 a b := ⟨y 0, y 1, by funext k; fin_cases k <;> rfl⟩
    have e : (win0_2.blk t).view.emb (ix2 a b) = ix2 (row t a) (col t b) := by
      simp only [row, col]
      blk_ext [idx t]
    rw [e, ref2_at]
    refine (out2_at (dB m c t) (wB m c t) a b).trans ?_
    rw [dot0_at m c t a b]

end Cert.ProjKvCtxDxIdeal.Value
-- ==== Proof.ProjKvDwVal.lean ====
/- The gradient of the keys' and values' columns of the combined projection: the call's array is the reference's. -/
module

public import proofs.«01_k».proof.Proof.Gen.ProjKvDwIdeal.Frame
public import Idealize.ShloMosaic.Lib.Pipeline.Value
public import proofs.«01_k».proof.Proof.Gen.ProjKvDwRefIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjKvDwIdeal.Value

open Cert.ProjKvDwIdeal Cert.ProjKvDwIdeal.Gen

variable (m : (ℓ : Loc nD τ sig) → Buf (Elt Ideal) ℓ) (c : Dev nD)

/-- The run leaves the array of the blocks written back, and the arguments as they were. -/
theorem run_blocks (ρ : Dev nD → PrngReg) : θ_run defs (onTc (τ := τ) (main (F := Ideal))) ⟨m, fun _ => 0, ρ⟩ fun r => ∀ c : Dev nD,
      r.2.mem ((c : Thread nD τ).loc main_v0) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  have k0 : ∀ r : PUnit × MemSt nD τ sig (Elt Ideal), Pipeline.FramePost cfgs (dats m) 0 (V m) r → ∀ c : Dev nD,
      r.2.mem ((c : Thread nD τ).loc main_arg0) = m ((c : Thread nD τ).loc main_arg0) := fun r h c =>
    ((h c).1 0).trans (((dats m 0 c).arrAt_in 0 rfl _).trans ((A_eq m c 0).trans (V_main_arg0 m c)))
  have k1 : ∀ r : PUnit × MemSt nD τ sig (Elt Ideal), Pipeline.FramePost cfgs (dats m) 0 (V m) r → ∀ c : Dev nD,
      r.2.mem ((c : Thread nD τ).loc main_arg1) = m ((c : Thread nD τ).loc main_arg1) := fun r h c =>
    ((h c).1 1).trans (((dats m 0 c).arrAt_in 1 rfl _).trans ((A_eq m c 1).trans (V_main_arg1 m c)))
  have k2 : ∀ r : PUnit × MemSt nD τ sig (Elt Ideal), Pipeline.FramePost cfgs (dats m) 0 (V m) r → ∀ c : Dev nD,
      r.2.mem ((c : Thread nD τ).loc main_arg2) = m ((c : Thread nD τ).loc main_arg2) := fun r h c =>
    ((h c).1 2).trans (((dats m 0 c).arrAt_in 2 rfl _).trans ((A_eq m c 2).trans (V_main_arg2 m c)))
  have k3 : ∀ r : PUnit × MemSt nD τ sig (Elt Ideal), Pipeline.FramePost cfgs (dats m) 0 (V m) r → ∀ c : Dev nD,
      r.2.mem ((c : Thread nD τ).loc main_arg3) = m ((c : Thread nD τ).loc main_arg3) := fun r h c =>
    ((h c).1 3).trans (((dats m 0 c).arrAt_in 3 rfl _).trans ((A_eq m c 3).trans (V_main_arg3 m c)))
  exact (θ_run defs _ _).mono (fun r h c => ⟨(h c).1 4, k0 r h c, k1 r h c, k2 r h c, k3 r h c⟩) (run_main m ρ)

/-- The inputs, as launched. -/
abbrev aH : FVec Ideal S4096x2048 .bf16 := m ((c : Thread nD τ).loc main_arg0)
/-- The cotangent, as launched. -/
abbrev aD : FVec Ideal S4096x384 .bf16 := m ((c : Thread nD τ).loc main_arg1)
/-- The context's inputs, as launched. -/
abbrev aC : FVec Ideal S256x2048 .bf16 := m ((c : Thread nD τ).loc main_arg2)
/-- The context's cotangent, as launched. -/
abbrev aE : FVec Ideal S256x384 .bf16 := m ((c : Thread nD τ).loc main_arg3)

theorem idx : ∀ t : Fin cfg0.N, win0_0.index t = ![min (t.val % 3) 1, t.val / 3]
    ∧ win0_1.index t = ![min (t.val % 3) 1, 0]
    ∧ win0_2.index t = ![0, t.val / 3] ∧ win0_3.index t = ![0, 0]
    ∧ win0_4.index t = ![t.val / 3, 0] ∧ t.val / 3 < 2 :=
  (by decide +kernel : ∀ t : Fin grid0.N, _)

variable (t : Fin cfg0.N)

theorem bound : t.val / 3 < 2 := (idx t).2.2.2.2.2

/-- The token of a block's token. -/
def tok (t : Fin cfg0.N) (k : Fin 2048) : Fin 4096 := ⟨min (t.val % 3) 1 * 2048 + k.val, by omega⟩
/-- The array's row of a block's row. -/
def row (t : Fin cfg0.N) (a : Fin 1024) : Fin 2048 := ⟨t.val / 3 * 1024 + a.val, by have := bound t; omega⟩

/-- The point's block of an operand. -/
abbrev bH : FVec Ideal S2048x1024 .bf16 := iblk m c 0 t

theorem bH_at (k : Fin 2048) (a : Fin 1024) : bH m c t (ix2 k a) = aH m c (ix2 (tok t k) (row t a)) := by
  have key : ∀ Z : FVec Ideal S4096x2048 .bf16, ((cfg0.win 0).blk t).view.read (Elt Ideal) Z (ix2 k a)
      = Z (ix2 ⟨min (t.val % 3) 1 * 2048 + k.val, by omega⟩ ⟨t.val / 3 * 1024 + a.val, by have := bound t; omega⟩) := by
    intro Z
    blk_ext [idx t]
  refine (key (V m c main_arg0)).trans ?_
  rw [V_main_arg0]
  rfl

/-- The point's block of an operand. -/
abbrev bD : FVec Ideal S2048x384 .bf16 := iblk m c 1 t

theorem bD_at (k : Fin 2048) (b : Fin 384) : bD m c t (ix2 k b) = aD m c (ix2 (tok t k) b) := by
  have key : ∀ Z : FVec Ideal S4096x384 .bf16, ((cfg0.win 1).blk t).view.read (Elt Ideal) Z (ix2 k b)
      = Z (ix2 ⟨min (t.val % 3) 1 * 2048 + k.val, by omega⟩ b) := by
    intro Z
    blk_ext [idx t]
  refine (key (V m c main_arg1)).trans ?_
  rw [V_main_arg1]
  rfl

/-- The point's block of an operand. -/
abbrev bC : FVec Ideal S256x1024 .bf16 := iblk m c 2 t

theorem bC_at (k : Fin 256) (a : Fin 1024) : bC m c t (ix2 k a) = aC m c (ix2 k (row t a)) := by
  have key : ∀ Z : FVec Ideal S256x2048 .bf16, ((cfg0.win 2).blk t).view.read (Elt Ideal) Z (ix2 k a)
      = Z (ix2 k ⟨t.val / 3 * 1024 + a.val, by have := bound t; omega⟩) := by
    intro Z
    blk_ext [idx t]
  refine (key (V m c main_arg2)).trans ?_
  rw [V_main_arg2]
  rfl

/-- The point's block of an operand. -/
abbrev bE : FVec Ideal S256x384 .bf16 := iblk m c 3 t

theorem bE_at (k : Fin 256) (b : Fin 384) : bE m c t (ix2 k b) = aE m c (ix2 k b) := by
  have key : ∀ Z : FVec Ideal S256x384 .bf16, ((cfg0.win 3).blk t).view.read (Elt Ideal) Z (ix2 k b)
      = Z (ix2 k b) := by
    intro Z
    blk_ext [idx t]
  refine (key (V m c main_arg3)).trans ?_
  rw [V_main_arg3]

/-- What the accumulator holds before a point that is not a block's first. -/
abbrev prev : FVec Ideal S1024x384 .f32 := (outsAt0 m c (t.val - 1) (Nat.lt_of_le_of_lt (Nat.sub_le _ _) t.isLt)).2

/-- The accumulator after a block's first point: the products of the first half of the tokens. -/
theorem first (h : t.val % 3 = 0) (a : Fin 1024) (b : Fin 384) : (outsAt0 m c t.val t.isLt).2 (ix2 a b)
    = ∑ k : Fin 2048, bH m c t (ix2 k a) * bD m c t (ix2 k b) := by
  rw [outsAt0_A m c t h (by omega) (by omega) (by omega)]; frame_out
  pointwise [k0_pay1]

/-- After the second point, the second half's products are added. -/
theorem next (h : t.val % 3 = 1) (a : Fin 1024) (b : Fin 384) : (outsAt0 m c t.val t.isLt).2 (ix2 a b)
    = (show EReal from prev m c t (ix2 a b)) + ∑ k : Fin 2048, bH m c t (ix2 k a) * bD m c t (ix2 k b) := by
  rw [outsAt0_B m c t (by omega) h (by omega) (by omega)]; frame_out
  pointwise [k0_pay2]
  exact congrArg (· + _) (congrFun (read_unread_whole _ _ _) _)

/-- The block after its last point, with the context's products. -/
theorem last (h : t.val % 3 = 2) (a : Fin 1024) (b : Fin 384) : (outsAt0 m c t.val t.isLt).1 (ix2 a b)
    = (show EReal from prev m c t (ix2 a b)) + ∑ k : Fin 256, bC m c t (ix2 k a) * bE m c t (ix2 k b) := by
  rw [outsAt0_C m c t (by omega) (by omega) h h]; frame_out
  pointwise [k0_pay3, k0_pay4]
  exact congrArg (· + _) (congrFun (read_unread_whole _ _ _) _)

/-- What a block holds after its last point. -/
theorem block (ho : t.val % 3 = 2) (a : Fin 1024) (b : Fin 384) : (outsAt0 m c t.val t.isLt).1 (ix2 a b)
    = (∑ k : Fin 256, aE m c (ix2 k b) * aC m c (ix2 k (row t a))) + ∑ k : Fin 4096, aD m c (ix2 k b) * aH m c (ix2 k (row t a)) := by
  have h1 : t.val - 1 < cfg0.N := Nat.lt_of_le_of_lt (Nat.sub_le _ _) t.isLt
  have h2 : t.val - 1 - 1 < cfg0.N := Nat.lt_of_le_of_lt (Nat.sub_le _ _) h1
  have r1 : row ⟨t.val - 1, h1⟩ a = row t a := by apply Fin.ext; simp only [row]; omega
  have r2 : row ⟨t.val - 1 - 1, h2⟩ a = row t a := by apply Fin.ext; simp only [row]; omega
  have e1 := next m c ⟨t.val - 1, h1⟩ (by show (t.val - 1) % 3 = 1; omega) a b
  have e2 := first m c ⟨t.val - 1 - 1, h2⟩ (by show (t.val - 1 - 1) % 3 = 0; omega) a b
  refine (last m c t ho a b).trans ((add_comm _ _).trans (congrArg₂ (· + ·) (Finset.sum_congr rfl fun k _ => ?_) ?_))
  · rw [bC_at, bE_at, mul_comm]
  refine e1.trans ((congrArg (· + _) e2).trans ?_)
  rw [Fin.sum_univ_two_halves 2048 2048 rfl]
  refine congrArg₂ (· + ·) (Finset.sum_congr rfl fun k _ => ?_) (Finset.sum_congr rfl fun k _ => ?_)
  · rw [bH_at, bD_at, mul_comm, r2]
    have ek : tok ⟨t.val - 1 - 1, h2⟩ k = ⟨k.val, by omega⟩ := by apply Fin.ext; simp only [tok]; omega
    rw [ek]
  · rw [bH_at, bD_at, mul_comm, r1]
    have ek : tok ⟨t.val - 1, h1⟩ k = ⟨2048 + k.val, by omega⟩ := by apply Fin.ext; simp only [tok]; omega
    rw [ek]

/-- The reference's gradient at an index. -/
theorem ref_at (X0 : FVec Ideal S4096x2048 .bf16) (X1 : FVec Ideal S4096x384 .bf16) (X2 : FVec Ideal S256x2048 .bf16) (X3 : FVec Ideal S256x384 .bf16)
    (a : Fin 2048) (b : Fin 384) : Cert.ProjKvDwRefIdeal.Read.val_main_v12 (F := Ideal) X0 X1 X2 X3 (ix2 a b)
    = (∑ k : Fin 256, X3 (ix2 k b) * X2 (ix2 k a)) + ∑ k : Fin 4096, X1 (ix2 k b) * X0 (ix2 k a) := by
  open Cert.ProjKvDwRefIdeal.Read in
  pointwise [val_main_v12, val_main_v11, val_main_v10, val_main_v9, val_main_v8, val_main_v7, val_main_v6, val_main_v5, val_main_v3, val_main_v1]

/-- The array after the run is the reference's. -/
theorem arr4 : (dats m 0 c).arrAt 4 cfg0.N = Cert.ProjKvDwRefIdeal.Read.val_main_v12 (F := Ideal) (aH m c) (aD m c) (aC m c) (aE m c) :=
  (dats m 0 c).arrAt_eq_of_covers 4 _ (by decide +kernel) fun t hf y => by
    blk_simp
    rw [after0_4]
    have ht := bound t
    have ho : t.val % 3 = 2 := (flush0_4 t).mp hf
    obtain ⟨a, b, rfl⟩ : ∃ (a : Fin 1024) (b : Fin 384), y = ix2 a b := ⟨y 0, y 1, by funext k; fin_cases k <;> rfl⟩
    have e : (win0_4.blk t).view.emb (ix2 a b) = ix2 (row t a) b := by
      simp only [row]
      blk_ext [idx t]
    rw [e, ref_at]
    exact block m c t ho a b

end Cert.ProjKvDwIdeal.Value
-- ==== Proof.QUpDxVal.lean ====
/- The gradient of the queries' low-rank inputs, through their norm: the call's arrays are the reference's. -/
module

public import proofs.«01_k».proof.Proof.Gen.QUpDxIdeal.Value
public import proofs.«01_k».proof.Proof.Gen.QUpDxRefIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.QUpDxIdeal.Value

open Cert.QUpDxIdeal Cert.QUpDxIdeal.Gen

section maths

/-- The width's inverse, the width, the epsilon and minus a half. -/
theorem share : Ideal.ofBits .f32 0x3B000000#32 = ((1 / 512 : ℝ) : EReal) := by
  simp [Ideal.ofBits, Ideal.ieee, -EReal.coe_mul]; norm_num
theorem width : Ideal.ofBits .f32 0x44000000#32 = ((512 : ℝ) : EReal) := by
  simp [Ideal.ofBits, Ideal.ieee, -EReal.coe_mul]; norm_num
theorem eps : Ideal.ofBits .f32 0x358637BD#32 = ((8796093 / 8796093022208 : ℝ) : EReal) := by
  simp [Ideal.ofBits, Ideal.ieee, -EReal.coe_mul]; norm_num
theorem half : Ideal.ofBits .f32 0xBF000000#32 = ((-1 / 2 : ℝ) : EReal) := by
  simp [Ideal.ofBits, Ideal.ieee, -EReal.coe_mul]; norm_num

theorem sq_nonneg' (x : EReal) : 0 ≤ x * x := by
  induction x using EReal.rec with
  | bot => simp
  | top => simp
  | coe r => rw [← EReal.coe_mul]; exact_mod_cast mul_self_nonneg r

/-- The mean square of a row, with the epsilon. -/
def ms (f : Fin 512 → EReal) : EReal := (∑ k : Fin 512, f k * f k) * Ideal.ofBits .f32 0x3B000000#32 + Ideal.ofBits .f32 0x358637BD#32

/-- The mean square is infinite or a positive real number. -/
theorem ms_cases (f : Fin 512 → EReal) : ms f = ⊤ ∨ ∃ q : ℝ, 0 < q ∧ ms f = ((q : ℝ) : EReal) := by
  unfold ms
  rw [share, eps]
  have h : 0 ≤ (∑ k : Fin 512, f k * f k) * ((1 / 512 : ℝ) : EReal) :=
    mul_nonneg (Finset.sum_nonneg fun k _ => sq_nonneg' _) (by exact_mod_cast (by norm_num : (0 : ℝ) ≤ 1 / 512))
  generalize (∑ k : Fin 512, f k * f k) * ((1 / 512 : ℝ) : EReal) = s at h
  induction s using EReal.rec with
  | bot => simp at h
  | top => exact .inl (EReal.top_add_coe _)
  | coe r =>
    have hr : 0 ≤ r := by exact_mod_cast h
    exact .inr ⟨r + 8796093 / 8796093022208, by positivity, (EReal.coe_add _ _).symm⟩

/-- The norm's gradient as the call takes it. -/
def bk (x t : Fin 512 → EReal) (b : Fin 512) : EReal :=
  Ideal.rsqrt (ms t) * (x b - t b * Ideal.rsqrt (ms t) * ((∑ k : Fin 512, x k * (t k * Ideal.rsqrt (ms t))) * Ideal.ofBits .f32 0x3B000000#32))

/-- The share of a row's entry in the derivative by the mean square. -/
def sh (x t : Fin 512 → EReal) : EReal :=
  Ideal.div ((∑ k : Fin 512, t k * x k) * (Ideal.ofBits .f32 0xBF000000#32 * Ideal.div (Ideal.rsqrt (ms t)) (ms t))) (Ideal.ofBits .f32 0x44000000#32)

/-- The norm's gradient is the derivative's. -/
theorem bk_eq (x t : Fin 512 → EReal) (b : Fin 512) : bk x t b = x b * Ideal.rsqrt (ms t) + t b * sh x t + sh x t * t b := by
  unfold bk sh
  rcases ms_cases t with h | ⟨q, hq, h⟩
  · simp [h, width, Ideal.div]
  have hn : ¬q < 0 := not_lt.mpr hq.le
  rw [h, Ideal.rsqrt_coe, if_neg hn, if_neg hq.ne', width, half, share, Ideal.div_coe hq.ne', Ideal.div_coe (by norm_num)]
  have hr : 0 ≤ (√q)⁻¹ := inv_nonneg.mpr (Real.sqrt_nonneg q)
  have hrr : (√q)⁻¹ * (√q)⁻¹ = 1 / q := by
    rw [← mul_inv, Real.mul_self_sqrt hq.le, one_div]
  generalize (√q)⁻¹ = r at hr hrr
  have hr' : (0 : EReal) ≤ ((r : ℝ) : EReal) := by exact_mod_cast hr
  have e1 : (∑ k : Fin 512, x k * (t k * ((r : ℝ) : EReal))) = (∑ k : Fin 512, t k * x k) * ((r : ℝ) : EReal) := by
    rw [Cert.Sums.sum_mul _ _ _ hr' (EReal.coe_ne_top r)]
    exact Finset.sum_congr rfl fun k _ => by rw [← mul_assoc, mul_comm (x k)]
  rw [e1]
  generalize (∑ k : Fin 512, t k * x k) = s
  have hk : (0 : ℝ) ≤ r * (1 / q) * (1 / 512) * (1 / 2) := by positivity
  have hk' : (0 : EReal) ≤ ((r * (1 / q) * (1 / 512) * (1 / 2) : ℝ) : EReal) := by exact_mod_cast hk
  have e2 : ((r : ℝ) : EReal) * (t b * ((r : ℝ) : EReal) * (s * ((r : ℝ) : EReal) * ((1 / 512 : ℝ) : EReal)))
      = t b * s * (((r * (1 / q) * (1 / 512) * (1 / 2) : ℝ) : EReal) + ((r * (1 / q) * (1 / 512) * (1 / 2) : ℝ) : EReal)) := by
    have e : ((r * (1 / q) * (1 / 512) * (1 / 2) : ℝ) : EReal) + ((r * (1 / q) * (1 / 512) * (1 / 2) : ℝ) : EReal)
        = ((r : ℝ) : EReal) * (((r : ℝ) : EReal) * (((r : ℝ) : EReal) * ((1 / 512 : ℝ) : EReal))) := by
      rw [← EReal.coe_add, ← EReal.coe_mul, ← EReal.coe_mul, ← EReal.coe_mul, ← hrr]
      congr 1
      ring
    rw [e]
    ac_rfl
  have e3 : s * (((-1 / 2 : ℝ) : EReal) * (((r : ℝ) : EReal) * ((1 / q : ℝ) : EReal))) * ((1 / 512 : ℝ) : EReal)
      = -(s * ((r * (1 / q) * (1 / 512) * (1 / 2) : ℝ) : EReal)) := by
    rw [← mul_neg, ← EReal.coe_neg, ← EReal.coe_mul, ← EReal.coe_mul, mul_assoc, ← EReal.coe_mul]
    congr 2
    ring
  rw [EReal.mul_sub_of_nonneg_of_ne_top hr' (EReal.coe_ne_top r), e2, e3, mul_comm (-_) (t b), mul_neg, ← mul_assoc, ← neg_mul, add_assoc,
    ← EReal.left_distrib_of_nonneg hk' hk', mul_comm (x b), sub_eq_add_neg, ← neg_mul]
end maths

variable (m : (ℓ : Loc nD τ sig) → Buf (Elt Ideal) ℓ) (c : Dev nD)

/-- The cotangent, as launched. -/
abbrev aD : FVec Ideal S4096x2048 .bf16 := m ((c : Thread nD τ).loc main_arg0)
/-- The weights, as launched. -/
abbrev aW : FVec Ideal S512x2048 .bf16 := m ((c : Thread nD τ).loc main_arg1)
/-- The norm's argument, as launched. -/
abbrev aT : FVec Ideal S4096x512 .f32 := m ((c : Thread nD τ).loc main_arg2)
/-- The norm's gain, as launched. -/
abbrev aG : FVec Ideal S1x512 .f32 := m ((c : Thread nD τ).loc main_arg3)

theorem idx : ∀ t : Fin cfg0.N, win0_0.index t = ![t.val, 0] ∧ win0_1.index t = ![0, 0]
    ∧ win0_2.index t = ![t.val, 0] ∧ win0_3.index t = ![0, 0]
    ∧ win0_4.index t = ![t.val, 0] ∧ win0_5.index t = ![t.val, 0, 0] ∧ t.val < 4 :=
  (by decide +kernel : ∀ t : Fin grid0.N, _)

variable (t : Fin cfg0.N)

theorem bound : t.val < 4 := (idx t).2.2.2.2.2.2

/-- The array's row of a block's row. -/
def row (t : Fin cfg0.N) (a : Fin 1024) : Fin 4096 := ⟨t.val * 1024 + a.val, by have := bound t; omega⟩

/-- The point's blocks. -/
abbrev dB : FVec Ideal S1024x2048 .bf16 := iblk m c 0 t
abbrev wB : FVec Ideal S512x2048 .bf16 := iblk m c 1 t
abbrev tB : FVec Ideal S1024x512 .f32 := iblk m c 2 t
abbrev gB : FVec Ideal S1x512 .f32 := iblk m c 3 t

theorem dB_at (a : Fin 1024) (k : Fin 2048) : dB m c t (ix2 a k) = aD m c (ix2 (row t a) k) := by
  have key : ∀ Z : FVec Ideal S4096x2048 .bf16, ((cfg0.win 0).blk t).view.read (Elt Ideal) Z (ix2 a k) = Z (ix2 ⟨t.val * 1024 + a.val, by have := bound t; omega⟩ k) := by
    intro Z
    blk_ext [idx t]
  refine (key (V m c main_arg0)).trans ?_
  rw [V_main_arg0]
  rfl

theorem wB_at (b : Fin 512) (k : Fin 2048) : wB m c t (ix2 b k) = aW m c (ix2 b k) := by
  have key : ∀ Z : FVec Ideal S512x2048 .bf16, ((cfg0.win 1).blk t).view.read (Elt Ideal) Z (ix2 b k) = Z (ix2 b k) := by
    intro Z
    blk_ext [idx t]
  refine (key (V m c main_arg1)).trans ?_
  rw [V_main_arg1]

theorem tB_at (a : Fin 1024) (b : Fin 512) : tB m c t (ix2 a b) = aT m c (ix2 (row t a) b) := by
  have key : ∀ Z : FVec Ideal S4096x512 .f32, ((cfg0.win 2).blk t).view.read (Elt Ideal) Z (ix2 a b) = Z (ix2 ⟨t.val * 1024 + a.val, by have := bound t; omega⟩ b) := by
    intro Z
    blk_ext [idx t]
  refine (key (V m c main_arg2)).trans ?_
  rw [V_main_arg2]
  rfl

theorem gB_at (b : Fin 512) : gB m c t (ix2 0 b) = aG m c (ix2 0 b) := by
  have key : ∀ Z : FVec Ideal S1x512 .f32, ((cfg0.win 3).blk t).view.read (Elt Ideal) Z (ix2 0 b) = Z (ix2 0 b) := by
    intro Z
    blk_ext [idx t]
  refine (key (V m c main_arg3)).trans ?_
  rw [V_main_arg3]

section payloads
variable (x0 : FVec Ideal S1024x2048 .bf16) (x1 : FVec Ideal S512x2048 .bf16) (x2 : FVec Ideal S1024x512 .f32) (x3 : FVec Ideal S1x512 .f32)

theorem dn_at (a : Fin 1024) (b : Fin 512) : k0_pay2 (F := Ideal) x0 x1 (ix2 a b) = ∑ k : Fin 2048, x0 (ix2 a k) * x1 (ix2 b k) := by
  pointwise [k0_pay2]

theorem sd_at (a : Fin 1024) : k0_pay3 (F := Ideal) x2 (ix2 a 0) = Ideal.rsqrt (ms fun b => x2 (ix2 a b)) := by
  unfold ms
  pointwise [k0_pay3]

theorem tn_at (a : Fin 1024) (b : Fin 512) : k0_pay4 (F := Ideal) x2 (ix2 a b) = x2 (ix2 a b) * Ideal.rsqrt (ms fun b => x2 (ix2 a b)) := by
  rw [← sd_at]
  pointwise [k0_pay4]

theorem bk_at (a : Fin 1024) (b : Fin 512) : k0_pay5 (F := Ideal) x0 x1 x2 x3 (ix2 a b)
    = bk (fun b => (∑ k : Fin 2048, x0 (ix2 a k) * x1 (ix2 b k)) * x3 (ix2 0 b)) (fun b => x2 (ix2 a b)) b := by
  unfold bk
  pointwise [k0_pay5, dn_at, tn_at, sd_at]

theorem out4_at (a : Fin 1024) (b : Fin 512) : out0_4 (F := Ideal) x0 x1 x2 x3 (ix2 a b)
    = bk (fun b => (∑ k : Fin 2048, x0 (ix2 a k) * x1 (ix2 b k)) * x3 (ix2 0 b)) (fun b => x2 (ix2 a b)) b := by
  refine Eq.trans ?_ (bk_at x0 x1 x2 x3 a b)
  frame_out

theorem dg_at (s : Fin 8) (b : Fin 512) : k0_pay1 (k0_pay6 (F := Ideal) x0 x1 x2) (ix3 0 s b)
    = ∑ a : Fin 1024, (∑ k : Fin 2048, x0 (ix2 a k) * x1 (ix2 b k)) * (x2 (ix2 a b) * Ideal.rsqrt (ms fun b => x2 (ix2 a b))) := by
  simp only [← dn_at, ← tn_at]
  pointwise [k0_pay1, k0_pay6]

theorem out5_at (s : Fin 8) (b : Fin 512) : out0_5 (F := Ideal) x0 x1 x2 x3 (ix3 0 s b)
    = ∑ a : Fin 1024, (∑ k : Fin 2048, x0 (ix2 a k) * x1 (ix2 b k)) * (x2 (ix2 a b) * Ideal.rsqrt (ms fun b => x2 (ix2 a b))) := by
  refine Eq.trans ?_ (dg_at x0 x1 x2 s b)
  frame_out
end payloads

section reference
variable (X0 : FVec Ideal S4096x2048 .bf16) (X1 : FVec Ideal S512x2048 .bf16) (X2 : FVec Ideal S4096x512 .f32) (X3 : FVec Ideal S1x512 .f32)

/-- The normalized queries' gradient. -/
def dn (a : Fin 4096) (b : Fin 512) : EReal := ∑ k : Fin 2048, X0 (ix2 a k) * X1 (ix2 b k)

/-- The mean over a row, by division and by multiplication. -/
theorem mean (s : EReal) : Ideal.div s (Ideal.ofBits .f32 0x44000000#32) = s * Ideal.ofBits .f32 0x3B000000#32 := by
  rw [width, share, Ideal.div_coe (by norm_num)]

open Cert.QUpDxRefIdeal.Read

theorem ref_dn (a : Fin 4096) (b : Fin 512) : val_main_v19 (F := Ideal) X0 X1 (ix2 a b) = dn X0 X1 a b := by
  pointwise [val_main_v19, val_main_v18, val_main_v16, dn]

theorem ref_ms (a : Fin 4096) : val_main_v7 (F := Ideal) X2 (ix2 a 0) = ms fun b => X2 (ix2 a b) := by
  unfold ms
  rw [← mean]
  pointwise [val_main_v7, val_main_v6, val_main_cst_1, val_main_v5, val_main_v4, val_main_cst_0, val_main_v3, val_main_v2, val_main_cst, val_main_v1]

theorem ref_dx (a : Fin 4096) (b : Fin 512) : val_main_v21 (F := Ideal) X0 X1 X3 (ix2 a b) = dn X0 X1 a b * X3 (ix2 0 b) := by
  rw [← ref_dn]
  pointwise [val_main_v21, val_main_v0]

theorem ref_sum (a : Fin 4096) : val_main_v24 (F := Ideal) X0 X1 X2 X3 (ix2 a 0) = ∑ k : Fin 512, X2 (ix2 a k) * (dn X0 X1 a k * X3 (ix2 0 k)) := by
  simp only [← ref_dx]
  pointwise [val_main_v24, val_main_v23, val_main_v22, val_main_cst_4]

theorem ref_sh (a : Fin 4096) : val_main_v29 (F := Ideal) X0 X1 X2 X3 (ix2 a 0)
    = sh (fun b => dn X0 X1 a b * X3 (ix2 0 b)) (fun b => X2 (ix2 a b)) := by
  unfold sh
  rw [← ref_sum, ← ref_ms]
  pointwise [val_main_v29, val_main_v28, val_main_cst_5, val_main_v27, val_main_v11, val_main_v10, val_main_cst_2, val_main_v9, val_main_v8]

theorem ref_row (a : Fin 4096) (b : Fin 512) : val_main_v31 (F := Ideal) X0 X1 X2 X3 (ix2 a b)
    = sh (fun b => dn X0 X1 a b * X3 (ix2 0 b)) (fun b => X2 (ix2 a b)) := by
  rw [← ref_sh]
  pointwise [val_main_v31, val_main_v30, val_main_cst_6]
  simp

theorem ref4_at (a : Fin 4096) (b : Fin 512) : val_main_v38 (F := Ideal) X0 X1 X2 X3 (ix2 a b)
    = bk (fun b => dn X0 X1 a b * X3 (ix2 0 b)) (fun b => X2 (ix2 a b)) b := by
  rw [bk_eq, ← ref_row _ _ _ _ a b, ← ref_ms]
  pointwise [val_main_v38, val_main_v35, val_main_v34, val_main_v33, val_main_v32, val_main_v26, val_main_v25, val_main_v8, ref_dx]

theorem ref5_at (i : Fin 4) (s : Fin 8) (b : Fin 512) : val_main_v40 (F := Ideal) X0 X1 X2 (ix3 i s b)
    = ∑ k : Fin 1024, dn X0 X1 ⟨i.val * 1024 + k.val, by omega⟩ b
      * (X2 (ix2 ⟨i.val * 1024 + k.val, by omega⟩ b) * Ideal.rsqrt (ms fun b => X2 (ix2 ⟨i.val * 1024 + k.val, by omega⟩ b))) := by
  simp only [← ref_dn, ← ref_ms, mul_comm (val_main_v19 (F := Ideal) _ _ _)]
  pointwise [val_main_v40, val_main_v39, val_main_v37, val_main_v36, val_main_cst_7, val_main_v20, val_main_v13, val_main_v12, val_main_v8]
end reference

theorem blk_dn (a : Fin 1024) (b : Fin 512) : (∑ k : Fin 2048, dB m c t (ix2 a k) * wB m c t (ix2 b k)) = dn (aD m c) (aW m c) (row t a) b := by
  unfold dn
  exact Finset.sum_congr rfl fun k _ => congrArg₂ (· * ·) (dB_at m c t a k) (wB_at m c t b k)

/-- The gradient after the run is the reference's. -/
theorem arr4 : (dats m 0 c).arrAt 4 cfg0.N = Cert.QUpDxRefIdeal.Read.val_main_v38 (F := Ideal) (aD m c) (aW m c) (aT m c) (aG m c) :=
  (dats m 0 c).arrAt_eq_of_covers 4 _ (by decide +kernel) fun t hf y => by
    blk_simp
    rw [after0_4]
    have ht := bound t
    obtain ⟨a, b, rfl⟩ : ∃ (a : Fin 1024) (b : Fin 512), y = ix2 a b := ⟨y 0, y 1, by funext k; fin_cases k <;> rfl⟩
    have e : (win0_4.blk t).view.emb (ix2 a b) = ix2 (row t a) b := by
      simp only [row]
      blk_ext [idx t]
    rw [e, ref4_at]
    refine (out4_at (dB m c t) (wB m c t) (tB m c t) (gB m c t) a b).trans ?_
    simp only [blk_dn m c t a, tB_at m c t a, gB_at m c t]

/-- The gain's gradient after the run is the reference's. -/
theorem arr5 : (dats m 0 c).arrAt 5 cfg0.N = Cert.QUpDxRefIdeal.Read.val_main_v40 (F := Ideal) (aD m c) (aW m c) (aT m c) :=
  (dats m 0 c).arrAt_eq_of_covers 5 _ (by decide +kernel) fun t hf y => by
    blk_simp
    rw [after0_5]
    have ht := bound t
    obtain ⟨s, b, rfl⟩ : ∃ (s : Fin 8) (b : Fin 512), y = ix3 0 s b :=
      ⟨y 1, y 2, by funext k; fin_cases k <;> [exact Fin.ext (by have := (y 0).isLt; show (y 0).val = 0; change (y 0).val < 1 at this; omega); rfl; rfl]⟩
    have e : (win0_5.blk t).view.emb (ix3 0 s b) = ix3 ⟨t.val, ht⟩ s b := by
      blk_ext [idx t]
    rw [e, ref5_at]
    refine (out5_at (dB m c t) (wB m c t) (tB m c t) (gB m c t) s b).trans ?_
    simp only [blk_dn m c t, tB_at m c t]
    rfl

end Cert.QUpDxIdeal.Value
-- ==== Proof.ModFwdVal.lean ====
/- The modulation's product: the call's array is the reference's. -/
module

public import proofs.«01_k».proof.Proof.Gen.ModFwdIdeal.Value
public import proofs.«01_k».proof.Proof.Gen.ModFwdRefIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ModFwdIdeal.Value

open Cert.ModFwdIdeal Cert.ModFwdIdeal.Gen

variable (m : (ℓ : Loc nD τ sig) → Buf (Elt Ideal) ℓ) (c : Dev nD)

/-- The activated condition, as launched. -/
abbrev aS : FVec Ideal S16x2048 .f32 := m ((c : Thread nD τ).loc main_arg0)
/-- The weights, as launched. -/
abbrev aW : FVec Ideal S2048x3072 .f32 := m ((c : Thread nD τ).loc main_arg1)
/-- The bias, as launched. -/
abbrev aG : FVec Ideal S1x3072 .f32 := m ((c : Thread nD τ).loc main_arg2)

theorem idx : ∀ t : Fin cfg0.N, win0_0.index t = ![0, 0]
    ∧ win0_1.index t = ![0, t.val]
    ∧ win0_2.index t = ![0, t.val]
    ∧ win0_3.index t = ![0, t.val] ∧ t.val < 3 :=
  (by decide +kernel : ∀ t : Fin grid0.N, _)

variable (t : Fin cfg0.N)

theorem bound : t.val < 3 := (idx t).2.2.2.2

/-- The array's row of a block's row. -/
def row (t : Fin cfg0.N) (a : Fin 16) : Fin 16 := ⟨0 * 16 + a.val, by have := bound t; omega⟩
/-- The array's column of a block's column. -/
def col (t : Fin cfg0.N) (b : Fin 1024) : Fin 3072 := ⟨t.val * 1024 + b.val, by have := bound t; omega⟩

/-- The point's block of an operand. -/
abbrev sB : FVec Ideal S16x2048 .f32 := iblk m c 0 t

theorem sB_at (a : Fin 16) (k : Fin 2048) : sB m c t (ix2 a k) = aS m c (ix2 (row t a) k) := by
  have key : ∀ Z : FVec Ideal S16x2048 .f32, ((cfg0.win 0).blk t).view.read (Elt Ideal) Z (ix2 a k) = Z (ix2 ⟨0 * 16 + a.val, by have := bound t; omega⟩ k) := by
    intro Z
    blk_ext [idx t]
  refine (key (V m c main_arg0)).trans ?_
  rw [V_main_arg0]
  rfl

/-- The point's block of an operand. -/
abbrev wB : FVec Ideal S2048x1024 .f32 := iblk m c 1 t

theorem wB_at (k : Fin 2048) (b : Fin 1024) : wB m c t (ix2 k b) = aW m c (ix2 k (col t b)) := by
  have key : ∀ Z : FVec Ideal S2048x3072 .f32, ((cfg0.win 1).blk t).view.read (Elt Ideal) Z (ix2 k b) = Z (ix2 k ⟨t.val * 1024 + b.val, by have := bound t; omega⟩) := by
    intro Z
    blk_ext [idx t]
  refine (key (V m c main_arg1)).trans ?_
  rw [V_main_arg1]
  rfl

/-- The point's block of the bias. -/
abbrev gB : FVec Ideal S1x1024 .f32 := iblk m c 2 t

theorem gB_at (b : Fin 1024) : gB m c t (ix2 0 b) = aG m c (ix2 0 (col t b)) := by
  have key : ∀ Z : FVec Ideal S1x3072 .f32, ((cfg0.win 2).blk t).view.read (Elt Ideal) Z (ix2 0 b) = Z (ix2 0 ⟨t.val * 1024 + b.val, by have := bound t; omega⟩) := by
    intro Z
    blk_ext [idx t]
  refine (key (V m c main_arg2)).trans ?_
  rw [V_main_arg2]
  rfl

/-- A row of the product of the operands. -/
def dot0 (X : FVec Ideal S16x2048 .f32) (Y : FVec Ideal S2048x3072 .f32) (a : Fin 16) (b : Fin 3072) : EReal :=
  ∑ k : Fin 2048, X (ix2 a k) * Y (ix2 k b)

theorem dot0_at (a : Fin 16) (b : Fin 1024) :
    (∑ k : Fin 2048, sB m c t (ix2 a k) * wB m c t (ix2 k b)) = dot0 (aS m c) (aW m c) (row t a) (col t b) := by
  unfold dot0
  exact Finset.sum_congr rfl fun k _ => congrArg₂ (· * ·) (sB_at m c t a k) (wB_at m c t k b)

theorem out3_at (x0 : FVec Ideal S16x2048 .f32) (x1 : FVec Ideal S2048x1024 .f32) (x2 : FVec Ideal S1x1024 .f32) (a : Fin 16) (b : Fin 1024) :
    out0_3 (F := Ideal) x0 x1 x2 (ix2 a b) = (∑ k : Fin 2048, x0 (ix2 a k) * x1 (ix2 k b)) + x2 (ix2 0 b) := by
  frame_out
  pointwise [k0_pay1]

theorem ref3_at (X0 : FVec Ideal S16x2048 .f32) (X1 : FVec Ideal S2048x3072 .f32) (X2 : FVec Ideal S1x3072 .f32) (a : Fin 16) (b : Fin 3072) :
    Cert.ModFwdRefIdeal.Read.val_main_v2 (F := Ideal) X0 X1 X2 (ix2 a b) = dot0 X0 X1 a b + X2 (ix2 0 b) := by
  open Cert.ModFwdRefIdeal.Read in
  pointwise [val_main_v2, val_main_v1, val_main_v0, dot0]

/-- The array after the run is the reference's. -/
theorem arr3 : (dats m 0 c).arrAt 3 cfg0.N = Cert.ModFwdRefIdeal.Read.val_main_v2 (F := Ideal) (aS m c) (aW m c) (aG m c) :=
  (dats m 0 c).arrAt_eq_of_covers 3 _ (by decide +kernel) fun t hf y => by
    blk_simp
    rw [after0_3]
    have ht := bound t
    obtain ⟨a, b, rfl⟩ : ∃ (a : Fin 16) (b : Fin 1024), y = ix2 a b := ⟨y 0, y 1, by funext k; fin_cases k <;> rfl⟩
    have e : (win0_3.blk t).view.emb (ix2 a b) = ix2 (row t a) (col t b) := by
      simp only [row, col]
      blk_ext [idx t]
    rw [e, ref3_at]
    refine (out3_at (sB m c t) (wB m c t) (gB m c t) a b).trans ?_
    rw [dot0_at m c t a b, gB_at m c t b]

end Cert.ModFwdIdeal.Value
-- ==== Proof.ModDwVal.lean ====
/- The gradient of the modulation's weights: the call's array is the reference's. -/
module

public import proofs.«01_k».proof.Proof.Gen.ModDwIdeal.Value
public import proofs.«01_k».proof.Proof.Gen.ModDwRefIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ModDwIdeal.Value

open Cert.ModDwIdeal Cert.ModDwIdeal.Gen

variable (m : (ℓ : Loc nD τ sig) → Buf (Elt Ideal) ℓ) (c : Dev nD)

/-- The activated condition, as launched. -/
abbrev aS : FVec Ideal S16x2048 .f32 := m ((c : Thread nD τ).loc main_arg0)
/-- The cotangent, as launched. -/
abbrev aD : FVec Ideal S16x3072 .f32 := m ((c : Thread nD τ).loc main_arg1)

theorem idx : ∀ t : Fin cfg0.N, win0_0.index t = ![0, t.val / 3]
    ∧ win0_1.index t = ![0, t.val % 3]
    ∧ win0_2.index t = ![t.val / 3, t.val % 3] ∧ t.val < 6 :=
  (by decide +kernel : ∀ t : Fin grid0.N, _)

variable (t : Fin cfg0.N)

theorem bound : t.val < 6 := (idx t).2.2.2

/-- The array's row of a block's row. -/
def row (t : Fin cfg0.N) (a : Fin 1024) : Fin 2048 := ⟨t.val / 3 * 1024 + a.val, by have := bound t; omega⟩
/-- The array's column of a block's column. -/
def col (t : Fin cfg0.N) (b : Fin 1024) : Fin 3072 := ⟨t.val % 3 * 1024 + b.val, by have := bound t; omega⟩

/-- The point's block of an operand. -/
abbrev sB : FVec Ideal S16x1024 .f32 := iblk m c 0 t

theorem sB_at (a : Fin 1024) (k : Fin 16) : sB m c t (ix2 k a) = aS m c (ix2 k (row t a)) := by
  have key : ∀ Z : FVec Ideal S16x2048 .f32, ((cfg0.win 0).blk t).view.read (Elt Ideal) Z (ix2 k a) = Z (ix2 k ⟨t.val / 3 * 1024 + a.val, by have := bound t; omega⟩) := by
    intro Z
    blk_ext [idx t]
  refine (key (V m c main_arg0)).trans ?_
  rw [V_main_arg0]
  rfl

/-- The point's block of an operand. -/
abbrev dB : FVec Ideal S16x1024 .f32 := iblk m c 1 t

theorem dB_at (k : Fin 16) (b : Fin 1024) : dB m c t (ix2 k b) = aD m c (ix2 k (col t b)) := by
  have key : ∀ Z : FVec Ideal S16x3072 .f32, ((cfg0.win 1).blk t).view.read (Elt Ideal) Z (ix2 k b) = Z (ix2 k ⟨t.val % 3 * 1024 + b.val, by have := bound t; omega⟩) := by
    intro Z
    blk_ext [idx t]
  refine (key (V m c main_arg1)).trans ?_
  rw [V_main_arg1]
  rfl

/-- A row of the product of the operands. -/
def dot0 (X : FVec Ideal S16x2048 .f32) (Y : FVec Ideal S16x3072 .f32) (a : Fin 2048) (b : Fin 3072) : EReal :=
  ∑ k : Fin 16, X (ix2 k a) * Y (ix2 k b)

theorem dot0_at (a : Fin 1024) (b : Fin 1024) :
    (∑ k : Fin 16, sB m c t (ix2 k a) * dB m c t (ix2 k b)) = dot0 (aS m c) (aD m c) (row t a) (col t b) := by
  unfold dot0
  exact Finset.sum_congr rfl fun k _ => congrArg₂ (· * ·) (sB_at m c t a k) (dB_at m c t k b)

theorem out2_at (x0 : FVec Ideal S16x1024 .f32) (x1 : FVec Ideal S16x1024 .f32) (a : Fin 1024) (b : Fin 1024) :
    out0_2 (F := Ideal) x0 x1 (ix2 a b) = (∑ k : Fin 16, x0 (ix2 k a) * x1 (ix2 k b)) := by
  frame_out
  pointwise [k0_pay1]

theorem ref2_at (X0 : FVec Ideal S16x2048 .f32) (X1 : FVec Ideal S16x3072 .f32) (a : Fin 2048) (b : Fin 3072) :
    Cert.ModDwRefIdeal.Read.val_main_v3 (F := Ideal) X0 X1 (ix2 a b) = dot0 X0 X1 a b := by
  open Cert.ModDwRefIdeal.Read in
  pointwise [val_main_v3, val_main_v2, dot0]
  exact Finset.sum_congr rfl fun k _ => mul_comm _ _

/-- The array after the run is the reference's. -/
theorem arr2 : (dats m 0 c).arrAt 2 cfg0.N = Cert.ModDwRefIdeal.Read.val_main_v3 (F := Ideal) (aS m c) (aD m c) :=
  (dats m 0 c).arrAt_eq_of_covers 2 _ (by decide +kernel) fun t hf y => by
    blk_simp
    rw [after0_2]
    have ht := bound t
    obtain ⟨a, b, rfl⟩ : ∃ (a : Fin 1024) (b : Fin 1024), y = ix2 a b := ⟨y 0, y 1, by funext k; fin_cases k <;> rfl⟩
    have e : (win0_2.blk t).view.emb (ix2 a b) = ix2 (row t a) (col t b) := by
      simp only [row, col]
      blk_ext [idx t]
    rw [e, ref2_at]
    refine (out2_at (sB m c t) (dB m c t) a b).trans ?_
    rw [dot0_at m c t a b]

end Cert.ModDwIdeal.Value
-- ==== Proof.ModDxVal.lean ====
/- The gradient of the activated condition: the call's array is the reference's. -/
module

public import proofs.«01_k».proof.Proof.Gen.ModDxIdeal.Value
public import proofs.«01_k».proof.Proof.Gen.ModDxRefIdeal.Read
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ModDxIdeal.Value

open Cert.ModDxIdeal Cert.ModDxIdeal.Gen

variable (m : (ℓ : Loc nD τ sig) → Buf (Elt Ideal) ℓ) (c : Dev nD)

/-- The cotangent, as launched. -/
abbrev aD : FVec Ideal S16x3072 .f32 := m ((c : Thread nD τ).loc main_arg0)
/-- The weights, as launched. -/
abbrev aW : FVec Ideal S2048x3072 .f32 := m ((c : Thread nD τ).loc main_arg1)

theorem idx : ∀ t : Fin cfg0.N, win0_0.index t = ![0, t.val % 2]
    ∧ win0_1.index t = ![t.val / 2, t.val % 2]
    ∧ win0_2.index t = ![0, t.val / 2] ∧ t.val / 2 < 2 :=
  (by decide +kernel : ∀ t : Fin grid0.N, _)

variable (t : Fin cfg0.N)

theorem bound : t.val / 2 < 2 := (idx t).2.2.2

/-- The place in the summed axis of a point's lane. -/
def lane (t : Fin cfg0.N) (k : Fin 1536) : Fin 3072 := ⟨t.val % 2 * 1536 + k.val, by omega⟩
/-- The array's column of a block's column. -/
def col (t : Fin cfg0.N) (b : Fin 1024) : Fin 2048 := ⟨t.val / 2 * 1024 + b.val, by have := bound t; omega⟩

/-- The point's block of an operand. -/
abbrev bD : FVec Ideal S16x1536 .f32 := iblk m c 0 t

theorem bD_at (a : Fin 16) (k : Fin 1536) : bD m c t (ix2 a k) = aD m c (ix2 a (lane t k)) := by
  have key : ∀ Z : FVec Ideal S16x3072 .f32, ((cfg0.win 0).blk t).view.read (Elt Ideal) Z (ix2 a k)
      = Z (ix2 a ⟨t.val % 2 * 1536 + k.val, by omega⟩) := by
    intro Z
    blk_ext [idx t]
  refine (key (V m c main_arg0)).trans ?_
  rw [V_main_arg0]
  rfl

/-- The point's block of an operand. -/
abbrev bW : FVec Ideal S1024x1536 .f32 := iblk m c 1 t

theorem bW_at (b : Fin 1024) (k : Fin 1536) : bW m c t (ix2 b k) = aW m c (ix2 (col t b) (lane t k)) := by
  have key : ∀ Z : FVec Ideal S2048x3072 .f32, ((cfg0.win 1).blk t).view.read (Elt Ideal) Z (ix2 b k)
      = Z (ix2 ⟨t.val / 2 * 1024 + b.val, by have := bound t; omega⟩ ⟨t.val % 2 * 1536 + k.val, by omega⟩) := by
    intro Z
    blk_ext [idx t]
  refine (key (V m c main_arg1)).trans ?_
  rw [V_main_arg1]
  rfl

/-- The accumulator after a block's first point. -/
theorem first2 (h : t.val % 2 = 0) (a : Fin 16) (b : Fin 1024) : (outsAt0 m c t.val t.isLt).2 (ix2 a b)
    = ∑ k : Fin 1536, bD m c t (ix2 a k) * bW m c t (ix2 b k) := by
  rw [outsAt0_A m c t h (by omega) (by omega)]; frame_out
  pointwise [k0_pay1, k0_pay2]

/-- The block after its last point. -/
theorem last2 (h : t.val % 2 = 1) (a : Fin 16) (b : Fin 1024) : (outsAt0 m c t.val t.isLt).1 (ix2 a b)
    = (show EReal from (outsAt0 m c (t.val - 1) (Nat.lt_of_le_of_lt (Nat.sub_le _ _) t.isLt)).2 (ix2 a b))
      + ∑ k : Fin 1536, bD m c t (ix2 a k) * bW m c t (ix2 b k) := by
  rw [outsAt0_B m c t (by omega) h h]; frame_out
  pointwise [k0_pay1, k0_pay2]
  exact congrArg (· + _) (congrFun (read_unread_whole _ _ _) _)

/-- What a block holds after its last point. -/
theorem block2 (ho : t.val % 2 = 1) (a : Fin 16) (b : Fin 1024) : (outsAt0 m c t.val t.isLt).1 (ix2 a b)
    = ∑ k : Fin 3072, aD m c (ix2 a k) * aW m c (ix2 (col t b) k) := by
  refine (last2 m c t ho a b).trans ?_
  have hp : t.val - 1 < cfg0.N := Nat.lt_of_le_of_lt (Nat.sub_le _ _) t.isLt
  have ef := first2 m c ⟨t.val - 1, hp⟩ (by show (t.val - 1) % 2 = 0; omega) a b
  refine (congrArg (· + _) ef).trans ?_
  have ec : col ⟨t.val - 1, hp⟩ b = col t b := by apply Fin.ext; simp only [col]; omega
  rw [Fin.sum_univ_two_halves 1536 1536 rfl]
  refine congrArg₂ (· + ·) (Finset.sum_congr rfl fun k _ => ?_) (Finset.sum_congr rfl fun k _ => ?_)
  · rw [bD_at, bW_at, ec]
    have ek : lane ⟨t.val - 1, hp⟩ k = ⟨k.val, by omega⟩ := by apply Fin.ext; simp only [lane]; omega
    rw [ek]
  · rw [bD_at, bW_at]
    have ek : lane t k = ⟨1536 + k.val, by omega⟩ := by apply Fin.ext; simp only [lane]; omega
    rw [ek]

/-- The reference's gradient at an index. -/
theorem ref2_at (X0 : FVec Ideal S16x3072 .f32) (X1 : FVec Ideal S2048x3072 .f32) (a : Fin 16) (b : Fin 2048) :
    Cert.ModDxRefIdeal.Read.val_main_v2 (F := Ideal) X0 X1 (ix2 a b) = ∑ k : Fin 3072, X0 (ix2 a k) * X1 (ix2 b k) := by
  open Cert.ModDxRefIdeal.Read in
  pointwise [val_main_v2]

/-- The array after the run is the reference's. -/
theorem arr2 : (dats m 0 c).arrAt 2 cfg0.N = Cert.ModDxRefIdeal.Read.val_main_v2 (F := Ideal) (aD m c) (aW m c) :=
  (dats m 0 c).arrAt_eq_of_covers 2 _ (by decide +kernel) fun t hf y => by
    blk_simp
    rw [after0_2]
    have ht := bound t
    have ho : t.val % 2 = 1 := (flush0_2 t).mp hf
    obtain ⟨a, b, rfl⟩ : ∃ (a : Fin 16) (b : Fin 1024), y = ix2 a b := ⟨y 0, y 1, by funext k; fin_cases k <;> rfl⟩
    have e : (win0_2.blk t).view.emb (ix2 a b) = ix2 a (col t b) := by
      simp only [col]
      blk_ext [idx t]
    rw [e, ref2_at]
    exact block2 m c t ho a b

end Cert.ModDxIdeal.Value
-- ==== Proof.lean ====
/- The certificate: the frames of every program named, and, for each call, the equality of its results with its
   reference's over the extended reals. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.OutDx
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.OutDxRefIdeal.Read
public import proofs.«01_k».proof.Proof.Gen.OutDw
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutDwRefIdeal.Read
public import proofs.«01_k».proof.Proof.Gen.InDx
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxIdeal.Value
public import proofs.«01_k».proof.Proof.Gen.InDxRefIdeal
public import proofs.«01_k».proof.Proof.Gen.InDxRefIdeal.Run
public import proofs.«01_k».proof.Proof.Gen.InDxRefIdeal.Read
public import proofs.«01_k».proof.Proof.Gen.InDw
public import proofs.«01_k».proof.Proof.Gen.InDwIdeal
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwIdeal.Value
public import proofs.«01_k».proof.Proof.Gen.InDwRefIdeal
public import proofs.«01_k».proof.Proof.Gen.InDwRefIdeal.Run
public import proofs.«01_k».proof.Proof.Gen.InDwRefIdeal.Read
public import proofs.«01_k».proof.Proof.Gen.InDwA
public import proofs.«01_k».proof.Proof.Gen.InDwAIdeal
public import proofs.«01_k».proof.Proof.Gen.InDwAIdeal.Skeleton
public import proofs.«01_k».proof.Proof.Gen.InDwAIdeal.Launch
public import proofs.«01_k».proof.Proof.Gen.InDwAIdeal.Points
public import proofs.«01_k».proof.Proof.Gen.InDwAIdeal.Frame
public import proofs.«01_k».proof.Proof.Gen.InDwAIdeal.Value
public import proofs.«01_k».proof.Proof.Gen.InDwARefIdeal
public import proofs.«01_k».proof.Proof.Gen.InDwARefIdeal.Run
public import proofs.«01_k».proof.Proof.Gen.InDwARefIdeal.Read
public import proofs.«01_k».proof.Proof.Gen.FfnIn
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInIdeal.Value
public import proofs.«01_k».proof.Proof.Gen.FfnInRefIdeal
public import proofs.«01_k».proof.Proof.Gen.FfnInRefIdeal.Run
public import proofs.«01_k».proof.Proof.Gen.FfnInRefIdeal.Read
public import proofs.«01_k».proof.Proof.Gen.OutProj
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.MergeDx
public import proofs.«01_k».proof.Proof.Gen.MergeDxIdeal
public import proofs.«01_k».proof.Proof.Gen.MergeDxIdeal.Skeleton
public import proofs.«01_k».proof.Proof.Gen.MergeDxIdeal.Launch
public import proofs.«01_k».proof.Proof.Gen.MergeDxIdeal.Points
public import proofs.«01_k».proof.Proof.Gen.MergeDxIdeal.Frame
public import proofs.«01_k».proof.Proof.Gen.MergeDxIdeal.Value
public import proofs.«01_k».proof.Proof.Gen.MergeDxRefIdeal
public import proofs.«01_k».proof.Proof.Gen.MergeDxRefIdeal.Run
public import proofs.«01_k».proof.Proof.Gen.MergeDxRefIdeal.Read
public import proofs.«01_k».proof.Proof.Gen.MergeDw
public import proofs.«01_k».proof.Proof.Gen.MergeDwIdeal
public import proofs.«01_k».proof.Proof.Gen.MergeDwIdeal.Skeleton
public import proofs.«01_k».proof.Proof.Gen.MergeDwIdeal.Launch
public import proofs.«01_k».proof.Proof.Gen.MergeDwIdeal.Points
public import proofs.«01_k».proof.Proof.Gen.MergeDwIdeal.Frame
public import proofs.«01_k».proof.Proof.Gen.MergeDwIdeal.Value
public import proofs.«01_k».proof.Proof.Gen.MergeDwRefIdeal
public import proofs.«01_k».proof.Proof.Gen.MergeDwRefIdeal.Run
public import proofs.«01_k».proof.Proof.Gen.MergeDwRefIdeal.Read
public import proofs.«01_k».proof.Proof.Gen.BrAttn
public import proofs.«01_k».proof.Proof.Gen.BrAttnIdeal
public import proofs.«01_k».proof.Proof.Gen.BrAttnIdeal.Skeleton
public import proofs.«01_k».proof.Proof.Gen.BrAttnIdeal.Launch
public import proofs.«01_k».proof.Proof.Gen.BrAttnIdeal.Points
public import proofs.«01_k».proof.Proof.Gen.BrAttnIdeal.Frame
public import proofs.«01_k».proof.Proof.Gen.BrAttnIdeal.Value
public import proofs.«01_k».proof.Proof.Gen.BrAttnRefIdeal
public import proofs.«01_k».proof.Proof.Gen.BrAttnRefIdeal.Run
public import proofs.«01_k».proof.Proof.Gen.BrAttnRefIdeal.Read
public import proofs.«01_k».proof.Proof.Gen.BrSgu
public import proofs.«01_k».proof.Proof.Gen.BrSguIdeal
public import proofs.«01_k».proof.Proof.Gen.BrSguIdeal.Skeleton
public import proofs.«01_k».proof.Proof.Gen.BrSguIdeal.Launch
public import proofs.«01_k».proof.Proof.Gen.BrSguIdeal.Points
public import proofs.«01_k».proof.Proof.Gen.BrSguIdeal.Frame
public import proofs.«01_k».proof.Proof.Gen.BrSguIdeal.Value
public import proofs.«01_k».proof.Proof.Gen.BrSguRefIdeal
public import proofs.«01_k».proof.Proof.Gen.BrSguRefIdeal.Run
public import proofs.«01_k».proof.Proof.Gen.BrSguRefIdeal.Read
public import proofs.«01_k».proof.Proof.Gen.BrDx
public import proofs.«01_k».proof.Proof.Gen.BrDxIdeal
public import proofs.«01_k».proof.Proof.Gen.BrDxIdeal.Skeleton
public import proofs.«01_k».proof.Proof.Gen.BrDxIdeal.Launch
public import proofs.«01_k».proof.Proof.Gen.BrDxIdeal.Points
public import proofs.«01_k».proof.Proof.Gen.BrDxIdeal.Frame
public import proofs.«01_k».proof.Proof.Gen.BrDxIdeal.Value
public import proofs.«01_k».proof.Proof.Gen.BrDxRefIdeal
public import proofs.«01_k».proof.Proof.Gen.BrDxRefIdeal.Run
public import proofs.«01_k».proof.Proof.Gen.BrDxRefIdeal.Read
public import proofs.«01_k».proof.Proof.Gen.BrDw
public import proofs.«01_k».proof.Proof.Gen.BrDwIdeal
public import proofs.«01_k».proof.Proof.Gen.BrDwIdeal.Skeleton
public import proofs.«01_k».proof.Proof.Gen.BrDwIdeal.Launch
public import proofs.«01_k».proof.Proof.Gen.BrDwIdeal.Points
public import proofs.«01_k».proof.Proof.Gen.BrDwIdeal.Frame
public import proofs.«01_k».proof.Proof.Gen.BrDwIdeal.Value
public import proofs.«01_k».proof.Proof.Gen.BrDwRefIdeal
public import proofs.«01_k».proof.Proof.Gen.BrDwRefIdeal.Run
public import proofs.«01_k».proof.Proof.Gen.BrDwRefIdeal.Read
public import proofs.«01_k».proof.Proof.Gen.Gates
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesIdeal.Value
public import proofs.«01_k».proof.Proof.Gen.GatesRefIdeal
public import proofs.«01_k».proof.Proof.Gen.GatesRefIdeal.Run
public import proofs.«01_k».proof.Proof.Gen.GatesRefIdeal.Read
public import proofs.«01_k».proof.Proof.Gen.Uv
public import proofs.«01_k».proof.Proof.Gen.UvIdeal
public import proofs.«01_k».proof.Proof.Gen.UvIdeal.Skeleton
public import proofs.«01_k».proof.Proof.Gen.UvIdeal.Launch
public import proofs.«01_k».proof.Proof.Gen.UvIdeal.Points
public import proofs.«01_k».proof.Proof.Gen.UvIdeal.Frame
public import proofs.«01_k».proof.Proof.Gen.UvIdeal.Value
public import proofs.«01_k».proof.Proof.Gen.UvRefIdeal
public import proofs.«01_k».proof.Proof.Gen.UvRefIdeal.Run
public import proofs.«01_k».proof.Proof.Gen.UvRefIdeal.Read
public import proofs.«01_k».proof.Proof.Gen.GatesDw
public import proofs.«01_k».proof.Proof.Gen.GatesDwIdeal
public import proofs.«01_k».proof.Proof.Gen.GatesDwIdeal.Skeleton
public import proofs.«01_k».proof.Proof.Gen.GatesDwIdeal.Launch
public import proofs.«01_k».proof.Proof.Gen.GatesDwIdeal.Points
public import proofs.«01_k».proof.Proof.Gen.GatesDwIdeal.Frame
public import proofs.«01_k».proof.Proof.Gen.GatesDwIdeal.Value
public import proofs.«01_k».proof.Proof.Gen.GatesDwRefIdeal
public import proofs.«01_k».proof.Proof.Gen.GatesDwRefIdeal.Run
public import proofs.«01_k».proof.Proof.Gen.GatesDwRefIdeal.Read
public import proofs.«01_k».proof.Proof.Gen.UvDw
public import proofs.«01_k».proof.Proof.Gen.UvDwIdeal
public import proofs.«01_k».proof.Proof.Gen.UvDwIdeal.Skeleton
public import proofs.«01_k».proof.Proof.Gen.UvDwIdeal.Launch
public import proofs.«01_k».proof.Proof.Gen.UvDwIdeal.Points
public import proofs.«01_k».proof.Proof.Gen.UvDwIdeal.Frame
public import proofs.«01_k».proof.Proof.Gen.UvDwIdeal.Value
public import proofs.«01_k».proof.Proof.Gen.UvDwRefIdeal
public import proofs.«01_k».proof.Proof.Gen.UvDwRefIdeal.Run
public import proofs.«01_k».proof.Proof.Gen.UvDwRefIdeal.Read
public import proofs.«01_k».proof.Proof.Gen.ProjDx
public import proofs.«01_k».proof.Proof.Gen.ProjDxIdeal
public import proofs.«01_k».proof.Proof.Gen.ProjDxIdeal.Skeleton
public import proofs.«01_k».proof.Proof.Gen.ProjDxIdeal.Launch
public import proofs.«01_k».proof.Proof.Gen.ProjDxIdeal.Points
public import proofs.«01_k».proof.Proof.Gen.ProjDxIdeal.Frame
public import proofs.«01_k».proof.Proof.Gen.ProjDxIdeal.Value
public import proofs.«01_k».proof.Proof.Gen.ProjDxRefIdeal
public import proofs.«01_k».proof.Proof.Gen.ProjDxRefIdeal.Run
public import proofs.«01_k».proof.Proof.Gen.ProjDxRefIdeal.Read
public import proofs.«01_k».proof.Proof.Gen.AttnFwd
public import proofs.«01_k».proof.Proof.Gen.AttnFwdIdeal
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdIdeal.Value
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.Gen.FfnOut
public import proofs.«01_k».proof.Proof.Gen.FfnOutIdeal
public import proofs.«01_k».proof.Proof.Gen.FfnOutIdeal.Skeleton
public import proofs.«01_k».proof.Proof.Gen.FfnOutIdeal.Launch
public import proofs.«01_k».proof.Proof.Gen.FfnOutIdeal.Points
public import proofs.«01_k».proof.Proof.Gen.FfnOutIdeal.Frame
public import proofs.«01_k».proof.Proof.Gen.FfnOutIdeal.Value
public import proofs.«01_k».proof.Proof.Gen.FfnOutRefIdeal
public import proofs.«01_k».proof.Proof.Gen.FfnOutRefIdeal.Run
public import proofs.«01_k».proof.Proof.Gen.FfnOutRefIdeal.Read
public import proofs.«01_k».proof.Proof.Gen.ProjQ
public import proofs.«01_k».proof.Proof.Gen.ProjQIdeal
public import proofs.«01_k».proof.Proof.Gen.ProjQIdeal.Skeleton
public import proofs.«01_k».proof.Proof.Gen.ProjQIdeal.Launch
public import proofs.«01_k».proof.Proof.Gen.ProjQIdeal.Points
public import proofs.«01_k».proof.Proof.Gen.ProjQIdeal.Frame
public import proofs.«01_k».proof.Proof.Gen.ProjQIdeal.Value
public import proofs.«01_k».proof.Proof.Gen.ProjQRefIdeal
public import proofs.«01_k».proof.Proof.Gen.ProjQRefIdeal.Run
public import proofs.«01_k».proof.Proof.Gen.ProjQRefIdeal.Read
public import proofs.«01_k».proof.Proof.Gen.ProjKv
public import proofs.«01_k».proof.Proof.Gen.ProjKvIdeal
public import proofs.«01_k».proof.Proof.Gen.ProjKvIdeal.Skeleton
public import proofs.«01_k».proof.Proof.Gen.ProjKvIdeal.Launch
public import proofs.«01_k».proof.Proof.Gen.ProjKvIdeal.Points
public import proofs.«01_k».proof.Proof.Gen.ProjKvIdeal.Frame
public import proofs.«01_k».proof.Proof.Gen.ProjKvIdeal.Value
public import proofs.«01_k».proof.Proof.Gen.ProjKvRefIdeal
public import proofs.«01_k».proof.Proof.Gen.ProjKvRefIdeal.Run
public import proofs.«01_k».proof.Proof.Gen.ProjKvRefIdeal.Read
public import proofs.«01_k».proof.Proof.Gen.QUp
public import proofs.«01_k».proof.Proof.Gen.QUpIdeal
public import proofs.«01_k».proof.Proof.Gen.QUpIdeal.Skeleton
public import proofs.«01_k».proof.Proof.Gen.QUpIdeal.Launch
public import proofs.«01_k».proof.Proof.Gen.QUpIdeal.Points
public import proofs.«01_k».proof.Proof.Gen.QUpIdeal.Frame
public import proofs.«01_k».proof.Proof.Gen.QUpIdeal.Value
public import proofs.«01_k».proof.Proof.Gen.QUpRefIdeal
public import proofs.«01_k».proof.Proof.Gen.QUpRefIdeal.Run
public import proofs.«01_k».proof.Proof.Gen.QUpRefIdeal.Read
public import proofs.«01_k».proof.Proof.Gen.KvUp
public import proofs.«01_k».proof.Proof.Gen.KvUpIdeal
public import proofs.«01_k».proof.Proof.Gen.KvUpIdeal.Skeleton
public import proofs.«01_k».proof.Proof.Gen.KvUpIdeal.Launch
public import proofs.«01_k».proof.Proof.Gen.KvUpIdeal.Points
public import proofs.«01_k».proof.Proof.Gen.KvUpIdeal.Frame
public import proofs.«01_k».proof.Proof.Gen.KvUpIdeal.Value
public import proofs.«01_k».proof.Proof.Gen.KvUpRefIdeal
public import proofs.«01_k».proof.Proof.Gen.KvUpRefIdeal.Run
public import proofs.«01_k».proof.Proof.Gen.KvUpRefIdeal.Read
public import proofs.«01_k».proof.Proof.Gen.ProjQDw
public import proofs.«01_k».proof.Proof.Gen.ProjQDwIdeal
public import proofs.«01_k».proof.Proof.Gen.ProjQDwIdeal.Skeleton
public import proofs.«01_k».proof.Proof.Gen.ProjQDwIdeal.Launch
public import proofs.«01_k».proof.Proof.Gen.ProjQDwIdeal.Points
public import proofs.«01_k».proof.Proof.Gen.ProjQDwIdeal.Frame
public import proofs.«01_k».proof.Proof.Gen.ProjQDwIdeal.Value
public import proofs.«01_k».proof.Proof.Gen.ProjQDwRefIdeal
public import proofs.«01_k».proof.Proof.Gen.ProjQDwRefIdeal.Run
public import proofs.«01_k».proof.Proof.Gen.ProjQDwRefIdeal.Read
public import proofs.«01_k».proof.Proof.Gen.QUpDw
public import proofs.«01_k».proof.Proof.Gen.QUpDwIdeal
public import proofs.«01_k».proof.Proof.Gen.QUpDwIdeal.Skeleton
public import proofs.«01_k».proof.Proof.Gen.QUpDwIdeal.Launch
public import proofs.«01_k».proof.Proof.Gen.QUpDwIdeal.Points
public import proofs.«01_k».proof.Proof.Gen.QUpDwIdeal.Frame
public import proofs.«01_k».proof.Proof.Gen.QUpDwIdeal.Value
public import proofs.«01_k».proof.Proof.Gen.QUpDwRefIdeal
public import proofs.«01_k».proof.Proof.Gen.QUpDwRefIdeal.Run
public import proofs.«01_k».proof.Proof.Gen.QUpDwRefIdeal.Read
public import proofs.«01_k».proof.Proof.Gen.KvUpDw
public import proofs.«01_k».proof.Proof.Gen.KvUpDwIdeal
public import proofs.«01_k».proof.Proof.Gen.KvUpDwIdeal.Skeleton
public import proofs.«01_k».proof.Proof.Gen.KvUpDwIdeal.Launch
public import proofs.«01_k».proof.Proof.Gen.KvUpDwIdeal.Points
public import proofs.«01_k».proof.Proof.Gen.KvUpDwIdeal.Frame
public import proofs.«01_k».proof.Proof.Gen.KvUpDwIdeal.Value
public import proofs.«01_k».proof.Proof.Gen.KvUpDwRefIdeal
public import proofs.«01_k».proof.Proof.Gen.KvUpDwRefIdeal.Run
public import proofs.«01_k».proof.Proof.Gen.KvUpDwRefIdeal.Read
public import proofs.«01_k».proof.Proof.Gen.KvUpDx
public import proofs.«01_k».proof.Proof.Gen.KvUpDxIdeal
public import proofs.«01_k».proof.Proof.Gen.KvUpDxIdeal.Skeleton
public import proofs.«01_k».proof.Proof.Gen.KvUpDxIdeal.Launch
public import proofs.«01_k».proof.Proof.Gen.KvUpDxIdeal.Points
public import proofs.«01_k».proof.Proof.Gen.KvUpDxIdeal.Frame
public import proofs.«01_k».proof.Proof.Gen.KvUpDxIdeal.Value
public import proofs.«01_k».proof.Proof.Gen.KvUpDxRefIdeal
public import proofs.«01_k».proof.Proof.Gen.KvUpDxRefIdeal.Run
public import proofs.«01_k».proof.Proof.Gen.KvUpDxRefIdeal.Read
public import proofs.«01_k».proof.Proof.Gen.ProjKvCtx
public import proofs.«01_k».proof.Proof.Gen.ProjKvCtxIdeal
public import proofs.«01_k».proof.Proof.Gen.ProjKvCtxIdeal.Skeleton
public import proofs.«01_k».proof.Proof.Gen.ProjKvCtxIdeal.Launch
public import proofs.«01_k».proof.Proof.Gen.ProjKvCtxIdeal.Points
public import proofs.«01_k».proof.Proof.Gen.ProjKvCtxIdeal.Frame
public import proofs.«01_k».proof.Proof.Gen.ProjKvCtxIdeal.Value
public import proofs.«01_k».proof.Proof.Gen.ProjKvCtxRefIdeal
public import proofs.«01_k».proof.Proof.Gen.ProjKvCtxRefIdeal.Run
public import proofs.«01_k».proof.Proof.Gen.ProjKvCtxRefIdeal.Read
public import proofs.«01_k».proof.Proof.Gen.ProjKvCtxDx
public import proofs.«01_k».proof.Proof.Gen.ProjKvCtxDxIdeal
public import proofs.«01_k».proof.Proof.Gen.ProjKvCtxDxIdeal.Skeleton
public import proofs.«01_k».proof.Proof.Gen.ProjKvCtxDxIdeal.Launch
public import proofs.«01_k».proof.Proof.Gen.ProjKvCtxDxIdeal.Points
public import proofs.«01_k».proof.Proof.Gen.ProjKvCtxDxIdeal.Frame
public import proofs.«01_k».proof.Proof.Gen.ProjKvCtxDxIdeal.Value
public import proofs.«01_k».proof.Proof.Gen.ProjKvCtxDxRefIdeal
public import proofs.«01_k».proof.Proof.Gen.ProjKvCtxDxRefIdeal.Run
public import proofs.«01_k».proof.Proof.Gen.ProjKvCtxDxRefIdeal.Read
public import proofs.«01_k».proof.Proof.Gen.ProjKvDw
public import proofs.«01_k».proof.Proof.Gen.ProjKvDwIdeal
public import proofs.«01_k».proof.Proof.Gen.ProjKvDwIdeal.Skeleton
public import proofs.«01_k».proof.Proof.Gen.ProjKvDwIdeal.Launch
public import proofs.«01_k».proof.Proof.Gen.ProjKvDwIdeal.Points
public import proofs.«01_k».proof.Proof.Gen.ProjKvDwIdeal.Frame
public import proofs.«01_k».proof.Proof.Gen.ProjKvDwRefIdeal
public import proofs.«01_k».proof.Proof.Gen.ProjKvDwRefIdeal.Run
public import proofs.«01_k».proof.Proof.Gen.ProjKvDwRefIdeal.Read
public import proofs.«01_k».proof.Proof.Gen.QUpDx
public import proofs.«01_k».proof.Proof.Gen.QUpDxIdeal
public import proofs.«01_k».proof.Proof.Gen.QUpDxIdeal.Skeleton
public import proofs.«01_k».proof.Proof.Gen.QUpDxIdeal.Launch
public import proofs.«01_k».proof.Proof.Gen.QUpDxIdeal.Points
public import proofs.«01_k».proof.Proof.Gen.QUpDxIdeal.Frame
public import proofs.«01_k».proof.Proof.Gen.QUpDxIdeal.Value
public import proofs.«01_k».proof.Proof.Gen.QUpDxRefIdeal
public import proofs.«01_k».proof.Proof.Gen.QUpDxRefIdeal.Run
public import proofs.«01_k».proof.Proof.Gen.QUpDxRefIdeal.Read
public import proofs.«01_k».proof.Proof.Gen.ModFwd
public import proofs.«01_k».proof.Proof.Gen.ModFwdIdeal
public import proofs.«01_k».proof.Proof.Gen.ModFwdIdeal.Skeleton
public import proofs.«01_k».proof.Proof.Gen.ModFwdIdeal.Launch
public import proofs.«01_k».proof.Proof.Gen.ModFwdIdeal.Points
public import proofs.«01_k».proof.Proof.Gen.ModFwdIdeal.Frame
public import proofs.«01_k».proof.Proof.Gen.ModFwdIdeal.Value
public import proofs.«01_k».proof.Proof.Gen.ModFwdRefIdeal
public import proofs.«01_k».proof.Proof.Gen.ModFwdRefIdeal.Run
public import proofs.«01_k».proof.Proof.Gen.ModFwdRefIdeal.Read
public import proofs.«01_k».proof.Proof.Gen.ModDw
public import proofs.«01_k».proof.Proof.Gen.ModDwIdeal
public import proofs.«01_k».proof.Proof.Gen.ModDwIdeal.Skeleton
public import proofs.«01_k».proof.Proof.Gen.ModDwIdeal.Launch
public import proofs.«01_k».proof.Proof.Gen.ModDwIdeal.Points
public import proofs.«01_k».proof.Proof.Gen.ModDwIdeal.Frame
public import proofs.«01_k».proof.Proof.Gen.ModDwIdeal.Value
public import proofs.«01_k».proof.Proof.Gen.ModDwRefIdeal
public import proofs.«01_k».proof.Proof.Gen.ModDwRefIdeal.Run
public import proofs.«01_k».proof.Proof.Gen.ModDwRefIdeal.Read
public import proofs.«01_k».proof.Proof.Gen.ModDx
public import proofs.«01_k».proof.Proof.Gen.ModDxIdeal
public import proofs.«01_k».proof.Proof.Gen.ModDxIdeal.Skeleton
public import proofs.«01_k».proof.Proof.Gen.ModDxIdeal.Launch
public import proofs.«01_k».proof.Proof.Gen.ModDxIdeal.Points
public import proofs.«01_k».proof.Proof.Gen.ModDxIdeal.Frame
public import proofs.«01_k».proof.Proof.Gen.ModDxIdeal.Value
public import proofs.«01_k».proof.Proof.Gen.ModDxRefIdeal
public import proofs.«01_k».proof.Proof.Gen.ModDxRefIdeal.Run
public import proofs.«01_k».proof.Proof.Gen.ModDxRefIdeal.Read
public import proofs.«01_k».proof.Proof.Gen.Pre_ffn_out_dx_finite
public import proofs.«01_k».proof.Proof.Gen.Pre_attn_fwd_finite
public import proofs.«01_k».proof.Proof.Frames
public import proofs.«01_k».proof.Proof.Finite
public import proofs.«01_k».proof.Proof.OutDxVal
public import proofs.«01_k».proof.Proof.OutDwVal
public import proofs.«01_k».proof.Proof.InDxVal
public import proofs.«01_k».proof.Proof.InDwVal
public import proofs.«01_k».proof.Proof.InDwAVal
public import proofs.«01_k».proof.Proof.FfnInVal
public import proofs.«01_k».proof.Proof.OutProjVal
public import proofs.«01_k».proof.Proof.MergeDxVal
public import proofs.«01_k».proof.Proof.MergeDwVal
public import proofs.«01_k».proof.Proof.BrAttnVal
public import proofs.«01_k».proof.Proof.BrSguVal
public import proofs.«01_k».proof.Proof.BrDxVal
public import proofs.«01_k».proof.Proof.BrDwVal
public import proofs.«01_k».proof.Proof.GatesVal
public import proofs.«01_k».proof.Proof.UvVal
public import proofs.«01_k».proof.Proof.GatesDwVal
public import proofs.«01_k».proof.Proof.UvDwVal
public import proofs.«01_k».proof.Proof.ProjDxVal
public import proofs.«01_k».proof.Proof.AttnFwdVal
public import proofs.«01_k».proof.Proof.FfnOutVal
public import proofs.«01_k».proof.Proof.ProjQVal
public import proofs.«01_k».proof.Proof.ProjKvVal
public import proofs.«01_k».proof.Proof.QUpVal
public import proofs.«01_k».proof.Proof.KvUpVal
public import proofs.«01_k».proof.Proof.ProjQDwVal
public import proofs.«01_k».proof.Proof.QUpDwVal
public import proofs.«01_k».proof.Proof.KvUpDwVal
public import proofs.«01_k».proof.Proof.KvUpDxVal
public import proofs.«01_k».proof.Proof.ProjKvCtxVal
public import proofs.«01_k».proof.Proof.ProjKvCtxDxVal
public import proofs.«01_k».proof.Proof.ProjKvDwVal
public import proofs.«01_k».proof.Proof.QUpDxVal
public import proofs.«01_k».proof.Proof.ModFwdVal
public import proofs.«01_k».proof.Proof.ModDwVal
public import proofs.«01_k».proof.Proof.ModDxVal
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel's three results are the reference's three gradients, over the extended reals, for finite arguments. -/
theorem algebraic_attn : Cert.algebraic_KernelIdeal_ReferenceIdeal_pre_finite := by
  pair_intro
  · run_from Cert.KernelIdeal.Value.run_blocks m g
  · refine (θ_run Cert.ReferenceIdeal.defs _ _).mono (fun r h c => ?_) (Cert.ReferenceIdeal.Value.run m' g')
    obtain ⟨h0, h1, h2, k⟩ := h c
    obtain ⟨a0, a1, a2, a3⟩ := hagree c
    have H := Cert.KernelIdeal.Value.real4 m hpre c
    refine ⟨?_, ?_, ?_, k⟩
    · rw [h0, Cert.ReferenceIdeal.Read.val_main_v54_eq, a0, a1, a2, a3]
      exact (Cert.KernelIdeal.Value.final6 m c H).symm
    · rw [h1, Cert.ReferenceIdeal.Read.val_main_v56_eq, a0, a1, a2, a3]
      exact (Cert.KernelIdeal.Value.final7 m c H).symm
    · refine (h2.trans (Cert.ReferenceIdeal.Read.val_main_v57_eq (F := Ideal) _ _ _)).trans ?_
      rw [a0, a1, a3]
      exact (Cert.KernelIdeal.Value.final8 m c H).symm

/-- The gradients of the activation's two arguments are the reference's, for finite arguments. -/
theorem algebraic_OutDx : Cert.algebraic_OutDxIdeal_OutDxRefIdeal_pre_ffn_out_dx_finite := by
  pair_intro
  · run_from Cert.OutDxIdeal.Value.run_blocks m g
  · refine (θ_run Cert.OutDxRefIdeal.defs _ _).mono (fun r h c => ?_) (Cert.OutDxRefIdeal.Value.run m' g')
    obtain ⟨h0, h1, k⟩ := h c
    obtain ⟨a0, a1, a2, a3⟩ := hagree c
    have H := Cert.OutDxIdeal.Value.real3 m c hpre
    refine ⟨?_, ?_, k⟩
    · refine (h0.trans (Cert.OutDxRefIdeal.Read.val_main_v11_eq (F := Ideal) _ _ _ _)).trans ?_
      rw [a0, a1, a2, a3]
      exact (Cert.OutDxIdeal.Value.finalA m c H).symm
    · refine (h1.trans (Cert.OutDxRefIdeal.Read.val_main_v12_eq (F := Ideal) _ _ _)).trans ?_
      rw [a0, a1, a2]
      exact (Cert.OutDxIdeal.Value.finalB m c).symm

/-- The gradient of the feed-forward's second weights is the reference's. -/
theorem algebraic_OutDw : Cert.algebraic_OutDwIdeal_OutDwRefIdeal := by
  pair_intro
  · run_from Cert.OutDwIdeal.Value.run_blocks m g
  · refine (θ_run Cert.OutDwRefIdeal.defs _ _).mono (fun r h c => ?_) (Cert.OutDwRefIdeal.Value.run m' g')
    obtain ⟨h0, k⟩ := h c
    obtain ⟨a0, a1⟩ := hagree c
    refine ⟨?_, k⟩
    refine (h0.trans (Cert.OutDwRefIdeal.Read.val_main_v6_eq (F := Ideal) _ _ )).trans ?_
    rw [a0, a1]
    exact (Cert.OutDwIdeal.Value.final m c).symm

/-- The gradient of the feed-forward's inputs is the reference's. -/
theorem algebraic_InDx : Cert.algebraic_InDxIdeal_InDxRefIdeal := by
  pair_intro
  · run_from Cert.InDxIdeal.Value.run_blocks m g
  · refine (θ_run Cert.InDxRefIdeal.defs _ _).mono (fun r h c => ?_) (Cert.InDxRefIdeal.Value.run m' g')
    obtain ⟨h0, k⟩ := h c
    obtain ⟨a0, a1, a2⟩ := hagree c
    refine ⟨?_, k⟩
    refine (h0.trans (Cert.InDxRefIdeal.Read.val_main_v8_eq (F := Ideal) _ _ _ )).trans ?_
    rw [a0, a1, a2]
    exact (Cert.InDxIdeal.Value.final m c).symm

/-- The gradient of the gated half's weights, in the buffer it shares, is the reference's. -/
theorem algebraic_InDw : Cert.algebraic_InDwIdeal_InDwRefIdeal := by
  pair_intro
  · run_from Cert.InDwIdeal.Value.run_blocks m g
  · refine (θ_run Cert.InDwRefIdeal.defs _ _).mono (fun r h c => ?_) (Cert.InDwRefIdeal.Value.run m' g')
    obtain ⟨h0, k⟩ := h c
    obtain ⟨a0, a1, a2⟩ := hagree c
    refine ⟨?_, k⟩
    refine (h0.trans (Cert.InDwRefIdeal.Read.val_main_v10_eq (F := Ideal) _ _ _ )).trans ?_
    rw [a0, a1, a2]
    exact (Cert.InDwIdeal.Value.final m c).symm

/-- The gradient of the activated half's weights, in the buffer it shares, is the reference's. -/
theorem algebraic_InDwA : Cert.algebraic_InDwAIdeal_InDwARefIdeal := by
  pair_intro
  · run_from Cert.InDwAIdeal.Value.run_blocks m g
  · refine (θ_run Cert.InDwARefIdeal.defs _ _).mono (fun r h c => ?_) (Cert.InDwARefIdeal.Value.run m' g')
    obtain ⟨h0, k⟩ := h c
    obtain ⟨a0, a1, a2⟩ := hagree c
    refine ⟨?_, k⟩
    refine (h0.trans (Cert.InDwARefIdeal.Read.val_main_v10_eq (F := Ideal) _ _ _)).trans ?_
    rw [a0, a1, a2]
    exact (Cert.InDwAIdeal.Value.final m c).symm

/-- The feed-forward's first products and its activation are the reference's. -/
theorem algebraic_FfnIn : Cert.algebraic_FfnInIdeal_FfnInRefIdeal := by
  pair_intro
  · run_from Cert.FfnInIdeal.Value.run_blocks m g
  · refine (θ_run Cert.FfnInRefIdeal.defs _ _).mono (fun r h c => ?_) (Cert.FfnInRefIdeal.Value.run m' g')
    obtain ⟨h0, h1, h2, k⟩ := h c
    obtain ⟨a0, a1⟩ := hagree c
    refine ⟨?_, ?_, ?_, k⟩
    · refine (h0.trans (Cert.FfnInRefIdeal.Read.val_main_v5_eq (F := Ideal) _ _)).trans ?_
      rw [a0, a1]
      exact (Cert.FfnInIdeal.Value.arr3 m c).symm
    · refine (h1.trans (Cert.FfnInRefIdeal.Read.val_main_v6_eq (F := Ideal) _ _)).trans ?_
      rw [a0, a1]
      exact (Cert.FfnInIdeal.Value.arr4 m c).symm
    · refine (h2.trans (Cert.FfnInRefIdeal.Read.val_main_v9_eq (F := Ideal) _ _)).trans ?_
      rw [a0, a1]
      exact (Cert.FfnInIdeal.Value.arr5 m c).symm

/-- The output projection and its result before the gate are the reference's. -/
theorem algebraic_OutProj : Cert.algebraic_OutProjIdeal_OutProjRefIdeal := by
  pair_intro
  · run_from Cert.OutProjIdeal.Value.run_blocks m g
  · refine (θ_run Cert.OutProjRefIdeal.defs _ _).mono (fun r h c => ?_) (Cert.OutProjRefIdeal.Value.run m' g')
    obtain ⟨h0, h1, k⟩ := h c
    obtain ⟨a0, a1, a2, a3⟩ := hagree c
    refine ⟨?_, ?_, k⟩
    · refine (h0.trans (Cert.OutProjRefIdeal.Read.val_main_v5_eq (F := Ideal) _ _ _ _)).trans ?_
      rw [a0, a1, a2, a3]
      exact (Cert.OutProjIdeal.Value.arr4 m c).symm
    · refine (h1.trans (Cert.OutProjRefIdeal.Read.val_main_v6_eq (F := Ideal) _ _)).trans ?_
      rw [a0, a1]
      exact (Cert.OutProjIdeal.Value.arr5 m c).symm

/-- The merge's gradients are the reference's. -/
theorem algebraic_MergeDx : Cert.algebraic_MergeDxIdeal_MergeDxRefIdeal := by
  pair_intro
  · run_from Cert.MergeDxIdeal.Value.run_blocks m g
  · refine (θ_run Cert.MergeDxRefIdeal.defs _ _).mono (fun r h c => ?_) (Cert.MergeDxRefIdeal.Value.run m' g')
    obtain ⟨h0, h1, h2, h3, k⟩ := h c
    obtain ⟨a0, a1, a2, a3, a4, a5⟩ := hagree c
    refine ⟨?_, ?_, ?_, ?_, k⟩
    · refine (h0.trans (Cert.MergeDxRefIdeal.Read.val_main_v35_eq (F := Ideal) _ _ _)).trans ?_
      rw [a0, a1, a4]
      exact (Cert.MergeDxIdeal.Value.arr6 m c).symm
    · refine (h1.trans (Cert.MergeDxRefIdeal.Read.val_main_v36_eq (F := Ideal) _ _ _)).trans ?_
      rw [a0, a1, a5]
      exact (Cert.MergeDxIdeal.Value.arr7 m c).symm
    · refine (h2.trans (Cert.MergeDxRefIdeal.Read.val_main_v37_eq (F := Ideal) _ _ _ _)).trans ?_
      rw [a0, a1, a2, a4]
      exact (Cert.MergeDxIdeal.Value.arr8 m c).symm
    · refine (h3.trans (Cert.MergeDxRefIdeal.Read.val_main_v38_eq (F := Ideal) _ _ _ _)).trans ?_
      rw [a0, a1, a3, a5]
      exact (Cert.MergeDxIdeal.Value.arr9 m c).symm

/-- The gradient of the output projection's weights is the reference's. -/
theorem algebraic_MergeDw : Cert.algebraic_MergeDwIdeal_MergeDwRefIdeal := by
  pair_intro
  · run_from Cert.MergeDwIdeal.Value.run_blocks m g
  · refine (θ_run Cert.MergeDwRefIdeal.defs _ _).mono (fun r h c => ?_) (Cert.MergeDwRefIdeal.Value.run m' g')
    obtain ⟨h0, k⟩ := h c
    obtain ⟨a0, a1⟩ := hagree c
    refine ⟨?_, k⟩
    refine (h0.trans (Cert.MergeDwRefIdeal.Read.val_main_v6_eq (F := Ideal) _ _)).trans ?_
    rw [a0, a1]
    exact (Cert.MergeDwIdeal.Value.arr2 m c).symm

/-- The attention's branch is the reference's. -/
theorem algebraic_BrAttn : Cert.algebraic_BrAttnIdeal_BrAttnRefIdeal := by
  pair_intro
  · run_from Cert.BrAttnIdeal.Value.run_blocks m g
  · refine (θ_run Cert.BrAttnRefIdeal.defs _ _).mono (fun r h c => ?_) (Cert.BrAttnRefIdeal.Value.run m' g')
    obtain ⟨h0, k⟩ := h c
    obtain ⟨a0, a1⟩ := hagree c
    refine ⟨?_, k⟩
    refine (h0.trans (Cert.BrAttnRefIdeal.Read.val_main_v3_eq (F := Ideal) _ _)).trans ?_
    rw [a0, a1]
    exact (Cert.BrAttnIdeal.Value.arr2 m c).symm

/-- The gating unit's branch and the merged branches are the reference's. -/
theorem algebraic_BrSgu : Cert.algebraic_BrSguIdeal_BrSguRefIdeal := by
  pair_intro
  · run_from Cert.BrSguIdeal.Value.run_blocks m g
  · refine (θ_run Cert.BrSguRefIdeal.defs _ _).mono (fun r h c => ?_) (Cert.BrSguRefIdeal.Value.run m' g')
    obtain ⟨h0, h1, k⟩ := h c
    obtain ⟨a0, a1, a2, a3, a4⟩ := hagree c
    refine ⟨?_, ?_, k⟩
    · refine (h0.trans (Cert.BrSguRefIdeal.Read.val_main_v17_eq (F := Ideal) _ _)).trans ?_
      rw [a0, a1]
      exact (Cert.BrSguIdeal.Value.arr5 m c).symm
    · refine (h1.trans (Cert.BrSguRefIdeal.Read.val_main_v22_eq (F := Ideal) _ _ _ _ _)).trans ?_
      rw [a0, a1, a2, a3, a4]
      exact (Cert.BrSguIdeal.Value.arr6 m c).symm

/-- The gradient of a branch's inputs is the reference's. -/
theorem algebraic_BrDx : Cert.algebraic_BrDxIdeal_BrDxRefIdeal := by
  pair_intro
  · run_from Cert.BrDxIdeal.Value.run_blocks m g
  · refine (θ_run Cert.BrDxRefIdeal.defs _ _).mono (fun r h c => ?_) (Cert.BrDxRefIdeal.Value.run m' g')
    obtain ⟨h0, k⟩ := h c
    obtain ⟨a0, a1⟩ := hagree c
    refine ⟨?_, k⟩
    refine (h0.trans (Cert.BrDxRefIdeal.Read.val_main_v5_eq (F := Ideal) _ _)).trans ?_
    rw [a0, a1]
    exact (Cert.BrDxIdeal.Value.arr2 m c).symm

/-- The gradient of a branch's weights is the reference's. -/
theorem algebraic_BrDw : Cert.algebraic_BrDwIdeal_BrDwRefIdeal := by
  pair_intro
  · run_from Cert.BrDwIdeal.Value.run_blocks m g
  · refine (θ_run Cert.BrDwRefIdeal.defs _ _).mono (fun r h c => ?_) (Cert.BrDwRefIdeal.Value.run m' g')
    obtain ⟨h0, k⟩ := h c
    obtain ⟨a0, a1⟩ := hagree c
    refine ⟨?_, k⟩
    refine (h0.trans (Cert.BrDwRefIdeal.Read.val_main_v8_eq (F := Ideal) _ _)).trans ?_
    rw [a0, a1]
    exact (Cert.BrDwIdeal.Value.arr2 m c).symm

/-- The two gates are the reference's. -/
theorem algebraic_Gates : Cert.algebraic_GatesIdeal_GatesRefIdeal := by
  pair_intro
  · run_from Cert.GatesIdeal.Value.run_blocks m g
  · refine (θ_run Cert.GatesRefIdeal.defs _ _).mono (fun r h c => ?_) (Cert.GatesRefIdeal.Value.run m' g')
    obtain ⟨h0, h1, k⟩ := h c
    obtain ⟨a0, a1⟩ := hagree c
    refine ⟨?_, ?_, k⟩
    · refine (h0.trans (Cert.GatesRefIdeal.Read.val_main_v6_eq (F := Ideal) _ _)).trans ?_
      rw [a0, a1]
      exact (Cert.GatesIdeal.Value.arr3 m c).symm
    · refine (h1.trans (Cert.GatesRefIdeal.Read.val_main_v7_eq (F := Ideal) _ _)).trans ?_
      rw [a0, a1]
      exact (Cert.GatesIdeal.Value.arr4 m c).symm

/-- The gating unit's two halves are the reference's. -/
theorem algebraic_Uv : Cert.algebraic_UvIdeal_UvRefIdeal := by
  pair_intro
  · run_from Cert.UvIdeal.Value.run_blocks m g
  · refine (θ_run Cert.UvRefIdeal.defs _ _).mono (fun r h c => ?_) (Cert.UvRefIdeal.Value.run m' g')
    obtain ⟨h0, h1, k⟩ := h c
    obtain ⟨a0, a1⟩ := hagree c
    refine ⟨?_, ?_, k⟩
    · refine (h0.trans (Cert.UvRefIdeal.Read.val_main_v6_eq (F := Ideal) _ _)).trans ?_
      rw [a0, a1]
      exact (Cert.UvIdeal.Value.arr3 m c).symm
    · refine (h1.trans (Cert.UvRefIdeal.Read.val_main_v7_eq (F := Ideal) _ _)).trans ?_
      rw [a0, a1]
      exact (Cert.UvIdeal.Value.arr4 m c).symm

/-- The gradients of the gates' weights are the reference's. -/
theorem algebraic_GatesDw : Cert.algebraic_GatesDwIdeal_GatesDwRefIdeal := by
  pair_intro
  · run_from Cert.GatesDwIdeal.Value.run_blocks m g
  · refine (θ_run Cert.GatesDwRefIdeal.defs _ _).mono (fun r h c => ?_) (Cert.GatesDwRefIdeal.Value.run m' g')
    obtain ⟨h0, h1, k⟩ := h c
    obtain ⟨a0, a1, a2⟩ := hagree c
    refine ⟨?_, ?_, k⟩
    · refine (h0.trans (Cert.GatesDwRefIdeal.Read.val_main_v11_eq (F := Ideal) _ _)).trans ?_
      rw [a0, a1]
      exact (Cert.GatesDwIdeal.Value.arr3 m c).symm
    · refine (h1.trans (Cert.GatesDwRefIdeal.Read.val_main_v12_eq (F := Ideal) _ _)).trans ?_
      rw [a0, a2]
      exact (Cert.GatesDwIdeal.Value.arr4 m c).symm

/-- The gradients of the gating unit's weights are the reference's. -/
theorem algebraic_UvDw : Cert.algebraic_UvDwIdeal_UvDwRefIdeal := by
  pair_intro
  · run_from Cert.UvDwIdeal.Value.run_blocks m g
  · refine (θ_run Cert.UvDwRefIdeal.defs _ _).mono (fun r h c => ?_) (Cert.UvDwRefIdeal.Value.run m' g')
    obtain ⟨h0, h1, k⟩ := h c
    obtain ⟨a0, a1, a2⟩ := hagree c
    refine ⟨?_, ?_, k⟩
    · refine (h0.trans (Cert.UvDwRefIdeal.Read.val_main_v11_eq (F := Ideal) _ _)).trans ?_
      rw [a0, a1]
      exact (Cert.UvDwIdeal.Value.arr3 m c).symm
    · refine (h1.trans (Cert.UvDwRefIdeal.Read.val_main_v12_eq (F := Ideal) _ _)).trans ?_
      rw [a0, a2]
      exact (Cert.UvDwIdeal.Value.arr4 m c).symm

/-- The gradient of the combined projection's inputs is the reference's. -/
theorem algebraic_ProjDx : Cert.algebraic_ProjDxIdeal_ProjDxRefIdeal := by
  pair_intro
  · run_from Cert.ProjDxIdeal.Value.run_blocks m g
  · refine (θ_run Cert.ProjDxRefIdeal.defs _ _).mono (fun r h c => ?_) (Cert.ProjDxRefIdeal.Value.run m' g')
    obtain ⟨h0, k⟩ := h c
    obtain ⟨a0, a1, a2, a3, a4, a5, a6⟩ := hagree c
    refine ⟨?_, k⟩
    refine (h0.trans (Cert.ProjDxRefIdeal.Read.val_main_v36_eq (F := Ideal) _ _ _ _ _ _ _)).trans ?_
    rw [a0, a1, a2, a3, a4, a5, a6]
    exact (Cert.ProjDxIdeal.Value.arr12 m c).symm

/-- The attention's result and its saved logarithms are the reference's. -/
theorem algebraic_AttnFwd : Cert.algebraic_AttnFwdIdeal_AttnFwdRefIdeal_pre_attn_fwd_finite := by
  pair_intro
  · run_from Cert.AttnFwdIdeal.Value.run_blocks m g
  · refine (θ_run Cert.AttnFwdRefIdeal.defs _ _).mono (fun r h c => ?_) (Cert.AttnFwdRefIdeal.Value.run m' g')
    obtain ⟨h0, h1, k⟩ := h c
    obtain ⟨a0, a1, a2⟩ := hagree c
    have H : Cert.AttnFwdIdeal.Value.RealArgs m c :=
      ⟨Cert.Core.real_of (Cert.AttnFwdIdeal.Value.aq m c) _ (hpre c).1, Cert.Core.real_of (Cert.AttnFwdIdeal.Value.ak m c) _ (hpre c).2⟩
    refine ⟨?_, ?_, k⟩
    · refine (h0.trans (Cert.AttnFwdRefIdeal.Read.val_main_v23_eq (F := Ideal) _ _ _)).trans ?_
      rw [a0, a1, a2]
      exact (Cert.AttnFwdIdeal.Value.arr3 m c H).symm
    · refine (h1.trans (Cert.AttnFwdRefIdeal.Read.val_main_v27_eq (F := Ideal) _ _)).trans ?_
      rw [a0, a1]
      exact (Cert.AttnFwdIdeal.Value.arr4 m c H).symm

/-- The loss, its gradient and the gate's gradient are the reference's. -/
theorem algebraic_FfnOut : Cert.algebraic_FfnOutIdeal_FfnOutRefIdeal := by
  pair_intro
  · run_from Cert.FfnOutIdeal.Value.run_blocks m g
  · refine (θ_run Cert.FfnOutRefIdeal.defs _ _).mono (fun r h c => ?_) (Cert.FfnOutRefIdeal.Value.run m' g')
    obtain ⟨h0, h1, h2, h3, k⟩ := h c
    obtain ⟨a0, a1, a2, a3, a4⟩ := hagree c
    refine ⟨?_, ?_, ?_, ?_, k⟩
    · refine (h0.trans (Cert.FfnOutRefIdeal.Read.val_main_v20_eq (F := Ideal) _ _ _ _ _)).trans ?_
      rw [a0, a1, a2, a3, a4]
      exact (Cert.FfnOutIdeal.Value.arr5 m c).symm
    · refine (h1.trans (Cert.FfnOutRefIdeal.Read.val_main_v37_eq (F := Ideal) _ _ _ _ _)).trans ?_
      rw [a0, a1, a2, a3, a4]
      exact (Cert.FfnOutIdeal.Value.arr6 m c).symm
    · refine (h2.trans (Cert.FfnOutRefIdeal.Read.val_main_v39_eq (F := Ideal) _ _ _ _ _)).trans ?_
      rw [a0, a1, a2, a3, a4]
      exact (Cert.FfnOutIdeal.Value.arr7 m c).symm
    · refine (h3.trans (Cert.FfnOutRefIdeal.Read.val_main_v41_eq (F := Ideal) _ _ _ _ _)).trans ?_
      rw [a0, a1, a2, a3, a4]
      exact (Cert.FfnOutIdeal.Value.arr8 m c).symm

/-- The queries' projection and its normalized form are the reference's. -/
theorem algebraic_ProjQ : Cert.algebraic_ProjQIdeal_ProjQRefIdeal := by
  pair_intro
  · run_from Cert.ProjQIdeal.Value.run_blocks m g
  · refine (θ_run Cert.ProjQRefIdeal.defs _ _).mono (fun r h c => ?_) (Cert.ProjQRefIdeal.Value.run m' g')
    obtain ⟨h0, h1, k⟩ := h c
    obtain ⟨a0, a1, a2⟩ := hagree c
    refine ⟨?_, ?_, k⟩
    · refine (h0.trans (Cert.ProjQRefIdeal.Read.val_main_v2_eq (F := Ideal) _ _)).trans ?_
      rw [a0, a1]
      exact (Cert.ProjQIdeal.Value.arr3 m c).symm
    · refine (h1.trans (Cert.ProjQRefIdeal.Read.val_main_v15_eq (F := Ideal) _ _ _)).trans ?_
      rw [a0, a1, a2]
      exact (Cert.ProjQIdeal.Value.arr4 m c).symm

/-- The keys' and values' projection is the reference's. -/
theorem algebraic_ProjKv : Cert.algebraic_ProjKvIdeal_ProjKvRefIdeal := by
  pair_intro
  · run_from Cert.ProjKvIdeal.Value.run_blocks m g
  · refine (θ_run Cert.ProjKvRefIdeal.defs _ _).mono (fun r h c => ?_) (Cert.ProjKvRefIdeal.Value.run m' g')
    obtain ⟨h0, k⟩ := h c
    obtain ⟨a0, a1⟩ := hagree c
    refine ⟨?_, k⟩
    refine (h0.trans (Cert.ProjKvRefIdeal.Read.val_main_v2_eq (F := Ideal) _ _)).trans ?_
    rw [a0, a1]
    exact (Cert.ProjKvIdeal.Value.arr2 m c).symm

/-- The queries' second projection is the reference's. -/
theorem algebraic_QUp : Cert.algebraic_QUpIdeal_QUpRefIdeal := by
  pair_intro
  · run_from Cert.QUpIdeal.Value.run_blocks m g
  · refine (θ_run Cert.QUpRefIdeal.defs _ _).mono (fun r h c => ?_) (Cert.QUpRefIdeal.Value.run m' g')
    obtain ⟨h0, k⟩ := h c
    obtain ⟨a0, a1⟩ := hagree c
    refine ⟨?_, k⟩
    refine (h0.trans (Cert.QUpRefIdeal.Read.val_main_v2_eq (F := Ideal) _ _)).trans ?_
    rw [a0, a1]
    exact (Cert.QUpIdeal.Value.arr2 m c).symm

/-- The keys' and values' second projection is the reference's. -/
theorem algebraic_KvUp : Cert.algebraic_KvUpIdeal_KvUpRefIdeal := by
  pair_intro
  · run_from Cert.KvUpIdeal.Value.run_blocks m g
  · refine (θ_run Cert.KvUpRefIdeal.defs _ _).mono (fun r h c => ?_) (Cert.KvUpRefIdeal.Value.run m' g')
    obtain ⟨h0, k⟩ := h c
    obtain ⟨a0, a1⟩ := hagree c
    refine ⟨?_, k⟩
    refine (h0.trans (Cert.KvUpRefIdeal.Read.val_main_v2_eq (F := Ideal) _ _)).trans ?_
    rw [a0, a1]
    exact (Cert.KvUpIdeal.Value.arr2 m c).symm

/-- The gradient of the queries' projection's weights is the reference's. -/
theorem algebraic_ProjQDw : Cert.algebraic_ProjQDwIdeal_ProjQDwRefIdeal := by
  pair_intro
  · run_from Cert.ProjQDwIdeal.Value.run_blocks m g
  · refine (θ_run Cert.ProjQDwRefIdeal.defs _ _).mono (fun r h c => ?_) (Cert.ProjQDwRefIdeal.Value.run m' g')
    obtain ⟨h0, k⟩ := h c
    obtain ⟨a0, a1⟩ := hagree c
    refine ⟨?_, k⟩
    refine (h0.trans (Cert.ProjQDwRefIdeal.Read.val_main_v6_eq (F := Ideal) _ _)).trans ?_
    rw [a0, a1]
    exact (Cert.ProjQDwIdeal.Value.arr2 m c).symm

/-- The gradient of the queries' second projection's weights is the reference's. -/
theorem algebraic_QUpDw : Cert.algebraic_QUpDwIdeal_QUpDwRefIdeal := by
  pair_intro
  · run_from Cert.QUpDwIdeal.Value.run_blocks m g
  · refine (θ_run Cert.QUpDwRefIdeal.defs _ _).mono (fun r h c => ?_) (Cert.QUpDwRefIdeal.Value.run m' g')
    obtain ⟨h0, k⟩ := h c
    obtain ⟨a0, a1⟩ := hagree c
    refine ⟨?_, k⟩
    refine (h0.trans (Cert.QUpDwRefIdeal.Read.val_main_v6_eq (F := Ideal) _ _)).trans ?_
    rw [a0, a1]
    exact (Cert.QUpDwIdeal.Value.arr2 m c).symm

/-- The gradient of the keys' and values' second projection's weights is the reference's. -/
theorem algebraic_KvUpDw : Cert.algebraic_KvUpDwIdeal_KvUpDwRefIdeal := by
  pair_intro
  · run_from Cert.KvUpDwIdeal.Value.run_blocks m g
  · refine (θ_run Cert.KvUpDwRefIdeal.defs _ _).mono (fun r h c => ?_) (Cert.KvUpDwRefIdeal.Value.run m' g')
    obtain ⟨h0, k⟩ := h c
    obtain ⟨a0, a1⟩ := hagree c
    refine ⟨?_, k⟩
    refine (h0.trans (Cert.KvUpDwRefIdeal.Read.val_main_v6_eq (F := Ideal) _ _)).trans ?_
    rw [a0, a1]
    exact (Cert.KvUpDwIdeal.Value.arr2 m c).symm

/-- The gradient of the keys' and values' second projection's inputs is the reference's. -/
theorem algebraic_KvUpDx : Cert.algebraic_KvUpDxIdeal_KvUpDxRefIdeal := by
  pair_intro
  · run_from Cert.KvUpDxIdeal.Value.run_blocks m g
  · refine (θ_run Cert.KvUpDxRefIdeal.defs _ _).mono (fun r h c => ?_) (Cert.KvUpDxRefIdeal.Value.run m' g')
    obtain ⟨h0, k⟩ := h c
    obtain ⟨a0, a1⟩ := hagree c
    refine ⟨?_, k⟩
    refine (h0.trans (Cert.KvUpDxRefIdeal.Read.val_main_v4_eq (F := Ideal) _ _)).trans ?_
    rw [a0, a1]
    exact (Cert.KvUpDxIdeal.Value.arr2 m c).symm

/-- The context's projection is the reference's. -/
theorem algebraic_ProjKvCtx : Cert.algebraic_ProjKvCtxIdeal_ProjKvCtxRefIdeal := by
  pair_intro
  · run_from Cert.ProjKvCtxIdeal.Value.run_blocks m g
  · refine (θ_run Cert.ProjKvCtxRefIdeal.defs _ _).mono (fun r h c => ?_) (Cert.ProjKvCtxRefIdeal.Value.run m' g')
    obtain ⟨h0, k⟩ := h c
    obtain ⟨a0, a1⟩ := hagree c
    refine ⟨?_, k⟩
    refine (h0.trans (Cert.ProjKvCtxRefIdeal.Read.val_main_v2_eq (F := Ideal) _ _)).trans ?_
    rw [a0, a1]
    exact (Cert.ProjKvCtxIdeal.Value.arr2 m c).symm

/-- The gradient of the context's projection's inputs is the reference's. -/
theorem algebraic_ProjKvCtxDx : Cert.algebraic_ProjKvCtxDxIdeal_ProjKvCtxDxRefIdeal := by
  pair_intro
  · run_from Cert.ProjKvCtxDxIdeal.Value.run_blocks m g
  · refine (θ_run Cert.ProjKvCtxDxRefIdeal.defs _ _).mono (fun r h c => ?_) (Cert.ProjKvCtxDxRefIdeal.Value.run m' g')
    obtain ⟨h0, k⟩ := h c
    obtain ⟨a0, a1⟩ := hagree c
    refine ⟨?_, k⟩
    refine (h0.trans (Cert.ProjKvCtxDxRefIdeal.Read.val_main_v4_eq (F := Ideal) _ _)).trans ?_
    rw [a0, a1]
    exact (Cert.ProjKvCtxDxIdeal.Value.arr2 m c).symm

/-- The gradient of the keys' and values' projection's weights is the reference's. -/
theorem algebraic_ProjKvDw : Cert.algebraic_ProjKvDwIdeal_ProjKvDwRefIdeal := by
  pair_intro
  · run_from Cert.ProjKvDwIdeal.Value.run_blocks m g
  · refine (θ_run Cert.ProjKvDwRefIdeal.defs _ _).mono (fun r h c => ?_) (Cert.ProjKvDwRefIdeal.Value.run m' g')
    obtain ⟨h0, k⟩ := h c
    obtain ⟨a0, a1, a2, a3⟩ := hagree c
    refine ⟨?_, k⟩
    refine (h0.trans (Cert.ProjKvDwRefIdeal.Read.val_main_v12_eq (F := Ideal) _ _ _ _)).trans ?_
    rw [a0, a1, a2, a3]
    exact (Cert.ProjKvDwIdeal.Value.arr4 m c).symm

/-- The gradient of the queries' low-rank inputs and of their norm's gain is the reference's. -/
theorem algebraic_QUpDx : Cert.algebraic_QUpDxIdeal_QUpDxRefIdeal := by
  pair_intro
  · run_from Cert.QUpDxIdeal.Value.run_blocks m g
  · refine (θ_run Cert.QUpDxRefIdeal.defs _ _).mono (fun r h c => ?_) (Cert.QUpDxRefIdeal.Value.run m' g')
    obtain ⟨h0, h1, k⟩ := h c
    obtain ⟨a0, a1, a2, a3⟩ := hagree c
    refine ⟨?_, ?_, k⟩
    · refine (h0.trans (Cert.QUpDxRefIdeal.Read.val_main_v38_eq (F := Ideal) _ _)).trans ?_
      rw [a0, a1, a2, a3]
      exact (Cert.QUpDxIdeal.Value.arr4 m c).symm
    · refine (h1.trans (Cert.QUpDxRefIdeal.Read.val_main_v40_eq (F := Ideal) _ _ _)).trans ?_
      rw [a0, a1, a2]
      exact (Cert.QUpDxIdeal.Value.arr5 m c).symm

/-- The modulation is the reference's. -/
theorem algebraic_ModFwd : Cert.algebraic_ModFwdIdeal_ModFwdRefIdeal := by
  pair_intro
  · run_from Cert.ModFwdIdeal.Value.run_blocks m g
  · refine (θ_run Cert.ModFwdRefIdeal.defs _ _).mono (fun r h c => ?_) (Cert.ModFwdRefIdeal.Value.run m' g')
    obtain ⟨h0, k⟩ := h c
    obtain ⟨a0, a1, a2⟩ := hagree c
    refine ⟨?_, k⟩
    refine (h0.trans (Cert.ModFwdRefIdeal.Read.val_main_v2_eq (F := Ideal) _ _ _)).trans ?_
    rw [a0, a1, a2]
    exact (Cert.ModFwdIdeal.Value.arr3 m c).symm

/-- The gradient of the modulation's weights is the reference's. -/
theorem algebraic_ModDw : Cert.algebraic_ModDwIdeal_ModDwRefIdeal := by
  pair_intro
  · run_from Cert.ModDwIdeal.Value.run_blocks m g
  · refine (θ_run Cert.ModDwRefIdeal.defs _ _).mono (fun r h c => ?_) (Cert.ModDwRefIdeal.Value.run m' g')
    obtain ⟨h0, k⟩ := h c
    obtain ⟨a0, a1⟩ := hagree c
    refine ⟨?_, k⟩
    refine (h0.trans (Cert.ModDwRefIdeal.Read.val_main_v3_eq (F := Ideal) _ _)).trans ?_
    rw [a0, a1]
    exact (Cert.ModDwIdeal.Value.arr2 m c).symm

/-- The gradient of the activated condition is the reference's. -/
theorem algebraic_ModDx : Cert.algebraic_ModDxIdeal_ModDxRefIdeal := by
  pair_intro
  · run_from Cert.ModDxIdeal.Value.run_blocks m g
  · refine (θ_run Cert.ModDxRefIdeal.defs _ _).mono (fun r h c => ?_) (Cert.ModDxRefIdeal.Value.run m' g')
    obtain ⟨h0, k⟩ := h c
    obtain ⟨a0, a1⟩ := hagree c
    refine ⟨?_, k⟩
    refine (h0.trans (Cert.ModDxRefIdeal.Read.val_main_v2_eq (F := Ideal) _ _)).trans ?_
    rw [a0, a1]
    exact (Cert.ModDxIdeal.Value.arr2 m c).symm

/-- The reference terminates and leaves its arguments; it declares no semaphore. -/
theorem frame_ref : Cert.quiescent_ReferenceIdeal := fun m ρ _ =>
  (θ_run Cert.ReferenceIdeal.defs _ _).mono (fun r h => ⟨fun c => (h c).2.2.2,
    Idealize.ShloMosaic.sem_eq_zero_of_no_sems (by decide) r.2⟩) (Cert.ReferenceIdeal.Value.run m ρ)

theorem frame_OutDx : Cert.quiescent_OutDxRefIdeal := fun m ρ _ =>
  (θ_run Cert.OutDxRefIdeal.defs _ _).mono (fun r h => ⟨fun c => (h c).2.2,
    Idealize.ShloMosaic.sem_eq_zero_of_no_sems (by decide) r.2⟩) (Cert.OutDxRefIdeal.Value.run m ρ)

theorem frame_OutDw : Cert.quiescent_OutDwRefIdeal := fun m ρ _ =>
  (θ_run Cert.OutDwRefIdeal.defs _ _).mono (fun r h => ⟨fun c => (h c).2,
    Idealize.ShloMosaic.sem_eq_zero_of_no_sems (by decide) r.2⟩) (Cert.OutDwRefIdeal.Value.run m ρ)

theorem frame_InDx : Cert.quiescent_InDxRefIdeal := fun m ρ _ =>
  (θ_run Cert.InDxRefIdeal.defs _ _).mono (fun r h => ⟨fun c => (h c).2,
    Idealize.ShloMosaic.sem_eq_zero_of_no_sems (by decide) r.2⟩) (Cert.InDxRefIdeal.Value.run m ρ)

theorem frame_InDw : Cert.quiescent_InDwRefIdeal := fun m ρ _ =>
  (θ_run Cert.InDwRefIdeal.defs _ _).mono (fun r h => ⟨fun c => (h c).2,
    Idealize.ShloMosaic.sem_eq_zero_of_no_sems (by decide) r.2⟩) (Cert.InDwRefIdeal.Value.run m ρ)

theorem frame_InDwA : Cert.quiescent_InDwARefIdeal := fun m ρ _ =>
  (θ_run Cert.InDwARefIdeal.defs _ _).mono (fun r h => ⟨fun c => (h c).2,
    Idealize.ShloMosaic.sem_eq_zero_of_no_sems (by decide) r.2⟩) (Cert.InDwARefIdeal.Value.run m ρ)

theorem frame_FfnIn : Cert.quiescent_FfnInRefIdeal := fun m ρ _ =>
  (θ_run Cert.FfnInRefIdeal.defs _ _).mono (fun r h => ⟨fun c => (h c).2.2.2,
    Idealize.ShloMosaic.sem_eq_zero_of_no_sems (by decide) r.2⟩) (Cert.FfnInRefIdeal.Value.run m ρ)

theorem frame_OutProj : Cert.quiescent_OutProjRefIdeal := fun m ρ _ =>
  (θ_run Cert.OutProjRefIdeal.defs _ _).mono (fun r h => ⟨fun c => (h c).2.2,
    Idealize.ShloMosaic.sem_eq_zero_of_no_sems (by decide) r.2⟩) (Cert.OutProjRefIdeal.Value.run m ρ)

theorem frame_MergeDx : Cert.quiescent_MergeDxRefIdeal := fun m ρ _ =>
  (θ_run Cert.MergeDxRefIdeal.defs _ _).mono (fun r h => ⟨fun c => (h c).2.2.2.2,
    Idealize.ShloMosaic.sem_eq_zero_of_no_sems (by decide) r.2⟩) (Cert.MergeDxRefIdeal.Value.run m ρ)

theorem frame_MergeDw : Cert.quiescent_MergeDwRefIdeal := fun m ρ _ =>
  (θ_run Cert.MergeDwRefIdeal.defs _ _).mono (fun r h => ⟨fun c => (h c).2,
    Idealize.ShloMosaic.sem_eq_zero_of_no_sems (by decide) r.2⟩) (Cert.MergeDwRefIdeal.Value.run m ρ)

theorem frame_BrAttn : Cert.quiescent_BrAttnRefIdeal := fun m ρ _ =>
  (θ_run Cert.BrAttnRefIdeal.defs _ _).mono (fun r h => ⟨fun c => (h c).2,
    Idealize.ShloMosaic.sem_eq_zero_of_no_sems (by decide) r.2⟩) (Cert.BrAttnRefIdeal.Value.run m ρ)

theorem frame_BrSgu : Cert.quiescent_BrSguRefIdeal := fun m ρ _ =>
  (θ_run Cert.BrSguRefIdeal.defs _ _).mono (fun r h => ⟨fun c => (h c).2.2,
    Idealize.ShloMosaic.sem_eq_zero_of_no_sems (by decide) r.2⟩) (Cert.BrSguRefIdeal.Value.run m ρ)

theorem frame_BrDx : Cert.quiescent_BrDxRefIdeal := fun m ρ _ =>
  (θ_run Cert.BrDxRefIdeal.defs _ _).mono (fun r h => ⟨fun c => (h c).2,
    Idealize.ShloMosaic.sem_eq_zero_of_no_sems (by decide) r.2⟩) (Cert.BrDxRefIdeal.Value.run m ρ)

theorem frame_BrDw : Cert.quiescent_BrDwRefIdeal := fun m ρ _ =>
  (θ_run Cert.BrDwRefIdeal.defs _ _).mono (fun r h => ⟨fun c => (h c).2,
    Idealize.ShloMosaic.sem_eq_zero_of_no_sems (by decide) r.2⟩) (Cert.BrDwRefIdeal.Value.run m ρ)

theorem frame_Gates : Cert.quiescent_GatesRefIdeal := fun m ρ _ =>
  (θ_run Cert.GatesRefIdeal.defs _ _).mono (fun r h => ⟨fun c => (h c).2.2,
    Idealize.ShloMosaic.sem_eq_zero_of_no_sems (by decide) r.2⟩) (Cert.GatesRefIdeal.Value.run m ρ)

theorem frame_Uv : Cert.quiescent_UvRefIdeal := fun m ρ _ =>
  (θ_run Cert.UvRefIdeal.defs _ _).mono (fun r h => ⟨fun c => (h c).2.2,
    Idealize.ShloMosaic.sem_eq_zero_of_no_sems (by decide) r.2⟩) (Cert.UvRefIdeal.Value.run m ρ)

theorem frame_GatesDw : Cert.quiescent_GatesDwRefIdeal := fun m ρ _ =>
  (θ_run Cert.GatesDwRefIdeal.defs _ _).mono (fun r h => ⟨fun c => (h c).2.2,
    Idealize.ShloMosaic.sem_eq_zero_of_no_sems (by decide) r.2⟩) (Cert.GatesDwRefIdeal.Value.run m ρ)

theorem frame_UvDw : Cert.quiescent_UvDwRefIdeal := fun m ρ _ =>
  (θ_run Cert.UvDwRefIdeal.defs _ _).mono (fun r h => ⟨fun c => (h c).2.2,
    Idealize.ShloMosaic.sem_eq_zero_of_no_sems (by decide) r.2⟩) (Cert.UvDwRefIdeal.Value.run m ρ)

theorem frame_ProjDx : Cert.quiescent_ProjDxRefIdeal := fun m ρ _ =>
  (θ_run Cert.ProjDxRefIdeal.defs _ _).mono (fun r h => ⟨fun c => (h c).2,
    Idealize.ShloMosaic.sem_eq_zero_of_no_sems (by decide) r.2⟩) (Cert.ProjDxRefIdeal.Value.run m ρ)

theorem frame_AttnFwd : Cert.quiescent_AttnFwdRefIdeal := fun m ρ _ =>
  (θ_run Cert.AttnFwdRefIdeal.defs _ _).mono (fun r h => ⟨fun c => (h c).2.2,
    Idealize.ShloMosaic.sem_eq_zero_of_no_sems (by decide) r.2⟩) (Cert.AttnFwdRefIdeal.Value.run m ρ)

theorem frame_FfnOut : Cert.quiescent_FfnOutRefIdeal := fun m ρ _ =>
  (θ_run Cert.FfnOutRefIdeal.defs _ _).mono (fun r h => ⟨fun c => (h c).2.2.2.2,
    Idealize.ShloMosaic.sem_eq_zero_of_no_sems (by decide) r.2⟩) (Cert.FfnOutRefIdeal.Value.run m ρ)

theorem frame_ProjQ : Cert.quiescent_ProjQRefIdeal := fun m ρ _ =>
  (θ_run Cert.ProjQRefIdeal.defs _ _).mono (fun r h => ⟨fun c => (h c).2.2,
    Idealize.ShloMosaic.sem_eq_zero_of_no_sems (by decide) r.2⟩) (Cert.ProjQRefIdeal.Value.run m ρ)

theorem frame_ProjKv : Cert.quiescent_ProjKvRefIdeal := fun m ρ _ =>
  (θ_run Cert.ProjKvRefIdeal.defs _ _).mono (fun r h => ⟨fun c => (h c).2,
    Idealize.ShloMosaic.sem_eq_zero_of_no_sems (by decide) r.2⟩) (Cert.ProjKvRefIdeal.Value.run m ρ)

theorem frame_QUp : Cert.quiescent_QUpRefIdeal := fun m ρ _ =>
  (θ_run Cert.QUpRefIdeal.defs _ _).mono (fun r h => ⟨fun c => (h c).2,
    Idealize.ShloMosaic.sem_eq_zero_of_no_sems (by decide) r.2⟩) (Cert.QUpRefIdeal.Value.run m ρ)

theorem frame_KvUp : Cert.quiescent_KvUpRefIdeal := fun m ρ _ =>
  (θ_run Cert.KvUpRefIdeal.defs _ _).mono (fun r h => ⟨fun c => (h c).2,
    Idealize.ShloMosaic.sem_eq_zero_of_no_sems (by decide) r.2⟩) (Cert.KvUpRefIdeal.Value.run m ρ)

theorem frame_ProjQDw : Cert.quiescent_ProjQDwRefIdeal := fun m ρ _ =>
  (θ_run Cert.ProjQDwRefIdeal.defs _ _).mono (fun r h => ⟨fun c => (h c).2,
    Idealize.ShloMosaic.sem_eq_zero_of_no_sems (by decide) r.2⟩) (Cert.ProjQDwRefIdeal.Value.run m ρ)

theorem frame_QUpDw : Cert.quiescent_QUpDwRefIdeal := fun m ρ _ =>
  (θ_run Cert.QUpDwRefIdeal.defs _ _).mono (fun r h => ⟨fun c => (h c).2,
    Idealize.ShloMosaic.sem_eq_zero_of_no_sems (by decide) r.2⟩) (Cert.QUpDwRefIdeal.Value.run m ρ)

theorem frame_KvUpDw : Cert.quiescent_KvUpDwRefIdeal := fun m ρ _ =>
  (θ_run Cert.KvUpDwRefIdeal.defs _ _).mono (fun r h => ⟨fun c => (h c).2,
    Idealize.ShloMosaic.sem_eq_zero_of_no_sems (by decide) r.2⟩) (Cert.KvUpDwRefIdeal.Value.run m ρ)

theorem frame_KvUpDx : Cert.quiescent_KvUpDxRefIdeal := fun m ρ _ =>
  (θ_run Cert.KvUpDxRefIdeal.defs _ _).mono (fun r h => ⟨fun c => (h c).2,
    Idealize.ShloMosaic.sem_eq_zero_of_no_sems (by decide) r.2⟩) (Cert.KvUpDxRefIdeal.Value.run m ρ)

theorem frame_ProjKvCtx : Cert.quiescent_ProjKvCtxRefIdeal := fun m ρ _ =>
  (θ_run Cert.ProjKvCtxRefIdeal.defs _ _).mono (fun r h => ⟨fun c => (h c).2,
    Idealize.ShloMosaic.sem_eq_zero_of_no_sems (by decide) r.2⟩) (Cert.ProjKvCtxRefIdeal.Value.run m ρ)

theorem frame_ProjKvCtxDx : Cert.quiescent_ProjKvCtxDxRefIdeal := fun m ρ _ =>
  (θ_run Cert.ProjKvCtxDxRefIdeal.defs _ _).mono (fun r h => ⟨fun c => (h c).2,
    Idealize.ShloMosaic.sem_eq_zero_of_no_sems (by decide) r.2⟩) (Cert.ProjKvCtxDxRefIdeal.Value.run m ρ)

theorem frame_ProjKvDw : Cert.quiescent_ProjKvDwRefIdeal := fun m ρ _ =>
  (θ_run Cert.ProjKvDwRefIdeal.defs _ _).mono (fun r h => ⟨fun c => (h c).2,
    Idealize.ShloMosaic.sem_eq_zero_of_no_sems (by decide) r.2⟩) (Cert.ProjKvDwRefIdeal.Value.run m ρ)

theorem frame_QUpDx : Cert.quiescent_QUpDxRefIdeal := fun m ρ _ =>
  (θ_run Cert.QUpDxRefIdeal.defs _ _).mono (fun r h => ⟨fun c => (h c).2.2,
    Idealize.ShloMosaic.sem_eq_zero_of_no_sems (by decide) r.2⟩) (Cert.QUpDxRefIdeal.Value.run m ρ)

theorem frame_ModFwd : Cert.quiescent_ModFwdRefIdeal := fun m ρ _ =>
  (θ_run Cert.ModFwdRefIdeal.defs _ _).mono (fun r h => ⟨fun c => (h c).2,
    Idealize.ShloMosaic.sem_eq_zero_of_no_sems (by decide) r.2⟩) (Cert.ModFwdRefIdeal.Value.run m ρ)

theorem frame_ModDw : Cert.quiescent_ModDwRefIdeal := fun m ρ _ =>
  (θ_run Cert.ModDwRefIdeal.defs _ _).mono (fun r h => ⟨fun c => (h c).2,
    Idealize.ShloMosaic.sem_eq_zero_of_no_sems (by decide) r.2⟩) (Cert.ModDwRefIdeal.Value.run m ρ)

theorem frame_ModDx : Cert.quiescent_ModDxRefIdeal := fun m ρ _ =>
  (θ_run Cert.ModDxRefIdeal.defs _ _).mono (fun r h => ⟨fun c => (h c).2,
    Idealize.ShloMosaic.sem_eq_zero_of_no_sems (by decide) r.2⟩) (Cert.ModDxRefIdeal.Value.run m ρ)

theorem claim : Cert.Claim := ⟨Cert.Kernel.Gen.facts, Cert.KernelIdeal.Gen.facts, Cert.ReferenceIdeal.Gen.facts, Cert.OutDx.Gen.facts, Cert.OutDxIdeal.Gen.facts, Cert.OutDxRefIdeal.Gen.facts, Cert.OutDw.Gen.facts, Cert.OutDwIdeal.Gen.facts, Cert.OutDwRefIdeal.Gen.facts, Cert.InDx.Gen.facts, Cert.InDxIdeal.Gen.facts, Cert.InDxRefIdeal.Gen.facts, Cert.InDw.Gen.facts, Cert.InDwIdeal.Gen.facts, Cert.InDwRefIdeal.Gen.facts, Cert.InDwA.Gen.facts, Cert.InDwAIdeal.Gen.facts, Cert.InDwARefIdeal.Gen.facts, Cert.FfnIn.Gen.facts, Cert.FfnInIdeal.Gen.facts, Cert.FfnInRefIdeal.Gen.facts, Cert.OutProj.Gen.facts, Cert.OutProjIdeal.Gen.facts, Cert.OutProjRefIdeal.Gen.facts, Cert.MergeDx.Gen.facts, Cert.MergeDxIdeal.Gen.facts, Cert.MergeDxRefIdeal.Gen.facts, Cert.MergeDw.Gen.facts, Cert.MergeDwIdeal.Gen.facts, Cert.MergeDwRefIdeal.Gen.facts, Cert.BrAttn.Gen.facts, Cert.BrAttnIdeal.Gen.facts, Cert.BrAttnRefIdeal.Gen.facts, Cert.BrSgu.Gen.facts, Cert.BrSguIdeal.Gen.facts, Cert.BrSguRefIdeal.Gen.facts, Cert.BrDx.Gen.facts, Cert.BrDxIdeal.Gen.facts, Cert.BrDxRefIdeal.Gen.facts, Cert.BrDw.Gen.facts, Cert.BrDwIdeal.Gen.facts, Cert.BrDwRefIdeal.Gen.facts, Cert.Gates.Gen.facts, Cert.GatesIdeal.Gen.facts, Cert.GatesRefIdeal.Gen.facts, Cert.Uv.Gen.facts, Cert.UvIdeal.Gen.facts, Cert.UvRefIdeal.Gen.facts, Cert.GatesDw.Gen.facts, Cert.GatesDwIdeal.Gen.facts, Cert.GatesDwRefIdeal.Gen.facts, Cert.UvDw.Gen.facts, Cert.UvDwIdeal.Gen.facts, Cert.UvDwRefIdeal.Gen.facts, Cert.ProjDx.Gen.facts, Cert.ProjDxIdeal.Gen.facts, Cert.ProjDxRefIdeal.Gen.facts, Cert.AttnFwd.Gen.facts, Cert.AttnFwdIdeal.Gen.facts, Cert.AttnFwdRefIdeal.Gen.facts, Cert.FfnOut.Gen.facts, Cert.FfnOutIdeal.Gen.facts, Cert.FfnOutRefIdeal.Gen.facts, Cert.ProjQ.Gen.facts, Cert.ProjQIdeal.Gen.facts, Cert.ProjQRefIdeal.Gen.facts, Cert.ProjKv.Gen.facts, Cert.ProjKvIdeal.Gen.facts, Cert.ProjKvRefIdeal.Gen.facts, Cert.QUp.Gen.facts, Cert.QUpIdeal.Gen.facts, Cert.QUpRefIdeal.Gen.facts, Cert.KvUp.Gen.facts, Cert.KvUpIdeal.Gen.facts, Cert.KvUpRefIdeal.Gen.facts, Cert.ProjQDw.Gen.facts, Cert.ProjQDwIdeal.Gen.facts, Cert.ProjQDwRefIdeal.Gen.facts, Cert.QUpDw.Gen.facts, Cert.QUpDwIdeal.Gen.facts, Cert.QUpDwRefIdeal.Gen.facts, Cert.KvUpDw.Gen.facts, Cert.KvUpDwIdeal.Gen.facts, Cert.KvUpDwRefIdeal.Gen.facts, Cert.KvUpDx.Gen.facts, Cert.KvUpDxIdeal.Gen.facts, Cert.KvUpDxRefIdeal.Gen.facts, Cert.ProjKvCtx.Gen.facts, Cert.ProjKvCtxIdeal.Gen.facts, Cert.ProjKvCtxRefIdeal.Gen.facts, Cert.ProjKvCtxDx.Gen.facts, Cert.ProjKvCtxDxIdeal.Gen.facts, Cert.ProjKvCtxDxRefIdeal.Gen.facts, Cert.ProjKvDw.Gen.facts, Cert.ProjKvDwIdeal.Gen.facts, Cert.ProjKvDwRefIdeal.Gen.facts, Cert.QUpDx.Gen.facts, Cert.QUpDxIdeal.Gen.facts, Cert.QUpDxRefIdeal.Gen.facts, Cert.ModFwd.Gen.facts, Cert.ModFwdIdeal.Gen.facts, Cert.ModFwdRefIdeal.Gen.facts, Cert.ModDw.Gen.facts, Cert.ModDwIdeal.Gen.facts, Cert.ModDwRefIdeal.Gen.facts, Cert.ModDx.Gen.facts, Cert.ModDxIdeal.Gen.facts, Cert.ModDxRefIdeal.Gen.facts, Cert.Pre_finite.Gen.facts, Cert.Pre_ffn_out_dx_finite.Gen.facts, Cert.Pre_attn_fwd_finite.Gen.facts,
  Cert.Frames.Kernel, fun m ρ _ => Cert.KernelIdeal.Gen.frame m ρ, fun m ρ _ => Cert.KernelIdeal.Gen.frame m ρ,
  frame_ref, fun m ρ _ => frame_ref m ρ trivial,
  Cert.Frames.OutDx, fun m ρ _ => Cert.OutDxIdeal.Gen.frame m ρ, fun m ρ _ => Cert.OutDxIdeal.Gen.frame m ρ,
  frame_OutDx, fun m ρ _ => frame_OutDx m ρ trivial,
  Cert.Frames.OutDw, fun m ρ _ => Cert.OutDwIdeal.Gen.frame m ρ, frame_OutDw,
  Cert.Frames.InDx, fun m ρ _ => Cert.InDxIdeal.Gen.frame m ρ, frame_InDx,
  Cert.Frames.InDw, fun m ρ _ => Cert.InDwIdeal.Gen.frame m ρ, frame_InDw,
  Cert.Frames.InDwA, fun m ρ _ => Cert.InDwAIdeal.Gen.frame m ρ, frame_InDwA,
  Cert.Frames.FfnIn, fun m ρ _ => Cert.FfnInIdeal.Gen.frame m ρ, frame_FfnIn,
  Cert.Frames.OutProj, fun m ρ _ => Cert.OutProjIdeal.Gen.frame m ρ, frame_OutProj,
  Cert.Frames.MergeDx, fun m ρ _ => Cert.MergeDxIdeal.Gen.frame m ρ, frame_MergeDx,
  Cert.Frames.MergeDw, fun m ρ _ => Cert.MergeDwIdeal.Gen.frame m ρ, frame_MergeDw,
  Cert.Frames.BrAttn, fun m ρ _ => Cert.BrAttnIdeal.Gen.frame m ρ, frame_BrAttn,
  Cert.Frames.BrSgu, fun m ρ _ => Cert.BrSguIdeal.Gen.frame m ρ, frame_BrSgu,
  Cert.Frames.BrDx, fun m ρ _ => Cert.BrDxIdeal.Gen.frame m ρ, frame_BrDx,
  Cert.Frames.BrDw, fun m ρ _ => Cert.BrDwIdeal.Gen.frame m ρ, frame_BrDw,
  Cert.Frames.Gates, fun m ρ _ => Cert.GatesIdeal.Gen.frame m ρ, frame_Gates,
  Cert.Frames.Uv, fun m ρ _ => Cert.UvIdeal.Gen.frame m ρ, frame_Uv,
  Cert.Frames.GatesDw, fun m ρ _ => Cert.GatesDwIdeal.Gen.frame m ρ, frame_GatesDw,
  Cert.Frames.UvDw, fun m ρ _ => Cert.UvDwIdeal.Gen.frame m ρ, frame_UvDw,
  Cert.Frames.ProjDx, fun m ρ _ => Cert.ProjDxIdeal.Gen.frame m ρ, frame_ProjDx,
  Cert.Frames.AttnFwd, fun m ρ _ => Cert.AttnFwdIdeal.Gen.frame m ρ, fun m ρ _ => Cert.AttnFwdIdeal.Gen.frame m ρ,
  frame_AttnFwd, fun m ρ _ => frame_AttnFwd m ρ trivial,
  Cert.Frames.FfnOut, fun m ρ _ => Cert.FfnOutIdeal.Gen.frame m ρ, frame_FfnOut,
  Cert.Frames.ProjQ, fun m ρ _ => Cert.ProjQIdeal.Gen.frame m ρ, frame_ProjQ,
  Cert.Frames.ProjKv, fun m ρ _ => Cert.ProjKvIdeal.Gen.frame m ρ, frame_ProjKv,
  Cert.Frames.QUp, fun m ρ _ => Cert.QUpIdeal.Gen.frame m ρ, frame_QUp,
  Cert.Frames.KvUp, fun m ρ _ => Cert.KvUpIdeal.Gen.frame m ρ, frame_KvUp,
  Cert.Frames.ProjQDw, fun m ρ _ => Cert.ProjQDwIdeal.Gen.frame m ρ, frame_ProjQDw,
  Cert.Frames.QUpDw, fun m ρ _ => Cert.QUpDwIdeal.Gen.frame m ρ, frame_QUpDw,
  Cert.Frames.KvUpDw, fun m ρ _ => Cert.KvUpDwIdeal.Gen.frame m ρ, frame_KvUpDw,
  Cert.Frames.KvUpDx, fun m ρ _ => Cert.KvUpDxIdeal.Gen.frame m ρ, frame_KvUpDx,
  Cert.Frames.ProjKvCtx, fun m ρ _ => Cert.ProjKvCtxIdeal.Gen.frame m ρ, frame_ProjKvCtx,
  Cert.Frames.ProjKvCtxDx, fun m ρ _ => Cert.ProjKvCtxDxIdeal.Gen.frame m ρ, frame_ProjKvCtxDx,
  Cert.Frames.ProjKvDw, fun m ρ _ => Cert.ProjKvDwIdeal.Gen.frame m ρ, frame_ProjKvDw,
  Cert.Frames.QUpDx, fun m ρ _ => Cert.QUpDxIdeal.Gen.frame m ρ, frame_QUpDx,
  Cert.Frames.ModFwd, fun m ρ _ => Cert.ModFwdIdeal.Gen.frame m ρ, frame_ModFwd,
  Cert.Frames.ModDw, fun m ρ _ => Cert.ModDwIdeal.Gen.frame m ρ, frame_ModDw,
  Cert.Frames.ModDx, fun m ρ _ => Cert.ModDxIdeal.Gen.frame m ρ, frame_ModDx,
  trivial, algebraic_attn, trivial, algebraic_OutDx, trivial, algebraic_OutDw, trivial, algebraic_InDx, trivial, algebraic_InDw,
  trivial, algebraic_InDwA,
  trivial, algebraic_FfnIn,
  trivial, algebraic_OutProj,
  trivial, algebraic_MergeDx,
  trivial, algebraic_MergeDw,
  trivial, algebraic_BrAttn,
  trivial, algebraic_BrSgu,
  trivial, algebraic_BrDx,
  trivial, algebraic_BrDw,
  trivial, algebraic_Gates,
  trivial, algebraic_Uv,
  trivial, algebraic_GatesDw,
  trivial, algebraic_UvDw,
  trivial, algebraic_ProjDx,
  trivial, algebraic_AttnFwd,
  trivial, algebraic_FfnOut,
  trivial, algebraic_ProjQ,
  trivial, algebraic_ProjKv,
  trivial, algebraic_QUp,
  trivial, algebraic_KvUp,
  trivial, algebraic_ProjQDw,
  trivial, algebraic_QUpDw,
  trivial, algebraic_KvUpDw,
  trivial, algebraic_KvUpDx,
  trivial, algebraic_ProjKvCtx,
  trivial, algebraic_ProjKvCtxDx,
  trivial, algebraic_ProjKvDw,
  trivial, algebraic_QUpDx,
  trivial, algebraic_ModFwd,
  trivial, algebraic_ModDw,
  trivial, algebraic_ModDx⟩

end Cert.Proof

end
